-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_SgInDw (m : (ℓ : Loc Cert.SgInDw.nD Cert.SgInDw.τ Cert.SgInDw.sig) → Buf (Elt Bits) ℓ) : Prop :=
  True

def Pre_SgInDwIdeal (m : (ℓ : Loc Cert.SgInDwIdeal.nD Cert.SgInDwIdeal.τ Cert.SgInDwIdeal.sig) → Buf (Elt Ideal) ℓ) : Prop :=
  True

def Pre_SgInDwRefIdeal (m : (ℓ : Loc Cert.SgInDwRefIdeal.nD Cert.SgInDwRefIdeal.τ Cert.SgInDwRefIdeal.sig) → Buf (Elt Ideal) ℓ) : Prop :=
  True

def Pre_SgInDx (m : (ℓ : Loc Cert.SgInDx.nD Cert.SgInDx.τ Cert.SgInDx.sig) → Buf (Elt Bits) ℓ) : Prop :=
  True

def Pre_SgInDxIdeal (m : (ℓ : Loc Cert.SgInDxIdeal.nD Cert.SgInDxIdeal.τ Cert.SgInDxIdeal.sig) → Buf (Elt Ideal) ℓ) : Prop :=
  True

def Pre_SgInDxRefIdeal (m : (ℓ : Loc Cert.SgInDxRefIdeal.nD Cert.SgInDxRefIdeal.τ Cert.SgInDxRefIdeal.sig) → Buf (Elt Ideal) ℓ) : Prop :=
  True

def Pre_RwInDw (m : (ℓ : Loc Cert.RwInDw.nD Cert.RwInDw.τ Cert.RwInDw.sig) → Buf (Elt Bits) ℓ) : Prop :=
  True

def Pre_RwInDwIdeal (m : (ℓ : Loc Cert.RwInDwIdeal.nD Cert.RwInDwIdeal.τ Cert.RwInDwIdeal.sig) → Buf (Elt Ideal) ℓ) : Prop :=
  True

def Pre_RwInDwRefIdeal (m : (ℓ : Loc Cert.RwInDwRefIdeal.nD Cert.RwInDwRefIdeal.τ Cert.RwInDwRefIdeal.sig) → Buf (Elt Ideal) ℓ) : Prop :=
  True

def Pre_RwInDx (m : (ℓ : Loc Cert.RwInDx.nD Cert.RwInDx.τ Cert.RwInDx.sig) → Buf (Elt Bits) ℓ) : Prop :=
  True

def Pre_RwInDxIdeal (m : (ℓ : Loc Cert.RwInDxIdeal.nD Cert.RwInDxIdeal.τ Cert.RwInDxIdeal.sig) → Buf (Elt Ideal) ℓ) : Prop :=
  True

def Pre_RwInDxRefIdeal (m : (ℓ : Loc Cert.RwInDxRefIdeal.nD Cert.RwInDxRefIdeal.τ Cert.RwInDxRefIdeal.sig) → Buf (Elt Ideal) ℓ) : Prop :=
  True

def Pre_SgIn (m : (ℓ : Loc Cert.SgIn.nD Cert.SgIn.τ Cert.SgIn.sig) → Buf (Elt Bits) ℓ) : Prop :=
  True

def Pre_SgInIdeal (m : (ℓ : Loc Cert.SgInIdeal.nD Cert.SgInIdeal.τ Cert.SgInIdeal.sig) → Buf (Elt Ideal) ℓ) : Prop :=
  True

def Pre_SgInRefIdeal (m : (ℓ : Loc Cert.SgInRefIdeal.nD Cert.SgInRefIdeal.τ Cert.SgInRefIdeal.sig) → Buf (Elt Ideal) ℓ) : Prop :=
  True

def Pre_RwIn (m : (ℓ : Loc Cert.RwIn.nD Cert.RwIn.τ Cert.RwIn.sig) → Buf (Elt Bits) ℓ) : Prop :=
  True

def Pre_RwInIdeal (m : (ℓ : Loc Cert.RwInIdeal.nD Cert.RwInIdeal.τ Cert.RwInIdeal.sig) → Buf (Elt Ideal) ℓ) : Prop :=
  True

def Pre_RwInRefIdeal (m : (ℓ : Loc Cert.RwInRefIdeal.nD Cert.RwInRefIdeal.τ Cert.RwInRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_NormBwdFirst (m : (ℓ : Loc Cert.NormBwdFirst.nD Cert.NormBwdFirst.τ Cert.NormBwdFirst.sig) → Buf (Elt Bits) ℓ) : Prop :=
  True

def Pre_NormBwdFirstIdeal (m : (ℓ : Loc Cert.NormBwdFirstIdeal.nD Cert.NormBwdFirstIdeal.τ Cert.NormBwdFirstIdeal.sig) → Buf (Elt Ideal) ℓ) : Prop :=
  True

def Pre_NormBwdFirstRefIdeal (m : (ℓ : Loc Cert.NormBwdFirstRefIdeal.nD Cert.NormBwdFirstRefIdeal.τ Cert.NormBwdFirstRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_RwGateBwd (m : (ℓ : Loc Cert.RwGateBwd.nD Cert.RwGateBwd.τ Cert.RwGateBwd.sig) → Buf (Elt Bits) ℓ) : Prop :=
  True

def Pre_RwGateBwdIdeal (m : (ℓ : Loc Cert.RwGateBwdIdeal.nD Cert.RwGateBwdIdeal.τ Cert.RwGateBwdIdeal.sig) → Buf (Elt Ideal) ℓ) : Prop :=
  True

def Pre_RwGateBwdRefIdeal (m : (ℓ : Loc Cert.RwGateBwdRefIdeal.nD Cert.RwGateBwdRefIdeal.τ Cert.RwGateBwdRefIdeal.sig) → Buf (Elt Ideal) ℓ) : Prop :=
  True

def Pre_SwaGateBwd (m : (ℓ : Loc Cert.SwaGateBwd.nD Cert.SwaGateBwd.τ Cert.SwaGateBwd.sig) → Buf (Elt Bits) ℓ) : Prop :=
  True

def Pre_SwaGateBwdIdeal (m : (ℓ : Loc Cert.SwaGateBwdIdeal.nD Cert.SwaGateBwdIdeal.τ Cert.SwaGateBwdIdeal.sig) → Buf (Elt Ideal) ℓ) : Prop :=
  True

def Pre_SwaGateBwdRefIdeal (m : (ℓ : Loc Cert.SwaGateBwdRefIdeal.nD Cert.SwaGateBwdRefIdeal.τ Cert.SwaGateBwdRefIdeal.sig) → Buf (Elt Ideal) ℓ) : Prop :=
  True

def Pre_LoraBwd (m : (ℓ : Loc Cert.LoraBwd.nD Cert.LoraBwd.τ Cert.LoraBwd.sig) → Buf (Elt Bits) ℓ) : Prop :=
  True

def Pre_LoraBwdIdeal (m : (ℓ : Loc Cert.LoraBwdIdeal.nD Cert.LoraBwdIdeal.τ Cert.LoraBwdIdeal.sig) → Buf (Elt Ideal) ℓ) : Prop :=
  True

def Pre_LoraBwdRefIdeal (m : (ℓ : Loc Cert.LoraBwdRefIdeal.nD Cert.LoraBwdRefIdeal.τ Cert.LoraBwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_RwGate (m : (ℓ : Loc Cert.RwGate.nD Cert.RwGate.τ Cert.RwGate.sig) → Buf (Elt Bits) ℓ) : Prop :=
  True

def Pre_RwGateIdeal (m : (ℓ : Loc Cert.RwGateIdeal.nD Cert.RwGateIdeal.τ Cert.RwGateIdeal.sig) → Buf (Elt Ideal) ℓ) : Prop :=
  True

def Pre_RwGateRefIdeal (m : (ℓ : Loc Cert.RwGateRefIdeal.nD Cert.RwGateRefIdeal.τ Cert.RwGateRefIdeal.sig) → Buf (Elt Ideal) ℓ) : Prop :=
  True

def Pre_SwaGate (m : (ℓ : Loc Cert.SwaGate.nD Cert.SwaGate.τ Cert.SwaGate.sig) → Buf (Elt Bits) ℓ) : Prop :=
  True

def Pre_SwaGateIdeal (m : (ℓ : Loc Cert.SwaGateIdeal.nD Cert.SwaGateIdeal.τ Cert.SwaGateIdeal.sig) → Buf (Elt Ideal) ℓ) : Prop :=
  True

def Pre_SwaGateRefIdeal (m : (ℓ : Loc Cert.SwaGateRefIdeal.nD Cert.SwaGateRefIdeal.τ Cert.SwaGateRefIdeal.sig) → Buf (Elt Ideal) ℓ) : Prop :=
  True

def Pre_Lora (m : (ℓ : Loc Cert.Lora.nD Cert.Lora.τ Cert.Lora.sig) → Buf (Elt Bits) ℓ) : Prop :=
  True

def Pre_LoraIdeal (m : (ℓ : Loc Cert.LoraIdeal.nD Cert.LoraIdeal.τ Cert.LoraIdeal.sig) → Buf (Elt Ideal) ℓ) : Prop :=
  True

def Pre_LoraRefIdeal (m : (ℓ : Loc Cert.LoraRefIdeal.nD Cert.LoraRefIdeal.τ Cert.LoraRefIdeal.sig) → Buf (Elt Ideal) ℓ) : Prop :=
  True

def Pre_RwInlDw (m : (ℓ : Loc Cert.RwInlDw.nD Cert.RwInlDw.τ Cert.RwInlDw.sig) → Buf (Elt Bits) ℓ) : Prop :=
  True

def Pre_RwInlDwIdeal (m : (ℓ : Loc Cert.RwInlDwIdeal.nD Cert.RwInlDwIdeal.τ Cert.RwInlDwIdeal.sig) → Buf (Elt Ideal) ℓ) : Prop :=
  True

def Pre_RwInlDwRefIdeal (m : (ℓ : Loc Cert.RwInlDwRefIdeal.nD Cert.RwInlDwRefIdeal.τ Cert.RwInlDwRefIdeal.sig) → Buf (Elt Ideal) ℓ) : Prop :=
  True

def Pre_RwInlDx (m : (ℓ : Loc Cert.RwInlDx.nD Cert.RwInlDx.τ Cert.RwInlDx.sig) → Buf (Elt Bits) ℓ) : Prop :=
  True

def Pre_RwInlDxIdeal (m : (ℓ : Loc Cert.RwInlDxIdeal.nD Cert.RwInlDxIdeal.τ Cert.RwInlDxIdeal.sig) → Buf (Elt Ideal) ℓ) : Prop :=
  True

def Pre_RwInlDxRefIdeal (m : (ℓ : Loc Cert.RwInlDxRefIdeal.nD Cert.RwInlDxRefIdeal.τ Cert.RwInlDxRefIdeal.sig) → Buf (Elt Ideal) ℓ) : Prop :=
  True

def Pre_RwInl (m : (ℓ : Loc Cert.RwInl.nD Cert.RwInl.τ Cert.RwInl.sig) → Buf (Elt Bits) ℓ) : Prop :=
  True

def Pre_RwInlIdeal (m : (ℓ : Loc Cert.RwInlIdeal.nD Cert.RwInlIdeal.τ Cert.RwInlIdeal.sig) → Buf (Elt Ideal) ℓ) : Prop :=
  True

def Pre_RwInlRefIdeal (m : (ℓ : Loc Cert.RwInlRefIdeal.nD Cert.RwInlRefIdeal.τ Cert.RwInlRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_SgInDw [hSgInDw : Cert.SgInDw.Facts] : Prop :=
  ∀ (m : (ℓ : Loc Cert.SgInDw.nD Cert.SgInDw.τ Cert.SgInDw.sig) → Buf (Elt Bits) ℓ) (g : Dev Cert.SgInDw.nD → PrngReg), Pre_SgInDw m →
    θ_run (Cert.SgInDw.defs (F := Bits)) (onTc (τ := Cert.SgInDw.τ) (Cert.SgInDw.main (F := Bits))) ⟨m, fun _ => 0, g⟩ (fun r => (∀ c : Dev Cert.SgInDw.nD,
      r.2.mem ((c.tc : Thread Cert.SgInDw.nD Cert.SgInDw.τ).loc Cert.SgInDw.main_arg0) = m ((c.tc : Thread Cert.SgInDw.nD Cert.SgInDw.τ).loc Cert.SgInDw.main_arg0)
      ∧ r.2.mem ((c.tc : Thread Cert.SgInDw.nD Cert.SgInDw.τ).loc Cert.SgInDw.main_arg1) = m ((c.tc : Thread Cert.SgInDw.nD Cert.SgInDw.τ).loc Cert.SgInDw.main_arg1))
      ∧ r.2.sem = fun _ => 0)

def quiescent_SgInDwIdeal [hSgInDwIdeal : Cert.SgInDwIdeal.Facts] : Prop :=
  ∀ (m : (ℓ : Loc Cert.SgInDwIdeal.nD Cert.SgInDwIdeal.τ Cert.SgInDwIdeal.sig) → Buf (Elt Ideal) ℓ) (g : Dev Cert.SgInDwIdeal.nD → PrngReg), Pre_SgInDwIdeal m →
    θ_run (Cert.SgInDwIdeal.defs (F := Ideal)) (onTc (τ := Cert.SgInDwIdeal.τ) (Cert.SgInDwIdeal.main (F := Ideal))) ⟨m, fun _ => 0, g⟩ (fun r => (∀ c : Dev Cert.SgInDwIdeal.nD,
      r.2.mem ((c.tc : Thread Cert.SgInDwIdeal.nD Cert.SgInDwIdeal.τ).loc Cert.SgInDwIdeal.main_arg0) = m ((c.tc : Thread Cert.SgInDwIdeal.nD Cert.SgInDwIdeal.τ).loc Cert.SgInDwIdeal.main_arg0)
      ∧ r.2.mem ((c.tc : Thread Cert.SgInDwIdeal.nD Cert.SgInDwIdeal.τ).loc Cert.SgInDwIdeal.main_arg1) = m ((c.tc : Thread Cert.SgInDwIdeal.nD Cert.SgInDwIdeal.τ).loc Cert.SgInDwIdeal.main_arg1))
      ∧ r.2.sem = fun _ => 0)

def quiescent_SgInDwRefIdeal [hSgInDwRefIdeal : Cert.SgInDwRefIdeal.Facts] : Prop :=
  ∀ (m : (ℓ : Loc Cert.SgInDwRefIdeal.nD Cert.SgInDwRefIdeal.τ Cert.SgInDwRefIdeal.sig) → Buf (Elt Ideal) ℓ) (g : Dev Cert.SgInDwRefIdeal.nD → PrngReg), Pre_SgInDwRefIdeal m →
    θ_run (Cert.SgInDwRefIdeal.defs (F := Ideal)) (onTc (τ := Cert.SgInDwRefIdeal.τ) (Cert.SgInDwRefIdeal.main (F := Ideal))) ⟨m, fun _ => 0, g⟩ (fun r => (∀ c : Dev Cert.SgInDwRefIdeal.nD,
      r.2.mem ((c.tc : Thread Cert.SgInDwRefIdeal.nD Cert.SgInDwRefIdeal.τ).loc Cert.SgInDwRefIdeal.main_arg0) = m ((c.tc : Thread Cert.SgInDwRefIdeal.nD Cert.SgInDwRefIdeal.τ).loc Cert.SgInDwRefIdeal.main_arg0)
      ∧ r.2.mem ((c.tc : Thread Cert.SgInDwRefIdeal.nD Cert.SgInDwRefIdeal.τ).loc Cert.SgInDwRefIdeal.main_arg1) = m ((c.tc : Thread Cert.SgInDwRefIdeal.nD Cert.SgInDwRefIdeal.τ).loc Cert.SgInDwRefIdeal.main_arg1))
      ∧ r.2.sem = fun _ => 0)

def quiescent_SgInDx [hSgInDx : Cert.SgInDx.Facts] : Prop :=
  ∀ (m : (ℓ : Loc Cert.SgInDx.nD Cert.SgInDx.τ Cert.SgInDx.sig) → Buf (Elt Bits) ℓ) (g : Dev Cert.SgInDx.nD → PrngReg), Pre_SgInDx m →
    θ_run (Cert.SgInDx.defs (F := Bits)) (onTc (τ := Cert.SgInDx.τ) (Cert.SgInDx.main (F := Bits))) ⟨m, fun _ => 0, g⟩ (fun r => (∀ c : Dev Cert.SgInDx.nD,
      r.2.mem ((c.tc : Thread Cert.SgInDx.nD Cert.SgInDx.τ).loc Cert.SgInDx.main_arg0) = m ((c.tc : Thread Cert.SgInDx.nD Cert.SgInDx.τ).loc Cert.SgInDx.main_arg0)
      ∧ r.2.mem ((c.tc : Thread Cert.SgInDx.nD Cert.SgInDx.τ).loc Cert.SgInDx.main_arg1) = m ((c.tc : Thread Cert.SgInDx.nD Cert.SgInDx.τ).loc Cert.SgInDx.main_arg1))
      ∧ r.2.sem = fun _ => 0)

def quiescent_SgInDxIdeal [hSgInDxIdeal : Cert.SgInDxIdeal.Facts] : Prop :=
  ∀ (m : (ℓ : Loc Cert.SgInDxIdeal.nD Cert.SgInDxIdeal.τ Cert.SgInDxIdeal.sig) → Buf (Elt Ideal) ℓ) (g : Dev Cert.SgInDxIdeal.nD → PrngReg), Pre_SgInDxIdeal m →
    θ_run (Cert.SgInDxIdeal.defs (F := Ideal)) (onTc (τ := Cert.SgInDxIdeal.τ) (Cert.SgInDxIdeal.main (F := Ideal))) ⟨m, fun _ => 0, g⟩ (fun r => (∀ c : Dev Cert.SgInDxIdeal.nD,
      r.2.mem ((c.tc : Thread Cert.SgInDxIdeal.nD Cert.SgInDxIdeal.τ).loc Cert.SgInDxIdeal.main_arg0) = m ((c.tc : Thread Cert.SgInDxIdeal.nD Cert.SgInDxIdeal.τ).loc Cert.SgInDxIdeal.main_arg0)
      ∧ r.2.mem ((c.tc : Thread Cert.SgInDxIdeal.nD Cert.SgInDxIdeal.τ).loc Cert.SgInDxIdeal.main_arg1) = m ((c.tc : Thread Cert.SgInDxIdeal.nD Cert.SgInDxIdeal.τ).loc Cert.SgInDxIdeal.main_arg1))
      ∧ r.2.sem = fun _ => 0)

def quiescent_SgInDxRefIdeal [hSgInDxRefIdeal : Cert.SgInDxRefIdeal.Facts] : Prop :=
  ∀ (m : (ℓ : Loc Cert.SgInDxRefIdeal.nD Cert.SgInDxRefIdeal.τ Cert.SgInDxRefIdeal.sig) → Buf (Elt Ideal) ℓ) (g : Dev Cert.SgInDxRefIdeal.nD → PrngReg), Pre_SgInDxRefIdeal m →
    θ_run (Cert.SgInDxRefIdeal.defs (F := Ideal)) (onTc (τ := Cert.SgInDxRefIdeal.τ) (Cert.SgInDxRefIdeal.main (F := Ideal))) ⟨m, fun _ => 0, g⟩ (fun r => (∀ c : Dev Cert.SgInDxRefIdeal.nD,
      r.2.mem ((c.tc : Thread Cert.SgInDxRefIdeal.nD Cert.SgInDxRefIdeal.τ).loc Cert.SgInDxRefIdeal.main_arg0) = m ((c.tc : Thread Cert.SgInDxRefIdeal.nD Cert.SgInDxRefIdeal.τ).loc Cert.SgInDxRefIdeal.main_arg0)
      ∧ r.2.mem ((c.tc : Thread Cert.SgInDxRefIdeal.nD Cert.SgInDxRefIdeal.τ).loc Cert.SgInDxRefIdeal.main_arg1) = m ((c.tc : Thread Cert.SgInDxRefIdeal.nD Cert.SgInDxRefIdeal.τ).loc Cert.SgInDxRefIdeal.main_arg1))
      ∧ r.2.sem = fun _ => 0)

def quiescent_RwInDw [hRwInDw : Cert.RwInDw.Facts] : Prop :=
  ∀ (m : (ℓ : Loc Cert.RwInDw.nD Cert.RwInDw.τ Cert.RwInDw.sig) → Buf (Elt Bits) ℓ) (g : Dev Cert.RwInDw.nD → PrngReg), Pre_RwInDw m →
    θ_run (Cert.RwInDw.defs (F := Bits)) (onTc (τ := Cert.RwInDw.τ) (Cert.RwInDw.main (F := Bits))) ⟨m, fun _ => 0, g⟩ (fun r => (∀ c : Dev Cert.RwInDw.nD,
      r.2.mem ((c.tc : Thread Cert.RwInDw.nD Cert.RwInDw.τ).loc Cert.RwInDw.main_arg0) = m ((c.tc : Thread Cert.RwInDw.nD Cert.RwInDw.τ).loc Cert.RwInDw.main_arg0)
      ∧ r.2.mem ((c.tc : Thread Cert.RwInDw.nD Cert.RwInDw.τ).loc Cert.RwInDw.main_arg1) = m ((c.tc : Thread Cert.RwInDw.nD Cert.RwInDw.τ).loc Cert.RwInDw.main_arg1))
      ∧ r.2.sem = fun _ => 0)

def quiescent_RwInDwIdeal [hRwInDwIdeal : Cert.RwInDwIdeal.Facts] : Prop :=
  ∀ (m : (ℓ : Loc Cert.RwInDwIdeal.nD Cert.RwInDwIdeal.τ Cert.RwInDwIdeal.sig) → Buf (Elt Ideal) ℓ) (g : Dev Cert.RwInDwIdeal.nD → PrngReg), Pre_RwInDwIdeal m →
    θ_run (Cert.RwInDwIdeal.defs (F := Ideal)) (onTc (τ := Cert.RwInDwIdeal.τ) (Cert.RwInDwIdeal.main (F := Ideal))) ⟨m, fun _ => 0, g⟩ (fun r => (∀ c : Dev Cert.RwInDwIdeal.nD,
      r.2.mem ((c.tc : Thread Cert.RwInDwIdeal.nD Cert.RwInDwIdeal.τ).loc Cert.RwInDwIdeal.main_arg0) = m ((c.tc : Thread Cert.RwInDwIdeal.nD Cert.RwInDwIdeal.τ).loc Cert.RwInDwIdeal.main_arg0)
      ∧ r.2.mem ((c.tc : Thread Cert.RwInDwIdeal.nD Cert.RwInDwIdeal.τ).loc Cert.RwInDwIdeal.main_arg1) = m ((c.tc : Thread Cert.RwInDwIdeal.nD Cert.RwInDwIdeal.τ).loc Cert.RwInDwIdeal.main_arg1))
      ∧ r.2.sem = fun _ => 0)

def quiescent_RwInDwRefIdeal [hRwInDwRefIdeal : Cert.RwInDwRefIdeal.Facts] : Prop :=
  ∀ (m : (ℓ : Loc Cert.RwInDwRefIdeal.nD Cert.RwInDwRefIdeal.τ Cert.RwInDwRefIdeal.sig) → Buf (Elt Ideal) ℓ) (g : Dev Cert.RwInDwRefIdeal.nD → PrngReg), Pre_RwInDwRefIdeal m →
    θ_run (Cert.RwInDwRefIdeal.defs (F := Ideal)) (onTc (τ := Cert.RwInDwRefIdeal.τ) (Cert.RwInDwRefIdeal.main (F := Ideal))) ⟨m, fun _ => 0, g⟩ (fun r => (∀ c : Dev Cert.RwInDwRefIdeal.nD,
      r.2.mem ((c.tc : Thread Cert.RwInDwRefIdeal.nD Cert.RwInDwRefIdeal.τ).loc Cert.RwInDwRefIdeal.main_arg0) = m ((c.tc : Thread Cert.RwInDwRefIdeal.nD Cert.RwInDwRefIdeal.τ).loc Cert.RwInDwRefIdeal.main_arg0)
      ∧ r.2.mem ((c.tc : Thread Cert.RwInDwRefIdeal.nD Cert.RwInDwRefIdeal.τ).loc Cert.RwInDwRefIdeal.main_arg1) = m ((c.tc : Thread Cert.RwInDwRefIdeal.nD Cert.RwInDwRefIdeal.τ).loc Cert.RwInDwRefIdeal.main_arg1))
      ∧ r.2.sem = fun _ => 0)

def quiescent_RwInDx [hRwInDx : Cert.RwInDx.Facts] : Prop :=
  ∀ (m : (ℓ : Loc Cert.RwInDx.nD Cert.RwInDx.τ Cert.RwInDx.sig) → Buf (Elt Bits) ℓ) (g : Dev Cert.RwInDx.nD → PrngReg), Pre_RwInDx m →
    θ_run (Cert.RwInDx.defs (F := Bits)) (onTc (τ := Cert.RwInDx.τ) (Cert.RwInDx.main (F := Bits))) ⟨m, fun _ => 0, g⟩ (fun r => (∀ c : Dev Cert.RwInDx.nD,
      r.2.mem ((c.tc : Thread Cert.RwInDx.nD Cert.RwInDx.τ).loc Cert.RwInDx.main_arg0) = m ((c.tc : Thread Cert.RwInDx.nD Cert.RwInDx.τ).loc Cert.RwInDx.main_arg0)
      ∧ r.2.mem ((c.tc : Thread Cert.RwInDx.nD Cert.RwInDx.τ).loc Cert.RwInDx.main_arg1) = m ((c.tc : Thread Cert.RwInDx.nD Cert.RwInDx.τ).loc Cert.RwInDx.main_arg1)
      ∧ r.2.mem ((c.tc : Thread Cert.RwInDx.nD Cert.RwInDx.τ).loc Cert.RwInDx.main_arg2) = m ((c.tc : Thread Cert.RwInDx.nD Cert.RwInDx.τ).loc Cert.RwInDx.main_arg2))
      ∧ r.2.sem = fun _ => 0)

def quiescent_RwInDxIdeal [hRwInDxIdeal : Cert.RwInDxIdeal.Facts] : Prop :=
  ∀ (m : (ℓ : Loc Cert.RwInDxIdeal.nD Cert.RwInDxIdeal.τ Cert.RwInDxIdeal.sig) → Buf (Elt Ideal) ℓ) (g : Dev Cert.RwInDxIdeal.nD → PrngReg), Pre_RwInDxIdeal m →
    θ_run (Cert.RwInDxIdeal.defs (F := Ideal)) (onTc (τ := Cert.RwInDxIdeal.τ) (Cert.RwInDxIdeal.main (F := Ideal))) ⟨m, fun _ => 0, g⟩ (fun r => (∀ c : Dev Cert.RwInDxIdeal.nD,
      r.2.mem ((c.tc : Thread Cert.RwInDxIdeal.nD Cert.RwInDxIdeal.τ).loc Cert.RwInDxIdeal.main_arg0) = m ((c.tc : Thread Cert.RwInDxIdeal.nD Cert.RwInDxIdeal.τ).loc Cert.RwInDxIdeal.main_arg0)
      ∧ r.2.mem ((c.tc : Thread Cert.RwInDxIdeal.nD Cert.RwInDxIdeal.τ).loc Cert.RwInDxIdeal.main_arg1) = m ((c.tc : Thread Cert.RwInDxIdeal.nD Cert.RwInDxIdeal.τ).loc Cert.RwInDxIdeal.main_arg1)
      ∧ r.2.mem ((c.tc : Thread Cert.RwInDxIdeal.nD Cert.RwInDxIdeal.τ).loc Cert.RwInDxIdeal.main_arg2) = m ((c.tc : Thread Cert.RwInDxIdeal.nD Cert.RwInDxIdeal.τ).loc Cert.RwInDxIdeal.main_arg2))
      ∧ r.2.sem = fun _ => 0)

def quiescent_RwInDxRefIdeal [hRwInDxRefIdeal : Cert.RwInDxRefIdeal.Facts] : Prop :=
  ∀ (m : (ℓ : Loc Cert.RwInDxRefIdeal.nD Cert.RwInDxRefIdeal.τ Cert.RwInDxRefIdeal.sig) → Buf (Elt Ideal) ℓ) (g : Dev Cert.RwInDxRefIdeal.nD → PrngReg), Pre_RwInDxRefIdeal m →
    θ_run (Cert.RwInDxRefIdeal.defs (F := Ideal)) (onTc (τ := Cert.RwInDxRefIdeal.τ) (Cert.RwInDxRefIdeal.main (F := Ideal))) ⟨m, fun _ => 0, g⟩ (fun r => (∀ c : Dev Cert.RwInDxRefIdeal.nD,
      r.2.mem ((c.tc : Thread Cert.RwInDxRefIdeal.nD Cert.RwInDxRefIdeal.τ).loc Cert.RwInDxRefIdeal.main_arg0) = m ((c.tc : Thread Cert.RwInDxRefIdeal.nD Cert.RwInDxRefIdeal.τ).loc Cert.RwInDxRefIdeal.main_arg0)
      ∧ r.2.mem ((c.tc : Thread Cert.RwInDxRefIdeal.nD Cert.RwInDxRefIdeal.τ).loc Cert.RwInDxRefIdeal.main_arg1) = m ((c.tc : Thread Cert.RwInDxRefIdeal.nD Cert.RwInDxRefIdeal.τ).loc Cert.RwInDxRefIdeal.main_arg1)
      ∧ r.2.mem ((c.tc : Thread Cert.RwInDxRefIdeal.nD Cert.RwInDxRefIdeal.τ).loc Cert.RwInDxRefIdeal.main_arg2) = m ((c.tc : Thread Cert.RwInDxRefIdeal.nD Cert.RwInDxRefIdeal.τ).loc Cert.RwInDxRefIdeal.main_arg2))
      ∧ r.2.sem = fun _ => 0)

def quiescent_SgIn [hSgIn : Cert.SgIn.Facts] : Prop :=
  ∀ (m : (ℓ : Loc Cert.SgIn.nD Cert.SgIn.τ Cert.SgIn.sig) → Buf (Elt Bits) ℓ) (g : Dev Cert.SgIn.nD → PrngReg), Pre_SgIn m →
    θ_run (Cert.SgIn.defs (F := Bits)) (onTc (τ := Cert.SgIn.τ) (Cert.SgIn.main (F := Bits))) ⟨m, fun _ => 0, g⟩ (fun r => (∀ c : Dev Cert.SgIn.nD,
      r.2.mem ((c.tc : Thread Cert.SgIn.nD Cert.SgIn.τ).loc Cert.SgIn.main_arg0) = m ((c.tc : Thread Cert.SgIn.nD Cert.SgIn.τ).loc Cert.SgIn.main_arg0)
      ∧ r.2.mem ((c.tc : Thread Cert.SgIn.nD Cert.SgIn.τ).loc Cert.SgIn.main_arg1) = m ((c.tc : Thread Cert.SgIn.nD Cert.SgIn.τ).loc Cert.SgIn.main_arg1))
      ∧ r.2.sem = fun _ => 0)

def quiescent_SgInIdeal [hSgInIdeal : Cert.SgInIdeal.Facts] : Prop :=
  ∀ (m : (ℓ : Loc Cert.SgInIdeal.nD Cert.SgInIdeal.τ Cert.SgInIdeal.sig) → Buf (Elt Ideal) ℓ) (g : Dev Cert.SgInIdeal.nD → PrngReg), Pre_SgInIdeal m →
    θ_run (Cert.SgInIdeal.defs (F := Ideal)) (onTc (τ := Cert.SgInIdeal.τ) (Cert.SgInIdeal.main (F := Ideal))) ⟨m, fun _ => 0, g⟩ (fun r => (∀ c : Dev Cert.SgInIdeal.nD,
      r.2.mem ((c.tc : Thread Cert.SgInIdeal.nD Cert.SgInIdeal.τ).loc Cert.SgInIdeal.main_arg0) = m ((c.tc : Thread Cert.SgInIdeal.nD Cert.SgInIdeal.τ).loc Cert.SgInIdeal.main_arg0)
      ∧ r.2.mem ((c.tc : Thread Cert.SgInIdeal.nD Cert.SgInIdeal.τ).loc Cert.SgInIdeal.main_arg1) = m ((c.tc : Thread Cert.SgInIdeal.nD Cert.SgInIdeal.τ).loc Cert.SgInIdeal.main_arg1))
      ∧ r.2.sem = fun _ => 0)

def quiescent_SgInRefIdeal [hSgInRefIdeal : Cert.SgInRefIdeal.Facts] : Prop :=
  ∀ (m : (ℓ : Loc Cert.SgInRefIdeal.nD Cert.SgInRefIdeal.τ Cert.SgInRefIdeal.sig) → Buf (Elt Ideal) ℓ) (g : Dev Cert.SgInRefIdeal.nD → PrngReg), Pre_SgInRefIdeal m →
    θ_run (Cert.SgInRefIdeal.defs (F := Ideal)) (onTc (τ := Cert.SgInRefIdeal.τ) (Cert.SgInRefIdeal.main (F := Ideal))) ⟨m, fun _ => 0, g⟩ (fun r => (∀ c : Dev Cert.SgInRefIdeal.nD,
      r.2.mem ((c.tc : Thread Cert.SgInRefIdeal.nD Cert.SgInRefIdeal.τ).loc Cert.SgInRefIdeal.main_arg0) = m ((c.tc : Thread Cert.SgInRefIdeal.nD Cert.SgInRefIdeal.τ).loc Cert.SgInRefIdeal.main_arg0)
      ∧ r.2.mem ((c.tc : Thread Cert.SgInRefIdeal.nD Cert.SgInRefIdeal.τ).loc Cert.SgInRefIdeal.main_arg1) = m ((c.tc : Thread Cert.SgInRefIdeal.nD Cert.SgInRefIdeal.τ).loc Cert.SgInRefIdeal.main_arg1))
      ∧ r.2.sem = fun _ => 0)

def quiescent_RwIn [hRwIn : Cert.RwIn.Facts] : Prop :=
  ∀ (m : (ℓ : Loc Cert.RwIn.nD Cert.RwIn.τ Cert.RwIn.sig) → Buf (Elt Bits) ℓ) (g : Dev Cert.RwIn.nD → PrngReg), Pre_RwIn m →
    θ_run (Cert.RwIn.defs (F := Bits)) (onTc (τ := Cert.RwIn.τ) (Cert.RwIn.main (F := Bits))) ⟨m, fun _ => 0, g⟩ (fun r => (∀ c : Dev Cert.RwIn.nD,
      r.2.mem ((c.tc : Thread Cert.RwIn.nD Cert.RwIn.τ).loc Cert.RwIn.main_arg0) = m ((c.tc : Thread Cert.RwIn.nD Cert.RwIn.τ).loc Cert.RwIn.main_arg0)
      ∧ r.2.mem ((c.tc : Thread Cert.RwIn.nD Cert.RwIn.τ).loc Cert.RwIn.main_arg1) = m ((c.tc : Thread Cert.RwIn.nD Cert.RwIn.τ).loc Cert.RwIn.main_arg1))
      ∧ r.2.sem = fun _ => 0)

def quiescent_RwInIdeal [hRwInIdeal : Cert.RwInIdeal.Facts] : Prop :=
  ∀ (m : (ℓ : Loc Cert.RwInIdeal.nD Cert.RwInIdeal.τ Cert.RwInIdeal.sig) → Buf (Elt Ideal) ℓ) (g : Dev Cert.RwInIdeal.nD → PrngReg), Pre_RwInIdeal m →
    θ_run (Cert.RwInIdeal.defs (F := Ideal)) (onTc (τ := Cert.RwInIdeal.τ) (Cert.RwInIdeal.main (F := Ideal))) ⟨m, fun _ => 0, g⟩ (fun r => (∀ c : Dev Cert.RwInIdeal.nD,
      r.2.mem ((c.tc : Thread Cert.RwInIdeal.nD Cert.RwInIdeal.τ).loc Cert.RwInIdeal.main_arg0) = m ((c.tc : Thread Cert.RwInIdeal.nD Cert.RwInIdeal.τ).loc Cert.RwInIdeal.main_arg0)
      ∧ r.2.mem ((c.tc : Thread Cert.RwInIdeal.nD Cert.RwInIdeal.τ).loc Cert.RwInIdeal.main_arg1) = m ((c.tc : Thread Cert.RwInIdeal.nD Cert.RwInIdeal.τ).loc Cert.RwInIdeal.main_arg1))
      ∧ r.2.sem = fun _ => 0)

def quiescent_RwInRefIdeal [hRwInRefIdeal : Cert.RwInRefIdeal.Facts] : Prop :=
  ∀ (m : (ℓ : Loc Cert.RwInRefIdeal.nD Cert.RwInRefIdeal.τ Cert.RwInRefIdeal.sig) → Buf (Elt Ideal) ℓ) (g : Dev Cert.RwInRefIdeal.nD → PrngReg), Pre_RwInRefIdeal m →
    θ_run (Cert.RwInRefIdeal.defs (F := Ideal)) (onTc (τ := Cert.RwInRefIdeal.τ) (Cert.RwInRefIdeal.main (F := Ideal))) ⟨m, fun _ => 0, g⟩ (fun r => (∀ c : Dev Cert.RwInRefIdeal.nD,
      r.2.mem ((c.tc : Thread Cert.RwInRefIdeal.nD Cert.RwInRefIdeal.τ).loc Cert.RwInRefIdeal.main_arg0) = m ((c.tc : Thread Cert.RwInRefIdeal.nD Cert.RwInRefIdeal.τ).loc Cert.RwInRefIdeal.main_arg0)
      ∧ r.2.mem ((c.tc : Thread Cert.RwInRefIdeal.nD Cert.RwInRefIdeal.τ).loc Cert.RwInRefIdeal.main_arg1) = m ((c.tc : Thread Cert.RwInRefIdeal.nD Cert.RwInRefIdeal.τ).loc Cert.RwInRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5)
      ∧ r.2.mem ((c.tc : Thread Cert.NormBwd.nD Cert.NormBwd.τ).loc Cert.NormBwd.main_arg6) = m ((c.tc : Thread Cert.NormBwd.nD Cert.NormBwd.τ).loc Cert.NormBwd.main_arg6)
      ∧ r.2.mem ((c.tc : Thread Cert.NormBwd.nD Cert.NormBwd.τ).loc Cert.NormBwd.main_arg7) = m ((c.tc : Thread Cert.NormBwd.nD Cert.NormBwd.τ).loc Cert.NormBwd.main_arg7))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
      ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6)
      ∧ r.2.mem ((c.tc : Thread Cert.NormBwdIdeal.nD Cert.NormBwdIdeal.τ).loc Cert.NormBwdIdeal.main_arg7) = m ((c.tc : Thread Cert.NormBwdIdeal.nD Cert.NormBwdIdeal.τ).loc Cert.NormBwdIdeal.main_arg7))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5)
      ∧ r.2.mem ((c.tc : Thread Cert.NormBwdRefIdeal.nD Cert.NormBwdRefIdeal.τ).loc Cert.NormBwdRefIdeal.main_arg6) = m ((c.tc : Thread Cert.NormBwdRefIdeal.nD Cert.NormBwdRefIdeal.τ).loc Cert.NormBwdRefIdeal.main_arg6)
      ∧ r.2.mem ((c.tc : Thread Cert.NormBwdRefIdeal.nD Cert.NormBwdRefIdeal.τ).loc Cert.NormBwdRefIdeal.main_arg7) = m ((c.tc : Thread Cert.NormBwdRefIdeal.nD Cert.NormBwdRefIdeal.τ).loc Cert.NormBwdRefIdeal.main_arg7))
      ∧ r.2.sem = fun _ => 0)

def quiescent_NormBwdFirst [hNormBwdFirst : Cert.NormBwdFirst.Facts] : Prop :=
  ∀ (m : (ℓ : Loc Cert.NormBwdFirst.nD Cert.NormBwdFirst.τ Cert.NormBwdFirst.sig) → Buf (Elt Bits) ℓ) (g : Dev Cert.NormBwdFirst.nD → PrngReg), Pre_NormBwdFirst m →
    θ_run (Cert.NormBwdFirst.defs (F := Bits)) (onTc (τ := Cert.NormBwdFirst.τ) (Cert.NormBwdFirst.main (F := Bits))) ⟨m, fun _ => 0, g⟩ (fun r => (∀ c : Dev Cert.NormBwdFirst.nD,
      r.2.mem ((c.tc : Thread Cert.NormBwdFirst.nD Cert.NormBwdFirst.τ).loc Cert.NormBwdFirst.main_arg0) = m ((c.tc : Thread Cert.NormBwdFirst.nD Cert.NormBwdFirst.τ).loc Cert.NormBwdFirst.main_arg0)
      ∧ r.2.mem ((c.tc : Thread Cert.NormBwdFirst.nD Cert.NormBwdFirst.τ).loc Cert.NormBwdFirst.main_arg1) = m ((c.tc : Thread Cert.NormBwdFirst.nD Cert.NormBwdFirst.τ).loc Cert.NormBwdFirst.main_arg1)
      ∧ r.2.mem ((c.tc : Thread Cert.NormBwdFirst.nD Cert.NormBwdFirst.τ).loc Cert.NormBwdFirst.main_arg2) = m ((c.tc : Thread Cert.NormBwdFirst.nD Cert.NormBwdFirst.τ).loc Cert.NormBwdFirst.main_arg2)
      ∧ r.2.mem ((c.tc : Thread Cert.NormBwdFirst.nD Cert.NormBwdFirst.τ).loc Cert.NormBwdFirst.main_arg3) = m ((c.tc : Thread Cert.NormBwdFirst.nD Cert.NormBwdFirst.τ).loc Cert.NormBwdFirst.main_arg3)
      ∧ r.2.mem ((c.tc : Thread Cert.NormBwdFirst.nD Cert.NormBwdFirst.τ).loc Cert.NormBwdFirst.main_arg4) = m ((c.tc : Thread Cert.NormBwdFirst.nD Cert.NormBwdFirst.τ).loc Cert.NormBwdFirst.main_arg4)
      ∧ r.2.mem ((c.tc : Thread Cert.NormBwdFirst.nD Cert.NormBwdFirst.τ).loc Cert.NormBwdFirst.main_arg5) = m ((c.tc : Thread Cert.NormBwdFirst.nD Cert.NormBwdFirst.τ).loc Cert.NormBwdFirst.main_arg5))
      ∧ r.2.sem = fun _ => 0)

def quiescent_NormBwdFirstIdeal [hNormBwdFirstIdeal : Cert.NormBwdFirstIdeal.Facts] : Prop :=
  ∀ (m : (ℓ : Loc Cert.NormBwdFirstIdeal.nD Cert.NormBwdFirstIdeal.τ Cert.NormBwdFirstIdeal.sig) → Buf (Elt Ideal) ℓ) (g : Dev Cert.NormBwdFirstIdeal.nD → PrngReg), Pre_NormBwdFirstIdeal m →
    θ_run (Cert.NormBwdFirstIdeal.defs (F := Ideal)) (onTc (τ := Cert.NormBwdFirstIdeal.τ) (Cert.NormBwdFirstIdeal.main (F := Ideal))) ⟨m, fun _ => 0, g⟩ (fun r => (∀ c : Dev Cert.NormBwdFirstIdeal.nD,
      r.2.mem ((c.tc : Thread Cert.NormBwdFirstIdeal.nD Cert.NormBwdFirstIdeal.τ).loc Cert.NormBwdFirstIdeal.main_arg0) = m ((c.tc : Thread Cert.NormBwdFirstIdeal.nD Cert.NormBwdFirstIdeal.τ).loc Cert.NormBwdFirstIdeal.main_arg0)
      ∧ r.2.mem ((c.tc : Thread Cert.NormBwdFirstIdeal.nD Cert.NormBwdFirstIdeal.τ).loc Cert.NormBwdFirstIdeal.main_arg1) = m ((c.tc : Thread Cert.NormBwdFirstIdeal.nD Cert.NormBwdFirstIdeal.τ).loc Cert.NormBwdFirstIdeal.main_arg1)
      ∧ r.2.mem ((c.tc : Thread Cert.NormBwdFirstIdeal.nD Cert.NormBwdFirstIdeal.τ).loc Cert.NormBwdFirstIdeal.main_arg2) = m ((c.tc : Thread Cert.NormBwdFirstIdeal.nD Cert.NormBwdFirstIdeal.τ).loc Cert.NormBwdFirstIdeal.main_arg2)
      ∧ r.2.mem ((c.tc : Thread Cert.NormBwdFirstIdeal.nD Cert.NormBwdFirstIdeal.τ).loc Cert.NormBwdFirstIdeal.main_arg3) = m ((c.tc : Thread Cert.NormBwdFirstIdeal.nD Cert.NormBwdFirstIdeal.τ).loc Cert.NormBwdFirstIdeal.main_arg3)
      ∧ r.2.mem ((c.tc : Thread Cert.NormBwdFirstIdeal.nD Cert.NormBwdFirstIdeal.τ).loc Cert.NormBwdFirstIdeal.main_arg4) = m ((c.tc : Thread Cert.NormBwdFirstIdeal.nD Cert.NormBwdFirstIdeal.τ).loc Cert.NormBwdFirstIdeal.main_arg4)
      ∧ r.2.mem ((c.tc : Thread Cert.NormBwdFirstIdeal.nD Cert.NormBwdFirstIdeal.τ).loc Cert.NormBwdFirstIdeal.main_arg5) = m ((c.tc : Thread Cert.NormBwdFirstIdeal.nD Cert.NormBwdFirstIdeal.τ).loc Cert.NormBwdFirstIdeal.main_arg5))
      ∧ r.2.sem = fun _ => 0)

def quiescent_NormBwdFirstRefIdeal [hNormBwdFirstRefIdeal : Cert.NormBwdFirstRefIdeal.Facts] : Prop :=
  ∀ (m : (ℓ : Loc Cert.NormBwdFirstRefIdeal.nD Cert.NormBwdFirstRefIdeal.τ Cert.NormBwdFirstRefIdeal.sig) → Buf (Elt Ideal) ℓ) (g : Dev Cert.NormBwdFirstRefIdeal.nD → PrngReg), Pre_NormBwdFirstRefIdeal m →
    θ_run (Cert.NormBwdFirstRefIdeal.defs (F := Ideal)) (onTc (τ := Cert.NormBwdFirstRefIdeal.τ) (Cert.NormBwdFirstRefIdeal.main (F := Ideal))) ⟨m, fun _ => 0, g⟩ (fun r => (∀ c : Dev Cert.NormBwdFirstRefIdeal.nD,
      r.2.mem ((c.tc : Thread Cert.NormBwdFirstRefIdeal.nD Cert.NormBwdFirstRefIdeal.τ).loc Cert.NormBwdFirstRefIdeal.main_arg0) = m ((c.tc : Thread Cert.NormBwdFirstRefIdeal.nD Cert.NormBwdFirstRefIdeal.τ).loc Cert.NormBwdFirstRefIdeal.main_arg0)
      ∧ r.2.mem ((c.tc : Thread Cert.NormBwdFirstRefIdeal.nD Cert.NormBwdFirstRefIdeal.τ).loc Cert.NormBwdFirstRefIdeal.main_arg1) = m ((c.tc : Thread Cert.NormBwdFirstRefIdeal.nD Cert.NormBwdFirstRefIdeal.τ).loc Cert.NormBwdFirstRefIdeal.main_arg1)
      ∧ r.2.mem ((c.tc : Thread Cert.NormBwdFirstRefIdeal.nD Cert.NormBwdFirstRefIdeal.τ).loc Cert.NormBwdFirstRefIdeal.main_arg2) = m ((c.tc : Thread Cert.NormBwdFirstRefIdeal.nD Cert.NormBwdFirstRefIdeal.τ).loc Cert.NormBwdFirstRefIdeal.main_arg2)
      ∧ r.2.mem ((c.tc : Thread Cert.NormBwdFirstRefIdeal.nD Cert.NormBwdFirstRefIdeal.τ).loc Cert.NormBwdFirstRefIdeal.main_arg3) = m ((c.tc : Thread Cert.NormBwdFirstRefIdeal.nD Cert.NormBwdFirstRefIdeal.τ).loc Cert.NormBwdFirstRefIdeal.main_arg3)
      ∧ r.2.mem ((c.tc : Thread Cert.NormBwdFirstRefIdeal.nD Cert.NormBwdFirstRefIdeal.τ).loc Cert.NormBwdFirstRefIdeal.main_arg4) = m ((c.tc : Thread Cert.NormBwdFirstRefIdeal.nD Cert.NormBwdFirstRefIdeal.τ).loc Cert.NormBwdFirstRefIdeal.main_arg4)
      ∧ r.2.mem ((c.tc : Thread Cert.NormBwdFirstRefIdeal.nD Cert.NormBwdFirstRefIdeal.τ).loc Cert.NormBwdFirstRefIdeal.main_arg5) = m ((c.tc : Thread Cert.NormBwdFirstRefIdeal.nD Cert.NormBwdFirstRefIdeal.τ).loc Cert.NormBwdFirstRefIdeal.main_arg5))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4))
      ∧ r.2.sem = fun _ => 0)

def quiescent_RwGateBwd [hRwGateBwd : Cert.RwGateBwd.Facts] : Prop :=
  ∀ (m : (ℓ : Loc Cert.RwGateBwd.nD Cert.RwGateBwd.τ Cert.RwGateBwd.sig) → Buf (Elt Bits) ℓ) (g : Dev Cert.RwGateBwd.nD → PrngReg), Pre_RwGateBwd m →
    θ_run (Cert.RwGateBwd.defs (F := Bits)) (onTc (τ := Cert.RwGateBwd.τ) (Cert.RwGateBwd.main (F := Bits))) ⟨m, fun _ => 0, g⟩ (fun r => (∀ c : Dev Cert.RwGateBwd.nD,
      r.2.mem ((c.tc : Thread Cert.RwGateBwd.nD Cert.RwGateBwd.τ).loc Cert.RwGateBwd.main_arg0) = m ((c.tc : Thread Cert.RwGateBwd.nD Cert.RwGateBwd.τ).loc Cert.RwGateBwd.main_arg0)
      ∧ r.2.mem ((c.tc : Thread Cert.RwGateBwd.nD Cert.RwGateBwd.τ).loc Cert.RwGateBwd.main_arg1) = m ((c.tc : Thread Cert.RwGateBwd.nD Cert.RwGateBwd.τ).loc Cert.RwGateBwd.main_arg1)
      ∧ r.2.mem ((c.tc : Thread Cert.RwGateBwd.nD Cert.RwGateBwd.τ).loc Cert.RwGateBwd.main_arg2) = m ((c.tc : Thread Cert.RwGateBwd.nD Cert.RwGateBwd.τ).loc Cert.RwGateBwd.main_arg2))
      ∧ r.2.sem = fun _ => 0)

def quiescent_RwGateBwdIdeal [hRwGateBwdIdeal : Cert.RwGateBwdIdeal.Facts] : Prop :=
  ∀ (m : (ℓ : Loc Cert.RwGateBwdIdeal.nD Cert.RwGateBwdIdeal.τ Cert.RwGateBwdIdeal.sig) → Buf (Elt Ideal) ℓ) (g : Dev Cert.RwGateBwdIdeal.nD → PrngReg), Pre_RwGateBwdIdeal m →
    θ_run (Cert.RwGateBwdIdeal.defs (F := Ideal)) (onTc (τ := Cert.RwGateBwdIdeal.τ) (Cert.RwGateBwdIdeal.main (F := Ideal))) ⟨m, fun _ => 0, g⟩ (fun r => (∀ c : Dev Cert.RwGateBwdIdeal.nD,
      r.2.mem ((c.tc : Thread Cert.RwGateBwdIdeal.nD Cert.RwGateBwdIdeal.τ).loc Cert.RwGateBwdIdeal.main_arg0) = m ((c.tc : Thread Cert.RwGateBwdIdeal.nD Cert.RwGateBwdIdeal.τ).loc Cert.RwGateBwdIdeal.main_arg0)
      ∧ r.2.mem ((c.tc : Thread Cert.RwGateBwdIdeal.nD Cert.RwGateBwdIdeal.τ).loc Cert.RwGateBwdIdeal.main_arg1) = m ((c.tc : Thread Cert.RwGateBwdIdeal.nD Cert.RwGateBwdIdeal.τ).loc Cert.RwGateBwdIdeal.main_arg1)
      ∧ r.2.mem ((c.tc : Thread Cert.RwGateBwdIdeal.nD Cert.RwGateBwdIdeal.τ).loc Cert.RwGateBwdIdeal.main_arg2) = m ((c.tc : Thread Cert.RwGateBwdIdeal.nD Cert.RwGateBwdIdeal.τ).loc Cert.RwGateBwdIdeal.main_arg2))
      ∧ r.2.sem = fun _ => 0)

def quiescent_RwGateBwdRefIdeal [hRwGateBwdRefIdeal : Cert.RwGateBwdRefIdeal.Facts] : Prop :=
  ∀ (m : (ℓ : Loc Cert.RwGateBwdRefIdeal.nD Cert.RwGateBwdRefIdeal.τ Cert.RwGateBwdRefIdeal.sig) → Buf (Elt Ideal) ℓ) (g : Dev Cert.RwGateBwdRefIdeal.nD → PrngReg), Pre_RwGateBwdRefIdeal m →
    θ_run (Cert.RwGateBwdRefIdeal.defs (F := Ideal)) (onTc (τ := Cert.RwGateBwdRefIdeal.τ) (Cert.RwGateBwdRefIdeal.main (F := Ideal))) ⟨m, fun _ => 0, g⟩ (fun r => (∀ c : Dev Cert.RwGateBwdRefIdeal.nD,
      r.2.mem ((c.tc : Thread Cert.RwGateBwdRefIdeal.nD Cert.RwGateBwdRefIdeal.τ).loc Cert.RwGateBwdRefIdeal.main_arg0) = m ((c.tc : Thread Cert.RwGateBwdRefIdeal.nD Cert.RwGateBwdRefIdeal.τ).loc Cert.RwGateBwdRefIdeal.main_arg0)
      ∧ r.2.mem ((c.tc : Thread Cert.RwGateBwdRefIdeal.nD Cert.RwGateBwdRefIdeal.τ).loc Cert.RwGateBwdRefIdeal.main_arg1) = m ((c.tc : Thread Cert.RwGateBwdRefIdeal.nD Cert.RwGateBwdRefIdeal.τ).loc Cert.RwGateBwdRefIdeal.main_arg1)
      ∧ r.2.mem ((c.tc : Thread Cert.RwGateBwdRefIdeal.nD Cert.RwGateBwdRefIdeal.τ).loc Cert.RwGateBwdRefIdeal.main_arg2) = m ((c.tc : Thread Cert.RwGateBwdRefIdeal.nD Cert.RwGateBwdRefIdeal.τ).loc Cert.RwGateBwdRefIdeal.main_arg2))
      ∧ r.2.sem = fun _ => 0)

def quiescent_SwaGateBwd [hSwaGateBwd : Cert.SwaGateBwd.Facts] : Prop :=
  ∀ (m : (ℓ : Loc Cert.SwaGateBwd.nD Cert.SwaGateBwd.τ Cert.SwaGateBwd.sig) → Buf (Elt Bits) ℓ) (g : Dev Cert.SwaGateBwd.nD → PrngReg), Pre_SwaGateBwd m →
    θ_run (Cert.SwaGateBwd.defs (F := Bits)) (onTc (τ := Cert.SwaGateBwd.τ) (Cert.SwaGateBwd.main (F := Bits))) ⟨m, fun _ => 0, g⟩ (fun r => (∀ c : Dev Cert.SwaGateBwd.nD,
      r.2.mem ((c.tc : Thread Cert.SwaGateBwd.nD Cert.SwaGateBwd.τ).loc Cert.SwaGateBwd.main_arg0) = m ((c.tc : Thread Cert.SwaGateBwd.nD Cert.SwaGateBwd.τ).loc Cert.SwaGateBwd.main_arg0)
      ∧ r.2.mem ((c.tc : Thread Cert.SwaGateBwd.nD Cert.SwaGateBwd.τ).loc Cert.SwaGateBwd.main_arg1) = m ((c.tc : Thread Cert.SwaGateBwd.nD Cert.SwaGateBwd.τ).loc Cert.SwaGateBwd.main_arg1)
      ∧ r.2.mem ((c.tc : Thread Cert.SwaGateBwd.nD Cert.SwaGateBwd.τ).loc Cert.SwaGateBwd.main_arg2) = m ((c.tc : Thread Cert.SwaGateBwd.nD Cert.SwaGateBwd.τ).loc Cert.SwaGateBwd.main_arg2))
      ∧ r.2.sem = fun _ => 0)

def quiescent_SwaGateBwdIdeal [hSwaGateBwdIdeal : Cert.SwaGateBwdIdeal.Facts] : Prop :=
  ∀ (m : (ℓ : Loc Cert.SwaGateBwdIdeal.nD Cert.SwaGateBwdIdeal.τ Cert.SwaGateBwdIdeal.sig) → Buf (Elt Ideal) ℓ) (g : Dev Cert.SwaGateBwdIdeal.nD → PrngReg), Pre_SwaGateBwdIdeal m →
    θ_run (Cert.SwaGateBwdIdeal.defs (F := Ideal)) (onTc (τ := Cert.SwaGateBwdIdeal.τ) (Cert.SwaGateBwdIdeal.main (F := Ideal))) ⟨m, fun _ => 0, g⟩ (fun r => (∀ c : Dev Cert.SwaGateBwdIdeal.nD,
      r.2.mem ((c.tc : Thread Cert.SwaGateBwdIdeal.nD Cert.SwaGateBwdIdeal.τ).loc Cert.SwaGateBwdIdeal.main_arg0) = m ((c.tc : Thread Cert.SwaGateBwdIdeal.nD Cert.SwaGateBwdIdeal.τ).loc Cert.SwaGateBwdIdeal.main_arg0)
      ∧ r.2.mem ((c.tc : Thread Cert.SwaGateBwdIdeal.nD Cert.SwaGateBwdIdeal.τ).loc Cert.SwaGateBwdIdeal.main_arg1) = m ((c.tc : Thread Cert.SwaGateBwdIdeal.nD Cert.SwaGateBwdIdeal.τ).loc Cert.SwaGateBwdIdeal.main_arg1)
      ∧ r.2.mem ((c.tc : Thread Cert.SwaGateBwdIdeal.nD Cert.SwaGateBwdIdeal.τ).loc Cert.SwaGateBwdIdeal.main_arg2) = m ((c.tc : Thread Cert.SwaGateBwdIdeal.nD Cert.SwaGateBwdIdeal.τ).loc Cert.SwaGateBwdIdeal.main_arg2))
      ∧ r.2.sem = fun _ => 0)

def quiescent_SwaGateBwdRefIdeal [hSwaGateBwdRefIdeal : Cert.SwaGateBwdRefIdeal.Facts] : Prop :=
  ∀ (m : (ℓ : Loc Cert.SwaGateBwdRefIdeal.nD Cert.SwaGateBwdRefIdeal.τ Cert.SwaGateBwdRefIdeal.sig) → Buf (Elt Ideal) ℓ) (g : Dev Cert.SwaGateBwdRefIdeal.nD → PrngReg), Pre_SwaGateBwdRefIdeal m →
    θ_run (Cert.SwaGateBwdRefIdeal.defs (F := Ideal)) (onTc (τ := Cert.SwaGateBwdRefIdeal.τ) (Cert.SwaGateBwdRefIdeal.main (F := Ideal))) ⟨m, fun _ => 0, g⟩ (fun r => (∀ c : Dev Cert.SwaGateBwdRefIdeal.nD,
      r.2.mem ((c.tc : Thread Cert.SwaGateBwdRefIdeal.nD Cert.SwaGateBwdRefIdeal.τ).loc Cert.SwaGateBwdRefIdeal.main_arg0) = m ((c.tc : Thread Cert.SwaGateBwdRefIdeal.nD Cert.SwaGateBwdRefIdeal.τ).loc Cert.SwaGateBwdRefIdeal.main_arg0)
      ∧ r.2.mem ((c.tc : Thread Cert.SwaGateBwdRefIdeal.nD Cert.SwaGateBwdRefIdeal.τ).loc Cert.SwaGateBwdRefIdeal.main_arg1) = m ((c.tc : Thread Cert.SwaGateBwdRefIdeal.nD Cert.SwaGateBwdRefIdeal.τ).loc Cert.SwaGateBwdRefIdeal.main_arg1)
      ∧ r.2.mem ((c.tc : Thread Cert.SwaGateBwdRefIdeal.nD Cert.SwaGateBwdRefIdeal.τ).loc Cert.SwaGateBwdRefIdeal.main_arg2) = m ((c.tc : Thread Cert.SwaGateBwdRefIdeal.nD Cert.SwaGateBwdRefIdeal.τ).loc Cert.SwaGateBwdRefIdeal.main_arg2))
      ∧ r.2.sem = fun _ => 0)

def quiescent_LoraBwd [hLoraBwd : Cert.LoraBwd.Facts] : Prop :=
  ∀ (m : (ℓ : Loc Cert.LoraBwd.nD Cert.LoraBwd.τ Cert.LoraBwd.sig) → Buf (Elt Bits) ℓ) (g : Dev Cert.LoraBwd.nD → PrngReg), Pre_LoraBwd m →
    θ_run (Cert.LoraBwd.defs (F := Bits)) (onTc (τ := Cert.LoraBwd.τ) (Cert.LoraBwd.main (F := Bits))) ⟨m, fun _ => 0, g⟩ (fun r => (∀ c : Dev Cert.LoraBwd.nD,
      r.2.mem ((c.tc : Thread Cert.LoraBwd.nD Cert.LoraBwd.τ).loc Cert.LoraBwd.main_arg0) = m ((c.tc : Thread Cert.LoraBwd.nD Cert.LoraBwd.τ).loc Cert.LoraBwd.main_arg0)
      ∧ r.2.mem ((c.tc : Thread Cert.LoraBwd.nD Cert.LoraBwd.τ).loc Cert.LoraBwd.main_arg1) = m ((c.tc : Thread Cert.LoraBwd.nD Cert.LoraBwd.τ).loc Cert.LoraBwd.main_arg1)
      ∧ r.2.mem ((c.tc : Thread Cert.LoraBwd.nD Cert.LoraBwd.τ).loc Cert.LoraBwd.main_arg2) = m ((c.tc : Thread Cert.LoraBwd.nD Cert.LoraBwd.τ).loc Cert.LoraBwd.main_arg2)
      ∧ r.2.mem ((c.tc : Thread Cert.LoraBwd.nD Cert.LoraBwd.τ).loc Cert.LoraBwd.main_arg3) = m ((c.tc : Thread Cert.LoraBwd.nD Cert.LoraBwd.τ).loc Cert.LoraBwd.main_arg3)
      ∧ r.2.mem ((c.tc : Thread Cert.LoraBwd.nD Cert.LoraBwd.τ).loc Cert.LoraBwd.main_arg4) = m ((c.tc : Thread Cert.LoraBwd.nD Cert.LoraBwd.τ).loc Cert.LoraBwd.main_arg4)
      ∧ r.2.mem ((c.tc : Thread Cert.LoraBwd.nD Cert.LoraBwd.τ).loc Cert.LoraBwd.main_arg5) = m ((c.tc : Thread Cert.LoraBwd.nD Cert.LoraBwd.τ).loc Cert.LoraBwd.main_arg5)
      ∧ r.2.mem ((c.tc : Thread Cert.LoraBwd.nD Cert.LoraBwd.τ).loc Cert.LoraBwd.main_arg6) = m ((c.tc : Thread Cert.LoraBwd.nD Cert.LoraBwd.τ).loc Cert.LoraBwd.main_arg6))
      ∧ r.2.sem = fun _ => 0)

def quiescent_LoraBwdIdeal [hLoraBwdIdeal : Cert.LoraBwdIdeal.Facts] : Prop :=
  ∀ (m : (ℓ : Loc Cert.LoraBwdIdeal.nD Cert.LoraBwdIdeal.τ Cert.LoraBwdIdeal.sig) → Buf (Elt Ideal) ℓ) (g : Dev Cert.LoraBwdIdeal.nD → PrngReg), Pre_LoraBwdIdeal m →
    θ_run (Cert.LoraBwdIdeal.defs (F := Ideal)) (onTc (τ := Cert.LoraBwdIdeal.τ) (Cert.LoraBwdIdeal.main (F := Ideal))) ⟨m, fun _ => 0, g⟩ (fun r => (∀ c : Dev Cert.LoraBwdIdeal.nD,
      r.2.mem ((c.tc : Thread Cert.LoraBwdIdeal.nD Cert.LoraBwdIdeal.τ).loc Cert.LoraBwdIdeal.main_arg0) = m ((c.tc : Thread Cert.LoraBwdIdeal.nD Cert.LoraBwdIdeal.τ).loc Cert.LoraBwdIdeal.main_arg0)
      ∧ r.2.mem ((c.tc : Thread Cert.LoraBwdIdeal.nD Cert.LoraBwdIdeal.τ).loc Cert.LoraBwdIdeal.main_arg1) = m ((c.tc : Thread Cert.LoraBwdIdeal.nD Cert.LoraBwdIdeal.τ).loc Cert.LoraBwdIdeal.main_arg1)
      ∧ r.2.mem ((c.tc : Thread Cert.LoraBwdIdeal.nD Cert.LoraBwdIdeal.τ).loc Cert.LoraBwdIdeal.main_arg2) = m ((c.tc : Thread Cert.LoraBwdIdeal.nD Cert.LoraBwdIdeal.τ).loc Cert.LoraBwdIdeal.main_arg2)
      ∧ r.2.mem ((c.tc : Thread Cert.LoraBwdIdeal.nD Cert.LoraBwdIdeal.τ).loc Cert.LoraBwdIdeal.main_arg3) = m ((c.tc : Thread Cert.LoraBwdIdeal.nD Cert.LoraBwdIdeal.τ).loc Cert.LoraBwdIdeal.main_arg3)
      ∧ r.2.mem ((c.tc : Thread Cert.LoraBwdIdeal.nD Cert.LoraBwdIdeal.τ).loc Cert.LoraBwdIdeal.main_arg4) = m ((c.tc : Thread Cert.LoraBwdIdeal.nD Cert.LoraBwdIdeal.τ).loc Cert.LoraBwdIdeal.main_arg4)
      ∧ r.2.mem ((c.tc : Thread Cert.LoraBwdIdeal.nD Cert.LoraBwdIdeal.τ).loc Cert.LoraBwdIdeal.main_arg5) = m ((c.tc : Thread Cert.LoraBwdIdeal.nD Cert.LoraBwdIdeal.τ).loc Cert.LoraBwdIdeal.main_arg5)
      ∧ r.2.mem ((c.tc : Thread Cert.LoraBwdIdeal.nD Cert.LoraBwdIdeal.τ).loc Cert.LoraBwdIdeal.main_arg6) = m ((c.tc : Thread Cert.LoraBwdIdeal.nD Cert.LoraBwdIdeal.τ).loc Cert.LoraBwdIdeal.main_arg6))
      ∧ r.2.sem = fun _ => 0)

def quiescent_LoraBwdRefIdeal [hLoraBwdRefIdeal : Cert.LoraBwdRefIdeal.Facts] : Prop :=
  ∀ (m : (ℓ : Loc Cert.LoraBwdRefIdeal.nD Cert.LoraBwdRefIdeal.τ Cert.LoraBwdRefIdeal.sig) → Buf (Elt Ideal) ℓ) (g : Dev Cert.LoraBwdRefIdeal.nD → PrngReg), Pre_LoraBwdRefIdeal m →
    θ_run (Cert.LoraBwdRefIdeal.defs (F := Ideal)) (onTc (τ := Cert.LoraBwdRefIdeal.τ) (Cert.LoraBwdRefIdeal.main (F := Ideal))) ⟨m, fun _ => 0, g⟩ (fun r => (∀ c : Dev Cert.LoraBwdRefIdeal.nD,
      r.2.mem ((c.tc : Thread Cert.LoraBwdRefIdeal.nD Cert.LoraBwdRefIdeal.τ).loc Cert.LoraBwdRefIdeal.main_arg0) = m ((c.tc : Thread Cert.LoraBwdRefIdeal.nD Cert.LoraBwdRefIdeal.τ).loc Cert.LoraBwdRefIdeal.main_arg0)
      ∧ r.2.mem ((c.tc : Thread Cert.LoraBwdRefIdeal.nD Cert.LoraBwdRefIdeal.τ).loc Cert.LoraBwdRefIdeal.main_arg1) = m ((c.tc : Thread Cert.LoraBwdRefIdeal.nD Cert.LoraBwdRefIdeal.τ).loc Cert.LoraBwdRefIdeal.main_arg1)
      ∧ r.2.mem ((c.tc : Thread Cert.LoraBwdRefIdeal.nD Cert.LoraBwdRefIdeal.τ).loc Cert.LoraBwdRefIdeal.main_arg2) = m ((c.tc : Thread Cert.LoraBwdRefIdeal.nD Cert.LoraBwdRefIdeal.τ).loc Cert.LoraBwdRefIdeal.main_arg2)
      ∧ r.2.mem ((c.tc : Thread Cert.LoraBwdRefIdeal.nD Cert.LoraBwdRefIdeal.τ).loc Cert.LoraBwdRefIdeal.main_arg3) = m ((c.tc : Thread Cert.LoraBwdRefIdeal.nD Cert.LoraBwdRefIdeal.τ).loc Cert.LoraBwdRefIdeal.main_arg3)
      ∧ r.2.mem ((c.tc : Thread Cert.LoraBwdRefIdeal.nD Cert.LoraBwdRefIdeal.τ).loc Cert.LoraBwdRefIdeal.main_arg4) = m ((c.tc : Thread Cert.LoraBwdRefIdeal.nD Cert.LoraBwdRefIdeal.τ).loc Cert.LoraBwdRefIdeal.main_arg4)
      ∧ r.2.mem ((c.tc : Thread Cert.LoraBwdRefIdeal.nD Cert.LoraBwdRefIdeal.τ).loc Cert.LoraBwdRefIdeal.main_arg5) = m ((c.tc : Thread Cert.LoraBwdRefIdeal.nD Cert.LoraBwdRefIdeal.τ).loc Cert.LoraBwdRefIdeal.main_arg5)
      ∧ r.2.mem ((c.tc : Thread Cert.LoraBwdRefIdeal.nD Cert.LoraBwdRefIdeal.τ).loc Cert.LoraBwdRefIdeal.main_arg6) = m ((c.tc : Thread Cert.LoraBwdRefIdeal.nD Cert.LoraBwdRefIdeal.τ).loc Cert.LoraBwdRefIdeal.main_arg6))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3))
      ∧ r.2.sem = fun _ => 0)

def quiescent_RwGate [hRwGate : Cert.RwGate.Facts] : Prop :=
  ∀ (m : (ℓ : Loc Cert.RwGate.nD Cert.RwGate.τ Cert.RwGate.sig) → Buf (Elt Bits) ℓ) (g : Dev Cert.RwGate.nD → PrngReg), Pre_RwGate m →
    θ_run (Cert.RwGate.defs (F := Bits)) (onTc (τ := Cert.RwGate.τ) (Cert.RwGate.main (F := Bits))) ⟨m, fun _ => 0, g⟩ (fun r => (∀ c : Dev Cert.RwGate.nD,
      r.2.mem ((c.tc : Thread Cert.RwGate.nD Cert.RwGate.τ).loc Cert.RwGate.main_arg0) = m ((c.tc : Thread Cert.RwGate.nD Cert.RwGate.τ).loc Cert.RwGate.main_arg0)
      ∧ r.2.mem ((c.tc : Thread Cert.RwGate.nD Cert.RwGate.τ).loc Cert.RwGate.main_arg1) = m ((c.tc : Thread Cert.RwGate.nD Cert.RwGate.τ).loc Cert.RwGate.main_arg1))
      ∧ r.2.sem = fun _ => 0)

def quiescent_RwGateIdeal [hRwGateIdeal : Cert.RwGateIdeal.Facts] : Prop :=
  ∀ (m : (ℓ : Loc Cert.RwGateIdeal.nD Cert.RwGateIdeal.τ Cert.RwGateIdeal.sig) → Buf (Elt Ideal) ℓ) (g : Dev Cert.RwGateIdeal.nD → PrngReg), Pre_RwGateIdeal m →
    θ_run (Cert.RwGateIdeal.defs (F := Ideal)) (onTc (τ := Cert.RwGateIdeal.τ) (Cert.RwGateIdeal.main (F := Ideal))) ⟨m, fun _ => 0, g⟩ (fun r => (∀ c : Dev Cert.RwGateIdeal.nD,
      r.2.mem ((c.tc : Thread Cert.RwGateIdeal.nD Cert.RwGateIdeal.τ).loc Cert.RwGateIdeal.main_arg0) = m ((c.tc : Thread Cert.RwGateIdeal.nD Cert.RwGateIdeal.τ).loc Cert.RwGateIdeal.main_arg0)
      ∧ r.2.mem ((c.tc : Thread Cert.RwGateIdeal.nD Cert.RwGateIdeal.τ).loc Cert.RwGateIdeal.main_arg1) = m ((c.tc : Thread Cert.RwGateIdeal.nD Cert.RwGateIdeal.τ).loc Cert.RwGateIdeal.main_arg1))
      ∧ r.2.sem = fun _ => 0)

def quiescent_RwGateRefIdeal [hRwGateRefIdeal : Cert.RwGateRefIdeal.Facts] : Prop :=
  ∀ (m : (ℓ : Loc Cert.RwGateRefIdeal.nD Cert.RwGateRefIdeal.τ Cert.RwGateRefIdeal.sig) → Buf (Elt Ideal) ℓ) (g : Dev Cert.RwGateRefIdeal.nD → PrngReg), Pre_RwGateRefIdeal m →
    θ_run (Cert.RwGateRefIdeal.defs (F := Ideal)) (onTc (τ := Cert.RwGateRefIdeal.τ) (Cert.RwGateRefIdeal.main (F := Ideal))) ⟨m, fun _ => 0, g⟩ (fun r => (∀ c : Dev Cert.RwGateRefIdeal.nD,
      r.2.mem ((c.tc : Thread Cert.RwGateRefIdeal.nD Cert.RwGateRefIdeal.τ).loc Cert.RwGateRefIdeal.main_arg0) = m ((c.tc : Thread Cert.RwGateRefIdeal.nD Cert.RwGateRefIdeal.τ).loc Cert.RwGateRefIdeal.main_arg0)
      ∧ r.2.mem ((c.tc : Thread Cert.RwGateRefIdeal.nD Cert.RwGateRefIdeal.τ).loc Cert.RwGateRefIdeal.main_arg1) = m ((c.tc : Thread Cert.RwGateRefIdeal.nD Cert.RwGateRefIdeal.τ).loc Cert.RwGateRefIdeal.main_arg1))
      ∧ r.2.sem = fun _ => 0)

def quiescent_SwaGate [hSwaGate : Cert.SwaGate.Facts] : Prop :=
  ∀ (m : (ℓ : Loc Cert.SwaGate.nD Cert.SwaGate.τ Cert.SwaGate.sig) → Buf (Elt Bits) ℓ) (g : Dev Cert.SwaGate.nD → PrngReg), Pre_SwaGate m →
    θ_run (Cert.SwaGate.defs (F := Bits)) (onTc (τ := Cert.SwaGate.τ) (Cert.SwaGate.main (F := Bits))) ⟨m, fun _ => 0, g⟩ (fun r => (∀ c : Dev Cert.SwaGate.nD,
      r.2.mem ((c.tc : Thread Cert.SwaGate.nD Cert.SwaGate.τ).loc Cert.SwaGate.main_arg0) = m ((c.tc : Thread Cert.SwaGate.nD Cert.SwaGate.τ).loc Cert.SwaGate.main_arg0)
      ∧ r.2.mem ((c.tc : Thread Cert.SwaGate.nD Cert.SwaGate.τ).loc Cert.SwaGate.main_arg1) = m ((c.tc : Thread Cert.SwaGate.nD Cert.SwaGate.τ).loc Cert.SwaGate.main_arg1))
      ∧ r.2.sem = fun _ => 0)

def quiescent_SwaGateIdeal [hSwaGateIdeal : Cert.SwaGateIdeal.Facts] : Prop :=
  ∀ (m : (ℓ : Loc Cert.SwaGateIdeal.nD Cert.SwaGateIdeal.τ Cert.SwaGateIdeal.sig) → Buf (Elt Ideal) ℓ) (g : Dev Cert.SwaGateIdeal.nD → PrngReg), Pre_SwaGateIdeal m →
    θ_run (Cert.SwaGateIdeal.defs (F := Ideal)) (onTc (τ := Cert.SwaGateIdeal.τ) (Cert.SwaGateIdeal.main (F := Ideal))) ⟨m, fun _ => 0, g⟩ (fun r => (∀ c : Dev Cert.SwaGateIdeal.nD,
      r.2.mem ((c.tc : Thread Cert.SwaGateIdeal.nD Cert.SwaGateIdeal.τ).loc Cert.SwaGateIdeal.main_arg0) = m ((c.tc : Thread Cert.SwaGateIdeal.nD Cert.SwaGateIdeal.τ).loc Cert.SwaGateIdeal.main_arg0)
      ∧ r.2.mem ((c.tc : Thread Cert.SwaGateIdeal.nD Cert.SwaGateIdeal.τ).loc Cert.SwaGateIdeal.main_arg1) = m ((c.tc : Thread Cert.SwaGateIdeal.nD Cert.SwaGateIdeal.τ).loc Cert.SwaGateIdeal.main_arg1))
      ∧ r.2.sem = fun _ => 0)

def quiescent_SwaGateRefIdeal [hSwaGateRefIdeal : Cert.SwaGateRefIdeal.Facts] : Prop :=
  ∀ (m : (ℓ : Loc Cert.SwaGateRefIdeal.nD Cert.SwaGateRefIdeal.τ Cert.SwaGateRefIdeal.sig) → Buf (Elt Ideal) ℓ) (g : Dev Cert.SwaGateRefIdeal.nD → PrngReg), Pre_SwaGateRefIdeal m →
    θ_run (Cert.SwaGateRefIdeal.defs (F := Ideal)) (onTc (τ := Cert.SwaGateRefIdeal.τ) (Cert.SwaGateRefIdeal.main (F := Ideal))) ⟨m, fun _ => 0, g⟩ (fun r => (∀ c : Dev Cert.SwaGateRefIdeal.nD,
      r.2.mem ((c.tc : Thread Cert.SwaGateRefIdeal.nD Cert.SwaGateRefIdeal.τ).loc Cert.SwaGateRefIdeal.main_arg0) = m ((c.tc : Thread Cert.SwaGateRefIdeal.nD Cert.SwaGateRefIdeal.τ).loc Cert.SwaGateRefIdeal.main_arg0)
      ∧ r.2.mem ((c.tc : Thread Cert.SwaGateRefIdeal.nD Cert.SwaGateRefIdeal.τ).loc Cert.SwaGateRefIdeal.main_arg1) = m ((c.tc : Thread Cert.SwaGateRefIdeal.nD Cert.SwaGateRefIdeal.τ).loc Cert.SwaGateRefIdeal.main_arg1))
      ∧ r.2.sem = fun _ => 0)

def quiescent_Lora [hLora : Cert.Lora.Facts] : Prop :=
  ∀ (m : (ℓ : Loc Cert.Lora.nD Cert.Lora.τ Cert.Lora.sig) → Buf (Elt Bits) ℓ) (g : Dev Cert.Lora.nD → PrngReg), Pre_Lora m →
    θ_run (Cert.Lora.defs (F := Bits)) (onTc (τ := Cert.Lora.τ) (Cert.Lora.main (F := Bits))) ⟨m, fun _ => 0, g⟩ (fun r => (∀ c : Dev Cert.Lora.nD,
      r.2.mem ((c.tc : Thread Cert.Lora.nD Cert.Lora.τ).loc Cert.Lora.main_arg0) = m ((c.tc : Thread Cert.Lora.nD Cert.Lora.τ).loc Cert.Lora.main_arg0)
      ∧ r.2.mem ((c.tc : Thread Cert.Lora.nD Cert.Lora.τ).loc Cert.Lora.main_arg1) = m ((c.tc : Thread Cert.Lora.nD Cert.Lora.τ).loc Cert.Lora.main_arg1)
      ∧ r.2.mem ((c.tc : Thread Cert.Lora.nD Cert.Lora.τ).loc Cert.Lora.main_arg2) = m ((c.tc : Thread Cert.Lora.nD Cert.Lora.τ).loc Cert.Lora.main_arg2)
      ∧ r.2.mem ((c.tc : Thread Cert.Lora.nD Cert.Lora.τ).loc Cert.Lora.main_arg3) = m ((c.tc : Thread Cert.Lora.nD Cert.Lora.τ).loc Cert.Lora.main_arg3)
      ∧ r.2.mem ((c.tc : Thread Cert.Lora.nD Cert.Lora.τ).loc Cert.Lora.main_arg4) = m ((c.tc : Thread Cert.Lora.nD Cert.Lora.τ).loc Cert.Lora.main_arg4))
      ∧ r.2.sem = fun _ => 0)

def quiescent_LoraIdeal [hLoraIdeal : Cert.LoraIdeal.Facts] : Prop :=
  ∀ (m : (ℓ : Loc Cert.LoraIdeal.nD Cert.LoraIdeal.τ Cert.LoraIdeal.sig) → Buf (Elt Ideal) ℓ) (g : Dev Cert.LoraIdeal.nD → PrngReg), Pre_LoraIdeal m →
    θ_run (Cert.LoraIdeal.defs (F := Ideal)) (onTc (τ := Cert.LoraIdeal.τ) (Cert.LoraIdeal.main (F := Ideal))) ⟨m, fun _ => 0, g⟩ (fun r => (∀ c : Dev Cert.LoraIdeal.nD,
      r.2.mem ((c.tc : Thread Cert.LoraIdeal.nD Cert.LoraIdeal.τ).loc Cert.LoraIdeal.main_arg0) = m ((c.tc : Thread Cert.LoraIdeal.nD Cert.LoraIdeal.τ).loc Cert.LoraIdeal.main_arg0)
      ∧ r.2.mem ((c.tc : Thread Cert.LoraIdeal.nD Cert.LoraIdeal.τ).loc Cert.LoraIdeal.main_arg1) = m ((c.tc : Thread Cert.LoraIdeal.nD Cert.LoraIdeal.τ).loc Cert.LoraIdeal.main_arg1)
      ∧ r.2.mem ((c.tc : Thread Cert.LoraIdeal.nD Cert.LoraIdeal.τ).loc Cert.LoraIdeal.main_arg2) = m ((c.tc : Thread Cert.LoraIdeal.nD Cert.LoraIdeal.τ).loc Cert.LoraIdeal.main_arg2)
      ∧ r.2.mem ((c.tc : Thread Cert.LoraIdeal.nD Cert.LoraIdeal.τ).loc Cert.LoraIdeal.main_arg3) = m ((c.tc : Thread Cert.LoraIdeal.nD Cert.LoraIdeal.τ).loc Cert.LoraIdeal.main_arg3)
      ∧ r.2.mem ((c.tc : Thread Cert.LoraIdeal.nD Cert.LoraIdeal.τ).loc Cert.LoraIdeal.main_arg4) = m ((c.tc : Thread Cert.LoraIdeal.nD Cert.LoraIdeal.τ).loc Cert.LoraIdeal.main_arg4))
      ∧ r.2.sem = fun _ => 0)

def quiescent_LoraRefIdeal [hLoraRefIdeal : Cert.LoraRefIdeal.Facts] : Prop :=
  ∀ (m : (ℓ : Loc Cert.LoraRefIdeal.nD Cert.LoraRefIdeal.τ Cert.LoraRefIdeal.sig) → Buf (Elt Ideal) ℓ) (g : Dev Cert.LoraRefIdeal.nD → PrngReg), Pre_LoraRefIdeal m →
    θ_run (Cert.LoraRefIdeal.defs (F := Ideal)) (onTc (τ := Cert.LoraRefIdeal.τ) (Cert.LoraRefIdeal.main (F := Ideal))) ⟨m, fun _ => 0, g⟩ (fun r => (∀ c : Dev Cert.LoraRefIdeal.nD,
      r.2.mem ((c.tc : Thread Cert.LoraRefIdeal.nD Cert.LoraRefIdeal.τ).loc Cert.LoraRefIdeal.main_arg0) = m ((c.tc : Thread Cert.LoraRefIdeal.nD Cert.LoraRefIdeal.τ).loc Cert.LoraRefIdeal.main_arg0)
      ∧ r.2.mem ((c.tc : Thread Cert.LoraRefIdeal.nD Cert.LoraRefIdeal.τ).loc Cert.LoraRefIdeal.main_arg1) = m ((c.tc : Thread Cert.LoraRefIdeal.nD Cert.LoraRefIdeal.τ).loc Cert.LoraRefIdeal.main_arg1)
      ∧ r.2.mem ((c.tc : Thread Cert.LoraRefIdeal.nD Cert.LoraRefIdeal.τ).loc Cert.LoraRefIdeal.main_arg2) = m ((c.tc : Thread Cert.LoraRefIdeal.nD Cert.LoraRefIdeal.τ).loc Cert.LoraRefIdeal.main_arg2)
      ∧ r.2.mem ((c.tc : Thread Cert.LoraRefIdeal.nD Cert.LoraRefIdeal.τ).loc Cert.LoraRefIdeal.main_arg3) = m ((c.tc : Thread Cert.LoraRefIdeal.nD Cert.LoraRefIdeal.τ).loc Cert.LoraRefIdeal.main_arg3)
      ∧ r.2.mem ((c.tc : Thread Cert.LoraRefIdeal.nD Cert.LoraRefIdeal.τ).loc Cert.LoraRefIdeal.main_arg4) = m ((c.tc : Thread Cert.LoraRefIdeal.nD Cert.LoraRefIdeal.τ).loc Cert.LoraRefIdeal.main_arg4))
      ∧ r.2.sem = fun _ => 0)

def quiescent_RwInlDw [hRwInlDw : Cert.RwInlDw.Facts] : Prop :=
  ∀ (m : (ℓ : Loc Cert.RwInlDw.nD Cert.RwInlDw.τ Cert.RwInlDw.sig) → Buf (Elt Bits) ℓ) (g : Dev Cert.RwInlDw.nD → PrngReg), Pre_RwInlDw m →
    θ_run (Cert.RwInlDw.defs (F := Bits)) (onTc (τ := Cert.RwInlDw.τ) (Cert.RwInlDw.main (F := Bits))) ⟨m, fun _ => 0, g⟩ (fun r => (∀ c : Dev Cert.RwInlDw.nD,
      r.2.mem ((c.tc : Thread Cert.RwInlDw.nD Cert.RwInlDw.τ).loc Cert.RwInlDw.main_arg0) = m ((c.tc : Thread Cert.RwInlDw.nD Cert.RwInlDw.τ).loc Cert.RwInlDw.main_arg0)
      ∧ r.2.mem ((c.tc : Thread Cert.RwInlDw.nD Cert.RwInlDw.τ).loc Cert.RwInlDw.main_arg1) = m ((c.tc : Thread Cert.RwInlDw.nD Cert.RwInlDw.τ).loc Cert.RwInlDw.main_arg1))
      ∧ r.2.sem = fun _ => 0)

def quiescent_RwInlDwIdeal [hRwInlDwIdeal : Cert.RwInlDwIdeal.Facts] : Prop :=
  ∀ (m : (ℓ : Loc Cert.RwInlDwIdeal.nD Cert.RwInlDwIdeal.τ Cert.RwInlDwIdeal.sig) → Buf (Elt Ideal) ℓ) (g : Dev Cert.RwInlDwIdeal.nD → PrngReg), Pre_RwInlDwIdeal m →
    θ_run (Cert.RwInlDwIdeal.defs (F := Ideal)) (onTc (τ := Cert.RwInlDwIdeal.τ) (Cert.RwInlDwIdeal.main (F := Ideal))) ⟨m, fun _ => 0, g⟩ (fun r => (∀ c : Dev Cert.RwInlDwIdeal.nD,
      r.2.mem ((c.tc : Thread Cert.RwInlDwIdeal.nD Cert.RwInlDwIdeal.τ).loc Cert.RwInlDwIdeal.main_arg0) = m ((c.tc : Thread Cert.RwInlDwIdeal.nD Cert.RwInlDwIdeal.τ).loc Cert.RwInlDwIdeal.main_arg0)
      ∧ r.2.mem ((c.tc : Thread Cert.RwInlDwIdeal.nD Cert.RwInlDwIdeal.τ).loc Cert.RwInlDwIdeal.main_arg1) = m ((c.tc : Thread Cert.RwInlDwIdeal.nD Cert.RwInlDwIdeal.τ).loc Cert.RwInlDwIdeal.main_arg1))
      ∧ r.2.sem = fun _ => 0)

def quiescent_RwInlDwRefIdeal [hRwInlDwRefIdeal : Cert.RwInlDwRefIdeal.Facts] : Prop :=
  ∀ (m : (ℓ : Loc Cert.RwInlDwRefIdeal.nD Cert.RwInlDwRefIdeal.τ Cert.RwInlDwRefIdeal.sig) → Buf (Elt Ideal) ℓ) (g : Dev Cert.RwInlDwRefIdeal.nD → PrngReg), Pre_RwInlDwRefIdeal m →
    θ_run (Cert.RwInlDwRefIdeal.defs (F := Ideal)) (onTc (τ := Cert.RwInlDwRefIdeal.τ) (Cert.RwInlDwRefIdeal.main (F := Ideal))) ⟨m, fun _ => 0, g⟩ (fun r => (∀ c : Dev Cert.RwInlDwRefIdeal.nD,
      r.2.mem ((c.tc : Thread Cert.RwInlDwRefIdeal.nD Cert.RwInlDwRefIdeal.τ).loc Cert.RwInlDwRefIdeal.main_arg0) = m ((c.tc : Thread Cert.RwInlDwRefIdeal.nD Cert.RwInlDwRefIdeal.τ).loc Cert.RwInlDwRefIdeal.main_arg0)
      ∧ r.2.mem ((c.tc : Thread Cert.RwInlDwRefIdeal.nD Cert.RwInlDwRefIdeal.τ).loc Cert.RwInlDwRefIdeal.main_arg1) = m ((c.tc : Thread Cert.RwInlDwRefIdeal.nD Cert.RwInlDwRefIdeal.τ).loc Cert.RwInlDwRefIdeal.main_arg1))
      ∧ r.2.sem = fun _ => 0)

def quiescent_RwInlDx [hRwInlDx : Cert.RwInlDx.Facts] : Prop :=
  ∀ (m : (ℓ : Loc Cert.RwInlDx.nD Cert.RwInlDx.τ Cert.RwInlDx.sig) → Buf (Elt Bits) ℓ) (g : Dev Cert.RwInlDx.nD → PrngReg), Pre_RwInlDx m →
    θ_run (Cert.RwInlDx.defs (F := Bits)) (onTc (τ := Cert.RwInlDx.τ) (Cert.RwInlDx.main (F := Bits))) ⟨m, fun _ => 0, g⟩ (fun r => (∀ c : Dev Cert.RwInlDx.nD,
      r.2.mem ((c.tc : Thread Cert.RwInlDx.nD Cert.RwInlDx.τ).loc Cert.RwInlDx.main_arg0) = m ((c.tc : Thread Cert.RwInlDx.nD Cert.RwInlDx.τ).loc Cert.RwInlDx.main_arg0)
      ∧ r.2.mem ((c.tc : Thread Cert.RwInlDx.nD Cert.RwInlDx.τ).loc Cert.RwInlDx.main_arg1) = m ((c.tc : Thread Cert.RwInlDx.nD Cert.RwInlDx.τ).loc Cert.RwInlDx.main_arg1))
      ∧ r.2.sem = fun _ => 0)

def quiescent_RwInlDxIdeal [hRwInlDxIdeal : Cert.RwInlDxIdeal.Facts] : Prop :=
  ∀ (m : (ℓ : Loc Cert.RwInlDxIdeal.nD Cert.RwInlDxIdeal.τ Cert.RwInlDxIdeal.sig) → Buf (Elt Ideal) ℓ) (g : Dev Cert.RwInlDxIdeal.nD → PrngReg), Pre_RwInlDxIdeal m →
    θ_run (Cert.RwInlDxIdeal.defs (F := Ideal)) (onTc (τ := Cert.RwInlDxIdeal.τ) (Cert.RwInlDxIdeal.main (F := Ideal))) ⟨m, fun _ => 0, g⟩ (fun r => (∀ c : Dev Cert.RwInlDxIdeal.nD,
      r.2.mem ((c.tc : Thread Cert.RwInlDxIdeal.nD Cert.RwInlDxIdeal.τ).loc Cert.RwInlDxIdeal.main_arg0) = m ((c.tc : Thread Cert.RwInlDxIdeal.nD Cert.RwInlDxIdeal.τ).loc Cert.RwInlDxIdeal.main_arg0)
      ∧ r.2.mem ((c.tc : Thread Cert.RwInlDxIdeal.nD Cert.RwInlDxIdeal.τ).loc Cert.RwInlDxIdeal.main_arg1) = m ((c.tc : Thread Cert.RwInlDxIdeal.nD Cert.RwInlDxIdeal.τ).loc Cert.RwInlDxIdeal.main_arg1))
      ∧ r.2.sem = fun _ => 0)

def quiescent_RwInlDxRefIdeal [hRwInlDxRefIdeal : Cert.RwInlDxRefIdeal.Facts] : Prop :=
  ∀ (m : (ℓ : Loc Cert.RwInlDxRefIdeal.nD Cert.RwInlDxRefIdeal.τ Cert.RwInlDxRefIdeal.sig) → Buf (Elt Ideal) ℓ) (g : Dev Cert.RwInlDxRefIdeal.nD → PrngReg), Pre_RwInlDxRefIdeal m →
    θ_run (Cert.RwInlDxRefIdeal.defs (F := Ideal)) (onTc (τ := Cert.RwInlDxRefIdeal.τ) (Cert.RwInlDxRefIdeal.main (F := Ideal))) ⟨m, fun _ => 0, g⟩ (fun r => (∀ c : Dev Cert.RwInlDxRefIdeal.nD,
      r.2.mem ((c.tc : Thread Cert.RwInlDxRefIdeal.nD Cert.RwInlDxRefIdeal.τ).loc Cert.RwInlDxRefIdeal.main_arg0) = m ((c.tc : Thread Cert.RwInlDxRefIdeal.nD Cert.RwInlDxRefIdeal.τ).loc Cert.RwInlDxRefIdeal.main_arg0)
      ∧ r.2.mem ((c.tc : Thread Cert.RwInlDxRefIdeal.nD Cert.RwInlDxRefIdeal.τ).loc Cert.RwInlDxRefIdeal.main_arg1) = m ((c.tc : Thread Cert.RwInlDxRefIdeal.nD Cert.RwInlDxRefIdeal.τ).loc Cert.RwInlDxRefIdeal.main_arg1))
      ∧ r.2.sem = fun _ => 0)

def quiescent_RwInl [hRwInl : Cert.RwInl.Facts] : Prop :=
  ∀ (m : (ℓ : Loc Cert.RwInl.nD Cert.RwInl.τ Cert.RwInl.sig) → Buf (Elt Bits) ℓ) (g : Dev Cert.RwInl.nD → PrngReg), Pre_RwInl m →
    θ_run (Cert.RwInl.defs (F := Bits)) (onTc (τ := Cert.RwInl.τ) (Cert.RwInl.main (F := Bits))) ⟨m, fun _ => 0, g⟩ (fun r => (∀ c : Dev Cert.RwInl.nD,
      r.2.mem ((c.tc : Thread Cert.RwInl.nD Cert.RwInl.τ).loc Cert.RwInl.main_arg0) = m ((c.tc : Thread Cert.RwInl.nD Cert.RwInl.τ).loc Cert.RwInl.main_arg0)
      ∧ r.2.mem ((c.tc : Thread Cert.RwInl.nD Cert.RwInl.τ).loc Cert.RwInl.main_arg1) = m ((c.tc : Thread Cert.RwInl.nD Cert.RwInl.τ).loc Cert.RwInl.main_arg1))
      ∧ r.2.sem = fun _ => 0)

def quiescent_RwInlIdeal [hRwInlIdeal : Cert.RwInlIdeal.Facts] : Prop :=
  ∀ (m : (ℓ : Loc Cert.RwInlIdeal.nD Cert.RwInlIdeal.τ Cert.RwInlIdeal.sig) → Buf (Elt Ideal) ℓ) (g : Dev Cert.RwInlIdeal.nD → PrngReg), Pre_RwInlIdeal m →
    θ_run (Cert.RwInlIdeal.defs (F := Ideal)) (onTc (τ := Cert.RwInlIdeal.τ) (Cert.RwInlIdeal.main (F := Ideal))) ⟨m, fun _ => 0, g⟩ (fun r => (∀ c : Dev Cert.RwInlIdeal.nD,
      r.2.mem ((c.tc : Thread Cert.RwInlIdeal.nD Cert.RwInlIdeal.τ).loc Cert.RwInlIdeal.main_arg0) = m ((c.tc : Thread Cert.RwInlIdeal.nD Cert.RwInlIdeal.τ).loc Cert.RwInlIdeal.main_arg0)
      ∧ r.2.mem ((c.tc : Thread Cert.RwInlIdeal.nD Cert.RwInlIdeal.τ).loc Cert.RwInlIdeal.main_arg1) = m ((c.tc : Thread Cert.RwInlIdeal.nD Cert.RwInlIdeal.τ).loc Cert.RwInlIdeal.main_arg1))
      ∧ r.2.sem = fun _ => 0)

def quiescent_RwInlRefIdeal [hRwInlRefIdeal : Cert.RwInlRefIdeal.Facts] : Prop :=
  ∀ (m : (ℓ : Loc Cert.RwInlRefIdeal.nD Cert.RwInlRefIdeal.τ Cert.RwInlRefIdeal.sig) → Buf (Elt Ideal) ℓ) (g : Dev Cert.RwInlRefIdeal.nD → PrngReg), Pre_RwInlRefIdeal m →
    θ_run (Cert.RwInlRefIdeal.defs (F := Ideal)) (onTc (τ := Cert.RwInlRefIdeal.τ) (Cert.RwInlRefIdeal.main (F := Ideal))) ⟨m, fun _ => 0, g⟩ (fun r => (∀ c : Dev Cert.RwInlRefIdeal.nD,
      r.2.mem ((c.tc : Thread Cert.RwInlRefIdeal.nD Cert.RwInlRefIdeal.τ).loc Cert.RwInlRefIdeal.main_arg0) = m ((c.tc : Thread Cert.RwInlRefIdeal.nD Cert.RwInlRefIdeal.τ).loc Cert.RwInlRefIdeal.main_arg0)
      ∧ r.2.mem ((c.tc : Thread Cert.RwInlRefIdeal.nD Cert.RwInlRefIdeal.τ).loc Cert.RwInlRefIdeal.main_arg1) = m ((c.tc : Thread Cert.RwInlRefIdeal.nD Cert.RwInlRefIdeal.τ).loc Cert.RwInlRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_v173) = v1 c
          ∧ r.2.mem ((c.tc : Thread Cert.ReferenceIdeal.nD Cert.ReferenceIdeal.τ).loc Cert.ReferenceIdeal.main_v174) = v2 c
          ∧ r.2.mem ((c.tc : Thread Cert.ReferenceIdeal.nD Cert.ReferenceIdeal.τ).loc Cert.ReferenceIdeal.main_v109) = v3 c
          ∧ r.2.mem ((c.tc : Thread Cert.ReferenceIdeal.nD Cert.ReferenceIdeal.τ).loc Cert.ReferenceIdeal.main_v175) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v8) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v5) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_SgInDw_SgInDwIdeal : Prop :=
  True

def algebraic_SgInDwIdeal_SgInDwRefIdeal [hSgInDwIdeal : Cert.SgInDwIdeal.Facts] [hSgInDwRefIdeal : Cert.SgInDwRefIdeal.Facts] : Prop :=
  ∀ (m : (ℓ : Loc Cert.SgInDwIdeal.nD Cert.SgInDwIdeal.τ Cert.SgInDwIdeal.sig) → Buf (Elt Ideal) ℓ) (g : Dev Cert.SgInDwIdeal.nD → PrngReg)
    (m' : (ℓ : Loc Cert.SgInDwRefIdeal.nD Cert.SgInDwRefIdeal.τ Cert.SgInDwRefIdeal.sig) → Buf (Elt Ideal) ℓ) (g' : Dev Cert.SgInDwRefIdeal.nD → PrngReg), Pre_SgInDwIdeal m →
    (∀ c : Dev Cert.SgInDwIdeal.nD,
      m' ((c.tc : Thread Cert.SgInDwRefIdeal.nD Cert.SgInDwRefIdeal.τ).loc Cert.SgInDwRefIdeal.main_arg0) = m ((c.tc : Thread Cert.SgInDwIdeal.nD Cert.SgInDwIdeal.τ).loc Cert.SgInDwIdeal.main_arg0)
      ∧ m' ((c.tc : Thread Cert.SgInDwRefIdeal.nD Cert.SgInDwRefIdeal.τ).loc Cert.SgInDwRefIdeal.main_arg1) = m ((c.tc : Thread Cert.SgInDwIdeal.nD Cert.SgInDwIdeal.τ).loc Cert.SgInDwIdeal.main_arg1)) →
    ∃ (v0 : (c : Dev Cert.SgInDwIdeal.nD) → Buf (Elt Ideal) ((c.tc : Thread Cert.SgInDwIdeal.nD Cert.SgInDwIdeal.τ).loc Cert.SgInDwIdeal.main_v0)),
      θ_run (Cert.SgInDwIdeal.defs (F := Ideal)) (onTc (τ := Cert.SgInDwIdeal.τ) (Cert.SgInDwIdeal.main (F := Ideal))) ⟨m, fun _ => 0, g⟩ (fun r => ∀ c : Dev Cert.SgInDwIdeal.nD,
          r.2.mem ((c.tc : Thread Cert.SgInDwIdeal.nD Cert.SgInDwIdeal.τ).loc Cert.SgInDwIdeal.main_v0) = v0 c
          ∧ r.2.mem ((c.tc : Thread Cert.SgInDwIdeal.nD Cert.SgInDwIdeal.τ).loc Cert.SgInDwIdeal.main_arg0) = m ((c.tc : Thread Cert.SgInDwIdeal.nD Cert.SgInDwIdeal.τ).loc Cert.SgInDwIdeal.main_arg0)
          ∧ r.2.mem ((c.tc : Thread Cert.SgInDwIdeal.nD Cert.SgInDwIdeal.τ).loc Cert.SgInDwIdeal.main_arg1) = m ((c.tc : Thread Cert.SgInDwIdeal.nD Cert.SgInDwIdeal.τ).loc Cert.SgInDwIdeal.main_arg1))
      ∧ θ_run (Cert.SgInDwRefIdeal.defs (F := Ideal)) (onTc (τ := Cert.SgInDwRefIdeal.τ) (Cert.SgInDwRefIdeal.main (F := Ideal))) ⟨m', fun _ => 0, g'⟩ (fun r => ∀ c : Dev Cert.SgInDwRefIdeal.nD,
          r.2.mem ((c.tc : Thread Cert.SgInDwRefIdeal.nD Cert.SgInDwRefIdeal.τ).loc Cert.SgInDwRefIdeal.main_v8) = v0 c
          ∧ r.2.mem ((c.tc : Thread Cert.SgInDwRefIdeal.nD Cert.SgInDwRefIdeal.τ).loc Cert.SgInDwRefIdeal.main_arg0) = m' ((c.tc : Thread Cert.SgInDwRefIdeal.nD Cert.SgInDwRefIdeal.τ).loc Cert.SgInDwRefIdeal.main_arg0)
          ∧ r.2.mem ((c.tc : Thread Cert.SgInDwRefIdeal.nD Cert.SgInDwRefIdeal.τ).loc Cert.SgInDwRefIdeal.main_arg1) = m' ((c.tc : Thread Cert.SgInDwRefIdeal.nD Cert.SgInDwRefIdeal.τ).loc Cert.SgInDwRefIdeal.main_arg1))

def preserves_SgInDx_SgInDxIdeal : Prop :=
  True

def algebraic_SgInDxIdeal_SgInDxRefIdeal [hSgInDxIdeal : Cert.SgInDxIdeal.Facts] [hSgInDxRefIdeal : Cert.SgInDxRefIdeal.Facts] : Prop :=
  ∀ (m : (ℓ : Loc Cert.SgInDxIdeal.nD Cert.SgInDxIdeal.τ Cert.SgInDxIdeal.sig) → Buf (Elt Ideal) ℓ) (g : Dev Cert.SgInDxIdeal.nD → PrngReg)
    (m' : (ℓ : Loc Cert.SgInDxRefIdeal.nD Cert.SgInDxRefIdeal.τ Cert.SgInDxRefIdeal.sig) → Buf (Elt Ideal) ℓ) (g' : Dev Cert.SgInDxRefIdeal.nD → PrngReg), Pre_SgInDxIdeal m →
    (∀ c : Dev Cert.SgInDxIdeal.nD,
      m' ((c.tc : Thread Cert.SgInDxRefIdeal.nD Cert.SgInDxRefIdeal.τ).loc Cert.SgInDxRefIdeal.main_arg0) = m ((c.tc : Thread Cert.SgInDxIdeal.nD Cert.SgInDxIdeal.τ).loc Cert.SgInDxIdeal.main_arg0)
      ∧ m' ((c.tc : Thread Cert.SgInDxRefIdeal.nD Cert.SgInDxRefIdeal.τ).loc Cert.SgInDxRefIdeal.main_arg1) = m ((c.tc : Thread Cert.SgInDxIdeal.nD Cert.SgInDxIdeal.τ).loc Cert.SgInDxIdeal.main_arg1)) →
    ∃ (v0 : (c : Dev Cert.SgInDxIdeal.nD) → Buf (Elt Ideal) ((c.tc : Thread Cert.SgInDxIdeal.nD Cert.SgInDxIdeal.τ).loc Cert.SgInDxIdeal.main_v1)),
      θ_run (Cert.SgInDxIdeal.defs (F := Ideal)) (onTc (τ := Cert.SgInDxIdeal.τ) (Cert.SgInDxIdeal.main (F := Ideal))) ⟨m, fun _ => 0, g⟩ (fun r => ∀ c : Dev Cert.SgInDxIdeal.nD,
          r.2.mem ((c.tc : Thread Cert.SgInDxIdeal.nD Cert.SgInDxIdeal.τ).loc Cert.SgInDxIdeal.main_v1) = v0 c
          ∧ r.2.mem ((c.tc : Thread Cert.SgInDxIdeal.nD Cert.SgInDxIdeal.τ).loc Cert.SgInDxIdeal.main_arg0) = m ((c.tc : Thread Cert.SgInDxIdeal.nD Cert.SgInDxIdeal.τ).loc Cert.SgInDxIdeal.main_arg0)
          ∧ r.2.mem ((c.tc : Thread Cert.SgInDxIdeal.nD Cert.SgInDxIdeal.τ).loc Cert.SgInDxIdeal.main_arg1) = m ((c.tc : Thread Cert.SgInDxIdeal.nD Cert.SgInDxIdeal.τ).loc Cert.SgInDxIdeal.main_arg1))
      ∧ θ_run (Cert.SgInDxRefIdeal.defs (F := Ideal)) (onTc (τ := Cert.SgInDxRefIdeal.τ) (Cert.SgInDxRefIdeal.main (F := Ideal))) ⟨m', fun _ => 0, g'⟩ (fun r => ∀ c : Dev Cert.SgInDxRefIdeal.nD,
          r.2.mem ((c.tc : Thread Cert.SgInDxRefIdeal.nD Cert.SgInDxRefIdeal.τ).loc Cert.SgInDxRefIdeal.main_v5) = v0 c
          ∧ r.2.mem ((c.tc : Thread Cert.SgInDxRefIdeal.nD Cert.SgInDxRefIdeal.τ).loc Cert.SgInDxRefIdeal.main_arg0) = m' ((c.tc : Thread Cert.SgInDxRefIdeal.nD Cert.SgInDxRefIdeal.τ).loc Cert.SgInDxRefIdeal.main_arg0)
          ∧ r.2.mem ((c.tc : Thread Cert.SgInDxRefIdeal.nD Cert.SgInDxRefIdeal.τ).loc Cert.SgInDxRefIdeal.main_arg1) = m' ((c.tc : Thread Cert.SgInDxRefIdeal.nD Cert.SgInDxRefIdeal.τ).loc Cert.SgInDxRefIdeal.main_arg1))

def preserves_RwInDw_RwInDwIdeal : Prop :=
  True

def algebraic_RwInDwIdeal_RwInDwRefIdeal [hRwInDwIdeal : Cert.RwInDwIdeal.Facts] [hRwInDwRefIdeal : Cert.RwInDwRefIdeal.Facts] : Prop :=
  ∀ (m : (ℓ : Loc Cert.RwInDwIdeal.nD Cert.RwInDwIdeal.τ Cert.RwInDwIdeal.sig) → Buf (Elt Ideal) ℓ) (g : Dev Cert.RwInDwIdeal.nD → PrngReg)
    (m' : (ℓ : Loc Cert.RwInDwRefIdeal.nD Cert.RwInDwRefIdeal.τ Cert.RwInDwRefIdeal.sig) → Buf (Elt Ideal) ℓ) (g' : Dev Cert.RwInDwRefIdeal.nD → PrngReg), Pre_RwInDwIdeal m →
    (∀ c : Dev Cert.RwInDwIdeal.nD,
      m' ((c.tc : Thread Cert.RwInDwRefIdeal.nD Cert.RwInDwRefIdeal.τ).loc Cert.RwInDwRefIdeal.main_arg0) = m ((c.tc : Thread Cert.RwInDwIdeal.nD Cert.RwInDwIdeal.τ).loc Cert.RwInDwIdeal.main_arg0)
      ∧ m' ((c.tc : Thread Cert.RwInDwRefIdeal.nD Cert.RwInDwRefIdeal.τ).loc Cert.RwInDwRefIdeal.main_arg1) = m ((c.tc : Thread Cert.RwInDwIdeal.nD Cert.RwInDwIdeal.τ).loc Cert.RwInDwIdeal.main_arg1)) →
    ∃ (v0 : (c : Dev Cert.RwInDwIdeal.nD) → Buf (Elt Ideal) ((c.tc : Thread Cert.RwInDwIdeal.nD Cert.RwInDwIdeal.τ).loc Cert.RwInDwIdeal.main_v0)),
      θ_run (Cert.RwInDwIdeal.defs (F := Ideal)) (onTc (τ := Cert.RwInDwIdeal.τ) (Cert.RwInDwIdeal.main (F := Ideal))) ⟨m, fun _ => 0, g⟩ (fun r => ∀ c : Dev Cert.RwInDwIdeal.nD,
          r.2.mem ((c.tc : Thread Cert.RwInDwIdeal.nD Cert.RwInDwIdeal.τ).loc Cert.RwInDwIdeal.main_v0) = v0 c
          ∧ r.2.mem ((c.tc : Thread Cert.RwInDwIdeal.nD Cert.RwInDwIdeal.τ).loc Cert.RwInDwIdeal.main_arg0) = m ((c.tc : Thread Cert.RwInDwIdeal.nD Cert.RwInDwIdeal.τ).loc Cert.RwInDwIdeal.main_arg0)
          ∧ r.2.mem ((c.tc : Thread Cert.RwInDwIdeal.nD Cert.RwInDwIdeal.τ).loc Cert.RwInDwIdeal.main_arg1) = m ((c.tc : Thread Cert.RwInDwIdeal.nD Cert.RwInDwIdeal.τ).loc Cert.RwInDwIdeal.main_arg1))
      ∧ θ_run (Cert.RwInDwRefIdeal.defs (F := Ideal)) (onTc (τ := Cert.RwInDwRefIdeal.τ) (Cert.RwInDwRefIdeal.main (F := Ideal))) ⟨m', fun _ => 0, g'⟩ (fun r => ∀ c : Dev Cert.RwInDwRefIdeal.nD,
          r.2.mem ((c.tc : Thread Cert.RwInDwRefIdeal.nD Cert.RwInDwRefIdeal.τ).loc Cert.RwInDwRefIdeal.main_v8) = v0 c
          ∧ r.2.mem ((c.tc : Thread Cert.RwInDwRefIdeal.nD Cert.RwInDwRefIdeal.τ).loc Cert.RwInDwRefIdeal.main_arg0) = m' ((c.tc : Thread Cert.RwInDwRefIdeal.nD Cert.RwInDwRefIdeal.τ).loc Cert.RwInDwRefIdeal.main_arg0)
          ∧ r.2.mem ((c.tc : Thread Cert.RwInDwRefIdeal.nD Cert.RwInDwRefIdeal.τ).loc Cert.RwInDwRefIdeal.main_arg1) = m' ((c.tc : Thread Cert.RwInDwRefIdeal.nD Cert.RwInDwRefIdeal.τ).loc Cert.RwInDwRefIdeal.main_arg1))

def preserves_RwInDx_RwInDxIdeal : Prop :=
  True

def algebraic_RwInDxIdeal_RwInDxRefIdeal [hRwInDxIdeal : Cert.RwInDxIdeal.Facts] [hRwInDxRefIdeal : Cert.RwInDxRefIdeal.Facts] : Prop :=
  ∀ (m : (ℓ : Loc Cert.RwInDxIdeal.nD Cert.RwInDxIdeal.τ Cert.RwInDxIdeal.sig) → Buf (Elt Ideal) ℓ) (g : Dev Cert.RwInDxIdeal.nD → PrngReg)
    (m' : (ℓ : Loc Cert.RwInDxRefIdeal.nD Cert.RwInDxRefIdeal.τ Cert.RwInDxRefIdeal.sig) → Buf (Elt Ideal) ℓ) (g' : Dev Cert.RwInDxRefIdeal.nD → PrngReg), Pre_RwInDxIdeal m →
    (∀ c : Dev Cert.RwInDxIdeal.nD,
      m' ((c.tc : Thread Cert.RwInDxRefIdeal.nD Cert.RwInDxRefIdeal.τ).loc Cert.RwInDxRefIdeal.main_arg0) = m ((c.tc : Thread Cert.RwInDxIdeal.nD Cert.RwInDxIdeal.τ).loc Cert.RwInDxIdeal.main_arg0)
      ∧ m' ((c.tc : Thread Cert.RwInDxRefIdeal.nD Cert.RwInDxRefIdeal.τ).loc Cert.RwInDxRefIdeal.main_arg1) = m ((c.tc : Thread Cert.RwInDxIdeal.nD Cert.RwInDxIdeal.τ).loc Cert.RwInDxIdeal.main_arg1)
      ∧ m' ((c.tc : Thread Cert.RwInDxRefIdeal.nD Cert.RwInDxRefIdeal.τ).loc Cert.RwInDxRefIdeal.main_arg2) = m ((c.tc : Thread Cert.RwInDxIdeal.nD Cert.RwInDxIdeal.τ).loc Cert.RwInDxIdeal.main_arg2)) →
    ∃ (v0 : (c : Dev Cert.RwInDxIdeal.nD) → Buf (Elt Ideal) ((c.tc : Thread Cert.RwInDxIdeal.nD Cert.RwInDxIdeal.τ).loc Cert.RwInDxIdeal.main_v1)),
      θ_run (Cert.RwInDxIdeal.defs (F := Ideal)) (onTc (τ := Cert.RwInDxIdeal.τ) (Cert.RwInDxIdeal.main (F := Ideal))) ⟨m, fun _ => 0, g⟩ (fun r => ∀ c : Dev Cert.RwInDxIdeal.nD,
          r.2.mem ((c.tc : Thread Cert.RwInDxIdeal.nD Cert.RwInDxIdeal.τ).loc Cert.RwInDxIdeal.main_v1) = v0 c
          ∧ r.2.mem ((c.tc : Thread Cert.RwInDxIdeal.nD Cert.RwInDxIdeal.τ).loc Cert.RwInDxIdeal.main_arg0) = m ((c.tc : Thread Cert.RwInDxIdeal.nD Cert.RwInDxIdeal.τ).loc Cert.RwInDxIdeal.main_arg0)
          ∧ r.2.mem ((c.tc : Thread Cert.RwInDxIdeal.nD Cert.RwInDxIdeal.τ).loc Cert.RwInDxIdeal.main_arg1) = m ((c.tc : Thread Cert.RwInDxIdeal.nD Cert.RwInDxIdeal.τ).loc Cert.RwInDxIdeal.main_arg1)
          ∧ r.2.mem ((c.tc : Thread Cert.RwInDxIdeal.nD Cert.RwInDxIdeal.τ).loc Cert.RwInDxIdeal.main_arg2) = m ((c.tc : Thread Cert.RwInDxIdeal.nD Cert.RwInDxIdeal.τ).loc Cert.RwInDxIdeal.main_arg2))
      ∧ θ_run (Cert.RwInDxRefIdeal.defs (F := Ideal)) (onTc (τ := Cert.RwInDxRefIdeal.τ) (Cert.RwInDxRefIdeal.main (F := Ideal))) ⟨m', fun _ => 0, g'⟩ (fun r => ∀ c : Dev Cert.RwInDxRefIdeal.nD,
          r.2.mem ((c.tc : Thread Cert.RwInDxRefIdeal.nD Cert.RwInDxRefIdeal.τ).loc Cert.RwInDxRefIdeal.main_v6) = v0 c
          ∧ r.2.mem ((c.tc : Thread Cert.RwInDxRefIdeal.nD Cert.RwInDxRefIdeal.τ).loc Cert.RwInDxRefIdeal.main_arg0) = m' ((c.tc : Thread Cert.RwInDxRefIdeal.nD Cert.RwInDxRefIdeal.τ).loc Cert.RwInDxRefIdeal.main_arg0)
          ∧ r.2.mem ((c.tc : Thread Cert.RwInDxRefIdeal.nD Cert.RwInDxRefIdeal.τ).loc Cert.RwInDxRefIdeal.main_arg1) = m' ((c.tc : Thread Cert.RwInDxRefIdeal.nD Cert.RwInDxRefIdeal.τ).loc Cert.RwInDxRefIdeal.main_arg1)
          ∧ r.2.mem ((c.tc : Thread Cert.RwInDxRefIdeal.nD Cert.RwInDxRefIdeal.τ).loc Cert.RwInDxRefIdeal.main_arg2) = m' ((c.tc : Thread Cert.RwInDxRefIdeal.nD Cert.RwInDxRefIdeal.τ).loc Cert.RwInDxRefIdeal.main_arg2))

def preserves_SgIn_SgInIdeal : Prop :=
  True

def algebraic_SgInIdeal_SgInRefIdeal [hSgInIdeal : Cert.SgInIdeal.Facts] [hSgInRefIdeal : Cert.SgInRefIdeal.Facts] : Prop :=
  ∀ (m : (ℓ : Loc Cert.SgInIdeal.nD Cert.SgInIdeal.τ Cert.SgInIdeal.sig) → Buf (Elt Ideal) ℓ) (g : Dev Cert.SgInIdeal.nD → PrngReg)
    (m' : (ℓ : Loc Cert.SgInRefIdeal.nD Cert.SgInRefIdeal.τ Cert.SgInRefIdeal.sig) → Buf (Elt Ideal) ℓ) (g' : Dev Cert.SgInRefIdeal.nD → PrngReg), Pre_SgInIdeal m →
    (∀ c : Dev Cert.SgInIdeal.nD,
      m' ((c.tc : Thread Cert.SgInRefIdeal.nD Cert.SgInRefIdeal.τ).loc Cert.SgInRefIdeal.main_arg0) = m ((c.tc : Thread Cert.SgInIdeal.nD Cert.SgInIdeal.τ).loc Cert.SgInIdeal.main_arg0)
      ∧ m' ((c.tc : Thread Cert.SgInRefIdeal.nD Cert.SgInRefIdeal.τ).loc Cert.SgInRefIdeal.main_arg1) = m ((c.tc : Thread Cert.SgInIdeal.nD Cert.SgInIdeal.τ).loc Cert.SgInIdeal.main_arg1)) →
    ∃ (v0 : (c : Dev Cert.SgInIdeal.nD) → Buf (Elt Ideal) ((c.tc : Thread Cert.SgInIdeal.nD Cert.SgInIdeal.τ).loc Cert.SgInIdeal.main_v1)),
      θ_run (Cert.SgInIdeal.defs (F := Ideal)) (onTc (τ := Cert.SgInIdeal.τ) (Cert.SgInIdeal.main (F := Ideal))) ⟨m, fun _ => 0, g⟩ (fun r => ∀ c : Dev Cert.SgInIdeal.nD,
          r.2.mem ((c.tc : Thread Cert.SgInIdeal.nD Cert.SgInIdeal.τ).loc Cert.SgInIdeal.main_v1) = v0 c
          ∧ r.2.mem ((c.tc : Thread Cert.SgInIdeal.nD Cert.SgInIdeal.τ).loc Cert.SgInIdeal.main_arg0) = m ((c.tc : Thread Cert.SgInIdeal.nD Cert.SgInIdeal.τ).loc Cert.SgInIdeal.main_arg0)
          ∧ r.2.mem ((c.tc : Thread Cert.SgInIdeal.nD Cert.SgInIdeal.τ).loc Cert.SgInIdeal.main_arg1) = m ((c.tc : Thread Cert.SgInIdeal.nD Cert.SgInIdeal.τ).loc Cert.SgInIdeal.main_arg1))
      ∧ θ_run (Cert.SgInRefIdeal.defs (F := Ideal)) (onTc (τ := Cert.SgInRefIdeal.τ) (Cert.SgInRefIdeal.main (F := Ideal))) ⟨m', fun _ => 0, g'⟩ (fun r => ∀ c : Dev Cert.SgInRefIdeal.nD,
          r.2.mem ((c.tc : Thread Cert.SgInRefIdeal.nD Cert.SgInRefIdeal.τ).loc Cert.SgInRefIdeal.main_v3) = v0 c
          ∧ r.2.mem ((c.tc : Thread Cert.SgInRefIdeal.nD Cert.SgInRefIdeal.τ).loc Cert.SgInRefIdeal.main_arg0) = m' ((c.tc : Thread Cert.SgInRefIdeal.nD Cert.SgInRefIdeal.τ).loc Cert.SgInRefIdeal.main_arg0)
          ∧ r.2.mem ((c.tc : Thread Cert.SgInRefIdeal.nD Cert.SgInRefIdeal.τ).loc Cert.SgInRefIdeal.main_arg1) = m' ((c.tc : Thread Cert.SgInRefIdeal.nD Cert.SgInRefIdeal.τ).loc Cert.SgInRefIdeal.main_arg1))

def preserves_RwIn_RwInIdeal : Prop :=
  True

def algebraic_RwInIdeal_RwInRefIdeal [hRwInIdeal : Cert.RwInIdeal.Facts] [hRwInRefIdeal : Cert.RwInRefIdeal.Facts] : Prop :=
  ∀ (m : (ℓ : Loc Cert.RwInIdeal.nD Cert.RwInIdeal.τ Cert.RwInIdeal.sig) → Buf (Elt Ideal) ℓ) (g : Dev Cert.RwInIdeal.nD → PrngReg)
    (m' : (ℓ : Loc Cert.RwInRefIdeal.nD Cert.RwInRefIdeal.τ Cert.RwInRefIdeal.sig) → Buf (Elt Ideal) ℓ) (g' : Dev Cert.RwInRefIdeal.nD → PrngReg), Pre_RwInIdeal m →
    (∀ c : Dev Cert.RwInIdeal.nD,
      m' ((c.tc : Thread Cert.RwInRefIdeal.nD Cert.RwInRefIdeal.τ).loc Cert.RwInRefIdeal.main_arg0) = m ((c.tc : Thread Cert.RwInIdeal.nD Cert.RwInIdeal.τ).loc Cert.RwInIdeal.main_arg0)
      ∧ m' ((c.tc : Thread Cert.RwInRefIdeal.nD Cert.RwInRefIdeal.τ).loc Cert.RwInRefIdeal.main_arg1) = m ((c.tc : Thread Cert.RwInIdeal.nD Cert.RwInIdeal.τ).loc Cert.RwInIdeal.main_arg1)) →
    ∃ (v0 : (c : Dev Cert.RwInIdeal.nD) → Buf (Elt Ideal) ((c.tc : Thread Cert.RwInIdeal.nD Cert.RwInIdeal.τ).loc Cert.RwInIdeal.main_v1)),
      θ_run (Cert.RwInIdeal.defs (F := Ideal)) (onTc (τ := Cert.RwInIdeal.τ) (Cert.RwInIdeal.main (F := Ideal))) ⟨m, fun _ => 0, g⟩ (fun r => ∀ c : Dev Cert.RwInIdeal.nD,
          r.2.mem ((c.tc : Thread Cert.RwInIdeal.nD Cert.RwInIdeal.τ).loc Cert.RwInIdeal.main_v1) = v0 c
          ∧ r.2.mem ((c.tc : Thread Cert.RwInIdeal.nD Cert.RwInIdeal.τ).loc Cert.RwInIdeal.main_arg0) = m ((c.tc : Thread Cert.RwInIdeal.nD Cert.RwInIdeal.τ).loc Cert.RwInIdeal.main_arg0)
          ∧ r.2.mem ((c.tc : Thread Cert.RwInIdeal.nD Cert.RwInIdeal.τ).loc Cert.RwInIdeal.main_arg1) = m ((c.tc : Thread Cert.RwInIdeal.nD Cert.RwInIdeal.τ).loc Cert.RwInIdeal.main_arg1))
      ∧ θ_run (Cert.RwInRefIdeal.defs (F := Ideal)) (onTc (τ := Cert.RwInRefIdeal.τ) (Cert.RwInRefIdeal.main (F := Ideal))) ⟨m', fun _ => 0, g'⟩ (fun r => ∀ c : Dev Cert.RwInRefIdeal.nD,
          r.2.mem ((c.tc : Thread Cert.RwInRefIdeal.nD Cert.RwInRefIdeal.τ).loc Cert.RwInRefIdeal.main_v3) = v0 c
          ∧ r.2.mem ((c.tc : Thread Cert.RwInRefIdeal.nD Cert.RwInRefIdeal.τ).loc Cert.RwInRefIdeal.main_arg0) = m' ((c.tc : Thread Cert.RwInRefIdeal.nD Cert.RwInRefIdeal.τ).loc Cert.RwInRefIdeal.main_arg0)
          ∧ r.2.mem ((c.tc : Thread Cert.RwInRefIdeal.nD Cert.RwInRefIdeal.τ).loc Cert.RwInRefIdeal.main_arg1) = m' ((c.tc : Thread Cert.RwInRefIdeal.nD Cert.RwInRefIdeal.τ).loc Cert.RwInRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v2_0)) (v1 : (c : Dev Cert.OutFwdIdeal.nD) → Buf (Elt Ideal) ((c.tc : Thread Cert.OutFwdIdeal.nD Cert.OutFwdIdeal.τ).loc Cert.OutFwdIdeal.main_v2_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v2_0) = v0 c
          ∧ r.2.mem ((c.tc : Thread Cert.OutFwdIdeal.nD Cert.OutFwdIdeal.τ).loc Cert.OutFwdIdeal.main_v2_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v3) = v0 c
          ∧ r.2.mem ((c.tc : Thread Cert.OutFwdRefIdeal.nD Cert.OutFwdRefIdeal.τ).loc Cert.OutFwdRefIdeal.main_v9) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)
      ∧ m' ((c.tc : Thread Cert.NormBwdRefIdeal.nD Cert.NormBwdRefIdeal.τ).loc Cert.NormBwdRefIdeal.main_arg6) = m ((c.tc : Thread Cert.NormBwdIdeal.nD Cert.NormBwdIdeal.τ).loc Cert.NormBwdIdeal.main_arg6)
      ∧ m' ((c.tc : Thread Cert.NormBwdRefIdeal.nD Cert.NormBwdRefIdeal.τ).loc Cert.NormBwdRefIdeal.main_arg7) = m ((c.tc : Thread Cert.NormBwdIdeal.nD Cert.NormBwdIdeal.τ).loc Cert.NormBwdIdeal.main_arg7)) →
    ∃ (v0 : (c : Dev Cert.NormBwdIdeal.nD) → Buf (Elt Ideal) ((c.tc : Thread Cert.NormBwdIdeal.nD Cert.NormBwdIdeal.τ).loc Cert.NormBwdIdeal.main_v4_0)) (v1 : (c : Dev Cert.NormBwdIdeal.nD) → Buf (Elt Ideal) ((c.tc : Thread Cert.NormBwdIdeal.nD Cert.NormBwdIdeal.τ).loc Cert.NormBwdIdeal.main_v4_1)) (v2 : (c : Dev Cert.NormBwdIdeal.nD) → Buf (Elt Ideal) ((c.tc : Thread Cert.NormBwdIdeal.nD Cert.NormBwdIdeal.τ).loc Cert.NormBwdIdeal.main_v4_2)) (v3 : (c : Dev Cert.NormBwdIdeal.nD) → Buf (Elt Ideal) ((c.tc : Thread Cert.NormBwdIdeal.nD Cert.NormBwdIdeal.τ).loc Cert.NormBwdIdeal.main_v4_3)) (v4 : (c : Dev Cert.NormBwdIdeal.nD) → Buf (Elt Ideal) ((c.tc : Thread Cert.NormBwdIdeal.nD Cert.NormBwdIdeal.τ).loc Cert.NormBwdIdeal.main_v4_4)) (v5 : (c : Dev Cert.NormBwdIdeal.nD) → Buf (Elt Ideal) ((c.tc : Thread Cert.NormBwdIdeal.nD Cert.NormBwdIdeal.τ).loc Cert.NormBwdIdeal.main_v4_5)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v4_0) = v0 c
          ∧ r.2.mem ((c.tc : Thread Cert.NormBwdIdeal.nD Cert.NormBwdIdeal.τ).loc Cert.NormBwdIdeal.main_v4_1) = v1 c
          ∧ r.2.mem ((c.tc : Thread Cert.NormBwdIdeal.nD Cert.NormBwdIdeal.τ).loc Cert.NormBwdIdeal.main_v4_2) = v2 c
          ∧ r.2.mem ((c.tc : Thread Cert.NormBwdIdeal.nD Cert.NormBwdIdeal.τ).loc Cert.NormBwdIdeal.main_v4_3) = v3 c
          ∧ r.2.mem ((c.tc : Thread Cert.NormBwdIdeal.nD Cert.NormBwdIdeal.τ).loc Cert.NormBwdIdeal.main_v4_4) = v4 c
          ∧ r.2.mem ((c.tc : Thread Cert.NormBwdIdeal.nD Cert.NormBwdIdeal.τ).loc Cert.NormBwdIdeal.main_v4_5) = v5 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
          ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6)
          ∧ r.2.mem ((c.tc : Thread Cert.NormBwdIdeal.nD Cert.NormBwdIdeal.τ).loc Cert.NormBwdIdeal.main_arg7) = m ((c.tc : Thread Cert.NormBwdIdeal.nD Cert.NormBwdIdeal.τ).loc Cert.NormBwdIdeal.main_arg7))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v65) = v0 c
          ∧ r.2.mem ((c.tc : Thread Cert.NormBwdRefIdeal.nD Cert.NormBwdRefIdeal.τ).loc Cert.NormBwdRefIdeal.main_v67) = v1 c
          ∧ r.2.mem ((c.tc : Thread Cert.NormBwdRefIdeal.nD Cert.NormBwdRefIdeal.τ).loc Cert.NormBwdRefIdeal.main_v68) = v2 c
          ∧ r.2.mem ((c.tc : Thread Cert.NormBwdRefIdeal.nD Cert.NormBwdRefIdeal.τ).loc Cert.NormBwdRefIdeal.main_v69) = v3 c
          ∧ r.2.mem ((c.tc : Thread Cert.NormBwdRefIdeal.nD Cert.NormBwdRefIdeal.τ).loc Cert.NormBwdRefIdeal.main_v70) = v4 c
          ∧ r.2.mem ((c.tc : Thread Cert.NormBwdRefIdeal.nD Cert.NormBwdRefIdeal.τ).loc Cert.NormBwdRefIdeal.main_v71) = v5 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5)
          ∧ r.2.mem ((c.tc : Thread Cert.NormBwdRefIdeal.nD Cert.NormBwdRefIdeal.τ).loc Cert.NormBwdRefIdeal.main_arg6) = m' ((c.tc : Thread Cert.NormBwdRefIdeal.nD Cert.NormBwdRefIdeal.τ).loc Cert.NormBwdRefIdeal.main_arg6)
          ∧ r.2.mem ((c.tc : Thread Cert.NormBwdRefIdeal.nD Cert.NormBwdRefIdeal.τ).loc Cert.NormBwdRefIdeal.main_arg7) = m' ((c.tc : Thread Cert.NormBwdRefIdeal.nD Cert.NormBwdRefIdeal.τ).loc Cert.NormBwdRefIdeal.main_arg7))

def preserves_NormBwdFirst_NormBwdFirstIdeal : Prop :=
  True

def algebraic_NormBwdFirstIdeal_NormBwdFirstRefIdeal [hNormBwdFirstIdeal : Cert.NormBwdFirstIdeal.Facts] [hNormBwdFirstRefIdeal : Cert.NormBwdFirstRefIdeal.Facts] : Prop :=
  ∀ (m : (ℓ : Loc Cert.NormBwdFirstIdeal.nD Cert.NormBwdFirstIdeal.τ Cert.NormBwdFirstIdeal.sig) → Buf (Elt Ideal) ℓ) (g : Dev Cert.NormBwdFirstIdeal.nD → PrngReg)
    (m' : (ℓ : Loc Cert.NormBwdFirstRefIdeal.nD Cert.NormBwdFirstRefIdeal.τ Cert.NormBwdFirstRefIdeal.sig) → Buf (Elt Ideal) ℓ) (g' : Dev Cert.NormBwdFirstRefIdeal.nD → PrngReg), Pre_NormBwdFirstIdeal m →
    (∀ c : Dev Cert.NormBwdFirstIdeal.nD,
      m' ((c.tc : Thread Cert.NormBwdFirstRefIdeal.nD Cert.NormBwdFirstRefIdeal.τ).loc Cert.NormBwdFirstRefIdeal.main_arg0) = m ((c.tc : Thread Cert.NormBwdFirstIdeal.nD Cert.NormBwdFirstIdeal.τ).loc Cert.NormBwdFirstIdeal.main_arg0)
      ∧ m' ((c.tc : Thread Cert.NormBwdFirstRefIdeal.nD Cert.NormBwdFirstRefIdeal.τ).loc Cert.NormBwdFirstRefIdeal.main_arg1) = m ((c.tc : Thread Cert.NormBwdFirstIdeal.nD Cert.NormBwdFirstIdeal.τ).loc Cert.NormBwdFirstIdeal.main_arg1)
      ∧ m' ((c.tc : Thread Cert.NormBwdFirstRefIdeal.nD Cert.NormBwdFirstRefIdeal.τ).loc Cert.NormBwdFirstRefIdeal.main_arg2) = m ((c.tc : Thread Cert.NormBwdFirstIdeal.nD Cert.NormBwdFirstIdeal.τ).loc Cert.NormBwdFirstIdeal.main_arg2)
      ∧ m' ((c.tc : Thread Cert.NormBwdFirstRefIdeal.nD Cert.NormBwdFirstRefIdeal.τ).loc Cert.NormBwdFirstRefIdeal.main_arg3) = m ((c.tc : Thread Cert.NormBwdFirstIdeal.nD Cert.NormBwdFirstIdeal.τ).loc Cert.NormBwdFirstIdeal.main_arg3)
      ∧ m' ((c.tc : Thread Cert.NormBwdFirstRefIdeal.nD Cert.NormBwdFirstRefIdeal.τ).loc Cert.NormBwdFirstRefIdeal.main_arg4) = m ((c.tc : Thread Cert.NormBwdFirstIdeal.nD Cert.NormBwdFirstIdeal.τ).loc Cert.NormBwdFirstIdeal.main_arg4)
      ∧ m' ((c.tc : Thread Cert.NormBwdFirstRefIdeal.nD Cert.NormBwdFirstRefIdeal.τ).loc Cert.NormBwdFirstRefIdeal.main_arg5) = m ((c.tc : Thread Cert.NormBwdFirstIdeal.nD Cert.NormBwdFirstIdeal.τ).loc Cert.NormBwdFirstIdeal.main_arg5)) →
    ∃ (v0 : (c : Dev Cert.NormBwdFirstIdeal.nD) → Buf (Elt Ideal) ((c.tc : Thread Cert.NormBwdFirstIdeal.nD Cert.NormBwdFirstIdeal.τ).loc Cert.NormBwdFirstIdeal.main_v3_0)) (v1 : (c : Dev Cert.NormBwdFirstIdeal.nD) → Buf (Elt Ideal) ((c.tc : Thread Cert.NormBwdFirstIdeal.nD Cert.NormBwdFirstIdeal.τ).loc Cert.NormBwdFirstIdeal.main_v3_1)) (v2 : (c : Dev Cert.NormBwdFirstIdeal.nD) → Buf (Elt Ideal) ((c.tc : Thread Cert.NormBwdFirstIdeal.nD Cert.NormBwdFirstIdeal.τ).loc Cert.NormBwdFirstIdeal.main_v3_2)) (v3 : (c : Dev Cert.NormBwdFirstIdeal.nD) → Buf (Elt Ideal) ((c.tc : Thread Cert.NormBwdFirstIdeal.nD Cert.NormBwdFirstIdeal.τ).loc Cert.NormBwdFirstIdeal.main_v3_3)),
      θ_run (Cert.NormBwdFirstIdeal.defs (F := Ideal)) (onTc (τ := Cert.NormBwdFirstIdeal.τ) (Cert.NormBwdFirstIdeal.main (F := Ideal))) ⟨m, fun _ => 0, g⟩ (fun r => ∀ c : Dev Cert.NormBwdFirstIdeal.nD,
          r.2.mem ((c.tc : Thread Cert.NormBwdFirstIdeal.nD Cert.NormBwdFirstIdeal.τ).loc Cert.NormBwdFirstIdeal.main_v3_0) = v0 c
          ∧ r.2.mem ((c.tc : Thread Cert.NormBwdFirstIdeal.nD Cert.NormBwdFirstIdeal.τ).loc Cert.NormBwdFirstIdeal.main_v3_1) = v1 c
          ∧ r.2.mem ((c.tc : Thread Cert.NormBwdFirstIdeal.nD Cert.NormBwdFirstIdeal.τ).loc Cert.NormBwdFirstIdeal.main_v3_2) = v2 c
          ∧ r.2.mem ((c.tc : Thread Cert.NormBwdFirstIdeal.nD Cert.NormBwdFirstIdeal.τ).loc Cert.NormBwdFirstIdeal.main_v3_3) = v3 c
          ∧ r.2.mem ((c.tc : Thread Cert.NormBwdFirstIdeal.nD Cert.NormBwdFirstIdeal.τ).loc Cert.NormBwdFirstIdeal.main_arg0) = m ((c.tc : Thread Cert.NormBwdFirstIdeal.nD Cert.NormBwdFirstIdeal.τ).loc Cert.NormBwdFirstIdeal.main_arg0)
          ∧ r.2.mem ((c.tc : Thread Cert.NormBwdFirstIdeal.nD Cert.NormBwdFirstIdeal.τ).loc Cert.NormBwdFirstIdeal.main_arg1) = m ((c.tc : Thread Cert.NormBwdFirstIdeal.nD Cert.NormBwdFirstIdeal.τ).loc Cert.NormBwdFirstIdeal.main_arg1)
          ∧ r.2.mem ((c.tc : Thread Cert.NormBwdFirstIdeal.nD Cert.NormBwdFirstIdeal.τ).loc Cert.NormBwdFirstIdeal.main_arg2) = m ((c.tc : Thread Cert.NormBwdFirstIdeal.nD Cert.NormBwdFirstIdeal.τ).loc Cert.NormBwdFirstIdeal.main_arg2)
          ∧ r.2.mem ((c.tc : Thread Cert.NormBwdFirstIdeal.nD Cert.NormBwdFirstIdeal.τ).loc Cert.NormBwdFirstIdeal.main_arg3) = m ((c.tc : Thread Cert.NormBwdFirstIdeal.nD Cert.NormBwdFirstIdeal.τ).loc Cert.NormBwdFirstIdeal.main_arg3)
          ∧ r.2.mem ((c.tc : Thread Cert.NormBwdFirstIdeal.nD Cert.NormBwdFirstIdeal.τ).loc Cert.NormBwdFirstIdeal.main_arg4) = m ((c.tc : Thread Cert.NormBwdFirstIdeal.nD Cert.NormBwdFirstIdeal.τ).loc Cert.NormBwdFirstIdeal.main_arg4)
          ∧ r.2.mem ((c.tc : Thread Cert.NormBwdFirstIdeal.nD Cert.NormBwdFirstIdeal.τ).loc Cert.NormBwdFirstIdeal.main_arg5) = m ((c.tc : Thread Cert.NormBwdFirstIdeal.nD Cert.NormBwdFirstIdeal.τ).loc Cert.NormBwdFirstIdeal.main_arg5))
      ∧ θ_run (Cert.NormBwdFirstRefIdeal.defs (F := Ideal)) (onTc (τ := Cert.NormBwdFirstRefIdeal.τ) (Cert.NormBwdFirstRefIdeal.main (F := Ideal))) ⟨m', fun _ => 0, g'⟩ (fun r => ∀ c : Dev Cert.NormBwdFirstRefIdeal.nD,
          r.2.mem ((c.tc : Thread Cert.NormBwdFirstRefIdeal.nD Cert.NormBwdFirstRefIdeal.τ).loc Cert.NormBwdFirstRefIdeal.main_v56) = v0 c
          ∧ r.2.mem ((c.tc : Thread Cert.NormBwdFirstRefIdeal.nD Cert.NormBwdFirstRefIdeal.τ).loc Cert.NormBwdFirstRefIdeal.main_v57) = v1 c
          ∧ r.2.mem ((c.tc : Thread Cert.NormBwdFirstRefIdeal.nD Cert.NormBwdFirstRefIdeal.τ).loc Cert.NormBwdFirstRefIdeal.main_v58) = v2 c
          ∧ r.2.mem ((c.tc : Thread Cert.NormBwdFirstRefIdeal.nD Cert.NormBwdFirstRefIdeal.τ).loc Cert.NormBwdFirstRefIdeal.main_v59) = v3 c
          ∧ r.2.mem ((c.tc : Thread Cert.NormBwdFirstRefIdeal.nD Cert.NormBwdFirstRefIdeal.τ).loc Cert.NormBwdFirstRefIdeal.main_arg0) = m' ((c.tc : Thread Cert.NormBwdFirstRefIdeal.nD Cert.NormBwdFirstRefIdeal.τ).loc Cert.NormBwdFirstRefIdeal.main_arg0)
          ∧ r.2.mem ((c.tc : Thread Cert.NormBwdFirstRefIdeal.nD Cert.NormBwdFirstRefIdeal.τ).loc Cert.NormBwdFirstRefIdeal.main_arg1) = m' ((c.tc : Thread Cert.NormBwdFirstRefIdeal.nD Cert.NormBwdFirstRefIdeal.τ).loc Cert.NormBwdFirstRefIdeal.main_arg1)
          ∧ r.2.mem ((c.tc : Thread Cert.NormBwdFirstRefIdeal.nD Cert.NormBwdFirstRefIdeal.τ).loc Cert.NormBwdFirstRefIdeal.main_arg2) = m' ((c.tc : Thread Cert.NormBwdFirstRefIdeal.nD Cert.NormBwdFirstRefIdeal.τ).loc Cert.NormBwdFirstRefIdeal.main_arg2)
          ∧ r.2.mem ((c.tc : Thread Cert.NormBwdFirstRefIdeal.nD Cert.NormBwdFirstRefIdeal.τ).loc Cert.NormBwdFirstRefIdeal.main_arg3) = m' ((c.tc : Thread Cert.NormBwdFirstRefIdeal.nD Cert.NormBwdFirstRefIdeal.τ).loc Cert.NormBwdFirstRefIdeal.main_arg3)
          ∧ r.2.mem ((c.tc : Thread Cert.NormBwdFirstRefIdeal.nD Cert.NormBwdFirstRefIdeal.τ).loc Cert.NormBwdFirstRefIdeal.main_arg4) = m' ((c.tc : Thread Cert.NormBwdFirstRefIdeal.nD Cert.NormBwdFirstRefIdeal.τ).loc Cert.NormBwdFirstRefIdeal.main_arg4)
          ∧ r.2.mem ((c.tc : Thread Cert.NormBwdFirstRefIdeal.nD Cert.NormBwdFirstRefIdeal.τ).loc Cert.NormBwdFirstRefIdeal.main_arg5) = m' ((c.tc : Thread Cert.NormBwdFirstRefIdeal.nD Cert.NormBwdFirstRefIdeal.τ).loc Cert.NormBwdFirstRefIdeal.main_arg5))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)
      ∧ m' ((c.tc : Thread Cert.LossHeadRefIdeal.nD Cert.LossHeadRefIdeal.τ).loc Cert.LossHeadRefIdeal.main_arg4) = m ((c.tc : Thread Cert.LossHeadIdeal.nD Cert.LossHeadIdeal.τ).loc Cert.LossHeadIdeal.main_arg4)) →
    ∃ (v0 : (c : Dev Cert.LossHeadIdeal.nD) → Buf (Elt Ideal) ((c.tc : Thread Cert.LossHeadIdeal.nD Cert.LossHeadIdeal.τ).loc Cert.LossHeadIdeal.main_v2_0)) (v1 : (c : Dev Cert.LossHeadIdeal.nD) → Buf (Elt Ideal) ((c.tc : Thread Cert.LossHeadIdeal.nD Cert.LossHeadIdeal.τ).loc Cert.LossHeadIdeal.main_v2_1)) (v2 : (c : Dev Cert.LossHeadIdeal.nD) → Buf (Elt Ideal) ((c.tc : Thread Cert.LossHeadIdeal.nD Cert.LossHeadIdeal.τ).loc Cert.LossHeadIdeal.main_v2_2)) (v3 : (c : Dev Cert.LossHeadIdeal.nD) → Buf (Elt Ideal) ((c.tc : Thread Cert.LossHeadIdeal.nD Cert.LossHeadIdeal.τ).loc Cert.LossHeadIdeal.main_v2_3)) (v4 : (c : Dev Cert.LossHeadIdeal.nD) → Buf (Elt Ideal) ((c.tc : Thread Cert.LossHeadIdeal.nD Cert.LossHeadIdeal.τ).loc Cert.LossHeadIdeal.main_v2_4)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v2_0) = v0 c
          ∧ r.2.mem ((c.tc : Thread Cert.LossHeadIdeal.nD Cert.LossHeadIdeal.τ).loc Cert.LossHeadIdeal.main_v2_1) = v1 c
          ∧ r.2.mem ((c.tc : Thread Cert.LossHeadIdeal.nD Cert.LossHeadIdeal.τ).loc Cert.LossHeadIdeal.main_v2_2) = v2 c
          ∧ r.2.mem ((c.tc : Thread Cert.LossHeadIdeal.nD Cert.LossHeadIdeal.τ).loc Cert.LossHeadIdeal.main_v2_3) = v3 c
          ∧ r.2.mem ((c.tc : Thread Cert.LossHeadIdeal.nD Cert.LossHeadIdeal.τ).loc Cert.LossHeadIdeal.main_v2_4) = v4 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v63) = v0 c
          ∧ r.2.mem ((c.tc : Thread Cert.LossHeadRefIdeal.nD Cert.LossHeadRefIdeal.τ).loc Cert.LossHeadRefIdeal.main_v65) = v1 c
          ∧ r.2.mem ((c.tc : Thread Cert.LossHeadRefIdeal.nD Cert.LossHeadRefIdeal.τ).loc Cert.LossHeadRefIdeal.main_v66) = v2 c
          ∧ r.2.mem ((c.tc : Thread Cert.LossHeadRefIdeal.nD Cert.LossHeadRefIdeal.τ).loc Cert.LossHeadRefIdeal.main_v67) = v3 c
          ∧ r.2.mem ((c.tc : Thread Cert.LossHeadRefIdeal.nD Cert.LossHeadRefIdeal.τ).loc Cert.LossHeadRefIdeal.main_v68) = v4 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3)
          ∧ r.2.mem ((c.tc : Thread Cert.LossHeadRefIdeal.nD Cert.LossHeadRefIdeal.τ).loc Cert.LossHeadRefIdeal.main_arg4) = m' ((c.tc : Thread Cert.LossHeadRefIdeal.nD Cert.LossHeadRefIdeal.τ).loc Cert.LossHeadRefIdeal.main_arg4))

def preserves_RwGateBwd_RwGateBwdIdeal : Prop :=
  True

def algebraic_RwGateBwdIdeal_RwGateBwdRefIdeal [hRwGateBwdIdeal : Cert.RwGateBwdIdeal.Facts] [hRwGateBwdRefIdeal : Cert.RwGateBwdRefIdeal.Facts] : Prop :=
  ∀ (m : (ℓ : Loc Cert.RwGateBwdIdeal.nD Cert.RwGateBwdIdeal.τ Cert.RwGateBwdIdeal.sig) → Buf (Elt Ideal) ℓ) (g : Dev Cert.RwGateBwdIdeal.nD → PrngReg)
    (m' : (ℓ : Loc Cert.RwGateBwdRefIdeal.nD Cert.RwGateBwdRefIdeal.τ Cert.RwGateBwdRefIdeal.sig) → Buf (Elt Ideal) ℓ) (g' : Dev Cert.RwGateBwdRefIdeal.nD → PrngReg), Pre_RwGateBwdIdeal m →
    (∀ c : Dev Cert.RwGateBwdIdeal.nD,
      m' ((c.tc : Thread Cert.RwGateBwdRefIdeal.nD Cert.RwGateBwdRefIdeal.τ).loc Cert.RwGateBwdRefIdeal.main_arg0) = m ((c.tc : Thread Cert.RwGateBwdIdeal.nD Cert.RwGateBwdIdeal.τ).loc Cert.RwGateBwdIdeal.main_arg0)
      ∧ m' ((c.tc : Thread Cert.RwGateBwdRefIdeal.nD Cert.RwGateBwdRefIdeal.τ).loc Cert.RwGateBwdRefIdeal.main_arg1) = m ((c.tc : Thread Cert.RwGateBwdIdeal.nD Cert.RwGateBwdIdeal.τ).loc Cert.RwGateBwdIdeal.main_arg1)
      ∧ m' ((c.tc : Thread Cert.RwGateBwdRefIdeal.nD Cert.RwGateBwdRefIdeal.τ).loc Cert.RwGateBwdRefIdeal.main_arg2) = m ((c.tc : Thread Cert.RwGateBwdIdeal.nD Cert.RwGateBwdIdeal.τ).loc Cert.RwGateBwdIdeal.main_arg2)) →
    ∃ (v0 : (c : Dev Cert.RwGateBwdIdeal.nD) → Buf (Elt Ideal) ((c.tc : Thread Cert.RwGateBwdIdeal.nD Cert.RwGateBwdIdeal.τ).loc Cert.RwGateBwdIdeal.main_v0_0)) (v1 : (c : Dev Cert.RwGateBwdIdeal.nD) → Buf (Elt Ideal) ((c.tc : Thread Cert.RwGateBwdIdeal.nD Cert.RwGateBwdIdeal.τ).loc Cert.RwGateBwdIdeal.main_v0_1)),
      θ_run (Cert.RwGateBwdIdeal.defs (F := Ideal)) (onTc (τ := Cert.RwGateBwdIdeal.τ) (Cert.RwGateBwdIdeal.main (F := Ideal))) ⟨m, fun _ => 0, g⟩ (fun r => ∀ c : Dev Cert.RwGateBwdIdeal.nD,
          r.2.mem ((c.tc : Thread Cert.RwGateBwdIdeal.nD Cert.RwGateBwdIdeal.τ).loc Cert.RwGateBwdIdeal.main_v0_0) = v0 c
          ∧ r.2.mem ((c.tc : Thread Cert.RwGateBwdIdeal.nD Cert.RwGateBwdIdeal.τ).loc Cert.RwGateBwdIdeal.main_v0_1) = v1 c
          ∧ r.2.mem ((c.tc : Thread Cert.RwGateBwdIdeal.nD Cert.RwGateBwdIdeal.τ).loc Cert.RwGateBwdIdeal.main_arg0) = m ((c.tc : Thread Cert.RwGateBwdIdeal.nD Cert.RwGateBwdIdeal.τ).loc Cert.RwGateBwdIdeal.main_arg0)
          ∧ r.2.mem ((c.tc : Thread Cert.RwGateBwdIdeal.nD Cert.RwGateBwdIdeal.τ).loc Cert.RwGateBwdIdeal.main_arg1) = m ((c.tc : Thread Cert.RwGateBwdIdeal.nD Cert.RwGateBwdIdeal.τ).loc Cert.RwGateBwdIdeal.main_arg1)
          ∧ r.2.mem ((c.tc : Thread Cert.RwGateBwdIdeal.nD Cert.RwGateBwdIdeal.τ).loc Cert.RwGateBwdIdeal.main_arg2) = m ((c.tc : Thread Cert.RwGateBwdIdeal.nD Cert.RwGateBwdIdeal.τ).loc Cert.RwGateBwdIdeal.main_arg2))
      ∧ θ_run (Cert.RwGateBwdRefIdeal.defs (F := Ideal)) (onTc (τ := Cert.RwGateBwdRefIdeal.τ) (Cert.RwGateBwdRefIdeal.main (F := Ideal))) ⟨m', fun _ => 0, g'⟩ (fun r => ∀ c : Dev Cert.RwGateBwdRefIdeal.nD,
          r.2.mem ((c.tc : Thread Cert.RwGateBwdRefIdeal.nD Cert.RwGateBwdRefIdeal.τ).loc Cert.RwGateBwdRefIdeal.main_v8) = v0 c
          ∧ r.2.mem ((c.tc : Thread Cert.RwGateBwdRefIdeal.nD Cert.RwGateBwdRefIdeal.τ).loc Cert.RwGateBwdRefIdeal.main_v9) = v1 c
          ∧ r.2.mem ((c.tc : Thread Cert.RwGateBwdRefIdeal.nD Cert.RwGateBwdRefIdeal.τ).loc Cert.RwGateBwdRefIdeal.main_arg0) = m' ((c.tc : Thread Cert.RwGateBwdRefIdeal.nD Cert.RwGateBwdRefIdeal.τ).loc Cert.RwGateBwdRefIdeal.main_arg0)
          ∧ r.2.mem ((c.tc : Thread Cert.RwGateBwdRefIdeal.nD Cert.RwGateBwdRefIdeal.τ).loc Cert.RwGateBwdRefIdeal.main_arg1) = m' ((c.tc : Thread Cert.RwGateBwdRefIdeal.nD Cert.RwGateBwdRefIdeal.τ).loc Cert.RwGateBwdRefIdeal.main_arg1)
          ∧ r.2.mem ((c.tc : Thread Cert.RwGateBwdRefIdeal.nD Cert.RwGateBwdRefIdeal.τ).loc Cert.RwGateBwdRefIdeal.main_arg2) = m' ((c.tc : Thread Cert.RwGateBwdRefIdeal.nD Cert.RwGateBwdRefIdeal.τ).loc Cert.RwGateBwdRefIdeal.main_arg2))

def preserves_SwaGateBwd_SwaGateBwdIdeal : Prop :=
  True

def algebraic_SwaGateBwdIdeal_SwaGateBwdRefIdeal [hSwaGateBwdIdeal : Cert.SwaGateBwdIdeal.Facts] [hSwaGateBwdRefIdeal : Cert.SwaGateBwdRefIdeal.Facts] : Prop :=
  ∀ (m : (ℓ : Loc Cert.SwaGateBwdIdeal.nD Cert.SwaGateBwdIdeal.τ Cert.SwaGateBwdIdeal.sig) → Buf (Elt Ideal) ℓ) (g : Dev Cert.SwaGateBwdIdeal.nD → PrngReg)
    (m' : (ℓ : Loc Cert.SwaGateBwdRefIdeal.nD Cert.SwaGateBwdRefIdeal.τ Cert.SwaGateBwdRefIdeal.sig) → Buf (Elt Ideal) ℓ) (g' : Dev Cert.SwaGateBwdRefIdeal.nD → PrngReg), Pre_SwaGateBwdIdeal m →
    (∀ c : Dev Cert.SwaGateBwdIdeal.nD,
      m' ((c.tc : Thread Cert.SwaGateBwdRefIdeal.nD Cert.SwaGateBwdRefIdeal.τ).loc Cert.SwaGateBwdRefIdeal.main_arg0) = m ((c.tc : Thread Cert.SwaGateBwdIdeal.nD Cert.SwaGateBwdIdeal.τ).loc Cert.SwaGateBwdIdeal.main_arg0)
      ∧ m' ((c.tc : Thread Cert.SwaGateBwdRefIdeal.nD Cert.SwaGateBwdRefIdeal.τ).loc Cert.SwaGateBwdRefIdeal.main_arg1) = m ((c.tc : Thread Cert.SwaGateBwdIdeal.nD Cert.SwaGateBwdIdeal.τ).loc Cert.SwaGateBwdIdeal.main_arg1)
      ∧ m' ((c.tc : Thread Cert.SwaGateBwdRefIdeal.nD Cert.SwaGateBwdRefIdeal.τ).loc Cert.SwaGateBwdRefIdeal.main_arg2) = m ((c.tc : Thread Cert.SwaGateBwdIdeal.nD Cert.SwaGateBwdIdeal.τ).loc Cert.SwaGateBwdIdeal.main_arg2)) →
    ∃ (v0 : (c : Dev Cert.SwaGateBwdIdeal.nD) → Buf (Elt Ideal) ((c.tc : Thread Cert.SwaGateBwdIdeal.nD Cert.SwaGateBwdIdeal.τ).loc Cert.SwaGateBwdIdeal.main_v0_0)) (v1 : (c : Dev Cert.SwaGateBwdIdeal.nD) → Buf (Elt Ideal) ((c.tc : Thread Cert.SwaGateBwdIdeal.nD Cert.SwaGateBwdIdeal.τ).loc Cert.SwaGateBwdIdeal.main_v0_1)),
      θ_run (Cert.SwaGateBwdIdeal.defs (F := Ideal)) (onTc (τ := Cert.SwaGateBwdIdeal.τ) (Cert.SwaGateBwdIdeal.main (F := Ideal))) ⟨m, fun _ => 0, g⟩ (fun r => ∀ c : Dev Cert.SwaGateBwdIdeal.nD,
          r.2.mem ((c.tc : Thread Cert.SwaGateBwdIdeal.nD Cert.SwaGateBwdIdeal.τ).loc Cert.SwaGateBwdIdeal.main_v0_0) = v0 c
          ∧ r.2.mem ((c.tc : Thread Cert.SwaGateBwdIdeal.nD Cert.SwaGateBwdIdeal.τ).loc Cert.SwaGateBwdIdeal.main_v0_1) = v1 c
          ∧ r.2.mem ((c.tc : Thread Cert.SwaGateBwdIdeal.nD Cert.SwaGateBwdIdeal.τ).loc Cert.SwaGateBwdIdeal.main_arg0) = m ((c.tc : Thread Cert.SwaGateBwdIdeal.nD Cert.SwaGateBwdIdeal.τ).loc Cert.SwaGateBwdIdeal.main_arg0)
          ∧ r.2.mem ((c.tc : Thread Cert.SwaGateBwdIdeal.nD Cert.SwaGateBwdIdeal.τ).loc Cert.SwaGateBwdIdeal.main_arg1) = m ((c.tc : Thread Cert.SwaGateBwdIdeal.nD Cert.SwaGateBwdIdeal.τ).loc Cert.SwaGateBwdIdeal.main_arg1)
          ∧ r.2.mem ((c.tc : Thread Cert.SwaGateBwdIdeal.nD Cert.SwaGateBwdIdeal.τ).loc Cert.SwaGateBwdIdeal.main_arg2) = m ((c.tc : Thread Cert.SwaGateBwdIdeal.nD Cert.SwaGateBwdIdeal.τ).loc Cert.SwaGateBwdIdeal.main_arg2))
      ∧ θ_run (Cert.SwaGateBwdRefIdeal.defs (F := Ideal)) (onTc (τ := Cert.SwaGateBwdRefIdeal.τ) (Cert.SwaGateBwdRefIdeal.main (F := Ideal))) ⟨m', fun _ => 0, g'⟩ (fun r => ∀ c : Dev Cert.SwaGateBwdRefIdeal.nD,
          r.2.mem ((c.tc : Thread Cert.SwaGateBwdRefIdeal.nD Cert.SwaGateBwdRefIdeal.τ).loc Cert.SwaGateBwdRefIdeal.main_v12) = v0 c
          ∧ r.2.mem ((c.tc : Thread Cert.SwaGateBwdRefIdeal.nD Cert.SwaGateBwdRefIdeal.τ).loc Cert.SwaGateBwdRefIdeal.main_v13) = v1 c
          ∧ r.2.mem ((c.tc : Thread Cert.SwaGateBwdRefIdeal.nD Cert.SwaGateBwdRefIdeal.τ).loc Cert.SwaGateBwdRefIdeal.main_arg0) = m' ((c.tc : Thread Cert.SwaGateBwdRefIdeal.nD Cert.SwaGateBwdRefIdeal.τ).loc Cert.SwaGateBwdRefIdeal.main_arg0)
          ∧ r.2.mem ((c.tc : Thread Cert.SwaGateBwdRefIdeal.nD Cert.SwaGateBwdRefIdeal.τ).loc Cert.SwaGateBwdRefIdeal.main_arg1) = m' ((c.tc : Thread Cert.SwaGateBwdRefIdeal.nD Cert.SwaGateBwdRefIdeal.τ).loc Cert.SwaGateBwdRefIdeal.main_arg1)
          ∧ r.2.mem ((c.tc : Thread Cert.SwaGateBwdRefIdeal.nD Cert.SwaGateBwdRefIdeal.τ).loc Cert.SwaGateBwdRefIdeal.main_arg2) = m' ((c.tc : Thread Cert.SwaGateBwdRefIdeal.nD Cert.SwaGateBwdRefIdeal.τ).loc Cert.SwaGateBwdRefIdeal.main_arg2))

def preserves_LoraBwd_LoraBwdIdeal : Prop :=
  True

def algebraic_LoraBwdIdeal_LoraBwdRefIdeal [hLoraBwdIdeal : Cert.LoraBwdIdeal.Facts] [hLoraBwdRefIdeal : Cert.LoraBwdRefIdeal.Facts] : Prop :=
  ∀ (m : (ℓ : Loc Cert.LoraBwdIdeal.nD Cert.LoraBwdIdeal.τ Cert.LoraBwdIdeal.sig) → Buf (Elt Ideal) ℓ) (g : Dev Cert.LoraBwdIdeal.nD → PrngReg)
    (m' : (ℓ : Loc Cert.LoraBwdRefIdeal.nD Cert.LoraBwdRefIdeal.τ Cert.LoraBwdRefIdeal.sig) → Buf (Elt Ideal) ℓ) (g' : Dev Cert.LoraBwdRefIdeal.nD → PrngReg), Pre_LoraBwdIdeal m →
    (∀ c : Dev Cert.LoraBwdIdeal.nD,
      m' ((c.tc : Thread Cert.LoraBwdRefIdeal.nD Cert.LoraBwdRefIdeal.τ).loc Cert.LoraBwdRefIdeal.main_arg0) = m ((c.tc : Thread Cert.LoraBwdIdeal.nD Cert.LoraBwdIdeal.τ).loc Cert.LoraBwdIdeal.main_arg0)
      ∧ m' ((c.tc : Thread Cert.LoraBwdRefIdeal.nD Cert.LoraBwdRefIdeal.τ).loc Cert.LoraBwdRefIdeal.main_arg1) = m ((c.tc : Thread Cert.LoraBwdIdeal.nD Cert.LoraBwdIdeal.τ).loc Cert.LoraBwdIdeal.main_arg1)
      ∧ m' ((c.tc : Thread Cert.LoraBwdRefIdeal.nD Cert.LoraBwdRefIdeal.τ).loc Cert.LoraBwdRefIdeal.main_arg2) = m ((c.tc : Thread Cert.LoraBwdIdeal.nD Cert.LoraBwdIdeal.τ).loc Cert.LoraBwdIdeal.main_arg2)
      ∧ m' ((c.tc : Thread Cert.LoraBwdRefIdeal.nD Cert.LoraBwdRefIdeal.τ).loc Cert.LoraBwdRefIdeal.main_arg3) = m ((c.tc : Thread Cert.LoraBwdIdeal.nD Cert.LoraBwdIdeal.τ).loc Cert.LoraBwdIdeal.main_arg3)
      ∧ m' ((c.tc : Thread Cert.LoraBwdRefIdeal.nD Cert.LoraBwdRefIdeal.τ).loc Cert.LoraBwdRefIdeal.main_arg4) = m ((c.tc : Thread Cert.LoraBwdIdeal.nD Cert.LoraBwdIdeal.τ).loc Cert.LoraBwdIdeal.main_arg4)
      ∧ m' ((c.tc : Thread Cert.LoraBwdRefIdeal.nD Cert.LoraBwdRefIdeal.τ).loc Cert.LoraBwdRefIdeal.main_arg5) = m ((c.tc : Thread Cert.LoraBwdIdeal.nD Cert.LoraBwdIdeal.τ).loc Cert.LoraBwdIdeal.main_arg5)
      ∧ m' ((c.tc : Thread Cert.LoraBwdRefIdeal.nD Cert.LoraBwdRefIdeal.τ).loc Cert.LoraBwdRefIdeal.main_arg6) = m ((c.tc : Thread Cert.LoraBwdIdeal.nD Cert.LoraBwdIdeal.τ).loc Cert.LoraBwdIdeal.main_arg6)) →
    ∃ (v0 : (c : Dev Cert.LoraBwdIdeal.nD) → Buf (Elt Ideal) ((c.tc : Thread Cert.LoraBwdIdeal.nD Cert.LoraBwdIdeal.τ).loc Cert.LoraBwdIdeal.main_v2_0)) (v1 : (c : Dev Cert.LoraBwdIdeal.nD) → Buf (Elt Ideal) ((c.tc : Thread Cert.LoraBwdIdeal.nD Cert.LoraBwdIdeal.τ).loc Cert.LoraBwdIdeal.main_v2_1)) (v2 : (c : Dev Cert.LoraBwdIdeal.nD) → Buf (Elt Ideal) ((c.tc : Thread Cert.LoraBwdIdeal.nD Cert.LoraBwdIdeal.τ).loc Cert.LoraBwdIdeal.main_v2_2)) (v3 : (c : Dev Cert.LoraBwdIdeal.nD) → Buf (Elt Ideal) ((c.tc : Thread Cert.LoraBwdIdeal.nD Cert.LoraBwdIdeal.τ).loc Cert.LoraBwdIdeal.main_v2_3)) (v4 : (c : Dev Cert.LoraBwdIdeal.nD) → Buf (Elt Ideal) ((c.tc : Thread Cert.LoraBwdIdeal.nD Cert.LoraBwdIdeal.τ).loc Cert.LoraBwdIdeal.main_v2_4)),
      θ_run (Cert.LoraBwdIdeal.defs (F := Ideal)) (onTc (τ := Cert.LoraBwdIdeal.τ) (Cert.LoraBwdIdeal.main (F := Ideal))) ⟨m, fun _ => 0, g⟩ (fun r => ∀ c : Dev Cert.LoraBwdIdeal.nD,
          r.2.mem ((c.tc : Thread Cert.LoraBwdIdeal.nD Cert.LoraBwdIdeal.τ).loc Cert.LoraBwdIdeal.main_v2_0) = v0 c
          ∧ r.2.mem ((c.tc : Thread Cert.LoraBwdIdeal.nD Cert.LoraBwdIdeal.τ).loc Cert.LoraBwdIdeal.main_v2_1) = v1 c
          ∧ r.2.mem ((c.tc : Thread Cert.LoraBwdIdeal.nD Cert.LoraBwdIdeal.τ).loc Cert.LoraBwdIdeal.main_v2_2) = v2 c
          ∧ r.2.mem ((c.tc : Thread Cert.LoraBwdIdeal.nD Cert.LoraBwdIdeal.τ).loc Cert.LoraBwdIdeal.main_v2_3) = v3 c
          ∧ r.2.mem ((c.tc : Thread Cert.LoraBwdIdeal.nD Cert.LoraBwdIdeal.τ).loc Cert.LoraBwdIdeal.main_v2_4) = v4 c
          ∧ r.2.mem ((c.tc : Thread Cert.LoraBwdIdeal.nD Cert.LoraBwdIdeal.τ).loc Cert.LoraBwdIdeal.main_arg0) = m ((c.tc : Thread Cert.LoraBwdIdeal.nD Cert.LoraBwdIdeal.τ).loc Cert.LoraBwdIdeal.main_arg0)
          ∧ r.2.mem ((c.tc : Thread Cert.LoraBwdIdeal.nD Cert.LoraBwdIdeal.τ).loc Cert.LoraBwdIdeal.main_arg1) = m ((c.tc : Thread Cert.LoraBwdIdeal.nD Cert.LoraBwdIdeal.τ).loc Cert.LoraBwdIdeal.main_arg1)
          ∧ r.2.mem ((c.tc : Thread Cert.LoraBwdIdeal.nD Cert.LoraBwdIdeal.τ).loc Cert.LoraBwdIdeal.main_arg2) = m ((c.tc : Thread Cert.LoraBwdIdeal.nD Cert.LoraBwdIdeal.τ).loc Cert.LoraBwdIdeal.main_arg2)
          ∧ r.2.mem ((c.tc : Thread Cert.LoraBwdIdeal.nD Cert.LoraBwdIdeal.τ).loc Cert.LoraBwdIdeal.main_arg3) = m ((c.tc : Thread Cert.LoraBwdIdeal.nD Cert.LoraBwdIdeal.τ).loc Cert.LoraBwdIdeal.main_arg3)
          ∧ r.2.mem ((c.tc : Thread Cert.LoraBwdIdeal.nD Cert.LoraBwdIdeal.τ).loc Cert.LoraBwdIdeal.main_arg4) = m ((c.tc : Thread Cert.LoraBwdIdeal.nD Cert.LoraBwdIdeal.τ).loc Cert.LoraBwdIdeal.main_arg4)
          ∧ r.2.mem ((c.tc : Thread Cert.LoraBwdIdeal.nD Cert.LoraBwdIdeal.τ).loc Cert.LoraBwdIdeal.main_arg5) = m ((c.tc : Thread Cert.LoraBwdIdeal.nD Cert.LoraBwdIdeal.τ).loc Cert.LoraBwdIdeal.main_arg5)
          ∧ r.2.mem ((c.tc : Thread Cert.LoraBwdIdeal.nD Cert.LoraBwdIdeal.τ).loc Cert.LoraBwdIdeal.main_arg6) = m ((c.tc : Thread Cert.LoraBwdIdeal.nD Cert.LoraBwdIdeal.τ).loc Cert.LoraBwdIdeal.main_arg6))
      ∧ θ_run (Cert.LoraBwdRefIdeal.defs (F := Ideal)) (onTc (τ := Cert.LoraBwdRefIdeal.τ) (Cert.LoraBwdRefIdeal.main (F := Ideal))) ⟨m', fun _ => 0, g'⟩ (fun r => ∀ c : Dev Cert.LoraBwdRefIdeal.nD,
          r.2.mem ((c.tc : Thread Cert.LoraBwdRefIdeal.nD Cert.LoraBwdRefIdeal.τ).loc Cert.LoraBwdRefIdeal.main_v55) = v0 c
          ∧ r.2.mem ((c.tc : Thread Cert.LoraBwdRefIdeal.nD Cert.LoraBwdRefIdeal.τ).loc Cert.LoraBwdRefIdeal.main_v56) = v1 c
          ∧ r.2.mem ((c.tc : Thread Cert.LoraBwdRefIdeal.nD Cert.LoraBwdRefIdeal.τ).loc Cert.LoraBwdRefIdeal.main_v51) = v2 c
          ∧ r.2.mem ((c.tc : Thread Cert.LoraBwdRefIdeal.nD Cert.LoraBwdRefIdeal.τ).loc Cert.LoraBwdRefIdeal.main_v57) = v3 c
          ∧ r.2.mem ((c.tc : Thread Cert.LoraBwdRefIdeal.nD Cert.LoraBwdRefIdeal.τ).loc Cert.LoraBwdRefIdeal.main_v42) = v4 c
          ∧ r.2.mem ((c.tc : Thread Cert.LoraBwdRefIdeal.nD Cert.LoraBwdRefIdeal.τ).loc Cert.LoraBwdRefIdeal.main_arg0) = m' ((c.tc : Thread Cert.LoraBwdRefIdeal.nD Cert.LoraBwdRefIdeal.τ).loc Cert.LoraBwdRefIdeal.main_arg0)
          ∧ r.2.mem ((c.tc : Thread Cert.LoraBwdRefIdeal.nD Cert.LoraBwdRefIdeal.τ).loc Cert.LoraBwdRefIdeal.main_arg1) = m' ((c.tc : Thread Cert.LoraBwdRefIdeal.nD Cert.LoraBwdRefIdeal.τ).loc Cert.LoraBwdRefIdeal.main_arg1)
          ∧ r.2.mem ((c.tc : Thread Cert.LoraBwdRefIdeal.nD Cert.LoraBwdRefIdeal.τ).loc Cert.LoraBwdRefIdeal.main_arg2) = m' ((c.tc : Thread Cert.LoraBwdRefIdeal.nD Cert.LoraBwdRefIdeal.τ).loc Cert.LoraBwdRefIdeal.main_arg2)
          ∧ r.2.mem ((c.tc : Thread Cert.LoraBwdRefIdeal.nD Cert.LoraBwdRefIdeal.τ).loc Cert.LoraBwdRefIdeal.main_arg3) = m' ((c.tc : Thread Cert.LoraBwdRefIdeal.nD Cert.LoraBwdRefIdeal.τ).loc Cert.LoraBwdRefIdeal.main_arg3)
          ∧ r.2.mem ((c.tc : Thread Cert.LoraBwdRefIdeal.nD Cert.LoraBwdRefIdeal.τ).loc Cert.LoraBwdRefIdeal.main_arg4) = m' ((c.tc : Thread Cert.LoraBwdRefIdeal.nD Cert.LoraBwdRefIdeal.τ).loc Cert.LoraBwdRefIdeal.main_arg4)
          ∧ r.2.mem ((c.tc : Thread Cert.LoraBwdRefIdeal.nD Cert.LoraBwdRefIdeal.τ).loc Cert.LoraBwdRefIdeal.main_arg5) = m' ((c.tc : Thread Cert.LoraBwdRefIdeal.nD Cert.LoraBwdRefIdeal.τ).loc Cert.LoraBwdRefIdeal.main_arg5)
          ∧ r.2.mem ((c.tc : Thread Cert.LoraBwdRefIdeal.nD Cert.LoraBwdRefIdeal.τ).loc Cert.LoraBwdRefIdeal.main_arg6) = m' ((c.tc : Thread Cert.LoraBwdRefIdeal.nD Cert.LoraBwdRefIdeal.τ).loc Cert.LoraBwdRefIdeal.main_arg6))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)
      ∧ m' ((c.tc : Thread Cert.NormFwdRefIdeal.nD Cert.NormFwdRefIdeal.τ).loc Cert.NormFwdRefIdeal.main_arg3) = m ((c.tc : Thread Cert.NormFwdIdeal.nD Cert.NormFwdIdeal.τ).loc Cert.NormFwdIdeal.main_arg3)) →
    ∃ (v0 : (c : Dev Cert.NormFwdIdeal.nD) → Buf (Elt Ideal) ((c.tc : Thread Cert.NormFwdIdeal.nD Cert.NormFwdIdeal.τ).loc Cert.NormFwdIdeal.main_v3)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v3) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v23) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2)
          ∧ r.2.mem ((c.tc : Thread Cert.NormFwdRefIdeal.nD Cert.NormFwdRefIdeal.τ).loc Cert.NormFwdRefIdeal.main_arg3) = m' ((c.tc : Thread Cert.NormFwdRefIdeal.nD Cert.NormFwdRefIdeal.τ).loc Cert.NormFwdRefIdeal.main_arg3))

def preserves_RwGate_RwGateIdeal : Prop :=
  True

def algebraic_RwGateIdeal_RwGateRefIdeal [hRwGateIdeal : Cert.RwGateIdeal.Facts] [hRwGateRefIdeal : Cert.RwGateRefIdeal.Facts] : Prop :=
  ∀ (m : (ℓ : Loc Cert.RwGateIdeal.nD Cert.RwGateIdeal.τ Cert.RwGateIdeal.sig) → Buf (Elt Ideal) ℓ) (g : Dev Cert.RwGateIdeal.nD → PrngReg)
    (m' : (ℓ : Loc Cert.RwGateRefIdeal.nD Cert.RwGateRefIdeal.τ Cert.RwGateRefIdeal.sig) → Buf (Elt Ideal) ℓ) (g' : Dev Cert.RwGateRefIdeal.nD → PrngReg), Pre_RwGateIdeal m →
    (∀ c : Dev Cert.RwGateIdeal.nD,
      m' ((c.tc : Thread Cert.RwGateRefIdeal.nD Cert.RwGateRefIdeal.τ).loc Cert.RwGateRefIdeal.main_arg0) = m ((c.tc : Thread Cert.RwGateIdeal.nD Cert.RwGateIdeal.τ).loc Cert.RwGateIdeal.main_arg0)
      ∧ m' ((c.tc : Thread Cert.RwGateRefIdeal.nD Cert.RwGateRefIdeal.τ).loc Cert.RwGateRefIdeal.main_arg1) = m ((c.tc : Thread Cert.RwGateIdeal.nD Cert.RwGateIdeal.τ).loc Cert.RwGateIdeal.main_arg1)) →
    ∃ (v0 : (c : Dev Cert.RwGateIdeal.nD) → Buf (Elt Ideal) ((c.tc : Thread Cert.RwGateIdeal.nD Cert.RwGateIdeal.τ).loc Cert.RwGateIdeal.main_v0)),
      θ_run (Cert.RwGateIdeal.defs (F := Ideal)) (onTc (τ := Cert.RwGateIdeal.τ) (Cert.RwGateIdeal.main (F := Ideal))) ⟨m, fun _ => 0, g⟩ (fun r => ∀ c : Dev Cert.RwGateIdeal.nD,
          r.2.mem ((c.tc : Thread Cert.RwGateIdeal.nD Cert.RwGateIdeal.τ).loc Cert.RwGateIdeal.main_v0) = v0 c
          ∧ r.2.mem ((c.tc : Thread Cert.RwGateIdeal.nD Cert.RwGateIdeal.τ).loc Cert.RwGateIdeal.main_arg0) = m ((c.tc : Thread Cert.RwGateIdeal.nD Cert.RwGateIdeal.τ).loc Cert.RwGateIdeal.main_arg0)
          ∧ r.2.mem ((c.tc : Thread Cert.RwGateIdeal.nD Cert.RwGateIdeal.τ).loc Cert.RwGateIdeal.main_arg1) = m ((c.tc : Thread Cert.RwGateIdeal.nD Cert.RwGateIdeal.τ).loc Cert.RwGateIdeal.main_arg1))
      ∧ θ_run (Cert.RwGateRefIdeal.defs (F := Ideal)) (onTc (τ := Cert.RwGateRefIdeal.τ) (Cert.RwGateRefIdeal.main (F := Ideal))) ⟨m', fun _ => 0, g'⟩ (fun r => ∀ c : Dev Cert.RwGateRefIdeal.nD,
          r.2.mem ((c.tc : Thread Cert.RwGateRefIdeal.nD Cert.RwGateRefIdeal.τ).loc Cert.RwGateRefIdeal.main_v5) = v0 c
          ∧ r.2.mem ((c.tc : Thread Cert.RwGateRefIdeal.nD Cert.RwGateRefIdeal.τ).loc Cert.RwGateRefIdeal.main_arg0) = m' ((c.tc : Thread Cert.RwGateRefIdeal.nD Cert.RwGateRefIdeal.τ).loc Cert.RwGateRefIdeal.main_arg0)
          ∧ r.2.mem ((c.tc : Thread Cert.RwGateRefIdeal.nD Cert.RwGateRefIdeal.τ).loc Cert.RwGateRefIdeal.main_arg1) = m' ((c.tc : Thread Cert.RwGateRefIdeal.nD Cert.RwGateRefIdeal.τ).loc Cert.RwGateRefIdeal.main_arg1))

def preserves_SwaGate_SwaGateIdeal : Prop :=
  True

def algebraic_SwaGateIdeal_SwaGateRefIdeal [hSwaGateIdeal : Cert.SwaGateIdeal.Facts] [hSwaGateRefIdeal : Cert.SwaGateRefIdeal.Facts] : Prop :=
  ∀ (m : (ℓ : Loc Cert.SwaGateIdeal.nD Cert.SwaGateIdeal.τ Cert.SwaGateIdeal.sig) → Buf (Elt Ideal) ℓ) (g : Dev Cert.SwaGateIdeal.nD → PrngReg)
    (m' : (ℓ : Loc Cert.SwaGateRefIdeal.nD Cert.SwaGateRefIdeal.τ Cert.SwaGateRefIdeal.sig) → Buf (Elt Ideal) ℓ) (g' : Dev Cert.SwaGateRefIdeal.nD → PrngReg), Pre_SwaGateIdeal m →
    (∀ c : Dev Cert.SwaGateIdeal.nD,
      m' ((c.tc : Thread Cert.SwaGateRefIdeal.nD Cert.SwaGateRefIdeal.τ).loc Cert.SwaGateRefIdeal.main_arg0) = m ((c.tc : Thread Cert.SwaGateIdeal.nD Cert.SwaGateIdeal.τ).loc Cert.SwaGateIdeal.main_arg0)
      ∧ m' ((c.tc : Thread Cert.SwaGateRefIdeal.nD Cert.SwaGateRefIdeal.τ).loc Cert.SwaGateRefIdeal.main_arg1) = m ((c.tc : Thread Cert.SwaGateIdeal.nD Cert.SwaGateIdeal.τ).loc Cert.SwaGateIdeal.main_arg1)) →
    ∃ (v0 : (c : Dev Cert.SwaGateIdeal.nD) → Buf (Elt Ideal) ((c.tc : Thread Cert.SwaGateIdeal.nD Cert.SwaGateIdeal.τ).loc Cert.SwaGateIdeal.main_v0)),
      θ_run (Cert.SwaGateIdeal.defs (F := Ideal)) (onTc (τ := Cert.SwaGateIdeal.τ) (Cert.SwaGateIdeal.main (F := Ideal))) ⟨m, fun _ => 0, g⟩ (fun r => ∀ c : Dev Cert.SwaGateIdeal.nD,
          r.2.mem ((c.tc : Thread Cert.SwaGateIdeal.nD Cert.SwaGateIdeal.τ).loc Cert.SwaGateIdeal.main_v0) = v0 c
          ∧ r.2.mem ((c.tc : Thread Cert.SwaGateIdeal.nD Cert.SwaGateIdeal.τ).loc Cert.SwaGateIdeal.main_arg0) = m ((c.tc : Thread Cert.SwaGateIdeal.nD Cert.SwaGateIdeal.τ).loc Cert.SwaGateIdeal.main_arg0)
          ∧ r.2.mem ((c.tc : Thread Cert.SwaGateIdeal.nD Cert.SwaGateIdeal.τ).loc Cert.SwaGateIdeal.main_arg1) = m ((c.tc : Thread Cert.SwaGateIdeal.nD Cert.SwaGateIdeal.τ).loc Cert.SwaGateIdeal.main_arg1))
      ∧ θ_run (Cert.SwaGateRefIdeal.defs (F := Ideal)) (onTc (τ := Cert.SwaGateRefIdeal.τ) (Cert.SwaGateRefIdeal.main (F := Ideal))) ⟨m', fun _ => 0, g'⟩ (fun r => ∀ c : Dev Cert.SwaGateRefIdeal.nD,
          r.2.mem ((c.tc : Thread Cert.SwaGateRefIdeal.nD Cert.SwaGateRefIdeal.τ).loc Cert.SwaGateRefIdeal.main_v9) = v0 c
          ∧ r.2.mem ((c.tc : Thread Cert.SwaGateRefIdeal.nD Cert.SwaGateRefIdeal.τ).loc Cert.SwaGateRefIdeal.main_arg0) = m' ((c.tc : Thread Cert.SwaGateRefIdeal.nD Cert.SwaGateRefIdeal.τ).loc Cert.SwaGateRefIdeal.main_arg0)
          ∧ r.2.mem ((c.tc : Thread Cert.SwaGateRefIdeal.nD Cert.SwaGateRefIdeal.τ).loc Cert.SwaGateRefIdeal.main_arg1) = m' ((c.tc : Thread Cert.SwaGateRefIdeal.nD Cert.SwaGateRefIdeal.τ).loc Cert.SwaGateRefIdeal.main_arg1))

def preserves_Lora_LoraIdeal : Prop :=
  True

def algebraic_LoraIdeal_LoraRefIdeal [hLoraIdeal : Cert.LoraIdeal.Facts] [hLoraRefIdeal : Cert.LoraRefIdeal.Facts] : Prop :=
  ∀ (m : (ℓ : Loc Cert.LoraIdeal.nD Cert.LoraIdeal.τ Cert.LoraIdeal.sig) → Buf (Elt Ideal) ℓ) (g : Dev Cert.LoraIdeal.nD → PrngReg)
    (m' : (ℓ : Loc Cert.LoraRefIdeal.nD Cert.LoraRefIdeal.τ Cert.LoraRefIdeal.sig) → Buf (Elt Ideal) ℓ) (g' : Dev Cert.LoraRefIdeal.nD → PrngReg), Pre_LoraIdeal m →
    (∀ c : Dev Cert.LoraIdeal.nD,
      m' ((c.tc : Thread Cert.LoraRefIdeal.nD Cert.LoraRefIdeal.τ).loc Cert.LoraRefIdeal.main_arg0) = m ((c.tc : Thread Cert.LoraIdeal.nD Cert.LoraIdeal.τ).loc Cert.LoraIdeal.main_arg0)
      ∧ m' ((c.tc : Thread Cert.LoraRefIdeal.nD Cert.LoraRefIdeal.τ).loc Cert.LoraRefIdeal.main_arg1) = m ((c.tc : Thread Cert.LoraIdeal.nD Cert.LoraIdeal.τ).loc Cert.LoraIdeal.main_arg1)
      ∧ m' ((c.tc : Thread Cert.LoraRefIdeal.nD Cert.LoraRefIdeal.τ).loc Cert.LoraRefIdeal.main_arg2) = m ((c.tc : Thread Cert.LoraIdeal.nD Cert.LoraIdeal.τ).loc Cert.LoraIdeal.main_arg2)
      ∧ m' ((c.tc : Thread Cert.LoraRefIdeal.nD Cert.LoraRefIdeal.τ).loc Cert.LoraRefIdeal.main_arg3) = m ((c.tc : Thread Cert.LoraIdeal.nD Cert.LoraIdeal.τ).loc Cert.LoraIdeal.main_arg3)
      ∧ m' ((c.tc : Thread Cert.LoraRefIdeal.nD Cert.LoraRefIdeal.τ).loc Cert.LoraRefIdeal.main_arg4) = m ((c.tc : Thread Cert.LoraIdeal.nD Cert.LoraIdeal.τ).loc Cert.LoraIdeal.main_arg4)) →
    ∃ (v0 : (c : Dev Cert.LoraIdeal.nD) → Buf (Elt Ideal) ((c.tc : Thread Cert.LoraIdeal.nD Cert.LoraIdeal.τ).loc Cert.LoraIdeal.main_v2_0)) (v1 : (c : Dev Cert.LoraIdeal.nD) → Buf (Elt Ideal) ((c.tc : Thread Cert.LoraIdeal.nD Cert.LoraIdeal.τ).loc Cert.LoraIdeal.main_v2_1)),
      θ_run (Cert.LoraIdeal.defs (F := Ideal)) (onTc (τ := Cert.LoraIdeal.τ) (Cert.LoraIdeal.main (F := Ideal))) ⟨m, fun _ => 0, g⟩ (fun r => ∀ c : Dev Cert.LoraIdeal.nD,
          r.2.mem ((c.tc : Thread Cert.LoraIdeal.nD Cert.LoraIdeal.τ).loc Cert.LoraIdeal.main_v2_0) = v0 c
          ∧ r.2.mem ((c.tc : Thread Cert.LoraIdeal.nD Cert.LoraIdeal.τ).loc Cert.LoraIdeal.main_v2_1) = v1 c
          ∧ r.2.mem ((c.tc : Thread Cert.LoraIdeal.nD Cert.LoraIdeal.τ).loc Cert.LoraIdeal.main_arg0) = m ((c.tc : Thread Cert.LoraIdeal.nD Cert.LoraIdeal.τ).loc Cert.LoraIdeal.main_arg0)
          ∧ r.2.mem ((c.tc : Thread Cert.LoraIdeal.nD Cert.LoraIdeal.τ).loc Cert.LoraIdeal.main_arg1) = m ((c.tc : Thread Cert.LoraIdeal.nD Cert.LoraIdeal.τ).loc Cert.LoraIdeal.main_arg1)
          ∧ r.2.mem ((c.tc : Thread Cert.LoraIdeal.nD Cert.LoraIdeal.τ).loc Cert.LoraIdeal.main_arg2) = m ((c.tc : Thread Cert.LoraIdeal.nD Cert.LoraIdeal.τ).loc Cert.LoraIdeal.main_arg2)
          ∧ r.2.mem ((c.tc : Thread Cert.LoraIdeal.nD Cert.LoraIdeal.τ).loc Cert.LoraIdeal.main_arg3) = m ((c.tc : Thread Cert.LoraIdeal.nD Cert.LoraIdeal.τ).loc Cert.LoraIdeal.main_arg3)
          ∧ r.2.mem ((c.tc : Thread Cert.LoraIdeal.nD Cert.LoraIdeal.τ).loc Cert.LoraIdeal.main_arg4) = m ((c.tc : Thread Cert.LoraIdeal.nD Cert.LoraIdeal.τ).loc Cert.LoraIdeal.main_arg4))
      ∧ θ_run (Cert.LoraRefIdeal.defs (F := Ideal)) (onTc (τ := Cert.LoraRefIdeal.τ) (Cert.LoraRefIdeal.main (F := Ideal))) ⟨m', fun _ => 0, g'⟩ (fun r => ∀ c : Dev Cert.LoraRefIdeal.nD,
          r.2.mem ((c.tc : Thread Cert.LoraRefIdeal.nD Cert.LoraRefIdeal.τ).loc Cert.LoraRefIdeal.main_v24) = v0 c
          ∧ r.2.mem ((c.tc : Thread Cert.LoraRefIdeal.nD Cert.LoraRefIdeal.τ).loc Cert.LoraRefIdeal.main_v25) = v1 c
          ∧ r.2.mem ((c.tc : Thread Cert.LoraRefIdeal.nD Cert.LoraRefIdeal.τ).loc Cert.LoraRefIdeal.main_arg0) = m' ((c.tc : Thread Cert.LoraRefIdeal.nD Cert.LoraRefIdeal.τ).loc Cert.LoraRefIdeal.main_arg0)
          ∧ r.2.mem ((c.tc : Thread Cert.LoraRefIdeal.nD Cert.LoraRefIdeal.τ).loc Cert.LoraRefIdeal.main_arg1) = m' ((c.tc : Thread Cert.LoraRefIdeal.nD Cert.LoraRefIdeal.τ).loc Cert.LoraRefIdeal.main_arg1)
          ∧ r.2.mem ((c.tc : Thread Cert.LoraRefIdeal.nD Cert.LoraRefIdeal.τ).loc Cert.LoraRefIdeal.main_arg2) = m' ((c.tc : Thread Cert.LoraRefIdeal.nD Cert.LoraRefIdeal.τ).loc Cert.LoraRefIdeal.main_arg2)
          ∧ r.2.mem ((c.tc : Thread Cert.LoraRefIdeal.nD Cert.LoraRefIdeal.τ).loc Cert.LoraRefIdeal.main_arg3) = m' ((c.tc : Thread Cert.LoraRefIdeal.nD Cert.LoraRefIdeal.τ).loc Cert.LoraRefIdeal.main_arg3)
          ∧ r.2.mem ((c.tc : Thread Cert.LoraRefIdeal.nD Cert.LoraRefIdeal.τ).loc Cert.LoraRefIdeal.main_arg4) = m' ((c.tc : Thread Cert.LoraRefIdeal.nD Cert.LoraRefIdeal.τ).loc Cert.LoraRefIdeal.main_arg4))

def preserves_RwInlDw_RwInlDwIdeal : Prop :=
  True

def algebraic_RwInlDwIdeal_RwInlDwRefIdeal [hRwInlDwIdeal : Cert.RwInlDwIdeal.Facts] [hRwInlDwRefIdeal : Cert.RwInlDwRefIdeal.Facts] : Prop :=
  ∀ (m : (ℓ : Loc Cert.RwInlDwIdeal.nD Cert.RwInlDwIdeal.τ Cert.RwInlDwIdeal.sig) → Buf (Elt Ideal) ℓ) (g : Dev Cert.RwInlDwIdeal.nD → PrngReg)
    (m' : (ℓ : Loc Cert.RwInlDwRefIdeal.nD Cert.RwInlDwRefIdeal.τ Cert.RwInlDwRefIdeal.sig) → Buf (Elt Ideal) ℓ) (g' : Dev Cert.RwInlDwRefIdeal.nD → PrngReg), Pre_RwInlDwIdeal m →
    (∀ c : Dev Cert.RwInlDwIdeal.nD,
      m' ((c.tc : Thread Cert.RwInlDwRefIdeal.nD Cert.RwInlDwRefIdeal.τ).loc Cert.RwInlDwRefIdeal.main_arg0) = m ((c.tc : Thread Cert.RwInlDwIdeal.nD Cert.RwInlDwIdeal.τ).loc Cert.RwInlDwIdeal.main_arg0)
      ∧ m' ((c.tc : Thread Cert.RwInlDwRefIdeal.nD Cert.RwInlDwRefIdeal.τ).loc Cert.RwInlDwRefIdeal.main_arg1) = m ((c.tc : Thread Cert.RwInlDwIdeal.nD Cert.RwInlDwIdeal.τ).loc Cert.RwInlDwIdeal.main_arg1)) →
    ∃ (v0 : (c : Dev Cert.RwInlDwIdeal.nD) → Buf (Elt Ideal) ((c.tc : Thread Cert.RwInlDwIdeal.nD Cert.RwInlDwIdeal.τ).loc Cert.RwInlDwIdeal.main_v0)),
      θ_run (Cert.RwInlDwIdeal.defs (F := Ideal)) (onTc (τ := Cert.RwInlDwIdeal.τ) (Cert.RwInlDwIdeal.main (F := Ideal))) ⟨m, fun _ => 0, g⟩ (fun r => ∀ c : Dev Cert.RwInlDwIdeal.nD,
          r.2.mem ((c.tc : Thread Cert.RwInlDwIdeal.nD Cert.RwInlDwIdeal.τ).loc Cert.RwInlDwIdeal.main_v0) = v0 c
          ∧ r.2.mem ((c.tc : Thread Cert.RwInlDwIdeal.nD Cert.RwInlDwIdeal.τ).loc Cert.RwInlDwIdeal.main_arg0) = m ((c.tc : Thread Cert.RwInlDwIdeal.nD Cert.RwInlDwIdeal.τ).loc Cert.RwInlDwIdeal.main_arg0)
          ∧ r.2.mem ((c.tc : Thread Cert.RwInlDwIdeal.nD Cert.RwInlDwIdeal.τ).loc Cert.RwInlDwIdeal.main_arg1) = m ((c.tc : Thread Cert.RwInlDwIdeal.nD Cert.RwInlDwIdeal.τ).loc Cert.RwInlDwIdeal.main_arg1))
      ∧ θ_run (Cert.RwInlDwRefIdeal.defs (F := Ideal)) (onTc (τ := Cert.RwInlDwRefIdeal.τ) (Cert.RwInlDwRefIdeal.main (F := Ideal))) ⟨m', fun _ => 0, g'⟩ (fun r => ∀ c : Dev Cert.RwInlDwRefIdeal.nD,
          r.2.mem ((c.tc : Thread Cert.RwInlDwRefIdeal.nD Cert.RwInlDwRefIdeal.τ).loc Cert.RwInlDwRefIdeal.main_v8) = v0 c
          ∧ r.2.mem ((c.tc : Thread Cert.RwInlDwRefIdeal.nD Cert.RwInlDwRefIdeal.τ).loc Cert.RwInlDwRefIdeal.main_arg0) = m' ((c.tc : Thread Cert.RwInlDwRefIdeal.nD Cert.RwInlDwRefIdeal.τ).loc Cert.RwInlDwRefIdeal.main_arg0)
          ∧ r.2.mem ((c.tc : Thread Cert.RwInlDwRefIdeal.nD Cert.RwInlDwRefIdeal.τ).loc Cert.RwInlDwRefIdeal.main_arg1) = m' ((c.tc : Thread Cert.RwInlDwRefIdeal.nD Cert.RwInlDwRefIdeal.τ).loc Cert.RwInlDwRefIdeal.main_arg1))

def preserves_RwInlDx_RwInlDxIdeal : Prop :=
  True

def algebraic_RwInlDxIdeal_RwInlDxRefIdeal [hRwInlDxIdeal : Cert.RwInlDxIdeal.Facts] [hRwInlDxRefIdeal : Cert.RwInlDxRefIdeal.Facts] : Prop :=
  ∀ (m : (ℓ : Loc Cert.RwInlDxIdeal.nD Cert.RwInlDxIdeal.τ Cert.RwInlDxIdeal.sig) → Buf (Elt Ideal) ℓ) (g : Dev Cert.RwInlDxIdeal.nD → PrngReg)
    (m' : (ℓ : Loc Cert.RwInlDxRefIdeal.nD Cert.RwInlDxRefIdeal.τ Cert.RwInlDxRefIdeal.sig) → Buf (Elt Ideal) ℓ) (g' : Dev Cert.RwInlDxRefIdeal.nD → PrngReg), Pre_RwInlDxIdeal m →
    (∀ c : Dev Cert.RwInlDxIdeal.nD,
      m' ((c.tc : Thread Cert.RwInlDxRefIdeal.nD Cert.RwInlDxRefIdeal.τ).loc Cert.RwInlDxRefIdeal.main_arg0) = m ((c.tc : Thread Cert.RwInlDxIdeal.nD Cert.RwInlDxIdeal.τ).loc Cert.RwInlDxIdeal.main_arg0)
      ∧ m' ((c.tc : Thread Cert.RwInlDxRefIdeal.nD Cert.RwInlDxRefIdeal.τ).loc Cert.RwInlDxRefIdeal.main_arg1) = m ((c.tc : Thread Cert.RwInlDxIdeal.nD Cert.RwInlDxIdeal.τ).loc Cert.RwInlDxIdeal.main_arg1)) →
    ∃ (v0 : (c : Dev Cert.RwInlDxIdeal.nD) → Buf (Elt Ideal) ((c.tc : Thread Cert.RwInlDxIdeal.nD Cert.RwInlDxIdeal.τ).loc Cert.RwInlDxIdeal.main_v1)),
      θ_run (Cert.RwInlDxIdeal.defs (F := Ideal)) (onTc (τ := Cert.RwInlDxIdeal.τ) (Cert.RwInlDxIdeal.main (F := Ideal))) ⟨m, fun _ => 0, g⟩ (fun r => ∀ c : Dev Cert.RwInlDxIdeal.nD,
          r.2.mem ((c.tc : Thread Cert.RwInlDxIdeal.nD Cert.RwInlDxIdeal.τ).loc Cert.RwInlDxIdeal.main_v1) = v0 c
          ∧ r.2.mem ((c.tc : Thread Cert.RwInlDxIdeal.nD Cert.RwInlDxIdeal.τ).loc Cert.RwInlDxIdeal.main_arg0) = m ((c.tc : Thread Cert.RwInlDxIdeal.nD Cert.RwInlDxIdeal.τ).loc Cert.RwInlDxIdeal.main_arg0)
          ∧ r.2.mem ((c.tc : Thread Cert.RwInlDxIdeal.nD Cert.RwInlDxIdeal.τ).loc Cert.RwInlDxIdeal.main_arg1) = m ((c.tc : Thread Cert.RwInlDxIdeal.nD Cert.RwInlDxIdeal.τ).loc Cert.RwInlDxIdeal.main_arg1))
      ∧ θ_run (Cert.RwInlDxRefIdeal.defs (F := Ideal)) (onTc (τ := Cert.RwInlDxRefIdeal.τ) (Cert.RwInlDxRefIdeal.main (F := Ideal))) ⟨m', fun _ => 0, g'⟩ (fun r => ∀ c : Dev Cert.RwInlDxRefIdeal.nD,
          r.2.mem ((c.tc : Thread Cert.RwInlDxRefIdeal.nD Cert.RwInlDxRefIdeal.τ).loc Cert.RwInlDxRefIdeal.main_v5) = v0 c
          ∧ r.2.mem ((c.tc : Thread Cert.RwInlDxRefIdeal.nD Cert.RwInlDxRefIdeal.τ).loc Cert.RwInlDxRefIdeal.main_arg0) = m' ((c.tc : Thread Cert.RwInlDxRefIdeal.nD Cert.RwInlDxRefIdeal.τ).loc Cert.RwInlDxRefIdeal.main_arg0)
          ∧ r.2.mem ((c.tc : Thread Cert.RwInlDxRefIdeal.nD Cert.RwInlDxRefIdeal.τ).loc Cert.RwInlDxRefIdeal.main_arg1) = m' ((c.tc : Thread Cert.RwInlDxRefIdeal.nD Cert.RwInlDxRefIdeal.τ).loc Cert.RwInlDxRefIdeal.main_arg1))

def preserves_RwInl_RwInlIdeal : Prop :=
  True

def algebraic_RwInlIdeal_RwInlRefIdeal [hRwInlIdeal : Cert.RwInlIdeal.Facts] [hRwInlRefIdeal : Cert.RwInlRefIdeal.Facts] : Prop :=
  ∀ (m : (ℓ : Loc Cert.RwInlIdeal.nD Cert.RwInlIdeal.τ Cert.RwInlIdeal.sig) → Buf (Elt Ideal) ℓ) (g : Dev Cert.RwInlIdeal.nD → PrngReg)
    (m' : (ℓ : Loc Cert.RwInlRefIdeal.nD Cert.RwInlRefIdeal.τ Cert.RwInlRefIdeal.sig) → Buf (Elt Ideal) ℓ) (g' : Dev Cert.RwInlRefIdeal.nD → PrngReg), Pre_RwInlIdeal m →
    (∀ c : Dev Cert.RwInlIdeal.nD,
      m' ((c.tc : Thread Cert.RwInlRefIdeal.nD Cert.RwInlRefIdeal.τ).loc Cert.RwInlRefIdeal.main_arg0) = m ((c.tc : Thread Cert.RwInlIdeal.nD Cert.RwInlIdeal.τ).loc Cert.RwInlIdeal.main_arg0)
      ∧ m' ((c.tc : Thread Cert.RwInlRefIdeal.nD Cert.RwInlRefIdeal.τ).loc Cert.RwInlRefIdeal.main_arg1) = m ((c.tc : Thread Cert.RwInlIdeal.nD Cert.RwInlIdeal.τ).loc Cert.RwInlIdeal.main_arg1)) →
    ∃ (v0 : (c : Dev Cert.RwInlIdeal.nD) → Buf (Elt Ideal) ((c.tc : Thread Cert.RwInlIdeal.nD Cert.RwInlIdeal.τ).loc Cert.RwInlIdeal.main_v1)),
      θ_run (Cert.RwInlIdeal.defs (F := Ideal)) (onTc (τ := Cert.RwInlIdeal.τ) (Cert.RwInlIdeal.main (F := Ideal))) ⟨m, fun _ => 0, g⟩ (fun r => ∀ c : Dev Cert.RwInlIdeal.nD,
          r.2.mem ((c.tc : Thread Cert.RwInlIdeal.nD Cert.RwInlIdeal.τ).loc Cert.RwInlIdeal.main_v1) = v0 c
          ∧ r.2.mem ((c.tc : Thread Cert.RwInlIdeal.nD Cert.RwInlIdeal.τ).loc Cert.RwInlIdeal.main_arg0) = m ((c.tc : Thread Cert.RwInlIdeal.nD Cert.RwInlIdeal.τ).loc Cert.RwInlIdeal.main_arg0)
          ∧ r.2.mem ((c.tc : Thread Cert.RwInlIdeal.nD Cert.RwInlIdeal.τ).loc Cert.RwInlIdeal.main_arg1) = m ((c.tc : Thread Cert.RwInlIdeal.nD Cert.RwInlIdeal.τ).loc Cert.RwInlIdeal.main_arg1))
      ∧ θ_run (Cert.RwInlRefIdeal.defs (F := Ideal)) (onTc (τ := Cert.RwInlRefIdeal.τ) (Cert.RwInlRefIdeal.main (F := Ideal))) ⟨m', fun _ => 0, g'⟩ (fun r => ∀ c : Dev Cert.RwInlRefIdeal.nD,
          r.2.mem ((c.tc : Thread Cert.RwInlRefIdeal.nD Cert.RwInlRefIdeal.τ).loc Cert.RwInlRefIdeal.main_v3) = v0 c
          ∧ r.2.mem ((c.tc : Thread Cert.RwInlRefIdeal.nD Cert.RwInlRefIdeal.τ).loc Cert.RwInlRefIdeal.main_arg0) = m' ((c.tc : Thread Cert.RwInlRefIdeal.nD Cert.RwInlRefIdeal.τ).loc Cert.RwInlRefIdeal.main_arg0)
          ∧ r.2.mem ((c.tc : Thread Cert.RwInlRefIdeal.nD Cert.RwInlRefIdeal.τ).loc Cert.RwInlRefIdeal.main_arg1) = m' ((c.tc : Thread Cert.RwInlRefIdeal.nD Cert.RwInlRefIdeal.τ).loc Cert.RwInlRefIdeal.main_arg1))

def Claim : Prop :=
  ∃ (hKernel : Cert.Kernel.Facts) (hKernelIdeal : Cert.KernelIdeal.Facts) (hReferenceIdeal : Cert.ReferenceIdeal.Facts) (hOutDw : Cert.OutDw.Facts) (hOutDwIdeal : Cert.OutDwIdeal.Facts) (hOutDwRefIdeal : Cert.OutDwRefIdeal.Facts) (hOutDx : Cert.OutDx.Facts) (hOutDxIdeal : Cert.OutDxIdeal.Facts) (hOutDxRefIdeal : Cert.OutDxRefIdeal.Facts) (hSgInDw : Cert.SgInDw.Facts) (hSgInDwIdeal : Cert.SgInDwIdeal.Facts) (hSgInDwRefIdeal : Cert.SgInDwRefIdeal.Facts) (hSgInDx : Cert.SgInDx.Facts) (hSgInDxIdeal : Cert.SgInDxIdeal.Facts) (hSgInDxRefIdeal : Cert.SgInDxRefIdeal.Facts) (hRwInDw : Cert.RwInDw.Facts) (hRwInDwIdeal : Cert.RwInDwIdeal.Facts) (hRwInDwRefIdeal : Cert.RwInDwRefIdeal.Facts) (hRwInDx : Cert.RwInDx.Facts) (hRwInDxIdeal : Cert.RwInDxIdeal.Facts) (hRwInDxRefIdeal : Cert.RwInDxRefIdeal.Facts) (hSgIn : Cert.SgIn.Facts) (hSgInIdeal : Cert.SgInIdeal.Facts) (hSgInRefIdeal : Cert.SgInRefIdeal.Facts) (hRwIn : Cert.RwIn.Facts) (hRwInIdeal : Cert.RwInIdeal.Facts) (hRwInRefIdeal : Cert.RwInRefIdeal.Facts) (hOutFwd : Cert.OutFwd.Facts) (hOutFwdIdeal : Cert.OutFwdIdeal.Facts) (hOutFwdRefIdeal : Cert.OutFwdRefIdeal.Facts) (hNormBwd : Cert.NormBwd.Facts) (hNormBwdIdeal : Cert.NormBwdIdeal.Facts) (hNormBwdRefIdeal : Cert.NormBwdRefIdeal.Facts) (hNormBwdFirst : Cert.NormBwdFirst.Facts) (hNormBwdFirstIdeal : Cert.NormBwdFirstIdeal.Facts) (hNormBwdFirstRefIdeal : Cert.NormBwdFirstRefIdeal.Facts) (hLossHead : Cert.LossHead.Facts) (hLossHeadIdeal : Cert.LossHeadIdeal.Facts) (hLossHeadRefIdeal : Cert.LossHeadRefIdeal.Facts) (hRwGateBwd : Cert.RwGateBwd.Facts) (hRwGateBwdIdeal : Cert.RwGateBwdIdeal.Facts) (hRwGateBwdRefIdeal : Cert.RwGateBwdRefIdeal.Facts) (hSwaGateBwd : Cert.SwaGateBwd.Facts) (hSwaGateBwdIdeal : Cert.SwaGateBwdIdeal.Facts) (hSwaGateBwdRefIdeal : Cert.SwaGateBwdRefIdeal.Facts) (hLoraBwd : Cert.LoraBwd.Facts) (hLoraBwdIdeal : Cert.LoraBwdIdeal.Facts) (hLoraBwdRefIdeal : Cert.LoraBwdRefIdeal.Facts) (hNormFwd : Cert.NormFwd.Facts) (hNormFwdIdeal : Cert.NormFwdIdeal.Facts) (hNormFwdRefIdeal : Cert.NormFwdRefIdeal.Facts) (hRwGate : Cert.RwGate.Facts) (hRwGateIdeal : Cert.RwGateIdeal.Facts) (hRwGateRefIdeal : Cert.RwGateRefIdeal.Facts) (hSwaGate : Cert.SwaGate.Facts) (hSwaGateIdeal : Cert.SwaGateIdeal.Facts) (hSwaGateRefIdeal : Cert.SwaGateRefIdeal.Facts) (hLora : Cert.Lora.Facts) (hLoraIdeal : Cert.LoraIdeal.Facts) (hLoraRefIdeal : Cert.LoraRefIdeal.Facts) (hRwInlDw : Cert.RwInlDw.Facts) (hRwInlDwIdeal : Cert.RwInlDwIdeal.Facts) (hRwInlDwRefIdeal : Cert.RwInlDwRefIdeal.Facts) (hRwInlDx : Cert.RwInlDx.Facts) (hRwInlDxIdeal : Cert.RwInlDxIdeal.Facts) (hRwInlDxRefIdeal : Cert.RwInlDxRefIdeal.Facts) (hRwInl : Cert.RwInl.Facts) (hRwInlIdeal : Cert.RwInlIdeal.Facts) (hRwInlRefIdeal : Cert.RwInlRefIdeal.Facts),
    quiescent_Kernel (hKernel := hKernel)
    ∧ quiescent_KernelIdeal (hKernelIdeal := hKernelIdeal)
    ∧ quiescent_ReferenceIdeal (hReferenceIdeal := hReferenceIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_SgInDw (hSgInDw := hSgInDw)
    ∧ quiescent_SgInDwIdeal (hSgInDwIdeal := hSgInDwIdeal)
    ∧ quiescent_SgInDwRefIdeal (hSgInDwRefIdeal := hSgInDwRefIdeal)
    ∧ quiescent_SgInDx (hSgInDx := hSgInDx)
    ∧ quiescent_SgInDxIdeal (hSgInDxIdeal := hSgInDxIdeal)
    ∧ quiescent_SgInDxRefIdeal (hSgInDxRefIdeal := hSgInDxRefIdeal)
    ∧ quiescent_RwInDw (hRwInDw := hRwInDw)
    ∧ quiescent_RwInDwIdeal (hRwInDwIdeal := hRwInDwIdeal)
    ∧ quiescent_RwInDwRefIdeal (hRwInDwRefIdeal := hRwInDwRefIdeal)
    ∧ quiescent_RwInDx (hRwInDx := hRwInDx)
    ∧ quiescent_RwInDxIdeal (hRwInDxIdeal := hRwInDxIdeal)
    ∧ quiescent_RwInDxRefIdeal (hRwInDxRefIdeal := hRwInDxRefIdeal)
    ∧ quiescent_SgIn (hSgIn := hSgIn)
    ∧ quiescent_SgInIdeal (hSgInIdeal := hSgInIdeal)
    ∧ quiescent_SgInRefIdeal (hSgInRefIdeal := hSgInRefIdeal)
    ∧ quiescent_RwIn (hRwIn := hRwIn)
    ∧ quiescent_RwInIdeal (hRwInIdeal := hRwInIdeal)
    ∧ quiescent_RwInRefIdeal (hRwInRefIdeal := hRwInRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_NormBwdFirst (hNormBwdFirst := hNormBwdFirst)
    ∧ quiescent_NormBwdFirstIdeal (hNormBwdFirstIdeal := hNormBwdFirstIdeal)
    ∧ quiescent_NormBwdFirstRefIdeal (hNormBwdFirstRefIdeal := hNormBwdFirstRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_RwGateBwd (hRwGateBwd := hRwGateBwd)
    ∧ quiescent_RwGateBwdIdeal (hRwGateBwdIdeal := hRwGateBwdIdeal)
    ∧ quiescent_RwGateBwdRefIdeal (hRwGateBwdRefIdeal := hRwGateBwdRefIdeal)
    ∧ quiescent_SwaGateBwd (hSwaGateBwd := hSwaGateBwd)
    ∧ quiescent_SwaGateBwdIdeal (hSwaGateBwdIdeal := hSwaGateBwdIdeal)
    ∧ quiescent_SwaGateBwdRefIdeal (hSwaGateBwdRefIdeal := hSwaGateBwdRefIdeal)
    ∧ quiescent_LoraBwd (hLoraBwd := hLoraBwd)
    ∧ quiescent_LoraBwdIdeal (hLoraBwdIdeal := hLoraBwdIdeal)
    ∧ quiescent_LoraBwdRefIdeal (hLoraBwdRefIdeal := hLoraBwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_RwGate (hRwGate := hRwGate)
    ∧ quiescent_RwGateIdeal (hRwGateIdeal := hRwGateIdeal)
    ∧ quiescent_RwGateRefIdeal (hRwGateRefIdeal := hRwGateRefIdeal)
    ∧ quiescent_SwaGate (hSwaGate := hSwaGate)
    ∧ quiescent_SwaGateIdeal (hSwaGateIdeal := hSwaGateIdeal)
    ∧ quiescent_SwaGateRefIdeal (hSwaGateRefIdeal := hSwaGateRefIdeal)
    ∧ quiescent_Lora (hLora := hLora)
    ∧ quiescent_LoraIdeal (hLoraIdeal := hLoraIdeal)
    ∧ quiescent_LoraRefIdeal (hLoraRefIdeal := hLoraRefIdeal)
    ∧ quiescent_RwInlDw (hRwInlDw := hRwInlDw)
    ∧ quiescent_RwInlDwIdeal (hRwInlDwIdeal := hRwInlDwIdeal)
    ∧ quiescent_RwInlDwRefIdeal (hRwInlDwRefIdeal := hRwInlDwRefIdeal)
    ∧ quiescent_RwInlDx (hRwInlDx := hRwInlDx)
    ∧ quiescent_RwInlDxIdeal (hRwInlDxIdeal := hRwInlDxIdeal)
    ∧ quiescent_RwInlDxRefIdeal (hRwInlDxRefIdeal := hRwInlDxRefIdeal)
    ∧ quiescent_RwInl (hRwInl := hRwInl)
    ∧ quiescent_RwInlIdeal (hRwInlIdeal := hRwInlIdeal)
    ∧ quiescent_RwInlRefIdeal (hRwInlRefIdeal := hRwInlRefIdeal)
    ∧ preserves_Kernel_KernelIdeal
    ∧ algebraic_KernelIdeal_ReferenceIdeal (hKernelIdeal := hKernelIdeal) (hReferenceIdeal := hReferenceIdeal)
    ∧ preserves_OutDw_OutDwIdeal
    ∧ algebraic_OutDwIdeal_OutDwRefIdeal (hOutDwIdeal := hOutDwIdeal) (hOutDwRefIdeal := hOutDwRefIdeal)
    ∧ preserves_OutDx_OutDxIdeal
    ∧ algebraic_OutDxIdeal_OutDxRefIdeal (hOutDxIdeal := hOutDxIdeal) (hOutDxRefIdeal := hOutDxRefIdeal)
    ∧ preserves_SgInDw_SgInDwIdeal
    ∧ algebraic_SgInDwIdeal_SgInDwRefIdeal (hSgInDwIdeal := hSgInDwIdeal) (hSgInDwRefIdeal := hSgInDwRefIdeal)
    ∧ preserves_SgInDx_SgInDxIdeal
    ∧ algebraic_SgInDxIdeal_SgInDxRefIdeal (hSgInDxIdeal := hSgInDxIdeal) (hSgInDxRefIdeal := hSgInDxRefIdeal)
    ∧ preserves_RwInDw_RwInDwIdeal
    ∧ algebraic_RwInDwIdeal_RwInDwRefIdeal (hRwInDwIdeal := hRwInDwIdeal) (hRwInDwRefIdeal := hRwInDwRefIdeal)
    ∧ preserves_RwInDx_RwInDxIdeal
    ∧ algebraic_RwInDxIdeal_RwInDxRefIdeal (hRwInDxIdeal := hRwInDxIdeal) (hRwInDxRefIdeal := hRwInDxRefIdeal)
    ∧ preserves_SgIn_SgInIdeal
    ∧ algebraic_SgInIdeal_SgInRefIdeal (hSgInIdeal := hSgInIdeal) (hSgInRefIdeal := hSgInRefIdeal)
    ∧ preserves_RwIn_RwInIdeal
    ∧ algebraic_RwInIdeal_RwInRefIdeal (hRwInIdeal := hRwInIdeal) (hRwInRefIdeal := hRwInRefIdeal)
    ∧ preserves_OutFwd_OutFwdIdeal
    ∧ algebraic_OutFwdIdeal_OutFwdRefIdeal (hOutFwdIdeal := hOutFwdIdeal) (hOutFwdRefIdeal := hOutFwdRefIdeal)
    ∧ preserves_NormBwd_NormBwdIdeal
    ∧ algebraic_NormBwdIdeal_NormBwdRefIdeal (hNormBwdIdeal := hNormBwdIdeal) (hNormBwdRefIdeal := hNormBwdRefIdeal)
    ∧ preserves_NormBwdFirst_NormBwdFirstIdeal
    ∧ algebraic_NormBwdFirstIdeal_NormBwdFirstRefIdeal (hNormBwdFirstIdeal := hNormBwdFirstIdeal) (hNormBwdFirstRefIdeal := hNormBwdFirstRefIdeal)
    ∧ preserves_LossHead_LossHeadIdeal
    ∧ algebraic_LossHeadIdeal_LossHeadRefIdeal (hLossHeadIdeal := hLossHeadIdeal) (hLossHeadRefIdeal := hLossHeadRefIdeal)
    ∧ preserves_RwGateBwd_RwGateBwdIdeal
    ∧ algebraic_RwGateBwdIdeal_RwGateBwdRefIdeal (hRwGateBwdIdeal := hRwGateBwdIdeal) (hRwGateBwdRefIdeal := hRwGateBwdRefIdeal)
    ∧ preserves_SwaGateBwd_SwaGateBwdIdeal
    ∧ algebraic_SwaGateBwdIdeal_SwaGateBwdRefIdeal (hSwaGateBwdIdeal := hSwaGateBwdIdeal) (hSwaGateBwdRefIdeal := hSwaGateBwdRefIdeal)
    ∧ preserves_LoraBwd_LoraBwdIdeal
    ∧ algebraic_LoraBwdIdeal_LoraBwdRefIdeal (hLoraBwdIdeal := hLoraBwdIdeal) (hLoraBwdRefIdeal := hLoraBwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_RwGate_RwGateIdeal
    ∧ algebraic_RwGateIdeal_RwGateRefIdeal (hRwGateIdeal := hRwGateIdeal) (hRwGateRefIdeal := hRwGateRefIdeal)
    ∧ preserves_SwaGate_SwaGateIdeal
    ∧ algebraic_SwaGateIdeal_SwaGateRefIdeal (hSwaGateIdeal := hSwaGateIdeal) (hSwaGateRefIdeal := hSwaGateRefIdeal)
    ∧ preserves_Lora_LoraIdeal
    ∧ algebraic_LoraIdeal_LoraRefIdeal (hLoraIdeal := hLoraIdeal) (hLoraRefIdeal := hLoraRefIdeal)
    ∧ preserves_RwInlDw_RwInlDwIdeal
    ∧ algebraic_RwInlDwIdeal_RwInlDwRefIdeal (hRwInlDwIdeal := hRwInlDwIdeal) (hRwInlDwRefIdeal := hRwInlDwRefIdeal)
    ∧ preserves_RwInlDx_RwInlDxIdeal
    ∧ algebraic_RwInlDxIdeal_RwInlDxRefIdeal (hRwInlDxIdeal := hRwInlDxIdeal) (hRwInlDxRefIdeal := hRwInlDxRefIdeal)
    ∧ preserves_RwInl_RwInlIdeal
    ∧ algebraic_RwInlIdeal_RwInlRefIdeal (hRwInlIdeal := hRwInlIdeal) (hRwInlRefIdeal := hRwInlRefIdeal)
-- ==== Kernel.lean ====
abbrev S4096x6144 : Shape := ⟨2, ![4096, 6144]⟩
abbrev S4096x2048 : Shape := ⟨2, ![4096, 2048]⟩
abbrev S2048 : Shape := ⟨1, ![2048]⟩
abbrev S16x128x128 : Shape := ⟨3, ![16, 128, 128]⟩
abbrev S16x128 : Shape := ⟨2, ![16, 128]⟩
abbrev S1x2048 : Shape := ⟨2, ![1, 2048]⟩
abbrev S128x16 : Shape := ⟨2, ![128, 16]⟩
abbrev S128x6144 : Shape := ⟨2, ![128, 6144]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S16x2048 : Shape := ⟨2, ![16, 2048]⟩
abbrev S128x1920 : Shape := ⟨2, ![128, 1920]⟩
abbrev S15x128x128 : Shape := ⟨3, ![15, 128, 128]⟩
abbrev S128x1792 : Shape := ⟨2, ![128, 1792]⟩
abbrev S14x128x128 : Shape := ⟨3, ![14, 128, 128]⟩
abbrev S128x1664 : Shape := ⟨2, ![128, 1664]⟩
abbrev S128x256 : Shape := ⟨2, ![128, 256]⟩
abbrev S13x128x128 : Shape := ⟨3, ![13, 128, 128]⟩
abbrev S2x128x128 : Shape := ⟨3, ![2, 128, 128]⟩
abbrev S128x1536 : Shape := ⟨2, ![128, 1536]⟩
abbrev S128x384 : Shape := ⟨2, ![128, 384]⟩
abbrev S12x128x128 : Shape := ⟨3, ![12, 128, 128]⟩
abbrev S3x128x128 : Shape := ⟨3, ![3, 128, 128]⟩
abbrev S128x1408 : Shape := ⟨2, ![128, 1408]⟩
abbrev S128x512 : Shape := ⟨2, ![128, 512]⟩
abbrev S11x128x128 : Shape := ⟨3, ![11, 128, 128]⟩
abbrev S4x128x128 : Shape := ⟨3, ![4, 128, 128]⟩
abbrev S128x1280 : Shape := ⟨2, ![128, 1280]⟩
abbrev S128x640 : Shape := ⟨2, ![128, 640]⟩
abbrev S10x128x128 : Shape := ⟨3, ![10, 128, 128]⟩
abbrev S5x128x128 : Shape := ⟨3, ![5, 128, 128]⟩
abbrev S128x1152 : Shape := ⟨2, ![128, 1152]⟩
abbrev S128x768 : Shape := ⟨2, ![128, 768]⟩
abbrev S9x128x128 : Shape := ⟨3, ![9, 128, 128]⟩
abbrev S6x128x128 : Shape := ⟨3, ![6, 128, 128]⟩
abbrev S128x1024 : Shape := ⟨2, ![128, 1024]⟩
abbrev S128x896 : Shape := ⟨2, ![128, 896]⟩
abbrev S8x128x128 : Shape := ⟨3, ![8, 128, 128]⟩
abbrev S7x128x128 : Shape := ⟨3, ![7, 128, 128]⟩
abbrev S128x4096 : Shape := ⟨2, ![128, 4096]⟩

abbrev nBuf : Space → Nat
  | .hbm => 14
  | .vmem => 14
  | .smem => 0
  | _ => 0

abbrev bufTy : (tb : Table) → Fin (tcTables nBuf tb) → BufTy
  | .hbm, ⟨0, _⟩ => ⟨S4096x6144, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S16x128x128, .f32⟩
  | .hbm, ⟨5, _⟩ => ⟨S16x128, .f32⟩
  | .hbm, ⟨6, _⟩ => ⟨S1x2048, .f32⟩
  | .hbm, ⟨7, _⟩ => ⟨S1x2048, .f32⟩
  | .hbm, ⟨8, _⟩ => ⟨S128x16, .f32⟩
  | .hbm, ⟨9, _⟩ => ⟨S4096x6144, .bf16⟩
  | .hbm, ⟨10, _⟩ => ⟨S1x2048, .f32⟩
  | .hbm, ⟨11, _⟩ => ⟨S1x2048, .f32⟩
  | .hbm, ⟨12, _⟩ => ⟨S16x128x128, .f32⟩
  | .hbm, ⟨13, _⟩ => ⟨S128x16, .f32⟩
  | .local _ .vmem, ⟨0, _⟩ => ⟨S128x6144, .f32⟩
  | .local _ .vmem, ⟨1, _⟩ => ⟨S128x6144, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S16x128x128, .f32⟩
  | .local _ .vmem, ⟨7, _⟩ => ⟨S128x16, .f32⟩
  | .local _ .vmem, ⟨8, _⟩ => ⟨S128x6144, .bf16⟩
  | .local _ .vmem, ⟨9, _⟩ => ⟨S128x6144, .bf16⟩
  | .local _ .vmem, ⟨10, _⟩ => ⟨S1x2048, .f32⟩
  | .local _ .vmem, ⟨11, _⟩ => ⟨S1x2048, .f32⟩
  | .local _ .vmem, ⟨12, _⟩ => ⟨S16x128x128, .f32⟩
  | .local _ .vmem, ⟨13, _⟩ => ⟨S128x16, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_173 : BitVec 32 := 0#32
  let v671 : BitVec 1 := Scalar.cmpi .eq arg0 c0_i32_173
  let v672 : BitVec 32 := Scalar.extui v671
  let c0_i32_174 : BitVec 32 := 0#32
  let v673 : BitVec 1 := Scalar.cmpi .ne v672 c0_i32_174
  v673

def k0_cond2 (i : grid0.Coords) : BitVec 1 :=
  let arg0 : BitVec 32 := BitVec.ofNat 32 (i 0).val
  let c0_i32_175 : BitVec 32 := 0#32
  let v674 : BitVec 1 := Scalar.cmpi .sgt arg0 c0_i32_175
  let v675 : BitVec 32 := Scalar.extui v674
  let c0_i32_176 : BitVec 32 := 0#32
  let v676 : BitVec 1 := Scalar.cmpi .ne v675 c0_i32_176
  v676

def k0_cond3 (i : grid0.Coords) : BitVec 1 :=
  let arg0 : BitVec 32 := BitVec.ofNat 32 (i 0).val
  let c0_i32_177 : BitVec 32 := 0#32
  let v677 : BitVec 1 := Scalar.cmpi .eq arg0 c0_i32_177
  let v678 : BitVec 32 := Scalar.extui v677
  let c0_i32_178 : BitVec 32 := 0#32
  let v679 : BitVec 1 := Scalar.cmpi .ne v678 c0_i32_178
  v679

def k0_cond4 (i : grid0.Coords) : BitVec 1 :=
  let arg0 : BitVec 32 := BitVec.ofNat 32 (i 0).val
  let c0_i32_179 : BitVec 32 := 0#32
  let v680 : BitVec 1 := Scalar.cmpi .sgt arg0 c0_i32_179
  let v681 : BitVec 32 := Scalar.extui v680
  let c0_i32_180 : BitVec 32 := 0#32
  let v682 : BitVec 1 := Scalar.cmpi .ne v681 c0_i32_180
  v682

def k0_cond5 (i : grid0.Coords) : BitVec 1 :=
  let arg0 : BitVec 32 := BitVec.ofNat 32 (i 0).val
  let c0_i32_181 : BitVec 32 := 0#32
  let v683 : BitVec 1 := Scalar.cmpi .eq arg0 c0_i32_181
  let v684 : BitVec 32 := Scalar.extui v683
  let c0_i32_182 : BitVec 32 := 0#32
  let v685 : BitVec 1 := Scalar.cmpi .ne v684 c0_i32_182
  v685

def k0_cond6 (i : grid0.Coords) : BitVec 1 :=
  let arg0 : BitVec 32 := BitVec.ofNat 32 (i 0).val
  let c0_i32_183 : BitVec 32 := 0#32
  let v686 : BitVec 1 := Scalar.cmpi .sgt arg0 c0_i32_183
  let v687 : BitVec 32 := Scalar.extui v686
  let c0_i32_184 : BitVec 32 := 0#32
  let v688 : BitVec 1 := Scalar.cmpi .ne v687 c0_i32_184
  v688

def k0_cond7 (i : grid0.Coords) : BitVec 1 :=
  let arg0 : BitVec 32 := BitVec.ofNat 32 (i 0).val
  let c0_i32_185 : BitVec 32 := 0#32
  let v689 : BitVec 1 := Scalar.cmpi .eq arg0 c0_i32_185
  let v690 : BitVec 32 := Scalar.extui v689
  let c0_i32_186 : BitVec 32 := 0#32
  let v691 : BitVec 1 := Scalar.cmpi .ne v690 c0_i32_186
  v691

def k0_cond8 (i : grid0.Coords) : BitVec 1 :=
  let arg0 : BitVec 32 := BitVec.ofNat 32 (i 0).val
  let c0_i32_187 : BitVec 32 := 0#32
  let v692 : BitVec 1 := Scalar.cmpi .sgt arg0 c0_i32_187
  let v693 : BitVec 32 := Scalar.extui v692
  let c0_i32_188 : BitVec 32 := 0#32
  let v694 : BitVec 1 := Scalar.cmpi .ne v693 c0_i32_188
  v694

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x6144 : Shape := ⟨2, ![4096, 6144]⟩
abbrev S4096x2048 : Shape := ⟨2, ![4096, 2048]⟩
abbrev S2048 : Shape := ⟨1, ![2048]⟩
abbrev S16x128x128 : Shape := ⟨3, ![16, 128, 128]⟩
abbrev S16x128 : Shape := ⟨2, ![16, 128]⟩
abbrev S1x4096x6144 : Shape := ⟨3, ![1, 4096, 6144]⟩
abbrev S1x4096x2048 : Shape := ⟨3, ![1, 4096, 2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩
abbrev S1x32x128x16x128 : Shape := ⟨5, ![1, 32, 128, 16, 128]⟩
abbrev S128x128 : Shape := ⟨2, ![128, 128]⟩
abbrev S1x128x128 : Shape := ⟨3, ![1, 128, 128]⟩
abbrev S16x1x32x128x128 : Shape := ⟨5, ![16, 1, 32, 128, 128]⟩
abbrev S128x16 : Shape := ⟨2, ![128, 16]⟩
abbrev S128x16x1 : Shape := ⟨3, ![128, 16, 1]⟩
abbrev S1x1x128x16x1 : Shape := ⟨5, ![1, 1, 128, 16, 1]⟩
abbrev S1x128x16 : Shape := ⟨3, ![1, 128, 16]⟩
abbrev S1x2048 : Shape := ⟨2, ![1, 2048]⟩
abbrev S4096 : Shape := ⟨1, ![4096]⟩

abbrev nBuf : Space → Nat
  | .hbm => 253
  | .vmem => 0
  | .smem => 0
  | _ => 0

abbrev hbmTy0_0 (i : Nat) : BufTy := match i % 128 with
  | 0 => ⟨S4096x6144, .f32⟩
  | 1 => ⟨S4096x2048, .f32⟩
  | 2 => ⟨S2048, .f32⟩
  | 3 => ⟨S2048, .f32⟩
  | 4 => ⟨S16x128x128, .f32⟩
  | 5 => ⟨S16x128, .f32⟩
  | 6 => ⟨S1x4096x6144, .f32⟩
  | 7 => ⟨S1x4096x2048, .f32⟩
  | 8 => ⟨S1x4096x2048, .f32⟩
  | 9 => ⟨S1x4096x2048, .f32⟩
  | 10 => ⟨S1x4096x2048, .f32⟩
  | 11 => ⟨S1x4096x2048, .f32⟩
  | 12 => ⟨S1x4096x2048, .f32⟩
  | 13 => ⟨S_, .f32⟩
  | 14 => ⟨S1x4096x2048, .f32⟩
  | 15 => ⟨S1x4096x2048, .f32⟩
  | 16 => ⟨S_, .f32⟩
  | 17 => ⟨S1x4096x2048, .f32⟩
  | 18 => ⟨S1x4096x2048, .f32⟩
  | 19 => ⟨S1x4096x2048, .f32⟩
  | 20 => ⟨S_, .f32⟩
  | 21 => ⟨S1x4096x2048, .f32⟩
  | 22 => ⟨S1x4096x2048, .f32⟩
  | 23 => ⟨S1x4096x2048, .f32⟩
  | 24 => ⟨S_, .f32⟩
  | 25 => ⟨S1x4096x2048, .f32⟩
  | 26 => ⟨S1x4096x2048, .f32⟩
  | 27 => ⟨S_, .f32⟩
  | 28 => ⟨S1x4096x2048, .f32⟩
  | 29 => ⟨S1x4096x2048, .f32⟩
  | 30 => ⟨S1x4096x2048, .f32⟩
  | 31 => ⟨S_, .f32⟩
  | 32 => ⟨S1x4096x2048, .f32⟩
  | 33 => ⟨S1x4096x2048, .f32⟩
  | 34 => ⟨S_, .f32⟩
  | 35 => ⟨S1x4096x2048, .f32⟩
  | 36 => ⟨S1x4096x2048, .f32⟩
  | 37 => ⟨S1x4096x2048, .f32⟩
  | 38 => ⟨S1x4096x2048, .f32⟩
  | 39 => ⟨S1x4096x2048, .f32⟩
  | 40 => ⟨S1x4096x2048, .f32⟩
  | 41 => ⟨S_, .f32⟩
  | 42 => ⟨S1x4096x2048, .f32⟩
  | 43 => ⟨S1x4096x2048, .f32⟩
  | 44 => ⟨S_, .f32⟩
  | 45 => ⟨S1x4096x2048, .f32⟩
  | 46 => ⟨S1x4096x2048, .f32⟩
  | 47 => ⟨S1x4096x2048, .f32⟩
  | 48 => ⟨S_, .f32⟩
  | 49 => ⟨S1x4096x2048, .f32⟩
  | 50 => ⟨S1x4096x2048, .f32⟩
  | 51 => ⟨S1x4096x2048, .f32⟩
  | 52 => ⟨S_, .f32⟩
  | 53 => ⟨S1x4096x2048, .f32⟩
  | 54 => ⟨S1x4096x2048, .f32⟩
  | 55 => ⟨S_, .f32⟩
  | 56 => ⟨S1x4096x2048, .f32⟩
  | 57 => ⟨S1x4096x2048, .f32⟩
  | 58 => ⟨S1x4096x2048, .f32⟩
  | 59 => ⟨S_, .f32⟩
  | 60 => ⟨S1x4096x2048, .f32⟩
  | 61 => ⟨S1x4096x2048, .f32⟩
  | 62 => ⟨S_, .f32⟩
  | 63 => ⟨S1x4096x2048, .f32⟩
  | 64 => ⟨S1x4096x2048, .f32⟩
  | 65 => ⟨S1x4096x2048, .f32⟩
  | 66 => ⟨S_, .f32⟩
  | 67 => ⟨S1x4096, .f32⟩
  | 68 => ⟨S1x4096x1, .f32⟩
  | 69 => ⟨S_, .f32⟩
  | 70 => ⟨S1x4096x1, .f32⟩
  | 71 => ⟨S1x4096x1, .f32⟩
  | 72 => ⟨S1x4096x2048, .f32⟩
  | 73 => ⟨S1x4096x2048, .f32⟩
  | 74 => ⟨S1x4096x2048, .f32⟩
  | 75 => ⟨S_, .f32⟩
  | 76 => ⟨S1x4096x2048, .f32⟩
  | 77 => ⟨S1x4096x2048, .f32⟩
  | 78 => ⟨S_, .f32⟩
  | 79 => ⟨S1x4096, .f32⟩
  | 80 => ⟨S1x4096x1, .f32⟩
  | 81 => ⟨S_, .f32⟩
  | 82 => ⟨S1x4096x1, .f32⟩
  | 83 => ⟨S1x4096x1, .f32⟩
  | 84 => ⟨S1x4096x2048, .f32⟩
  | 85 => ⟨S1x4096x2048, .f32⟩
  | 86 => ⟨S_, .f32⟩
  | 87 => ⟨S1x4096x1, .f32⟩
  | 88 => ⟨S1x4096x1, .f32⟩
  | 89 => ⟨S1x4096x1, .f32⟩
  | 90 => ⟨S1x4096x1, .f32⟩
  | 91 => ⟨S_, .f32⟩
  | 92 => ⟨S1x4096x1, .f32⟩
  | 93 => ⟨S1x4096x1, .f32⟩
  | 94 => ⟨S1x4096x2048, .f32⟩
  | 95 => ⟨S1x4096x2048, .f32⟩
  | 96 => ⟨S1x1x2048, .f32⟩
  | 97 => ⟨S1x4096x2048, .f32⟩
  | 98 => ⟨S1x4096x2048, .f32⟩
  | 99 => ⟨S1x1x2048, .f32⟩
  | 100 => ⟨S1x4096x2048, .f32⟩
  | 101 => ⟨S1x4096x2048, .f32⟩
  | 102 => ⟨S1x32x128x16x128, .f32⟩
  | 103 => ⟨S_, .i1⟩
  | 104 => ⟨S128x128, .i1⟩
  | 105 => ⟨S128x128, .i32⟩
  | 106 => ⟨S_, .i32⟩
  | 107 => ⟨S128x128, .i32⟩
  | 108 => ⟨S128x128, .i32⟩
  | 109 => ⟨S128x128, .i32⟩
  | 110 => ⟨S128x128, .i1⟩
  | 111 => ⟨S_, .i1⟩
  | 112 => ⟨S128x128, .i1⟩
  | 113 => ⟨S128x128, .i1⟩
  | 114 => ⟨S1x128x128, .i1⟩
  | 115 => ⟨S_, .f32⟩
  | 116 => ⟨S16x128x128, .f32⟩
  | 117 => ⟨S16x128x128, .i1⟩
  | 118 => ⟨S16x128x128, .f32⟩
  | 119 => ⟨S_, .f32⟩
  | 120 => ⟨S16x128x128, .f32⟩
  | 121 => ⟨S16x1x32x128x128, .f32⟩
  | 122 => ⟨S1x32x128x16x128, .f32⟩
  | 123 => ⟨S128x16, .f32⟩
  | 124 => ⟨S128x16x1, .f32⟩
  | 125 => ⟨S1x1x128x16x1, .f32⟩
  | 126 => ⟨S1x32x128x16x128, .f32⟩
  | 127 => ⟨S1x32x128x16x128, .f32⟩
  | _ => ⟨S4096x6144, .f32⟩

abbrev hbmTy0_1 (i : Nat) : BufTy := match i % 128 with
  | 0 => ⟨S1x4096x2048, .f32⟩
  | 1 => ⟨S1x4096x2048, .f32⟩
  | 2 => ⟨S1x4096x2048, .f32⟩
  | 3 => ⟨S1x4096x2048, .f32⟩
  | 4 => ⟨S_, .f32⟩
  | 5 => ⟨S1x4096x2048, .f32⟩
  | 6 => ⟨S1x4096x2048, .f32⟩
  | 7 => ⟨S_, .f32⟩
  | 8 => ⟨S1x4096x2048, .f32⟩
  | 9 => ⟨S1x4096x2048, .f32⟩
  | 10 => ⟨S_, .f32⟩
  | 11 => ⟨S1x4096x2048, .f32⟩
  | 12 => ⟨S1x4096x2048, .f32⟩
  | 13 => ⟨S1x4096x2048, .f32⟩
  | 14 => ⟨S1x4096x2048, .f32⟩
  | 15 => ⟨S1x4096x2048, .f32⟩
  | 16 => ⟨S1x4096x2048, .f32⟩
  | 17 => ⟨S1x4096x2048, .f32⟩
  | 18 => ⟨S1x4096x2048, .f32⟩
  | 19 => ⟨S1x4096x2048, .f32⟩
  | 20 => ⟨S1x4096x2048, .f32⟩
  | 21 => ⟨S1x4096x2048, .f32⟩
  | 22 => ⟨S1x4096x2048, .f32⟩
  | 23 => ⟨S1x4096x2048, .f32⟩
  | 24 => ⟨S1x4096x2048, .f32⟩
  | 25 => ⟨S1x32x128x16x128, .f32⟩
  | 26 => ⟨S_, .f32⟩
  | 27 => ⟨S1x128x16, .f32⟩
  | 28 => ⟨S1x1x128x16x1, .f32⟩
  | 29 => ⟨S_, .f32⟩
  | 30 => ⟨S128x16, .f32⟩
  | 31 => ⟨S128x16x1, .f32⟩
  | 32 => ⟨S_, .f32⟩
  | 33 => ⟨S128x16, .f32⟩
  | 34 => ⟨S16x128, .f32⟩
  | 35 => ⟨S16x1x32x128x128, .f32⟩
  | 36 => ⟨S16x128x128, .f32⟩
  | 37 => ⟨S16x1x32x128x128, .f32⟩
  | 38 => ⟨S1x32x128x16x128, .f32⟩
  | 39 => ⟨S_, .f32⟩
  | 40 => ⟨S16x128x128, .f32⟩
  | 41 => ⟨S16x128x128, .f32⟩
  | 42 => ⟨S1x4096x2048, .f32⟩
  | 43 => ⟨S_, .f32⟩
  | 44 => ⟨S1x2048, .f32⟩
  | 45 => ⟨S1x1x2048, .f32⟩
  | 46 => ⟨S_, .f32⟩
  | 47 => ⟨S2048, .f32⟩
  | 48 => ⟨S1x4096x2048, .f32⟩
  | 49 => ⟨S_, .f32⟩
  | 50 => ⟨S1x2048, .f32⟩
  | 51 => ⟨S1x1x2048, .f32⟩
  | 52 => ⟨S1x4096x2048, .f32⟩
  | 53 => ⟨S1x4096x2048, .f32⟩
  | 54 => ⟨S_, .f32⟩
  | 55 => ⟨S2048, .f32⟩
  | 56 => ⟨S1x4096x2048, .f32⟩
  | 57 => ⟨S_, .f32⟩
  | 58 => ⟨S1x4096, .f32⟩
  | 59 => ⟨S1x4096x1, .f32⟩
  | 60 => ⟨S1x4096x2048, .f32⟩
  | 61 => ⟨S1x4096x2048, .f32⟩
  | 62 => ⟨S1x4096x1, .f32⟩
  | 63 => ⟨S1x4096x2048, .f32⟩
  | 64 => ⟨S_, .f32⟩
  | 65 => ⟨S1x4096, .f32⟩
  | 66 => ⟨S1x4096x1, .f32⟩
  | 67 => ⟨S_, .f32⟩
  | 68 => ⟨S1x4096x1, .f32⟩
  | 69 => ⟨S1x4096x1, .f32⟩
  | 70 => ⟨S_, .f32⟩
  | 71 => ⟨S4096, .f32⟩
  | 72 => ⟨S1x4096, .f32⟩
  | 73 => ⟨S1x4096x2048, .f32⟩
  | 74 => ⟨S1x4096x2048, .f32⟩
  | 75 => ⟨S1x4096x2048, .f32⟩
  | 76 => ⟨S_, .f32⟩
  | 77 => ⟨S1x4096, .f32⟩
  | 78 => ⟨S1x4096x1, .f32⟩
  | 79 => ⟨S1x4096x2048, .f32⟩
  | 80 => ⟨S1x4096x1, .f32⟩
  | 81 => ⟨S_, .f32⟩
  | 82 => ⟨S1x4096x1, .f32⟩
  | 83 => ⟨S1x4096x1, .f32⟩
  | 84 => ⟨S_, .f32⟩
  | 85 => ⟨S4096, .f32⟩
  | 86 => ⟨S1x4096, .f32⟩
  | 87 => ⟨S1x4096x2048, .f32⟩
  | 88 => ⟨S1x4096x2048, .f32⟩
  | 89 => ⟨S1x4096x2048, .f32⟩
  | 90 => ⟨S1x4096x2048, .f32⟩
  | 91 => ⟨S_, .f32⟩
  | 92 => ⟨S1x4096x2048, .f32⟩
  | 93 => ⟨S1x4096x2048, .f32⟩
  | 94 => ⟨S1x4096x2048, .f32⟩
  | 95 => ⟨S_, .f32⟩
  | 96 => ⟨S1x4096x2048, .f32⟩
  | 97 => ⟨S1x4096x2048, .f32⟩
  | 98 => ⟨S1x4096x2048, .f32⟩
  | 99 => ⟨S_, .f32⟩
  | 100 => ⟨S1x4096x2048, .f32⟩
  | 101 => ⟨S1x4096x2048, .f32⟩
  | 102 => ⟨S1x4096x2048, .f32⟩
  | 103 => ⟨S1x4096x2048, .f32⟩
  | 104 => ⟨S1x4096x2048, .f32⟩
  | 105 => ⟨S1x4096x2048, .f32⟩
  | 106 => ⟨S_, .f32⟩
  | 107 => ⟨S1x4096x2048, .f32⟩
  | 108 => ⟨S1x4096x2048, .f32⟩
  | 109 => ⟨S1x4096x2048, .f32⟩
  | 110 => ⟨S_, .f32⟩
  | 111 => ⟨S1x4096x2048, .f32⟩
  | 112 => ⟨S1x4096x2048, .f32⟩
  | 113 => ⟨S1x4096x2048, .f32⟩
  | 114 => ⟨S_, .f32⟩
  | 115 => ⟨S1x4096x2048, .f32⟩
  | 116 => ⟨S1x4096x2048, .f32⟩
  | 117 => ⟨S1x4096x2048, .f32⟩
  | 118 => ⟨S1x4096x2048, .f32⟩
  | 119 => ⟨S1x4096x6144, .f32⟩
  | 120 => ⟨S4096x6144, .f32⟩
  | 121 => ⟨S4096x6144, .bf16⟩
  | 122 => ⟨S1x2048, .f32⟩
  | 123 => ⟨S1x2048, .f32⟩
  | 124 => ⟨S128x16, .f32⟩
  | _ => ⟨S4096x6144, .f32⟩

abbrev hbmTy (i : Nat) : BufTy := match i / 128 with
  | 0 => hbmTy0_0 i
  | 1 => hbmTy0_1 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_cst_14 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_15 : Ref sig .tc := ⟨.hbm, 75, rfl⟩
abbrev main_v53 : Ref sig .tc := ⟨.hbm, 76, rfl⟩
abbrev main_v54 : Ref sig .tc := ⟨.hbm, 77, rfl⟩
abbrev main_cst_16 : Ref sig .tc := ⟨.hbm, 78, rfl⟩
abbrev main_v55 : Ref sig .tc := ⟨.hbm, 79, rfl⟩
abbrev main_v56 : Ref sig .tc := ⟨.hbm, 80, rfl⟩
abbrev main_cst_17 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_18 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_19 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c : Ref sig .tc := ⟨.hbm, 103, rfl⟩
abbrev main_v76 : Ref sig .tc := ⟨.hbm, 104, rfl⟩
abbrev main_call0_v0 : Ref sig .tc := ⟨.hbm, 105, rfl⟩
abbrev main_call0_c : Ref sig .tc := ⟨.hbm, 106, rfl⟩
abbrev main_call0_v1 : Ref sig .tc := ⟨.hbm, 107, rfl⟩
abbrev main_call0_v2 : Ref sig .tc := ⟨.hbm, 108, rfl⟩
abbrev main_call0_v3 : Ref sig .tc := ⟨.hbm, 109, rfl⟩
abbrev main_call0_v4 : Ref sig .tc := ⟨.hbm, 110, rfl⟩
abbrev main_call0_c_0 : Ref sig .tc := ⟨.hbm, 111, rfl⟩
abbrev main_call0_v5 : Ref sig .tc := ⟨.hbm, 112, rfl⟩
abbrev main_v77 : Ref sig .tc := ⟨.hbm, 113, rfl⟩
abbrev main_v78 : Ref sig .tc := ⟨.hbm, 114, rfl⟩
abbrev main_cst_20 : Ref sig .tc := ⟨.hbm, 115, rfl⟩
abbrev main_v79 : Ref sig .tc := ⟨.hbm, 116, rfl⟩
abbrev main_v80_1 : Ref sig .tc := ⟨.hbm, 117, rfl⟩
abbrev main_v80_0 : Ref sig .tc := ⟨.hbm, 118, rfl⟩
abbrev main_call1_cst : Ref sig .tc := ⟨.hbm, 119, rfl⟩
abbrev main_v80_2 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_call2_v0 : Ref sig .tc := ⟨.hbm, 130, rfl⟩
abbrev main_call2_v1 : Ref sig .tc := ⟨.hbm, 131, rfl⟩
abbrev main_call2_cst : Ref sig .tc := ⟨.hbm, 132, rfl⟩
abbrev main_call2_v2 : Ref sig .tc := ⟨.hbm, 133, rfl⟩
abbrev main_call2_v3 : Ref sig .tc := ⟨.hbm, 134, rfl⟩
abbrev main_call2_cst_0 : Ref sig .tc := ⟨.hbm, 135, rfl⟩
abbrev main_call2_v4 : Ref sig .tc := ⟨.hbm, 136, rfl⟩
abbrev main_v90_2 : Ref sig .tc := ⟨.hbm, 137, rfl⟩
abbrev main_call2_cst_1 : Ref sig .tc := ⟨.hbm, 138, rfl⟩
abbrev main_call2_v6 : Ref sig .tc := ⟨.hbm, 139, rfl⟩
abbrev main_call2_v7 : Ref sig .tc := ⟨.hbm, 140, rfl⟩
abbrev main_v90_1 : Ref sig .tc := ⟨.hbm, 141, rfl⟩
abbrev main_v90_0 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_call3_v0 : Ref sig .tc := ⟨.hbm, 147, rfl⟩
abbrev main_call3_v1 : Ref sig .tc := ⟨.hbm, 148, rfl⟩
abbrev main_call3_v2 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_cst_21 : Ref sig .tc := ⟨.hbm, 154, rfl⟩
abbrev main_v99 : Ref sig .tc := ⟨.hbm, 155, rfl⟩
abbrev main_v100 : Ref sig .tc := ⟨.hbm, 156, rfl⟩
abbrev main_cst_22 : Ref sig .tc := ⟨.hbm, 157, rfl⟩
abbrev main_v101 : Ref sig .tc := ⟨.hbm, 158, rfl⟩
abbrev main_v102 : Ref sig .tc := ⟨.hbm, 159, rfl⟩
abbrev main_cst_23 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_call4_cst : Ref sig .tc := ⟨.hbm, 167, rfl⟩
abbrev main_call4_v0 : Ref sig .tc := ⟨.hbm, 168, rfl⟩
abbrev main_v109 : Ref sig .tc := ⟨.hbm, 169, rfl⟩
abbrev main_v110 : Ref sig .tc := ⟨.hbm, 170, rfl⟩
abbrev main_cst_24 : Ref sig .tc := ⟨.hbm, 171, rfl⟩
abbrev main_v111 : Ref sig .tc := ⟨.hbm, 172, rfl⟩
abbrev main_v112 : Ref sig .tc := ⟨.hbm, 173, rfl⟩
abbrev main_cst_25 : Ref sig .tc := ⟨.hbm, 174, rfl⟩
abbrev main_v113 : Ref sig .tc := ⟨.hbm, 175, rfl⟩
abbrev main_v114 : Ref sig .tc := ⟨.hbm, 176, rfl⟩
abbrev main_cst_26 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_cst_27 : Ref sig .tc := ⟨.hbm, 182, rfl⟩
abbrev main_v119 : Ref sig .tc := ⟨.hbm, 183, rfl⟩
abbrev main_v120 : Ref sig .tc := ⟨.hbm, 184, rfl⟩
abbrev main_cst_28 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_cst_29 : Ref sig .tc := ⟨.hbm, 192, rfl⟩
abbrev main_v127 : Ref sig .tc := ⟨.hbm, 193, rfl⟩
abbrev main_v128 : Ref sig .tc := ⟨.hbm, 194, rfl⟩
abbrev main_cst_30 : Ref sig .tc := ⟨.hbm, 195, rfl⟩
abbrev main_v129 : Ref sig .tc := ⟨.hbm, 196, rfl⟩
abbrev main_v130 : Ref sig .tc := ⟨.hbm, 197, rfl⟩
abbrev main_cst_31 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_cst_32 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_cst_33 : Ref sig .tc := ⟨.hbm, 209, rfl⟩
abbrev main_v140 : Ref sig .tc := ⟨.hbm, 210, rfl⟩
abbrev main_v141 : Ref sig .tc := ⟨.hbm, 211, rfl⟩
abbrev main_cst_34 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_cst_35 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_cst_36 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_cst_37 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_cst_38 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_cst_39 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_cst_40 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x2048 : Shape := ⟨2, ![4096, 2048]⟩
abbrev S_ : Shape := ⟨0, ![]⟩
abbrev S2048x2048 : Shape := ⟨2, ![2048, 2048]⟩
abbrev S1x4096x2048 : Shape := ⟨3, ![1, 4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S1x4096x2048, .f32⟩
  | .hbm, ⟨6, _⟩ => ⟨S1x4096x2048, .f32⟩
  | .hbm, ⟨7, _⟩ => ⟨S4096x2048, .f32⟩
  | .hbm, ⟨8, _⟩ => ⟨S1x4096x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x2048 : Shape := ⟨2, ![4096, 2048]⟩
abbrev S2048x2048 : Shape := ⟨2, ![2048, 2048]⟩
abbrev S_ : Shape := ⟨0, ![]⟩
abbrev S1x4096x2048 : Shape := ⟨3, ![1, 4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S_, .f32⟩
  | .hbm, ⟨3, _⟩ => ⟨S1x4096x2048, .f32⟩
  | .hbm, ⟨4, _⟩ => ⟨S1x4096x2048, .f32⟩
  | .hbm, ⟨5, _⟩ => ⟨S4096x2048, .f32⟩
  | .hbm, ⟨6, _⟩ => ⟨S1x4096x2048, .f32⟩
  | .hbm, ⟨7, _⟩ => ⟨S1x4096x2048, .f32⟩
  | .hbm, ⟨8, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SgInDw.lean ====
abbrev S4096x2048 : Shape := ⟨2, ![4096, 2048]⟩
abbrev S4096x6144 : Shape := ⟨2, ![4096, 6144]⟩
abbrev S2048x6144 : Shape := ⟨2, ![2048, 6144]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S2048x6144, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SgInDwRefIdeal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S1x4096x2048 : Shape := ⟨3, ![1, 4096, 2048]⟩
abbrev S1x4096x6144 : Shape := ⟨3, ![1, 4096, 6144]⟩
abbrev S6144x2048 : Shape := ⟨2, ![6144, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S_, .f32⟩
  | .hbm, ⟨3, _⟩ => ⟨S2048x6144, .f32⟩
  | .hbm, ⟨4, _⟩ => ⟨S4096x2048, .f32⟩
  | .hbm, ⟨5, _⟩ => ⟨S1x4096x2048, .f32⟩
  | .hbm, ⟨6, _⟩ => ⟨S1x4096x6144, .f32⟩
  | .hbm, ⟨7, _⟩ => ⟨S4096x6144, .f32⟩
  | .hbm, ⟨8, _⟩ => ⟨S1x4096x6144, .f32⟩
  | .hbm, ⟨9, _⟩ => ⟨S6144x2048, .f32⟩
  | .hbm, ⟨10, _⟩ => ⟨S2048x6144, .f32⟩
  | .hbm, ⟨11, _⟩ => ⟨S2048x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== SgInDx.lean ====
abbrev S4096x6144 : Shape := ⟨2, ![4096, 6144]⟩
abbrev S2048x6144 : Shape := ⟨2, ![2048, 6144]⟩
abbrev S4096x2048 : Shape := ⟨2, ![4096, 2048]⟩
abbrev S1024x3072 : Shape := ⟨2, ![1024, 3072]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .f32⟩
  | .hbm, ⟨2, _⟩ => ⟨S2048x6144, .bf16⟩
  | .hbm, ⟨3, _⟩ => ⟨S4096x2048, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SgInDxRefIdeal.lean ====
abbrev S4096x6144 : Shape := ⟨2, ![4096, 6144]⟩
abbrev S2048x6144 : Shape := ⟨2, ![2048, 6144]⟩
abbrev S_ : Shape := ⟨0, ![]⟩
abbrev S1x4096x2048 : Shape := ⟨3, ![1, 4096, 2048]⟩
abbrev S1x4096x6144 : Shape := ⟨3, ![1, 4096, 6144]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .f32⟩
  | .hbm, ⟨2, _⟩ => ⟨S_, .f32⟩
  | .hbm, ⟨3, _⟩ => ⟨S1x4096x2048, .f32⟩
  | .hbm, ⟨4, _⟩ => ⟨S1x4096x6144, .f32⟩
  | .hbm, ⟨5, _⟩ => ⟨S4096x6144, .f32⟩
  | .hbm, ⟨6, _⟩ => ⟨S1x4096x6144, .f32⟩
  | .hbm, ⟨7, _⟩ => ⟨S1x4096x2048, .f32⟩
  | .hbm, ⟨8, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== RwInDw.lean ====
abbrev S4096x2048 : Shape := ⟨2, ![4096, 2048]⟩
abbrev S4096x8192 : Shape := ⟨2, ![4096, 8192]⟩
abbrev S2048x8192 : Shape := ⟨2, ![2048, 8192]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RwInDwRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S1x4096x2048 : Shape := ⟨3, ![1, 4096, 2048]⟩
abbrev S1x4096x8192 : Shape := ⟨3, ![1, 4096, 8192]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S1x4096x2048, .f32⟩
  | .hbm, ⟨6, _⟩ => ⟨S1x4096x8192, .f32⟩
  | .hbm, ⟨7, _⟩ => ⟨S4096x8192, .f32⟩
  | .hbm, ⟨8, _⟩ => ⟨S1x4096x8192, .f32⟩
  | .hbm, ⟨9, _⟩ => ⟨S8192x2048, .f32⟩
  | .hbm, ⟨10, _⟩ => ⟨S2048x8192, .f32⟩
  | .hbm, ⟨11, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== RwInDx.lean ====
abbrev S4096x8192 : Shape := ⟨2, ![4096, 8192]⟩
abbrev S2048x8192 : Shape := ⟨2, ![2048, 8192]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .f32⟩
  | .hbm, ⟨2, _⟩ => ⟨S4096x2048, .f32⟩
  | .hbm, ⟨3, _⟩ => ⟨S2048x8192, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RwInDxRefIdeal.lean ====
abbrev S4096x8192 : Shape := ⟨2, ![4096, 8192]⟩
abbrev S2048x8192 : Shape := ⟨2, ![2048, 8192]⟩
abbrev S4096x2048 : Shape := ⟨2, ![4096, 2048]⟩
abbrev S_ : Shape := ⟨0, ![]⟩
abbrev S1x4096x2048 : Shape := ⟨3, ![1, 4096, 2048]⟩
abbrev S1x4096x8192 : Shape := ⟨3, ![1, 4096, 8192]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .f32⟩
  | .hbm, ⟨2, _⟩ => ⟨S4096x2048, .f32⟩
  | .hbm, ⟨3, _⟩ => ⟨S_, .f32⟩
  | .hbm, ⟨4, _⟩ => ⟨S1x4096x2048, .f32⟩
  | .hbm, ⟨5, _⟩ => ⟨S1x4096x8192, .f32⟩
  | .hbm, ⟨6, _⟩ => ⟨S4096x8192, .f32⟩
  | .hbm, ⟨7, _⟩ => ⟨S1x4096x8192, .f32⟩
  | .hbm, ⟨8, _⟩ => ⟨S1x4096x2048, .f32⟩
  | .hbm, ⟨9, _⟩ => ⟨S4096x2048, .f32⟩
  | .hbm, ⟨10, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== SgIn.lean ====
abbrev S4096x2048 : Shape := ⟨2, ![4096, 2048]⟩
abbrev S2048x6144 : Shape := ⟨2, ![2048, 6144]⟩
abbrev S4096x6144 : Shape := ⟨2, ![4096, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .f32⟩
  | .hbm, ⟨2, _⟩ => ⟨S2048x6144, .bf16⟩
  | .hbm, ⟨3, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SgInRefIdeal.lean ====
abbrev S4096x2048 : Shape := ⟨2, ![4096, 2048]⟩
abbrev S2048x6144 : Shape := ⟨2, ![2048, 6144]⟩
abbrev S1x4096x2048 : Shape := ⟨3, ![1, 4096, 2048]⟩
abbrev S1x4096x6144 : Shape := ⟨3, ![1, 4096, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .f32⟩
  | .hbm, ⟨2, _⟩ => ⟨S4096x2048, .f32⟩
  | .hbm, ⟨3, _⟩ => ⟨S1x4096x2048, .f32⟩
  | .hbm, ⟨4, _⟩ => ⟨S1x4096x6144, .f32⟩
  | .hbm, ⟨5, _⟩ => ⟨S4096x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== RwIn.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .f32⟩
  | .hbm, ⟨2, _⟩ => ⟨S2048x8192, .bf16⟩
  | .hbm, ⟨3, _⟩ => ⟨S4096x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RwInRefIdeal.lean ====
abbrev S4096x2048 : Shape := ⟨2, ![4096, 2048]⟩
abbrev S2048x8192 : Shape := ⟨2, ![2048, 8192]⟩
abbrev S1x4096x2048 : Shape := ⟨3, ![1, 4096, 2048]⟩
abbrev S1x4096x8192 : Shape := ⟨3, ![1, 4096, 8192]⟩
abbrev S4096x8192 : Shape := ⟨2, ![4096, 8192]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .f32⟩
  | .hbm, ⟨2, _⟩ => ⟨S4096x2048, .f32⟩
  | .hbm, ⟨3, _⟩ => ⟨S1x4096x2048, .f32⟩
  | .hbm, ⟨4, _⟩ => ⟨S1x4096x8192, .f32⟩
  | .hbm, ⟨5, _⟩ => ⟨S4096x8192, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutFwd.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S4096x2048, .f32⟩
  | .hbm, ⟨7, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutFwdRefIdeal.lean ====
abbrev S4096x2048 : Shape := ⟨2, ![4096, 2048]⟩
abbrev S2048x2048 : Shape := ⟨2, ![2048, 2048]⟩
abbrev S2048 : Shape := ⟨1, ![2048]⟩
abbrev S1x4096x2048 : Shape := ⟨3, ![1, 4096, 2048]⟩
abbrev S1x1x2048 : Shape := ⟨3, ![1, 1, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S1x4096x2048, .f32⟩
  | .hbm, ⟨6, _⟩ => ⟨S1x4096x2048, .f32⟩
  | .hbm, ⟨7, _⟩ => ⟨S4096x2048, .f32⟩
  | .hbm, ⟨8, _⟩ => ⟨S1x4096x2048, .f32⟩
  | .hbm, ⟨9, _⟩ => ⟨S1x1x2048, .f32⟩
  | .hbm, ⟨10, _⟩ => ⟨S1x4096x2048, .f32⟩
  | .hbm, ⟨11, _⟩ => ⟨S1x4096x2048, .f32⟩
  | .hbm, ⟨12, _⟩ => ⟨S1x4096x2048, .f32⟩
  | .hbm, ⟨13, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== NormBwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 18
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S4096x2048, .f32⟩
  | .hbm, ⟨13, _⟩ => ⟨S4096x2048, .bf16⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v64 : BitVec 1 := Scalar.cmpi .eq arg0 c0_i32
  let v65 : BitVec 32 := Scalar.extui v64
  let c0_i32_28 : BitVec 32 := 0#32
  let v66 : BitVec 1 := Scalar.cmpi .ne v65 c0_i32_28
  v66

def k0_cond2 (i : grid0.Coords) : BitVec 1 :=
  let arg0 : BitVec 32 := BitVec.ofNat 32 (i 0).val
  let c0_i32_29 : BitVec 32 := 0#32
  let v67 : BitVec 1 := Scalar.cmpi .sgt arg0 c0_i32_29
  let v68 : BitVec 32 := Scalar.extui v67
  let c0_i32_30 : BitVec 32 := 0#32
  let v69 : BitVec 1 := Scalar.cmpi .ne v68 c0_i32_30
  v69

def k0_cond3 (i : grid0.Coords) : BitVec 1 :=
  let arg0 : BitVec 32 := BitVec.ofNat 32 (i 0).val
  let c0_i32_31 : BitVec 32 := 0#32
  let v70 : BitVec 1 := Scalar.cmpi .eq arg0 c0_i32_31
  let v71 : BitVec 32 := Scalar.extui v70
  let c0_i32_32 : BitVec 32 := 0#32
  let v72 : BitVec 1 := Scalar.cmpi .ne v71 c0_i32_32
  v72

def k0_cond4 (i : grid0.Coords) : BitVec 1 :=
  let arg0 : BitVec 32 := BitVec.ofNat 32 (i 0).val
  let c0_i32_33 : BitVec 32 := 0#32
  let v73 : BitVec 1 := Scalar.cmpi .sgt arg0 c0_i32_33
  let v74 : BitVec 32 := Scalar.extui v73
  let c0_i32_34 : BitVec 32 := 0#32
  let v75 : BitVec 1 := Scalar.cmpi .ne v74 c0_i32_34
  v75

def k0_cond5 (i : grid0.Coords) : BitVec 1 :=
  let arg0 : BitVec 32 := BitVec.ofNat 32 (i 0).val
  let c0_i32_35 : BitVec 32 := 0#32
  let v76 : BitVec 1 := Scalar.cmpi .eq arg0 c0_i32_35
  let v77 : BitVec 32 := Scalar.extui v76
  let c0_i32_36 : BitVec 32 := 0#32
  let v78 : BitVec 1 := Scalar.cmpi .ne v77 c0_i32_36
  v78

def k0_cond6 (i : grid0.Coords) : BitVec 1 :=
  let arg0 : BitVec 32 := BitVec.ofNat 32 (i 0).val
  let c0_i32_37 : BitVec 32 := 0#32
  let v79 : BitVec 1 := Scalar.cmpi .sgt arg0 c0_i32_37
  let v80 : BitVec 32 := Scalar.extui v79
  let c0_i32_38 : BitVec 32 := 0#32
  let v81 : BitVec 1 := Scalar.cmpi .ne v80 c0_i32_38
  v81

def k0_cond7 (i : grid0.Coords) : BitVec 1 :=
  let arg0 : BitVec 32 := BitVec.ofNat 32 (i 0).val
  let c0_i32_39 : BitVec 32 := 0#32
  let v82 : BitVec 1 := Scalar.cmpi .eq arg0 c0_i32_39
  let v83 : BitVec 32 := Scalar.extui v82
  let c0_i32_40 : BitVec 32 := 0#32
  let v84 : BitVec 1 := Scalar.cmpi .ne v83 c0_i32_40
  v84

def k0_cond8 (i : grid0.Coords) : BitVec 1 :=
  let arg0 : BitVec 32 := BitVec.ofNat 32 (i 0).val
  let c0_i32_41 : BitVec 32 := 0#32
  let v85 : BitVec 1 := Scalar.cmpi .sgt arg0 c0_i32_41
  let v86 : BitVec 32 := Scalar.extui v85
  let c0_i32_42 : BitVec 32 := 0#32
  let v87 : BitVec 1 := Scalar.cmpi .ne v86 c0_i32_42
  v87

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== NormBwdRefIdeal.lean ====
abbrev S4096x2048 : Shape := ⟨2, ![4096, 2048]⟩
abbrev S2048 : Shape := ⟨1, ![2048]⟩
abbrev S1x4096x2048 : Shape := ⟨3, ![1, 4096, 2048]⟩
abbrev S1x1x2048 : Shape := ⟨3, ![1, 1, 2048]⟩
abbrev S_ : Shape := ⟨0, ![]⟩
abbrev S1x4096 : Shape := ⟨2, ![1, 4096]⟩
abbrev S1x4096x1 : Shape := ⟨3, ![1, 4096, 1]⟩
abbrev S1x2048 : Shape := ⟨2, ![1, 2048]⟩
abbrev S4096 : Shape := ⟨1, ![4096]⟩

abbrev nBuf : Space → Nat
  | .hbm => 93
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S1x4096x2048, .f32⟩
  | .hbm, ⟨9, _⟩ => ⟨S1x1x2048, .f32⟩
  | .hbm, ⟨10, _⟩ => ⟨S1x1x2048, .f32⟩
  | .hbm, ⟨11, _⟩ => ⟨S1x4096x2048, .f32⟩
  | .hbm, ⟨12, _⟩ => ⟨S_, .f32⟩
  | .hbm, ⟨13, _⟩ => ⟨S1x4096, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x1, .f32⟩
  | .hbm, ⟨22, _⟩ => ⟨S1x4096x1, .f32⟩
  | .hbm, ⟨23, _⟩ => ⟨S_, .f32⟩
  | .hbm, ⟨24, _⟩ => ⟨S1x4096x1, .f32⟩
  | .hbm, ⟨25, _⟩ => ⟨S1x4096x1, .f32⟩
  | .hbm, ⟨26, _⟩ => ⟨S1x4096x2048, .f32⟩
  | .hbm, ⟨27, _⟩ => ⟨S1x4096x2048, .f32⟩
  | .hbm, ⟨28, _⟩ => ⟨S1x1x2048, .f32⟩
  | .hbm, ⟨29, _⟩ => ⟨S1x4096x2048, .f32⟩
  | .hbm, ⟨30, _⟩ => ⟨S1x4096x2048, .f32⟩
  | .hbm, ⟨31, _⟩ => ⟨S_, .f32⟩
  | .hbm, ⟨32, _⟩ => ⟨S1x1x2048, .f32⟩
  | .hbm, ⟨33, _⟩ => ⟨S1x1x2048, .f32⟩
  | .hbm, ⟨34, _⟩ => ⟨S1x4096x2048, .f32⟩
  | .hbm, ⟨35, _⟩ => ⟨S1x4096x2048, .f32⟩
  | .hbm, ⟨36, _⟩ => ⟨S1x4096x2048, .f32⟩
  | .hbm, ⟨37, _⟩ => ⟨S1x4096x2048, .f32⟩
  | .hbm, ⟨38, _⟩ => ⟨S1x4096x2048, .f32⟩
  | .hbm, ⟨39, _⟩ => ⟨S_, .f32⟩
  | .hbm, ⟨40, _⟩ => ⟨S1x2048, .f32⟩
  | .hbm, ⟨41, _⟩ => ⟨S1x1x2048, .f32⟩
  | .hbm, ⟨42, _⟩ => ⟨S1x4096x2048, .f32⟩
  | .hbm, ⟨43, _⟩ => ⟨S_, .f32⟩
  | .hbm, ⟨44, _⟩ => ⟨S1x2048, .f32⟩
  | .hbm, ⟨45, _⟩ => ⟨S1x1x2048, .f32⟩
  | .hbm, ⟨46, _⟩ => ⟨S1x4096x2048, .f32⟩
  | .hbm, ⟨47, _⟩ => ⟨S1x4096x2048, .f32⟩
  | .hbm, ⟨48, _⟩ => ⟨S1x4096x2048, .f32⟩
  | .hbm, ⟨49, _⟩ => ⟨S_, .f32⟩
  | .hbm, ⟨50, _⟩ => ⟨S1x2048, .f32⟩
  | .hbm, ⟨51, _⟩ => ⟨S1x1x2048, .f32⟩
  | .hbm, ⟨52, _⟩ => ⟨S1x4096x2048, .f32⟩
  | .hbm, ⟨53, _⟩ => ⟨S1x4096x2048, .f32⟩
  | .hbm, ⟨54, _⟩ => ⟨S_, .f32⟩
  | .hbm, ⟨55, _⟩ => ⟨S2048, .f32⟩
  | .hbm, ⟨56, _⟩ => ⟨S1x4096x2048, .f32⟩
  | .hbm, ⟨57, _⟩ => ⟨S_, .f32⟩
  | .hbm, ⟨58, _⟩ => ⟨S1x4096, .f32⟩
  | .hbm, ⟨59, _⟩ => ⟨S1x4096x1, .f32⟩
  | .hbm, ⟨60, _⟩ => ⟨S1x4096x2048, .f32⟩
  | .hbm, ⟨61, _⟩ => ⟨S1x4096x2048, .f32⟩
  | .hbm, ⟨62, _⟩ => ⟨S1x4096x1, .f32⟩
  | .hbm, ⟨63, _⟩ => ⟨S_, .f32⟩
  | .hbm, ⟨64, _⟩ => ⟨S1x4096x1, .f32⟩
  | .hbm, ⟨65, _⟩ => ⟨S1x4096x1, .f32⟩
  | .hbm, ⟨66, _⟩ => ⟨S_, .f32⟩
  | .hbm, ⟨67, _⟩ => ⟨S4096, .f32⟩
  | .hbm, ⟨68, _⟩ => ⟨S1x4096, .f32⟩
  | .hbm, ⟨69, _⟩ => ⟨S1x4096x2048, .f32⟩
  | .hbm, ⟨70, _⟩ => ⟨S1x4096x2048, .f32⟩
  | .hbm, ⟨71, _⟩ => ⟨S1x4096x2048, .f32⟩
  | .hbm, ⟨72, _⟩ => ⟨S1x4096x2048, .f32⟩
  | .hbm, ⟨73, _⟩ => ⟨S1x4096x2048, .f32⟩
  | .hbm, ⟨74, _⟩ => ⟨S1x4096x2048, .f32⟩
  | .hbm, ⟨75, _⟩ => ⟨S1x4096x2048, .f32⟩
  | .hbm, ⟨76, _⟩ => ⟨S1x1x2048, .f32⟩
  | .hbm, ⟨77, _⟩ => ⟨S1x4096x2048, .f32⟩
  | .hbm, ⟨78, _⟩ => ⟨S1x4096x2048, .f32⟩
  | .hbm, ⟨79, _⟩ => ⟨S1x4096x2048, .f32⟩
  | .hbm, ⟨80, _⟩ => ⟨S1x4096x2048, .f32⟩
  | .hbm, ⟨81, _⟩ => ⟨S1x4096x2048, .f32⟩
  | .hbm, ⟨82, _⟩ => ⟨S1x4096x2048, .f32⟩
  | .hbm, ⟨83, _⟩ => ⟨S_, .f32⟩
  | .hbm, ⟨84, _⟩ => ⟨S1x2048, .f32⟩
  | .hbm, ⟨85, _⟩ => ⟨S1x1x2048, .f32⟩
  | .hbm, ⟨86, _⟩ => ⟨S4096x2048, .f32⟩
  | .hbm, ⟨87, _⟩ => ⟨S4096x2048, .f32⟩
  | .hbm, ⟨88, _⟩ => ⟨S4096x2048, .bf16⟩
  | .hbm, ⟨89, _⟩ => ⟨S1x2048, .f32⟩
  | .hbm, ⟨90, _⟩ => ⟨S1x2048, .f32⟩
  | .hbm, ⟨91, _⟩ => ⟨S1x2048, .f32⟩
  | .hbm, ⟨92, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== NormBwdFirst.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S4096x2048, .f32⟩
  | .hbm, ⟨10, _⟩ => ⟨S1x2048, .f32⟩
  | .hbm, ⟨11, _⟩ => ⟨S1x2048, .f32⟩
  | .hbm, ⟨12, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_21 : BitVec 32 := 0#32
  let v56 : BitVec 1 := Scalar.cmpi .ne v55 c0_i32_21
  v56

def k0_cond2 (i : grid0.Coords) : BitVec 1 :=
  let arg0 : BitVec 32 := BitVec.ofNat 32 (i 0).val
  let c0_i32_22 : BitVec 32 := 0#32
  let v57 : BitVec 1 := Scalar.cmpi .sgt arg0 c0_i32_22
  let v58 : BitVec 32 := Scalar.extui v57
  let c0_i32_23 : BitVec 32 := 0#32
  let v59 : BitVec 1 := Scalar.cmpi .ne v58 c0_i32_23
  v59

def k0_cond3 (i : grid0.Coords) : BitVec 1 :=
  let arg0 : BitVec 32 := BitVec.ofNat 32 (i 0).val
  let c0_i32_24 : BitVec 32 := 0#32
  let v60 : BitVec 1 := Scalar.cmpi .eq arg0 c0_i32_24
  let v61 : BitVec 32 := Scalar.extui v60
  let c0_i32_25 : BitVec 32 := 0#32
  let v62 : BitVec 1 := Scalar.cmpi .ne v61 c0_i32_25
  v62

def k0_cond4 (i : grid0.Coords) : BitVec 1 :=
  let arg0 : BitVec 32 := BitVec.ofNat 32 (i 0).val
  let c0_i32_26 : BitVec 32 := 0#32
  let v63 : BitVec 1 := Scalar.cmpi .sgt arg0 c0_i32_26
  let v64 : BitVec 32 := Scalar.extui v63
  let c0_i32_27 : BitVec 32 := 0#32
  let v65 : BitVec 1 := Scalar.cmpi .ne v64 c0_i32_27
  v65

def k0_cond5 (i : grid0.Coords) : BitVec 1 :=
  let arg0 : BitVec 32 := BitVec.ofNat 32 (i 0).val
  let c0_i32_28 : BitVec 32 := 0#32
  let v66 : BitVec 1 := Scalar.cmpi .eq arg0 c0_i32_28
  let v67 : BitVec 32 := Scalar.extui v66
  let c0_i32_29 : BitVec 32 := 0#32
  let v68 : BitVec 1 := Scalar.cmpi .ne v67 c0_i32_29
  v68

def k0_cond6 (i : grid0.Coords) : BitVec 1 :=
  let arg0 : BitVec 32 := BitVec.ofNat 32 (i 0).val
  let c0_i32_30 : BitVec 32 := 0#32
  let v69 : BitVec 1 := Scalar.cmpi .sgt arg0 c0_i32_30
  let v70 : BitVec 32 := Scalar.extui v69
  let c0_i32_31 : BitVec 32 := 0#32
  let v71 : BitVec 1 := Scalar.cmpi .ne v70 c0_i32_31
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormBwdFirstRefIdeal.lean ====
abbrev S4096x2048 : Shape := ⟨2, ![4096, 2048]⟩
abbrev S2048 : Shape := ⟨1, ![2048]⟩
abbrev S1x4096x2048 : Shape := ⟨3, ![1, 4096, 2048]⟩
abbrev S1x1x2048 : Shape := ⟨3, ![1, 1, 2048]⟩
abbrev S_ : Shape := ⟨0, ![]⟩
abbrev S1x4096 : Shape := ⟨2, ![1, 4096]⟩
abbrev S1x4096x1 : Shape := ⟨3, ![1, 4096, 1]⟩
abbrev S1x2048 : Shape := ⟨2, ![1, 2048]⟩
abbrev S4096 : Shape := ⟨1, ![4096]⟩

abbrev nBuf : Space → Nat
  | .hbm => 78
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S1x4096x2048, .f32⟩
  | .hbm, ⟨7, _⟩ => ⟨S1x1x2048, .f32⟩
  | .hbm, ⟨8, _⟩ => ⟨S1x1x2048, .f32⟩
  | .hbm, ⟨9, _⟩ => ⟨S1x4096x2048, .f32⟩
  | .hbm, ⟨10, _⟩ => ⟨S_, .f32⟩
  | .hbm, ⟨11, _⟩ => ⟨S1x4096, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S_, .f32⟩
  | .hbm, ⟨17, _⟩ => ⟨S1x4096x1, .f32⟩
  | .hbm, ⟨18, _⟩ => ⟨S1x4096x1, .f32⟩
  | .hbm, ⟨19, _⟩ => ⟨S1x4096x1, .f32⟩
  | .hbm, ⟨20, _⟩ => ⟨S1x4096x1, .f32⟩
  | .hbm, ⟨21, _⟩ => ⟨S_, .f32⟩
  | .hbm, ⟨22, _⟩ => ⟨S1x4096x1, .f32⟩
  | .hbm, ⟨23, _⟩ => ⟨S1x4096x1, .f32⟩
  | .hbm, ⟨24, _⟩ => ⟨S1x4096x2048, .f32⟩
  | .hbm, ⟨25, _⟩ => ⟨S1x4096x2048, .f32⟩
  | .hbm, ⟨26, _⟩ => ⟨S1x1x2048, .f32⟩
  | .hbm, ⟨27, _⟩ => ⟨S1x4096x2048, .f32⟩
  | .hbm, ⟨28, _⟩ => ⟨S1x4096x2048, .f32⟩
  | .hbm, ⟨29, _⟩ => ⟨S_, .f32⟩
  | .hbm, ⟨30, _⟩ => ⟨S1x1x2048, .f32⟩
  | .hbm, ⟨31, _⟩ => ⟨S1x1x2048, .f32⟩
  | .hbm, ⟨32, _⟩ => ⟨S1x4096x2048, .f32⟩
  | .hbm, ⟨33, _⟩ => ⟨S1x4096x2048, .f32⟩
  | .hbm, ⟨34, _⟩ => ⟨S1x4096x2048, .f32⟩
  | .hbm, ⟨35, _⟩ => ⟨S1x4096x2048, .f32⟩
  | .hbm, ⟨36, _⟩ => ⟨S1x4096x2048, .f32⟩
  | .hbm, ⟨37, _⟩ => ⟨S_, .f32⟩
  | .hbm, ⟨38, _⟩ => ⟨S1x2048, .f32⟩
  | .hbm, ⟨39, _⟩ => ⟨S1x1x2048, .f32⟩
  | .hbm, ⟨40, _⟩ => ⟨S1x4096x2048, .f32⟩
  | .hbm, ⟨41, _⟩ => ⟨S_, .f32⟩
  | .hbm, ⟨42, _⟩ => ⟨S1x2048, .f32⟩
  | .hbm, ⟨43, _⟩ => ⟨S1x1x2048, .f32⟩
  | .hbm, ⟨44, _⟩ => ⟨S1x4096x2048, .f32⟩
  | .hbm, ⟨45, _⟩ => ⟨S1x4096x2048, .f32⟩
  | .hbm, ⟨46, _⟩ => ⟨S1x4096x2048, .f32⟩
  | .hbm, ⟨47, _⟩ => ⟨S_, .f32⟩
  | .hbm, ⟨48, _⟩ => ⟨S1x2048, .f32⟩
  | .hbm, ⟨49, _⟩ => ⟨S1x1x2048, .f32⟩
  | .hbm, ⟨50, _⟩ => ⟨S1x4096x2048, .f32⟩
  | .hbm, ⟨51, _⟩ => ⟨S1x4096x2048, .f32⟩
  | .hbm, ⟨52, _⟩ => ⟨S_, .f32⟩
  | .hbm, ⟨53, _⟩ => ⟨S2048, .f32⟩
  | .hbm, ⟨54, _⟩ => ⟨S1x4096x2048, .f32⟩
  | .hbm, ⟨55, _⟩ => ⟨S_, .f32⟩
  | .hbm, ⟨56, _⟩ => ⟨S1x4096, .f32⟩
  | .hbm, ⟨57, _⟩ => ⟨S1x4096x1, .f32⟩
  | .hbm, ⟨58, _⟩ => ⟨S1x4096x2048, .f32⟩
  | .hbm, ⟨59, _⟩ => ⟨S1x4096x2048, .f32⟩
  | .hbm, ⟨60, _⟩ => ⟨S1x4096x1, .f32⟩
  | .hbm, ⟨61, _⟩ => ⟨S_, .f32⟩
  | .hbm, ⟨62, _⟩ => ⟨S1x4096x1, .f32⟩
  | .hbm, ⟨63, _⟩ => ⟨S1x4096x1, .f32⟩
  | .hbm, ⟨64, _⟩ => ⟨S_, .f32⟩
  | .hbm, ⟨65, _⟩ => ⟨S4096, .f32⟩
  | .hbm, ⟨66, _⟩ => ⟨S1x4096, .f32⟩
  | .hbm, ⟨67, _⟩ => ⟨S1x4096x2048, .f32⟩
  | .hbm, ⟨68, _⟩ => ⟨S1x4096x2048, .f32⟩
  | .hbm, ⟨69, _⟩ => ⟨S1x4096x2048, .f32⟩
  | .hbm, ⟨70, _⟩ => ⟨S1x4096x2048, .f32⟩
  | .hbm, ⟨71, _⟩ => ⟨S1x4096x2048, .f32⟩
  | .hbm, ⟨72, _⟩ => ⟨S1x4096x2048, .f32⟩
  | .hbm, ⟨73, _⟩ => ⟨S1x4096x2048, .f32⟩
  | .hbm, ⟨74, _⟩ => ⟨S4096x2048, .f32⟩
  | .hbm, ⟨75, _⟩ => ⟨S1x2048, .f32⟩
  | .hbm, ⟨76, _⟩ => ⟨S1x2048, .f32⟩
  | .hbm, ⟨77, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== LossHead.lean ====
abbrev S4096x2048 : Shape := ⟨2, ![4096, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 12
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .bf16⟩
  | .hbm, ⟨9, _⟩ => ⟨S1x2048, .f32⟩
  | .hbm, ⟨10, _⟩ => ⟨S1x128, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x128, .f32⟩
  | .local _ .vmem, ⟨14, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v80 : BitVec 1 := Scalar.cmpi .eq arg0 c0_i32
  let v81 : BitVec 32 := Scalar.extui v80
  let c0_i32_30 : BitVec 32 := 0#32
  let v82 : BitVec 1 := Scalar.cmpi .ne v81 c0_i32_30
  v82

def k0_cond2 (i : grid0.Coords) : BitVec 1 :=
  let arg0 : BitVec 32 := BitVec.ofNat 32 (i 0).val
  let c0_i32_31 : BitVec 32 := 0#32
  let v83 : BitVec 1 := Scalar.cmpi .sgt arg0 c0_i32_31
  let v84 : BitVec 32 := Scalar.extui v83
  let c0_i32_32 : BitVec 32 := 0#32
  let v85 : BitVec 1 := Scalar.cmpi .ne v84 c0_i32_32
  v85

def k0_cond3 (i : grid0.Coords) : BitVec 1 :=
  let arg0 : BitVec 32 := BitVec.ofNat 32 (i 0).val
  let c0_i32_33 : BitVec 32 := 0#32
  let v86 : BitVec 1 := Scalar.cmpi .eq arg0 c0_i32_33
  let v87 : BitVec 32 := Scalar.extui v86
  let c0_i32_34 : BitVec 32 := 0#32
  let v88 : BitVec 1 := Scalar.cmpi .ne v87 c0_i32_34
  v88

def k0_cond4 (i : grid0.Coords) : BitVec 1 :=
  let arg0 : BitVec 32 := BitVec.ofNat 32 (i 0).val
  let c0_i32_35 : BitVec 32 := 0#32
  let v89 : BitVec 1 := Scalar.cmpi .sgt arg0 c0_i32_35
  let v90 : BitVec 32 := Scalar.extui v89
  let c0_i32_36 : BitVec 32 := 0#32
  let v91 : BitVec 1 := Scalar.cmpi .ne v90 c0_i32_36
  v91

def k0_cond5 (i : grid0.Coords) : BitVec 1 :=
  let arg0 : BitVec 32 := BitVec.ofNat 32 (i 0).val
  let c0_i32_37 : BitVec 32 := 0#32
  let v92 : BitVec 1 := Scalar.cmpi .eq arg0 c0_i32_37
  let v93 : BitVec 32 := Scalar.extui v92
  let c0_i32_38 : BitVec 32 := 0#32
  let v94 : BitVec 1 := Scalar.cmpi .ne v93 c0_i32_38
  v94

def k0_cond6 (i : grid0.Coords) : BitVec 1 :=
  let arg0 : BitVec 32 := BitVec.ofNat 32 (i 0).val
  let c0_i32_39 : BitVec 32 := 0#32
  let v95 : BitVec 1 := Scalar.cmpi .sgt arg0 c0_i32_39
  let v96 : BitVec 32 := Scalar.extui v95
  let c0_i32_40 : BitVec 32 := 0#32
  let v97 : BitVec 1 := Scalar.cmpi .ne v96 c0_i32_40
  v97

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossHeadRefIdeal.lean ====
abbrev S4096x2048 : Shape := ⟨2, ![4096, 2048]⟩
abbrev S2048 : Shape := ⟨1, ![2048]⟩
abbrev S1x4096x2048 : Shape := ⟨3, ![1, 4096, 2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩
abbrev S1x2048 : Shape := ⟨2, ![1, 2048]⟩
abbrev S4096 : Shape := ⟨1, ![4096]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S1x4096x2048, .f32⟩
  | .hbm, ⟨6, _⟩ => ⟨S1x4096x2048, .f32⟩
  | .hbm, ⟨7, _⟩ => ⟨S1x4096x2048, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S_, .f32⟩
  | .hbm, ⟨20, _⟩ => ⟨S1x4096x1, .f32⟩
  | .hbm, ⟨21, _⟩ => ⟨S1x4096x1, .f32⟩
  | .hbm, ⟨22, _⟩ => ⟨S1x4096x2048, .f32⟩
  | .hbm, ⟨23, _⟩ => ⟨S1x4096x2048, .f32⟩
  | .hbm, ⟨24, _⟩ => ⟨S1x1x2048, .f32⟩
  | .hbm, ⟨25, _⟩ => ⟨S1x4096x2048, .f32⟩
  | .hbm, ⟨26, _⟩ => ⟨S1x4096x2048, .f32⟩
  | .hbm, ⟨27, _⟩ => ⟨S1x4096x2048, .f32⟩
  | .hbm, ⟨28, _⟩ => ⟨S1x4096x2048, .f32⟩
  | .hbm, ⟨29, _⟩ => ⟨S_, .f32⟩
  | .hbm, ⟨30, _⟩ => ⟨S1x4096x2048, .f32⟩
  | .hbm, ⟨31, _⟩ => ⟨S1x4096x2048, .f32⟩
  | .hbm, ⟨32, _⟩ => ⟨S_, .f32⟩
  | .hbm, ⟨33, _⟩ => ⟨S1x4096, .f32⟩
  | .hbm, ⟨34, _⟩ => ⟨S_, .f32⟩
  | .hbm, ⟨35, _⟩ => ⟨S1x4096, .f32⟩
  | .hbm, ⟨36, _⟩ => ⟨S1x4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1x4096, .f32⟩
  | .hbm, ⟨45, _⟩ => ⟨S_, .f32⟩
  | .hbm, ⟨46, _⟩ => ⟨S1x4096, .f32⟩
  | .hbm, ⟨47, _⟩ => ⟨S1x4096, .f32⟩
  | .hbm, ⟨48, _⟩ => ⟨S1x4096x2048, .f32⟩
  | .hbm, ⟨49, _⟩ => ⟨S1x4096x2048, .f32⟩
  | .hbm, ⟨50, _⟩ => ⟨S1x4096x2048, .f32⟩
  | .hbm, ⟨51, _⟩ => ⟨S_, .f32⟩
  | .hbm, ⟨52, _⟩ => ⟨S1x2048, .f32⟩
  | .hbm, ⟨53, _⟩ => ⟨S1x1x2048, .f32⟩
  | .hbm, ⟨54, _⟩ => ⟨S1x4096x2048, .f32⟩
  | .hbm, ⟨55, _⟩ => ⟨S1x4096x2048, .f32⟩
  | .hbm, ⟨56, _⟩ => ⟨S_, .f32⟩
  | .hbm, ⟨57, _⟩ => ⟨S2048, .f32⟩
  | .hbm, ⟨58, _⟩ => ⟨S1x4096x2048, .f32⟩
  | .hbm, ⟨59, _⟩ => ⟨S_, .f32⟩
  | .hbm, ⟨60, _⟩ => ⟨S1x4096, .f32⟩
  | .hbm, ⟨61, _⟩ => ⟨S1x4096x1, .f32⟩
  | .hbm, ⟨62, _⟩ => ⟨S1x4096x2048, .f32⟩
  | .hbm, ⟨63, _⟩ => ⟨S1x4096x2048, .f32⟩
  | .hbm, ⟨64, _⟩ => ⟨S1x4096x1, .f32⟩
  | .hbm, ⟨65, _⟩ => ⟨S_, .f32⟩
  | .hbm, ⟨66, _⟩ => ⟨S1x4096x1, .f32⟩
  | .hbm, ⟨67, _⟩ => ⟨S1x4096x1, .f32⟩
  | .hbm, ⟨68, _⟩ => ⟨S_, .f32⟩
  | .hbm, ⟨69, _⟩ => ⟨S4096, .f32⟩
  | .hbm, ⟨70, _⟩ => ⟨S1x4096, .f32⟩
  | .hbm, ⟨71, _⟩ => ⟨S1x4096x2048, .f32⟩
  | .hbm, ⟨72, _⟩ => ⟨S1x4096x2048, .f32⟩
  | .hbm, ⟨73, _⟩ => ⟨S1x4096x2048, .f32⟩
  | .hbm, ⟨74, _⟩ => ⟨S1x4096x2048, .f32⟩
  | .hbm, ⟨75, _⟩ => ⟨S1x4096x2048, .f32⟩
  | .hbm, ⟨76, _⟩ => ⟨S1x1x2048, .f32⟩
  | .hbm, ⟨77, _⟩ => ⟨S1x4096x2048, .f32⟩
  | .hbm, ⟨78, _⟩ => ⟨S1x4096x2048, .f32⟩
  | .hbm, ⟨79, _⟩ => ⟨S1x4096x2048, .f32⟩
  | .hbm, ⟨80, _⟩ => ⟨S1x4096x2048, .f32⟩
  | .hbm, ⟨81, _⟩ => ⟨S1x4096x2048, .f32⟩
  | .hbm, ⟨82, _⟩ => ⟨S1x4096x2048, .f32⟩
  | .hbm, ⟨83, _⟩ => ⟨S_, .f32⟩
  | .hbm, ⟨84, _⟩ => ⟨S1x2048, .f32⟩
  | .hbm, ⟨85, _⟩ => ⟨S1x1x2048, .f32⟩
  | .hbm, ⟨86, _⟩ => ⟨S4096x2048, .f32⟩
  | .hbm, ⟨87, _⟩ => ⟨S4096x2048, .f32⟩
  | .hbm, ⟨88, _⟩ => ⟨S4096x2048, .bf16⟩
  | .hbm, ⟨89, _⟩ => ⟨S1x2048, .f32⟩
  | .hbm, ⟨90, _⟩ => ⟨S1x128, .f32⟩
  | .hbm, ⟨91, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]
-- ==== RwGateBwd.lean ====
abbrev S4096x2048 : Shape := ⟨2, ![4096, 2048]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RwGateBwdRefIdeal.lean ====
abbrev S4096x2048 : Shape := ⟨2, ![4096, 2048]⟩
abbrev S1x4096x2048 : Shape := ⟨3, ![1, 4096, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x4096x2048, .f32⟩
  | .hbm, ⟨4, _⟩ => ⟨S1x4096x2048, .f32⟩
  | .hbm, ⟨5, _⟩ => ⟨S1x4096x2048, .f32⟩
  | .hbm, ⟨6, _⟩ => ⟨S1x4096x2048, .f32⟩
  | .hbm, ⟨7, _⟩ => ⟨S_, .f32⟩
  | .hbm, ⟨8, _⟩ => ⟨S1x4096x2048, .f32⟩
  | .hbm, ⟨9, _⟩ => ⟨S1x4096x2048, .f32⟩
  | .hbm, ⟨10, _⟩ => ⟨S_, .f32⟩
  | .hbm, ⟨11, _⟩ => ⟨S1x4096x2048, .f32⟩
  | .hbm, ⟨12, _⟩ => ⟨S1x4096x2048, .f32⟩
  | .hbm, ⟨13, _⟩ => ⟨S_, .f32⟩
  | .hbm, ⟨14, _⟩ => ⟨S1x4096x2048, .f32⟩
  | .hbm, ⟨15, _⟩ => ⟨S1x4096x2048, .f32⟩
  | .hbm, ⟨16, _⟩ => ⟨S1x4096x2048, .f32⟩
  | .hbm, ⟨17, _⟩ => ⟨S1x4096x2048, .f32⟩
  | .hbm, ⟨18, _⟩ => ⟨S1x4096x2048, .f32⟩
  | .hbm, ⟨19, _⟩ => ⟨S1x4096x2048, .f32⟩
  | .hbm, ⟨20, _⟩ => ⟨S1x4096x2048, .f32⟩
  | .hbm, ⟨21, _⟩ => ⟨S1x4096x2048, .f32⟩
  | .hbm, ⟨22, _⟩ => ⟨S1x4096x2048, .f32⟩
  | .hbm, ⟨23, _⟩ => ⟨S1x4096x2048, .f32⟩
  | .hbm, ⟨24, _⟩ => ⟨S1x4096x2048, .f32⟩
  | .hbm, ⟨25, _⟩ => ⟨S1x4096x2048, .f32⟩
  | .hbm, ⟨26, _⟩ => ⟨S4096x2048, .f32⟩
  | .hbm, ⟨27, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== SwaGateBwd.lean ====
abbrev S4096x2048 : Shape := ⟨2, ![4096, 2048]⟩
abbrev S4096x4608 : Shape := ⟨2, ![4096, 4608]⟩
abbrev S256x2048 : Shape := ⟨2, ![256, 2048]⟩
abbrev S256x4608 : Shape := ⟨2, ![256, 4608]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x4608, .f32⟩
  | .hbm, ⟨2, _⟩ => ⟨S4096x2048, .f32⟩
  | .hbm, ⟨3, _⟩ => ⟨S4096x2048, .f32⟩
  | .hbm, ⟨4, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x4608, .f32⟩
  | .local _ .vmem, ⟨3, _⟩ => ⟨S256x4608, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4608 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SwaGateBwdRefIdeal.lean ====
abbrev S4096x2048 : Shape := ⟨2, ![4096, 2048]⟩
abbrev S4096x4608 : Shape := ⟨2, ![4096, 4608]⟩
abbrev S1x4096x4608 : Shape := ⟨3, ![1, 4096, 4608]⟩
abbrev S1x4096x2048 : Shape := ⟨3, ![1, 4096, 2048]⟩
abbrev S1x4096x256 : Shape := ⟨3, ![1, 4096, 256]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4608, .f32⟩
  | .hbm, ⟨2, _⟩ => ⟨S4096x2048, .f32⟩
  | .hbm, ⟨3, _⟩ => ⟨S1x4096x4608, .f32⟩
  | .hbm, ⟨4, _⟩ => ⟨S1x4096x2048, .f32⟩
  | .hbm, ⟨5, _⟩ => ⟨S1x4096x256, .f32⟩
  | .hbm, ⟨6, _⟩ => ⟨S1x4096x256, .f32⟩
  | .hbm, ⟨7, _⟩ => ⟨S1x4096x2048, .f32⟩
  | .hbm, ⟨8, _⟩ => ⟨S1x4096x2048, .f32⟩
  | .hbm, ⟨9, _⟩ => ⟨S1x4096x2048, .f32⟩
  | .hbm, ⟨10, _⟩ => ⟨S1x4096x2048, .f32⟩
  | .hbm, ⟨11, _⟩ => ⟨S_, .f32⟩
  | .hbm, ⟨12, _⟩ => ⟨S1x4096x2048, .f32⟩
  | .hbm, ⟨13, _⟩ => ⟨S1x4096x2048, .f32⟩
  | .hbm, ⟨14, _⟩ => ⟨S_, .f32⟩
  | .hbm, ⟨15, _⟩ => ⟨S1x4096x2048, .f32⟩
  | .hbm, ⟨16, _⟩ => ⟨S1x4096x2048, .f32⟩
  | .hbm, ⟨17, _⟩ => ⟨S_, .f32⟩
  | .hbm, ⟨18, _⟩ => ⟨S1x4096x2048, .f32⟩
  | .hbm, ⟨19, _⟩ => ⟨S1x4096x2048, .f32⟩
  | .hbm, ⟨20, _⟩ => ⟨S1x4096x2048, .f32⟩
  | .hbm, ⟨21, _⟩ => ⟨S1x4096x2048, .f32⟩
  | .hbm, ⟨22, _⟩ => ⟨S1x4096x2048, .f32⟩
  | .hbm, ⟨23, _⟩ => ⟨S1x4096x2048, .f32⟩
  | .hbm, ⟨24, _⟩ => ⟨S1x4096x2048, .f32⟩
  | .hbm, ⟨25, _⟩ => ⟨S1x4096x2048, .f32⟩
  | .hbm, ⟨26, _⟩ => ⟨S1x4096x2048, .f32⟩
  | .hbm, ⟨27, _⟩ => ⟨S1x4096x2048, .f32⟩
  | .hbm, ⟨28, _⟩ => ⟨S1x4096x2048, .f32⟩
  | .hbm, ⟨29, _⟩ => ⟨S1x4096x2048, .f32⟩
  | .hbm, ⟨30, _⟩ => ⟨S4096x2048, .f32⟩
  | .hbm, ⟨31, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]
-- ==== LoraBwd.lean ====
abbrev S4096x256 : Shape := ⟨2, ![4096, 256]⟩
abbrev S4096x2048 : Shape := ⟨2, ![4096, 2048]⟩
abbrev S2048 : Shape := ⟨1, ![2048]⟩
abbrev S256x2048 : Shape := ⟨2, ![256, 2048]⟩
abbrev S1x2048 : Shape := ⟨2, ![1, 2048]⟩
abbrev S256x256 : Shape := ⟨2, ![256, 256]⟩
abbrev S2048x256 : Shape := ⟨2, ![2048, 256]⟩

abbrev nBuf : Space → Nat
  | .hbm => 14
  | .vmem => 16
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S256x2048, .f32⟩
  | .hbm, ⟨5, _⟩ => ⟨S2048, .f32⟩
  | .hbm, ⟨6, _⟩ => ⟨S256x2048, .f32⟩
  | .hbm, ⟨7, _⟩ => ⟨S1x2048, .f32⟩
  | .hbm, ⟨8, _⟩ => ⟨S1x2048, .f32⟩
  | .hbm, ⟨9, _⟩ => ⟨S4096x256, .f32⟩
  | .hbm, ⟨10, _⟩ => ⟨S1x2048, .f32⟩
  | .hbm, ⟨11, _⟩ => ⟨S256x2048, .f32⟩
  | .hbm, ⟨12, _⟩ => ⟨S1x2048, .f32⟩
  | .hbm, ⟨13, _⟩ => ⟨S256x2048, .f32⟩
  | .local _ .vmem, ⟨0, _⟩ => ⟨S256x256, .f32⟩
  | .local _ .vmem, ⟨1, _⟩ => ⟨S256x256, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .f32⟩
  | .local _ .vmem, ⟨10, _⟩ => ⟨S256x256, .f32⟩
  | .local _ .vmem, ⟨11, _⟩ => ⟨S256x256, .f32⟩
  | .local _ .vmem, ⟨12, _⟩ => ⟨S1x2048, .f32⟩
  | .local _ .vmem, ⟨13, _⟩ => ⟨S256x2048, .f32⟩
  | .local _ .vmem, ⟨14, _⟩ => ⟨S1x2048, .f32⟩
  | .local _ .vmem, ⟨15, _⟩ => ⟨S256x2048, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v59 : BitVec 32 := Scalar.extui v58
  let c0_i32_27 : BitVec 32 := 0#32
  let v60 : BitVec 1 := Scalar.cmpi .ne v59 c0_i32_27
  v60

def k0_cond2 (i : grid0.Coords) : BitVec 1 :=
  let arg0 : BitVec 32 := BitVec.ofNat 32 (i 0).val
  let c0_i32_28 : BitVec 32 := 0#32
  let v61 : BitVec 1 := Scalar.cmpi .sgt arg0 c0_i32_28
  let v62 : BitVec 32 := Scalar.extui v61
  let c0_i32_29 : BitVec 32 := 0#32
  let v63 : BitVec 1 := Scalar.cmpi .ne v62 c0_i32_29
  v63

def k0_cond3 (i : grid0.Coords) : BitVec 1 :=
  let arg0 : BitVec 32 := BitVec.ofNat 32 (i 0).val
  let c0_i32_30 : BitVec 32 := 0#32
  let v64 : BitVec 1 := Scalar.cmpi .eq arg0 c0_i32_30
  let v65 : BitVec 32 := Scalar.extui v64
  let c0_i32_31 : BitVec 32 := 0#32
  let v66 : BitVec 1 := Scalar.cmpi .ne v65 c0_i32_31
  v66

def k0_cond4 (i : grid0.Coords) : BitVec 1 :=
  let arg0 : BitVec 32 := BitVec.ofNat 32 (i 0).val
  let c0_i32_32 : BitVec 32 := 0#32
  let v67 : BitVec 1 := Scalar.cmpi .sgt arg0 c0_i32_32
  let v68 : BitVec 32 := Scalar.extui v67
  let c0_i32_33 : BitVec 32 := 0#32
  let v69 : BitVec 1 := Scalar.cmpi .ne v68 c0_i32_33
  v69

def k0_cond5 (i : grid0.Coords) : BitVec 1 :=
  let arg0 : BitVec 32 := BitVec.ofNat 32 (i 0).val
  let c0_i32_34 : BitVec 32 := 0#32
  let v70 : BitVec 1 := Scalar.cmpi .eq arg0 c0_i32_34
  let v71 : BitVec 32 := Scalar.extui v70
  let c0_i32_35 : BitVec 32 := 0#32
  let v72 : BitVec 1 := Scalar.cmpi .ne v71 c0_i32_35
  v72

def k0_cond6 (i : grid0.Coords) : BitVec 1 :=
  let arg0 : BitVec 32 := BitVec.ofNat 32 (i 0).val
  let c0_i32_36 : BitVec 32 := 0#32
  let v73 : BitVec 1 := Scalar.cmpi .sgt arg0 c0_i32_36
  let v74 : BitVec 32 := Scalar.extui v73
  let c0_i32_37 : BitVec 32 := 0#32
  let v75 : BitVec 1 := Scalar.cmpi .ne v74 c0_i32_37
  v75

def k0_cond7 (i : grid0.Coords) : BitVec 1 :=
  let arg0 : BitVec 32 := BitVec.ofNat 32 (i 0).val
  let c0_i32_38 : BitVec 32 := 0#32
  let v76 : BitVec 1 := Scalar.cmpi .eq arg0 c0_i32_38
  let v77 : BitVec 32 := Scalar.extui v76
  let c0_i32_39 : BitVec 32 := 0#32
  let v78 : BitVec 1 := Scalar.cmpi .ne v77 c0_i32_39
  v78

def k0_cond8 (i : grid0.Coords) : BitVec 1 :=
  let arg0 : BitVec 32 := BitVec.ofNat 32 (i 0).val
  let c0_i32_40 : BitVec 32 := 0#32
  let v79 : BitVec 1 := Scalar.cmpi .sgt arg0 c0_i32_40
  let v80 : BitVec 32 := Scalar.extui v79
  let c0_i32_41 : BitVec 32 := 0#32
  let v81 : BitVec 1 := Scalar.cmpi .ne v80 c0_i32_41
  v81

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== LoraBwdRefIdeal.lean ====
abbrev S4096x256 : Shape := ⟨2, ![4096, 256]⟩
abbrev S4096x2048 : Shape := ⟨2, ![4096, 2048]⟩
abbrev S2048 : Shape := ⟨1, ![2048]⟩
abbrev S256x2048 : Shape := ⟨2, ![256, 2048]⟩
abbrev S1x4096x256 : Shape := ⟨3, ![1, 4096, 256]⟩
abbrev S_ : Shape := ⟨0, ![]⟩
abbrev S1x4096x2048 : Shape := ⟨3, ![1, 4096, 2048]⟩
abbrev S1x1x2048 : Shape := ⟨3, ![1, 1, 2048]⟩
abbrev S1x2048 : Shape := ⟨2, ![1, 2048]⟩
abbrev S2048x256 : Shape := ⟨2, ![2048, 256]⟩

abbrev nBuf : Space → Nat
  | .hbm => 79
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S256x2048, .f32⟩
  | .hbm, ⟨5, _⟩ => ⟨S2048, .f32⟩
  | .hbm, ⟨6, _⟩ => ⟨S256x2048, .f32⟩
  | .hbm, ⟨7, _⟩ => ⟨S1x4096x256, .f32⟩
  | .hbm, ⟨8, _⟩ => ⟨S1x4096x256, .f32⟩
  | .hbm, ⟨9, _⟩ => ⟨S_, .f32⟩
  | .hbm, ⟨10, _⟩ => ⟨S1x4096x256, .f32⟩
  | .hbm, ⟨11, _⟩ => ⟨S1x4096x256, .f32⟩
  | .hbm, ⟨12, _⟩ => ⟨S_, .f32⟩
  | .hbm, ⟨13, _⟩ => ⟨S1x4096x256, .f32⟩
  | .hbm, ⟨14, _⟩ => ⟨S1x4096x256, .f32⟩
  | .hbm, ⟨15, _⟩ => ⟨S1x4096x256, .f32⟩
  | .hbm, ⟨16, _⟩ => ⟨S1x4096x2048, .f32⟩
  | .hbm, ⟨17, _⟩ => ⟨S1x1x2048, .f32⟩
  | .hbm, ⟨18, _⟩ => ⟨S1x4096x2048, .f32⟩
  | .hbm, ⟨19, _⟩ => ⟨S1x4096x2048, .f32⟩
  | .hbm, ⟨20, _⟩ => ⟨S1x4096x2048, .f32⟩
  | .hbm, ⟨21, _⟩ => ⟨S1x4096x2048, .f32⟩
  | .hbm, ⟨22, _⟩ => ⟨S_, .f32⟩
  | .hbm, ⟨23, _⟩ => ⟨S1x4096x2048, .f32⟩
  | .hbm, ⟨24, _⟩ => ⟨S1x4096x2048, .f32⟩
  | .hbm, ⟨25, _⟩ => ⟨S_, .f32⟩
  | .hbm, ⟨26, _⟩ => ⟨S1x4096x2048, .f32⟩
  | .hbm, ⟨27, _⟩ => ⟨S1x4096x2048, .f32⟩
  | .hbm, ⟨28, _⟩ => ⟨S_, .f32⟩
  | .hbm, ⟨29, _⟩ => ⟨S1x4096x2048, .f32⟩
  | .hbm, ⟨30, _⟩ => ⟨S1x4096x2048, .f32⟩
  | .hbm, ⟨31, _⟩ => ⟨S1x4096x2048, .f32⟩
  | .hbm, ⟨32, _⟩ => ⟨S_, .f32⟩
  | .hbm, ⟨33, _⟩ => ⟨S1x4096x2048, .f32⟩
  | .hbm, ⟨34, _⟩ => ⟨S1x4096x2048, .f32⟩
  | .hbm, ⟨35, _⟩ => ⟨S1x4096x2048, .f32⟩
  | .hbm, ⟨36, _⟩ => ⟨S1x1x2048, .f32⟩
  | .hbm, ⟨37, _⟩ => ⟨S1x4096x2048, .f32⟩
  | .hbm, ⟨38, _⟩ => ⟨S1x4096x2048, .f32⟩
  | .hbm, ⟨39, _⟩ => ⟨S1x4096x2048, .f32⟩
  | .hbm, ⟨40, _⟩ => ⟨S1x4096x2048, .f32⟩
  | .hbm, ⟨41, _⟩ => ⟨S_, .f32⟩
  | .hbm, ⟨42, _⟩ => ⟨S1x4096x2048, .f32⟩
  | .hbm, ⟨43, _⟩ => ⟨S1x4096x2048, .f32⟩
  | .hbm, ⟨44, _⟩ => ⟨S_, .f32⟩
  | .hbm, ⟨45, _⟩ => ⟨S1x4096x2048, .f32⟩
  | .hbm, ⟨46, _⟩ => ⟨S1x4096x2048, .f32⟩
  | .hbm, ⟨47, _⟩ => ⟨S_, .f32⟩
  | .hbm, ⟨48, _⟩ => ⟨S1x4096x2048, .f32⟩
  | .hbm, ⟨49, _⟩ => ⟨S1x4096x2048, .f32⟩
  | .hbm, ⟨50, _⟩ => ⟨S1x4096x2048, .f32⟩
  | .hbm, ⟨51, _⟩ => ⟨S1x4096x2048, .f32⟩
  | .hbm, ⟨52, _⟩ => ⟨S1x4096x2048, .f32⟩
  | .hbm, ⟨53, _⟩ => ⟨S1x4096x2048, .f32⟩
  | .hbm, ⟨54, _⟩ => ⟨S_, .f32⟩
  | .hbm, ⟨55, _⟩ => ⟨S1x2048, .f32⟩
  | .hbm, ⟨56, _⟩ => ⟨S1x1x2048, .f32⟩
  | .hbm, ⟨57, _⟩ => ⟨S_, .f32⟩
  | .hbm, ⟨58, _⟩ => ⟨S2048, .f32⟩
  | .hbm, ⟨59, _⟩ => ⟨S2048x256, .f32⟩
  | .hbm, ⟨60, _⟩ => ⟨S256x2048, .f32⟩
  | .hbm, ⟨61, _⟩ => ⟨S1x4096x256, .f32⟩
  | .hbm, ⟨62, _⟩ => ⟨S_, .f32⟩
  | .hbm, ⟨63, _⟩ => ⟨S1x4096x2048, .f32⟩
  | .hbm, ⟨64, _⟩ => ⟨S1x4096x2048, .f32⟩
  | .hbm, ⟨65, _⟩ => ⟨S1x4096x2048, .f32⟩
  | .hbm, ⟨66, _⟩ => ⟨S_, .f32⟩
  | .hbm, ⟨67, _⟩ => ⟨S1x2048, .f32⟩
  | .hbm, ⟨68, _⟩ => ⟨S1x1x2048, .f32⟩
  | .hbm, ⟨69, _⟩ => ⟨S_, .f32⟩
  | .hbm, ⟨70, _⟩ => ⟨S2048, .f32⟩
  | .hbm, ⟨71, _⟩ => ⟨S2048x256, .f32⟩
  | .hbm, ⟨72, _⟩ => ⟨S256x2048, .f32⟩
  | .hbm, ⟨73, _⟩ => ⟨S1x4096x256, .f32⟩
  | .hbm, ⟨74, _⟩ => ⟨S1x4096x256, .f32⟩
  | .hbm, ⟨75, _⟩ => ⟨S1x4096x256, .f32⟩
  | .hbm, ⟨76, _⟩ => ⟨S4096x256, .f32⟩
  | .hbm, ⟨77, _⟩ => ⟨S1x2048, .f32⟩
  | .hbm, ⟨78, _⟩ => ⟨S1x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== NormFwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormFwdRefIdeal.lean ====
abbrev S4096x2048 : Shape := ⟨2, ![4096, 2048]⟩
abbrev S2048 : Shape := ⟨1, ![2048]⟩
abbrev S1x4096x2048 : Shape := ⟨3, ![1, 4096, 2048]⟩
abbrev S1x1x2048 : Shape := ⟨3, ![1, 1, 2048]⟩
abbrev S_ : Shape := ⟨0, ![]⟩
abbrev S1x4096 : Shape := ⟨2, ![1, 4096]⟩
abbrev S1x4096x1 : Shape := ⟨3, ![1, 4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x4096x2048, .f32⟩
  | .hbm, ⟨5, _⟩ => ⟨S1x1x2048, .f32⟩
  | .hbm, ⟨6, _⟩ => ⟨S1x1x2048, .f32⟩
  | .hbm, ⟨7, _⟩ => ⟨S1x4096x2048, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S1x4096x2048, .f32⟩
  | .hbm, ⟨19, _⟩ => ⟨S1x4096x2048, .f32⟩
  | .hbm, ⟨20, _⟩ => ⟨S1x1x2048, .f32⟩
  | .hbm, ⟨21, _⟩ => ⟨S1x4096x2048, .f32⟩
  | .hbm, ⟨22, _⟩ => ⟨S1x4096x2048, .f32⟩
  | .hbm, ⟨23, _⟩ => ⟨S_, .f32⟩
  | .hbm, ⟨24, _⟩ => ⟨S1x1x2048, .f32⟩
  | .hbm, ⟨25, _⟩ => ⟨S1x1x2048, .f32⟩
  | .hbm, ⟨26, _⟩ => ⟨S1x4096x2048, .f32⟩
  | .hbm, ⟨27, _⟩ => ⟨S1x4096x2048, .f32⟩
  | .hbm, ⟨28, _⟩ => ⟨S1x4096x2048, .f32⟩
  | .hbm, ⟨29, _⟩ => ⟨S1x4096x2048, .f32⟩
  | .hbm, ⟨30, _⟩ => ⟨S4096x2048, .f32⟩
  | .hbm, ⟨31, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== RwGate.lean ====
abbrev S4096x2048 : Shape := ⟨2, ![4096, 2048]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RwGateRefIdeal.lean ====
abbrev S4096x2048 : Shape := ⟨2, ![4096, 2048]⟩
abbrev S1x4096x2048 : Shape := ⟨3, ![1, 4096, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x4096x2048, .f32⟩
  | .hbm, ⟨3, _⟩ => ⟨S1x4096x2048, .f32⟩
  | .hbm, ⟨4, _⟩ => ⟨S1x4096x2048, .f32⟩
  | .hbm, ⟨5, _⟩ => ⟨S1x4096x2048, .f32⟩
  | .hbm, ⟨6, _⟩ => ⟨S_, .f32⟩
  | .hbm, ⟨7, _⟩ => ⟨S1x4096x2048, .f32⟩
  | .hbm, ⟨8, _⟩ => ⟨S1x4096x2048, .f32⟩
  | .hbm, ⟨9, _⟩ => ⟨S_, .f32⟩
  | .hbm, ⟨10, _⟩ => ⟨S1x4096x2048, .f32⟩
  | .hbm, ⟨11, _⟩ => ⟨S1x4096x2048, .f32⟩
  | .hbm, ⟨12, _⟩ => ⟨S1x4096x2048, .f32⟩
  | .hbm, ⟨13, _⟩ => ⟨S1x4096x2048, .f32⟩
  | .hbm, ⟨14, _⟩ => ⟨S4096x2048, .f32⟩
  | .hbm, ⟨15, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== SwaGate.lean ====
abbrev S4096x2048 : Shape := ⟨2, ![4096, 2048]⟩
abbrev S4096x4608 : Shape := ⟨2, ![4096, 4608]⟩
abbrev S256x2048 : Shape := ⟨2, ![256, 2048]⟩
abbrev S256x4608 : Shape := ⟨2, ![256, 4608]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x4608, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x4608, .f32⟩
  | .local _ .vmem, ⟨3, _⟩ => ⟨S256x4608, .f32⟩
  | .local _ .vmem, ⟨4, _⟩ => ⟨S256x2048, .bf16⟩
  | .local _ .vmem, ⟨5, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4608 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwaGateRefIdeal.lean ====
abbrev S4096x2048 : Shape := ⟨2, ![4096, 2048]⟩
abbrev S4096x4608 : Shape := ⟨2, ![4096, 4608]⟩
abbrev S1x4096x2048 : Shape := ⟨3, ![1, 4096, 2048]⟩
abbrev S1x4096x4608 : Shape := ⟨3, ![1, 4096, 4608]⟩
abbrev S1x4096x256 : Shape := ⟨3, ![1, 4096, 256]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4608, .f32⟩
  | .hbm, ⟨2, _⟩ => ⟨S1x4096x2048, .f32⟩
  | .hbm, ⟨3, _⟩ => ⟨S1x4096x4608, .f32⟩
  | .hbm, ⟨4, _⟩ => ⟨S1x4096x2048, .f32⟩
  | .hbm, ⟨5, _⟩ => ⟨S1x4096x256, .f32⟩
  | .hbm, ⟨6, _⟩ => ⟨S1x4096x256, .f32⟩
  | .hbm, ⟨7, _⟩ => ⟨S1x4096x2048, .f32⟩
  | .hbm, ⟨8, _⟩ => ⟨S1x4096x2048, .f32⟩
  | .hbm, ⟨9, _⟩ => ⟨S1x4096x2048, .f32⟩
  | .hbm, ⟨10, _⟩ => ⟨S_, .f32⟩
  | .hbm, ⟨11, _⟩ => ⟨S1x4096x2048, .f32⟩
  | .hbm, ⟨12, _⟩ => ⟨S1x4096x2048, .f32⟩
  | .hbm, ⟨13, _⟩ => ⟨S_, .f32⟩
  | .hbm, ⟨14, _⟩ => ⟨S1x4096x2048, .f32⟩
  | .hbm, ⟨15, _⟩ => ⟨S1x4096x2048, .f32⟩
  | .hbm, ⟨16, _⟩ => ⟨S1x4096x2048, .f32⟩
  | .hbm, ⟨17, _⟩ => ⟨S1x4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Lora.lean ====
abbrev S4096x256 : Shape := ⟨2, ![4096, 256]⟩
abbrev S2048 : Shape := ⟨1, ![2048]⟩
abbrev S256x2048 : Shape := ⟨2, ![256, 2048]⟩
abbrev S1x2048 : Shape := ⟨2, ![1, 2048]⟩
abbrev S4096x2048 : Shape := ⟨2, ![4096, 2048]⟩
abbrev S256x256 : Shape := ⟨2, ![256, 256]⟩

abbrev nBuf : Space → Nat
  | .hbm => 9
  | .vmem => 10
  | .smem => 0
  | _ => 0

abbrev bufTy : (tb : Table) → Fin (tcTables nBuf tb) → BufTy
  | .hbm, ⟨0, _⟩ => ⟨S4096x256, .f32⟩
  | .hbm, ⟨1, _⟩ => ⟨S2048, .f32⟩
  | .hbm, ⟨2, _⟩ => ⟨S256x2048, .f32⟩
  | .hbm, ⟨3, _⟩ => ⟨S2048, .f32⟩
  | .hbm, ⟨4, _⟩ => ⟨S256x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .f32⟩
  | .local _ .vmem, ⟨0, _⟩ => ⟨S256x256, .f32⟩
  | .local _ .vmem, ⟨1, _⟩ => ⟨S256x256, .f32⟩
  | .local _ .vmem, ⟨2, _⟩ => ⟨S1x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LoraRefIdeal.lean ====
abbrev S4096x256 : Shape := ⟨2, ![4096, 256]⟩
abbrev S2048 : Shape := ⟨1, ![2048]⟩
abbrev S256x2048 : Shape := ⟨2, ![256, 2048]⟩
abbrev S1x4096x256 : Shape := ⟨3, ![1, 4096, 256]⟩
abbrev S1x4096x2048 : Shape := ⟨3, ![1, 4096, 2048]⟩
abbrev S1x1x2048 : Shape := ⟨3, ![1, 1, 2048]⟩
abbrev S_ : Shape := ⟨0, ![]⟩
abbrev S4096x2048 : Shape := ⟨2, ![4096, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S2048, .f32⟩
  | .hbm, ⟨2, _⟩ => ⟨S256x2048, .f32⟩
  | .hbm, ⟨3, _⟩ => ⟨S2048, .f32⟩
  | .hbm, ⟨4, _⟩ => ⟨S256x2048, .f32⟩
  | .hbm, ⟨5, _⟩ => ⟨S1x4096x256, .f32⟩
  | .hbm, ⟨6, _⟩ => ⟨S1x4096x256, .f32⟩
  | .hbm, ⟨7, _⟩ => ⟨S1x4096x2048, .f32⟩
  | .hbm, ⟨8, _⟩ => ⟨S1x1x2048, .f32⟩
  | .hbm, ⟨9, _⟩ => ⟨S1x4096x2048, .f32⟩
  | .hbm, ⟨10, _⟩ => ⟨S1x4096x2048, .f32⟩
  | .hbm, ⟨11, _⟩ => ⟨S1x4096x2048, .f32⟩
  | .hbm, ⟨12, _⟩ => ⟨S1x4096x2048, .f32⟩
  | .hbm, ⟨13, _⟩ => ⟨S_, .f32⟩
  | .hbm, ⟨14, _⟩ => ⟨S1x4096x2048, .f32⟩
  | .hbm, ⟨15, _⟩ => ⟨S1x4096x2048, .f32⟩
  | .hbm, ⟨16, _⟩ => ⟨S_, .f32⟩
  | .hbm, ⟨17, _⟩ => ⟨S1x4096x2048, .f32⟩
  | .hbm, ⟨18, _⟩ => ⟨S1x4096x2048, .f32⟩
  | .hbm, ⟨19, _⟩ => ⟨S_, .f32⟩
  | .hbm, ⟨20, _⟩ => ⟨S1x4096x2048, .f32⟩
  | .hbm, ⟨21, _⟩ => ⟨S1x4096x2048, .f32⟩
  | .hbm, ⟨22, _⟩ => ⟨S1x4096x2048, .f32⟩
  | .hbm, ⟨23, _⟩ => ⟨S1x1x2048, .f32⟩
  | .hbm, ⟨24, _⟩ => ⟨S1x4096x2048, .f32⟩
  | .hbm, ⟨25, _⟩ => ⟨S1x4096x2048, .f32⟩
  | .hbm, ⟨26, _⟩ => ⟨S1x4096x2048, .f32⟩
  | .hbm, ⟨27, _⟩ => ⟨S1x4096x2048, .f32⟩
  | .hbm, ⟨28, _⟩ => ⟨S_, .f32⟩
  | .hbm, ⟨29, _⟩ => ⟨S1x4096x2048, .f32⟩
  | .hbm, ⟨30, _⟩ => ⟨S1x4096x2048, .f32⟩
  | .hbm, ⟨31, _⟩ => ⟨S_, .f32⟩
  | .hbm, ⟨32, _⟩ => ⟨S1x4096x2048, .f32⟩
  | .hbm, ⟨33, _⟩ => ⟨S1x4096x2048, .f32⟩
  | .hbm, ⟨34, _⟩ => ⟨S4096x2048, .f32⟩
  | .hbm, ⟨35, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== RwInlDw.lean ====
abbrev S4096x2048 : Shape := ⟨2, ![4096, 2048]⟩
abbrev S4096x256 : Shape := ⟨2, ![4096, 256]⟩
abbrev S2048x256 : Shape := ⟨2, ![2048, 256]⟩
abbrev S4096x1024 : Shape := ⟨2, ![4096, 1024]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x256, .bf16⟩
  | .hbm, ⟨2, _⟩ => ⟨S2048x256, .bf16⟩
  | .local _ .vmem, ⟨0, _⟩ => ⟨S4096x1024, .bf16⟩
  | .local _ .vmem, ⟨1, _⟩ => ⟨S4096x1024, .bf16⟩
  | .local _ .vmem, ⟨2, _⟩ => ⟨S4096x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RwInlDwRefIdeal.lean ====
abbrev S4096x2048 : Shape := ⟨2, ![4096, 2048]⟩
abbrev S4096x256 : Shape := ⟨2, ![4096, 256]⟩
abbrev S_ : Shape := ⟨0, ![]⟩
abbrev S2048x256 : Shape := ⟨2, ![2048, 256]⟩
abbrev S1x4096x2048 : Shape := ⟨3, ![1, 4096, 2048]⟩
abbrev S1x4096x256 : Shape := ⟨3, ![1, 4096, 256]⟩
abbrev S256x2048 : Shape := ⟨2, ![256, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x256, .bf16⟩
  | .hbm, ⟨2, _⟩ => ⟨S_, .f32⟩
  | .hbm, ⟨3, _⟩ => ⟨S2048x256, .f32⟩
  | .hbm, ⟨4, _⟩ => ⟨S4096x2048, .f32⟩
  | .hbm, ⟨5, _⟩ => ⟨S1x4096x2048, .f32⟩
  | .hbm, ⟨6, _⟩ => ⟨S1x4096x256, .f32⟩
  | .hbm, ⟨7, _⟩ => ⟨S4096x256, .f32⟩
  | .hbm, ⟨8, _⟩ => ⟨S1x4096x256, .f32⟩
  | .hbm, ⟨9, _⟩ => ⟨S256x2048, .f32⟩
  | .hbm, ⟨10, _⟩ => ⟨S2048x256, .f32⟩
  | .hbm, ⟨11, _⟩ => ⟨S2048x256, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== RwInlDx.lean ====
abbrev S4096x256 : Shape := ⟨2, ![4096, 256]⟩
abbrev S2048x256 : Shape := ⟨2, ![2048, 256]⟩
abbrev S4096x2048 : Shape := ⟨2, ![4096, 2048]⟩
abbrev S1024x256 : Shape := ⟨2, ![1024, 256]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S2048x256, .f32⟩
  | .hbm, ⟨2, _⟩ => ⟨S2048x256, .bf16⟩
  | .hbm, ⟨3, _⟩ => ⟨S4096x2048, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RwInlDxRefIdeal.lean ====
abbrev S4096x256 : Shape := ⟨2, ![4096, 256]⟩
abbrev S2048x256 : Shape := ⟨2, ![2048, 256]⟩
abbrev S_ : Shape := ⟨0, ![]⟩
abbrev S1x4096x2048 : Shape := ⟨3, ![1, 4096, 2048]⟩
abbrev S1x4096x256 : Shape := ⟨3, ![1, 4096, 256]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S2048x256, .f32⟩
  | .hbm, ⟨2, _⟩ => ⟨S_, .f32⟩
  | .hbm, ⟨3, _⟩ => ⟨S1x4096x2048, .f32⟩
  | .hbm, ⟨4, _⟩ => ⟨S1x4096x256, .f32⟩
  | .hbm, ⟨5, _⟩ => ⟨S4096x256, .f32⟩
  | .hbm, ⟨6, _⟩ => ⟨S1x4096x256, .f32⟩
  | .hbm, ⟨7, _⟩ => ⟨S1x4096x2048, .f32⟩
  | .hbm, ⟨8, _⟩ => ⟨S4096x2048, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== RwInl.lean ====
abbrev S4096x2048 : Shape := ⟨2, ![4096, 2048]⟩
abbrev S2048x256 : Shape := ⟨2, ![2048, 256]⟩
abbrev S4096x256 : Shape := ⟨2, ![4096, 256]⟩
abbrev S1024x2048 : Shape := ⟨2, ![1024, 2048]⟩
abbrev S1024x256 : Shape := ⟨2, ![1024, 256]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x256, .f32⟩
  | .hbm, ⟨2, _⟩ => ⟨S2048x256, .bf16⟩
  | .hbm, ⟨3, _⟩ => ⟨S4096x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RwInlRefIdeal.lean ====
abbrev S4096x2048 : Shape := ⟨2, ![4096, 2048]⟩
abbrev S2048x256 : Shape := ⟨2, ![2048, 256]⟩
abbrev S1x4096x2048 : Shape := ⟨3, ![1, 4096, 2048]⟩
abbrev S1x4096x256 : Shape := ⟨3, ![1, 4096, 256]⟩
abbrev S4096x256 : Shape := ⟨2, ![4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x256, .f32⟩
  | .hbm, ⟨2, _⟩ => ⟨S4096x2048, .f32⟩
  | .hbm, ⟨3, _⟩ => ⟨S1x4096x2048, .f32⟩
  | .hbm, ⟨4, _⟩ => ⟨S1x4096x256, .f32⟩
  | .hbm, ⟨5, _⟩ => ⟨S4096x256, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Products.lean ====
module

public import Idealize.ShloMosaic.Lib.Pipeline.ValueKit

/-!
  Products of matrices over the extended reals, in the three forms that a projection and its two gradients take.
-/

@[expose] public section

noncomputable section

namespace Products

open Idealize.ShloMosaic

/-- A matrix of extended reals. -/
abbrev Mat (m n : ℕ) : Type := (⟨2, ![m, n]⟩ : Shape).Idx → EReal

/-- `a b`: what a projection computes. -/
def nn {m k n : ℕ} (a : Mat m k) (b : Mat k n) : Mat m n := fun i => ∑ q : Fin k, a (ix2 (i 0) q) * b (ix2 q (i 1))

/-- `a bᵀ`: the gradient of a projection's input. -/
def nt {m k n : ℕ} (a : Mat m k) (b : Mat n k) : Mat m n := fun i => ∑ q : Fin k, a (ix2 (i 0) q) * b (ix2 (i 1) q)

/-- `aᵀ b`: the gradient of a projection's weights. -/
def tn {m k n : ℕ} (a : Mat k m) (b : Mat k n) : Mat m n := fun i => ∑ q : Fin k, a (ix2 q (i 0)) * b (ix2 q (i 1))

/-- The sum of two matrices. -/
def plus {m n : ℕ} (a b : Mat m n) : Mat m n := fun i => a i + b i

/-- A residual sum: `y`'s columns scaled by a gate, added to `x`. -/
def gated {m n : ℕ} (x : Mat m n) (g : (⟨1, ![n]⟩ : Shape).Idx → EReal) (y : Mat m n) : Mat m n := fun i => x i + g (ix1 (i 1)) * y i

theorem nn_apply {m k n : ℕ} (a : Mat m k) (b : Mat k n) (i : Fin m) (j : Fin n) :
    nn a b (ix2 i j) = ∑ q : Fin k, a (ix2 i q) * b (ix2 q j) := rfl

theorem nt_apply {m k n : ℕ} (a : Mat m k) (b : Mat n k) (i : Fin m) (j : Fin n) :
    nt a b (ix2 i j) = ∑ q : Fin k, a (ix2 i q) * b (ix2 j q) := rfl

theorem tn_apply {m k n : ℕ} (a : Mat k m) (b : Mat k n) (i : Fin m) (j : Fin n) :
    tn a b (ix2 i j) = ∑ q : Fin k, a (ix2 q i) * b (ix2 q j) := rfl

/-- An index is the pair of its coordinates. -/
theorem exists_ix2 {m n : ℕ} (x : (⟨2, ![m, n]⟩ : Shape).Idx) : ∃ (i : Fin m) (j : Fin n), x = ix2 i j :=
  ⟨x 0, x 1, funext fun d => match d with
    | ⟨0, _⟩ => rfl
    | ⟨1, _⟩ => rfl⟩

/-- Two matrices with the same entries are equal. -/
theorem mat_ext {m n : ℕ} {a b : Mat m n} (h : ∀ (i : Fin m) (j : Fin n), a (ix2 i j) = b (ix2 i j)) : a = b :=
  funext fun x => by
    obtain ⟨i, j, rfl⟩ := exists_ix2 x
    exact h i j

/-- Sums of products agree when their factors do. -/
theorem sum_mul_congr {k : ℕ} {a a' b b' : Fin k → EReal} (ha : ∀ q, a q = a' q) (hb : ∀ q, b q = b' q) :
    ∑ q, a q * b q = ∑ q, a' q * b' q :=
  Finset.sum_congr rfl fun q _ => congrArg₂ (· * ·) (ha q) (hb q)

/-- The factors of each product in a sum exchanged. -/
theorem sum_mul_comm {k : ℕ} (a b : Fin k → EReal) : ∑ q, a q * b q = ∑ q, b q * a q :=
  Finset.sum_congr rfl fun q _ => mul_comm (a q) (b q)

/-- Four parts, and what was there before them taken in after the first. -/
theorem regroup (d p q r s : EReal) : p + d + q + r + s = d + (p + q + r + s) := by
  rw [add_comm p d, add_assoc d p q, add_assoc d, add_assoc d]

/-- A sum over `a b` places, block by block. -/
theorem sum_blocks {n : ℕ} (a b : ℕ) (h : a * b = n) (f : Fin n → EReal) :
    ∑ q, f q = ∑ s : Fin a, ∑ q : Fin b, f ⟨b * s.val + q.val, by
      have h1 := s.isLt
      have h2 := q.isLt
      calc b * s.val + q.val < b * s.val + b := by omega
        _ = (s.val + 1) * b := by ring
        _ ≤ a * b := Nat.mul_le_mul_right _ h1
        _ = n := h⟩ := by
  subst h
  refine (Fintype.sum_equiv finProdFinEquiv (fun p : Fin a × Fin b => f (finProdFinEquiv p)) f fun _ => rfl).symm.trans ?_
  refine (Fintype.sum_prod_type _).trans ?_
  exact Finset.sum_congr rfl fun s _ => Finset.sum_congr rfl fun q _ => congrArg f (Fin.ext (Nat.add_comm q.val (b * s.val)))

end Products

end
-- ==== Proof.OutDwValue.lean ====
module

public import proofs.«01_k».proof.Proof.Gen.OutDwIdeal.Value
public import proofs.«01_k».proof.Proof.Products

/-!
  The gradient of an output projection's weights: the array that the call leaves.
-/

@[expose] public section

set_option maxRecDepth 16384

noncomputable section

namespace Cert.OutDwIdeal.Value

open Cert.OutDwIdeal Cert.OutDwIdeal.Gen Idealize.ShloMosaic Idealize.ShloMosaic.TcCoe Idealize.SL.Sem StableHlo

variable (m : (ℓ : Loc nD τ sig) → Buf (Elt Ideal) ℓ) (ρ : Dev nD → PrngReg) (c : Dev nD)

/-- The product of the first argument, transposed, and the second. -/
def outArr : FVec Ideal S2048x2048 .bf16 :=
  Products.tn (m := 2048) (k := 4096) (n := 2048) (m (c.tc.loc main_arg0)) (m (c.tc.loc main_arg1))

theorem index0 : ∀ t : Fin cfg0.N, win0_0.index t = ![0, win0_2.index t 0] := by decide +kernel
theorem index1 : ∀ t : Fin cfg0.N, win0_1.index t = ![0, win0_2.index t 1] := by decide +kernel

theorem final_out : (dats m 0 c).arrAt 2 cfg0.N = outArr m c := by
  refine (dats m 0 c).arrAt_eq_of_covers 2 (outArr m c) (by decide +kernel) fun t hf y => ?_
  blk_simp
  rw [after0_2]
  unfold outsAt0
  frame_out
  pointwise [k0_pay1]
  unfold outArr Products.tn
  refine Products.sum_mul_congr (fun k => ?_) (fun k => ?_)
  · blk_ext [iblk, V, index0 t]
  · blk_ext [iblk, V, index1 t]

theorem kernel_run : θ_run defs (onTc (τ := τ) (main (F := Ideal))) ⟨m, fun _ => 0, ρ⟩ fun r => ∀ c : Dev nD,
      r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_out m c), (h c).2⟩) (run_blocks m ρ)

end Cert.OutDwIdeal.Value

end
-- ==== Proof.OutDwClaim.lean ====
module

public import proofs.«01_k».proof.Defs
public import proofs.«01_k».proof.Proof.Gen.OutDw.Frame
public import proofs.«01_k».proof.Proof.Gen.OutDwRefIdeal.Run
public import proofs.«01_k».proof.Proof.OutDwValue
public import Idealize.ShloMosaic.Adequacy
public import Idealize.ShloMosaic.Init

/-!
  The gradient of an output projection's weights: what the reference computes, and the claims.
-/

@[expose] public section

set_option maxRecDepth 16384

noncomputable section

namespace Cert.OutDwRefIdeal.Value

open Cert.OutDwRefIdeal Cert.OutDwRefIdeal.Gen Idealize.ShloMosaic Idealize.ShloMosaic.TcCoe Idealize.SL.Sem StableHlo

/-- The reference's result is the product of the first argument, transposed, and the second. -/
theorem result_eq (A B : FVec Ideal S4096x2048 .bf16) :
    truncf .bf16 (transpose S2048x2048 [1, 0] (Host.dotGeneral dot_S1x4096x2048_S1x4096x2048_S2048x2048_01_01_2_2_n_n none (broadcastInDim S1x4096x2048 ![1, 2] bcast_S4096x2048_S1x4096x2048_1_2 (extf .f32 B bitsLt_bf16_f32)) (broadcastInDim S1x4096x2048 ![1, 2] bcast_S4096x2048_S1x4096x2048_1_2 (extf .f32 A bitsLt_bf16_f32))) transposes_S2048x2048_S2048x2048_1_0) bitsLt_bf16_f32
      = Products.tn (m := 2048) (k := 4096) (n := 2048) A B := by
  refine Products.mat_ext fun i j => ?_
  pointwise
  simp only [Finset.univ_unique, Finset.sum_singleton]
  exact Products.sum_mul_comm _ _

end Cert.OutDwRefIdeal.Value

namespace Cert.Proof

open Idealize.ShloMosaic Idealize.SL.Sem

theorem out_dw_frame : Cert.quiescent_OutDw (hOutDw := Cert.OutDw.Gen.facts) := fun m ρ _ => Cert.OutDw.Gen.frame m ρ

theorem out_dw_frame_ideal : Cert.quiescent_OutDwIdeal (hOutDwIdeal := Cert.OutDwIdeal.Gen.facts) :=
  fun m ρ _ => Cert.OutDwIdeal.Gen.frame m ρ

theorem out_dw_frame_ref : Cert.quiescent_OutDwRefIdeal (hOutDwRefIdeal := Cert.OutDwRefIdeal.Gen.facts) := fun m ρ _ =>
  (θ_run Cert.OutDwRefIdeal.defs _ _).mono (fun r h => ⟨fun c => (h c).2,
      Idealize.ShloMosaic.sem_eq_zero_of_no_sems (by decide) r.2⟩)
    (Cert.OutDwRefIdeal.Value.run (F := Ideal) m ρ)

theorem out_dw_algebraic : Cert.algebraic_OutDwIdeal_OutDwRefIdeal (hOutDwIdeal := Cert.OutDwIdeal.Gen.facts)
    (hOutDwRefIdeal := Cert.OutDwRefIdeal.Gen.facts) := fun m ρ m' ρ' _ hagree =>
  ⟨fun c => Cert.OutDwIdeal.Value.outArr m c, Cert.OutDwIdeal.Value.kernel_run m ρ,
    (θ_run Cert.OutDwRefIdeal.defs _ _).mono (fun r h c => by
      obtain ⟨h0, hargs⟩ := h c
      refine ⟨h0.trans ?_, hargs⟩
      rw [(hagree c).1, (hagree c).2]
      exact Cert.OutDwRefIdeal.Value.result_eq _ _)
      (Cert.OutDwRefIdeal.Value.run (F := Ideal) m' ρ')⟩

end Cert.Proof

end
-- ==== Proof.OutDxValue.lean ====
module

public import proofs.«01_k».proof.Proof.Gen.OutDxIdeal.Value
public import proofs.«01_k».proof.Proof.Products

/-!
  The gradient of an output projection's input: the array that the call leaves.
-/

@[expose] public section

set_option maxRecDepth 16384

noncomputable section

namespace Cert.OutDxIdeal.Value

open Cert.OutDxIdeal Cert.OutDxIdeal.Gen Idealize.ShloMosaic Idealize.ShloMosaic.TcCoe Idealize.SL.Sem StableHlo

variable (m : (ℓ : Loc nD τ sig) → Buf (Elt Ideal) ℓ) (ρ : Dev nD → PrngReg) (c : Dev nD)

/-- The product of the first argument and the second, transposed. -/
def outArr : FVec Ideal S4096x2048 .f32 :=
  Products.nt (m := 4096) (k := 2048) (n := 2048) (m (c.tc.loc main_arg0)) (m (c.tc.loc main_arg1))

theorem V_weights : V m c main_v0 = (m (c.tc.loc main_arg1) : S2048x2048.Idx → EReal) := by
  show StableHlo.after hostOps0 _ _ = _
  simp only [hostOps0]
  after_results_simp
  rfl

theorem index0 : ∀ t : Fin cfg0.N, win0_0.index t = ![win0_2.index t 0, 0] := by decide +kernel
theorem index1 : ∀ t : Fin cfg0.N, win0_1.index t = ![win0_2.index t 1, 0] := by decide +kernel

theorem final_out : (dats m 0 c).arrAt 2 cfg0.N = outArr m c := by
  refine (dats m 0 c).arrAt_eq_of_covers 2 (outArr m c) (by decide +kernel) fun t hf y => ?_
  blk_simp
  rw [after0_2]
  unfold outsAt0
  frame_out
  pointwise [k0_pay1]
  unfold outArr Products.nt
  refine Products.sum_mul_congr (fun k => ?_) (fun k => ?_)
  · blk_ext [iblk, V_main_arg0, index0 t]
  · blk_ext [iblk, V_weights, index1 t]

theorem kernel_run : θ_run defs (onTc (τ := τ) (main (F := Ideal))) ⟨m, fun _ => 0, ρ⟩ fun r => ∀ c : Dev nD,
      r.2.mem ((c.tc : Thread nD τ).loc main_v1) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_out m c), (h c).2⟩) (run_blocks m ρ)

end Cert.OutDxIdeal.Value

end
-- ==== Proof.OutDxClaim.lean ====
module

public import proofs.«01_k».proof.Defs
public import proofs.«01_k».proof.Proof.Gen.OutDx.Frame
public import proofs.«01_k».proof.Proof.Gen.OutDxRefIdeal.Run
public import proofs.«01_k».proof.Proof.OutDxValue
public import Idealize.ShloMosaic.Adequacy
public import Idealize.ShloMosaic.Init

/-!
  The gradient of an output projection's input: what the reference computes, and the claims.
-/

@[expose] public section

set_option maxRecDepth 16384

noncomputable section

namespace Cert.OutDxRefIdeal.Value

open Cert.OutDxRefIdeal Cert.OutDxRefIdeal.Gen Idealize.ShloMosaic Idealize.ShloMosaic.TcCoe Idealize.SL.Sem StableHlo

/-- The reference's result is the product of the first argument and the second, transposed. -/
theorem result_eq (A : FVec Ideal S4096x2048 .bf16) (B : FVec Ideal S2048x2048 .f32) :
    shapeCast S4096x2048 (Host.dotGeneral dot_S1x4096x2048_S2048x2048_S1x4096x2048_2_1_01_0_n_n none (broadcastInDim S1x4096x2048 ![1, 2] bcast_S4096x2048_S1x4096x2048_1_2 (extf .f32 A bitsLt_bf16_f32)) B) shapeCasts_S1x4096x2048_S4096x2048
      = Products.nt (m := 4096) (k := 2048) (n := 2048) A B := by
  refine Products.mat_ext fun i j => ?_
  pointwise
  rfl

end Cert.OutDxRefIdeal.Value

namespace Cert.Proof

open Idealize.ShloMosaic Idealize.SL.Sem

theorem out_dx_frame : Cert.quiescent_OutDx (hOutDx := Cert.OutDx.Gen.facts) := fun m ρ _ => Cert.OutDx.Gen.frame m ρ

theorem out_dx_frame_ideal : Cert.quiescent_OutDxIdeal (hOutDxIdeal := Cert.OutDxIdeal.Gen.facts) :=
  fun m ρ _ => Cert.OutDxIdeal.Gen.frame m ρ

theorem out_dx_frame_ref : Cert.quiescent_OutDxRefIdeal (hOutDxRefIdeal := Cert.OutDxRefIdeal.Gen.facts) := fun m ρ _ =>
  (θ_run Cert.OutDxRefIdeal.defs _ _).mono (fun r h => ⟨fun c => (h c).2,
      Idealize.ShloMosaic.sem_eq_zero_of_no_sems (by decide) r.2⟩)
    (Cert.OutDxRefIdeal.Value.run (F := Ideal) m ρ)

theorem out_dx_algebraic : Cert.algebraic_OutDxIdeal_OutDxRefIdeal (hOutDxIdeal := Cert.OutDxIdeal.Gen.facts)
    (hOutDxRefIdeal := Cert.OutDxRefIdeal.Gen.facts) := fun m ρ m' ρ' _ hagree =>
  ⟨fun c => Cert.OutDxIdeal.Value.outArr m c, Cert.OutDxIdeal.Value.kernel_run m ρ,
    (θ_run Cert.OutDxRefIdeal.defs _ _).mono (fun r h c => by
      obtain ⟨h0, hargs⟩ := h c
      refine ⟨h0.trans ?_, hargs⟩
      rw [(hagree c).1, (hagree c).2]
      exact Cert.OutDxRefIdeal.Value.result_eq _ _)
      (Cert.OutDxRefIdeal.Value.run (F := Ideal) m' ρ')⟩

end Cert.Proof

end
-- ==== Proof.SgInDwValue.lean ====
module

public import proofs.«01_k».proof.Proof.Gen.SgInDwIdeal.Value
public import proofs.«01_k».proof.Proof.Products

/-!
  The gradient of the gating's input projection's weights: the array that the call leaves.
-/

@[expose] public section

set_option maxRecDepth 16384

noncomputable section

namespace Cert.SgInDwIdeal.Value

open Cert.SgInDwIdeal Cert.SgInDwIdeal.Gen Idealize.ShloMosaic Idealize.ShloMosaic.TcCoe Idealize.SL.Sem StableHlo

variable (m : (ℓ : Loc nD τ sig) → Buf (Elt Ideal) ℓ) (ρ : Dev nD → PrngReg) (c : Dev nD)

/-- The product of the first argument, transposed, and the second. -/
def outArr : FVec Ideal S2048x6144 .bf16 :=
  Products.tn (m := 2048) (k := 4096) (n := 6144) (m (c.tc.loc main_arg0)) (m (c.tc.loc main_arg1))

theorem index0 : ∀ t : Fin cfg0.N, win0_0.index t = ![0, win0_2.index t 0] := by decide +kernel
theorem index1 : ∀ t : Fin cfg0.N, win0_1.index t = ![0, win0_2.index t 1] := by decide +kernel

theorem final_out : (dats m 0 c).arrAt 2 cfg0.N = outArr m c := by
  refine (dats m 0 c).arrAt_eq_of_covers 2 (outArr m c) (by decide +kernel) fun t hf y => ?_
  blk_simp
  rw [after0_2]
  unfold outsAt0
  frame_out
  pointwise [k0_pay1]
  unfold outArr Products.tn
  refine Products.sum_mul_congr (fun k => ?_) (fun k => ?_)
  · blk_ext [iblk, V, index0 t]
  · blk_ext [iblk, V, index1 t]

theorem kernel_run : θ_run defs (onTc (τ := τ) (main (F := Ideal))) ⟨m, fun _ => 0, ρ⟩ fun r => ∀ c : Dev nD,
      r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_out m c), (h c).2⟩) (run_blocks m ρ)

end Cert.SgInDwIdeal.Value

end
-- ==== Proof.SgInDwClaim.lean ====
module

public import proofs.«01_k».proof.Defs
public import proofs.«01_k».proof.Proof.Gen.SgInDw.Frame
public import proofs.«01_k».proof.Proof.Gen.SgInDwRefIdeal.Run
public import proofs.«01_k».proof.Proof.SgInDwValue
public import Idealize.ShloMosaic.Adequacy
public import Idealize.ShloMosaic.Init

/-!
  The gradient of the gating's input projection's weights: what the reference computes, and the claims.
-/

@[expose] public section

set_option maxRecDepth 16384

noncomputable section

namespace Cert.SgInDwRefIdeal.Value

open Cert.SgInDwRefIdeal Cert.SgInDwRefIdeal.Gen Idealize.ShloMosaic Idealize.ShloMosaic.TcCoe Idealize.SL.Sem StableHlo

/-- The reference's result is the product of the first argument, transposed, and the second. -/
theorem result_eq (A : FVec Ideal S4096x2048 .bf16) (B : FVec Ideal S4096x6144 .bf16) :
    truncf .bf16 (transpose S2048x6144 [1, 0] (Host.dotGeneral dot_S1x4096x6144_S1x4096x2048_S6144x2048_01_01_2_2_n_n none (broadcastInDim S1x4096x6144 ![1, 2] bcast_S4096x6144_S1x4096x6144_1_2 (extf .f32 B bitsLt_bf16_f32)) (broadcastInDim S1x4096x2048 ![1, 2] bcast_S4096x2048_S1x4096x2048_1_2 (extf .f32 A bitsLt_bf16_f32))) transposes_S6144x2048_S2048x6144_1_0) bitsLt_bf16_f32
      = Products.tn (m := 2048) (k := 4096) (n := 6144) A B := by
  refine Products.mat_ext fun i j => ?_
  pointwise
  simp only [Finset.univ_unique, Finset.sum_singleton]
  exact Products.sum_mul_comm _ _

end Cert.SgInDwRefIdeal.Value

namespace Cert.Proof

open Idealize.ShloMosaic Idealize.SL.Sem

theorem sg_in_dw_frame : Cert.quiescent_SgInDw (hSgInDw := Cert.SgInDw.Gen.facts) := fun m ρ _ => Cert.SgInDw.Gen.frame m ρ

theorem sg_in_dw_frame_ideal : Cert.quiescent_SgInDwIdeal (hSgInDwIdeal := Cert.SgInDwIdeal.Gen.facts) :=
  fun m ρ _ => Cert.SgInDwIdeal.Gen.frame m ρ

theorem sg_in_dw_frame_ref : Cert.quiescent_SgInDwRefIdeal (hSgInDwRefIdeal := Cert.SgInDwRefIdeal.Gen.facts) := fun m ρ _ =>
  (θ_run Cert.SgInDwRefIdeal.defs _ _).mono (fun r h => ⟨fun c => (h c).2,
      Idealize.ShloMosaic.sem_eq_zero_of_no_sems (by decide) r.2⟩)
    (Cert.SgInDwRefIdeal.Value.run (F := Ideal) m ρ)

theorem sg_in_dw_algebraic : Cert.algebraic_SgInDwIdeal_SgInDwRefIdeal (hSgInDwIdeal := Cert.SgInDwIdeal.Gen.facts)
    (hSgInDwRefIdeal := Cert.SgInDwRefIdeal.Gen.facts) := fun m ρ m' ρ' _ hagree =>
  ⟨fun c => Cert.SgInDwIdeal.Value.outArr m c, Cert.SgInDwIdeal.Value.kernel_run m ρ,
    (θ_run Cert.SgInDwRefIdeal.defs _ _).mono (fun r h c => by
      obtain ⟨h0, hargs⟩ := h c
      refine ⟨h0.trans ?_, hargs⟩
      rw [(hagree c).1, (hagree c).2]
      exact Cert.SgInDwRefIdeal.Value.result_eq _ _)
      (Cert.SgInDwRefIdeal.Value.run (F := Ideal) m' ρ')⟩

end Cert.Proof

end
-- ==== Proof.SgInDxValue.lean ====
module

public import proofs.«01_k».proof.Proof.Gen.SgInDxIdeal.Value
public import proofs.«01_k».proof.Proof.Products

/-!
  The gradient of the gating's input projection's input: the array that the call leaves.
-/

@[expose] public section

set_option maxRecDepth 16384

noncomputable section

namespace Cert.SgInDxIdeal.Value

open Cert.SgInDxIdeal Cert.SgInDxIdeal.Gen Idealize.ShloMosaic Idealize.ShloMosaic.TcCoe Idealize.SL.Sem StableHlo

variable (m : (ℓ : Loc nD τ sig) → Buf (Elt Ideal) ℓ) (ρ : Dev nD → PrngReg) (c : Dev nD)

/-- The product of the first argument and the second, transposed. -/
def outArr : FVec Ideal S4096x2048 .f32 :=
  Products.nt (m := 4096) (k := 6144) (n := 2048) (m (c.tc.loc main_arg0)) (m (c.tc.loc main_arg1))

theorem V_weights : V m c main_v0 = (m (c.tc.loc main_arg1) : S2048x6144.Idx → EReal) := by
  show StableHlo.after hostOps0 _ _ = _
  simp only [hostOps0]
  after_results_simp
  rfl

theorem index0 : ∀ t : Fin cfg0.N, win0_0.index t = ![t.val / 4, t.val % 2] := by decide +kernel
theorem index1 : ∀ t : Fin cfg0.N, win0_1.index t = ![t.val / 2 % 2, t.val % 2] := by decide +kernel
theorem index2 : ∀ t : Fin cfg0.N, win0_2.index t = ![t.val / 4, t.val / 2 % 2] := by decide +kernel

/-- What grid point `t` adds: the product over its 3072 columns. -/
def part (t : Fin cfg0.N) (i j : Fin 1024) : EReal :=
  Products.nt (m := 1024) (k := 3072) (n := 1024) (iblk m c 0 t) (iblk m c 1 t) (ix2 i j)

/-- A block's first grid point leaves its part in the accumulator. -/
theorem first (t : Fin cfg0.N) (h : t.val % 2 = 0) (i j : Fin 1024) :
    (outsAt0 m c t.val t.isLt).2 (ix2 i j) = part m c t i j := by
  rw [outsAt0_A m c t h (by omega) (by omega)]
  dsimp only
  frame_out
  pointwise [k0_pay2, k0_pay1]
  rfl

/-- Its second leaves the sum of both in the result's block. -/
theorem last (t : Fin cfg0.N) (h : t.val % 2 = 1) (i j : Fin 1024) :
    (outsAt0 m c t.val t.isLt).1 (ix2 i j)
      = (outsAt0 m c (t.val - 1) (Nat.lt_of_le_of_lt (Nat.sub_le _ _) t.isLt)).2 (ix2 i j) + part m c t i j := by
  rw [outsAt0_B m c t (by omega) h h]
  dsimp only
  frame_out
  pointwise [k0_pay3, k0_pay1]
  exact congrArg₂ (fun a b : EReal => a + b) (congrFun (Memref.IsWhole.read_unread _ _) _) rfl

theorem final_out : (dats m 0 c).arrAt 2 cfg0.N = outArr m c := by
  refine (dats m 0 c).arrAt_eq_of_covers 2 (outArr m c) (by decide +kernel) fun t hf y => ?_
  have ht : t.val % 2 = 1 := (flush0_2 t).mp hf
  blk_simp
  rw [after0_2]
  obtain ⟨i, j, rfl⟩ := Products.exists_ix2 (m := 1024) (n := 1024) y
  refine (last m c t ht i j).trans ?_
  rw [first m c ⟨t.val - 1, Nat.lt_of_le_of_lt (Nat.sub_le _ _) t.isLt⟩ (by show (t.val - 1) % 2 = 0; omega)]
  unfold outArr part Products.nt
  rw [Products.sum_blocks 2 3072 rfl, Fin.sum_univ_two]
  refine congrArg₂ (fun a b : EReal => a + b) (Products.sum_mul_congr (fun k => ?_) fun k => ?_)
    (Products.sum_mul_congr (fun k => ?_) fun k => ?_)
  · blk_ext [iblk, V_main_arg0, index0, index2 t]
  · blk_ext [iblk, V_weights, index1, index2 t]
  · blk_ext [iblk, V_main_arg0, index0, index2 t]
  · blk_ext [iblk, V_weights, index1, index2 t]

theorem kernel_run : θ_run defs (onTc (τ := τ) (main (F := Ideal))) ⟨m, fun _ => 0, ρ⟩ fun r => ∀ c : Dev nD,
      r.2.mem ((c.tc : Thread nD τ).loc main_v1) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_out m c), (h c).2⟩) (run_blocks m ρ)

end Cert.SgInDxIdeal.Value

end
-- ==== Proof.SgInDxClaim.lean ====
module

public import proofs.«01_k».proof.Defs
public import proofs.«01_k».proof.Proof.Gen.SgInDx.Frame
public import proofs.«01_k».proof.Proof.Gen.SgInDxRefIdeal.Run
public import proofs.«01_k».proof.Proof.SgInDxValue
public import Idealize.ShloMosaic.Adequacy
public import Idealize.ShloMosaic.Init

/-!
  The gradient of the gating's input projection's input: what the reference computes, and the claims.
-/

@[expose] public section

set_option maxRecDepth 16384

noncomputable section

namespace Cert.SgInDxRefIdeal.Value

open Cert.SgInDxRefIdeal Cert.SgInDxRefIdeal.Gen Idealize.ShloMosaic Idealize.ShloMosaic.TcCoe Idealize.SL.Sem StableHlo

/-- The reference's result is the product of the first argument and the second, transposed. -/
theorem result_eq (A : FVec Ideal S4096x6144 .bf16) (B : FVec Ideal S2048x6144 .f32) :
    shapeCast S4096x2048 (Host.dotGeneral dot_S1x4096x6144_S2048x6144_S1x4096x2048_2_1_01_0_n_n none (broadcastInDim S1x4096x6144 ![1, 2] bcast_S4096x6144_S1x4096x6144_1_2 (extf .f32 A bitsLt_bf16_f32)) B) shapeCasts_S1x4096x2048_S4096x2048
      = Products.nt (m := 4096) (k := 6144) (n := 2048) A B := by
  refine Products.mat_ext fun i j => ?_
  pointwise
  rfl

end Cert.SgInDxRefIdeal.Value

namespace Cert.Proof

open Idealize.ShloMosaic Idealize.SL.Sem

theorem sg_in_dx_frame : Cert.quiescent_SgInDx (hSgInDx := Cert.SgInDx.Gen.facts) := fun m ρ _ => Cert.SgInDx.Gen.frame m ρ

theorem sg_in_dx_frame_ideal : Cert.quiescent_SgInDxIdeal (hSgInDxIdeal := Cert.SgInDxIdeal.Gen.facts) :=
  fun m ρ _ => Cert.SgInDxIdeal.Gen.frame m ρ

theorem sg_in_dx_frame_ref : Cert.quiescent_SgInDxRefIdeal (hSgInDxRefIdeal := Cert.SgInDxRefIdeal.Gen.facts) := fun m ρ _ =>
  (θ_run Cert.SgInDxRefIdeal.defs _ _).mono (fun r h => ⟨fun c => (h c).2,
      Idealize.ShloMosaic.sem_eq_zero_of_no_sems (by decide) r.2⟩)
    (Cert.SgInDxRefIdeal.Value.run (F := Ideal) m ρ)

theorem sg_in_dx_algebraic : Cert.algebraic_SgInDxIdeal_SgInDxRefIdeal (hSgInDxIdeal := Cert.SgInDxIdeal.Gen.facts)
    (hSgInDxRefIdeal := Cert.SgInDxRefIdeal.Gen.facts) := fun m ρ m' ρ' _ hagree =>
  ⟨fun c => Cert.SgInDxIdeal.Value.outArr m c, Cert.SgInDxIdeal.Value.kernel_run m ρ,
    (θ_run Cert.SgInDxRefIdeal.defs _ _).mono (fun r h c => by
      obtain ⟨h0, hargs⟩ := h c
      refine ⟨h0.trans ?_, hargs⟩
      rw [(hagree c).1, (hagree c).2]
      exact Cert.SgInDxRefIdeal.Value.result_eq _ _)
      (Cert.SgInDxRefIdeal.Value.run (F := Ideal) m' ρ')⟩

end Cert.Proof

end
-- ==== Proof.RwInDwValue.lean ====
module

public import proofs.«01_k».proof.Proof.Gen.RwInDwIdeal.Value
public import proofs.«01_k».proof.Proof.Products

/-!
  The gradient of the time mixing's input projection's weights: the array that the call leaves.
-/

@[expose] public section

set_option maxRecDepth 16384

noncomputable section

namespace Cert.RwInDwIdeal.Value

open Cert.RwInDwIdeal Cert.RwInDwIdeal.Gen Idealize.ShloMosaic Idealize.ShloMosaic.TcCoe Idealize.SL.Sem StableHlo

variable (m : (ℓ : Loc nD τ sig) → Buf (Elt Ideal) ℓ) (ρ : Dev nD → PrngReg) (c : Dev nD)

/-- The product of the first argument, transposed, and the second. -/
def outArr : FVec Ideal S2048x8192 .bf16 :=
  Products.tn (m := 2048) (k := 4096) (n := 8192) (m (c.tc.loc main_arg0)) (m (c.tc.loc main_arg1))

theorem index0 : ∀ t : Fin cfg0.N, win0_0.index t = ![0, win0_2.index t 0] := by decide +kernel
theorem index1 : ∀ t : Fin cfg0.N, win0_1.index t = ![0, win0_2.index t 1] := by decide +kernel

theorem final_out : (dats m 0 c).arrAt 2 cfg0.N = outArr m c := by
  refine (dats m 0 c).arrAt_eq_of_covers 2 (outArr m c) (by decide +kernel) fun t hf y => ?_
  blk_simp
  rw [after0_2]
  unfold outsAt0
  frame_out
  pointwise [k0_pay1]
  unfold outArr Products.tn
  refine Products.sum_mul_congr (fun k => ?_) (fun k => ?_)
  · blk_ext [iblk, V, index0 t]
  · blk_ext [iblk, V, index1 t]

theorem kernel_run : θ_run defs (onTc (τ := τ) (main (F := Ideal))) ⟨m, fun _ => 0, ρ⟩ fun r => ∀ c : Dev nD,
      r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_out m c), (h c).2⟩) (run_blocks m ρ)

end Cert.RwInDwIdeal.Value

end
-- ==== Proof.RwInDwClaim.lean ====
module

public import proofs.«01_k».proof.Defs
public import proofs.«01_k».proof.Proof.Gen.RwInDw.Frame
public import proofs.«01_k».proof.Proof.Gen.RwInDwRefIdeal.Run
public import proofs.«01_k».proof.Proof.RwInDwValue
public import Idealize.ShloMosaic.Adequacy
public import Idealize.ShloMosaic.Init

/-!
  The gradient of the time mixing's input projection's weights: what the reference computes, and the claims.
-/

@[expose] public section

set_option maxRecDepth 16384

noncomputable section

namespace Cert.RwInDwRefIdeal.Value

open Cert.RwInDwRefIdeal Cert.RwInDwRefIdeal.Gen Idealize.ShloMosaic Idealize.ShloMosaic.TcCoe Idealize.SL.Sem StableHlo

/-- The reference's result is the product of the first argument, transposed, and the second. -/
theorem result_eq (A : FVec Ideal S4096x2048 .bf16) (B : FVec Ideal S4096x8192 .bf16) :
    truncf .bf16 (transpose S2048x8192 [1, 0] (Host.dotGeneral dot_S1x4096x8192_S1x4096x2048_S8192x2048_01_01_2_2_n_n none (broadcastInDim S1x4096x8192 ![1, 2] bcast_S4096x8192_S1x4096x8192_1_2 (extf .f32 B bitsLt_bf16_f32)) (broadcastInDim S1x4096x2048 ![1, 2] bcast_S4096x2048_S1x4096x2048_1_2 (extf .f32 A bitsLt_bf16_f32))) transposes_S8192x2048_S2048x8192_1_0) bitsLt_bf16_f32
      = Products.tn (m := 2048) (k := 4096) (n := 8192) A B := by
  refine Products.mat_ext fun i j => ?_
  pointwise
  simp only [Finset.univ_unique, Finset.sum_singleton]
  exact Products.sum_mul_comm _ _

end Cert.RwInDwRefIdeal.Value

namespace Cert.Proof

open Idealize.ShloMosaic Idealize.SL.Sem

theorem rw_in_dw_frame : Cert.quiescent_RwInDw (hRwInDw := Cert.RwInDw.Gen.facts) := fun m ρ _ => Cert.RwInDw.Gen.frame m ρ

theorem rw_in_dw_frame_ideal : Cert.quiescent_RwInDwIdeal (hRwInDwIdeal := Cert.RwInDwIdeal.Gen.facts) :=
  fun m ρ _ => Cert.RwInDwIdeal.Gen.frame m ρ

theorem rw_in_dw_frame_ref : Cert.quiescent_RwInDwRefIdeal (hRwInDwRefIdeal := Cert.RwInDwRefIdeal.Gen.facts) := fun m ρ _ =>
  (θ_run Cert.RwInDwRefIdeal.defs _ _).mono (fun r h => ⟨fun c => (h c).2,
      Idealize.ShloMosaic.sem_eq_zero_of_no_sems (by decide) r.2⟩)
    (Cert.RwInDwRefIdeal.Value.run (F := Ideal) m ρ)

theorem rw_in_dw_algebraic : Cert.algebraic_RwInDwIdeal_RwInDwRefIdeal (hRwInDwIdeal := Cert.RwInDwIdeal.Gen.facts)
    (hRwInDwRefIdeal := Cert.RwInDwRefIdeal.Gen.facts) := fun m ρ m' ρ' _ hagree =>
  ⟨fun c => Cert.RwInDwIdeal.Value.outArr m c, Cert.RwInDwIdeal.Value.kernel_run m ρ,
    (θ_run Cert.RwInDwRefIdeal.defs _ _).mono (fun r h c => by
      obtain ⟨h0, hargs⟩ := h c
      refine ⟨h0.trans ?_, hargs⟩
      rw [(hagree c).1, (hagree c).2]
      exact Cert.RwInDwRefIdeal.Value.result_eq _ _)
      (Cert.RwInDwRefIdeal.Value.run (F := Ideal) m' ρ')⟩

end Cert.Proof

end
-- ==== Proof.RwInDxValue.lean ====
module

public import proofs.«01_k».proof.Proof.Gen.RwInDxIdeal.Value
public import proofs.«01_k».proof.Proof.Products

/-!
  The gradient of the time mixing's input: the array that the call leaves.
-/

@[expose] public section

set_option maxRecDepth 16384

noncomputable section

namespace Cert.RwInDxIdeal.Value

open Cert.RwInDxIdeal Cert.RwInDxIdeal.Gen Idealize.ShloMosaic Idealize.ShloMosaic.TcCoe Idealize.SL.Sem StableHlo

variable (m : (ℓ : Loc nD τ sig) → Buf (Elt Ideal) ℓ) (ρ : Dev nD → PrngReg) (c : Dev nD)

/-- The third argument, and the product of the first argument and the second, transposed, added to it. -/
def outArr : FVec Ideal S4096x2048 .f32 :=
  Products.plus (m := 4096) (n := 2048) (m (c.tc.loc main_arg2)) <| Products.nt (m := 4096) (k := 8192) (n := 2048) (m (c.tc.loc main_arg0)) (m (c.tc.loc main_arg1))

theorem V_weights : V m c main_v0 = (m (c.tc.loc main_arg1) : S2048x8192.Idx → EReal) := by
  show StableHlo.after hostOps0 _ _ = _
  simp only [hostOps0]
  after_results_simp
  rfl

theorem index0 : ∀ t : Fin cfg0.N, win0_0.index t = ![t.val / 8, t.val % 4] := by decide +kernel
theorem index1 : ∀ t : Fin cfg0.N, win0_1.index t = ![t.val / 4 % 2, t.val % 4] := by decide +kernel
theorem index2 : ∀ t : Fin cfg0.N, win0_2.index t = ![t.val / 8, t.val / 4 % 2] := by decide +kernel
theorem index3 : ∀ t : Fin cfg0.N, win0_3.index t = ![t.val / 8, t.val / 4 % 2] := by decide +kernel

/-- What grid point `t` adds: the product over its 2048 columns. -/
def part (t : Fin cfg0.N) (i j : Fin 1024) : EReal :=
  Products.nt (m := 1024) (k := 2048) (n := 1024) (iblk m c 0 t) (iblk m c 1 t) (ix2 i j)

/-- Only a block's first grid point takes the third argument in. -/
theorem takes_first : ∀ t : Fin cfg0.N, t.val % 4 = 0 → Scalar.cmpi .eq (BitVec.ofNat 32 (grid0.coords t 2).val) 0#32 = 1#1 := by
  decide +kernel

theorem takes_later : ∀ t : Fin cfg0.N, 1 ≤ t.val % 4 → Scalar.cmpi .eq (BitVec.ofNat 32 (grid0.coords t 2).val) 0#32 = 0#1 := by
  decide +kernel

/-- A block's first grid point leaves its part and the third argument in the accumulator. -/
theorem first (t : Fin cfg0.N) (h : t.val % 4 = 0) (i j : Fin 1024) :
    (outsAt0 m c t.val t.isLt).2 (ix2 i j) = part m c t i j + iblk m c 2 t (ix2 i j) := by
  rw [outsAt0_A m c t h (by omega) (by omega)]
  dsimp only
  frame_out
  pointwise [k0_pay2, k0_pay1]
  rw [takes_first t h]
  rfl

/-- Its second and third add theirs. -/
theorem next (t : Fin cfg0.N) (h : 1 ≤ t.val % 4) (h' : ¬t.val % 4 = 3) (i j : Fin 1024) :
    (outsAt0 m c t.val t.isLt).2 (ix2 i j)
      = (outsAt0 m c (t.val - 1) (Nat.lt_of_le_of_lt (Nat.sub_le _ _) t.isLt)).2 (ix2 i j) + part m c t i j := by
  rw [outsAt0_B m c t (by omega) h h']
  dsimp only
  frame_out
  pointwise [k0_pay3, k0_pay1]
  rw [takes_later t (by omega)]
  exact congrArg₂ (fun a b : EReal => a + b) (congrFun (Memref.IsWhole.read_unread _ _) _) rfl

/-- Its fourth leaves the sum of all in the result's block. -/
theorem last (t : Fin cfg0.N) (h : t.val % 4 = 3) (i j : Fin 1024) :
    (outsAt0 m c t.val t.isLt).1 (ix2 i j)
      = (outsAt0 m c (t.val - 1) (Nat.lt_of_le_of_lt (Nat.sub_le _ _) t.isLt)).2 (ix2 i j) + part m c t i j := by
  rw [outsAt0_C m c t (by omega) (by omega) h]
  dsimp only
  frame_out
  pointwise [k0_pay3, k0_pay1]
  rw [takes_later t (by omega)]
  exact congrArg₂ (fun a b : EReal => a + b) (congrFun (Memref.IsWhole.read_unread _ _) _) rfl

theorem final_out : (dats m 0 c).arrAt 3 cfg0.N = outArr m c := by
  refine (dats m 0 c).arrAt_eq_of_covers 3 (outArr m c) (by decide +kernel) fun t hf y => ?_
  have ht : t.val % 4 = 3 := (flush0_3 t).mp hf
  blk_simp
  rw [after0_3]
  obtain ⟨i, j, rfl⟩ := Products.exists_ix2 (m := 1024) (n := 1024) y
  have lt (n : ℕ) : t.val - n < cfg0.N := Nat.lt_of_le_of_lt (Nat.sub_le _ _) t.isLt
  refine (last m c t ht i j).trans ?_
  rw [next m c ⟨t.val - 1, lt 1⟩ (by show 1 ≤ (t.val - 1) % 4; omega) (by show ¬(t.val - 1) % 4 = 3; omega)]
  rw [next m c ⟨t.val - 1 - 1, lt 2⟩ (by show 1 ≤ (t.val - 1 - 1) % 4; omega) (by show ¬(t.val - 1 - 1) % 4 = 3; omega)]
  rw [first m c ⟨t.val - 1 - 1 - 1, lt 3⟩ (by show (t.val - 1 - 1 - 1) % 4 = 0; omega)]
  unfold outArr part Products.plus Products.nt
  rw [Products.sum_blocks 4 2048 rfl, Fin.sum_univ_four]
  refine Eq.trans ?_ (Products.regroup _ _ _ _ _)
  refine congrArg₂ (fun a b : EReal => a + b) (congrArg₂ (fun a b : EReal => a + b) (congrArg₂ (fun a b : EReal => a + b) (congrArg₂ (fun a b : EReal => a + b)
    (Products.sum_mul_congr (fun k => ?_) fun k => ?_) ?_) (Products.sum_mul_congr (fun k => ?_) fun k => ?_))
      (Products.sum_mul_congr (fun k => ?_) fun k => ?_)) (Products.sum_mul_congr (fun k => ?_) fun k => ?_)
  · blk_ext [iblk, V_main_arg0, index0, index3 t]
  · blk_ext [iblk, V_weights, index1, index3 t]
  · blk_ext [iblk, V_main_arg2, index2, index3 t]
  · blk_ext [iblk, V_main_arg0, index0, index3 t]
  · blk_ext [iblk, V_weights, index1, index3 t]
  · blk_ext [iblk, V_main_arg0, index0, index3 t]
  · blk_ext [iblk, V_weights, index1, index3 t]
  · blk_ext [iblk, V_main_arg0, index0, index3 t]
  · blk_ext [iblk, V_weights, index1, index3 t]

theorem kernel_run : θ_run defs (onTc (τ := τ) (main (F := Ideal))) ⟨m, fun _ => 0, ρ⟩ fun r => ∀ c : Dev nD,
      r.2.mem ((c.tc : Thread nD τ).loc main_v1) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_out m c), (h c).2⟩) (run_blocks m ρ)

end Cert.RwInDxIdeal.Value

end
-- ==== Proof.RwInDxClaim.lean ====
module

public import proofs.«01_k».proof.Defs
public import proofs.«01_k».proof.Proof.Gen.RwInDx.Frame
public import proofs.«01_k».proof.Proof.Gen.RwInDxRefIdeal.Run
public import proofs.«01_k».proof.Proof.RwInDxValue
public import Idealize.ShloMosaic.Adequacy
public import Idealize.ShloMosaic.Init

/-!
  The gradient of the time mixing's input: what the reference computes, and the claims.
-/

@[expose] public section

set_option maxRecDepth 16384

noncomputable section

namespace Cert.RwInDxRefIdeal.Value

open Cert.RwInDxRefIdeal Cert.RwInDxRefIdeal.Gen Idealize.ShloMosaic Idealize.ShloMosaic.TcCoe Idealize.SL.Sem StableHlo

/-- The reference's result is the third argument and the product of the first and the second, transposed. -/
theorem result_eq (A : FVec Ideal S4096x8192 .bf16) (B : FVec Ideal S2048x8192 .f32) (D : FVec Ideal S4096x2048 .f32) :
    addf D (shapeCast S4096x2048 (Host.dotGeneral dot_S1x4096x8192_S2048x8192_S1x4096x2048_2_1_01_0_n_n none (broadcastInDim S1x4096x8192 ![1, 2] bcast_S4096x8192_S1x4096x8192_1_2 (extf .f32 A bitsLt_bf16_f32)) B) shapeCasts_S1x4096x2048_S4096x2048)
      = Products.plus (m := 4096) (n := 2048) D (Products.nt (m := 4096) (k := 8192) (n := 2048) A B) := by
  refine Products.mat_ext fun i j => ?_
  pointwise
  rfl

end Cert.RwInDxRefIdeal.Value

namespace Cert.Proof

open Idealize.ShloMosaic Idealize.SL.Sem

theorem rw_in_dx_frame : Cert.quiescent_RwInDx (hRwInDx := Cert.RwInDx.Gen.facts) := fun m ρ _ => Cert.RwInDx.Gen.frame m ρ

theorem rw_in_dx_frame_ideal : Cert.quiescent_RwInDxIdeal (hRwInDxIdeal := Cert.RwInDxIdeal.Gen.facts) :=
  fun m ρ _ => Cert.RwInDxIdeal.Gen.frame m ρ

theorem rw_in_dx_frame_ref : Cert.quiescent_RwInDxRefIdeal (hRwInDxRefIdeal := Cert.RwInDxRefIdeal.Gen.facts) := fun m ρ _ =>
  (θ_run Cert.RwInDxRefIdeal.defs _ _).mono (fun r h => ⟨fun c => (h c).2,
      Idealize.ShloMosaic.sem_eq_zero_of_no_sems (by decide) r.2⟩)
    (Cert.RwInDxRefIdeal.Value.run (F := Ideal) m ρ)

theorem rw_in_dx_algebraic : Cert.algebraic_RwInDxIdeal_RwInDxRefIdeal (hRwInDxIdeal := Cert.RwInDxIdeal.Gen.facts)
    (hRwInDxRefIdeal := Cert.RwInDxRefIdeal.Gen.facts) := fun m ρ m' ρ' _ hagree =>
  ⟨fun c => Cert.RwInDxIdeal.Value.outArr m c, Cert.RwInDxIdeal.Value.kernel_run m ρ,
    (θ_run Cert.RwInDxRefIdeal.defs _ _).mono (fun r h c => by
      obtain ⟨h0, hargs⟩ := h c
      refine ⟨h0.trans ?_, hargs⟩
      rw [(hagree c).1, (hagree c).2.1, (hagree c).2.2]
      exact Cert.RwInDxRefIdeal.Value.result_eq _ _ _)
      (Cert.RwInDxRefIdeal.Value.run (F := Ideal) m' ρ')⟩

end Cert.Proof

end
-- ==== Proof.SgInValue.lean ====
module

public import proofs.«01_k».proof.Proof.Gen.SgInIdeal.Value
public import proofs.«01_k».proof.Proof.Products

/-!
  The gating's input projection: the array that the call leaves.
-/

@[expose] public section

set_option maxRecDepth 16384

noncomputable section

namespace Cert.SgInIdeal.Value

open Cert.SgInIdeal Cert.SgInIdeal.Gen Idealize.ShloMosaic Idealize.ShloMosaic.TcCoe Idealize.SL.Sem StableHlo

variable (m : (ℓ : Loc nD τ sig) → Buf (Elt Ideal) ℓ) (ρ : Dev nD → PrngReg) (c : Dev nD)

/-- The product of the first argument and the second. -/
def outArr : FVec Ideal S4096x6144 .f32 :=
  Products.nn (m := 4096) (k := 2048) (n := 6144) (m (c.tc.loc main_arg0)) (m (c.tc.loc main_arg1))

theorem V_weights : V m c main_v0 = (m (c.tc.loc main_arg1) : S2048x6144.Idx → EReal) := by
  show StableHlo.after hostOps0 _ _ = _
  simp only [hostOps0]
  after_results_simp
  rfl

theorem index0 : ∀ t : Fin cfg0.N, win0_0.index t = ![win0_2.index t 0, 0] := by decide +kernel
theorem index1 : ∀ t : Fin cfg0.N, win0_1.index t = ![0, win0_2.index t 1] := by decide +kernel

theorem final_out : (dats m 0 c).arrAt 2 cfg0.N = outArr m c := by
  refine (dats m 0 c).arrAt_eq_of_covers 2 (outArr m c) (by decide +kernel) fun t hf y => ?_
  blk_simp
  rw [after0_2]
  unfold outsAt0
  frame_out
  pointwise [k0_pay1]
  unfold outArr Products.nn
  refine Products.sum_mul_congr (fun k => ?_) (fun k => ?_)
  · blk_ext [iblk, V_main_arg0, index0 t]
  · blk_ext [iblk, V_weights, index1 t]

theorem kernel_run : θ_run defs (onTc (τ := τ) (main (F := Ideal))) ⟨m, fun _ => 0, ρ⟩ fun r => ∀ c : Dev nD,
      r.2.mem ((c.tc : Thread nD τ).loc main_v1) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_out m c), (h c).2⟩) (run_blocks m ρ)

end Cert.SgInIdeal.Value

end
-- ==== Proof.SgInClaim.lean ====
module

public import proofs.«01_k».proof.Defs
public import proofs.«01_k».proof.Proof.Gen.SgIn.Frame
public import proofs.«01_k».proof.Proof.Gen.SgInRefIdeal.Run
public import proofs.«01_k».proof.Proof.SgInValue
public import Idealize.ShloMosaic.Adequacy
public import Idealize.ShloMosaic.Init

/-!
  The gating's input projection: what the reference computes, and the claims.
-/

@[expose] public section

set_option maxRecDepth 16384

noncomputable section

namespace Cert.SgInRefIdeal.Value

open Cert.SgInRefIdeal Cert.SgInRefIdeal.Gen Idealize.ShloMosaic Idealize.ShloMosaic.TcCoe Idealize.SL.Sem StableHlo

/-- The reference's result is the product of the first argument and the second. -/
theorem result_eq (A : FVec Ideal S4096x2048 .bf16) (B : FVec Ideal S2048x6144 .f32) :
    shapeCast S4096x6144 (Host.dotGeneral dot_S1x4096x2048_S2048x6144_S1x4096x6144_2_0_01_1_n_n none (broadcastInDim S1x4096x2048 ![1, 2] bcast_S4096x2048_S1x4096x2048_1_2 (extf .f32 A bitsLt_bf16_f32)) B) shapeCasts_S1x4096x6144_S4096x6144
      = Products.nn (m := 4096) (k := 2048) (n := 6144) A B := by
  refine Products.mat_ext fun i j => ?_
  pointwise
  rfl

end Cert.SgInRefIdeal.Value

namespace Cert.Proof

open Idealize.ShloMosaic Idealize.SL.Sem

theorem sg_in_frame : Cert.quiescent_SgIn (hSgIn := Cert.SgIn.Gen.facts) := fun m ρ _ => Cert.SgIn.Gen.frame m ρ

theorem sg_in_frame_ideal : Cert.quiescent_SgInIdeal (hSgInIdeal := Cert.SgInIdeal.Gen.facts) :=
  fun m ρ _ => Cert.SgInIdeal.Gen.frame m ρ

theorem sg_in_frame_ref : Cert.quiescent_SgInRefIdeal (hSgInRefIdeal := Cert.SgInRefIdeal.Gen.facts) := fun m ρ _ =>
  (θ_run Cert.SgInRefIdeal.defs _ _).mono (fun r h => ⟨fun c => (h c).2,
      Idealize.ShloMosaic.sem_eq_zero_of_no_sems (by decide) r.2⟩)
    (Cert.SgInRefIdeal.Value.run (F := Ideal) m ρ)

theorem sg_in_algebraic : Cert.algebraic_SgInIdeal_SgInRefIdeal (hSgInIdeal := Cert.SgInIdeal.Gen.facts)
    (hSgInRefIdeal := Cert.SgInRefIdeal.Gen.facts) := fun m ρ m' ρ' _ hagree =>
  ⟨fun c => Cert.SgInIdeal.Value.outArr m c, Cert.SgInIdeal.Value.kernel_run m ρ,
    (θ_run Cert.SgInRefIdeal.defs _ _).mono (fun r h c => by
      obtain ⟨h0, hargs⟩ := h c
      refine ⟨h0.trans ?_, hargs⟩
      rw [(hagree c).1, (hagree c).2]
      exact Cert.SgInRefIdeal.Value.result_eq _ _)
      (Cert.SgInRefIdeal.Value.run (F := Ideal) m' ρ')⟩

end Cert.Proof

end
-- ==== Proof.RwInValue.lean ====
module

public import proofs.«01_k».proof.Proof.Gen.RwInIdeal.Value
public import proofs.«01_k».proof.Proof.Products

/-!
  The time mixing's input projection: the array that the call leaves.
-/

@[expose] public section

set_option maxRecDepth 16384

noncomputable section

namespace Cert.RwInIdeal.Value

open Cert.RwInIdeal Cert.RwInIdeal.Gen Idealize.ShloMosaic Idealize.ShloMosaic.TcCoe Idealize.SL.Sem StableHlo

variable (m : (ℓ : Loc nD τ sig) → Buf (Elt Ideal) ℓ) (ρ : Dev nD → PrngReg) (c : Dev nD)

/-- The product of the first argument and the second. -/
def outArr : FVec Ideal S4096x8192 .f32 :=
  Products.nn (m := 4096) (k := 2048) (n := 8192) (m (c.tc.loc main_arg0)) (m (c.tc.loc main_arg1))

theorem V_weights : V m c main_v0 = (m (c.tc.loc main_arg1) : S2048x8192.Idx → EReal) := by
  show StableHlo.after hostOps0 _ _ = _
  simp only [hostOps0]
  after_results_simp
  rfl

theorem index0 : ∀ t : Fin cfg0.N, win0_0.index t = ![win0_2.index t 0, 0] := by decide +kernel
theorem index1 : ∀ t : Fin cfg0.N, win0_1.index t = ![0, win0_2.index t 1] := by decide +kernel

theorem final_out : (dats m 0 c).arrAt 2 cfg0.N = outArr m c := by
  refine (dats m 0 c).arrAt_eq_of_covers 2 (outArr m c) (by decide +kernel) fun t hf y => ?_
  blk_simp
  rw [after0_2]
  unfold outsAt0
  frame_out
  pointwise [k0_pay1]
  unfold outArr Products.nn
  refine Products.sum_mul_congr (fun k => ?_) (fun k => ?_)
  · blk_ext [iblk, V_main_arg0, index0 t]
  · blk_ext [iblk, V_weights, index1 t]

theorem kernel_run : θ_run defs (onTc (τ := τ) (main (F := Ideal))) ⟨m, fun _ => 0, ρ⟩ fun r => ∀ c : Dev nD,
      r.2.mem ((c.tc : Thread nD τ).loc main_v1) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_out m c), (h c).2⟩) (run_blocks m ρ)

end Cert.RwInIdeal.Value

end
-- ==== Proof.RwInClaim.lean ====
module

public import proofs.«01_k».proof.Defs
public import proofs.«01_k».proof.Proof.Gen.RwIn.Frame
public import proofs.«01_k».proof.Proof.Gen.RwInRefIdeal.Run
public import proofs.«01_k».proof.Proof.RwInValue
public import Idealize.ShloMosaic.Adequacy
public import Idealize.ShloMosaic.Init

/-!
  The time mixing's input projection: what the reference computes, and the claims.
-/

@[expose] public section

set_option maxRecDepth 16384

noncomputable section

namespace Cert.RwInRefIdeal.Value

open Cert.RwInRefIdeal Cert.RwInRefIdeal.Gen Idealize.ShloMosaic Idealize.ShloMosaic.TcCoe Idealize.SL.Sem StableHlo

/-- The reference's result is the product of the first argument and the second. -/
theorem result_eq (A : FVec Ideal S4096x2048 .bf16) (B : FVec Ideal S2048x8192 .f32) :
    shapeCast S4096x8192 (Host.dotGeneral dot_S1x4096x2048_S2048x8192_S1x4096x8192_2_0_01_1_n_n none (broadcastInDim S1x4096x2048 ![1, 2] bcast_S4096x2048_S1x4096x2048_1_2 (extf .f32 A bitsLt_bf16_f32)) B) shapeCasts_S1x4096x8192_S4096x8192
      = Products.nn (m := 4096) (k := 2048) (n := 8192) A B := by
  refine Products.mat_ext fun i j => ?_
  pointwise
  rfl

end Cert.RwInRefIdeal.Value

namespace Cert.Proof

open Idealize.ShloMosaic Idealize.SL.Sem

theorem rw_in_frame : Cert.quiescent_RwIn (hRwIn := Cert.RwIn.Gen.facts) := fun m ρ _ => Cert.RwIn.Gen.frame m ρ

theorem rw_in_frame_ideal : Cert.quiescent_RwInIdeal (hRwInIdeal := Cert.RwInIdeal.Gen.facts) :=
  fun m ρ _ => Cert.RwInIdeal.Gen.frame m ρ

theorem rw_in_frame_ref : Cert.quiescent_RwInRefIdeal (hRwInRefIdeal := Cert.RwInRefIdeal.Gen.facts) := fun m ρ _ =>
  (θ_run Cert.RwInRefIdeal.defs _ _).mono (fun r h => ⟨fun c => (h c).2,
      Idealize.ShloMosaic.sem_eq_zero_of_no_sems (by decide) r.2⟩)
    (Cert.RwInRefIdeal.Value.run (F := Ideal) m ρ)

theorem rw_in_algebraic : Cert.algebraic_RwInIdeal_RwInRefIdeal (hRwInIdeal := Cert.RwInIdeal.Gen.facts)
    (hRwInRefIdeal := Cert.RwInRefIdeal.Gen.facts) := fun m ρ m' ρ' _ hagree =>
  ⟨fun c => Cert.RwInIdeal.Value.outArr m c, Cert.RwInIdeal.Value.kernel_run m ρ,
    (θ_run Cert.RwInRefIdeal.defs _ _).mono (fun r h c => by
      obtain ⟨h0, hargs⟩ := h c
      refine ⟨h0.trans ?_, hargs⟩
      rw [(hagree c).1, (hagree c).2]
      exact Cert.RwInRefIdeal.Value.result_eq _ _)
      (Cert.RwInRefIdeal.Value.run (F := Ideal) m' ρ')⟩

end Cert.Proof

end
-- ==== Proof.OutFwdValue.lean ====
module

public import proofs.«01_k».proof.Proof.Gen.OutFwdIdeal.Value
public import proofs.«01_k».proof.Proof.Products

/-!
  An output projection and the gated residual sum: the arrays that the call leaves.
-/

@[expose] public section

set_option maxRecDepth 16384

noncomputable section

namespace Cert.OutFwdIdeal.Value

open Cert.OutFwdIdeal Cert.OutFwdIdeal.Gen Idealize.ShloMosaic Idealize.ShloMosaic.TcCoe Idealize.SL.Sem StableHlo

variable (m : (ℓ : Loc nD τ sig) → Buf (Elt Ideal) ℓ) (ρ : Dev nD → PrngReg) (c : Dev nD)

/-- The product of the first argument and the second. -/
def outArr : FVec Ideal S4096x2048 .f32 :=
  Products.nn (m := 4096) (k := 2048) (n := 2048) (m (c.tc.loc main_arg0)) (m (c.tc.loc main_arg1))

/-- The third argument, and that product, its columns scaled by the fourth, added to it. -/
def sumArr : FVec Ideal S4096x2048 .f32 :=
  Products.gated (m := 4096) (n := 2048) (m (c.tc.loc main_arg2)) (m (c.tc.loc main_arg3)) (outArr m c)

theorem V_weights : V m c main_v0 = (m (c.tc.loc main_arg1) : S2048x2048.Idx → EReal) := by
  show StableHlo.after hostOps0 _ _ = _
  simp only [hostOps0]
  after_results_simp
  rfl

theorem V_gate : V m c main_v1 = fun i : S1x2048.Idx => (m (c.tc.loc main_arg3) : S2048.Idx → EReal) (ix1 (i 1)) := by
  show StableHlo.after hostOps0 _ _ = _
  simp only [hostOps0]
  after_results_simp
  funext i
  pointwise

theorem index0 : ∀ t : Fin cfg0.N, win0_0.index t = ![win0_4.index t 0, 0] := by decide +kernel
theorem index1 : ∀ t : Fin cfg0.N, win0_1.index t = ![0, win0_4.index t 1] := by decide +kernel
theorem index2 : ∀ t : Fin cfg0.N, win0_2.index t = ![win0_5.index t 0, win0_5.index t 1] := by decide +kernel
theorem index3 : ∀ t : Fin cfg0.N, win0_3.index t = ![0, win0_5.index t 1] := by decide +kernel
theorem index4 : ∀ t : Fin cfg0.N, win0_4.index t = win0_5.index t := by decide +kernel

theorem final_out : (dats m 0 c).arrAt 4 cfg0.N = outArr m c := by
  refine (dats m 0 c).arrAt_eq_of_covers 4 (outArr m c) (by decide +kernel) fun t hf y => ?_
  blk_simp
  rw [after0_4]
  unfold outsAt0
  frame_out
  pointwise [k0_pay1]
  unfold outArr Products.nn
  refine Products.sum_mul_congr (fun k => ?_) (fun k => ?_)
  · blk_ext [iblk, V_main_arg0, index0 t]
  · blk_ext [iblk, V_weights, index1 t]

theorem final_sum : (dats m 0 c).arrAt 5 cfg0.N = sumArr m c := by
  refine (dats m 0 c).arrAt_eq_of_covers 5 (sumArr m c) (by decide +kernel) fun t hf y => ?_
  blk_simp
  rw [after0_5]
  unfold outsAt0
  frame_out
  pointwise [k0_pay2, k0_pay1]
  unfold sumArr outArr Products.gated Products.nn
  refine congrArg₂ (fun a b : EReal => a + b) ?_ (congrArg₂ (fun a b : EReal => a * b) ?_ (Products.sum_mul_congr (fun k => ?_) fun k => ?_))
  · blk_ext [iblk, V_main_arg2, index2 t]
  · refine (congrFun (V_gate m c) _).trans (congrArg _ ?_)
    blk_ext [index3 t]
  · blk_ext [iblk, V_main_arg0, index0 t, index4 t]
  · blk_ext [iblk, V_weights, index1 t, index4 t]

theorem kernel_run : θ_run defs (onTc (τ := τ) (main (F := Ideal))) ⟨m, fun _ => 0, ρ⟩ fun r => ∀ c : Dev nD,
      r.2.mem ((c.tc : Thread nD τ).loc main_v2_0) = outArr m c
      ∧ r.2.mem ((c.tc : Thread nD τ).loc main_v2_1) = sumArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_out m c), (h c).2.1.trans (final_sum m c), (h c).2.2⟩) (run_blocks m ρ)

end Cert.OutFwdIdeal.Value

end
-- ==== Proof.OutFwdClaim.lean ====
module

public import proofs.«01_k».proof.Defs
public import proofs.«01_k».proof.Proof.Gen.OutFwd.Frame
public import proofs.«01_k».proof.Proof.Gen.OutFwdRefIdeal.Run
public import proofs.«01_k».proof.Proof.OutFwdValue
public import Idealize.ShloMosaic.Adequacy
public import Idealize.ShloMosaic.Init

/-!
  An output projection and the gated residual sum: what the reference computes, and the claims.
-/

@[expose] public section

set_option maxRecDepth 16384

noncomputable section

namespace Cert.OutFwdRefIdeal.Value

open Cert.OutFwdRefIdeal Cert.OutFwdRefIdeal.Gen Idealize.ShloMosaic Idealize.ShloMosaic.TcCoe Idealize.SL.Sem StableHlo

/-- The reference's result is the product of the first argument and the second. -/
theorem result_eq (A : FVec Ideal S4096x2048 .bf16) (B : FVec Ideal S2048x2048 .f32) :
    shapeCast S4096x2048 (Host.dotGeneral dot_S1x4096x2048_S2048x2048_S1x4096x2048_2_0_01_1_n_n none (broadcastInDim S1x4096x2048 ![1, 2] bcast_S4096x2048_S1x4096x2048_1_2 (extf .f32 A bitsLt_bf16_f32)) B) shapeCasts_S1x4096x2048_S4096x2048
      = Products.nn (m := 4096) (k := 2048) (n := 2048) A B := by
  refine Products.mat_ext fun i j => ?_
  pointwise
  rfl

/-- The second result is the residual sum. -/
theorem sum_eq (A : FVec Ideal S4096x2048 .bf16) (B : FVec Ideal S2048x2048 .f32) (X : FVec Ideal S4096x2048 .f32) (G : FVec Ideal S2048 .f32) :
    shapeCast S4096x2048 (addf (broadcastInDim S1x4096x2048 ![1, 2] bcast_S4096x2048_S1x4096x2048_1_2 X) (mulf (broadcastInDim S1x4096x2048 ![0, 1, 2] bcast_S1x1x2048_S1x4096x2048_0_1_2 (broadcastInDim S1x1x2048 ![2] bcast_S2048_S1x1x2048_2 G)) (Host.dotGeneral dot_S1x4096x2048_S2048x2048_S1x4096x2048_2_0_01_1_n_n none (broadcastInDim S1x4096x2048 ![1, 2] bcast_S4096x2048_S1x4096x2048_1_2 (extf .f32 A bitsLt_bf16_f32)) B))) shapeCasts_S1x4096x2048_S4096x2048
      = Products.gated (m := 4096) (n := 2048) X G (Products.nn (m := 4096) (k := 2048) (n := 2048) A B) := by
  refine Products.mat_ext fun i j => ?_
  pointwise
  rfl

end Cert.OutFwdRefIdeal.Value

namespace Cert.Proof

open Idealize.ShloMosaic Idealize.SL.Sem

theorem out_fwd_frame : Cert.quiescent_OutFwd (hOutFwd := Cert.OutFwd.Gen.facts) := fun m ρ _ => Cert.OutFwd.Gen.frame m ρ

theorem out_fwd_frame_ideal : Cert.quiescent_OutFwdIdeal (hOutFwdIdeal := Cert.OutFwdIdeal.Gen.facts) :=
  fun m ρ _ => Cert.OutFwdIdeal.Gen.frame m ρ

theorem out_fwd_frame_ref : Cert.quiescent_OutFwdRefIdeal (hOutFwdRefIdeal := Cert.OutFwdRefIdeal.Gen.facts) := fun m ρ _ =>
  (θ_run Cert.OutFwdRefIdeal.defs _ _).mono (fun r h => ⟨fun c => (h c).2.2,
      Idealize.ShloMosaic.sem_eq_zero_of_no_sems (by decide) r.2⟩)
    (Cert.OutFwdRefIdeal.Value.run (F := Ideal) m ρ)

theorem out_fwd_algebraic : Cert.algebraic_OutFwdIdeal_OutFwdRefIdeal (hOutFwdIdeal := Cert.OutFwdIdeal.Gen.facts)
    (hOutFwdRefIdeal := Cert.OutFwdRefIdeal.Gen.facts) := fun m ρ m' ρ' _ hagree =>
  ⟨fun c => Cert.OutFwdIdeal.Value.outArr m c, fun c => Cert.OutFwdIdeal.Value.sumArr m c, Cert.OutFwdIdeal.Value.kernel_run m ρ,
    (θ_run Cert.OutFwdRefIdeal.defs _ _).mono (fun r h c => by
      obtain ⟨h0, h1, hargs⟩ := h c
      refine ⟨h0.trans ?_, h1.trans ?_, hargs⟩
      · rw [(hagree c).1, (hagree c).2.1]
        exact Cert.OutFwdRefIdeal.Value.result_eq _ _
      · rw [(hagree c).1, (hagree c).2.1, (hagree c).2.2.1, (hagree c).2.2.2]
        exact Cert.OutFwdRefIdeal.Value.sum_eq _ _ _ _)
      (Cert.OutFwdRefIdeal.Value.run (F := Ideal) m' ρ')⟩

end Cert.Proof

end
-- ==== Proof.Rows.lean ====
module

public import proofs.«01_k».proof.Proof.Products

/-!
  What the calls that work a row at a time compute: the RMS norm under a modulation, its gradient, the output gates and
  theirs. A row, and each parameter, is a function of the column.
-/

@[expose] public section

noncomputable section

namespace Rows

open Idealize.ShloMosaic Products

/-- The columns' values of one row, or a parameter's. -/
abbrev Row : Type := Fin 2048 → EReal

/-- Row `i` of a matrix of 2048 columns. -/
def row {n : ℕ} (a : Mat n 2048) (i : Fin n) : Row := fun e => a (ix2 i e)

/-- A parameter with one entry a column. -/
def par (a : (⟨1, ![2048]⟩ : Shape).Idx → EReal) : Row := fun e => a (ix1 e)

/-- A one-row matrix's row. -/
def line (a : Mat 1 2048) : Row := fun e => a (ix2 0 e)

/-- The number of columns, as the constant of the mean. -/
def width : EReal := Ideal.ofBits .f32 0x45000000#32
/-- The norm's small constant. -/
def eps : EReal := Ideal.ofBits .f32 0x358637BD#32
/-- One half. -/
def half : EReal := Ideal.ofBits .f32 0x3F000000#32
/-- Minus one half. -/
def minusHalf : EReal := Ideal.ofBits .f32 0xBF000000#32

/-! ## The norm -/

/-- The mean of the squares, and the small constant. -/
def meanSq (x : Row) : EReal := Ideal.div (∑ e, x e * x e) width + eps
/-- The norm's factor. -/
def inv (x : Row) : EReal := Ideal.rsqrt (meanSq x)
/-- The row over its root mean square. -/
def unit (x : Row) : Row := fun e => x e * inv x
/-- The norm with its gain. -/
def rms (x g : Row) : Row := fun e => unit x e * g e
/-- The modulated norm. -/
def adaln (x g shift scale : Row) : Row := fun e => rms x g e * (1 + scale e) + shift e

/-! ## Its gradient: `u` is the gradient of the norm with its gain -/

/-- The gradient of the norm with its gain, from that of the modulated norm. -/
def under (d scale : Row) : Row := fun e => d e * (1 + scale e)
/-- The share that reaches the row through the mean of its squares, over `2 x`. -/
def through (x u g : Row) : EReal := Ideal.div ((∑ e, x e * (u e * g e)) * (minusHalf * Ideal.div (inv x) (meanSq x))) width
/-- The gradient of the row. -/
def rmsDx (x u g : Row) : Row := fun e => u e * g e * inv x + x e * through x u g + through x u g * x e
/-- One row's share of the gain's gradient. -/
def rmsDg (x u : Row) : Row := fun e => unit x e * u e

/-! ## The output gates -/

/-- The logistic function. -/
def sigma (z : EReal) : EReal := Ideal.div 1 (1 + Ideal.exp (-z))
/-- The gate. -/
def silu (z : EReal) : EReal := z * sigma z
/-- The gradient of what is gated. -/
def gatedGrad (z d : EReal) : EReal := d * silu z
/-- The gradient of the gate's argument. -/
def gateGrad (o z d : EReal) : EReal := o * d * sigma z + z * (o * d) * (sigma z * (1 - sigma z))

/-! ## The loss: half the sum over the rows of the mean square of the error -/

/-- The error of the norm. -/
def err (x t g : Row) : Row := fun e => rms x g e - t e
/-- The loss's derivative by a square. -/
def cot : EReal := Ideal.div half width
/-- The loss's gradient by the norm. -/
def lossU (x t g : Row) : Row := fun e => err x t g e * cot + cot * err x t g e
/-- The mean square of the error. -/
def rowLoss (x t g : Row) : EReal := Ideal.div (∑ e, err x t g e * err x t g e) width

/-! ## The calls' results, over `n` rows -/

/-- A parameter's gradient, as a one-row matrix. -/
def lineOf (r : Row) : Mat 1 2048 := fun i => r (i 1)
/-- The gradient of the rows that enter the modulated norm and a residual sum with gradient `r`. -/
def normDx {n : ℕ} (x d r : Mat n 2048) (g scale : Row) : Mat n 2048 :=
  fun i => rmsDx (row x (i 0)) (under (row d (i 0)) scale) g (i 1) + row r (i 0) (i 1)
/-- The gain's gradient. -/
def normDg {n : ℕ} (x d : Mat n 2048) (scale : Row) : Row := fun e => ∑ i : Fin n, rmsDg (row x i) (under (row d i) scale) e
/-- The shift's gradient. -/
def normDshift {n : ℕ} (d : Mat n 2048) : Row := fun e => ∑ i : Fin n, row d i e
/-- The scale's gradient. -/
def normDscale {n : ℕ} (x d : Mat n 2048) (g : Row) : Row := fun e => ∑ i : Fin n, rms (row x i) g e * row d i e
/-- Rows scaled column by column. -/
def scaled {n : ℕ} (g : Row) (a : Mat n 2048) : Mat n 2048 := fun i => g (i 1) * row a (i 0) (i 1)
/-- The 2048 columns from column `o` on. -/
def cols {n w : ℕ} (o : ℕ) (h : o + 2048 ≤ w) (a : Mat n w) : Mat n 2048 :=
  fun i => a (ix2 (i 0) ⟨o + (i 1).val, Nat.lt_of_lt_of_le (Nat.add_lt_add_left (i 1).isLt o) h⟩)
/-- The modulated norm of every row. -/
def normed {n : ℕ} (x : Mat n 2048) (g shift scale : Row) : Mat n 2048 := fun i => adaln (row x (i 0)) g shift scale (i 1)
/-- Gated rows. -/
def gated {n : ℕ} (o z : Mat n 2048) : Mat n 2048 := fun i => row o (i 0) (i 1) * silu (row z (i 0) (i 1))
/-- The gradients of the gated rows. -/
def gatedGrads {n : ℕ} (z d : Mat n 2048) : Mat n 2048 := fun i => gatedGrad (row z (i 0) (i 1)) (row d (i 0) (i 1))
/-- The gradients of the gates' arguments. -/
def gateGrads {n : ℕ} (o z d : Mat n 2048) : Mat n 2048 :=
  fun i => gateGrad (row o (i 0) (i 1)) (row z (i 0) (i 1)) (row d (i 0) (i 1))
/-- The loss's gradient by the rows. -/
def lossDx {n : ℕ} (x t : Mat n 2048) (g : Row) : Mat n 2048 :=
  fun i => rmsDx (row x (i 0)) (lossU (row x (i 0)) (row t (i 0)) g) g (i 1)
/-- The loss's gradient by the gain. -/
def lossDg {n : ℕ} (x t : Mat n 2048) (g : Row) : Row := fun e => ∑ i : Fin n, rmsDg (row x i) (lossU (row x i) (row t i) g) e
/-- The rows' mean squares, added up. -/
def lossSum {n : ℕ} (x t : Mat n 2048) (g : Row) : EReal := ∑ i : Fin n, rowLoss (row x i) (row t i) g
/-- The loss, as the call leaves it: 128 times. -/
def lossLine {n : ℕ} (x t : Mat n 2048) (g : Row) : Fin 128 → EReal := fun _ => half * lossSum x t g
/-- The sum over the rows of the products of two matrices' entries. -/
def dots {n : ℕ} (a b : Mat n 2048) : Row := fun e => ∑ i : Fin n, row a i e * row b i e

theorem normDx_apply {n : ℕ} (x d r : Mat n 2048) (g scale : Row) (i : Fin n) (e : Fin 2048) :
    normDx x d r g scale (ix2 i e) = rmsDx (row x i) (under (row d i) scale) g e + row r i e := rfl
theorem row_normDx {n : ℕ} (x d r : Mat n 2048) (g scale : Row) (i : Fin n) :
    row (normDx x d r g scale) i = fun e => rmsDx (row x i) (under (row d i) scale) g e + row r i e := rfl
theorem normed_apply {n : ℕ} (x : Mat n 2048) (g shift scale : Row) (i : Fin n) (e : Fin 2048) :
    normed x g shift scale (ix2 i e) = adaln (row x i) g shift scale e := rfl
theorem gated_apply {n : ℕ} (o z : Mat n 2048) (i : Fin n) (e : Fin 2048) : gated o z (ix2 i e) = row o i e * silu (row z i e) := rfl
theorem gatedGrads_apply {n : ℕ} (z d : Mat n 2048) (i : Fin n) (e : Fin 2048) :
    gatedGrads z d (ix2 i e) = gatedGrad (row z i e) (row d i e) := rfl
theorem gateGrads_apply {n : ℕ} (o z d : Mat n 2048) (i : Fin n) (e : Fin 2048) :
    gateGrads o z d (ix2 i e) = gateGrad (row o i e) (row z i e) (row d i e) := rfl
theorem lossDx_apply {n : ℕ} (x t : Mat n 2048) (g : Row) (i : Fin n) (e : Fin 2048) :
    lossDx x t g (ix2 i e) = rmsDx (row x i) (lossU (row x i) (row t i) g) g e := rfl
theorem row_lossDx {n : ℕ} (x t : Mat n 2048) (g : Row) (i : Fin n) :
    row (lossDx x t g) i = rmsDx (row x i) (lossU (row x i) (row t i) g) g := rfl
theorem scaled_apply {n : ℕ} (g : Row) (a : Mat n 2048) (i : Fin n) (e : Fin 2048) : scaled g a (ix2 i e) = g e * row a i e := rfl

/-! ## Sums of the rows' shares, a block at a time -/

/-- A sum over 4096 rows, 256 at a time. -/
theorem sum_rows (f : Fin 4096 → EReal) :
    ∑ i, f i = ∑ s : Fin 16, ∑ q : Fin 256, f ⟨256 * s.val + q.val, by omega⟩ := Products.sum_blocks 16 256 rfl f

/-- What is added up point by point is the sum of what the points add. -/
theorem accum {N : ℕ} (w p : ∀ n, n < N → EReal) (h0 : ∀ h, w 0 h = p 0 h)
    (hs : ∀ n (h : n + 1 < N), w (n + 1) h = w n (Nat.lt_of_succ_lt h) + p (n + 1) h) :
    ∀ n (h : n < N), w n h = ∑ k : Fin (n + 1), p k.val (Nat.lt_of_lt_of_le k.isLt h)
  | 0, h => by rw [Fin.sum_univ_one]; exact h0 h
  | n + 1, h => by rw [hs n h, Fin.sum_univ_castSucc, accum w p h0 hs n]; rfl

/-- The same at the last of `L` points. -/
theorem accum_last {N L : ℕ} (w p : ∀ n, n < N → EReal) (h0 : ∀ h, w 0 h = p 0 h)
    (hs : ∀ n (h : n + 1 < N), w (n + 1) h = w n (Nat.lt_of_succ_lt h) + p (n + 1) h) (n : ℕ) (h : n < N) (e : n + 1 = L) :
    w n h = ∑ k : Fin L, p k.val (Nat.lt_of_lt_of_le k.isLt (e ▸ h)) := by
  subst e
  exact accum w p h0 hs n h

/-! ## The host's sums over axes of extent one -/

/-- A host sum over two leading axes of extent one. -/
theorem lead_sum {n : ℕ} (h : (⟨3, ![1, 1, n]⟩ : Shape).ReducesTo [0, 1] ⟨1, ![n]⟩)
    (v : (⟨3, ![1, 1, n]⟩ : Shape).Idx → EReal) (z : EReal) (c : Fin n) :
    Ideal.hostReduceAdd h v z (ix1 c) = z + v (ix3 0 0 c) := by
  unfold Ideal.hostReduceAdd
  refine congrArg (z + ·) ((Finset.sum_filter_eq_sum_of_fiber _ (fun _ : Fin 1 => ix3 (0 : Fin 1) (0 : Fin 1) c)
    (fun _ _ _ => Subsingleton.elim _ _) (fun i => ?_) v).trans (Fin.sum_univ_one _))
  constructor
  · intro e
    refine ⟨0, ?_⟩
    funext a
    match a with
    | ⟨0, _⟩ => exact Subsingleton.elim (α := Fin 1) _ _
    | ⟨1, _⟩ => exact Subsingleton.elim (α := Fin 1) _ _
    | ⟨2, _⟩ => exact Fin.ext (congrArg Fin.val (congrFun e ⟨0, Nat.one_pos⟩)).symm
  · rintro ⟨k, rfl⟩
    funext b; apply Fin.ext
    match b with
    | ⟨0, _⟩ => rfl

/-- A host sum over the first and the last of three axes, both of extent one. -/
theorem ends_sum {n : ℕ} (h : (⟨3, ![1, n, 1]⟩ : Shape).ReducesTo [0, 2] ⟨1, ![n]⟩)
    (v : (⟨3, ![1, n, 1]⟩ : Shape).Idx → EReal) (z : EReal) (c : Fin n) :
    Ideal.hostReduceAdd h v z (ix1 c) = z + v (ix3 0 c 0) := by
  unfold Ideal.hostReduceAdd
  refine congrArg (z + ·) ((Finset.sum_filter_eq_sum_of_fiber _ (fun _ : Fin 1 => ix3 (0 : Fin 1) c (0 : Fin 1))
    (fun _ _ _ => Subsingleton.elim _ _) (fun i => ?_) v).trans (Fin.sum_univ_one _))
  constructor
  · intro e
    refine ⟨0, ?_⟩
    funext a
    match a with
    | ⟨0, _⟩ => exact Subsingleton.elim (α := Fin 1) _ _
    | ⟨1, _⟩ => exact Fin.ext (congrArg Fin.val (congrFun e ⟨0, Nat.one_pos⟩)).symm
    | ⟨2, _⟩ => exact Subsingleton.elim (α := Fin 1) _ _
  · rintro ⟨k, rfl⟩
    funext b; apply Fin.ext
    match b with
    | ⟨0, _⟩ => rfl

/-- A sum over one entry. -/
theorem unit_sum (h : (⟨3, ![1, 1, 1]⟩ : Shape).Reduces [1, 2] ⟨1, ![1]⟩) (v : (⟨3, ![1, 1, 1]⟩ : Shape).Idx → EReal) (c : Fin 1) :
    Ideal.reduceAdd h v (ix1 c) = v (ix3 0 0 0) := by
  have hu : ∀ i : (⟨3, ![1, 1, 1]⟩ : Shape).Idx, i = ix3 0 0 0 := fun i => funext fun a =>
    match a with
    | ⟨0, _⟩ => Subsingleton.elim (α := Fin 1) _ _
    | ⟨1, _⟩ => Subsingleton.elim (α := Fin 1) _ _
    | ⟨2, _⟩ => Subsingleton.elim (α := Fin 1) _ _
  rw [Ideal.reduceAdd_total h fun b => match b with | ⟨0, _⟩ => rfl]
  exact (Finset.sum_congr (Finset.eq_singleton_iff_unique_mem.mpr ⟨Finset.mem_univ _, fun i _ => hu i⟩) fun _ _ => rfl).trans
    (Finset.sum_singleton _ _)

/-- A host sum of a one-row matrix. -/
theorem line_sum {n : ℕ} (h : (⟨2, ![1, n]⟩ : Shape).ReducesTo [0, 1] ⟨0, ![]⟩) (v : (⟨2, ![1, n]⟩ : Shape).Idx → EReal)
    (z : EReal) (j : (⟨0, ![]⟩ : Shape).Idx) : Ideal.hostReduceAdd h v z j = z + ∑ i : Fin n, v (ix2 0 i) := by
  rw [Ideal.hostReduceAdd_total h fun b => b.elim0]
  refine congrArg (z + ·) (Fintype.sum_bijective (fun i : Fin n => (ix2 0 i : (⟨2, ![1, n]⟩ : Shape).Idx)) ⟨fun a b e => ?_, fun y => ?_⟩ _ _
    fun _ => rfl).symm
  · exact congrFun e 1
  · obtain ⟨a, b, rfl⟩ := Products.exists_ix2 y
    obtain rfl : a = 0 := Subsingleton.elim _ _
    exact ⟨b, rfl⟩

/-! ## The loss's constants -/

theorem half_eq : half = (((1 : ℝ) / 2 : ℝ) : EReal) := by
  unfold half
  simp [Ideal.ofBits, Ideal.ieee, -EReal.coe_mul]; norm_num

/-- Twice an entry under a factor. -/
theorem twice (k y : EReal) : k * (Ideal.ofBits .f32 0x40000000#32 * y) = y * k + k * y := by
  have h : Ideal.ofBits .f32 0x40000000#32 = ((2 : ℝ) : EReal) := by
    simp [Ideal.ofBits, Ideal.ieee, -EReal.coe_mul]; norm_num
  have h1 : ((2 : ℝ) : EReal) = 1 + 1 := by rw [show (2 : ℝ) = 1 + 1 by norm_num]; rfl
  rw [h, mul_left_comm, h1, EReal.right_distrib_of_nonneg zero_le_one zero_le_one, one_mul, mul_comm y k]

/-- One half of a sum, term by term. -/
theorem half_sum : ∀ {n : ℕ} (f : Fin n → EReal), ∑ s, half * f s = half * ∑ s, f s
  | 0, f => by rw [Fin.sum_univ_zero, Fin.sum_univ_zero, mul_zero]
  | n + 1, f => by
    rw [Fin.sum_univ_castSucc, Fin.sum_univ_castSucc, half_sum,
      EReal.left_distrib_of_nonneg_of_ne_top (half_eq ▸ EReal.coe_nonneg.mpr (by norm_num)) (half_eq ▸ EReal.coe_ne_top _)]

end Rows

end
-- ==== Proof.NormBwdValue.lean ====
module

public import proofs.«01_k».proof.Proof.Gen.NormBwdIdeal.Value
public import proofs.«01_k».proof.Proof.Rows

/-!
  The gradient of a later layer's modulated norm, and the start of the layer below's: the arrays that the call leaves.
-/

@[expose] public section

set_option maxRecDepth 16384

noncomputable section

namespace Cert.NormBwdIdeal.Value

open Cert.NormBwdIdeal Cert.NormBwdIdeal.Gen Idealize.ShloMosaic Idealize.ShloMosaic.TcCoe Idealize.SL.Sem StableHlo

variable (m : (ℓ : Loc nD τ sig) → Buf (Elt Ideal) ℓ) (ρ : Dev nD → PrngReg) (c : Dev nD)

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![t.val, 0] := by decide +kernel
theorem index8 : ∀ t : Fin cfg0.N, win0_8.index t = ![t.val, 0] := by decide +kernel
theorem index9 : ∀ t : Fin cfg0.N, win0_9.index t = ![t.val, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0] := by decide +kernel
theorem index10 : ∀ t : Fin cfg0.N, win0_10.index t = ![0, 0] := by decide +kernel
theorem index11 : ∀ t : Fin cfg0.N, win0_11.index t = ![0, 0] := by decide +kernel
theorem index12 : ∀ t : Fin cfg0.N, win0_12.index t = ![0, 0] := by decide +kernel
theorem index13 : ∀ t : Fin cfg0.N, win0_13.index t = ![0, 0] := by decide +kernel

/-! ## The blocks of the arguments -/

theorem row0 (t : Fin cfg0.N) (i : Fin 256) (h : 256 * t.val + i.val < 4096) :
    Rows.row (n := 256) (iblk m c 0 t) i = Rows.row (n := 4096) (m (c.tc.loc main_arg0)) ⟨256 * t.val + i.val, h⟩ := by
  funext e
  unfold Rows.row
  blk_ext [iblk, V_main_arg0, index0 t]

theorem row1 (t : Fin cfg0.N) (i : Fin 256) (h : 256 * t.val + i.val < 4096) :
    Rows.row (n := 256) (iblk m c 1 t) i = Rows.row (n := 4096) (m (c.tc.loc main_arg1)) ⟨256 * t.val + i.val, h⟩ := by
  funext e
  unfold Rows.row
  blk_ext [iblk, V_main_arg1, index1 t]

theorem row2 (t : Fin cfg0.N) (i : Fin 256) (h : 256 * t.val + i.val < 4096) :
    Rows.row (n := 256) (iblk m c 2 t) i = Rows.row (n := 4096) (m (c.tc.loc main_arg2)) ⟨256 * t.val + i.val, h⟩ := by
  funext e
  unfold Rows.row
  blk_ext [iblk, V_main_arg2, index2 t]

theorem row3 (t : Fin cfg0.N) (i : Fin 256) (h : 256 * t.val + i.val < 4096) :
    Rows.row (n := 256) (iblk m c 3 t) i = Rows.row (n := 4096) (m (c.tc.loc main_arg3)) ⟨256 * t.val + i.val, h⟩ := by
  funext e
  unfold Rows.row
  blk_ext [iblk, V_main_arg3, index3 t]

theorem V_gain : V m c main_v0 = fun i : S1x2048.Idx => (m (c.tc.loc main_arg4) : S2048.Idx → EReal) (ix1 (i 1)) := by
  show StableHlo.after hostOps0 _ _ = _
  simp only [hostOps0]
  after_results_simp
  funext i
  pointwise

theorem line4 (t : Fin cfg0.N) : Rows.line (iblk m c 4 t) = Rows.par (m (c.tc.loc main_arg4)) := by
  funext e
  refine (congrFun (V_gain m c) _).trans (congrArg _ ?_)
  blk_ext [index4 t]

theorem V_shift : V m c main_v1 = fun i : S1x2048.Idx => (m (c.tc.loc main_arg5) : S2048.Idx → EReal) (ix1 (i 1)) := by
  show StableHlo.after hostOps0 _ _ = _
  simp only [hostOps0]
  after_results_simp
  funext i
  pointwise

theorem line5 (t : Fin cfg0.N) : Rows.line (iblk m c 5 t) = Rows.par (m (c.tc.loc main_arg5)) := by
  funext e
  refine (congrFun (V_shift m c) _).trans (congrArg _ ?_)
  blk_ext [index5 t]

theorem V_scale : V m c main_v2 = fun i : S1x2048.Idx => (m (c.tc.loc main_arg6) : S2048.Idx → EReal) (ix1 (i 1)) := by
  show StableHlo.after hostOps0 _ _ = _
  simp only [hostOps0]
  after_results_simp
  funext i
  pointwise

theorem line6 (t : Fin cfg0.N) : Rows.line (iblk m c 6 t) = Rows.par (m (c.tc.loc main_arg6)) := by
  funext e
  refine (congrFun (V_scale m c) _).trans (congrArg _ ?_)
  blk_ext [index6 t]

theorem V_gate : V m c main_v3 = fun i : S1x2048.Idx => (m (c.tc.loc main_arg7) : S2048.Idx → EReal) (ix1 (i 1)) := by
  show StableHlo.after hostOps0 _ _ = _
  simp only [hostOps0]
  after_results_simp
  funext i
  pointwise

theorem line7 (t : Fin cfg0.N) : Rows.line (iblk m c 7 t) = Rows.par (m (c.tc.loc main_arg7)) := by
  funext e
  refine (congrFun (V_gate m c) _).trans (congrArg _ ?_)
  blk_ext [index7 t]

/-! ## What each grid point leaves -/

set_option maxHeartbeats 1000000 in
theorem out_dx (t : Fin cfg0.N) (i : Fin 256) (e : Fin 2048) :
    (outsAt0 m c t.val t.isLt).1 (ix2 i e) = Rows.normDx (n := 256) (iblk m c 0 t) (iblk m c 1 t) (iblk m c 2 t) (Rows.line (iblk m c 4 t)) (Rows.line (iblk m c 6 t)) (ix2 i e) := by
  have ht : t.val < 16 := t.isLt
  by_cases h : t.val = 0
  · rw [outsAt0_A m c t (by omega) (by omega) (by omega) (by omega) (by omega) (by omega) (by omega) (by omega)]
    dsimp only
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, Fin.sum_univ_one]
    rfl
  · rw [outsAt0_B m c t (by omega) (by omega) (by omega) (by omega) (by omega) (by omega) (by omega) (by omega)]
    dsimp only
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, Fin.sum_univ_one]
    rfl

set_option maxHeartbeats 1000000 in
theorem out_dy (t : Fin cfg0.N) (i : Fin 256) (e : Fin 2048) :
    (outsAt0 m c t.val t.isLt).2.1 (ix2 i e) = Rows.scaled (n := 256) (Rows.line (iblk m c 7 t)) (Rows.normDx (n := 256) (iblk m c 0 t) (iblk m c 1 t) (iblk m c 2 t) (Rows.line (iblk m c 4 t)) (Rows.line (iblk m c 6 t))) (ix2 i e) := by
  have ht : t.val < 16 := t.isLt
  by_cases h : t.val = 0
  · rw [outsAt0_A m c t (by omega) (by omega) (by omega) (by omega) (by omega) (by omega) (by omega) (by omega)]
    dsimp only
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, Fin.sum_univ_one]
    rfl
  · rw [outsAt0_B m c t (by omega) (by omega) (by omega) (by omega) (by omega) (by omega) (by omega) (by omega)]
    dsimp only
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, Fin.sum_univ_one]
    rfl

theorem first_dg (t : Fin cfg0.N) (h : t.val = 0) (e : Fin 2048) :
    (outsAt0 m c t.val t.isLt).2.2.1 (ix2 0 e) = Rows.normDg (n := 256) (iblk m c 0 t) (iblk m c 1 t) (Rows.line (iblk m c 6 t)) e := by
  rw [outsAt0_A m c t (by omega) (by omega) (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rfl

theorem later_dg (t : Fin cfg0.N) (h : ¬t.val = 0) (e : Fin 2048) :
    (outsAt0 m c t.val t.isLt).2.2.1 (ix2 0 e)
      = (outsAt0 m c (t.val - 1) (Nat.lt_of_le_of_lt (Nat.sub_le _ _) t.isLt)).2.2.1 (ix2 0 e) + Rows.normDg (n := 256) (iblk m c 0 t) (iblk m c 1 t) (Rows.line (iblk m c 6 t)) e := by
  have ht : t.val < 16 := t.isLt
  rw [outsAt0_B m c t (by omega) (by omega) (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rfl

theorem first_dshift (t : Fin cfg0.N) (h : t.val = 0) (e : Fin 2048) :
    (outsAt0 m c t.val t.isLt).2.2.2.1 (ix2 0 e) = Rows.normDshift (n := 256) (iblk m c 1 t) e := by
  rw [outsAt0_A m c t (by omega) (by omega) (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rfl

theorem later_dshift (t : Fin cfg0.N) (h : ¬t.val = 0) (e : Fin 2048) :
    (outsAt0 m c t.val t.isLt).2.2.2.1 (ix2 0 e)
      = (outsAt0 m c (t.val - 1) (Nat.lt_of_le_of_lt (Nat.sub_le _ _) t.isLt)).2.2.2.1 (ix2 0 e) + Rows.normDshift (n := 256) (iblk m c 1 t) e := by
  have ht : t.val < 16 := t.isLt
  rw [outsAt0_B m c t (by omega) (by omega) (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rfl

theorem first_dscale (t : Fin cfg0.N) (h : t.val = 0) (e : Fin 2048) :
    (outsAt0 m c t.val t.isLt).2.2.2.2.1 (ix2 0 e) = Rows.normDscale (n := 256) (iblk m c 0 t) (iblk m c 1 t) (Rows.line (iblk m c 4 t)) e := by
  rw [outsAt0_A m c t (by omega) (by omega) (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rfl

theorem later_dscale (t : Fin cfg0.N) (h : ¬t.val = 0) (e : Fin 2048) :
    (outsAt0 m c t.val t.isLt).2.2.2.2.1 (ix2 0 e)
      = (outsAt0 m c (t.val - 1) (Nat.lt_of_le_of_lt (Nat.sub_le _ _) t.isLt)).2.2.2.2.1 (ix2 0 e) + Rows.normDscale (n := 256) (iblk m c 0 t) (iblk m c 1 t) (Rows.line (iblk m c 4 t)) e := by
  have ht : t.val < 16 := t.isLt
  rw [outsAt0_B m c t (by omega) (by omega) (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rfl

theorem first_dgate (t : Fin cfg0.N) (h : t.val = 0) (e : Fin 2048) :
    (outsAt0 m c t.val t.isLt).2.2.2.2.2 (ix2 0 e) = Rows.dots (n := 256) (Rows.normDx (n := 256) (iblk m c 0 t) (iblk m c 1 t) (iblk m c 2 t) (Rows.line (iblk m c 4 t)) (Rows.line (iblk m c 6 t))) (iblk m c 3 t) e := by
  rw [outsAt0_A m c t (by omega) (by omega) (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, Fin.sum_univ_one]
  rfl

theorem later_dgate (t : Fin cfg0.N) (h : ¬t.val = 0) (e : Fin 2048) :
    (outsAt0 m c t.val t.isLt).2.2.2.2.2 (ix2 0 e)
      = (outsAt0 m c (t.val - 1) (Nat.lt_of_le_of_lt (Nat.sub_le _ _) t.isLt)).2.2.2.2.2 (ix2 0 e) + Rows.dots (n := 256) (Rows.normDx (n := 256) (iblk m c 0 t) (iblk m c 1 t) (iblk m c 2 t) (Rows.line (iblk m c 4 t)) (Rows.line (iblk m c 6 t))) (iblk m c 3 t) e := by
  have ht : t.val < 16 := t.isLt
  rw [outsAt0_B m c t (by omega) (by omega) (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, Fin.sum_univ_one]
  rfl

/-! ## The result arrays -/

/-- The rows' gradient. -/
def dxArr : FVec Ideal S4096x2048 .f32 :=
  Rows.normDx (n := 4096) (m (c.tc.loc main_arg0)) (m (c.tc.loc main_arg1)) (m (c.tc.loc main_arg2)) (Rows.par (m (c.tc.loc main_arg4))) (Rows.par (m (c.tc.loc main_arg6)))

/-- The gradient of the layer below's branch. -/
def dyArr : FVec Ideal S4096x2048 .bf16 :=
  Rows.scaled (n := 4096) (Rows.par (m (c.tc.loc main_arg7))) (Rows.normDx (n := 4096) (m (c.tc.loc main_arg0)) (m (c.tc.loc main_arg1)) (m (c.tc.loc main_arg2)) (Rows.par (m (c.tc.loc main_arg4))) (Rows.par (m (c.tc.loc main_arg6))))

/-- The gain's gradient. -/
def dgArr : FVec Ideal S1x2048 .f32 :=
  Rows.lineOf <| Rows.normDg (n := 4096) (m (c.tc.loc main_arg0)) (m (c.tc.loc main_arg1)) (Rows.par (m (c.tc.loc main_arg6)))

/-- The shift's gradient. -/
def dshiftArr : FVec Ideal S1x2048 .f32 :=
  Rows.lineOf <| Rows.normDshift (n := 4096) (m (c.tc.loc main_arg1))

/-- The scale's gradient. -/
def dscaleArr : FVec Ideal S1x2048 .f32 :=
  Rows.lineOf <| Rows.normDscale (n := 4096) (m (c.tc.loc main_arg0)) (m (c.tc.loc main_arg1)) (Rows.par (m (c.tc.loc main_arg4)))

/-- The gate's gradient. -/
def dgateArr : FVec Ideal S1x2048 .f32 :=
  Rows.lineOf <| Rows.dots (n := 4096) (Rows.normDx (n := 4096) (m (c.tc.loc main_arg0)) (m (c.tc.loc main_arg1)) (m (c.tc.loc main_arg2)) (Rows.par (m (c.tc.loc main_arg4))) (Rows.par (m (c.tc.loc main_arg6)))) (m (c.tc.loc main_arg3))

theorem final_dx : (dats m 0 c).arrAt 8 cfg0.N = dxArr m c := by
  refine (dats m 0 c).arrAt_eq_of_covers 8 (dxArr m c) (by decide +kernel) fun t hf y => ?_
  have ht : t.val < 16 := t.isLt
  blk_simp
  rw [after0_8]
  obtain ⟨i, e, rfl⟩ := Products.exists_ix2 (m := 256) (n := 2048) y
  have h : 256 * t.val + i.val < 4096 := by omega
  refine (out_dx m c t i e).trans ?_
  have hx : ((win0_8.blk t).view.emb (ix2 i e) : S4096x2048.Idx) = ix2 ⟨256 * t.val + i.val, h⟩ e := by
    blk_ext [index8 t]
  rw [hx]
  unfold dxArr
  rw [Rows.normDx_apply, Rows.normDx_apply]
  rw [row0 m c t i h, row1 m c t i h, row2 m c t i h, line4 m c t, line6 m c t]

theorem final_dy : (dats m 0 c).arrAt 9 cfg0.N = dyArr m c := by
  refine (dats m 0 c).arrAt_eq_of_covers 9 (dyArr m c) (by decide +kernel) fun t hf y => ?_
  have ht : t.val < 16 := t.isLt
  blk_simp
  rw [after0_9]
  obtain ⟨i, e, rfl⟩ := Products.exists_ix2 (m := 256) (n := 2048) y
  have h : 256 * t.val + i.val < 4096 := by omega
  refine (out_dy m c t i e).trans ?_
  have hx : ((win0_9.blk t).view.emb (ix2 i e) : S4096x2048.Idx) = ix2 ⟨256 * t.val + i.val, h⟩ e := by
    blk_ext [index9 t]
  rw [hx]
  unfold dyArr
  rw [Rows.scaled_apply, Rows.scaled_apply, Rows.row_normDx, Rows.row_normDx]
  rw [row0 m c t i h, row1 m c t i h, row2 m c t i h, line4 m c t, line6 m c t, line7 m c t]

theorem final_dg : (dats m 0 c).arrAt 10 cfg0.N = dgArr m c := by
  refine (dats m 0 c).arrAt_eq_of_covers 10 (dgArr m c) (by decide +kernel) fun t hf y => ?_
  have ht : t.val = 15 := by have := (flush0_10 t).mp hf; have : t.val < 16 := t.isLt; omega
  blk_simp
  rw [after0_10]
  obtain ⟨a, e, rfl⟩ := Products.exists_ix2 (m := 1) (n := 2048) y
  obtain rfl : a = 0 := Subsingleton.elim _ _
  have hx : ((win0_10.blk t).view.emb (ix2 0 e) : S1x2048.Idx) = ix2 0 e := by
    blk_ext [index10]
  rw [hx]
  refine (Rows.accum_last (N := cfg0.N) (L := 16) (fun n h => (outsAt0 m c n h).2.2.1 (ix2 0 e)) (fun n h => Rows.normDg (n := 256) (iblk m c 0 ⟨n, h⟩) (iblk m c 1 ⟨n, h⟩) (Rows.line (iblk m c 6 ⟨n, h⟩)) e)
    (fun h => first_dg m c ⟨0, h⟩ rfl e) (fun n h => later_dg m c ⟨n + 1, h⟩ (Nat.succ_ne_zero n) e) _ t.isLt (by omega)).trans ?_
  unfold dgArr Rows.lineOf Rows.normDg
  show _ = (∑ i : Fin 4096, _ : EReal)
  rw [Rows.sum_rows]
  refine Finset.sum_congr rfl fun k _ => Finset.sum_congr rfl fun i _ => ?_
  have h : 256 * k.val + i.val < 4096 := by have := k.isLt; omega
  have hk : k.val < cfg0.N := k.isLt
  rw [row0 m c ⟨k.val, hk⟩ i h, row1 m c ⟨k.val, hk⟩ i h, line6 m c ⟨k.val, hk⟩]
  rfl

theorem final_dshift : (dats m 0 c).arrAt 11 cfg0.N = dshiftArr m c := by
  refine (dats m 0 c).arrAt_eq_of_covers 11 (dshiftArr m c) (by decide +kernel) fun t hf y => ?_
  have ht : t.val = 15 := by have := (flush0_11 t).mp hf; have : t.val < 16 := t.isLt; omega
  blk_simp
  rw [after0_11]
  obtain ⟨a, e, rfl⟩ := Products.exists_ix2 (m := 1) (n := 2048) y
  obtain rfl : a = 0 := Subsingleton.elim _ _
  have hx : ((win0_11.blk t).view.emb (ix2 0 e) : S1x2048.Idx) = ix2 0 e := by
    blk_ext [index11]
  rw [hx]
  refine (Rows.accum_last (N := cfg0.N) (L := 16) (fun n h => (outsAt0 m c n h).2.2.2.1 (ix2 0 e)) (fun n h => Rows.normDshift (n := 256) (iblk m c 1 ⟨n, h⟩) e)
    (fun h => first_dshift m c ⟨0, h⟩ rfl e) (fun n h => later_dshift m c ⟨n + 1, h⟩ (Nat.succ_ne_zero n) e) _ t.isLt (by omega)).trans ?_
  unfold dshiftArr Rows.lineOf Rows.normDshift
  show _ = (∑ i : Fin 4096, _ : EReal)
  rw [Rows.sum_rows]
  refine Finset.sum_congr rfl fun k _ => Finset.sum_congr rfl fun i _ => ?_
  have h : 256 * k.val + i.val < 4096 := by have := k.isLt; omega
  have hk : k.val < cfg0.N := k.isLt
  rw [row1 m c ⟨k.val, hk⟩ i h]
  rfl

theorem final_dscale : (dats m 0 c).arrAt 12 cfg0.N = dscaleArr m c := by
  refine (dats m 0 c).arrAt_eq_of_covers 12 (dscaleArr m c) (by decide +kernel) fun t hf y => ?_
  have ht : t.val = 15 := by have := (flush0_12 t).mp hf; have : t.val < 16 := t.isLt; omega
  blk_simp
  rw [after0_12]
  obtain ⟨a, e, rfl⟩ := Products.exists_ix2 (m := 1) (n := 2048) y
  obtain rfl : a = 0 := Subsingleton.elim _ _
  have hx : ((win0_12.blk t).view.emb (ix2 0 e) : S1x2048.Idx) = ix2 0 e := by
    blk_ext [index12]
  rw [hx]
  refine (Rows.accum_last (N := cfg0.N) (L := 16) (fun n h => (outsAt0 m c n h).2.2.2.2.1 (ix2 0 e)) (fun n h => Rows.normDscale (n := 256) (iblk m c 0 ⟨n, h⟩) (iblk m c 1 ⟨n, h⟩) (Rows.line (iblk m c 4 ⟨n, h⟩)) e)
    (fun h => first_dscale m c ⟨0, h⟩ rfl e) (fun n h => later_dscale m c ⟨n + 1, h⟩ (Nat.succ_ne_zero n) e) _ t.isLt (by omega)).trans ?_
  unfold dscaleArr Rows.lineOf Rows.normDscale
  show _ = (∑ i : Fin 4096, _ : EReal)
  rw [Rows.sum_rows]
  refine Finset.sum_congr rfl fun k _ => Finset.sum_congr rfl fun i _ => ?_
  have h : 256 * k.val + i.val < 4096 := by have := k.isLt; omega
  have hk : k.val < cfg0.N := k.isLt
  rw [row0 m c ⟨k.val, hk⟩ i h, row1 m c ⟨k.val, hk⟩ i h, line4 m c ⟨k.val, hk⟩]
  rfl

theorem final_dgate : (dats m 0 c).arrAt 13 cfg0.N = dgateArr m c := by
  refine (dats m 0 c).arrAt_eq_of_covers 13 (dgateArr m c) (by decide +kernel) fun t hf y => ?_
  have ht : t.val = 15 := by have := (flush0_13 t).mp hf; have : t.val < 16 := t.isLt; omega
  blk_simp
  rw [after0_13]
  obtain ⟨a, e, rfl⟩ := Products.exists_ix2 (m := 1) (n := 2048) y
  obtain rfl : a = 0 := Subsingleton.elim _ _
  have hx : ((win0_13.blk t).view.emb (ix2 0 e) : S1x2048.Idx) = ix2 0 e := by
    blk_ext [index13]
  rw [hx]
  refine (Rows.accum_last (N := cfg0.N) (L := 16) (fun n h => (outsAt0 m c n h).2.2.2.2.2 (ix2 0 e)) (fun n h => Rows.dots (n := 256) (Rows.normDx (n := 256) (iblk m c 0 ⟨n, h⟩) (iblk m c 1 ⟨n, h⟩) (iblk m c 2 ⟨n, h⟩) (Rows.line (iblk m c 4 ⟨n, h⟩)) (Rows.line (iblk m c 6 ⟨n, h⟩))) (iblk m c 3 ⟨n, h⟩) e)
    (fun h => first_dgate m c ⟨0, h⟩ rfl e) (fun n h => later_dgate m c ⟨n + 1, h⟩ (Nat.succ_ne_zero n) e) _ t.isLt (by omega)).trans ?_
  unfold dgateArr Rows.lineOf Rows.dots
  show _ = (∑ i : Fin 4096, _ : EReal)
  rw [Rows.sum_rows]
  refine Finset.sum_congr rfl fun k _ => Finset.sum_congr rfl fun i _ => ?_
  have h : 256 * k.val + i.val < 4096 := by have := k.isLt; omega
  have hk : k.val < cfg0.N := k.isLt
  rw [Rows.row_normDx, Rows.row_normDx, row0 m c ⟨k.val, hk⟩ i h, row1 m c ⟨k.val, hk⟩ i h, row2 m c ⟨k.val, hk⟩ i h, row3 m c ⟨k.val, hk⟩ i h, line4 m c ⟨k.val, hk⟩, line6 m c ⟨k.val, hk⟩]
  rfl

theorem kernel_run : θ_run defs (onTc (τ := τ) (main (F := Ideal))) ⟨m, fun _ => 0, ρ⟩ fun r => ∀ c : Dev nD,
      r.2.mem ((c.tc : Thread nD τ).loc main_v4_0) = dxArr m c
      ∧ r.2.mem ((c.tc : Thread nD τ).loc main_v4_1) = dyArr m c
      ∧ r.2.mem ((c.tc : Thread nD τ).loc main_v4_2) = dgArr m c
      ∧ r.2.mem ((c.tc : Thread nD τ).loc main_v4_3) = dshiftArr m c
      ∧ r.2.mem ((c.tc : Thread nD τ).loc main_v4_4) = dscaleArr m c
      ∧ r.2.mem ((c.tc : Thread nD τ).loc main_v4_5) = dgateArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (final_dx m c), ((h c).2).1.trans (final_dy m c), (((h c).2).2).1.trans (final_dg m c), ((((h c).2).2).2).1.trans (final_dshift m c), (((((h c).2).2).2).2).1.trans (final_dscale m c), ((((((h c).2).2).2).2).2).1.trans (final_dgate m c), ((((((h c).2).2).2).2).2).2⟩) (run_blocks m ρ)

end Cert.NormBwdIdeal.Value

end
-- ==== Proof.NormBwdClaim.lean ====
module

public import proofs.«01_k».proof.Defs
public import proofs.«01_k».proof.Proof.Gen.NormBwd.Frame
public import proofs.«01_k».proof.Proof.Gen.NormBwdRefIdeal.Run
public import proofs.«01_k».proof.Proof.NormBwdValue
public import Idealize.ShloMosaic.Adequacy
public import Idealize.ShloMosaic.Init

/-!
  The gradient of a later layer's modulated norm: what the reference computes, and the claims.
-/

@[expose] public section

set_option maxRecDepth 16384

noncomputable section

namespace Cert.NormBwdRefIdeal.Value

open Cert.NormBwdRefIdeal Cert.NormBwdRefIdeal.Gen Idealize.ShloMosaic Idealize.ShloMosaic.TcCoe Idealize.SL.Sem StableHlo

/-- What the reference leaves: the gradients of the modulated norm, the residual's added, and those of the gated branch below. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = (Rows.normDx (n := 4096) (m (c.tc.loc main_arg0)) (m (c.tc.loc main_arg1)) (m (c.tc.loc main_arg2)) (Rows.par (m (c.tc.loc main_arg4))) (Rows.par (m (c.tc.loc main_arg6))) : FVec Ideal S4096x2048 .f32)
      ∧ r.2.mem ((c.tc : Thread nD τ).loc main_v67) = (Rows.scaled (n := 4096) (Rows.par (m (c.tc.loc main_arg7))) (Rows.normDx (n := 4096) (m (c.tc.loc main_arg0)) (m (c.tc.loc main_arg1)) (m (c.tc.loc main_arg2)) (Rows.par (m (c.tc.loc main_arg4))) (Rows.par (m (c.tc.loc main_arg6)))) : FVec Ideal S4096x2048 .bf16)
      ∧ r.2.mem ((c.tc : Thread nD τ).loc main_v68) = (Rows.lineOf <| Rows.normDg (n := 4096) (m (c.tc.loc main_arg0)) (m (c.tc.loc main_arg1)) (Rows.par (m (c.tc.loc main_arg6))) : FVec Ideal S1x2048 .f32)
      ∧ r.2.mem ((c.tc : Thread nD τ).loc main_v69) = (Rows.lineOf <| Rows.normDshift (n := 4096) (m (c.tc.loc main_arg1)) : FVec Ideal S1x2048 .f32)
      ∧ r.2.mem ((c.tc : Thread nD τ).loc main_v70) = (Rows.lineOf <| Rows.normDscale (n := 4096) (m (c.tc.loc main_arg0)) (m (c.tc.loc main_arg1)) (Rows.par (m (c.tc.loc main_arg4))) : FVec Ideal S1x2048 .f32)
      ∧ r.2.mem ((c.tc : Thread nD τ).loc main_v71) = (Rows.lineOf <| Rows.dots (n := 4096) (Rows.normDx (n := 4096) (m (c.tc.loc main_arg0)) (m (c.tc.loc main_arg1)) (m (c.tc.loc main_arg2)) (Rows.par (m (c.tc.loc main_arg4))) (Rows.par (m (c.tc.loc main_arg6)))) (m (c.tc.loc main_arg3)) : FVec Ideal S1x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (run (F := Ideal) m ρ)
  obtain ⟨h0, h1, h2, h3, h4, h5, hargs⟩ := h c
  refine ⟨h0.trans ?_, h1.trans ?_, h2.trans ?_, h3.trans ?_, h4.trans ?_, h5.trans ?_, hargs⟩
  · refine Products.mat_ext (m := 4096) (n := 2048) fun i j => ?_
    unfold res_main_v65
    pointwise [Rows.ends_sum, Rows.lead_sum]
    rfl
  · refine Products.mat_ext (m := 4096) (n := 2048) fun i j => ?_
    unfold res_main_v67
    pointwise [Rows.ends_sum, Rows.lead_sum]
    rfl
  · refine Products.mat_ext (m := 1) (n := 2048) fun i j => ?_
    pointwise [Rows.ends_sum, Rows.lead_sum]
    rfl
  · refine Products.mat_ext (m := 1) (n := 2048) fun i j => ?_
    pointwise [Rows.ends_sum, Rows.lead_sum]
    rfl
  · refine Products.mat_ext (m := 1) (n := 2048) fun i j => ?_
    pointwise [Rows.ends_sum, Rows.lead_sum]
    rfl
  · refine Products.mat_ext (m := 1) (n := 2048) fun i j => ?_
    unfold res_main_v71
    pointwise [Rows.ends_sum, Rows.lead_sum]
    rfl

end Cert.NormBwdRefIdeal.Value

namespace Cert.Proof

open Idealize.ShloMosaic Idealize.SL.Sem

theorem norm_bwd_frame : Cert.quiescent_NormBwd (hNormBwd := Cert.NormBwd.Gen.facts) := fun m ρ _ => Cert.NormBwd.Gen.frame m ρ

theorem norm_bwd_frame_ideal : Cert.quiescent_NormBwdIdeal (hNormBwdIdeal := Cert.NormBwdIdeal.Gen.facts) :=
  fun m ρ _ => Cert.NormBwdIdeal.Gen.frame m ρ

theorem norm_bwd_frame_ref : Cert.quiescent_NormBwdRefIdeal (hNormBwdRefIdeal := Cert.NormBwdRefIdeal.Gen.facts) := fun m ρ _ =>
  (θ_run Cert.NormBwdRefIdeal.defs _ _).mono (fun r h => ⟨fun c => (h c).2.2.2.2.2.2,
      Idealize.ShloMosaic.sem_eq_zero_of_no_sems (by decide) r.2⟩)
    (Cert.NormBwdRefIdeal.Value.run (F := Ideal) m ρ)

theorem norm_bwd_algebraic : Cert.algebraic_NormBwdIdeal_NormBwdRefIdeal (hNormBwdIdeal := Cert.NormBwdIdeal.Gen.facts)
    (hNormBwdRefIdeal := Cert.NormBwdRefIdeal.Gen.facts) := fun m ρ m' ρ' _ hagree =>
  ⟨fun c => Cert.NormBwdIdeal.Value.dxArr m c, fun c => Cert.NormBwdIdeal.Value.dyArr m c, fun c => Cert.NormBwdIdeal.Value.dgArr m c, fun c => Cert.NormBwdIdeal.Value.dshiftArr m c, fun c => Cert.NormBwdIdeal.Value.dscaleArr m c, fun c => Cert.NormBwdIdeal.Value.dgateArr m c, Cert.NormBwdIdeal.Value.kernel_run m ρ,
    (θ_run Cert.NormBwdRefIdeal.defs _ _).mono (fun r h c => by
      obtain ⟨h0, h1, h2, h3, h4, h5, hargs⟩ := h c
      refine ⟨h0.trans ?_, h1.trans ?_, h2.trans ?_, h3.trans ?_, h4.trans ?_, h5.trans ?_, hargs⟩
      · rw [(hagree c).1, (hagree c).2.1, (hagree c).2.2.1, (hagree c).2.2.2.2.1, (hagree c).2.2.2.2.2.2.1]
        rfl
      · rw [(hagree c).1, (hagree c).2.1, (hagree c).2.2.1, (hagree c).2.2.2.2.1, (hagree c).2.2.2.2.2.2.1, (hagree c).2.2.2.2.2.2.2]
        rfl
      · rw [(hagree c).1, (hagree c).2.1, (hagree c).2.2.2.2.2.2.1]
        rfl
      · rw [(hagree c).2.1]
        rfl
      · rw [(hagree c).1, (hagree c).2.1, (hagree c).2.2.2.2.1]
        rfl
      · rw [(hagree c).1, (hagree c).2.1, (hagree c).2.2.1, (hagree c).2.2.2.1, (hagree c).2.2.2.2.1, (hagree c).2.2.2.2.2.2.1]
        rfl)
      (Cert.NormBwdRefIdeal.Value.reference_run m' ρ')⟩

end Cert.Proof

end
-- ==== Proof.NormBwdFirstValue.lean ====
module

public import proofs.«01_k».proof.Proof.Gen.NormBwdFirstIdeal.Value
public import proofs.«01_k».proof.Proof.Rows

/-!
  The gradient of the first layer's modulated norm: the arrays that the call leaves.
-/

@[expose] public section

set_option maxRecDepth 16384

noncomputable section

namespace Cert.NormBwdFirstIdeal.Value

open Cert.NormBwdFirstIdeal Cert.NormBwdFirstIdeal.Gen Idealize.ShloMosaic Idealize.ShloMosaic.TcCoe Idealize.SL.Sem StableHlo

variable (m : (ℓ : Loc nD τ sig) → Buf (Elt Ideal) ℓ) (ρ : Dev nD → PrngReg) (c : Dev nD)

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index6 : ∀ t : Fin cfg0.N, win0_6.index t = ![t.val, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index7 : ∀ t : Fin cfg0.N, win0_7.index t = ![0, 0] := by decide +kernel
theorem index8 : ∀ t : Fin cfg0.N, win0_8.index t = ![0, 0] := by decide +kernel
theorem index9 : ∀ t : Fin cfg0.N, win0_9.index t = ![0, 0] := by decide +kernel

/-! ## The blocks of the arguments -/

theorem row0 (t : Fin cfg0.N) (i : Fin 256) (h : 256 * t.val + i.val < 4096) :
    Rows.row (n := 256) (iblk m c 0 t) i = Rows.row (n := 4096) (m (c.tc.loc main_arg0)) ⟨256 * t.val + i.val, h⟩ := by
  funext e
  unfold Rows.row
  blk_ext [iblk, V_main_arg0, index0 t]

theorem row1 (t : Fin cfg0.N) (i : Fin 256) (h : 256 * t.val + i.val < 4096) :
    Rows.row (n := 256) (iblk m c 1 t) i = Rows.row (n := 4096) (m (c.tc.loc main_arg1)) ⟨256 * t.val + i.val, h⟩ := by
  funext e
  unfold Rows.row
  blk_ext [iblk, V_main_arg1, index1 t]

theorem row2 (t : Fin cfg0.N) (i : Fin 256) (h : 256 * t.val + i.val < 4096) :
    Rows.row (n := 256) (iblk m c 2 t) i = Rows.row (n := 4096) (m (c.tc.loc main_arg2)) ⟨256 * t.val + i.val, h⟩ := by
  funext e
  unfold Rows.row
  blk_ext [iblk, V_main_arg2, index2 t]

theorem V_gain : V m c main_v0 = fun i : S1x2048.Idx => (m (c.tc.loc main_arg3) : S2048.Idx → EReal) (ix1 (i 1)) := by
  show StableHlo.after hostOps0 _ _ = _
  simp only [hostOps0]
  after_results_simp
  funext i
  pointwise

theorem line3 (t : Fin cfg0.N) : Rows.line (iblk m c 3 t) = Rows.par (m (c.tc.loc main_arg3)) := by
  funext e
  refine (congrFun (V_gain m c) _).trans (congrArg _ ?_)
  blk_ext [index3 t]

theorem V_shift : V m c main_v1 = fun i : S1x2048.Idx => (m (c.tc.loc main_arg4) : S2048.Idx → EReal) (ix1 (i 1)) := by
  show StableHlo.after hostOps0 _ _ = _
  simp only [hostOps0]
  after_results_simp
  funext i
  pointwise

theorem line4 (t : Fin cfg0.N) : Rows.line (iblk m c 4 t) = Rows.par (m (c.tc.loc main_arg4)) := by
  funext e
  refine (congrFun (V_shift m c) _).trans (congrArg _ ?_)
  blk_ext [index4 t]

theorem V_scale : V m c main_v2 = fun i : S1x2048.Idx => (m (c.tc.loc main_arg5) : S2048.Idx → EReal) (ix1 (i 1)) := by
  show StableHlo.after hostOps0 _ _ = _
  simp only [hostOps0]
  after_results_simp
  funext i
  pointwise

theorem line5 (t : Fin cfg0.N) : Rows.line (iblk m c 5 t) = Rows.par (m (c.tc.loc main_arg5)) := by
  funext e
  refine (congrFun (V_scale m c) _).trans (congrArg _ ?_)
  blk_ext [index5 t]

/-! ## What each grid point leaves -/

set_option maxHeartbeats 1000000 in
theorem out_dx (t : Fin cfg0.N) (i : Fin 256) (e : Fin 2048) :
    (outsAt0 m c t.val t.isLt).1 (ix2 i e) = Rows.normDx (n := 256) (iblk m c 0 t) (iblk m c 1 t) (iblk m c 2 t) (Rows.line (iblk m c 3 t)) (Rows.line (iblk m c 5 t)) (ix2 i e) := by
  have ht : t.val < 16 := t.isLt
  by_cases h : t.val = 0
  · rw [outsAt0_A m c t (by omega) (by omega) (by omega) (by omega) (by omega) (by omega)]
    dsimp only
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, Fin.sum_univ_one]
    rfl
  · rw [outsAt0_B m c t (by omega) (by omega) (by omega) (by omega) (by omega) (by omega)]
    dsimp only
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, Fin.sum_univ_one]
    rfl

theorem first_dg (t : Fin cfg0.N) (h : t.val = 0) (e : Fin 2048) :
    (outsAt0 m c t.val t.isLt).2.1 (ix2 0 e) = Rows.normDg (n := 256) (iblk m c 0 t) (iblk m c 1 t) (Rows.line (iblk m c 5 t)) e := by
  rw [outsAt0_A m c t (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16]
  rfl

theorem later_dg (t : Fin cfg0.N) (h : ¬t.val = 0) (e : Fin 2048) :
    (outsAt0 m c t.val t.isLt).2.1 (ix2 0 e)
      = (outsAt0 m c (t.val - 1) (Nat.lt_of_le_of_lt (Nat.sub_le _ _) t.isLt)).2.1 (ix2 0 e) + Rows.normDg (n := 256) (iblk m c 0 t) (iblk m c 1 t) (Rows.line (iblk m c 5 t)) e := by
  have ht : t.val < 16 := t.isLt
  rw [outsAt0_B m c t (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16]
  rfl

theorem first_dshift (t : Fin cfg0.N) (h : t.val = 0) (e : Fin 2048) :
    (outsAt0 m c t.val t.isLt).2.2.1 (ix2 0 e) = Rows.normDshift (n := 256) (iblk m c 1 t) e := by
  rw [outsAt0_A m c t (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16]
  rfl

theorem later_dshift (t : Fin cfg0.N) (h : ¬t.val = 0) (e : Fin 2048) :
    (outsAt0 m c t.val t.isLt).2.2.1 (ix2 0 e)
      = (outsAt0 m c (t.val - 1) (Nat.lt_of_le_of_lt (Nat.sub_le _ _) t.isLt)).2.2.1 (ix2 0 e) + Rows.normDshift (n := 256) (iblk m c 1 t) e := by
  have ht : t.val < 16 := t.isLt
  rw [outsAt0_B m c t (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16]
  rfl

theorem first_dscale (t : Fin cfg0.N) (h : t.val = 0) (e : Fin 2048) :
    (outsAt0 m c t.val t.isLt).2.2.2 (ix2 0 e) = Rows.normDscale (n := 256) (iblk m c 0 t) (iblk m c 1 t) (Rows.line (iblk m c 3 t)) e := by
  rw [outsAt0_A m c t (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16]
  rfl

theorem later_dscale (t : Fin cfg0.N) (h : ¬t.val = 0) (e : Fin 2048) :
    (outsAt0 m c t.val t.isLt).2.2.2 (ix2 0 e)
      = (outsAt0 m c (t.val - 1) (Nat.lt_of_le_of_lt (Nat.sub_le _ _) t.isLt)).2.2.2 (ix2 0 e) + Rows.normDscale (n := 256) (iblk m c 0 t) (iblk m c 1 t) (Rows.line (iblk m c 3 t)) e := by
  have ht : t.val < 16 := t.isLt
  rw [outsAt0_B m c t (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16]
  rfl

/-! ## The result arrays -/

/-- The rows' gradient. -/
def dxArr : FVec Ideal S4096x2048 .f32 :=
  Rows.normDx (n := 4096) (m (c.tc.loc main_arg0)) (m (c.tc.loc main_arg1)) (m (c.tc.loc main_arg2)) (Rows.par (m (c.tc.loc main_arg3))) (Rows.par (m (c.tc.loc main_arg5)))

/-- The gain's gradient. -/
def dgArr : FVec Ideal S1x2048 .f32 :=
  Rows.lineOf <| Rows.normDg (n := 4096) (m (c.tc.loc main_arg0)) (m (c.tc.loc main_arg1)) (Rows.par (m (c.tc.loc main_arg5)))

/-- The shift's gradient. -/
def dshiftArr : FVec Ideal S1x2048 .f32 :=
  Rows.lineOf <| Rows.normDshift (n := 4096) (m (c.tc.loc main_arg1))

/-- The scale's gradient. -/
def dscaleArr : FVec Ideal S1x2048 .f32 :=
  Rows.lineOf <| Rows.normDscale (n := 4096) (m (c.tc.loc main_arg0)) (m (c.tc.loc main_arg1)) (Rows.par (m (c.tc.loc main_arg3)))

theorem final_dx : (dats m 0 c).arrAt 6 cfg0.N = dxArr m c := by
  refine (dats m 0 c).arrAt_eq_of_covers 6 (dxArr m c) (by decide +kernel) fun t hf y => ?_
  have ht : t.val < 16 := t.isLt
  blk_simp
  rw [after0_6]
  obtain ⟨i, e, rfl⟩ := Products.exists_ix2 (m := 256) (n := 2048) y
  have h : 256 * t.val + i.val < 4096 := by omega
  refine (out_dx m c t i e).trans ?_
  have hx : ((win0_6.blk t).view.emb (ix2 i e) : S4096x2048.Idx) = ix2 ⟨256 * t.val + i.val, h⟩ e := by
    blk_ext [index6 t]
  rw [hx]
  unfold dxArr
  rw [Rows.normDx_apply, Rows.normDx_apply]
  rw [row0 m c t i h, row1 m c t i h, row2 m c t i h, line3 m c t, line5 m c t]

theorem final_dg : (dats m 0 c).arrAt 7 cfg0.N = dgArr m c := by
  refine (dats m 0 c).arrAt_eq_of_covers 7 (dgArr m c) (by decide +kernel) fun t hf y => ?_
  have ht : t.val = 15 := by have := (flush0_7 t).mp hf; have : t.val < 16 := t.isLt; omega
  blk_simp
  rw [after0_7]
  obtain ⟨a, e, rfl⟩ := Products.exists_ix2 (m := 1) (n := 2048) y
  obtain rfl : a = 0 := Subsingleton.elim _ _
  have hx : ((win0_7.blk t).view.emb (ix2 0 e) : S1x2048.Idx) = ix2 0 e := by
    blk_ext [index7]
  rw [hx]
  refine (Rows.accum_last (N := cfg0.N) (L := 16) (fun n h => (outsAt0 m c n h).2.1 (ix2 0 e)) (fun n h => Rows.normDg (n := 256) (iblk m c 0 ⟨n, h⟩) (iblk m c 1 ⟨n, h⟩) (Rows.line (iblk m c 5 ⟨n, h⟩)) e)
    (fun h => first_dg m c ⟨0, h⟩ rfl e) (fun n h => later_dg m c ⟨n + 1, h⟩ (Nat.succ_ne_zero n) e) _ t.isLt (by omega)).trans ?_
  unfold dgArr Rows.lineOf Rows.normDg
  show _ = (∑ i : Fin 4096, _ : EReal)
  rw [Rows.sum_rows]
  refine Finset.sum_congr rfl fun k _ => Finset.sum_congr rfl fun i _ => ?_
  have h : 256 * k.val + i.val < 4096 := by have := k.isLt; omega
  have hk : k.val < cfg0.N := k.isLt
  rw [row0 m c ⟨k.val, hk⟩ i h, row1 m c ⟨k.val, hk⟩ i h, line5 m c ⟨k.val, hk⟩]
  rfl

theorem final_dshift : (dats m 0 c).arrAt 8 cfg0.N = dshiftArr m c := by
  refine (dats m 0 c).arrAt_eq_of_covers 8 (dshiftArr m c) (by decide +kernel) fun t hf y => ?_
  have ht : t.val = 15 := by have := (flush0_8 t).mp hf; have : t.val < 16 := t.isLt; omega
  blk_simp
  rw [after0_8]
  obtain ⟨a, e, rfl⟩ := Products.exists_ix2 (m := 1) (n := 2048) y
  obtain rfl : a = 0 := Subsingleton.elim _ _
  have hx : ((win0_8.blk t).view.emb (ix2 0 e) : S1x2048.Idx) = ix2 0 e := by
    blk_ext [index8]
  rw [hx]
  refine (Rows.accum_last (N := cfg0.N) (L := 16) (fun n h => (outsAt0 m c n h).2.2.1 (ix2 0 e)) (fun n h => Rows.normDshift (n := 256) (iblk m c 1 ⟨n, h⟩) e)
    (fun h => first_dshift m c ⟨0, h⟩ rfl e) (fun n h => later_dshift m c ⟨n + 1, h⟩ (Nat.succ_ne_zero n) e) _ t.isLt (by omega)).trans ?_
  unfold dshiftArr Rows.lineOf Rows.normDshift
  show _ = (∑ i : Fin 4096, _ : EReal)
  rw [Rows.sum_rows]
  refine Finset.sum_congr rfl fun k _ => Finset.sum_congr rfl fun i _ => ?_
  have h : 256 * k.val + i.val < 4096 := by have := k.isLt; omega
  have hk : k.val < cfg0.N := k.isLt
  rw [row1 m c ⟨k.val, hk⟩ i h]
  rfl

theorem final_dscale : (dats m 0 c).arrAt 9 cfg0.N = dscaleArr m c := by
  refine (dats m 0 c).arrAt_eq_of_covers 9 (dscaleArr m c) (by decide +kernel) fun t hf y => ?_
  have ht : t.val = 15 := by have := (flush0_9 t).mp hf; have : t.val < 16 := t.isLt; omega
  blk_simp
  rw [after0_9]
  obtain ⟨a, e, rfl⟩ := Products.exists_ix2 (m := 1) (n := 2048) y
  obtain rfl : a = 0 := Subsingleton.elim _ _
  have hx : ((win0_9.blk t).view.emb (ix2 0 e) : S1x2048.Idx) = ix2 0 e := by
    blk_ext [index9]
  rw [hx]
  refine (Rows.accum_last (N := cfg0.N) (L := 16) (fun n h => (outsAt0 m c n h).2.2.2 (ix2 0 e)) (fun n h => Rows.normDscale (n := 256) (iblk m c 0 ⟨n, h⟩) (iblk m c 1 ⟨n, h⟩) (Rows.line (iblk m c 3 ⟨n, h⟩)) e)
    (fun h => first_dscale m c ⟨0, h⟩ rfl e) (fun n h => later_dscale m c ⟨n + 1, h⟩ (Nat.succ_ne_zero n) e) _ t.isLt (by omega)).trans ?_
  unfold dscaleArr Rows.lineOf Rows.normDscale
  show _ = (∑ i : Fin 4096, _ : EReal)
  rw [Rows.sum_rows]
  refine Finset.sum_congr rfl fun k _ => Finset.sum_congr rfl fun i _ => ?_
  have h : 256 * k.val + i.val < 4096 := by have := k.isLt; omega
  have hk : k.val < cfg0.N := k.isLt
  rw [row0 m c ⟨k.val, hk⟩ i h, row1 m c ⟨k.val, hk⟩ i h, line3 m c ⟨k.val, hk⟩]
  rfl

theorem kernel_run : θ_run defs (onTc (τ := τ) (main (F := Ideal))) ⟨m, fun _ => 0, ρ⟩ fun r => ∀ c : Dev nD,
      r.2.mem ((c.tc : Thread nD τ).loc main_v3_0) = dxArr m c
      ∧ r.2.mem ((c.tc : Thread nD τ).loc main_v3_1) = dgArr m c
      ∧ r.2.mem ((c.tc : Thread nD τ).loc main_v3_2) = dshiftArr m c
      ∧ r.2.mem ((c.tc : Thread nD τ).loc main_v3_3) = dscaleArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (final_dx m c), ((h c).2).1.trans (final_dg m c), (((h c).2).2).1.trans (final_dshift m c), ((((h c).2).2).2).1.trans (final_dscale m c), ((((h c).2).2).2).2⟩) (run_blocks m ρ)

end Cert.NormBwdFirstIdeal.Value

end
-- ==== Proof.NormBwdFirstClaim.lean ====
module

public import proofs.«01_k».proof.Defs
public import proofs.«01_k».proof.Proof.Gen.NormBwdFirst.Frame
public import proofs.«01_k».proof.Proof.Gen.NormBwdFirstRefIdeal.Run
public import proofs.«01_k».proof.Proof.NormBwdFirstValue
public import Idealize.ShloMosaic.Adequacy
public import Idealize.ShloMosaic.Init

/-!
  The gradient of the first layer's modulated norm: what the reference computes, and the claims.
-/

@[expose] public section

set_option maxRecDepth 16384

noncomputable section

namespace Cert.NormBwdFirstRefIdeal.Value

open Cert.NormBwdFirstRefIdeal Cert.NormBwdFirstRefIdeal.Gen Idealize.ShloMosaic Idealize.ShloMosaic.TcCoe Idealize.SL.Sem StableHlo

/-- What the reference leaves: the gradients of the modulated norm, and the residual's added. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v56) = (Rows.normDx (n := 4096) (m (c.tc.loc main_arg0)) (m (c.tc.loc main_arg1)) (m (c.tc.loc main_arg2)) (Rows.par (m (c.tc.loc main_arg3))) (Rows.par (m (c.tc.loc main_arg5))) : FVec Ideal S4096x2048 .f32)
      ∧ r.2.mem ((c.tc : Thread nD τ).loc main_v57) = (Rows.lineOf <| Rows.normDg (n := 4096) (m (c.tc.loc main_arg0)) (m (c.tc.loc main_arg1)) (Rows.par (m (c.tc.loc main_arg5))) : FVec Ideal S1x2048 .f32)
      ∧ r.2.mem ((c.tc : Thread nD τ).loc main_v58) = (Rows.lineOf <| Rows.normDshift (n := 4096) (m (c.tc.loc main_arg1)) : FVec Ideal S1x2048 .f32)
      ∧ r.2.mem ((c.tc : Thread nD τ).loc main_v59) = (Rows.lineOf <| Rows.normDscale (n := 4096) (m (c.tc.loc main_arg0)) (m (c.tc.loc main_arg1)) (Rows.par (m (c.tc.loc main_arg3))) : FVec Ideal S1x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run (F := Ideal) m ρ)
  obtain ⟨h0, h1, h2, h3, hargs⟩ := h c
  refine ⟨h0.trans ?_, h1.trans ?_, h2.trans ?_, h3.trans ?_, hargs⟩
  · refine Products.mat_ext (m := 4096) (n := 2048) fun i j => ?_
    unfold res_main_v56
    pointwise [Rows.ends_sum, Rows.lead_sum]
    rfl
  · refine Products.mat_ext (m := 1) (n := 2048) fun i j => ?_
    pointwise [Rows.ends_sum, Rows.lead_sum]
    rfl
  · refine Products.mat_ext (m := 1) (n := 2048) fun i j => ?_
    pointwise [Rows.ends_sum, Rows.lead_sum]
    rfl
  · refine Products.mat_ext (m := 1) (n := 2048) fun i j => ?_
    pointwise [Rows.ends_sum, Rows.lead_sum]
    rfl

end Cert.NormBwdFirstRefIdeal.Value

namespace Cert.Proof

open Idealize.ShloMosaic Idealize.SL.Sem

theorem norm_bwd_first_frame : Cert.quiescent_NormBwdFirst (hNormBwdFirst := Cert.NormBwdFirst.Gen.facts) := fun m ρ _ => Cert.NormBwdFirst.Gen.frame m ρ

theorem norm_bwd_first_frame_ideal : Cert.quiescent_NormBwdFirstIdeal (hNormBwdFirstIdeal := Cert.NormBwdFirstIdeal.Gen.facts) :=
  fun m ρ _ => Cert.NormBwdFirstIdeal.Gen.frame m ρ

theorem norm_bwd_first_frame_ref : Cert.quiescent_NormBwdFirstRefIdeal (hNormBwdFirstRefIdeal := Cert.NormBwdFirstRefIdeal.Gen.facts) := fun m ρ _ =>
  (θ_run Cert.NormBwdFirstRefIdeal.defs _ _).mono (fun r h => ⟨fun c => (h c).2.2.2.2,
      Idealize.ShloMosaic.sem_eq_zero_of_no_sems (by decide) r.2⟩)
    (Cert.NormBwdFirstRefIdeal.Value.run (F := Ideal) m ρ)

theorem norm_bwd_first_algebraic : Cert.algebraic_NormBwdFirstIdeal_NormBwdFirstRefIdeal (hNormBwdFirstIdeal := Cert.NormBwdFirstIdeal.Gen.facts)
    (hNormBwdFirstRefIdeal := Cert.NormBwdFirstRefIdeal.Gen.facts) := fun m ρ m' ρ' _ hagree =>
  ⟨fun c => Cert.NormBwdFirstIdeal.Value.dxArr m c, fun c => Cert.NormBwdFirstIdeal.Value.dgArr m c, fun c => Cert.NormBwdFirstIdeal.Value.dshiftArr m c, fun c => Cert.NormBwdFirstIdeal.Value.dscaleArr m c, Cert.NormBwdFirstIdeal.Value.kernel_run m ρ,
    (θ_run Cert.NormBwdFirstRefIdeal.defs _ _).mono (fun r h c => by
      obtain ⟨h0, h1, h2, h3, hargs⟩ := h c
      refine ⟨h0.trans ?_, h1.trans ?_, h2.trans ?_, h3.trans ?_, hargs⟩
      · rw [(hagree c).1, (hagree c).2.1, (hagree c).2.2.1, (hagree c).2.2.2.1, (hagree c).2.2.2.2.2]
        rfl
      · rw [(hagree c).1, (hagree c).2.1, (hagree c).2.2.2.2.2]
        rfl
      · rw [(hagree c).2.1]
        rfl
      · rw [(hagree c).1, (hagree c).2.1, (hagree c).2.2.2.1]
        rfl)
      (Cert.NormBwdFirstRefIdeal.Value.reference_run m' ρ')⟩

end Cert.Proof

end
-- ==== Proof.LossHeadValue.lean ====
module

public import proofs.«01_k».proof.Proof.Gen.LossHeadIdeal.Value
public import proofs.«01_k».proof.Proof.Rows

/-!
  The loss and its gradients: the arrays that the call leaves.
-/

@[expose] public section

set_option maxRecDepth 16384

noncomputable section

namespace Cert.LossHeadIdeal.Value

open Cert.LossHeadIdeal Cert.LossHeadIdeal.Gen Idealize.ShloMosaic Idealize.ShloMosaic.TcCoe Idealize.SL.Sem StableHlo

variable (m : (ℓ : Loc nD τ sig) → Buf (Elt Ideal) ℓ) (ρ : Dev nD → PrngReg) (c : Dev nD)

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index5 : ∀ t : Fin cfg0.N, win0_5.index t = ![t.val, 0] := by decide +kernel
theorem index6 : ∀ t : Fin cfg0.N, win0_6.index t = ![t.val, 0] := by decide +kernel
theorem index3 : ∀ t : Fin cfg0.N, win0_3.index t = ![0, 0] := by decide +kernel
theorem index4 : ∀ t : Fin cfg0.N, win0_4.index t = ![0, 0] := by decide +kernel
theorem index7 : ∀ t : Fin cfg0.N, win0_7.index t = ![0, 0] := by decide +kernel
theorem index8 : ∀ t : Fin cfg0.N, win0_8.index t = ![0, 0] := by decide +kernel
theorem index9 : ∀ t : Fin cfg0.N, win0_9.index t = ![0, 0] := by decide +kernel

/-! ## The blocks of the arguments -/

theorem row0 (t : Fin cfg0.N) (i : Fin 256) (h : 256 * t.val + i.val < 4096) :
    Rows.row (n := 256) (iblk m c 0 t) i = Rows.row (n := 4096) (m (c.tc.loc main_arg0)) ⟨256 * t.val + i.val, h⟩ := by
  funext e
  unfold Rows.row
  blk_ext [iblk, V_main_arg0, index0 t]

theorem row1 (t : Fin cfg0.N) (i : Fin 256) (h : 256 * t.val + i.val < 4096) :
    Rows.row (n := 256) (iblk m c 1 t) i = Rows.row (n := 4096) (m (c.tc.loc main_arg1)) ⟨256 * t.val + i.val, h⟩ := by
  funext e
  unfold Rows.row
  blk_ext [iblk, V_main_arg1, index1 t]

theorem row2 (t : Fin cfg0.N) (i : Fin 256) (h : 256 * t.val + i.val < 4096) :
    Rows.row (n := 256) (iblk m c 2 t) i = Rows.row (n := 4096) (m (c.tc.loc main_arg2)) ⟨256 * t.val + i.val, h⟩ := by
  funext e
  unfold Rows.row
  blk_ext [iblk, V_main_arg2, index2 t]

theorem V_gain : V m c main_v0 = fun i : S1x2048.Idx => (m (c.tc.loc main_arg3) : S2048.Idx → EReal) (ix1 (i 1)) := by
  show StableHlo.after hostOps0 _ _ = _
  simp only [hostOps0]
  after_results_simp
  funext i
  pointwise

theorem line3 (t : Fin cfg0.N) : Rows.line (iblk m c 3 t) = Rows.par (m (c.tc.loc main_arg3)) := by
  funext e
  refine (congrFun (V_gain m c) _).trans (congrArg _ ?_)
  blk_ext [index3 t]

theorem V_gate : V m c main_v1 = fun i : S1x2048.Idx => (m (c.tc.loc main_arg4) : S2048.Idx → EReal) (ix1 (i 1)) := by
  show StableHlo.after hostOps0 _ _ = _
  simp only [hostOps0]
  after_results_simp
  funext i
  pointwise

theorem line4 (t : Fin cfg0.N) : Rows.line (iblk m c 4 t) = Rows.par (m (c.tc.loc main_arg4)) := by
  funext e
  refine (congrFun (V_gate m c) _).trans (congrArg _ ?_)
  blk_ext [index4 t]

/-! ## What each grid point leaves -/

set_option maxHeartbeats 1000000 in
theorem out_dx (t : Fin cfg0.N) (i : Fin 256) (e : Fin 2048) :
    (outsAt0 m c t.val t.isLt).1 (ix2 i e) = Rows.lossDx (n := 256) (iblk m c 0 t) (iblk m c 1 t) (Rows.line (iblk m c 3 t)) (ix2 i e) := by
  have ht : t.val < 16 := t.isLt
  by_cases h : t.val = 0
  · rw [outsAt0_A m c t (by omega) (by omega) (by omega) (by omega) (by omega) (by omega)]
    dsimp only
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, Rows.unit_sum, Fin.sum_univ_one]
    rfl
  · rw [outsAt0_B m c t (by omega) (by omega) (by omega) (by omega) (by omega) (by omega)]
    dsimp only
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, Rows.unit_sum, Fin.sum_univ_one]
    rfl

set_option maxHeartbeats 1000000 in
theorem out_dy (t : Fin cfg0.N) (i : Fin 256) (e : Fin 2048) :
    (outsAt0 m c t.val t.isLt).2.1 (ix2 i e) = Rows.scaled (n := 256) (Rows.line (iblk m c 4 t)) (Rows.lossDx (n := 256) (iblk m c 0 t) (iblk m c 1 t) (Rows.line (iblk m c 3 t))) (ix2 i e) := by
  have ht : t.val < 16 := t.isLt
  by_cases h : t.val = 0
  · rw [outsAt0_A m c t (by omega) (by omega) (by omega) (by omega) (by omega) (by omega)]
    dsimp only
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, Rows.unit_sum, Fin.sum_univ_one]
    rfl
  · rw [outsAt0_B m c t (by omega) (by omega) (by omega) (by omega) (by omega) (by omega)]
    dsimp only
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, Rows.unit_sum, Fin.sum_univ_one]
    rfl

theorem first_dg (t : Fin cfg0.N) (h : t.val = 0) (e : Fin 2048) :
    (outsAt0 m c t.val t.isLt).2.2.1 (ix2 0 e) = Rows.lossDg (n := 256) (iblk m c 0 t) (iblk m c 1 t) (Rows.line (iblk m c 3 t)) e := by
  rw [outsAt0_A m c t (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, Rows.unit_sum, Fin.sum_univ_one]
  rfl

theorem later_dg (t : Fin cfg0.N) (h : ¬t.val = 0) (e : Fin 2048) :
    (outsAt0 m c t.val t.isLt).2.2.1 (ix2 0 e)
      = (outsAt0 m c (t.val - 1) (Nat.lt_of_le_of_lt (Nat.sub_le _ _) t.isLt)).2.2.1 (ix2 0 e) + Rows.lossDg (n := 256) (iblk m c 0 t) (iblk m c 1 t) (Rows.line (iblk m c 3 t)) e := by
  have ht : t.val < 16 := t.isLt
  rw [outsAt0_B m c t (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, Rows.unit_sum, Fin.sum_univ_one]
  rfl

theorem first_loss (t : Fin cfg0.N) (h : t.val = 0) (e : Fin 128) :
    (outsAt0 m c t.val t.isLt).2.2.2.1 (ix2 0 e) = Rows.lossLine (n := 256) (iblk m c 0 t) (iblk m c 1 t) (Rows.line (iblk m c 3 t)) e := by
  rw [outsAt0_A m c t (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, Rows.unit_sum, Fin.sum_univ_one]
  rfl

theorem later_loss (t : Fin cfg0.N) (h : ¬t.val = 0) (e : Fin 128) :
    (outsAt0 m c t.val t.isLt).2.2.2.1 (ix2 0 e)
      = (outsAt0 m c (t.val - 1) (Nat.lt_of_le_of_lt (Nat.sub_le _ _) t.isLt)).2.2.2.1 (ix2 0 e) + Rows.lossLine (n := 256) (iblk m c 0 t) (iblk m c 1 t) (Rows.line (iblk m c 3 t)) e := by
  have ht : t.val < 16 := t.isLt
  rw [outsAt0_B m c t (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, Rows.unit_sum, Fin.sum_univ_one]
  rfl

theorem first_dgate (t : Fin cfg0.N) (h : t.val = 0) (e : Fin 2048) :
    (outsAt0 m c t.val t.isLt).2.2.2.2 (ix2 0 e) = Rows.dots (n := 256) (Rows.lossDx (n := 256) (iblk m c 0 t) (iblk m c 1 t) (Rows.line (iblk m c 3 t))) (iblk m c 2 t) e := by
  rw [outsAt0_A m c t (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, Rows.unit_sum, Fin.sum_univ_one]
  rfl

theorem later_dgate (t : Fin cfg0.N) (h : ¬t.val = 0) (e : Fin 2048) :
    (outsAt0 m c t.val t.isLt).2.2.2.2 (ix2 0 e)
      = (outsAt0 m c (t.val - 1) (Nat.lt_of_le_of_lt (Nat.sub_le _ _) t.isLt)).2.2.2.2 (ix2 0 e) + Rows.dots (n := 256) (Rows.lossDx (n := 256) (iblk m c 0 t) (iblk m c 1 t) (Rows.line (iblk m c 3 t))) (iblk m c 2 t) e := by
  have ht : t.val < 16 := t.isLt
  rw [outsAt0_B m c t (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, Rows.unit_sum, Fin.sum_univ_one]
  rfl

/-! ## The result arrays -/

/-- The rows' gradient. -/
def dxArr : FVec Ideal S4096x2048 .f32 :=
  Rows.lossDx (n := 4096) (m (c.tc.loc main_arg0)) (m (c.tc.loc main_arg1)) (Rows.par (m (c.tc.loc main_arg3)))

/-- The gradient of the last layer's branch. -/
def dyArr : FVec Ideal S4096x2048 .bf16 :=
  Rows.scaled (n := 4096) (Rows.par (m (c.tc.loc main_arg4))) (Rows.lossDx (n := 4096) (m (c.tc.loc main_arg0)) (m (c.tc.loc main_arg1)) (Rows.par (m (c.tc.loc main_arg3))))

/-- The gain's gradient. -/
def dgArr : FVec Ideal S1x2048 .f32 :=
  Rows.lineOf <| Rows.lossDg (n := 4096) (m (c.tc.loc main_arg0)) (m (c.tc.loc main_arg1)) (Rows.par (m (c.tc.loc main_arg3)))

/-- The loss. -/
def lossArr : FVec Ideal S1x128 .f32 :=
  fun i : S1x128.Idx => Rows.lossLine (n := 4096) (m (c.tc.loc main_arg0)) (m (c.tc.loc main_arg1)) (Rows.par (m (c.tc.loc main_arg3))) (i 1)

/-- The gate's gradient. -/
def dgateArr : FVec Ideal S1x2048 .f32 :=
  Rows.lineOf <| Rows.dots (n := 4096) (Rows.lossDx (n := 4096) (m (c.tc.loc main_arg0)) (m (c.tc.loc main_arg1)) (Rows.par (m (c.tc.loc main_arg3)))) (m (c.tc.loc main_arg2))

theorem final_dx : (dats m 0 c).arrAt 5 cfg0.N = dxArr m c := by
  refine (dats m 0 c).arrAt_eq_of_covers 5 (dxArr m c) (by decide +kernel) fun t hf y => ?_
  have ht : t.val < 16 := t.isLt
  blk_simp
  rw [after0_5]
  obtain ⟨i, e, rfl⟩ := Products.exists_ix2 (m := 256) (n := 2048) y
  have h : 256 * t.val + i.val < 4096 := by omega
  refine (out_dx m c t i e).trans ?_
  have hx : ((win0_5.blk t).view.emb (ix2 i e) : S4096x2048.Idx) = ix2 ⟨256 * t.val + i.val, h⟩ e := by
    blk_ext [index5 t]
  rw [hx]
  unfold dxArr
  rw [Rows.lossDx_apply, Rows.lossDx_apply]
  rw [row0 m c t i h, row1 m c t i h, line3 m c t]

theorem final_dy : (dats m 0 c).arrAt 6 cfg0.N = dyArr m c := by
  refine (dats m 0 c).arrAt_eq_of_covers 6 (dyArr m c) (by decide +kernel) fun t hf y => ?_
  have ht : t.val < 16 := t.isLt
  blk_simp
  rw [after0_6]
  obtain ⟨i, e, rfl⟩ := Products.exists_ix2 (m := 256) (n := 2048) y
  have h : 256 * t.val + i.val < 4096 := by omega
  refine (out_dy m c t i e).trans ?_
  have hx : ((win0_6.blk t).view.emb (ix2 i e) : S4096x2048.Idx) = ix2 ⟨256 * t.val + i.val, h⟩ e := by
    blk_ext [index6 t]
  rw [hx]
  unfold dyArr
  rw [Rows.scaled_apply, Rows.scaled_apply, Rows.row_lossDx, Rows.row_lossDx]
  rw [row0 m c t i h, row1 m c t i h, line3 m c t, line4 m c t]

theorem final_dg : (dats m 0 c).arrAt 7 cfg0.N = dgArr m c := by
  refine (dats m 0 c).arrAt_eq_of_covers 7 (dgArr m c) (by decide +kernel) fun t hf y => ?_
  have ht : t.val = 15 := by have := (flush0_7 t).mp hf; have : t.val < 16 := t.isLt; omega
  blk_simp
  rw [after0_7]
  obtain ⟨a, e, rfl⟩ := Products.exists_ix2 (m := 1) (n := 2048) y
  obtain rfl : a = 0 := Subsingleton.elim _ _
  have hx : ((win0_7.blk t).view.emb (ix2 0 e) : S1x2048.Idx) = ix2 0 e := by
    blk_ext [index7]
  rw [hx]
  refine (Rows.accum_last (N := cfg0.N) (L := 16) (fun n h => (outsAt0 m c n h).2.2.1 (ix2 0 e)) (fun n h => Rows.lossDg (n := 256) (iblk m c 0 ⟨n, h⟩) (iblk m c 1 ⟨n, h⟩) (Rows.line (iblk m c 3 ⟨n, h⟩)) e)
    (fun h => first_dg m c ⟨0, h⟩ rfl e) (fun n h => later_dg m c ⟨n + 1, h⟩ (Nat.succ_ne_zero n) e) _ t.isLt (by omega)).trans ?_
  unfold dgArr Rows.lineOf Rows.lossDg
  show _ = (∑ i : Fin 4096, _ : EReal)
  rw [Rows.sum_rows]
  refine Finset.sum_congr rfl fun k _ => Finset.sum_congr rfl fun i _ => ?_
  have h : 256 * k.val + i.val < 4096 := by have := k.isLt; omega
  have hk : k.val < cfg0.N := k.isLt
  rw [row0 m c ⟨k.val, hk⟩ i h, row1 m c ⟨k.val, hk⟩ i h, line3 m c ⟨k.val, hk⟩]
  rfl

theorem final_loss : (dats m 0 c).arrAt 8 cfg0.N = lossArr m c := by
  refine (dats m 0 c).arrAt_eq_of_covers 8 (lossArr m c) (by decide +kernel) fun t hf y => ?_
  have ht : t.val = 15 := by have := (flush0_8 t).mp hf; have : t.val < 16 := t.isLt; omega
  blk_simp
  rw [after0_8]
  obtain ⟨a, e, rfl⟩ := Products.exists_ix2 (m := 1) (n := 128) y
  obtain rfl : a = 0 := Subsingleton.elim _ _
  have hx : ((win0_8.blk t).view.emb (ix2 0 e) : S1x128.Idx) = ix2 0 e := by
    blk_ext [index8]
  rw [hx]
  refine (Rows.accum_last (N := cfg0.N) (L := 16) (fun n h => (outsAt0 m c n h).2.2.2.1 (ix2 0 e)) (fun n h => Rows.lossLine (n := 256) (iblk m c 0 ⟨n, h⟩) (iblk m c 1 ⟨n, h⟩) (Rows.line (iblk m c 3 ⟨n, h⟩)) e)
    (fun h => first_loss m c ⟨0, h⟩ rfl e) (fun n h => later_loss m c ⟨n + 1, h⟩ (Nat.succ_ne_zero n) e) _ t.isLt (by omega)).trans ?_
  unfold lossArr Rows.lossLine Rows.lossSum
  rw [Rows.half_sum]
  refine congrArg (Rows.half * ·) ?_
  rw [Rows.sum_rows]
  refine Finset.sum_congr rfl fun k _ => Finset.sum_congr rfl fun i _ => ?_
  have h : 256 * k.val + i.val < 4096 := by have := k.isLt; omega
  have hk : k.val < cfg0.N := k.isLt
  rw [row0 m c ⟨k.val, hk⟩ i h, row1 m c ⟨k.val, hk⟩ i h, line3 m c ⟨k.val, hk⟩]

theorem final_dgate : (dats m 0 c).arrAt 9 cfg0.N = dgateArr m c := by
  refine (dats m 0 c).arrAt_eq_of_covers 9 (dgateArr m c) (by decide +kernel) fun t hf y => ?_
  have ht : t.val = 15 := by have := (flush0_9 t).mp hf; have : t.val < 16 := t.isLt; omega
  blk_simp
  rw [after0_9]
  obtain ⟨a, e, rfl⟩ := Products.exists_ix2 (m := 1) (n := 2048) y
  obtain rfl : a = 0 := Subsingleton.elim _ _
  have hx : ((win0_9.blk t).view.emb (ix2 0 e) : S1x2048.Idx) = ix2 0 e := by
    blk_ext [index9]
  rw [hx]
  refine (Rows.accum_last (N := cfg0.N) (L := 16) (fun n h => (outsAt0 m c n h).2.2.2.2 (ix2 0 e)) (fun n h => Rows.dots (n := 256) (Rows.lossDx (n := 256) (iblk m c 0 ⟨n, h⟩) (iblk m c 1 ⟨n, h⟩) (Rows.line (iblk m c 3 ⟨n, h⟩))) (iblk m c 2 ⟨n, h⟩) e)
    (fun h => first_dgate m c ⟨0, h⟩ rfl e) (fun n h => later_dgate m c ⟨n + 1, h⟩ (Nat.succ_ne_zero n) e) _ t.isLt (by omega)).trans ?_
  unfold dgateArr Rows.lineOf Rows.dots
  show _ = (∑ i : Fin 4096, _ : EReal)
  rw [Rows.sum_rows]
  refine Finset.sum_congr rfl fun k _ => Finset.sum_congr rfl fun i _ => ?_
  have h : 256 * k.val + i.val < 4096 := by have := k.isLt; omega
  have hk : k.val < cfg0.N := k.isLt
  rw [Rows.row_lossDx, Rows.row_lossDx, row0 m c ⟨k.val, hk⟩ i h, row1 m c ⟨k.val, hk⟩ i h, row2 m c ⟨k.val, hk⟩ i h, line3 m c ⟨k.val, hk⟩]
  rfl

theorem kernel_run : θ_run defs (onTc (τ := τ) (main (F := Ideal))) ⟨m, fun _ => 0, ρ⟩ fun r => ∀ c : Dev nD,
      r.2.mem ((c.tc : Thread nD τ).loc main_v2_0) = dxArr m c
      ∧ r.2.mem ((c.tc : Thread nD τ).loc main_v2_1) = dyArr m c
      ∧ r.2.mem ((c.tc : Thread nD τ).loc main_v2_2) = dgArr m c
      ∧ r.2.mem ((c.tc : Thread nD τ).loc main_v2_3) = lossArr m c
      ∧ r.2.mem ((c.tc : Thread nD τ).loc main_v2_4) = dgateArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final_dx m c), ((h c).2).1.trans (final_dy m c), (((h c).2).2).1.trans (final_dg m c), ((((h c).2).2).2).1.trans (final_loss m c), (((((h c).2).2).2).2).1.trans (final_dgate m c), (((((h c).2).2).2).2).2⟩) (run_blocks m ρ)

end Cert.LossHeadIdeal.Value

end
-- ==== Proof.LossHeadClaim.lean ====
module

public import proofs.«01_k».proof.Defs
public import proofs.«01_k».proof.Proof.Gen.LossHead.Frame
public import proofs.«01_k».proof.Proof.Gen.LossHeadRefIdeal.Run
public import proofs.«01_k».proof.Proof.LossHeadValue
public import Idealize.ShloMosaic.Adequacy
public import Idealize.ShloMosaic.Init

/-!
  The loss and its gradients: what the reference computes, and the claims.
-/

@[expose] public section

set_option maxRecDepth 16384

noncomputable section

namespace Cert.LossHeadRefIdeal.Value

open Cert.LossHeadRefIdeal Cert.LossHeadRefIdeal.Gen Idealize.ShloMosaic Idealize.ShloMosaic.TcCoe Idealize.SL.Sem StableHlo

/-- What the reference leaves. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63) = (Rows.lossDx (n := 4096) (m (c.tc.loc main_arg0)) (m (c.tc.loc main_arg1)) (Rows.par (m (c.tc.loc main_arg3))) : FVec Ideal S4096x2048 .f32)
      ∧ r.2.mem ((c.tc : Thread nD τ).loc main_v65) = (Rows.scaled (n := 4096) (Rows.par (m (c.tc.loc main_arg4))) (Rows.lossDx (n := 4096) (m (c.tc.loc main_arg0)) (m (c.tc.loc main_arg1)) (Rows.par (m (c.tc.loc main_arg3)))) : FVec Ideal S4096x2048 .bf16)
      ∧ r.2.mem ((c.tc : Thread nD τ).loc main_v66) = (Rows.lineOf <| Rows.lossDg (n := 4096) (m (c.tc.loc main_arg0)) (m (c.tc.loc main_arg1)) (Rows.par (m (c.tc.loc main_arg3))) : FVec Ideal S1x2048 .f32)
      ∧ r.2.mem ((c.tc : Thread nD τ).loc main_v67) = (fun i : S1x128.Idx => Rows.lossLine (n := 4096) (m (c.tc.loc main_arg0)) (m (c.tc.loc main_arg1)) (Rows.par (m (c.tc.loc main_arg3))) (i 1) : FVec Ideal S1x128 .f32)
      ∧ r.2.mem ((c.tc : Thread nD τ).loc main_v68) = (Rows.lineOf <| Rows.dots (n := 4096) (Rows.lossDx (n := 4096) (m (c.tc.loc main_arg0)) (m (c.tc.loc main_arg1)) (Rows.par (m (c.tc.loc main_arg3)))) (m (c.tc.loc main_arg2)) : FVec Ideal S1x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run (F := Ideal) m ρ)
  obtain ⟨h0, h1, h2, h3, h4, hargs⟩ := h c
  refine ⟨h0.trans ?_, h1.trans ?_, h2.trans ?_, h3.trans ?_, h4.trans ?_, hargs⟩
  · refine Products.mat_ext (m := 4096) (n := 2048) fun i j => ?_
    unfold res_main_v63
    pointwise [Rows.ends_sum, Rows.lead_sum, Rows.line_sum, Rows.twice]
    rfl
  · refine Products.mat_ext (m := 4096) (n := 2048) fun i j => ?_
    unfold res_main_v65
    pointwise [Rows.ends_sum, Rows.lead_sum, Rows.line_sum, Rows.twice]
    rfl
  · refine Products.mat_ext (m := 1) (n := 2048) fun i j => ?_
    pointwise [Rows.ends_sum, Rows.lead_sum, Rows.line_sum, Rows.twice]
    rfl
  · refine Products.mat_ext (m := 1) (n := 128) fun i j => ?_
    pointwise [Rows.ends_sum, Rows.lead_sum, Rows.line_sum, Rows.twice]
    rfl
  · refine Products.mat_ext (m := 1) (n := 2048) fun i j => ?_
    unfold res_main_v68
    pointwise [Rows.ends_sum, Rows.lead_sum, Rows.line_sum, Rows.twice]
    rfl

end Cert.LossHeadRefIdeal.Value

namespace Cert.Proof

open Idealize.ShloMosaic Idealize.SL.Sem

theorem loss_head_frame : Cert.quiescent_LossHead (hLossHead := Cert.LossHead.Gen.facts) := fun m ρ _ => Cert.LossHead.Gen.frame m ρ

theorem loss_head_frame_ideal : Cert.quiescent_LossHeadIdeal (hLossHeadIdeal := Cert.LossHeadIdeal.Gen.facts) :=
  fun m ρ _ => Cert.LossHeadIdeal.Gen.frame m ρ

theorem loss_head_frame_ref : Cert.quiescent_LossHeadRefIdeal (hLossHeadRefIdeal := Cert.LossHeadRefIdeal.Gen.facts) := fun m ρ _ =>
  (θ_run Cert.LossHeadRefIdeal.defs _ _).mono (fun r h => ⟨fun c => (h c).2.2.2.2.2,
      Idealize.ShloMosaic.sem_eq_zero_of_no_sems (by decide) r.2⟩)
    (Cert.LossHeadRefIdeal.Value.run (F := Ideal) m ρ)

theorem loss_head_algebraic : Cert.algebraic_LossHeadIdeal_LossHeadRefIdeal (hLossHeadIdeal := Cert.LossHeadIdeal.Gen.facts)
    (hLossHeadRefIdeal := Cert.LossHeadRefIdeal.Gen.facts) := fun m ρ m' ρ' _ hagree =>
  ⟨fun c => Cert.LossHeadIdeal.Value.dxArr m c, fun c => Cert.LossHeadIdeal.Value.dyArr m c, fun c => Cert.LossHeadIdeal.Value.dgArr m c, fun c => Cert.LossHeadIdeal.Value.lossArr m c, fun c => Cert.LossHeadIdeal.Value.dgateArr m c, Cert.LossHeadIdeal.Value.kernel_run m ρ,
    (θ_run Cert.LossHeadRefIdeal.defs _ _).mono (fun r h c => by
      obtain ⟨h0, h1, h2, h3, h4, hargs⟩ := h c
      refine ⟨h0.trans ?_, h1.trans ?_, h2.trans ?_, h3.trans ?_, h4.trans ?_, hargs⟩
      · rw [(hagree c).1, (hagree c).2.1, (hagree c).2.2.2.1]
        rfl
      · rw [(hagree c).1, (hagree c).2.1, (hagree c).2.2.2.1, (hagree c).2.2.2.2]
        rfl
      · rw [(hagree c).1, (hagree c).2.1, (hagree c).2.2.2.1]
        rfl
      · rw [(hagree c).1, (hagree c).2.1, (hagree c).2.2.2.1]
        rfl
      · rw [(hagree c).1, (hagree c).2.1, (hagree c).2.2.1, (hagree c).2.2.2.1]
        rfl)
      (Cert.LossHeadRefIdeal.Value.reference_run m' ρ')⟩

end Cert.Proof

end
-- ==== Proof.RwGateBwdValue.lean ====
module

public import proofs.«01_k».proof.Proof.Gen.RwGateBwdIdeal.Value
public import proofs.«01_k».proof.Proof.Rows

/-!
  The gradient of the time mixing's output gate: the arrays that the call leaves.
-/

@[expose] public section

set_option maxRecDepth 16384

noncomputable section

namespace Cert.RwGateBwdIdeal.Value

open Cert.RwGateBwdIdeal Cert.RwGateBwdIdeal.Gen Idealize.ShloMosaic Idealize.ShloMosaic.TcCoe Idealize.SL.Sem StableHlo

variable (m : (ℓ : Loc nD τ sig) → Buf (Elt Ideal) ℓ) (ρ : Dev nD → PrngReg) (c : Dev nD)

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![t.val, 0] := by decide +kernel

/-! ## The blocks of the arguments -/

theorem row0 (t : Fin cfg0.N) (i : Fin 256) (h : 256 * t.val + i.val < 4096) :
    Rows.row (n := 256) (iblk m c 0 t) i = Rows.row (n := 4096) (m (c.tc.loc main_arg0)) ⟨256 * t.val + i.val, h⟩ := by
  funext e
  unfold Rows.row
  blk_ext [iblk, V_main_arg0, index0 t]

theorem row1 (t : Fin cfg0.N) (i : Fin 256) (h : 256 * t.val + i.val < 4096) :
    Rows.row (n := 256) (iblk m c 1 t) i = Rows.row (n := 4096) (m (c.tc.loc main_arg1)) ⟨256 * t.val + i.val, h⟩ := by
  funext e
  unfold Rows.row
  blk_ext [iblk, V_main_arg1, index1 t]

theorem row2 (t : Fin cfg0.N) (i : Fin 256) (h : 256 * t.val + i.val < 4096) :
    Rows.row (n := 256) (iblk m c 2 t) i = Rows.row (n := 4096) (m (c.tc.loc main_arg2)) ⟨256 * t.val + i.val, h⟩ := by
  funext e
  unfold Rows.row
  blk_ext [iblk, V_main_arg2, index2 t]

/-! ## What each grid point leaves -/

theorem out_do (t : Fin cfg0.N) (i : Fin 256) (e : Fin 2048) :
    out0_3 (iblk m c 0 t) (iblk m c 1 t) (iblk m c 2 t) (ix2 i e) = Rows.gatedGrads (n := 256) (iblk m c 1 t) (iblk m c 2 t) (ix2 i e) := by
  unfold out0_3
  frame_out
  pointwise [k0_pay1, k0_pay2, k0_pay3]
  rfl

theorem out_dz (t : Fin cfg0.N) (i : Fin 256) (e : Fin 2048) :
    out0_4 (iblk m c 0 t) (iblk m c 1 t) (iblk m c 2 t) (ix2 i e) = Rows.gateGrads (n := 256) (iblk m c 0 t) (iblk m c 1 t) (iblk m c 2 t) (ix2 i e) := by
  unfold out0_4
  frame_out
  pointwise [k0_pay1, k0_pay2, k0_pay3]
  rfl

/-! ## The result arrays -/

/-- The gradient of what is gated. -/
def doArr : FVec Ideal S4096x2048 .f32 :=
  Rows.gatedGrads (n := 4096) (m (c.tc.loc main_arg1)) (m (c.tc.loc main_arg2))

/-- The gradient of the gate's argument. -/
def dzArr : FVec Ideal S4096x2048 .f32 :=
  Rows.gateGrads (n := 4096) (m (c.tc.loc main_arg0)) (m (c.tc.loc main_arg1)) (m (c.tc.loc main_arg2))

theorem final_do : (dats m 0 c).arrAt 3 cfg0.N = doArr m c := by
  refine (dats m 0 c).arrAt_eq_of_covers 3 (doArr m c) (by decide +kernel) fun t hf y => ?_
  have ht : t.val < 16 := t.isLt
  blk_simp
  rw [after0_3]
  obtain ⟨i, e, rfl⟩ := Products.exists_ix2 (m := 256) (n := 2048) y
  have h : 256 * t.val + i.val < 4096 := by omega
  refine (out_do m c t i e).trans ?_
  have hx : ((win0_3.blk t).view.emb (ix2 i e) : S4096x2048.Idx) = ix2 ⟨256 * t.val + i.val, h⟩ e := by
    blk_ext [index3 t]
  rw [hx]
  unfold doArr
  rw [Rows.gatedGrads_apply, Rows.gatedGrads_apply]
  rw [row1 m c t i h, row2 m c t i h]

theorem final_dz : (dats m 0 c).arrAt 4 cfg0.N = dzArr m c := by
  refine (dats m 0 c).arrAt_eq_of_covers 4 (dzArr m c) (by decide +kernel) fun t hf y => ?_
  have ht : t.val < 16 := t.isLt
  blk_simp
  rw [after0_4]
  obtain ⟨i, e, rfl⟩ := Products.exists_ix2 (m := 256) (n := 2048) y
  have h : 256 * t.val + i.val < 4096 := by omega
  refine (out_dz m c t i e).trans ?_
  have hx : ((win0_4.blk t).view.emb (ix2 i e) : S4096x2048.Idx) = ix2 ⟨256 * t.val + i.val, h⟩ e := by
    blk_ext [index4 t]
  rw [hx]
  unfold dzArr
  rw [Rows.gateGrads_apply, Rows.gateGrads_apply]
  rw [row0 m c t i h, row1 m c t i h, row2 m c t i h]

theorem kernel_run : θ_run defs (onTc (τ := τ) (main (F := Ideal))) ⟨m, fun _ => 0, ρ⟩ fun r => ∀ c : Dev nD,
      r.2.mem ((c.tc : Thread nD τ).loc main_v0_0) = doArr m c
      ∧ r.2.mem ((c.tc : Thread nD τ).loc main_v0_1) = dzArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_do m c), ((h c).2).1.trans (final_dz m c), ((h c).2).2⟩) (run_blocks m ρ)

end Cert.RwGateBwdIdeal.Value

end
-- ==== Proof.RwGateBwdClaim.lean ====
module

public import proofs.«01_k».proof.Defs
public import proofs.«01_k».proof.Proof.Gen.RwGateBwd.Frame
public import proofs.«01_k».proof.Proof.Gen.RwGateBwdRefIdeal.Run
public import proofs.«01_k».proof.Proof.RwGateBwdValue
public import Idealize.ShloMosaic.Adequacy
public import Idealize.ShloMosaic.Init

/-!
  The gradient of the time mixing's output gate: what the reference computes, and the claims.
-/

@[expose] public section

set_option maxRecDepth 16384

noncomputable section

namespace Cert.RwGateBwdRefIdeal.Value

open Cert.RwGateBwdRefIdeal Cert.RwGateBwdRefIdeal.Gen Idealize.ShloMosaic Idealize.ShloMosaic.TcCoe Idealize.SL.Sem StableHlo

/-- What the reference leaves. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = (Rows.gatedGrads (n := 4096) (m (c.tc.loc main_arg1)) (m (c.tc.loc main_arg2)) : FVec Ideal S4096x2048 .f32)
      ∧ r.2.mem ((c.tc : Thread nD τ).loc main_v9) = (Rows.gateGrads (n := 4096) (m (c.tc.loc main_arg0)) (m (c.tc.loc main_arg1)) (m (c.tc.loc main_arg2)) : FVec Ideal S4096x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run (F := Ideal) m ρ)
  obtain ⟨h0, h1, hargs⟩ := h c
  refine ⟨h0.trans ?_, h1.trans ?_, hargs⟩
  · refine Products.mat_ext (m := 4096) (n := 2048) fun i j => ?_
    pointwise [Rows.ends_sum, Rows.lead_sum]
    rfl
  · refine Products.mat_ext (m := 4096) (n := 2048) fun i j => ?_
    pointwise [Rows.ends_sum, Rows.lead_sum]
    rfl

end Cert.RwGateBwdRefIdeal.Value

namespace Cert.Proof

open Idealize.ShloMosaic Idealize.SL.Sem

theorem rw_gate_bwd_frame : Cert.quiescent_RwGateBwd (hRwGateBwd := Cert.RwGateBwd.Gen.facts) := fun m ρ _ => Cert.RwGateBwd.Gen.frame m ρ

theorem rw_gate_bwd_frame_ideal : Cert.quiescent_RwGateBwdIdeal (hRwGateBwdIdeal := Cert.RwGateBwdIdeal.Gen.facts) :=
  fun m ρ _ => Cert.RwGateBwdIdeal.Gen.frame m ρ

theorem rw_gate_bwd_frame_ref : Cert.quiescent_RwGateBwdRefIdeal (hRwGateBwdRefIdeal := Cert.RwGateBwdRefIdeal.Gen.facts) := fun m ρ _ =>
  (θ_run Cert.RwGateBwdRefIdeal.defs _ _).mono (fun r h => ⟨fun c => (h c).2.2,
      Idealize.ShloMosaic.sem_eq_zero_of_no_sems (by decide) r.2⟩)
    (Cert.RwGateBwdRefIdeal.Value.run (F := Ideal) m ρ)

theorem rw_gate_bwd_algebraic : Cert.algebraic_RwGateBwdIdeal_RwGateBwdRefIdeal (hRwGateBwdIdeal := Cert.RwGateBwdIdeal.Gen.facts)
    (hRwGateBwdRefIdeal := Cert.RwGateBwdRefIdeal.Gen.facts) := fun m ρ m' ρ' _ hagree =>
  ⟨fun c => Cert.RwGateBwdIdeal.Value.doArr m c, fun c => Cert.RwGateBwdIdeal.Value.dzArr m c, Cert.RwGateBwdIdeal.Value.kernel_run m ρ,
    (θ_run Cert.RwGateBwdRefIdeal.defs _ _).mono (fun r h c => by
      obtain ⟨h0, h1, hargs⟩ := h c
      refine ⟨h0.trans ?_, h1.trans ?_, hargs⟩
      · rw [(hagree c).2.1, (hagree c).2.2]
        rfl
      · rw [(hagree c).1, (hagree c).2.1, (hagree c).2.2]
        rfl)
      (Cert.RwGateBwdRefIdeal.Value.reference_run m' ρ')⟩

end Cert.Proof

end
-- ==== Proof.SwaGateBwdValue.lean ====
module

public import proofs.«01_k».proof.Proof.Gen.SwaGateBwdIdeal.Value
public import proofs.«01_k».proof.Proof.Rows

/-!
  The gradient of the attention's output gate: the arrays that the call leaves.
-/

@[expose] public section

set_option maxRecDepth 16384

noncomputable section

namespace Cert.SwaGateBwdIdeal.Value

open Cert.SwaGateBwdIdeal Cert.SwaGateBwdIdeal.Gen Idealize.ShloMosaic Idealize.ShloMosaic.TcCoe Idealize.SL.Sem StableHlo

variable (m : (ℓ : Loc nD τ sig) → Buf (Elt Ideal) ℓ) (ρ : Dev nD → PrngReg) (c : Dev nD)

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![t.val, 0] := by decide +kernel

/-! ## The blocks of the arguments -/

theorem row0 (t : Fin cfg0.N) (i : Fin 256) (h : 256 * t.val + i.val < 4096) :
    Rows.row (n := 256) (iblk m c 0 t) i = Rows.row (n := 4096) (m (c.tc.loc main_arg0)) ⟨256 * t.val + i.val, h⟩ := by
  funext e
  unfold Rows.row
  blk_ext [iblk, V_main_arg0, index0 t]

theorem row1 (t : Fin cfg0.N) (i : Fin 256) (h : 256 * t.val + i.val < 4096) :
    Rows.row (n := 256) (Rows.cols (n := 256) (w := 4608) 2560 (by decide) (iblk m c 1 t)) i
      = Rows.row (n := 4096) (Rows.cols (n := 4096) (w := 4608) 2560 (by decide) (m (c.tc.loc main_arg1))) ⟨256 * t.val + i.val, h⟩ := by
  funext e
  unfold Rows.row Rows.cols
  blk_ext [iblk, V_main_arg1, index1 t]

theorem row2 (t : Fin cfg0.N) (i : Fin 256) (h : 256 * t.val + i.val < 4096) :
    Rows.row (n := 256) (iblk m c 2 t) i = Rows.row (n := 4096) (m (c.tc.loc main_arg2)) ⟨256 * t.val + i.val, h⟩ := by
  funext e
  unfold Rows.row
  blk_ext [iblk, V_main_arg2, index2 t]

/-! ## What each grid point leaves -/

theorem out_do (t : Fin cfg0.N) (i : Fin 256) (e : Fin 2048) :
    out0_3 (iblk m c 0 t) (iblk m c 1 t) (iblk m c 2 t) (ix2 i e) = Rows.gatedGrads (n := 256) (Rows.cols (n := 256) (w := 4608) 2560 (by decide) (iblk m c 1 t)) (iblk m c 2 t) (ix2 i e) := by
  unfold out0_3
  frame_out
  pointwise [k0_pay1, k0_pay2, k0_pay3, k0_pay4]
  rfl

theorem out_dz (t : Fin cfg0.N) (i : Fin 256) (e : Fin 2048) :
    out0_4 (iblk m c 0 t) (iblk m c 1 t) (iblk m c 2 t) (ix2 i e) = Rows.gateGrads (n := 256) (iblk m c 0 t) (Rows.cols (n := 256) (w := 4608) 2560 (by decide) (iblk m c 1 t)) (iblk m c 2 t) (ix2 i e) := by
  unfold out0_4
  frame_out
  pointwise [k0_pay1, k0_pay2, k0_pay3, k0_pay4]
  rfl

/-! ## The result arrays -/

/-- The gradient of what is gated. -/
def doArr : FVec Ideal S4096x2048 .f32 :=
  Rows.gatedGrads (n := 4096) (Rows.cols (n := 4096) (w := 4608) 2560 (by decide) (m (c.tc.loc main_arg1))) (m (c.tc.loc main_arg2))

/-- The gradient of the gate's argument. -/
def dzArr : FVec Ideal S4096x2048 .f32 :=
  Rows.gateGrads (n := 4096) (m (c.tc.loc main_arg0)) (Rows.cols (n := 4096) (w := 4608) 2560 (by decide) (m (c.tc.loc main_arg1))) (m (c.tc.loc main_arg2))

theorem final_do : (dats m 0 c).arrAt 3 cfg0.N = doArr m c := by
  refine (dats m 0 c).arrAt_eq_of_covers 3 (doArr m c) (by decide +kernel) fun t hf y => ?_
  have ht : t.val < 16 := t.isLt
  blk_simp
  rw [after0_3]
  obtain ⟨i, e, rfl⟩ := Products.exists_ix2 (m := 256) (n := 2048) y
  have h : 256 * t.val + i.val < 4096 := by omega
  refine (out_do m c t i e).trans ?_
  have hx : ((win0_3.blk t).view.emb (ix2 i e) : S4096x2048.Idx) = ix2 ⟨256 * t.val + i.val, h⟩ e := by
    blk_ext [index3 t]
  rw [hx]
  unfold doArr
  rw [Rows.gatedGrads_apply, Rows.gatedGrads_apply]
  rw [row1 m c t i h, row2 m c t i h]

theorem final_dz : (dats m 0 c).arrAt 4 cfg0.N = dzArr m c := by
  refine (dats m 0 c).arrAt_eq_of_covers 4 (dzArr m c) (by decide +kernel) fun t hf y => ?_
  have ht : t.val < 16 := t.isLt
  blk_simp
  rw [after0_4]
  obtain ⟨i, e, rfl⟩ := Products.exists_ix2 (m := 256) (n := 2048) y
  have h : 256 * t.val + i.val < 4096 := by omega
  refine (out_dz m c t i e).trans ?_
  have hx : ((win0_4.blk t).view.emb (ix2 i e) : S4096x2048.Idx) = ix2 ⟨256 * t.val + i.val, h⟩ e := by
    blk_ext [index4 t]
  rw [hx]
  unfold dzArr
  rw [Rows.gateGrads_apply, Rows.gateGrads_apply]
  rw [row0 m c t i h, row1 m c t i h, row2 m c t i h]

theorem kernel_run : θ_run defs (onTc (τ := τ) (main (F := Ideal))) ⟨m, fun _ => 0, ρ⟩ fun r => ∀ c : Dev nD,
      r.2.mem ((c.tc : Thread nD τ).loc main_v0_0) = doArr m c
      ∧ r.2.mem ((c.tc : Thread nD τ).loc main_v0_1) = dzArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_do m c), ((h c).2).1.trans (final_dz m c), ((h c).2).2⟩) (run_blocks m ρ)

end Cert.SwaGateBwdIdeal.Value

end
-- ==== Proof.SwaGateBwdClaim.lean ====
module

public import proofs.«01_k».proof.Defs
public import proofs.«01_k».proof.Proof.Gen.SwaGateBwd.Frame
public import proofs.«01_k».proof.Proof.Gen.SwaGateBwdRefIdeal.Run
public import proofs.«01_k».proof.Proof.SwaGateBwdValue
public import Idealize.ShloMosaic.Adequacy
public import Idealize.ShloMosaic.Init

/-!
  The gradient of the attention's output gate: what the reference computes, and the claims.
-/

@[expose] public section

set_option maxRecDepth 16384

noncomputable section

namespace Cert.SwaGateBwdRefIdeal.Value

open Cert.SwaGateBwdRefIdeal Cert.SwaGateBwdRefIdeal.Gen Idealize.ShloMosaic Idealize.ShloMosaic.TcCoe Idealize.SL.Sem StableHlo

/-- What the reference leaves. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = (Rows.gatedGrads (n := 4096) (Rows.cols (n := 4096) (w := 4608) 2560 (by decide) (m (c.tc.loc main_arg1))) (m (c.tc.loc main_arg2)) : FVec Ideal S4096x2048 .f32)
      ∧ r.2.mem ((c.tc : Thread nD τ).loc main_v13) = (Rows.gateGrads (n := 4096) (m (c.tc.loc main_arg0)) (Rows.cols (n := 4096) (w := 4608) 2560 (by decide) (m (c.tc.loc main_arg1))) (m (c.tc.loc main_arg2)) : FVec Ideal S4096x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run (F := Ideal) m ρ)
  obtain ⟨h0, h1, hargs⟩ := h c
  refine ⟨h0.trans ?_, h1.trans ?_, hargs⟩
  · refine Products.mat_ext (m := 4096) (n := 2048) fun i j => ?_
    pointwise [Rows.ends_sum, Rows.lead_sum]
    rfl
  · refine Products.mat_ext (m := 4096) (n := 2048) fun i j => ?_
    pointwise [Rows.ends_sum, Rows.lead_sum]
    rfl

end Cert.SwaGateBwdRefIdeal.Value

namespace Cert.Proof

open Idealize.ShloMosaic Idealize.SL.Sem

theorem swa_gate_bwd_frame : Cert.quiescent_SwaGateBwd (hSwaGateBwd := Cert.SwaGateBwd.Gen.facts) := fun m ρ _ => Cert.SwaGateBwd.Gen.frame m ρ

theorem swa_gate_bwd_frame_ideal : Cert.quiescent_SwaGateBwdIdeal (hSwaGateBwdIdeal := Cert.SwaGateBwdIdeal.Gen.facts) :=
  fun m ρ _ => Cert.SwaGateBwdIdeal.Gen.frame m ρ

theorem swa_gate_bwd_frame_ref : Cert.quiescent_SwaGateBwdRefIdeal (hSwaGateBwdRefIdeal := Cert.SwaGateBwdRefIdeal.Gen.facts) := fun m ρ _ =>
  (θ_run Cert.SwaGateBwdRefIdeal.defs _ _).mono (fun r h => ⟨fun c => (h c).2.2,
      Idealize.ShloMosaic.sem_eq_zero_of_no_sems (by decide) r.2⟩)
    (Cert.SwaGateBwdRefIdeal.Value.run (F := Ideal) m ρ)

theorem swa_gate_bwd_algebraic : Cert.algebraic_SwaGateBwdIdeal_SwaGateBwdRefIdeal (hSwaGateBwdIdeal := Cert.SwaGateBwdIdeal.Gen.facts)
    (hSwaGateBwdRefIdeal := Cert.SwaGateBwdRefIdeal.Gen.facts) := fun m ρ m' ρ' _ hagree =>
  ⟨fun c => Cert.SwaGateBwdIdeal.Value.doArr m c, fun c => Cert.SwaGateBwdIdeal.Value.dzArr m c, Cert.SwaGateBwdIdeal.Value.kernel_run m ρ,
    (θ_run Cert.SwaGateBwdRefIdeal.defs _ _).mono (fun r h c => by
      obtain ⟨h0, h1, hargs⟩ := h c
      refine ⟨h0.trans ?_, h1.trans ?_, hargs⟩
      · rw [(hagree c).2.1, (hagree c).2.2]
        rfl
      · rw [(hagree c).1, (hagree c).2.1, (hagree c).2.2]
        rfl)
      (Cert.SwaGateBwdRefIdeal.Value.reference_run m' ρ')⟩

end Cert.Proof

end
-- ==== Proof.LowRank.lean ====
module

public import proofs.«01_k».proof.Proof.Rows

/-!
  The mathematics of the time mixing's two low-rank parts and of their gradients: the logarithm of the decay, whose
  columns pass through a tanh, and the rate, whose columns do not. Nothing here mentions a program.
-/

@[expose] public section

noncomputable section

namespace LowRank

open Idealize.ShloMosaic Products Rows

/-! ## One row -/

/-- A row's low-rank columns. -/
abbrev In : Type := Fin 256 → EReal

/-- Row `i` of a matrix of 256 columns. -/
def feat {n : ℕ} (x : Mat n 256) (i : Fin n) : In := fun q => x (ix2 i q)

/-- The factor of the decay's logarithm. -/
def rate : EReal := Ideal.ofBits .f32 0xBF1B4598#32
/-- The columns after the tanh. -/
def soft (r : In) : In := fun q => Ideal.tanh (r q)
/-- The argument of the logistic function. -/
def arg (w : Mat 256 2048) (b : Row) (r : In) : Row := fun e => b e + ∑ q, r q * w (ix2 q e)
/-- The logistic function's derivative. -/
def slope (h : EReal) : EReal := sigma h * (1 - sigma h)
/-- The gradient of the decay's argument. -/
def dlog (w : Mat 256 2048) (b : Row) (r : In) (d : Row) : Row := fun e => rate * d e * slope (arg w b (soft r) e)
/-- The gradient of the rate's argument. -/
def dgain (w : Mat 256 2048) (b : Row) (r : In) (d : Row) : Row := fun e => d e * slope (arg w b r e)
/-- A gradient taken back through the weights. -/
def back (w : Mat 256 2048) (g : Row) : In := fun q => ∑ e, g e * w (ix2 q e)
/-- The derivative of the tanh. -/
def dsoft (r : In) : In := fun q => (1 + Ideal.tanh (r q)) * (1 - Ideal.tanh (r q))

/-! ## All rows -/

/-- The decay's logarithm. -/
def decay {n : ℕ} (x : Mat n 256) (b : Row) (w : Mat 256 2048) : Mat n 2048 :=
  fun i => rate * sigma (arg w b (soft (feat x (i 0))) (i 1))
/-- The rate. -/
def gain {n : ℕ} (x : Mat n 256) (b : Row) (w : Mat 256 2048) : Mat n 2048 := fun i => sigma (arg w b (feat x (i 0)) (i 1))
/-- The columns' gradient. -/
def dx {n : ℕ} (x : Mat n 256) (dl da : Mat n 2048) (b : Row) (w : Mat 256 2048) (b' : Row) (w' : Mat 256 2048) : Mat n 256 :=
  fun i => back w' (dgain w' b' (feat x (i 0)) (row da (i 0))) (i 1)
    + back w (dlog w b (feat x (i 0)) (row dl (i 0))) (i 1) * dsoft (feat x (i 0)) (i 1)
/-- The gradient of the decay's shift. -/
def dlogShift {n : ℕ} (x : Mat n 256) (dl : Mat n 2048) (b : Row) (w : Mat 256 2048) : Row :=
  fun e => ∑ i : Fin n, dlog w b (feat x i) (row dl i) e
/-- The gradient of the decay's weights. -/
def dlogWeights {n : ℕ} (x : Mat n 256) (dl : Mat n 2048) (b : Row) (w : Mat 256 2048) : Mat 256 2048 :=
  fun j => ∑ i : Fin n, dlog w b (feat x i) (row dl i) (j 1) * soft (feat x i) (j 0)
/-- The gradient of the rate's shift. -/
def dgainShift {n : ℕ} (x : Mat n 256) (da : Mat n 2048) (b : Row) (w : Mat 256 2048) : Row :=
  fun e => ∑ i : Fin n, dgain w b (feat x i) (row da i) e
/-- The gradient of the rate's weights. -/
def dgainWeights {n : ℕ} (x : Mat n 256) (da : Mat n 2048) (b : Row) (w : Mat 256 2048) : Mat 256 2048 :=
  fun j => ∑ i : Fin n, dgain w b (feat x i) (row da i) (j 1) * feat x i (j 0)

theorem decay_apply {n : ℕ} (x : Mat n 256) (b : Row) (w : Mat 256 2048) (i : Fin n) (e : Fin 2048) :
    decay x b w (ix2 i e) = rate * sigma (arg w b (soft (feat x i)) e) := rfl
theorem gain_apply {n : ℕ} (x : Mat n 256) (b : Row) (w : Mat 256 2048) (i : Fin n) (e : Fin 2048) :
    gain x b w (ix2 i e) = sigma (arg w b (feat x i) e) := rfl
theorem dx_apply {n : ℕ} (x : Mat n 256) (dl da : Mat n 2048) (b : Row) (w : Mat 256 2048) (b' : Row) (w' : Mat 256 2048)
    (i : Fin n) (q : Fin 256) :
    dx x dl da b w b' w' (ix2 i q) = back w' (dgain w' b' (feat x i) (row da i)) q
      + back w (dlog w b (feat x i) (row dl i)) q * dsoft (feat x i) q := rfl

end LowRank

end
-- ==== Proof.LoraBwdValue.lean ====
module

public import proofs.«01_k».proof.Proof.Gen.LoraBwdIdeal.Value
public import proofs.«01_k».proof.Proof.LowRank

/-!
  The gradients of the time mixing's two low-rank parts: the arrays that the call leaves.
-/

@[expose] public section

set_option maxRecDepth 16384

noncomputable section

namespace Cert.LoraBwdIdeal.Value

open Cert.LoraBwdIdeal Cert.LoraBwdIdeal.Gen Idealize.ShloMosaic Idealize.ShloMosaic.TcCoe Idealize.SL.Sem StableHlo

variable (m : (ℓ : Loc nD τ sig) → Buf (Elt Ideal) ℓ) (ρ : Dev nD → PrngReg) (c : Dev nD)

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index7 : ∀ t : Fin cfg0.N, win0_7.index t = ![t.val, 0] := by decide +kernel
theorem index4 : ∀ t : Fin cfg0.N, win0_4.index t = ![0, 0] := by decide +kernel
theorem index6 : ∀ t : Fin cfg0.N, win0_6.index t = ![0, 0] := by decide +kernel
theorem index3 : ∀ t : Fin cfg0.N, win0_3.index t = ![0, 0] := by decide +kernel
theorem index5 : ∀ t : Fin cfg0.N, win0_5.index t = ![0, 0] := by decide +kernel
theorem index8 : ∀ t : Fin cfg0.N, win0_8.index t = ![0, 0] := by decide +kernel
theorem index9 : ∀ t : Fin cfg0.N, win0_9.index t = ![0, 0] := by decide +kernel
theorem index10 : ∀ t : Fin cfg0.N, win0_10.index t = ![0, 0] := by decide +kernel
theorem index11 : ∀ t : Fin cfg0.N, win0_11.index t = ![0, 0] := by decide +kernel

/-! ## The blocks of the arguments -/

theorem row0 (t : Fin cfg0.N) (i : Fin 256) (h : 256 * t.val + i.val < 4096) :
    LowRank.feat (n := 256) (iblk m c 0 t) i = LowRank.feat (n := 4096) (m (c.tc.loc main_arg0)) ⟨256 * t.val + i.val, h⟩ := by
  funext e
  unfold LowRank.feat
  blk_ext [iblk, V_main_arg0, index0 t]

theorem row1 (t : Fin cfg0.N) (i : Fin 256) (h : 256 * t.val + i.val < 4096) :
    Rows.row (n := 256) (iblk m c 1 t) i = Rows.row (n := 4096) (m (c.tc.loc main_arg1)) ⟨256 * t.val + i.val, h⟩ := by
  funext e
  unfold Rows.row
  blk_ext [iblk, V_main_arg1, index1 t]

theorem row2 (t : Fin cfg0.N) (i : Fin 256) (h : 256 * t.val + i.val < 4096) :
    Rows.row (n := 256) (iblk m c 2 t) i = Rows.row (n := 4096) (m (c.tc.loc main_arg2)) ⟨256 * t.val + i.val, h⟩ := by
  funext e
  unfold Rows.row
  blk_ext [iblk, V_main_arg2, index2 t]

theorem whole4 (t : Fin cfg0.N) : (iblk m c 4 t : S256x2048.Idx → EReal) = m (c.tc.loc main_arg4) := by
  funext y
  obtain ⟨q, e, rfl⟩ := Products.exists_ix2 (m := 256) (n := 2048) y
  blk_ext [iblk, V_main_arg4, index4 t]

theorem whole6 (t : Fin cfg0.N) : (iblk m c 6 t : S256x2048.Idx → EReal) = m (c.tc.loc main_arg6) := by
  funext y
  obtain ⟨q, e, rfl⟩ := Products.exists_ix2 (m := 256) (n := 2048) y
  blk_ext [iblk, V_main_arg6, index6 t]

theorem V_shift0 : V m c main_v0 = fun i : S1x2048.Idx => (m (c.tc.loc main_arg3) : S2048.Idx → EReal) (ix1 (i 1)) := by
  show StableHlo.after hostOps0 _ _ = _
  simp only [hostOps0]
  after_results_simp
  funext i
  pointwise

theorem line3 (t : Fin cfg0.N) : Rows.line (iblk m c 3 t) = Rows.par (m (c.tc.loc main_arg3)) := by
  funext e
  refine (congrFun (V_shift0 m c) _).trans (congrArg _ ?_)
  blk_ext [index3 t]

theorem V_shift1 : V m c main_v1 = fun i : S1x2048.Idx => (m (c.tc.loc main_arg5) : S2048.Idx → EReal) (ix1 (i 1)) := by
  show StableHlo.after hostOps0 _ _ = _
  simp only [hostOps0]
  after_results_simp
  funext i
  pointwise

theorem line5 (t : Fin cfg0.N) : Rows.line (iblk m c 5 t) = Rows.par (m (c.tc.loc main_arg5)) := by
  funext e
  refine (congrFun (V_shift1 m c) _).trans (congrArg _ ?_)
  blk_ext [index5 t]

/-! ## What each grid point leaves -/

theorem out_dx (t : Fin cfg0.N) (i : Fin 256) (e : Fin 256) :
    (outsAt0 m c t.val t.isLt).1 (ix2 i e) = LowRank.dx (n := 256) (iblk m c 0 t) (iblk m c 1 t) (iblk m c 2 t) (Rows.line (iblk m c 3 t)) (iblk m c 4 t) (Rows.line (iblk m c 5 t)) (iblk m c 6 t) (ix2 i e) := by
  have ht : t.val < 16 := t.isLt
  by_cases h : t.val = 0
  · rw [outsAt0_A m c t (by omega) (by omega) (by omega) (by omega) (by omega) (by omega) (by omega) (by omega)]
    dsimp only
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
    rfl
  · rw [outsAt0_B m c t (by omega) (by omega) (by omega) (by omega) (by omega) (by omega) (by omega) (by omega)]
    dsimp only
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
    rfl

theorem first_dshift (t : Fin cfg0.N) (h : t.val = 0) (e : Fin 2048) :
    (outsAt0 m c t.val t.isLt).2.1 (ix2 0 e) = LowRank.dlogShift (n := 256) (iblk m c 0 t) (iblk m c 1 t) (Rows.line (iblk m c 3 t)) (iblk m c 4 t) e := by
  rw [outsAt0_A m c t (by omega) (by omega) (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rfl

theorem later_dshift (t : Fin cfg0.N) (h : ¬t.val = 0) (e : Fin 2048) :
    (outsAt0 m c t.val t.isLt).2.1 (ix2 0 e)
      = (outsAt0 m c (t.val - 1) (Nat.lt_of_le_of_lt (Nat.sub_le _ _) t.isLt)).2.1 (ix2 0 e) + LowRank.dlogShift (n := 256) (iblk m c 0 t) (iblk m c 1 t) (Rows.line (iblk m c 3 t)) (iblk m c 4 t) e := by
  have ht : t.val < 16 := t.isLt
  rw [outsAt0_B m c t (by omega) (by omega) (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rfl

theorem first_dweights (t : Fin cfg0.N) (h : t.val = 0) (a : Fin 256) (e : Fin 2048) :
    (outsAt0 m c t.val t.isLt).2.2.1 (ix2 a e) = LowRank.dlogWeights (n := 256) (iblk m c 0 t) (iblk m c 1 t) (Rows.line (iblk m c 3 t)) (iblk m c 4 t) (ix2 a e) := by
  rw [outsAt0_A m c t (by omega) (by omega) (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rfl

theorem later_dweights (t : Fin cfg0.N) (h : ¬t.val = 0) (a : Fin 256) (e : Fin 2048) :
    (outsAt0 m c t.val t.isLt).2.2.1 (ix2 a e)
      = (outsAt0 m c (t.val - 1) (Nat.lt_of_le_of_lt (Nat.sub_le _ _) t.isLt)).2.2.1 (ix2 a e) + LowRank.dlogWeights (n := 256) (iblk m c 0 t) (iblk m c 1 t) (Rows.line (iblk m c 3 t)) (iblk m c 4 t) (ix2 a e) := by
  have ht : t.val < 16 := t.isLt
  rw [outsAt0_B m c t (by omega) (by omega) (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rfl

theorem first_dshift_rate (t : Fin cfg0.N) (h : t.val = 0) (e : Fin 2048) :
    (outsAt0 m c t.val t.isLt).2.2.2.1 (ix2 0 e) = LowRank.dgainShift (n := 256) (iblk m c 0 t) (iblk m c 2 t) (Rows.line (iblk m c 5 t)) (iblk m c 6 t) e := by
  rw [outsAt0_A m c t (by omega) (by omega) (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rfl

theorem later_dshift_rate (t : Fin cfg0.N) (h : ¬t.val = 0) (e : Fin 2048) :
    (outsAt0 m c t.val t.isLt).2.2.2.1 (ix2 0 e)
      = (outsAt0 m c (t.val - 1) (Nat.lt_of_le_of_lt (Nat.sub_le _ _) t.isLt)).2.2.2.1 (ix2 0 e) + LowRank.dgainShift (n := 256) (iblk m c 0 t) (iblk m c 2 t) (Rows.line (iblk m c 5 t)) (iblk m c 6 t) e := by
  have ht : t.val < 16 := t.isLt
  rw [outsAt0_B m c t (by omega) (by omega) (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rfl

theorem first_dweights_rate (t : Fin cfg0.N) (h : t.val = 0) (a : Fin 256) (e : Fin 2048) :
    (outsAt0 m c t.val t.isLt).2.2.2.2 (ix2 a e) = LowRank.dgainWeights (n := 256) (iblk m c 0 t) (iblk m c 2 t) (Rows.line (iblk m c 5 t)) (iblk m c 6 t) (ix2 a e) := by
  rw [outsAt0_A m c t (by omega) (by omega) (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rfl

theorem later_dweights_rate (t : Fin cfg0.N) (h : ¬t.val = 0) (a : Fin 256) (e : Fin 2048) :
    (outsAt0 m c t.val t.isLt).2.2.2.2 (ix2 a e)
      = (outsAt0 m c (t.val - 1) (Nat.lt_of_le_of_lt (Nat.sub_le _ _) t.isLt)).2.2.2.2 (ix2 a e) + LowRank.dgainWeights (n := 256) (iblk m c 0 t) (iblk m c 2 t) (Rows.line (iblk m c 5 t)) (iblk m c 6 t) (ix2 a e) := by
  have ht : t.val < 16 := t.isLt
  rw [outsAt0_B m c t (by omega) (by omega) (by omega) (by omega) (by omega) (by omega) (by omega) (by omega)]
  dsimp only
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  rfl

/-! ## The result arrays -/

/-- The columns' gradient. -/
def dxArr : FVec Ideal S4096x256 .f32 :=
  LowRank.dx (n := 4096) (m (c.tc.loc main_arg0)) (m (c.tc.loc main_arg1)) (m (c.tc.loc main_arg2)) (Rows.par (m (c.tc.loc main_arg3))) (m (c.tc.loc main_arg4)) (Rows.par (m (c.tc.loc main_arg5))) (m (c.tc.loc main_arg6))

/-- The gradient of the decay's shift. -/
def dshiftArr : FVec Ideal S1x2048 .f32 :=
  Rows.lineOf <| LowRank.dlogShift (n := 4096) (m (c.tc.loc main_arg0)) (m (c.tc.loc main_arg1)) (Rows.par (m (c.tc.loc main_arg3))) (m (c.tc.loc main_arg4))

/-- The gradient of the decay's weights. -/
def dweightsArr : FVec Ideal S256x2048 .f32 :=
  LowRank.dlogWeights (n := 4096) (m (c.tc.loc main_arg0)) (m (c.tc.loc main_arg1)) (Rows.par (m (c.tc.loc main_arg3))) (m (c.tc.loc main_arg4))

/-- The gradient of the rate's shift. -/
def dshift_rateArr : FVec Ideal S1x2048 .f32 :=
  Rows.lineOf <| LowRank.dgainShift (n := 4096) (m (c.tc.loc main_arg0)) (m (c.tc.loc main_arg2)) (Rows.par (m (c.tc.loc main_arg5))) (m (c.tc.loc main_arg6))

/-- The gradient of the rate's weights. -/
def dweights_rateArr : FVec Ideal S256x2048 .f32 :=
  LowRank.dgainWeights (n := 4096) (m (c.tc.loc main_arg0)) (m (c.tc.loc main_arg2)) (Rows.par (m (c.tc.loc main_arg5))) (m (c.tc.loc main_arg6))

theorem final_dx : (dats m 0 c).arrAt 7 cfg0.N = dxArr m c := by
  refine (dats m 0 c).arrAt_eq_of_covers 7 (dxArr m c) (by decide +kernel) fun t hf y => ?_
  have ht : t.val < 16 := t.isLt
  blk_simp
  rw [after0_7]
  obtain ⟨i, e, rfl⟩ := Products.exists_ix2 (m := 256) (n := 256) y
  have h : 256 * t.val + i.val < 4096 := by omega
  refine (out_dx m c t i e).trans ?_
  have hx : ((win0_7.blk t).view.emb (ix2 i e) : S4096x256.Idx) = ix2 ⟨256 * t.val + i.val, h⟩ e := by
    blk_ext [index7 t]
  rw [hx]
  unfold dxArr
  rw [LowRank.dx_apply, LowRank.dx_apply]
  rw [row0 m c t i h, row1 m c t i h, row2 m c t i h, whole4 m c t, whole6 m c t, line3 m c t, line5 m c t]

theorem final_dshift : (dats m 0 c).arrAt 8 cfg0.N = dshiftArr m c := by
  refine (dats m 0 c).arrAt_eq_of_covers 8 (dshiftArr m c) (by decide +kernel) fun t hf y => ?_
  have ht : t.val = 15 := by have := (flush0_8 t).mp hf; have : t.val < 16 := t.isLt; omega
  blk_simp
  rw [after0_8]
  obtain ⟨a, e, rfl⟩ := Products.exists_ix2 (m := 1) (n := 2048) y
  obtain rfl : a = 0 := Subsingleton.elim _ _
  have hx : ((win0_8.blk t).view.emb (ix2 0 e) : S1x2048.Idx) = (ix2 0 e) := by
    blk_ext [index8]
  rw [hx]
  refine (Rows.accum_last (N := cfg0.N) (L := 16) (fun n h => (outsAt0 m c n h).2.1 (ix2 0 e)) (fun n h => LowRank.dlogShift (n := 256) (iblk m c 0 ⟨n, h⟩) (iblk m c 1 ⟨n, h⟩) (Rows.line (iblk m c 3 ⟨n, h⟩)) (iblk m c 4 ⟨n, h⟩) e)
    (fun h => first_dshift m c ⟨0, h⟩ rfl e) (fun n h => later_dshift m c ⟨n + 1, h⟩ (Nat.succ_ne_zero n) e) _ t.isLt (by omega)).trans ?_
  unfold dshiftArr Rows.lineOf LowRank.dlogShift
  show _ = (∑ i : Fin 4096, _ : EReal)
  rw [Rows.sum_rows]
  refine Finset.sum_congr rfl fun k _ => Finset.sum_congr rfl fun i _ => ?_
  have h : 256 * k.val + i.val < 4096 := by have := k.isLt; omega
  have hk : k.val < cfg0.N := k.isLt
  rw [row0 m c ⟨k.val, hk⟩ i h, row1 m c ⟨k.val, hk⟩ i h, whole4 m c ⟨k.val, hk⟩, line3 m c ⟨k.val, hk⟩]
  rfl

theorem final_dweights : (dats m 0 c).arrAt 9 cfg0.N = dweightsArr m c := by
  refine (dats m 0 c).arrAt_eq_of_covers 9 (dweightsArr m c) (by decide +kernel) fun t hf y => ?_
  have ht : t.val = 15 := by have := (flush0_9 t).mp hf; have : t.val < 16 := t.isLt; omega
  blk_simp
  rw [after0_9]
  obtain ⟨a, e, rfl⟩ := Products.exists_ix2 (m := 256) (n := 2048) y
  have hx : ((win0_9.blk t).view.emb (ix2 a e) : S256x2048.Idx) = (ix2 a e) := by
    blk_ext [index9]
  rw [hx]
  refine (Rows.accum_last (N := cfg0.N) (L := 16) (fun n h => (outsAt0 m c n h).2.2.1 (ix2 a e)) (fun n h => LowRank.dlogWeights (n := 256) (iblk m c 0 ⟨n, h⟩) (iblk m c 1 ⟨n, h⟩) (Rows.line (iblk m c 3 ⟨n, h⟩)) (iblk m c 4 ⟨n, h⟩) (ix2 a e))
    (fun h => first_dweights m c ⟨0, h⟩ rfl a e) (fun n h => later_dweights m c ⟨n + 1, h⟩ (Nat.succ_ne_zero n) a e) _ t.isLt (by omega)).trans ?_
  unfold dweightsArr LowRank.dlogWeights
  show _ = (∑ i : Fin 4096, _ : EReal)
  rw [Rows.sum_rows]
  refine Finset.sum_congr rfl fun k _ => Finset.sum_congr rfl fun i _ => ?_
  have h : 256 * k.val + i.val < 4096 := by have := k.isLt; omega
  have hk : k.val < cfg0.N := k.isLt
  rw [row0 m c ⟨k.val, hk⟩ i h, row1 m c ⟨k.val, hk⟩ i h, whole4 m c ⟨k.val, hk⟩, line3 m c ⟨k.val, hk⟩]

theorem final_dshift_rate : (dats m 0 c).arrAt 10 cfg0.N = dshift_rateArr m c := by
  refine (dats m 0 c).arrAt_eq_of_covers 10 (dshift_rateArr m c) (by decide +kernel) fun t hf y => ?_
  have ht : t.val = 15 := by have := (flush0_10 t).mp hf; have : t.val < 16 := t.isLt; omega
  blk_simp
  rw [after0_10]
  obtain ⟨a, e, rfl⟩ := Products.exists_ix2 (m := 1) (n := 2048) y
  obtain rfl : a = 0 := Subsingleton.elim _ _
  have hx : ((win0_10.blk t).view.emb (ix2 0 e) : S1x2048.Idx) = (ix2 0 e) := by
    blk_ext [index10]
  rw [hx]
  refine (Rows.accum_last (N := cfg0.N) (L := 16) (fun n h => (outsAt0 m c n h).2.2.2.1 (ix2 0 e)) (fun n h => LowRank.dgainShift (n := 256) (iblk m c 0 ⟨n, h⟩) (iblk m c 2 ⟨n, h⟩) (Rows.line (iblk m c 5 ⟨n, h⟩)) (iblk m c 6 ⟨n, h⟩) e)
    (fun h => first_dshift_rate m c ⟨0, h⟩ rfl e) (fun n h => later_dshift_rate m c ⟨n + 1, h⟩ (Nat.succ_ne_zero n) e) _ t.isLt (by omega)).trans ?_
  unfold dshift_rateArr Rows.lineOf LowRank.dgainShift
  show _ = (∑ i : Fin 4096, _ : EReal)
  rw [Rows.sum_rows]
  refine Finset.sum_congr rfl fun k _ => Finset.sum_congr rfl fun i _ => ?_
  have h : 256 * k.val + i.val < 4096 := by have := k.isLt; omega
  have hk : k.val < cfg0.N := k.isLt
  rw [row0 m c ⟨k.val, hk⟩ i h, row2 m c ⟨k.val, hk⟩ i h, whole6 m c ⟨k.val, hk⟩, line5 m c ⟨k.val, hk⟩]
  rfl

theorem final_dweights_rate : (dats m 0 c).arrAt 11 cfg0.N = dweights_rateArr m c := by
  refine (dats m 0 c).arrAt_eq_of_covers 11 (dweights_rateArr m c) (by decide +kernel) fun t hf y => ?_
  have ht : t.val = 15 := by have := (flush0_11 t).mp hf; have : t.val < 16 := t.isLt; omega
  blk_simp
  rw [after0_11]
  obtain ⟨a, e, rfl⟩ := Products.exists_ix2 (m := 256) (n := 2048) y
  have hx : ((win0_11.blk t).view.emb (ix2 a e) : S256x2048.Idx) = (ix2 a e) := by
    blk_ext [index11]
  rw [hx]
  refine (Rows.accum_last (N := cfg0.N) (L := 16) (fun n h => (outsAt0 m c n h).2.2.2.2 (ix2 a e)) (fun n h => LowRank.dgainWeights (n := 256) (iblk m c 0 ⟨n, h⟩) (iblk m c 2 ⟨n, h⟩) (Rows.line (iblk m c 5 ⟨n, h⟩)) (iblk m c 6 ⟨n, h⟩) (ix2 a e))
    (fun h => first_dweights_rate m c ⟨0, h⟩ rfl a e) (fun n h => later_dweights_rate m c ⟨n + 1, h⟩ (Nat.succ_ne_zero n) a e) _ t.isLt (by omega)).trans ?_
  unfold dweights_rateArr LowRank.dgainWeights
  show _ = (∑ i : Fin 4096, _ : EReal)
  rw [Rows.sum_rows]
  refine Finset.sum_congr rfl fun k _ => Finset.sum_congr rfl fun i _ => ?_
  have h : 256 * k.val + i.val < 4096 := by have := k.isLt; omega
  have hk : k.val < cfg0.N := k.isLt
  rw [row0 m c ⟨k.val, hk⟩ i h, row2 m c ⟨k.val, hk⟩ i h, whole6 m c ⟨k.val, hk⟩, line5 m c ⟨k.val, hk⟩]

theorem kernel_run : θ_run defs (onTc (τ := τ) (main (F := Ideal))) ⟨m, fun _ => 0, ρ⟩ fun r => ∀ c : Dev nD,
      r.2.mem ((c.tc : Thread nD τ).loc main_v2_0) = dxArr m c
      ∧ r.2.mem ((c.tc : Thread nD τ).loc main_v2_1) = dshiftArr m c
      ∧ r.2.mem ((c.tc : Thread nD τ).loc main_v2_2) = dweightsArr m c
      ∧ r.2.mem ((c.tc : Thread nD τ).loc main_v2_3) = dshift_rateArr m c
      ∧ r.2.mem ((c.tc : Thread nD τ).loc main_v2_4) = dweights_rateArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (final_dx m c), ((h c).2).1.trans (final_dshift m c), (((h c).2).2).1.trans (final_dweights m c), ((((h c).2).2).2).1.trans (final_dshift_rate m c), (((((h c).2).2).2).2).1.trans (final_dweights_rate m c), (((((h c).2).2).2).2).2⟩) (run_blocks m ρ)

end Cert.LoraBwdIdeal.Value

end
-- ==== Proof.LoraBwdClaim.lean ====
module

public import proofs.«01_k».proof.Defs
public import proofs.«01_k».proof.Proof.Gen.LoraBwd.Frame
public import proofs.«01_k».proof.Proof.Gen.LoraBwdRefIdeal.Run
public import proofs.«01_k».proof.Proof.LoraBwdValue
public import Idealize.ShloMosaic.Adequacy
public import Idealize.ShloMosaic.Init

/-!
  The gradients of the time mixing's two low-rank parts: what the reference computes, and the claims.
-/

@[expose] public section

set_option maxRecDepth 16384

noncomputable section

namespace Cert.LoraBwdRefIdeal.Value

open Cert.LoraBwdRefIdeal Cert.LoraBwdRefIdeal.Gen Idealize.ShloMosaic Idealize.ShloMosaic.TcCoe Idealize.SL.Sem StableHlo

/-- What the reference leaves. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55) = (LowRank.dx (n := 4096) (m (c.tc.loc main_arg0)) (m (c.tc.loc main_arg1)) (m (c.tc.loc main_arg2)) (Rows.par (m (c.tc.loc main_arg3))) (m (c.tc.loc main_arg4)) (Rows.par (m (c.tc.loc main_arg5))) (m (c.tc.loc main_arg6)) : FVec Ideal S4096x256 .f32)
      ∧ r.2.mem ((c.tc : Thread nD τ).loc main_v56) = (Rows.lineOf <| LowRank.dlogShift (n := 4096) (m (c.tc.loc main_arg0)) (m (c.tc.loc main_arg1)) (Rows.par (m (c.tc.loc main_arg3))) (m (c.tc.loc main_arg4)) : FVec Ideal S1x2048 .f32)
      ∧ r.2.mem ((c.tc : Thread nD τ).loc main_v51) = (LowRank.dlogWeights (n := 4096) (m (c.tc.loc main_arg0)) (m (c.tc.loc main_arg1)) (Rows.par (m (c.tc.loc main_arg3))) (m (c.tc.loc main_arg4)) : FVec Ideal S256x2048 .f32)
      ∧ r.2.mem ((c.tc : Thread nD τ).loc main_v57) = (Rows.lineOf <| LowRank.dgainShift (n := 4096) (m (c.tc.loc main_arg0)) (m (c.tc.loc main_arg2)) (Rows.par (m (c.tc.loc main_arg5))) (m (c.tc.loc main_arg6)) : FVec Ideal S1x2048 .f32)
      ∧ r.2.mem ((c.tc : Thread nD τ).loc main_v42) = (LowRank.dgainWeights (n := 4096) (m (c.tc.loc main_arg0)) (m (c.tc.loc main_arg2)) (Rows.par (m (c.tc.loc main_arg5))) (m (c.tc.loc main_arg6)) : FVec Ideal S256x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (run (F := Ideal) m ρ)
  obtain ⟨h0, h1, h2, h3, h4, hargs⟩ := h c
  refine ⟨h0.trans ?_, h1.trans ?_, h2.trans ?_, h3.trans ?_, h4.trans ?_, hargs⟩
  · refine Products.mat_ext (m := 4096) (n := 256) fun i j => ?_
    pointwise [Rows.ends_sum, Rows.lead_sum]
    rfl
  · refine Products.mat_ext (m := 1) (n := 2048) fun i j => ?_
    pointwise [Rows.ends_sum, Rows.lead_sum]
    rfl
  · refine Products.mat_ext (m := 256) (n := 2048) fun i j => ?_
    pointwise [Rows.ends_sum, Rows.lead_sum]
    simp only [Finset.univ_unique, Finset.sum_singleton]
    rfl
  · refine Products.mat_ext (m := 1) (n := 2048) fun i j => ?_
    pointwise [Rows.ends_sum, Rows.lead_sum]
    rfl
  · refine Products.mat_ext (m := 256) (n := 2048) fun i j => ?_
    pointwise [Rows.ends_sum, Rows.lead_sum]
    simp only [Finset.univ_unique, Finset.sum_singleton]
    rfl

end Cert.LoraBwdRefIdeal.Value

namespace Cert.Proof

open Idealize.ShloMosaic Idealize.SL.Sem

theorem lora_bwd_frame : Cert.quiescent_LoraBwd (hLoraBwd := Cert.LoraBwd.Gen.facts) := fun m ρ _ => Cert.LoraBwd.Gen.frame m ρ

theorem lora_bwd_frame_ideal : Cert.quiescent_LoraBwdIdeal (hLoraBwdIdeal := Cert.LoraBwdIdeal.Gen.facts) :=
  fun m ρ _ => Cert.LoraBwdIdeal.Gen.frame m ρ

theorem lora_bwd_frame_ref : Cert.quiescent_LoraBwdRefIdeal (hLoraBwdRefIdeal := Cert.LoraBwdRefIdeal.Gen.facts) := fun m ρ _ =>
  (θ_run Cert.LoraBwdRefIdeal.defs _ _).mono (fun r h => ⟨fun c => (h c).2.2.2.2.2,
      Idealize.ShloMosaic.sem_eq_zero_of_no_sems (by decide) r.2⟩)
    (Cert.LoraBwdRefIdeal.Value.run (F := Ideal) m ρ)

theorem lora_bwd_algebraic : Cert.algebraic_LoraBwdIdeal_LoraBwdRefIdeal (hLoraBwdIdeal := Cert.LoraBwdIdeal.Gen.facts)
    (hLoraBwdRefIdeal := Cert.LoraBwdRefIdeal.Gen.facts) := fun m ρ m' ρ' _ hagree =>
  ⟨fun c => Cert.LoraBwdIdeal.Value.dxArr m c, fun c => Cert.LoraBwdIdeal.Value.dshiftArr m c, fun c => Cert.LoraBwdIdeal.Value.dweightsArr m c, fun c => Cert.LoraBwdIdeal.Value.dshift_rateArr m c, fun c => Cert.LoraBwdIdeal.Value.dweights_rateArr m c, Cert.LoraBwdIdeal.Value.kernel_run m ρ,
    (θ_run Cert.LoraBwdRefIdeal.defs _ _).mono (fun r h c => by
      obtain ⟨h0, h1, h2, h3, h4, hargs⟩ := h c
      refine ⟨h0.trans ?_, h1.trans ?_, h2.trans ?_, h3.trans ?_, h4.trans ?_, hargs⟩
      · rw [(hagree c).1, (hagree c).2.1, (hagree c).2.2.1, (hagree c).2.2.2.1, (hagree c).2.2.2.2.1, (hagree c).2.2.2.2.2.1, (hagree c).2.2.2.2.2.2]
        rfl
      · rw [(hagree c).1, (hagree c).2.1, (hagree c).2.2.2.1, (hagree c).2.2.2.2.1]
        rfl
      · rw [(hagree c).1, (hagree c).2.1, (hagree c).2.2.2.1, (hagree c).2.2.2.2.1]
        rfl
      · rw [(hagree c).1, (hagree c).2.2.1, (hagree c).2.2.2.2.2.1, (hagree c).2.2.2.2.2.2]
        rfl
      · rw [(hagree c).1, (hagree c).2.2.1, (hagree c).2.2.2.2.2.1, (hagree c).2.2.2.2.2.2]
        rfl)
      (Cert.LoraBwdRefIdeal.Value.reference_run m' ρ')⟩

end Cert.Proof

end
-- ==== Proof.NormFwdValue.lean ====
module

public import proofs.«01_k».proof.Proof.Gen.NormFwdIdeal.Value
public import proofs.«01_k».proof.Proof.Rows

/-!
  A layer's modulated norm: the array that the call leaves.
-/

@[expose] public section

set_option maxRecDepth 16384

noncomputable section

namespace Cert.NormFwdIdeal.Value

open Cert.NormFwdIdeal Cert.NormFwdIdeal.Gen Idealize.ShloMosaic Idealize.ShloMosaic.TcCoe Idealize.SL.Sem StableHlo

variable (m : (ℓ : Loc nD τ sig) → Buf (Elt Ideal) ℓ) (ρ : Dev nD → PrngReg) (c : Dev nD)

theorem index0 : ∀ t : Fin cfg0.N, win0_0.index t = ![t.val, 0] := by decide +kernel
theorem index4 : ∀ t : Fin cfg0.N, win0_4.index t = ![t.val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel

/-! ## The blocks of the arguments -/

theorem row0 (t : Fin cfg0.N) (i : Fin 256) (h : 256 * t.val + i.val < 4096) :
    Rows.row (n := 256) (iblk m c 0 t) i = Rows.row (n := 4096) (m (c.tc.loc main_arg0)) ⟨256 * t.val + i.val, h⟩ := by
  funext e
  unfold Rows.row
  blk_ext [iblk, V_main_arg0, index0 t]

theorem V_gain : V m c main_v0 = fun i : S1x2048.Idx => (m (c.tc.loc main_arg1) : S2048.Idx → EReal) (ix1 (i 1)) := by
  show StableHlo.after hostOps0 _ _ = _
  simp only [hostOps0]
  after_results_simp
  funext i
  pointwise

theorem line1 (t : Fin cfg0.N) : Rows.line (iblk m c 1 t) = Rows.par (m (c.tc.loc main_arg1)) := by
  funext e
  refine (congrFun (V_gain m c) _).trans (congrArg _ ?_)
  blk_ext [index1 t]

theorem V_shift : V m c main_v1 = fun i : S1x2048.Idx => (m (c.tc.loc main_arg2) : S2048.Idx → EReal) (ix1 (i 1)) := by
  show StableHlo.after hostOps0 _ _ = _
  simp only [hostOps0]
  after_results_simp
  funext i
  pointwise

theorem line2 (t : Fin cfg0.N) : Rows.line (iblk m c 2 t) = Rows.par (m (c.tc.loc main_arg2)) := by
  funext e
  refine (congrFun (V_shift m c) _).trans (congrArg _ ?_)
  blk_ext [index2 t]

theorem V_scale : V m c main_v2 = fun i : S1x2048.Idx => (m (c.tc.loc main_arg3) : S2048.Idx → EReal) (ix1 (i 1)) := by
  show StableHlo.after hostOps0 _ _ = _
  simp only [hostOps0]
  after_results_simp
  funext i
  pointwise

theorem line3 (t : Fin cfg0.N) : Rows.line (iblk m c 3 t) = Rows.par (m (c.tc.loc main_arg3)) := by
  funext e
  refine (congrFun (V_scale m c) _).trans (congrArg _ ?_)
  blk_ext [index3 t]

/-! ## What each grid point leaves -/

theorem out_y (t : Fin cfg0.N) (i : Fin 256) (e : Fin 2048) :
    out0_4 (iblk m c 0 t) (iblk m c 1 t) (iblk m c 2 t) (iblk m c 3 t) (ix2 i e) = Rows.normed (n := 256) (iblk m c 0 t) (Rows.line (iblk m c 1 t)) (Rows.line (iblk m c 2 t)) (Rows.line (iblk m c 3 t)) (ix2 i e) := by
  unfold out0_4
  frame_out
  pointwise [k0_pay1]
  rfl

/-! ## The result arrays -/

/-- The modulated norm. -/
def yArr : FVec Ideal S4096x2048 .bf16 :=
  Rows.normed (n := 4096) (m (c.tc.loc main_arg0)) (Rows.par (m (c.tc.loc main_arg1))) (Rows.par (m (c.tc.loc main_arg2))) (Rows.par (m (c.tc.loc main_arg3)))

theorem final_y : (dats m 0 c).arrAt 4 cfg0.N = yArr m c := by
  refine (dats m 0 c).arrAt_eq_of_covers 4 (yArr m c) (by decide +kernel) fun t hf y => ?_
  have ht : t.val < 16 := t.isLt
  blk_simp
  rw [after0_4]
  obtain ⟨i, e, rfl⟩ := Products.exists_ix2 (m := 256) (n := 2048) y
  have h : 256 * t.val + i.val < 4096 := by omega
  refine (out_y m c t i e).trans ?_
  have hx : ((win0_4.blk t).view.emb (ix2 i e) : S4096x2048.Idx) = ix2 ⟨256 * t.val + i.val, h⟩ e := by
    blk_ext [index4 t]
  rw [hx]
  unfold yArr
  rw [Rows.normed_apply, Rows.normed_apply]
  rw [row0 m c t i h, line1 m c t, line2 m c t, line3 m c t]

theorem kernel_run : θ_run defs (onTc (τ := τ) (main (F := Ideal))) ⟨m, fun _ => 0, ρ⟩ fun r => ∀ c : Dev nD,
      r.2.mem ((c.tc : Thread nD τ).loc main_v3) = yArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_y m c), (h c).2⟩) (run_blocks m ρ)

end Cert.NormFwdIdeal.Value

end
-- ==== Proof.NormFwdClaim.lean ====
module

public import proofs.«01_k».proof.Defs
public import proofs.«01_k».proof.Proof.Gen.NormFwd.Frame
public import proofs.«01_k».proof.Proof.Gen.NormFwdRefIdeal.Run
public import proofs.«01_k».proof.Proof.NormFwdValue
public import Idealize.ShloMosaic.Adequacy
public import Idealize.ShloMosaic.Init

/-!
  A layer's modulated norm: what the reference computes, and the claims.
-/

@[expose] public section

set_option maxRecDepth 16384

noncomputable section

namespace Cert.NormFwdRefIdeal.Value

open Cert.NormFwdRefIdeal Cert.NormFwdRefIdeal.Gen Idealize.ShloMosaic Idealize.ShloMosaic.TcCoe Idealize.SL.Sem StableHlo

/-- What the reference leaves. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = (Rows.normed (n := 4096) (m (c.tc.loc main_arg0)) (Rows.par (m (c.tc.loc main_arg1))) (Rows.par (m (c.tc.loc main_arg2))) (Rows.par (m (c.tc.loc main_arg3))) : FVec Ideal S4096x2048 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run (F := Ideal) m ρ)
  obtain ⟨h0, hargs⟩ := h c
  refine ⟨h0.trans ?_, hargs⟩
  · refine Products.mat_ext (m := 4096) (n := 2048) fun i j => ?_
    pointwise [Rows.ends_sum, Rows.lead_sum]
    rfl

end Cert.NormFwdRefIdeal.Value

namespace Cert.Proof

open Idealize.ShloMosaic Idealize.SL.Sem

theorem norm_fwd_frame : Cert.quiescent_NormFwd (hNormFwd := Cert.NormFwd.Gen.facts) := fun m ρ _ => Cert.NormFwd.Gen.frame m ρ

theorem norm_fwd_frame_ideal : Cert.quiescent_NormFwdIdeal (hNormFwdIdeal := Cert.NormFwdIdeal.Gen.facts) :=
  fun m ρ _ => Cert.NormFwdIdeal.Gen.frame m ρ

theorem norm_fwd_frame_ref : Cert.quiescent_NormFwdRefIdeal (hNormFwdRefIdeal := Cert.NormFwdRefIdeal.Gen.facts) := fun m ρ _ =>
  (θ_run Cert.NormFwdRefIdeal.defs _ _).mono (fun r h => ⟨fun c => (h c).2,
      Idealize.ShloMosaic.sem_eq_zero_of_no_sems (by decide) r.2⟩)
    (Cert.NormFwdRefIdeal.Value.run (F := Ideal) m ρ)

theorem norm_fwd_algebraic : Cert.algebraic_NormFwdIdeal_NormFwdRefIdeal (hNormFwdIdeal := Cert.NormFwdIdeal.Gen.facts)
    (hNormFwdRefIdeal := Cert.NormFwdRefIdeal.Gen.facts) := fun m ρ m' ρ' _ hagree =>
  ⟨fun c => Cert.NormFwdIdeal.Value.yArr m c, Cert.NormFwdIdeal.Value.kernel_run m ρ,
    (θ_run Cert.NormFwdRefIdeal.defs _ _).mono (fun r h c => by
      obtain ⟨h0, hargs⟩ := h c
      refine ⟨h0.trans ?_, hargs⟩
      · rw [(hagree c).1, (hagree c).2.1, (hagree c).2.2.1, (hagree c).2.2.2]
        rfl)
      (Cert.NormFwdRefIdeal.Value.reference_run m' ρ')⟩

end Cert.Proof

end
-- ==== Proof.RwGateValue.lean ====
module

public import proofs.«01_k».proof.Proof.Gen.RwGateIdeal.Value
public import proofs.«01_k».proof.Proof.Rows

/-!
  The time mixing's output gate: the array that the call leaves.
-/

@[expose] public section

set_option maxRecDepth 16384

noncomputable section

namespace Cert.RwGateIdeal.Value

open Cert.RwGateIdeal Cert.RwGateIdeal.Gen Idealize.ShloMosaic Idealize.ShloMosaic.TcCoe Idealize.SL.Sem StableHlo

variable (m : (ℓ : Loc nD τ sig) → Buf (Elt Ideal) ℓ) (ρ : Dev nD → PrngReg) (c : Dev nD)

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel

/-! ## The blocks of the arguments -/

theorem row0 (t : Fin cfg0.N) (i : Fin 256) (h : 256 * t.val + i.val < 4096) :
    Rows.row (n := 256) (iblk m c 0 t) i = Rows.row (n := 4096) (m (c.tc.loc main_arg0)) ⟨256 * t.val + i.val, h⟩ := by
  funext e
  unfold Rows.row
  blk_ext [iblk, V_main_arg0, index0 t]

theorem row1 (t : Fin cfg0.N) (i : Fin 256) (h : 256 * t.val + i.val < 4096) :
    Rows.row (n := 256) (iblk m c 1 t) i = Rows.row (n := 4096) (m (c.tc.loc main_arg1)) ⟨256 * t.val + i.val, h⟩ := by
  funext e
  unfold Rows.row
  blk_ext [iblk, V_main_arg1, index1 t]

/-! ## What each grid point leaves -/

theorem out_y (t : Fin cfg0.N) (i : Fin 256) (e : Fin 2048) :
    out0_2 (iblk m c 0 t) (iblk m c 1 t) (ix2 i e) = Rows.gated (n := 256) (iblk m c 0 t) (iblk m c 1 t) (ix2 i e) := by
  unfold out0_2
  frame_out
  pointwise [k0_pay1]
  rfl

/-! ## The result arrays -/

/-- The gated rows. -/
def yArr : FVec Ideal S4096x2048 .bf16 :=
  Rows.gated (n := 4096) (m (c.tc.loc main_arg0)) (m (c.tc.loc main_arg1))

theorem final_y : (dats m 0 c).arrAt 2 cfg0.N = yArr m c := by
  refine (dats m 0 c).arrAt_eq_of_covers 2 (yArr m c) (by decide +kernel) fun t hf y => ?_
  have ht : t.val < 16 := t.isLt
  blk_simp
  rw [after0_2]
  obtain ⟨i, e, rfl⟩ := Products.exists_ix2 (m := 256) (n := 2048) y
  have h : 256 * t.val + i.val < 4096 := by omega
  refine (out_y m c t i e).trans ?_
  have hx : ((win0_2.blk t).view.emb (ix2 i e) : S4096x2048.Idx) = ix2 ⟨256 * t.val + i.val, h⟩ e := by
    blk_ext [index2 t]
  rw [hx]
  unfold yArr
  rw [Rows.gated_apply, Rows.gated_apply]
  rw [row0 m c t i h, row1 m c t i h]

theorem kernel_run : θ_run defs (onTc (τ := τ) (main (F := Ideal))) ⟨m, fun _ => 0, ρ⟩ fun r => ∀ c : Dev nD,
      r.2.mem ((c.tc : Thread nD τ).loc main_v0) = yArr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_y m c), (h c).2⟩) (run_blocks m ρ)

end Cert.RwGateIdeal.Value

end
-- ==== Proof.RwGateClaim.lean ====
module

public import proofs.«01_k».proof.Defs
public import proofs.«01_k».proof.Proof.Gen.RwGate.Frame
public import proofs.«01_k».proof.Proof.Gen.RwGateRefIdeal.Run
public import proofs.«01_k».proof.Proof.RwGateValue
public import Idealize.ShloMosaic.Adequacy
public import Idealize.ShloMosaic.Init

/-!
  The time mixing's output gate: what the reference computes, and the claims.
-/

@[expose] public section

set_option maxRecDepth 16384

noncomputable section

namespace Cert.RwGateRefIdeal.Value

open Cert.RwGateRefIdeal Cert.RwGateRefIdeal.Gen Idealize.ShloMosaic Idealize.ShloMosaic.TcCoe Idealize.SL.Sem StableHlo

/-- What the reference leaves. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = (Rows.gated (n := 4096) (m (c.tc.loc main_arg0)) (m (c.tc.loc main_arg1)) : FVec Ideal S4096x2048 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (run (F := Ideal) m ρ)
  obtain ⟨h0, hargs⟩ := h c
  refine ⟨h0.trans ?_, hargs⟩
  · refine Products.mat_ext (m := 4096) (n := 2048) fun i j => ?_
    pointwise [Rows.ends_sum, Rows.lead_sum]
    rfl

end Cert.RwGateRefIdeal.Value

namespace Cert.Proof

open Idealize.ShloMosaic Idealize.SL.Sem

theorem rw_gate_frame : Cert.quiescent_RwGate (hRwGate := Cert.RwGate.Gen.facts) := fun m ρ _ => Cert.RwGate.Gen.frame m ρ

theorem rw_gate_frame_ideal : Cert.quiescent_RwGateIdeal (hRwGateIdeal := Cert.RwGateIdeal.Gen.facts) :=
  fun m ρ _ => Cert.RwGateIdeal.Gen.frame m ρ

theorem rw_gate_frame_ref : Cert.quiescent_RwGateRefIdeal (hRwGateRefIdeal := Cert.RwGateRefIdeal.Gen.facts) := fun m ρ _ =>
  (θ_run Cert.RwGateRefIdeal.defs _ _).mono (fun r h => ⟨fun c => (h c).2,
      Idealize.ShloMosaic.sem_eq_zero_of_no_sems (by decide) r.2⟩)
    (Cert.RwGateRefIdeal.Value.run (F := Ideal) m ρ)

theorem rw_gate_algebraic : Cert.algebraic_RwGateIdeal_RwGateRefIdeal (hRwGateIdeal := Cert.RwGateIdeal.Gen.facts)
    (hRwGateRefIdeal := Cert.RwGateRefIdeal.Gen.facts) := fun m ρ m' ρ' _ hagree =>
  ⟨fun c => Cert.RwGateIdeal.Value.yArr m c, Cert.RwGateIdeal.Value.kernel_run m ρ,
    (θ_run Cert.RwGateRefIdeal.defs _ _).mono (fun r h c => by
      obtain ⟨h0, hargs⟩ := h c
      refine ⟨h0.trans ?_, hargs⟩
      · rw [(hagree c).1, (hagree c).2]
        rfl)
      (Cert.RwGateRefIdeal.Value.reference_run m' ρ')⟩

end Cert.Proof

end
-- ==== Proof.SwaGateValue.lean ====
module

public import proofs.«01_k».proof.Proof.Gen.SwaGateIdeal.Value
public import proofs.«01_k».proof.Proof.Rows

/-!
  The attention's output gate: the array that the call leaves.
-/

@[expose] public section

set_option maxRecDepth 16384

noncomputable section

namespace Cert.SwaGateIdeal.Value

open Cert.SwaGateIdeal Cert.SwaGateIdeal.Gen Idealize.ShloMosaic Idealize.ShloMosaic.TcCoe Idealize.SL.Sem StableHlo

variable (m : (ℓ : Loc nD τ sig) → Buf (Elt Ideal) ℓ) (ρ : Dev nD → PrngReg) (c : Dev nD)

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel

/-! ## The blocks of the arguments -/

theorem row0 (t : Fin cfg0.N) (i : Fin 256) (h : 256 * t.val + i.val < 4096) :
    Rows.row (n := 256) (iblk m c 0 t) i = Rows.row (n := 4096) (m (c.tc.loc main_arg0)) ⟨256 * t.val + i.val, h⟩ := by
  funext e
  unfold Rows.row
  blk_ext [iblk, V_main_arg0, index0 t]

theorem row1 (t : Fin cfg0.N) (i : Fin 256) (h : 256 * t.val + i.val < 4096) :
    Rows.row (n := 256) (Rows.cols (n := 256) (w := 4608) 2560 (by decide) (iblk m c 1 t)) i
      = Rows.row (n := 4096) (Rows.cols (n := 4096) (w := 4608) 2560 (by decide) (m (c.tc.loc main_arg1))) ⟨256 * t.val + i.val, h⟩ := by
  funext e
  unfold Rows.row Rows.cols
  blk_ext [iblk, V_main_arg1, index1 t]

/-! ## What each grid point leaves -/

theorem out_y (t : Fin cfg0.N) (i : Fin 256) (e : Fin 2048) :
    out0_2 (iblk m c 0 t) (iblk m c 1 t) (ix2 i e) = Rows.gated (n := 256) (iblk m c 0 t) (Rows.cols (n := 256) (w := 4608) 2560 (by decide) (iblk m c 1 t)) (ix2 i e) := by
  unfold out0_2
  frame_out
  pointwise [k0_pay1]
  rfl

/-! ## The result arrays -/

/-- The gated rows. -/
def yArr : FVec Ideal S4096x2048 .bf16 :=
  Rows.gated (n := 4096) (m (c.tc.loc main_arg0)) (Rows.cols (n := 4096) (w := 4608) 2560 (by decide) (m (c.tc.loc main_arg1)))

theorem final_y : (dats m 0 c).arrAt 2 cfg0.N = yArr m c := by
  refine (dats m 0 c).arrAt_eq_of_covers 2 (yArr m c) (by decide +kernel) fun t hf y => ?_
  have ht : t.val < 16 := t.isLt
  blk_simp
  rw [after0_2]
  obtain ⟨i, e, rfl⟩ := Products.exists_ix2 (m := 256) (n := 2048) y
  have h : 256 * t.val + i.val < 4096 := by omega
  refine (out_y m c t i e).trans ?_
  have hx : ((win0_2.blk t).view.emb (ix2 i e) : S4096x2048.Idx) = ix2 ⟨256 * t.val + i.val, h⟩ e := by
    blk_ext [index2 t]
  rw [hx]
  unfold yArr
  rw [Rows.gated_apply, Rows.gated_apply]
  rw [row0 m c t i h, row1 m c t i h]

theorem kernel_run : θ_run defs (onTc (τ := τ) (main (F := Ideal))) ⟨m, fun _ => 0, ρ⟩ fun r => ∀ c : Dev nD,
      r.2.mem ((c.tc : Thread nD τ).loc main_v0) = yArr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_y m c), (h c).2⟩) (run_blocks m ρ)

end Cert.SwaGateIdeal.Value

end
-- ==== Proof.SwaGateClaim.lean ====
module

public import proofs.«01_k».proof.Defs
public import proofs.«01_k».proof.Proof.Gen.SwaGate.Frame
public import proofs.«01_k».proof.Proof.Gen.SwaGateRefIdeal.Run
public import proofs.«01_k».proof.Proof.SwaGateValue
public import Idealize.ShloMosaic.Adequacy
public import Idealize.ShloMosaic.Init

/-!
  The attention's output gate: what the reference computes, and the claims.
-/

@[expose] public section

set_option maxRecDepth 16384

noncomputable section

namespace Cert.SwaGateRefIdeal.Value

open Cert.SwaGateRefIdeal Cert.SwaGateRefIdeal.Gen Idealize.ShloMosaic Idealize.ShloMosaic.TcCoe Idealize.SL.Sem StableHlo

/-- What the reference leaves. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = (Rows.gated (n := 4096) (m (c.tc.loc main_arg0)) (Rows.cols (n := 4096) (w := 4608) 2560 (by decide) (m (c.tc.loc main_arg1))) : FVec Ideal S4096x2048 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (run (F := Ideal) m ρ)
  obtain ⟨h0, hargs⟩ := h c
  refine ⟨h0.trans ?_, hargs⟩
  · refine Products.mat_ext (m := 4096) (n := 2048) fun i j => ?_
    pointwise [Rows.ends_sum, Rows.lead_sum]
    rfl

end Cert.SwaGateRefIdeal.Value

namespace Cert.Proof

open Idealize.ShloMosaic Idealize.SL.Sem

theorem swa_gate_frame : Cert.quiescent_SwaGate (hSwaGate := Cert.SwaGate.Gen.facts) := fun m ρ _ => Cert.SwaGate.Gen.frame m ρ

theorem swa_gate_frame_ideal : Cert.quiescent_SwaGateIdeal (hSwaGateIdeal := Cert.SwaGateIdeal.Gen.facts) :=
  fun m ρ _ => Cert.SwaGateIdeal.Gen.frame m ρ

theorem swa_gate_frame_ref : Cert.quiescent_SwaGateRefIdeal (hSwaGateRefIdeal := Cert.SwaGateRefIdeal.Gen.facts) := fun m ρ _ =>
  (θ_run Cert.SwaGateRefIdeal.defs _ _).mono (fun r h => ⟨fun c => (h c).2,
      Idealize.ShloMosaic.sem_eq_zero_of_no_sems (by decide) r.2⟩)
    (Cert.SwaGateRefIdeal.Value.run (F := Ideal) m ρ)

theorem swa_gate_algebraic : Cert.algebraic_SwaGateIdeal_SwaGateRefIdeal (hSwaGateIdeal := Cert.SwaGateIdeal.Gen.facts)
    (hSwaGateRefIdeal := Cert.SwaGateRefIdeal.Gen.facts) := fun m ρ m' ρ' _ hagree =>
  ⟨fun c => Cert.SwaGateIdeal.Value.yArr m c, Cert.SwaGateIdeal.Value.kernel_run m ρ,
    (θ_run Cert.SwaGateRefIdeal.defs _ _).mono (fun r h c => by
      obtain ⟨h0, hargs⟩ := h c
      refine ⟨h0.trans ?_, hargs⟩
      · rw [(hagree c).1, (hagree c).2]
        rfl)
      (Cert.SwaGateRefIdeal.Value.reference_run m' ρ')⟩

end Cert.Proof

end
-- ==== Proof.LoraValue.lean ====
module

public import proofs.«01_k».proof.Proof.Gen.LoraIdeal.Value
public import proofs.«01_k».proof.Proof.LowRank

/-!
  The time mixing's two low-rank parts: the arrays that the call leaves.
-/

@[expose] public section

set_option maxRecDepth 16384

noncomputable section

namespace Cert.LoraIdeal.Value

open Cert.LoraIdeal Cert.LoraIdeal.Gen Idealize.ShloMosaic Idealize.ShloMosaic.TcCoe Idealize.SL.Sem StableHlo

variable (m : (ℓ : Loc nD τ sig) → Buf (Elt Ideal) ℓ) (ρ : Dev nD → PrngReg) (c : Dev nD)

theorem index0 : ∀ t : Fin cfg0.N, win0_0.index t = ![t.val, 0] := by decide +kernel
theorem index5 : ∀ t : Fin cfg0.N, win0_5.index t = ![t.val, 0] := by decide +kernel
theorem index6 : ∀ t : Fin cfg0.N, win0_6.index t = ![t.val, 0] := by decide +kernel
theorem index2 : ∀ t : Fin cfg0.N, win0_2.index t = ![0, 0] := by decide +kernel
theorem index4 : ∀ t : Fin cfg0.N, win0_4.index t = ![0, 0] := by decide +kernel
theorem index1 : ∀ t : Fin cfg0.N, win0_1.index t = ![0, 0] := by decide +kernel
theorem index3 : ∀ t : Fin cfg0.N, win0_3.index t = ![0, 0] := by decide +kernel

/-! ## The blocks of the arguments -/

theorem row0 (t : Fin cfg0.N) (i : Fin 256) (h : 256 * t.val + i.val < 4096) :
    LowRank.feat (n := 256) (iblk m c 0 t) i = LowRank.feat (n := 4096) (m (c.tc.loc main_arg0)) ⟨256 * t.val + i.val, h⟩ := by
  funext e
  unfold LowRank.feat
  blk_ext [iblk, V_main_arg0, index0 t]

theorem whole2 (t : Fin cfg0.N) : (iblk m c 2 t : S256x2048.Idx → EReal) = m (c.tc.loc main_arg2) := by
  funext y
  obtain ⟨q, e, rfl⟩ := Products.exists_ix2 (m := 256) (n := 2048) y
  blk_ext [iblk, V_main_arg2, index2 t]

theorem whole4 (t : Fin cfg0.N) : (iblk m c 4 t : S256x2048.Idx → EReal) = m (c.tc.loc main_arg4) := by
  funext y
  obtain ⟨q, e, rfl⟩ := Products.exists_ix2 (m := 256) (n := 2048) y
  blk_ext [iblk, V_main_arg4, index4 t]

theorem V_shift0 : V m c main_v0 = fun i : S1x2048.Idx => (m (c.tc.loc main_arg1) : S2048.Idx → EReal) (ix1 (i 1)) := by
  show StableHlo.after hostOps0 _ _ = _
  simp only [hostOps0]
  after_results_simp
  funext i
  pointwise

theorem line1 (t : Fin cfg0.N) : Rows.line (iblk m c 1 t) = Rows.par (m (c.tc.loc main_arg1)) := by
  funext e
  refine (congrFun (V_shift0 m c) _).trans (congrArg _ ?_)
  blk_ext [index1 t]

theorem V_shift1 : V m c main_v1 = fun i : S1x2048.Idx => (m (c.tc.loc main_arg3) : S2048.Idx → EReal) (ix1 (i 1)) := by
  show StableHlo.after hostOps0 _ _ = _
  simp only [hostOps0]
  after_results_simp
  funext i
  pointwise

theorem line3 (t : Fin cfg0.N) : Rows.line (iblk m c 3 t) = Rows.par (m (c.tc.loc main_arg3)) := by
  funext e
  refine (congrFun (V_shift1 m c) _).trans (congrArg _ ?_)
  blk_ext [index3 t]

/-! ## What each grid point leaves -/

theorem out_decay (t : Fin cfg0.N) (i : Fin 256) (e : Fin 2048) :
    out0_5 (iblk m c 0 t) (iblk m c 1 t) (iblk m c 2 t) (iblk m c 3 t) (iblk m c 4 t) (ix2 i e) = LowRank.decay (n := 256) (iblk m c 0 t) (Rows.line (iblk m c 1 t)) (iblk m c 2 t) (ix2 i e) := by
  unfold out0_5
  frame_out
  pointwise [k0_pay1, k0_pay2]
  rfl

theorem out_gain (t : Fin cfg0.N) (i : Fin 256) (e : Fin 2048) :
    out0_6 (iblk m c 0 t) (iblk m c 1 t) (iblk m c 2 t) (iblk m c 3 t) (iblk m c 4 t) (ix2 i e) = LowRank.gain (n := 256) (iblk m c 0 t) (Rows.line (iblk m c 3 t)) (iblk m c 4 t) (ix2 i e) := by
  unfold out0_6
  frame_out
  pointwise [k0_pay1, k0_pay2]
  rfl

/-! ## The result arrays -/

/-- The decay's logarithm. -/
def decayArr : FVec Ideal S4096x2048 .f32 :=
  LowRank.decay (n := 4096) (m (c.tc.loc main_arg0)) (Rows.par (m (c.tc.loc main_arg1))) (m (c.tc.loc main_arg2))

/-- The rate. -/
def gainArr : FVec Ideal S4096x2048 .f32 :=
  LowRank.gain (n := 4096) (m (c.tc.loc main_arg0)) (Rows.par (m (c.tc.loc main_arg3))) (m (c.tc.loc main_arg4))

theorem final_decay : (dats m 0 c).arrAt 5 cfg0.N = decayArr m c := by
  refine (dats m 0 c).arrAt_eq_of_covers 5 (decayArr m c) (by decide +kernel) fun t hf y => ?_
  have ht : t.val < 16 := t.isLt
  blk_simp
  rw [after0_5]
  obtain ⟨i, e, rfl⟩ := Products.exists_ix2 (m := 256) (n := 2048) y
  have h : 256 * t.val + i.val < 4096 := by omega
  refine (out_decay m c t i e).trans ?_
  have hx : ((win0_5.blk t).view.emb (ix2 i e) : S4096x2048.Idx) = ix2 ⟨256 * t.val + i.val, h⟩ e := by
    blk_ext [index5 t]
  rw [hx]
  unfold decayArr
  rw [LowRank.decay_apply, LowRank.decay_apply]
  rw [row0 m c t i h, whole2 m c t, line1 m c t]

theorem final_gain : (dats m 0 c).arrAt 6 cfg0.N = gainArr m c := by
  refine (dats m 0 c).arrAt_eq_of_covers 6 (gainArr m c) (by decide +kernel) fun t hf y => ?_
  have ht : t.val < 16 := t.isLt
  blk_simp
  rw [after0_6]
  obtain ⟨i, e, rfl⟩ := Products.exists_ix2 (m := 256) (n := 2048) y
  have h : 256 * t.val + i.val < 4096 := by omega
  refine (out_gain m c t i e).trans ?_
  have hx : ((win0_6.blk t).view.emb (ix2 i e) : S4096x2048.Idx) = ix2 ⟨256 * t.val + i.val, h⟩ e := by
    blk_ext [index6 t]
  rw [hx]
  unfold gainArr
  rw [LowRank.gain_apply, LowRank.gain_apply]
  rw [row0 m c t i h, whole4 m c t, line3 m c t]

theorem kernel_run : θ_run defs (onTc (τ := τ) (main (F := Ideal))) ⟨m, fun _ => 0, ρ⟩ fun r => ∀ c : Dev nD,
      r.2.mem ((c.tc : Thread nD τ).loc main_v2_0) = decayArr m c
      ∧ r.2.mem ((c.tc : Thread nD τ).loc main_v2_1) = gainArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final_decay m c), ((h c).2).1.trans (final_gain m c), ((h c).2).2⟩) (run_blocks m ρ)

end Cert.LoraIdeal.Value

end
-- ==== Proof.LoraClaim.lean ====
module

public import proofs.«01_k».proof.Defs
public import proofs.«01_k».proof.Proof.Gen.Lora.Frame
public import proofs.«01_k».proof.Proof.Gen.LoraRefIdeal.Run
public import proofs.«01_k».proof.Proof.LoraValue
public import Idealize.ShloMosaic.Adequacy
public import Idealize.ShloMosaic.Init

/-!
  The time mixing's two low-rank parts: what the reference computes, and the claims.
-/

@[expose] public section

set_option maxRecDepth 16384

noncomputable section

namespace Cert.LoraRefIdeal.Value

open Cert.LoraRefIdeal Cert.LoraRefIdeal.Gen Idealize.ShloMosaic Idealize.ShloMosaic.TcCoe Idealize.SL.Sem StableHlo

/-- What the reference leaves. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = (LowRank.decay (n := 4096) (m (c.tc.loc main_arg0)) (Rows.par (m (c.tc.loc main_arg1))) (m (c.tc.loc main_arg2)) : FVec Ideal S4096x2048 .f32)
      ∧ r.2.mem ((c.tc : Thread nD τ).loc main_v25) = (LowRank.gain (n := 4096) (m (c.tc.loc main_arg0)) (Rows.par (m (c.tc.loc main_arg3))) (m (c.tc.loc main_arg4)) : FVec Ideal S4096x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run (F := Ideal) m ρ)
  obtain ⟨h0, h1, hargs⟩ := h c
  refine ⟨h0.trans ?_, h1.trans ?_, hargs⟩
  · refine Products.mat_ext (m := 4096) (n := 2048) fun i j => ?_
    pointwise [Rows.ends_sum, Rows.lead_sum]
    rfl
  · refine Products.mat_ext (m := 4096) (n := 2048) fun i j => ?_
    pointwise [Rows.ends_sum, Rows.lead_sum]
    rfl

end Cert.LoraRefIdeal.Value

namespace Cert.Proof

open Idealize.ShloMosaic Idealize.SL.Sem

theorem lora_frame : Cert.quiescent_Lora (hLora := Cert.Lora.Gen.facts) := fun m ρ _ => Cert.Lora.Gen.frame m ρ

theorem lora_frame_ideal : Cert.quiescent_LoraIdeal (hLoraIdeal := Cert.LoraIdeal.Gen.facts) :=
  fun m ρ _ => Cert.LoraIdeal.Gen.frame m ρ

theorem lora_frame_ref : Cert.quiescent_LoraRefIdeal (hLoraRefIdeal := Cert.LoraRefIdeal.Gen.facts) := fun m ρ _ =>
  (θ_run Cert.LoraRefIdeal.defs _ _).mono (fun r h => ⟨fun c => (h c).2.2,
      Idealize.ShloMosaic.sem_eq_zero_of_no_sems (by decide) r.2⟩)
    (Cert.LoraRefIdeal.Value.run (F := Ideal) m ρ)

theorem lora_algebraic : Cert.algebraic_LoraIdeal_LoraRefIdeal (hLoraIdeal := Cert.LoraIdeal.Gen.facts)
    (hLoraRefIdeal := Cert.LoraRefIdeal.Gen.facts) := fun m ρ m' ρ' _ hagree =>
  ⟨fun c => Cert.LoraIdeal.Value.decayArr m c, fun c => Cert.LoraIdeal.Value.gainArr m c, Cert.LoraIdeal.Value.kernel_run m ρ,
    (θ_run Cert.LoraRefIdeal.defs _ _).mono (fun r h c => by
      obtain ⟨h0, h1, hargs⟩ := h c
      refine ⟨h0.trans ?_, h1.trans ?_, hargs⟩
      · rw [(hagree c).1, (hagree c).2.1, (hagree c).2.2.1]
        rfl
      · rw [(hagree c).1, (hagree c).2.2.2.1, (hagree c).2.2.2.2]
        rfl)
      (Cert.LoraRefIdeal.Value.reference_run m' ρ')⟩

end Cert.Proof

end
-- ==== Proof.RwInlDwValue.lean ====
module

public import proofs.«01_k».proof.Proof.Gen.RwInlDwIdeal.Value
public import proofs.«01_k».proof.Proof.Products

/-!
  The gradient of the time mixing's low-rank columns' weights: the array that the call leaves.
-/

@[expose] public section

set_option maxRecDepth 16384

noncomputable section

namespace Cert.RwInlDwIdeal.Value

open Cert.RwInlDwIdeal Cert.RwInlDwIdeal.Gen Idealize.ShloMosaic Idealize.ShloMosaic.TcCoe Idealize.SL.Sem StableHlo

variable (m : (ℓ : Loc nD τ sig) → Buf (Elt Ideal) ℓ) (ρ : Dev nD → PrngReg) (c : Dev nD)

/-- The product of the first argument, transposed, and the second. -/
def outArr : FVec Ideal S2048x256 .bf16 :=
  Products.tn (m := 2048) (k := 4096) (n := 256) (m (c.tc.loc main_arg0)) (m (c.tc.loc main_arg1))

theorem index0 : ∀ t : Fin cfg0.N, win0_0.index t = ![0, win0_2.index t 0] := by decide +kernel
theorem index1 : ∀ t : Fin cfg0.N, win0_1.index t = ![0, win0_2.index t 1] := by decide +kernel

theorem final_out : (dats m 0 c).arrAt 2 cfg0.N = outArr m c := by
  refine (dats m 0 c).arrAt_eq_of_covers 2 (outArr m c) (by decide +kernel) fun t hf y => ?_
  blk_simp
  rw [after0_2]
  unfold outsAt0
  frame_out
  pointwise [k0_pay1]
  unfold outArr Products.tn
  refine Products.sum_mul_congr (fun k => ?_) (fun k => ?_)
  · blk_ext [iblk, V, index0 t]
  · blk_ext [iblk, V, index1 t]

theorem kernel_run : θ_run defs (onTc (τ := τ) (main (F := Ideal))) ⟨m, fun _ => 0, ρ⟩ fun r => ∀ c : Dev nD,
      r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_out m c), (h c).2⟩) (run_blocks m ρ)

end Cert.RwInlDwIdeal.Value

end
-- ==== Proof.RwInlDwClaim.lean ====
module

public import proofs.«01_k».proof.Defs
public import proofs.«01_k».proof.Proof.Gen.RwInlDw.Frame
public import proofs.«01_k».proof.Proof.Gen.RwInlDwRefIdeal.Run
public import proofs.«01_k».proof.Proof.RwInlDwValue
public import Idealize.ShloMosaic.Adequacy
public import Idealize.ShloMosaic.Init

/-!
  The gradient of the time mixing's low-rank columns' weights: what the reference computes, and the claims.
-/

@[expose] public section

set_option maxRecDepth 16384

noncomputable section

namespace Cert.RwInlDwRefIdeal.Value

open Cert.RwInlDwRefIdeal Cert.RwInlDwRefIdeal.Gen Idealize.ShloMosaic Idealize.ShloMosaic.TcCoe Idealize.SL.Sem StableHlo

/-- The reference's result is the product of the first argument, transposed, and the second. -/
theorem result_eq (A : FVec Ideal S4096x2048 .bf16) (B : FVec Ideal S4096x256 .bf16) :
    truncf .bf16 (transpose S2048x256 [1, 0] (Host.dotGeneral dot_S1x4096x256_S1x4096x2048_S256x2048_01_01_2_2_n_n none (broadcastInDim S1x4096x256 ![1, 2] bcast_S4096x256_S1x4096x256_1_2 (extf .f32 B bitsLt_bf16_f32)) (broadcastInDim S1x4096x2048 ![1, 2] bcast_S4096x2048_S1x4096x2048_1_2 (extf .f32 A bitsLt_bf16_f32))) transposes_S256x2048_S2048x256_1_0) bitsLt_bf16_f32
      = Products.tn (m := 2048) (k := 4096) (n := 256) A B := by
  refine Products.mat_ext fun i j => ?_
  pointwise
  simp only [Finset.univ_unique, Finset.sum_singleton]
  exact Products.sum_mul_comm _ _

end Cert.RwInlDwRefIdeal.Value

namespace Cert.Proof

open Idealize.ShloMosaic Idealize.SL.Sem

theorem rw_inl_dw_frame : Cert.quiescent_RwInlDw (hRwInlDw := Cert.RwInlDw.Gen.facts) := fun m ρ _ => Cert.RwInlDw.Gen.frame m ρ

theorem rw_inl_dw_frame_ideal : Cert.quiescent_RwInlDwIdeal (hRwInlDwIdeal := Cert.RwInlDwIdeal.Gen.facts) :=
  fun m ρ _ => Cert.RwInlDwIdeal.Gen.frame m ρ

theorem rw_inl_dw_frame_ref : Cert.quiescent_RwInlDwRefIdeal (hRwInlDwRefIdeal := Cert.RwInlDwRefIdeal.Gen.facts) := fun m ρ _ =>
  (θ_run Cert.RwInlDwRefIdeal.defs _ _).mono (fun r h => ⟨fun c => (h c).2,
      Idealize.ShloMosaic.sem_eq_zero_of_no_sems (by decide) r.2⟩)
    (Cert.RwInlDwRefIdeal.Value.run (F := Ideal) m ρ)

theorem rw_inl_dw_algebraic : Cert.algebraic_RwInlDwIdeal_RwInlDwRefIdeal (hRwInlDwIdeal := Cert.RwInlDwIdeal.Gen.facts)
    (hRwInlDwRefIdeal := Cert.RwInlDwRefIdeal.Gen.facts) := fun m ρ m' ρ' _ hagree =>
  ⟨fun c => Cert.RwInlDwIdeal.Value.outArr m c, Cert.RwInlDwIdeal.Value.kernel_run m ρ,
    (θ_run Cert.RwInlDwRefIdeal.defs _ _).mono (fun r h c => by
      obtain ⟨h0, hargs⟩ := h c
      refine ⟨h0.trans ?_, hargs⟩
      rw [(hagree c).1, (hagree c).2]
      exact Cert.RwInlDwRefIdeal.Value.result_eq _ _)
      (Cert.RwInlDwRefIdeal.Value.run (F := Ideal) m' ρ')⟩

end Cert.Proof

end
-- ==== Proof.RwInlDxValue.lean ====
module

public import proofs.«01_k».proof.Proof.Gen.RwInlDxIdeal.Value
public import proofs.«01_k».proof.Proof.Products

/-!
  The low-rank columns' part of the gradient of the time mixing's input: the array that the call leaves.
-/

@[expose] public section

set_option maxRecDepth 16384

noncomputable section

namespace Cert.RwInlDxIdeal.Value

open Cert.RwInlDxIdeal Cert.RwInlDxIdeal.Gen Idealize.ShloMosaic Idealize.ShloMosaic.TcCoe Idealize.SL.Sem StableHlo

variable (m : (ℓ : Loc nD τ sig) → Buf (Elt Ideal) ℓ) (ρ : Dev nD → PrngReg) (c : Dev nD)

/-- The product of the first argument and the second, transposed. -/
def outArr : FVec Ideal S4096x2048 .f32 :=
  Products.nt (m := 4096) (k := 256) (n := 2048) (m (c.tc.loc main_arg0)) (m (c.tc.loc main_arg1))

theorem V_weights : V m c main_v0 = (m (c.tc.loc main_arg1) : S2048x256.Idx → EReal) := by
  show StableHlo.after hostOps0 _ _ = _
  simp only [hostOps0]
  after_results_simp
  rfl

theorem index0 : ∀ t : Fin cfg0.N, win0_0.index t = ![win0_2.index t 0, 0] := by decide +kernel
theorem index1 : ∀ t : Fin cfg0.N, win0_1.index t = ![win0_2.index t 1, 0] := by decide +kernel

theorem final_out : (dats m 0 c).arrAt 2 cfg0.N = outArr m c := by
  refine (dats m 0 c).arrAt_eq_of_covers 2 (outArr m c) (by decide +kernel) fun t hf y => ?_
  blk_simp
  rw [after0_2]
  unfold outsAt0
  frame_out
  pointwise [k0_pay1]
  unfold outArr Products.nt
  refine Products.sum_mul_congr (fun k => ?_) (fun k => ?_)
  · blk_ext [iblk, V_main_arg0, index0 t]
  · blk_ext [iblk, V_weights, index1 t]

theorem kernel_run : θ_run defs (onTc (τ := τ) (main (F := Ideal))) ⟨m, fun _ => 0, ρ⟩ fun r => ∀ c : Dev nD,
      r.2.mem ((c.tc : Thread nD τ).loc main_v1) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_out m c), (h c).2⟩) (run_blocks m ρ)

end Cert.RwInlDxIdeal.Value

end
-- ==== Proof.RwInlDxClaim.lean ====
module

public import proofs.«01_k».proof.Defs
public import proofs.«01_k».proof.Proof.Gen.RwInlDx.Frame
public import proofs.«01_k».proof.Proof.Gen.RwInlDxRefIdeal.Run
public import proofs.«01_k».proof.Proof.RwInlDxValue
public import Idealize.ShloMosaic.Adequacy
public import Idealize.ShloMosaic.Init

/-!
  The low-rank columns' part of the gradient of the time mixing's input: what the reference computes, and the claims.
-/

@[expose] public section

set_option maxRecDepth 16384

noncomputable section

namespace Cert.RwInlDxRefIdeal.Value

open Cert.RwInlDxRefIdeal Cert.RwInlDxRefIdeal.Gen Idealize.ShloMosaic Idealize.ShloMosaic.TcCoe Idealize.SL.Sem StableHlo

/-- The reference's result is the product of the first argument and the second, transposed. -/
theorem result_eq (A : FVec Ideal S4096x256 .bf16) (B : FVec Ideal S2048x256 .f32) :
    shapeCast S4096x2048 (Host.dotGeneral dot_S1x4096x256_S2048x256_S1x4096x2048_2_1_01_0_n_n none (broadcastInDim S1x4096x256 ![1, 2] bcast_S4096x256_S1x4096x256_1_2 (extf .f32 A bitsLt_bf16_f32)) B) shapeCasts_S1x4096x2048_S4096x2048
      = Products.nt (m := 4096) (k := 256) (n := 2048) A B := by
  refine Products.mat_ext fun i j => ?_
  pointwise
  rfl

end Cert.RwInlDxRefIdeal.Value

namespace Cert.Proof

open Idealize.ShloMosaic Idealize.SL.Sem

theorem rw_inl_dx_frame : Cert.quiescent_RwInlDx (hRwInlDx := Cert.RwInlDx.Gen.facts) := fun m ρ _ => Cert.RwInlDx.Gen.frame m ρ

theorem rw_inl_dx_frame_ideal : Cert.quiescent_RwInlDxIdeal (hRwInlDxIdeal := Cert.RwInlDxIdeal.Gen.facts) :=
  fun m ρ _ => Cert.RwInlDxIdeal.Gen.frame m ρ

theorem rw_inl_dx_frame_ref : Cert.quiescent_RwInlDxRefIdeal (hRwInlDxRefIdeal := Cert.RwInlDxRefIdeal.Gen.facts) := fun m ρ _ =>
  (θ_run Cert.RwInlDxRefIdeal.defs _ _).mono (fun r h => ⟨fun c => (h c).2,
      Idealize.ShloMosaic.sem_eq_zero_of_no_sems (by decide) r.2⟩)
    (Cert.RwInlDxRefIdeal.Value.run (F := Ideal) m ρ)

theorem rw_inl_dx_algebraic : Cert.algebraic_RwInlDxIdeal_RwInlDxRefIdeal (hRwInlDxIdeal := Cert.RwInlDxIdeal.Gen.facts)
    (hRwInlDxRefIdeal := Cert.RwInlDxRefIdeal.Gen.facts) := fun m ρ m' ρ' _ hagree =>
  ⟨fun c => Cert.RwInlDxIdeal.Value.outArr m c, Cert.RwInlDxIdeal.Value.kernel_run m ρ,
    (θ_run Cert.RwInlDxRefIdeal.defs _ _).mono (fun r h c => by
      obtain ⟨h0, hargs⟩ := h c
      refine ⟨h0.trans ?_, hargs⟩
      rw [(hagree c).1, (hagree c).2]
      exact Cert.RwInlDxRefIdeal.Value.result_eq _ _)
      (Cert.RwInlDxRefIdeal.Value.run (F := Ideal) m' ρ')⟩

end Cert.Proof

end
-- ==== Proof.RwInlValue.lean ====
module

public import proofs.«01_k».proof.Proof.Gen.RwInlIdeal.Value
public import proofs.«01_k».proof.Proof.Products

/-!
  The low-rank columns of the time mixing's input projection: the array that the call leaves.
-/

@[expose] public section

set_option maxRecDepth 16384

noncomputable section

namespace Cert.RwInlIdeal.Value

open Cert.RwInlIdeal Cert.RwInlIdeal.Gen Idealize.ShloMosaic Idealize.ShloMosaic.TcCoe Idealize.SL.Sem StableHlo

variable (m : (ℓ : Loc nD τ sig) → Buf (Elt Ideal) ℓ) (ρ : Dev nD → PrngReg) (c : Dev nD)

/-- The product of the first argument and the second. -/
def outArr : FVec Ideal S4096x256 .f32 :=
  Products.nn (m := 4096) (k := 2048) (n := 256) (m (c.tc.loc main_arg0)) (m (c.tc.loc main_arg1))

theorem V_weights : V m c main_v0 = (m (c.tc.loc main_arg1) : S2048x256.Idx → EReal) := by
  show StableHlo.after hostOps0 _ _ = _
  simp only [hostOps0]
  after_results_simp
  rfl

theorem index0 : ∀ t : Fin cfg0.N, win0_0.index t = ![win0_2.index t 0, 0] := by decide +kernel
theorem index1 : ∀ t : Fin cfg0.N, win0_1.index t = ![0, win0_2.index t 1] := by decide +kernel

theorem final_out : (dats m 0 c).arrAt 2 cfg0.N = outArr m c := by
  refine (dats m 0 c).arrAt_eq_of_covers 2 (outArr m c) (by decide +kernel) fun t hf y => ?_
  blk_simp
  rw [after0_2]
  unfold outsAt0
  frame_out
  pointwise [k0_pay1]
  unfold outArr Products.nn
  refine Products.sum_mul_congr (fun k => ?_) (fun k => ?_)
  · blk_ext [iblk, V_main_arg0, index0 t]
  · blk_ext [iblk, V_weights, index1 t]

theorem kernel_run : θ_run defs (onTc (τ := τ) (main (F := Ideal))) ⟨m, fun _ => 0, ρ⟩ fun r => ∀ c : Dev nD,
      r.2.mem ((c.tc : Thread nD τ).loc main_v1) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_out m c), (h c).2⟩) (run_blocks m ρ)

end Cert.RwInlIdeal.Value

end
-- ==== Proof.RwInlClaim.lean ====
module

public import proofs.«01_k».proof.Defs
public import proofs.«01_k».proof.Proof.Gen.RwInl.Frame
public import proofs.«01_k».proof.Proof.Gen.RwInlRefIdeal.Run
public import proofs.«01_k».proof.Proof.RwInlValue
public import Idealize.ShloMosaic.Adequacy
public import Idealize.ShloMosaic.Init

/-!
  The low-rank columns of the time mixing's input projection: what the reference computes, and the claims.
-/

@[expose] public section

set_option maxRecDepth 16384

noncomputable section

namespace Cert.RwInlRefIdeal.Value

open Cert.RwInlRefIdeal Cert.RwInlRefIdeal.Gen Idealize.ShloMosaic Idealize.ShloMosaic.TcCoe Idealize.SL.Sem StableHlo

/-- The reference's result is the product of the first argument and the second. -/
theorem result_eq (A : FVec Ideal S4096x2048 .bf16) (B : FVec Ideal S2048x256 .f32) :
    shapeCast S4096x256 (Host.dotGeneral dot_S1x4096x2048_S2048x256_S1x4096x256_2_0_01_1_n_n none (broadcastInDim S1x4096x2048 ![1, 2] bcast_S4096x2048_S1x4096x2048_1_2 (extf .f32 A bitsLt_bf16_f32)) B) shapeCasts_S1x4096x256_S4096x256
      = Products.nn (m := 4096) (k := 2048) (n := 256) A B := by
  refine Products.mat_ext fun i j => ?_
  pointwise
  rfl

end Cert.RwInlRefIdeal.Value

namespace Cert.Proof

open Idealize.ShloMosaic Idealize.SL.Sem

theorem rw_inl_frame : Cert.quiescent_RwInl (hRwInl := Cert.RwInl.Gen.facts) := fun m ρ _ => Cert.RwInl.Gen.frame m ρ

theorem rw_inl_frame_ideal : Cert.quiescent_RwInlIdeal (hRwInlIdeal := Cert.RwInlIdeal.Gen.facts) :=
  fun m ρ _ => Cert.RwInlIdeal.Gen.frame m ρ

theorem rw_inl_frame_ref : Cert.quiescent_RwInlRefIdeal (hRwInlRefIdeal := Cert.RwInlRefIdeal.Gen.facts) := fun m ρ _ =>
  (θ_run Cert.RwInlRefIdeal.defs _ _).mono (fun r h => ⟨fun c => (h c).2,
      Idealize.ShloMosaic.sem_eq_zero_of_no_sems (by decide) r.2⟩)
    (Cert.RwInlRefIdeal.Value.run (F := Ideal) m ρ)

theorem rw_inl_algebraic : Cert.algebraic_RwInlIdeal_RwInlRefIdeal (hRwInlIdeal := Cert.RwInlIdeal.Gen.facts)
    (hRwInlRefIdeal := Cert.RwInlRefIdeal.Gen.facts) := fun m ρ m' ρ' _ hagree =>
  ⟨fun c => Cert.RwInlIdeal.Value.outArr m c, Cert.RwInlIdeal.Value.kernel_run m ρ,
    (θ_run Cert.RwInlRefIdeal.defs _ _).mono (fun r h c => by
      obtain ⟨h0, hargs⟩ := h c
      refine ⟨h0.trans ?_, hargs⟩
      rw [(hagree c).1, (hagree c).2]
      exact Cert.RwInlRefIdeal.Value.result_eq _ _)
      (Cert.RwInlRefIdeal.Value.run (F := Ideal) m' ρ')⟩

end Cert.Proof

end
-- ==== Proof.Gating.lean ====
module

public import Idealize.ShloMosaic.Lib.Pointwise

/-!
  The mathematics of the backward pass of the chunked spatial gating, one chunk of 128 rows at a time, over the
  extended reals: the gelu and its derivative, the layer norm of a row and its derivative, the causal mixing of a
  chunk along its rows, group of columns by group of columns, and the gradients of all of them. Nothing here
  mentions a program.
-/

@[expose] public section

noncomputable section

namespace Gating

open Idealize.ShloMosaic

/-! ## The constants, as the extended reals their words denote -/

/-- The coefficient of the cube in the gelu's tanh. -/
def cubeCoef : EReal := Ideal.ofBits .f32 0x3D372713#32
/-- The square root of 2/π. -/
def root : EReal := Ideal.ofBits .f32 0x3F4C422A#32
/-- One half. -/
def half : EReal := Ideal.ofBits .f32 0x3F000000#32
/-- Minus one half. -/
def mhalf : EReal := Ideal.ofBits .f32 0xBF000000#32
/-- Two. -/
def two : EReal := Ideal.ofBits .f32 0x40000000#32
/-- Three. -/
def three : EReal := Ideal.ofBits .f32 0x40400000#32
/-- The number of columns, 2048. -/
def width : EReal := Ideal.ofBits .f32 0x45000000#32
/-- The layer norm's epsilon. -/
def eps : EReal := Ideal.ofBits .f32 0x3727C5AC#32

/-! ## The gelu -/

/-- The gelu's tanh. -/
def th (x : EReal) : EReal := Ideal.tanh (root * (x + cubeCoef * (x * (x * x))))
/-- The gelu's factor, half of one plus the tanh. -/
def cdf (x : EReal) : EReal := half * (1 + th x)
/-- The gelu, in its tanh form. -/
def gelu (x : EReal) : EReal := x * cdf x
/-- What the gradient `g` of the gelu's value gives the tanh's argument. -/
def dth (x g : EReal) : EReal := root * (half * (x * g) * ((1 + th x) * (1 - th x)))
/-- The gradient of the gelu's argument `x` from the gradient `g` of its value. -/
def dgelu (x g : EReal) : EReal := g * cdf x + dth x g + cubeCoef * dth x g * (three * (x * x))

/-! ## The layer norm of one row of gelus -/

/-- The mean of a row of gelus. -/
def mean (v : Fin 2048 → EReal) : EReal := Ideal.div (∑ k, gelu (v k)) width
/-- A gelu less the row's mean. -/
def cen (v : Fin 2048 → EReal) (c : Fin 2048) : EReal := gelu (v c) - mean v
/-- The row's variance plus epsilon. -/
def ve (v : Fin 2048 → EReal) : EReal := Ideal.div (∑ k, cen v k * cen v k) width + eps
/-- The reciprocal of the row's standard deviation. -/
def rs (v : Fin 2048 → EReal) : EReal := Ideal.rsqrt (ve v)
/-- The normalised row. -/
def nrm (v : Fin 2048 → EReal) (c : Fin 2048) : EReal := cen v c * rs v

/-! ## Columns, groups of columns, lanes -/

/-- The group of a column. -/
def grp (c : Fin 2048) : Fin 16 := ⟨c.val / 128, by omega⟩
/-- The lane of a column in its group. -/
def lane (c : Fin 2048) : Fin 128 := ⟨c.val % 128, by omega⟩
/-- The column of a group and a lane. -/
def col (g : Fin 16) (j : Fin 128) : Fin 2048 := ⟨128 * g.val + j.val, by omega⟩

theorem col_grp_lane (c : Fin 2048) : col (grp c) (lane c) = c := Fin.ext (by simp only [col, grp, lane]; omega)
theorem grp_col (g : Fin 16) (j : Fin 128) : grp (col g j) = g := Fin.ext (by simp only [col, grp]; omega)
theorem lane_col (g : Fin 16) (j : Fin 128) : lane (col g j) = j := Fin.ext (by simp only [col, lane]; omega)

/-! ## One chunk -/

/-- What one chunk's gradients are made of: the three parts of its rows and the incoming gradient, and the layer
    norm's and the mixing's parameters. -/
structure Chunk where
  u : Fin 128 → Fin 2048 → EReal
  v : Fin 128 → Fin 2048 → EReal
  z : Fin 128 → Fin 2048 → EReal
  dm : Fin 128 → Fin 2048 → EReal
  lg : Fin 2048 → EReal
  lb : Fin 2048 → EReal
  w : Fin 16 → Fin 128 → Fin 128 → EReal
  bs : Fin 128 → Fin 16 → EReal

namespace Chunk

variable (k : Chunk)

/-- The causal weights: zero above the diagonal. -/
def wm (g : Fin 16) (t s : Fin 128) : EReal := if s.val ≤ t.val then k.w g t s else 0
/-- The normalised row with the layer norm's scale and shift. -/
def vn (s : Fin 128) (c : Fin 2048) : EReal := nrm (k.v s) c * k.lg c + k.lb c
/-- The mixing along the chunk's rows. -/
def f (t : Fin 128) (c : Fin 2048) : EReal := (∑ s, k.wm (grp c) t s * k.vn s c) + k.bs t (grp c)
/-- The incoming gradient times the gate. -/
def act (t : Fin 128) (c : Fin 2048) : EReal := k.dm t c * (k.z t c * Ideal.logistic (k.z t c))
/-- The gradient of the mixing's result. -/
def df (t : Fin 128) (c : Fin 2048) : EReal := gelu (k.u t c) * k.act t c
/-- The gradient of the gelu of `u`. -/
def duf (t : Fin 128) (c : Fin 2048) : EReal := k.act t c * k.f t c
/-- The gradient of the gate's value. -/
def dsil (t : Fin 128) (c : Fin 2048) : EReal := gelu (k.u t c) * k.f t c * k.dm t c
/-- The gradient of `z`. -/
def dz (t : Fin 128) (c : Fin 2048) : EReal :=
  k.dsil t c * Ideal.logistic (k.z t c)
    + k.z t c * k.dsil t c * (Ideal.logistic (k.z t c) * (1 - Ideal.logistic (k.z t c)))
/-- The gradient of `u`. -/
def du (t : Fin 128) (c : Fin 2048) : EReal := dgelu (k.u t c) (k.duf t c)
/-- The gradient of the mixing's weights: zero above the diagonal. -/
def dws (g : Fin 16) (t s : Fin 128) : EReal :=
  if s.val ≤ t.val then ∑ j, k.df t (col g j) * k.vn s (col g j) else 0
/-- The gradient of the mixing's shift. -/
def dbs (t : Fin 128) (g : Fin 16) : EReal := ∑ j, k.df t (col g j)
/-- The gradient of the layer norm's result. -/
def dvn (s : Fin 128) (c : Fin 2048) : EReal := ∑ t, k.df t c * k.wm (grp c) t s
/-- The gradient of the layer norm's scale. -/
def dlg (c : Fin 2048) : EReal := ∑ s, nrm (k.v s) c * k.dvn s c
/-- The gradient of the layer norm's shift. -/
def dlb (c : Fin 2048) : EReal := ∑ s, k.dvn s c
/-- The gradient of the normalised row. -/
def gl (s : Fin 128) (c : Fin 2048) : EReal := k.dvn s c * k.lg c
/-- The part of it that goes straight to the centred row. -/
def ga (s : Fin 128) (c : Fin 2048) : EReal := k.gl s c * rs (k.v s)
/-- The gradient of the variance. -/
def gv (s : Fin 128) : EReal :=
  Ideal.div ((∑ c, cen (k.v s) c * k.gl s c) * (mhalf * Ideal.div (rs (k.v s)) (ve (k.v s)))) width
/-- The part of the centred row's gradient that the variance gives. -/
def gq (s : Fin 128) (c : Fin 2048) : EReal := k.gv s * (two * cen (k.v s) c)
/-- The gradient of the mean. -/
def gm (s : Fin 128) : EReal := Ideal.div ((∑ c, -k.ga s c) + ∑ c, -k.gq s c) width
/-- The gradient of the gelu of `v`. -/
def dvf (s : Fin 128) (c : Fin 2048) : EReal := k.ga s c + k.gq s c + k.gm s
/-- The gradient of `v`. -/
def dv (s : Fin 128) (c : Fin 2048) : EReal := dgelu (k.v s c) (k.dvf s c)

end Chunk

end Gating

end
-- ==== Proof.BlockTerms.lean ====
module

public import proofs.«01_k».proof.Proof.Gating
public import proofs.«01_k».proof.Proof.Gen.KernelIdeal.Skeleton
public import Idealize.ShloMosaic.Lib.Pointwise

/-!
  The values one grid point's body computes, each as a function of the point's six input blocks, in terms of the
  body's payloads; and those of the gelu and of the layer norm read at an index.
-/

@[expose] public section

set_option maxRecDepth 16384

noncomputable section

namespace Cert.KernelIdeal.Block

open Cert.KernelIdeal Cert.KernelIdeal.Gen Idealize.ShloMosaic Idealize.ShloMosaic.TcCoe Gating

/-- A grid point's six input blocks. -/
structure Blk where
  x0 : Vec Ideal S128x6144 .f32
  x1 : Vec Ideal S128x2048 .f32
  x2 : Vec Ideal S1x2048 .f32
  x3 : Vec Ideal S1x2048 .f32
  x4 : Vec Ideal S16x128x128 .f32
  x5 : Vec Ideal S128x16 .f32

/-! ## The body's values -/

/-- The body's value %3. -/
def b3 (b : Blk) : FVec Ideal S1x2048 .f32 := k0_pay3 b.x2
/-- The body's value %5. -/
def b5 (b : Blk) : FVec Ideal S1x2048 .f32 := k0_pay4 b.x3
/-- The body's value %8. -/
def b8 (b : Blk) : FVec Ideal S128x16 .f32 := k0_pay5 b.x5
/-- The body's value %9. -/
def b9 (b : Blk) : FVec Ideal S128x2048 .f32 := k0_pay6 b.x0
/-- The body's value %14. -/
def b14 (b : Blk) : FVec Ideal S128x2048 .f32 := k0_pay7 b.x0
/-- The body's value %25. -/
def b25 (b : Blk) : FVec Ideal S128x2048 .f32 := k0_pay9 b.x0
/-- The body's value %29. -/
def b29 (b : Blk) : FVec Ideal S128x2048 .f32 := k0_pay10 b.x0
/-- The body's value %30. -/
def b30 (b : Blk) : FVec Ideal S128x2048 .f32 := k0_pay11 b.x0
/-- The body's value %31. -/
def b31 (b : Blk) : FVec Ideal S128x2048 .f32 := k0_pay12 b.x0
/-- The body's value %33. -/
def b33 (b : Blk) : FVec Ideal S128x2048 .f32 := k0_pay13 b.x0
/-- The body's value %36. -/
def b36 (b : Blk) : FVec Ideal S128x2048 .f32 := k0_pay14 b.x0
/-- The body's value %47. -/
def b47 (b : Blk) : FVec Ideal S128x2048 .f32 := k0_pay16 (b31 b) (b33 b) (Scalar.ofBits .f32 0x3D372713#32)
/-- The body's value %51. -/
def b51 (b : Blk) : FVec Ideal S128x2048 .f32 := k0_pay17 (b31 b) (b33 b) (Scalar.ofBits .f32 0x3D372713#32)
/-- The body's value %53. -/
def b53 (b : Blk) : FVec Ideal S128x2048 .f32 := k0_pay19 b.x0
/-- The body's value %62. -/
def b62 (b : Blk) : FVec Ideal S128x2048 .f32 := k0_pay22 (b31 b) (b33 b) (Scalar.ofBits .f32 0x3D372713#32)
/-- The body's value %68. -/
def b68 (b : Blk) : FVec Ideal S128x2048 .f32 := k0_pay23 (b31 b) (b33 b) (Scalar.ofBits .f32 0x3D372713#32)
/-- The body's value %71. -/
def b71 (b : Blk) : FVec Ideal S128x1 .f32 := k0_pay25 (b31 b) (b33 b) (Scalar.ofBits .f32 0x3D372713#32)
/-- The body's value %74. -/
def b74 (b : Blk) : FVec Ideal S128x1 .f32 := k0_pay26 (b31 b) (b33 b) (Scalar.ofBits .f32 0x3D372713#32)
/-- The body's value %76. -/
def b76 (b : Blk) : FVec Ideal S128x2048 .f32 := k0_pay27 (b31 b) (b33 b) (Scalar.ofBits .f32 0x3D372713#32)
/-- The body's value %80. -/
def b80 (b : Blk) : FVec Ideal S128x2048 .f32 := k0_pay28 (b3 b) (b5 b) (b31 b) (b33 b) (Scalar.ofBits .f32 0x3D372713#32)
/-- The body's value %83. -/
def b83 (b : Blk) : IVec S128x128 1 := k0_pay29
/-- The body's value %84. -/
def b84 (b : Blk) : FVec Ideal S1x128x128 .f32 := k0_pay30 b.x4
/-- The body's value %89. -/
def b89 (b : Blk) : FVec Ideal S128x128 .bf16 := k0_pay31 (b83 b) (b84 b)
/-- The body's value %90. -/
def b90 (b : Blk) : FVec Ideal S128x128 .bf16 := k0_pay32 (b80 b)
/-- The body's value %91. -/
def b91 (b : Blk) : FVec Ideal S128x128 .f32 := k0_pay33 (b80 b) (b83 b) (b84 b)
/-- The body's value %92. -/
def b92 (b : Blk) : IVec S128x128 1 := k0_pay34 (iota .tc S128x128 32 [0] iota_S128x128_d0_w32) (iota .tc S128x128 32 [1] iota_S128x128_d1_w32)
/-- The body's value %98. -/
def b98 (b : Blk) : FVec Ideal S128x128 .bf16 := k0_pay35 b.x4 (iota .tc S128x128 32 [0] iota_S128x128_d0_w32) (iota .tc S128x128 32 [1] iota_S128x128_d1_w32)
/-- The body's value %99. -/
def b99 (b : Blk) : FVec Ideal S128x128 .bf16 := k0_pay36 (b80 b)
/-- The body's value %100. -/
def b100 (b : Blk) : FVec Ideal S128x128 .f32 := k0_pay37 b.x4 (b80 b) (iota .tc S128x128 32 [0] iota_S128x128_d0_w32) (iota .tc S128x128 32 [1] iota_S128x128_d1_w32)
/-- The body's value %101. -/
def b101 (b : Blk) : IVec S128x128 1 := k0_pay38 (iota .tc S128x128 32 [0] iota_S128x128_d0_w32) (iota .tc S128x128 32 [1] iota_S128x128_d1_w32)
/-- The body's value %107. -/
def b107 (b : Blk) : FVec Ideal S128x128 .bf16 := k0_pay39 b.x4 (iota .tc S128x128 32 [0] iota_S128x128_d0_w32) (iota .tc S128x128 32 [1] iota_S128x128_d1_w32)
/-- The body's value %108. -/
def b108 (b : Blk) : FVec Ideal S128x128 .bf16 := k0_pay40 (b80 b)
/-- The body's value %109. -/
def b109 (b : Blk) : FVec Ideal S128x128 .f32 := k0_pay41 b.x4 (b80 b) (iota .tc S128x128 32 [0] iota_S128x128_d0_w32) (iota .tc S128x128 32 [1] iota_S128x128_d1_w32)
/-- The body's value %110. -/
def b110 (b : Blk) : IVec S128x128 1 := k0_pay42 (iota .tc S128x128 32 [0] iota_S128x128_d0_w32) (iota .tc S128x128 32 [1] iota_S128x128_d1_w32)
/-- The body's value %116. -/
def b116 (b : Blk) : FVec Ideal S128x128 .bf16 := k0_pay43 b.x4 (iota .tc S128x128 32 [0] iota_S128x128_d0_w32) (iota .tc S128x128 32 [1] iota_S128x128_d1_w32)
/-- The body's value %117. -/
def b117 (b : Blk) : FVec Ideal S128x128 .bf16 := k0_pay44 (b80 b)
/-- The body's value %118. -/
def b118 (b : Blk) : FVec Ideal S128x128 .f32 := k0_pay45 b.x4 (b80 b) (iota .tc S128x128 32 [0] iota_S128x128_d0_w32) (iota .tc S128x128 32 [1] iota_S128x128_d1_w32)
/-- The body's value %119. -/
def b119 (b : Blk) : IVec S128x128 1 := k0_pay46 (iota .tc S128x128 32 [0] iota_S128x128_d0_w32) (iota .tc S128x128 32 [1] iota_S128x128_d1_w32)
/-- The body's value %125. -/
def b125 (b : Blk) : FVec Ideal S128x128 .bf16 := k0_pay47 b.x4 (iota .tc S128x128 32 [0] iota_S128x128_d0_w32) (iota .tc S128x128 32 [1] iota_S128x128_d1_w32)
/-- The body's value %126. -/
def b126 (b : Blk) : FVec Ideal S128x128 .bf16 := k0_pay48 (b80 b)
/-- The body's value %127. -/
def b127 (b : Blk) : FVec Ideal S128x128 .f32 := k0_pay49 b.x4 (b80 b) (iota .tc S128x128 32 [0] iota_S128x128_d0_w32) (iota .tc S128x128 32 [1] iota_S128x128_d1_w32)
/-- The body's value %128. -/
def b128 (b : Blk) : IVec S128x128 1 := k0_pay50 (iota .tc S128x128 32 [0] iota_S128x128_d0_w32) (iota .tc S128x128 32 [1] iota_S128x128_d1_w32)
/-- The body's value %132. -/
def b132 (b : Blk) : FVec Ideal S128x128 .f32 := k0_pay51 b.x4 (iota .tc S128x128 32 [0] iota_S128x128_d0_w32) (iota .tc S128x128 32 [1] iota_S128x128_d1_w32)
/-- The body's value %133. -/
def b133 (b : Blk) : FVec Ideal S128x128 .f32 := k0_pay52 (b80 b)
/-- The body's value %134. -/
def b134 (b : Blk) : FVec Ideal S128x128 .bf16 := k0_pay53 (b132 b)
/-- The body's value %135. -/
def b135 (b : Blk) : FVec Ideal S128x128 .bf16 := k0_pay54 (b133 b)
/-- The body's value %136. -/
def b136 (b : Blk) : FVec Ideal S128x128 .f32 := k0_pay55 (b132 b) (b133 b)
/-- The body's value %137. -/
def b137 (b : Blk) : IVec S128x128 1 := k0_pay56 (iota .tc S128x128 32 [0] iota_S128x128_d0_w32) (iota .tc S128x128 32 [1] iota_S128x128_d1_w32)
/-- The body's value %143. -/
def b143 (b : Blk) : FVec Ideal S128x128 .bf16 := k0_pay57 b.x4 (iota .tc S128x128 32 [0] iota_S128x128_d0_w32) (iota .tc S128x128 32 [1] iota_S128x128_d1_w32)
/-- The body's value %144. -/
def b144 (b : Blk) : FVec Ideal S128x128 .bf16 := k0_pay58 (b80 b)
/-- The body's value %145. -/
def b145 (b : Blk) : FVec Ideal S128x128 .f32 := k0_pay59 b.x4 (b80 b) (iota .tc S128x128 32 [0] iota_S128x128_d0_w32) (iota .tc S128x128 32 [1] iota_S128x128_d1_w32)
/-- The body's value %146. -/
def b146 (b : Blk) : IVec S128x128 1 := k0_pay60 (iota .tc S128x128 32 [0] iota_S128x128_d0_w32) (iota .tc S128x128 32 [1] iota_S128x128_d1_w32)
/-- The body's value %152. -/
def b152 (b : Blk) : FVec Ideal S128x128 .bf16 := k0_pay61 b.x4 (iota .tc S128x128 32 [0] iota_S128x128_d0_w32) (iota .tc S128x128 32 [1] iota_S128x128_d1_w32)
/-- The body's value %153. -/
def b153 (b : Blk) : FVec Ideal S128x128 .bf16 := k0_pay62 (b80 b)
/-- The body's value %154. -/
def b154 (b : Blk) : FVec Ideal S128x128 .f32 := k0_pay63 b.x4 (b80 b) (iota .tc S128x128 32 [0] iota_S128x128_d0_w32) (iota .tc S128x128 32 [1] iota_S128x128_d1_w32)
/-- The body's value %155. -/
def b155 (b : Blk) : IVec S128x128 1 := k0_pay64 (iota .tc S128x128 32 [0] iota_S128x128_d0_w32) (iota .tc S128x128 32 [1] iota_S128x128_d1_w32)
/-- The body's value %161. -/
def b161 (b : Blk) : FVec Ideal S128x128 .bf16 := k0_pay65 b.x4 (iota .tc S128x128 32 [0] iota_S128x128_d0_w32) (iota .tc S128x128 32 [1] iota_S128x128_d1_w32)
/-- The body's value %162. -/
def b162 (b : Blk) : FVec Ideal S128x128 .bf16 := k0_pay66 (b80 b)
/-- The body's value %163. -/
def b163 (b : Blk) : FVec Ideal S128x128 .f32 := k0_pay67 b.x4 (b80 b) (iota .tc S128x128 32 [0] iota_S128x128_d0_w32) (iota .tc S128x128 32 [1] iota_S128x128_d1_w32)
/-- The body's value %164. -/
def b164 (b : Blk) : IVec S128x128 1 := k0_pay68 (iota .tc S128x128 32 [0] iota_S128x128_d0_w32) (iota .tc S128x128 32 [1] iota_S128x128_d1_w32)
/-- The body's value %170. -/
def b170 (b : Blk) : FVec Ideal S128x128 .bf16 := k0_pay69 b.x4 (iota .tc S128x128 32 [0] iota_S128x128_d0_w32) (iota .tc S128x128 32 [1] iota_S128x128_d1_w32)
/-- The body's value %171. -/
def b171 (b : Blk) : FVec Ideal S128x128 .bf16 := k0_pay70 (b80 b)
/-- The body's value %172. -/
def b172 (b : Blk) : FVec Ideal S128x128 .f32 := k0_pay71 b.x4 (b80 b) (iota .tc S128x128 32 [0] iota_S128x128_d0_w32) (iota .tc S128x128 32 [1] iota_S128x128_d1_w32)
/-- The body's value %173. -/
def b173 (b : Blk) : IVec S128x128 1 := k0_pay72 (iota .tc S128x128 32 [0] iota_S128x128_d0_w32) (iota .tc S128x128 32 [1] iota_S128x128_d1_w32)
/-- The body's value %179. -/
def b179 (b : Blk) : FVec Ideal S128x128 .bf16 := k0_pay73 b.x4 (iota .tc S128x128 32 [0] iota_S128x128_d0_w32) (iota .tc S128x128 32 [1] iota_S128x128_d1_w32)
/-- The body's value %180. -/
def b180 (b : Blk) : FVec Ideal S128x128 .bf16 := k0_pay74 (b80 b)
/-- The body's value %181. -/
def b181 (b : Blk) : FVec Ideal S128x128 .f32 := k0_pay75 b.x4 (b80 b) (iota .tc S128x128 32 [0] iota_S128x128_d0_w32) (iota .tc S128x128 32 [1] iota_S128x128_d1_w32)
/-- The body's value %182. -/
def b182 (b : Blk) : IVec S128x128 1 := k0_pay76 (iota .tc S128x128 32 [0] iota_S128x128_d0_w32) (iota .tc S128x128 32 [1] iota_S128x128_d1_w32)
/-- The body's value %188. -/
def b188 (b : Blk) : FVec Ideal S128x128 .bf16 := k0_pay77 b.x4 (b182 b)
/-- The body's value %189. -/
def b189 (b : Blk) : FVec Ideal S128x128 .bf16 := k0_pay78 (b80 b)
/-- The body's value %190. -/
def b190 (b : Blk) : FVec Ideal S128x128 .f32 := k0_pay79 b.x4 (b80 b) (b182 b)
/-- The body's value %191. -/
def b191 (b : Blk) : IVec S128x128 1 := k0_pay80 (iota .tc S128x128 32 [0] iota_S128x128_d0_w32) (iota .tc S128x128 32 [1] iota_S128x128_d1_w32)
/-- The body's value %197. -/
def b197 (b : Blk) : FVec Ideal S128x128 .bf16 := k0_pay81 b.x4 (iota .tc S128x128 32 [0] iota_S128x128_d0_w32) (iota .tc S128x128 32 [1] iota_S128x128_d1_w32)
/-- The body's value %198. -/
def b198 (b : Blk) : FVec Ideal S128x128 .bf16 := k0_pay82 (b80 b)
/-- The body's value %199. -/
def b199 (b : Blk) : FVec Ideal S128x128 .f32 := k0_pay83 b.x4 (b80 b) (iota .tc S128x128 32 [0] iota_S128x128_d0_w32) (iota .tc S128x128 32 [1] iota_S128x128_d1_w32)
/-- The body's value %200. -/
def b200 (b : Blk) : IVec S128x128 1 := k0_pay84 (iota .tc S128x128 32 [0] iota_S128x128_d0_w32) (iota .tc S128x128 32 [1] iota_S128x128_d1_w32)
/-- The body's value %206. -/
def b206 (b : Blk) : FVec Ideal S128x128 .bf16 := k0_pay85 b.x4 (iota .tc S128x128 32 [0] iota_S128x128_d0_w32) (iota .tc S128x128 32 [1] iota_S128x128_d1_w32)
/-- The body's value %207. -/
def b207 (b : Blk) : FVec Ideal S128x128 .bf16 := k0_pay86 (b80 b)
/-- The body's value %208. -/
def b208 (b : Blk) : FVec Ideal S128x128 .f32 := k0_pay87 b.x4 (b80 b) (iota .tc S128x128 32 [0] iota_S128x128_d0_w32) (iota .tc S128x128 32 [1] iota_S128x128_d1_w32)
/-- The body's value %209. -/
def b209 (b : Blk) : IVec S128x128 1 := k0_pay88 (iota .tc S128x128 32 [0] iota_S128x128_d0_w32) (iota .tc S128x128 32 [1] iota_S128x128_d1_w32)
/-- The body's value %215. -/
def b215 (b : Blk) : FVec Ideal S128x128 .bf16 := k0_pay89 b.x4 (iota .tc S128x128 32 [0] iota_S128x128_d0_w32) (iota .tc S128x128 32 [1] iota_S128x128_d1_w32)
/-- The body's value %216. -/
def b216 (b : Blk) : FVec Ideal S128x128 .bf16 := k0_pay90 (b80 b)
/-- The body's value %217. -/
def b217 (b : Blk) : FVec Ideal S128x128 .f32 := k0_pay91 b.x4 (b80 b) (iota .tc S128x128 32 [0] iota_S128x128_d0_w32) (iota .tc S128x128 32 [1] iota_S128x128_d1_w32)
/-- The body's value %218. -/
def b218 (b : Blk) : IVec S128x128 1 := k0_pay92 (iota .tc S128x128 32 [0] iota_S128x128_d0_w32) (iota .tc S128x128 32 [1] iota_S128x128_d1_w32)
/-- The body's value %224. -/
def b224 (b : Blk) : FVec Ideal S128x128 .bf16 := k0_pay93 b.x4 (iota .tc S128x128 32 [0] iota_S128x128_d0_w32) (iota .tc S128x128 32 [1] iota_S128x128_d1_w32)
/-- The body's value %225. -/
def b225 (b : Blk) : FVec Ideal S128x128 .bf16 := k0_pay94 (b80 b)
/-- The body's value %226. -/
def b226 (b : Blk) : FVec Ideal S128x128 .f32 := k0_pay95 b.x4 (b80 b) (iota .tc S128x128 32 [0] iota_S128x128_d0_w32) (iota .tc S128x128 32 [1] iota_S128x128_d1_w32)
/-- The body's value %229. -/
def b229 (b : Blk) : IVec S16x2048 32 := k0_pay96
/-- The body's value %230. -/
def b230 (b : Blk) : IVec S16x2048 32 := k0_pay97
/-- The body's value %270. -/
def b270 (b : Blk) : FVec Ideal S128x2048 .f32 := k0_pay102 b.x1 (b8 b) (b30 b) (b53 b) (b91 b) (b100 b) (b109 b) (b118 b) (b127 b) (b136 b) (b145 b) (b154 b) (b163 b) (b172 b) (b181 b) (b190 b) (b199 b) (b208 b) (b217 b) (b226 b) (iota .tc S16x2048 32 [1] iota_S16x2048_d1_w32) 128#32 (b229 b) (b230 b)
/-- The body's value %271. -/
def b271 (b : Blk) : FVec Ideal S128x2048 .f32 := k0_pay103 b.x1 (b30 b) (b53 b)
/-- The body's value %272. -/
def b272 (b : Blk) : FVec Ideal S128x2048 .f32 := k0_pay104 b.x1 (b8 b) (b53 b) (b91 b) (b100 b) (b109 b) (b118 b) (b127 b) (b136 b) (b145 b) (b154 b) (b163 b) (b172 b) (b181 b) (b190 b) (b199 b) (b208 b) (b217 b) (b226 b) (iota .tc S16x2048 32 [1] iota_S16x2048_d1_w32) 128#32 (b229 b) (b230 b)
/-- The body's value %273. -/
def b273 (b : Blk) : FVec Ideal S128x16 .f32 := k0_pay105 b.x1 (b30 b) (b53 b) (iota .tc S16x2048 32 [1] iota_S16x2048_d1_w32) 128#32 (b229 b) (b230 b)
/-- The body's value %274. -/
def b274 (b : Blk) : FVec Ideal S128x128 .f32 := k0_pay106 b.x1 (b30 b) (b53 b)
/-- The body's value %275. -/
def b275 (b : Blk) : FVec Ideal S128x128 .f32 := k0_pay107 b.x1 (b30 b) (b53 b)
/-- The body's value %276. -/
def b276 (b : Blk) : FVec Ideal S128x128 .f32 := k0_pay108 b.x1 (b30 b) (b53 b)
/-- The body's value %277. -/
def b277 (b : Blk) : FVec Ideal S128x128 .f32 := k0_pay109 b.x1 (b30 b) (b53 b)
/-- The body's value %278. -/
def b278 (b : Blk) : FVec Ideal S128x128 .f32 := k0_pay110 b.x1 (b30 b) (b53 b)
/-- The body's value %279. -/
def b279 (b : Blk) : FVec Ideal S128x128 .f32 := k0_pay111 b.x1 (b30 b) (b53 b)
/-- The body's value %280. -/
def b280 (b : Blk) : FVec Ideal S128x128 .f32 := k0_pay112 b.x1 (b30 b) (b53 b)
/-- The body's value %281. -/
def b281 (b : Blk) : FVec Ideal S128x128 .f32 := k0_pay113 b.x1 (b30 b) (b53 b)
/-- The body's value %282. -/
def b282 (b : Blk) : FVec Ideal S128x128 .f32 := k0_pay114 b.x1 (b30 b) (b53 b)
/-- The body's value %283. -/
def b283 (b : Blk) : FVec Ideal S128x128 .f32 := k0_pay115 (b271 b)
/-- The body's value %284. -/
def b284 (b : Blk) : FVec Ideal S128x128 .f32 := k0_pay116 (b271 b)
/-- The body's value %285. -/
def b285 (b : Blk) : FVec Ideal S128x128 .f32 := k0_pay117 (b271 b)
/-- The body's value %286. -/
def b286 (b : Blk) : FVec Ideal S128x128 .f32 := k0_pay118 (b271 b)
/-- The body's value %315. -/
def b315 (b : Blk) : FVec Ideal S128x2048 .f32 := k0_pay122 (b215 b) (b224 b) (b271 b)
/-- The body's value %323. -/
def b323 (b : Blk) : FVec Ideal S16x128x128 .f32 := k0_pay123 (b209 b) (b216 b) (b218 b) (b225 b) (b271 b)
/-- The body's value %329. -/
def b329 (b : Blk) : FVec Ideal S128x128 .f32 := k0_pay124 (b206 b) (b271 b)
/-- The body's value %330. -/
def b330 (b : Blk) : FVec Ideal S128x128 .f32 := k0_pay125 (b207 b) (b271 b)
/-- The body's value %363. -/
def b363 (b : Blk) : FVec Ideal S16x128x128 .f32 := k0_pay126 (b191 b) (b198 b) (b200 b) (b286 b) (b323 b) (b330 b)
/-- The body's value %375. -/
def b375 (b : Blk) : FVec Ideal S128x2048 .f32 := k0_pay127 (b188 b) (b197 b) (b285 b) (b286 b) (b315 b) (b329 b)
/-- The body's value %378. -/
def b378 (b : Blk) : FVec Ideal S1x128x128 .f32 := k0_pay128 (b182 b) (b189 b) (b285 b)
/-- The body's value %415. -/
def b415 (b : Blk) : FVec Ideal S128x2048 .f32 := k0_pay129 (b170 b) (b179 b) (b283 b) (b284 b) (b375 b)
/-- The body's value %423. -/
def b423 (b : Blk) : FVec Ideal S16x128x128 .f32 := k0_pay130 (b164 b) (b171 b) (b173 b) (b180 b) (b283 b) (b284 b) (b363 b) (b378 b)
/-- The body's value %426. -/
def b426 (b : Blk) : FVec Ideal S128x128 .bf16 := k0_pay131 (b161 b) (b282 b)
/-- The body's value %455. -/
def b455 (b : Blk) : FVec Ideal S128x2048 .f32 := k0_pay132 (b152 b) (b281 b) (b415 b) (b426 b)
/-- The body's value %463. -/
def b463 (b : Blk) : FVec Ideal S16x128x128 .f32 := k0_pay133 (b146 b) (b153 b) (b155 b) (b162 b) (b281 b) (b282 b) (b423 b)
/-- The body's value %470. -/
def b470 (b : Blk) : FVec Ideal S128x128 .f32 := k0_pay134 (b144 b) (b280 b)
/-- The body's value %474. -/
def b474 (b : Blk) : FVec Ideal S128x2048 .f32 := k0_pay135 (b143 b) (b280 b)
/-- The body's value %503. -/
def b503 (b : Blk) : FVec Ideal S16x128x128 .f32 := k0_pay136 (b128 b) (b135 b) (b137 b) (b279 b) (b463 b) (b470 b)
/-- The body's value %515. -/
def b515 (b : Blk) : FVec Ideal S128x2048 .f32 := k0_pay137 (b125 b) (b134 b) (b278 b) (b279 b) (b455 b) (b474 b)
/-- The body's value %522. -/
def b522 (b : Blk) : FVec Ideal S16x128x128 .f32 := k0_pay138 (b119 b) (b126 b) (b278 b)
/-- The body's value %555. -/
def b555 (b : Blk) : FVec Ideal S128x2048 .f32 := k0_pay139 (b107 b) (b116 b) (b276 b) (b277 b) (b515 b)
/-- The body's value %563. -/
def b563 (b : Blk) : FVec Ideal S16x128x128 .f32 := k0_pay140 (b101 b) (b108 b) (b110 b) (b117 b) (b276 b) (b277 b) (b503 b) (b522 b)
/-- The body's value %569. -/
def b569 (b : Blk) : FVec Ideal S128x128 .f32 := k0_pay141 (b98 b) (b275 b)
/-- The body's value %570. -/
def b570 (b : Blk) : FVec Ideal S128x128 .f32 := k0_pay142 (b99 b) (b275 b)
/-- The body's value %599. -/
def b599 (b : Blk) : FVec Ideal S16x128x128 .f32 := k0_pay144 (b83 b) (b90 b) (b92 b) (b274 b) (b563 b) (b570 b)
/-- The body's value %601. -/
def b601 (b : Blk) : FVec Ideal S1x2048 .f32 := k0_pay145 (b89 b) (b274 b) (b555 b) (b569 b)
/-- The body's value %604. -/
def b604 (b : Blk) : FVec Ideal S1x2048 .f32 := k0_pay146 (b76 b) (b89 b) (b274 b) (b555 b) (b569 b)
/-- The body's value %611. -/
def b611 (b : Blk) : FVec Ideal S128x2048 .f32 := k0_pay148 (b3 b) (b71 b) (b89 b) (b274 b) (b555 b) (b569 b)
/-- The body's value %612. -/
def b612 (b : Blk) : FVec Ideal S128x1 .f32 := k0_pay149 (b3 b) (b68 b) (b74 b) (b89 b) (b274 b) (b555 b) (b569 b)
/-- The body's value %616. -/
def b616 (b : Blk) : FVec Ideal S128x1 .f32 := k0_pay150 (b3 b) (b71 b) (b89 b) (b274 b) (b555 b) (b569 b)
/-- The body's value %653. -/
def b653 (b : Blk) : FVec Ideal S128x6144 .f32 := k0_pay151 (b31 b) (b36 b) (b47 b) (b51 b) (b62 b) (b270 b) (b611 b) (b612 b) (b616 b) (Scalar.ofBits .f32 0x45000000#32)
/-- The body's value %661. -/
def b661 (b : Blk) : FVec Ideal S128x2048 .f32 := k0_pay153 (b9 b) (b25 b) (b29 b) (b272 b)
/-- The body's value %663. -/
def b663 (b : Blk) : FVec Ideal S128x2048 .f32 := k0_pay154 (b9 b) (b25 b) (b272 b)

/-! ## The blocks as a chunk -/

/-- The chunk the blocks hold: the three thirds of the rows' columns, the incoming gradient, the parameters. -/
def chunk (b : Blk) : Chunk where
  u r c := b.x0 (ix2 r ⟨c.val, by omega⟩)
  v r c := b.x0 (ix2 r ⟨2048 + c.val, by omega⟩)
  z r c := b.x0 (ix2 r ⟨4096 + c.val, by omega⟩)
  dm r c := b.x1 (ix2 r c)
  lg c := b.x2 (ix2 0 c)
  lb c := b.x3 (ix2 0 c)
  w g t s := b.x4 (ix3 g t s)
  bs t g := b.x5 (ix2 t g)

variable (b : Blk) (r : Fin 128) (c : Fin 2048)

theorem b9_apply : b9 b (ix2 r c) = (chunk b).u r c := by
  unfold b9; pointwise [k0_pay6]; rfl

theorem b31_apply : b31 b (ix2 r c) = (chunk b).v r c := by
  unfold b31; pointwise [k0_pay12]; rfl

theorem b53_apply : b53 b (ix2 r c) = (chunk b).z r c := by
  unfold b53; pointwise [k0_pay19]; rfl

theorem b3_apply : b3 b (ix2 0 c) = (chunk b).lg c := by
  unfold b3; pointwise [k0_pay3]; rfl

theorem b5_apply : b5 b (ix2 0 c) = (chunk b).lb c := by
  unfold b5; pointwise [k0_pay4]; rfl

theorem b8_apply (t : Fin 128) (g : Fin 16) : b8 b (ix2 t g) = (chunk b).bs t g := by
  unfold b8; pointwise [k0_pay5]; rfl

theorem b14_apply : b14 b (ix2 r c) = three * ((chunk b).u r c * (chunk b).u r c) := by
  unfold b14; pointwise [k0_pay7, k0_pay6]; rfl

theorem b36_apply : b36 b (ix2 r c) = three * ((chunk b).v r c * (chunk b).v r c) := by
  unfold b36; pointwise [k0_pay14, k0_pay12]; rfl

theorem b25_apply : b25 b (ix2 r c) = (1 + th ((chunk b).u r c)) * (1 - th ((chunk b).u r c)) := by
  unfold b25; pointwise [k0_pay9, k0_pay8, k0_pay6]; rfl

theorem b29_apply : b29 b (ix2 r c) = cdf ((chunk b).u r c) := by
  unfold b29; pointwise [k0_pay10, k0_pay8, k0_pay6]; rfl

theorem b30_apply : b30 b (ix2 r c) = gelu ((chunk b).u r c) := by
  unfold b30; pointwise [k0_pay11, k0_pay10, k0_pay8, k0_pay6]; rfl

theorem b33_apply : b33 b (ix2 r c) = (chunk b).v r c * ((chunk b).v r c * (chunk b).v r c) := by
  unfold b33; pointwise [k0_pay13, k0_pay12]; rfl

theorem b47_apply : b47 b (ix2 r c) = (1 + th ((chunk b).v r c)) * (1 - th ((chunk b).v r c)) := by
  unfold b47; pointwise [k0_pay16, k0_pay15]; simp only [b31_apply, b33_apply]; rfl

theorem b51_apply : b51 b (ix2 r c) = cdf ((chunk b).v r c) := by
  unfold b51; pointwise [k0_pay17, k0_pay15]; simp only [b31_apply, b33_apply]; rfl

/-- The gelu of `v`. -/
theorem v52_apply : k0_pay18 (b31 b) (b33 b) (Scalar.ofBits .f32 0x3D372713#32) (ix2 r c) = gelu ((chunk b).v r c) := by
  pointwise [k0_pay18, k0_pay17, k0_pay15]; simp only [b31_apply, b33_apply]; rfl

/-- The mean of a row of gelus. -/
theorem v57_apply : k0_pay20 (b31 b) (b33 b) (Scalar.ofBits .f32 0x3D372713#32) (ix2 r 0) = mean ((chunk b).v r) := by
  have h := fun c => v52_apply b r c
  pointwise at h
  pointwise [k0_pay20]; simp only [h]; rfl

/-- The centred row. -/
theorem v59_apply : k0_pay21 (b31 b) (b33 b) (Scalar.ofBits .f32 0x3D372713#32) (ix2 r c) = cen ((chunk b).v r) c := by
  have h := v52_apply b r c
  have h' := v57_apply b r
  pointwise at h h'
  pointwise [k0_pay21]; simp only [h, h']; rfl

theorem b68_apply : b68 b (ix2 r c) = cen ((chunk b).v r) c := by
  have h := v52_apply b r c
  have h' := v57_apply b r
  pointwise at h h'
  unfold b68; pointwise [k0_pay23]; simp only [h, h']; rfl

theorem b62_apply : b62 b (ix2 r c) = two * cen ((chunk b).v r) c := by
  have h := v59_apply b r c
  pointwise at h
  unfold b62; pointwise [k0_pay22]; simp only [h]; rfl

/-- The variance plus epsilon. -/
theorem v70_apply : k0_pay24 (b31 b) (b33 b) (Scalar.ofBits .f32 0x3D372713#32) (ix2 r 0) = ve ((chunk b).v r) := by
  have h := fun c => v59_apply b r c
  pointwise at h
  pointwise [k0_pay24]; simp only [h]; rfl

theorem b71_apply : b71 b (ix2 r 0) = rs ((chunk b).v r) := by
  have h := v70_apply b r
  pointwise at h
  unfold b71; pointwise [k0_pay25]; simp only [h]; rfl

theorem b74_apply : b74 b (ix2 r 0) = mhalf * Ideal.div (rs ((chunk b).v r)) (ve ((chunk b).v r)) := by
  have h := v70_apply b r
  pointwise at h
  unfold b74; pointwise [k0_pay26, k0_pay25]; simp only [h]; rfl

theorem b76_apply : b76 b (ix2 r c) = nrm ((chunk b).v r) c := by
  have h := b68_apply b r c
  have h' := b71_apply b r
  unfold b68 at h
  unfold b71 at h'
  pointwise at h h'
  unfold b76; pointwise [k0_pay27]; simp only [h, h']; rfl

theorem b80_apply : b80 b (ix2 r c) = (chunk b).vn r c := by
  have h := b76_apply b r c
  unfold b76 at h
  pointwise at h
  unfold b80; pointwise [k0_pay28]; simp only [h, b3_apply, b5_apply]; rfl

end Cert.KernelIdeal.Block

end
-- ==== Proof.BlockGroups.lean ====
module

public import proofs.«01_k».proof.Proof.BlockTerms
public import Idealize.ShloMosaic.Lib.WordCmp

/-!
  One grid point's values of the causal mixing, group of columns by group of columns, read at an index: the mask,
  the masked weights, the slices of the normalised rows, the mixed slices, the one-hot matrix that spreads the
  groups' shifts over the columns, and the elementwise gradients that take the mixed rows.
-/

@[expose] public section

set_option maxRecDepth 16384

noncomputable section

namespace Cert.KernelIdeal.Block

open Cert.KernelIdeal Cert.KernelIdeal.Gen Idealize.ShloMosaic Idealize.ShloMosaic.TcCoe Gating

/-! ## The mask and the one-hot matrix -/

/-- A select on the mask's bit keeps a value on and below the diagonal. -/
theorem mask_select (t s : Fin 128) (x y : EReal) :
    Scalar.select (IntOp.cmpi .sge (BitVec.ofNat 32 t.val) (BitVec.ofNat 32 s.val)) x y = if s.val ≤ t.val then x else y := by
  rw [WordCmp.cmpi_sge_ofNat (by omega) (by omega)]
  by_cases h : s.val ≤ t.val <;> simp [h, Scalar.select]

variable (b : Blk)

/-- A concatenation of slices of 128 columns read at column `128 k + l`: slice `k` at its column `l`. -/
theorem catAt (r l : Fin 128) (c0 : Fin 2048) : ∀ (xs : List (FVec Ideal S128x128 .f32)) (k : Nat) (hk : k < xs.length)
    (hs : ∀ s ∈ (xs.map fun x => (⟨S128x128, x⟩ : (s : Shape) × (s.Idx → EReal))).map (·.1), s.FitsOff S128x2048 1) (c : Nat)
    (hc : c < (axisSizes S128x2048 1 (xs.map fun x => (⟨S128x128, x⟩ : (s : Shape) × (s.Idx → EReal)))).sum),
    c = 128 * k + l.val →
    concatenateAt S128x2048 1 (ix2 r c0) (xs.map fun x => (⟨S128x128, x⟩ : (s : Shape) × (s.Idx → EReal))) hs c hc
      = xs[k] (ix2 r l)
  | [], _, hk, _, _, _, _ => absurd hk (Nat.not_lt_zero _)
  | [x], k, hk, hs, c, hc, e => by
    have h0 : k = 0 := by simp only [List.length_singleton] at hk; omega
    subst h0
    have e : c = l.val := by omega
    subst e
    refine (concatenateAt_singleton _ _ _ hs _ hc).trans (congrArg x ?_)
    exact (eq_ix2 _).trans rfl
  | x :: y :: xs, 0, hk, hs, c, hc, e => by
    have e : c = l.val := by omega
    subst e
    refine (concatenateAt_cons _ _ _ _ _ hs _ hc).trans ((dif_pos l.isLt).trans (congrArg x ?_))
    exact (eq_ix2 _).trans rfl
  | x :: y :: xs, k + 1, hk, hs, c, hc, e => by
    refine (concatenateAt_cons _ _ _ _ _ hs _ hc).trans ((dif_neg (show ¬ c < 128 by omega)).trans ?_)
    exact catAt r l c0 (y :: xs) k (by simp only [List.length_cons] at hk ⊢; omega) _ (c - 128) _ (by omega)

/-- Concatenating sixteen slices along the columns puts slice `g` at the columns of group `g`. -/
theorem cat_apply (x : Fin 16 → FVec Ideal S128x128 .f32) (r : Fin 128) (c : Fin 2048) :
    concatenate S128x2048 1 [⟨S128x128, x 0⟩, ⟨S128x128, x 1⟩, ⟨S128x128, x 2⟩, ⟨S128x128, x 3⟩, ⟨S128x128, x 4⟩, ⟨S128x128, x 5⟩, ⟨S128x128, x 6⟩, ⟨S128x128, x 7⟩, ⟨S128x128, x 8⟩, ⟨S128x128, x 9⟩, ⟨S128x128, x 10⟩, ⟨S128x128, x 11⟩, ⟨S128x128, x 12⟩, ⟨S128x128, x 13⟩, ⟨S128x128, x 14⟩, ⟨S128x128, x 15⟩] concatenates_S128x128_S128x128_S128x128_S128x128_S128x128_S128x128_S128x128_S128x128_S128x128_S128x128_S128x128_S128x128_S128x128_S128x128_S128x128_S128x128_S128x2048_d1 (ix2 r c) = x (grp c) (ix2 r (lane c)) := by
  rw [concatenate_apply]
  have h := catAt r (lane c) c (List.ofFn x) (grp c).val (by simp only [List.length_ofFn]; omega)
  simp only [List.getElem_ofFn] at h
  exact h _ c.val _ (by simp only [grp, lane]; omega)

/-! ## The masked weights, the slices, the mixed slices -/

theorem b89_apply (t s : Fin 128) : b89 b (ix2 t s) = (chunk b).wm 0 t s := by
  unfold b89 b84 b83; pointwise [k0_pay31, k0_pay29, k0_pay30]; exact mask_select t s _ _

theorem b90_apply (s j : Fin 128) : b90 b (ix2 s j) = (chunk b).vn s (col 0 j) := by
  rw [← b80_apply]; unfold b90; pointwise [k0_pay32]; exact congrArg (fun i => b80 b (ix2 s i)) (Fin.ext (Nat.zero_add _).symm)

theorem b91_apply (t j : Fin 128) : b91 b (ix2 t j) = ∑ s, (chunk b).wm 0 t s * (chunk b).vn s (col 0 j) := by
  have h := fun s => b89_apply b t s
  have h' := fun s => b90_apply b s j
  unfold b89 at h
  unfold b90 at h'
  unfold b91; pointwise [k0_pay33]; simp only [h, h']

theorem b98_apply (t s : Fin 128) : b98 b (ix2 t s) = (chunk b).wm 1 t s := by
  unfold b98; pointwise [k0_pay35, k0_pay34]; exact mask_select t s _ _

theorem b99_apply (s j : Fin 128) : b99 b (ix2 s j) = (chunk b).vn s (col 1 j) := by
  rw [← b80_apply]; unfold b99; pointwise [k0_pay36]; rfl

theorem b100_apply (t j : Fin 128) : b100 b (ix2 t j) = ∑ s, (chunk b).wm 1 t s * (chunk b).vn s (col 1 j) := by
  have h := fun s => b98_apply b t s
  have h' := fun s => b99_apply b s j
  unfold b98 at h
  unfold b99 at h'
  unfold b100; pointwise [k0_pay37]; simp only [h, h']

theorem b107_apply (t s : Fin 128) : b107 b (ix2 t s) = (chunk b).wm 2 t s := by
  unfold b107; pointwise [k0_pay39, k0_pay38]; exact mask_select t s _ _

theorem b108_apply (s j : Fin 128) : b108 b (ix2 s j) = (chunk b).vn s (col 2 j) := by
  rw [← b80_apply]; unfold b108; pointwise [k0_pay40]; rfl

theorem b109_apply (t j : Fin 128) : b109 b (ix2 t j) = ∑ s, (chunk b).wm 2 t s * (chunk b).vn s (col 2 j) := by
  have h := fun s => b107_apply b t s
  have h' := fun s => b108_apply b s j
  unfold b107 at h
  unfold b108 at h'
  unfold b109; pointwise [k0_pay41]; simp only [h, h']

theorem b116_apply (t s : Fin 128) : b116 b (ix2 t s) = (chunk b).wm 3 t s := by
  unfold b116; pointwise [k0_pay43, k0_pay42]; exact mask_select t s _ _

theorem b117_apply (s j : Fin 128) : b117 b (ix2 s j) = (chunk b).vn s (col 3 j) := by
  rw [← b80_apply]; unfold b117; pointwise [k0_pay44]; rfl

theorem b118_apply (t j : Fin 128) : b118 b (ix2 t j) = ∑ s, (chunk b).wm 3 t s * (chunk b).vn s (col 3 j) := by
  have h := fun s => b116_apply b t s
  have h' := fun s => b117_apply b s j
  unfold b116 at h
  unfold b117 at h'
  unfold b118; pointwise [k0_pay45]; simp only [h, h']

theorem b125_apply (t s : Fin 128) : b125 b (ix2 t s) = (chunk b).wm 4 t s := by
  unfold b125; pointwise [k0_pay47, k0_pay46]; exact mask_select t s _ _

theorem b126_apply (s j : Fin 128) : b126 b (ix2 s j) = (chunk b).vn s (col 4 j) := by
  rw [← b80_apply]; unfold b126; pointwise [k0_pay48]; rfl

theorem b127_apply (t j : Fin 128) : b127 b (ix2 t j) = ∑ s, (chunk b).wm 4 t s * (chunk b).vn s (col 4 j) := by
  have h := fun s => b125_apply b t s
  have h' := fun s => b126_apply b s j
  unfold b125 at h
  unfold b126 at h'
  unfold b127; pointwise [k0_pay49]; simp only [h, h']

theorem b134_apply (t s : Fin 128) : b134 b (ix2 t s) = (chunk b).wm 5 t s := by
  unfold b134 b132; pointwise [k0_pay53, k0_pay50, k0_pay51]; exact mask_select t s _ _

theorem b135_apply (s j : Fin 128) : b135 b (ix2 s j) = (chunk b).vn s (col 5 j) := by
  rw [← b80_apply]; unfold b135 b133; pointwise [k0_pay54, k0_pay52]; rfl

theorem b136_apply (t j : Fin 128) : b136 b (ix2 t j) = ∑ s, (chunk b).wm 5 t s * (chunk b).vn s (col 5 j) := by
  have h := fun s => b134_apply b t s
  have h' := fun s => b135_apply b s j
  unfold b134 at h
  unfold b135 at h'
  unfold b136; pointwise [k0_pay55]; simp only [h, h']

theorem b143_apply (t s : Fin 128) : b143 b (ix2 t s) = (chunk b).wm 6 t s := by
  unfold b143; pointwise [k0_pay57, k0_pay56]; exact mask_select t s _ _

theorem b144_apply (s j : Fin 128) : b144 b (ix2 s j) = (chunk b).vn s (col 6 j) := by
  rw [← b80_apply]; unfold b144; pointwise [k0_pay58]; rfl

theorem b145_apply (t j : Fin 128) : b145 b (ix2 t j) = ∑ s, (chunk b).wm 6 t s * (chunk b).vn s (col 6 j) := by
  have h := fun s => b143_apply b t s
  have h' := fun s => b144_apply b s j
  unfold b143 at h
  unfold b144 at h'
  unfold b145; pointwise [k0_pay59]; simp only [h, h']

theorem b152_apply (t s : Fin 128) : b152 b (ix2 t s) = (chunk b).wm 7 t s := by
  unfold b152; pointwise [k0_pay61, k0_pay60]; exact mask_select t s _ _

theorem b153_apply (s j : Fin 128) : b153 b (ix2 s j) = (chunk b).vn s (col 7 j) := by
  rw [← b80_apply]; unfold b153; pointwise [k0_pay62]; rfl

theorem b154_apply (t j : Fin 128) : b154 b (ix2 t j) = ∑ s, (chunk b).wm 7 t s * (chunk b).vn s (col 7 j) := by
  have h := fun s => b152_apply b t s
  have h' := fun s => b153_apply b s j
  unfold b152 at h
  unfold b153 at h'
  unfold b154; pointwise [k0_pay63]; simp only [h, h']

theorem b161_apply (t s : Fin 128) : b161 b (ix2 t s) = (chunk b).wm 8 t s := by
  unfold b161; pointwise [k0_pay65, k0_pay64]; exact mask_select t s _ _

theorem b162_apply (s j : Fin 128) : b162 b (ix2 s j) = (chunk b).vn s (col 8 j) := by
  rw [← b80_apply]; unfold b162; pointwise [k0_pay66]; rfl

theorem b163_apply (t j : Fin 128) : b163 b (ix2 t j) = ∑ s, (chunk b).wm 8 t s * (chunk b).vn s (col 8 j) := by
  have h := fun s => b161_apply b t s
  have h' := fun s => b162_apply b s j
  unfold b161 at h
  unfold b162 at h'
  unfold b163; pointwise [k0_pay67]; simp only [h, h']

theorem b170_apply (t s : Fin 128) : b170 b (ix2 t s) = (chunk b).wm 9 t s := by
  unfold b170; pointwise [k0_pay69, k0_pay68]; exact mask_select t s _ _

theorem b171_apply (s j : Fin 128) : b171 b (ix2 s j) = (chunk b).vn s (col 9 j) := by
  rw [← b80_apply]; unfold b171; pointwise [k0_pay70]; rfl

theorem b172_apply (t j : Fin 128) : b172 b (ix2 t j) = ∑ s, (chunk b).wm 9 t s * (chunk b).vn s (col 9 j) := by
  have h := fun s => b170_apply b t s
  have h' := fun s => b171_apply b s j
  unfold b170 at h
  unfold b171 at h'
  unfold b172; pointwise [k0_pay71]; simp only [h, h']

theorem b179_apply (t s : Fin 128) : b179 b (ix2 t s) = (chunk b).wm 10 t s := by
  unfold b179; pointwise [k0_pay73, k0_pay72]; exact mask_select t s _ _

theorem b180_apply (s j : Fin 128) : b180 b (ix2 s j) = (chunk b).vn s (col 10 j) := by
  rw [← b80_apply]; unfold b180; pointwise [k0_pay74]; rfl

theorem b181_apply (t j : Fin 128) : b181 b (ix2 t j) = ∑ s, (chunk b).wm 10 t s * (chunk b).vn s (col 10 j) := by
  have h := fun s => b179_apply b t s
  have h' := fun s => b180_apply b s j
  unfold b179 at h
  unfold b180 at h'
  unfold b181; pointwise [k0_pay75]; simp only [h, h']

theorem b188_apply (t s : Fin 128) : b188 b (ix2 t s) = (chunk b).wm 11 t s := by
  unfold b188 b182; pointwise [k0_pay77, k0_pay76]; exact mask_select t s _ _

theorem b189_apply (s j : Fin 128) : b189 b (ix2 s j) = (chunk b).vn s (col 11 j) := by
  rw [← b80_apply]; unfold b189; pointwise [k0_pay78]; rfl

theorem b190_apply (t j : Fin 128) : b190 b (ix2 t j) = ∑ s, (chunk b).wm 11 t s * (chunk b).vn s (col 11 j) := by
  have h := fun s => b188_apply b t s
  have h' := fun s => b189_apply b s j
  unfold b188 at h
  unfold b189 at h'
  unfold b190; pointwise [k0_pay79]; simp only [h, h']

theorem b197_apply (t s : Fin 128) : b197 b (ix2 t s) = (chunk b).wm 12 t s := by
  unfold b197; pointwise [k0_pay81, k0_pay80]; exact mask_select t s _ _

theorem b198_apply (s j : Fin 128) : b198 b (ix2 s j) = (chunk b).vn s (col 12 j) := by
  rw [← b80_apply]; unfold b198; pointwise [k0_pay82]; rfl

theorem b199_apply (t j : Fin 128) : b199 b (ix2 t j) = ∑ s, (chunk b).wm 12 t s * (chunk b).vn s (col 12 j) := by
  have h := fun s => b197_apply b t s
  have h' := fun s => b198_apply b s j
  unfold b197 at h
  unfold b198 at h'
  unfold b199; pointwise [k0_pay83]; simp only [h, h']

theorem b206_apply (t s : Fin 128) : b206 b (ix2 t s) = (chunk b).wm 13 t s := by
  unfold b206; pointwise [k0_pay85, k0_pay84]; exact mask_select t s _ _

theorem b207_apply (s j : Fin 128) : b207 b (ix2 s j) = (chunk b).vn s (col 13 j) := by
  rw [← b80_apply]; unfold b207; pointwise [k0_pay86]; rfl

theorem b208_apply (t j : Fin 128) : b208 b (ix2 t j) = ∑ s, (chunk b).wm 13 t s * (chunk b).vn s (col 13 j) := by
  have h := fun s => b206_apply b t s
  have h' := fun s => b207_apply b s j
  unfold b206 at h
  unfold b207 at h'
  unfold b208; pointwise [k0_pay87]; simp only [h, h']

theorem b215_apply (t s : Fin 128) : b215 b (ix2 t s) = (chunk b).wm 14 t s := by
  unfold b215; pointwise [k0_pay89, k0_pay88]; exact mask_select t s _ _

theorem b216_apply (s j : Fin 128) : b216 b (ix2 s j) = (chunk b).vn s (col 14 j) := by
  rw [← b80_apply]; unfold b216; pointwise [k0_pay90]; rfl

theorem b217_apply (t j : Fin 128) : b217 b (ix2 t j) = ∑ s, (chunk b).wm 14 t s * (chunk b).vn s (col 14 j) := by
  have h := fun s => b215_apply b t s
  have h' := fun s => b216_apply b s j
  unfold b215 at h
  unfold b216 at h'
  unfold b217; pointwise [k0_pay91]; simp only [h, h']

theorem b224_apply (t s : Fin 128) : b224 b (ix2 t s) = (chunk b).wm 15 t s := by
  unfold b224; pointwise [k0_pay93, k0_pay92]; exact mask_select t s _ _

theorem b225_apply (s j : Fin 128) : b225 b (ix2 s j) = (chunk b).vn s (col 15 j) := by
  rw [← b80_apply]; unfold b225; pointwise [k0_pay94]; rfl

theorem b226_apply (t j : Fin 128) : b226 b (ix2 t j) = ∑ s, (chunk b).wm 15 t s * (chunk b).vn s (col 15 j) := by
  have h := fun s => b224_apply b t s
  have h' := fun s => b225_apply b s j
  unfold b224 at h
  unfold b225 at h'
  unfold b226; pointwise [k0_pay95]; simp only [h, h']

end Cert.KernelIdeal.Block
-- ==== Proof.BlockMix.lean ====
module

public import proofs.«01_k».proof.Proof.BlockGroups

/-!
  One grid point's mixed rows and the gradients that take them elementwise, read at an index, and the gradient of
  the groups' shifts.
-/

@[expose] public section

set_option maxRecDepth 16384

noncomputable section

namespace Cert.KernelIdeal.Block

open Cert.KernelIdeal Cert.KernelIdeal.Gen Idealize.ShloMosaic Idealize.ShloMosaic.TcCoe Gating

/-! ## The one-hot matrix -/

variable (b : Blk) (r : Fin 128) (c : Fin 2048)

/-- The one-hot matrix of the columns' groups. -/
abbrev sel : FVec Ideal S16x2048 .f32 := k0_pay98 (iota .tc S16x2048 32 [1] iota_S16x2048_d1_w32) 128#32 (b229 b) (b230 b)

/-- The signed quotient of a column by 128, rounded down, is the column's group. -/
theorem floor_word : ∀ c : Fin 2048,
    Scalar.select
      (IntOp.andi
        (IntOp.cmpi .ne
          (IntOp.subi (BitVec.setWidth 32 (IntOp.cmpi .sgt (BitVec.ofNat 32 c.val) 0#32))
            (BitVec.setWidth 32 (IntOp.cmpi .slt (BitVec.ofNat 32 c.val) 0#32)))
          (Scalar.subi (Scalar.extui (Scalar.cmpi .sgt 128#32 0#32)) (Scalar.extui (Scalar.cmpi .slt 128#32 0#32))))
        (IntOp.cmpi .ne (IntOp.remsi .vector (BitVec.ofNat 32 c.val) 128#32) 0#32))
      (IntOp.subi (IntOp.divsi .vector (BitVec.ofNat 32 c.val) 128#32) 1#32)
      (IntOp.divsi .vector (BitVec.ofNat 32 c.val) 128#32)
      = BitVec.ofNat 32 (c.val / 128) := by
  decide +kernel

theorem sel_apply (g : Fin 16) : sel b (ix2 g c) = if grp c = g then 1 else 0 := by
  unfold sel b229 b230
  pointwise [k0_pay98, k0_pay96, k0_pay97]
  have h : (grp c).val = c.val / 128 := rfl
  rw [floor_word, WordCmp.cmpi_eq_ofNat (by omega) (by omega), ← h]
  by_cases e : grp c = g
  · rw [if_pos e, e]
    have : (BitVec.setWidth 32 (BitVec.ofBool (decide (g.val = g.val)))) = 1#32 := by simp
    rw [this]
    show ((((1#32 : BitVec 32).toInt : Int) : ℝ) : EReal) = 1
    simp
  · rw [if_neg e]
    have e' : ¬ (grp c).val = g.val := fun h => e (Fin.ext h)
    have : (BitVec.setWidth 32 (BitVec.ofBool (decide ((grp c).val = g.val)))) = 0#32 := by simp [e']
    rw [this]
    show ((((0#32 : BitVec 32).toInt : Int) : ℝ) : EReal) = 0
    simp

/-- A sum over the columns that the one-hot row of group `g` weighs is the sum over that group's columns. -/
theorem sum_onehot (F : Fin 2048 → EReal) (g : Fin 16) :
    (∑ c, F c * (if grp c = g then 1 else 0)) = ∑ j, F (col g j) := by
  rw [← (finProdFinEquiv (m := 16) (n := 128)).sum_comp, Fintype.sum_prod_type]
  have e : ∀ (a : Fin 16) (j : Fin 128), finProdFinEquiv (a, j) = col a j := fun a j => Fin.ext (by simp [col, finProdFinEquiv]; omega)
  simp only [e, grp_col, mul_ite, mul_one, mul_zero]
  rw [Finset.sum_eq_single g (fun a _ ha => by simp [ha]) (by simp)]
  simp

/-- A row of shifts times the one-hot matrix, at a column. -/
theorem row_sel (x : FVec Ideal S128x16 .f32) (y : FVec Ideal S16x2048 .f32) :
    matmul dot_S128x16_S16x2048_S128x2048_1_0_0_1_n_n (some .fp32) x y (constant S128x2048 .f32 0x00000000#32) (ix2 r c)
      = ∑ g, x (ix2 r g) * y (ix2 g c) := by
  pointwise

/-- A row of columns times the transposed one-hot matrix, at a group. -/
theorem row_selT (x : FVec Ideal S128x2048 .f32) (y : FVec Ideal S16x2048 .f32) (g : Fin 16) :
    matmul dot_S128x2048_S16x2048_S128x16_1_1_0_0_n_n (some .fp32) x y (constant S128x16 .f32 0x00000000#32) (ix2 r g)
      = ∑ c, x (ix2 r c) * y (ix2 g c) := by
  pointwise

/-! ## The mixed rows -/

/-- The sixteen mixed slices. -/
def pieces : Fin 16 → FVec Ideal S128x128 .f32 := ![b91 b, b100 b, b109 b, b118 b, b127 b, b136 b, b145 b, b154 b, b163 b, b172 b, b181 b, b190 b, b199 b, b208 b, b217 b, b226 b]

theorem pieces_apply (g : Fin 16) (j : Fin 128) :
    pieces b g (ix2 r j) = ∑ s, (chunk b).wm g r s * (chunk b).vn s (col g j) := by
  match g with
  | ⟨0, _⟩ => exact b91_apply b r j
  | ⟨1, _⟩ => exact b100_apply b r j
  | ⟨2, _⟩ => exact b109_apply b r j
  | ⟨3, _⟩ => exact b118_apply b r j
  | ⟨4, _⟩ => exact b127_apply b r j
  | ⟨5, _⟩ => exact b136_apply b r j
  | ⟨6, _⟩ => exact b145_apply b r j
  | ⟨7, _⟩ => exact b154_apply b r j
  | ⟨8, _⟩ => exact b163_apply b r j
  | ⟨9, _⟩ => exact b172_apply b r j
  | ⟨10, _⟩ => exact b181_apply b r j
  | ⟨11, _⟩ => exact b190_apply b r j
  | ⟨12, _⟩ => exact b199_apply b r j
  | ⟨13, _⟩ => exact b208_apply b r j
  | ⟨14, _⟩ => exact b217_apply b r j
  | ⟨15, _⟩ => exact b226_apply b r j
  | ⟨n + 16, h⟩ => exact absurd h (by omega)

/-- The mixed rows. -/
theorem f_apply : k0_pay99 (b8 b) (b91 b) (b100 b) (b109 b) (b118 b) (b127 b) (b136 b) (b145 b) (b154 b) (b163 b) (b172 b) (b181 b) (b190 b) (b199 b) (b208 b) (b217 b) (b226 b) (iota .tc S16x2048 32 [1] iota_S16x2048_d1_w32) 128#32 (b229 b) (b230 b) (ix2 r c) = (chunk b).f r c := by
  unfold k0_pay99
  refine congrArg₂ (· + ·) ((cat_apply (pieces b) r c).trans ?_) ((row_sel r c _ _).trans ?_)
  · rw [pieces_apply, col_grp_lane]
  · refine (Finset.sum_congr rfl fun g _ => congrArg₂ (· * ·) (b8_apply b r g) (sel_apply b c g)).trans ?_
    simp

theorem act_apply : k0_pay101 b.x1 (b53 b) (ix2 r c) = (chunk b).act r c := by
  pointwise [k0_pay101, k0_pay100]; simp only [b53_apply]; rfl

theorem b271_apply : b271 b (ix2 r c) = (chunk b).df r c := by
  have h := act_apply b r c
  pointwise at h
  unfold b271; pointwise [k0_pay103]; simp only [h, b30_apply]; rfl

theorem b272_apply : b272 b (ix2 r c) = (chunk b).duf r c := by
  have h := act_apply b r c
  have h' := f_apply b r c
  pointwise at h h'
  unfold b272; pointwise [k0_pay104]; simp only [h, h']; rfl

theorem b270_apply : b270 b (ix2 r c) = (chunk b).dz r c := by
  have h := f_apply b r c
  pointwise at h
  unfold b270; pointwise [k0_pay102, k0_pay100]; simp only [h, b53_apply, b30_apply]; rfl

theorem b273_apply (g : Fin 16) : b273 b (ix2 r g) = (chunk b).dbs r g := by
  unfold b273 k0_pay105
  refine (row_selT r _ _ g).trans ?_
  refine (Finset.sum_congr rfl fun c _ => congrArg₂ (· * ·) (b271_apply b r c) (sel_apply b c g)).trans ?_
  exact sum_onehot _ g

end Cert.KernelIdeal.Block
-- ==== Proof.BlockGrad.lean ====
module

public import proofs.«01_k».proof.Proof.BlockMix

/-!
  One grid point's gradients of the normalised rows and of the mixing's weights, read at an index: each is a sum of
  sixteen arrays that are zero outside one group.
-/

@[expose] public section

set_option maxRecDepth 16384

noncomputable section

namespace Cert.KernelIdeal.Block

open Cert.KernelIdeal Cert.KernelIdeal.Gen Idealize.ShloMosaic Idealize.ShloMosaic.TcCoe Gating

variable (b : Blk) (r : Fin 128) (c : Fin 2048)

/-! ## The slices of the mixed rows' gradient -/

theorem b274_apply (j : Fin 128) : b274 b (ix2 r j) = (chunk b).df r (col 0 j) := by
  rw [← b271_apply]; unfold b274 b271; pointwise [k0_pay106]; exact congrArg (fun i => k0_pay103 b.x1 (b30 b) (b53 b) (ix2 r i)) (Fin.ext (Nat.zero_add _).symm)

theorem b275_apply (j : Fin 128) : b275 b (ix2 r j) = (chunk b).df r (col 1 j) := by
  unfold b275; pointwise [k0_pay107]; exact b271_apply b r (col 1 j)

theorem b276_apply (j : Fin 128) : b276 b (ix2 r j) = (chunk b).df r (col 2 j) := by
  unfold b276; pointwise [k0_pay108]; exact b271_apply b r (col 2 j)

theorem b277_apply (j : Fin 128) : b277 b (ix2 r j) = (chunk b).df r (col 3 j) := by
  unfold b277; pointwise [k0_pay109]; exact b271_apply b r (col 3 j)

theorem b278_apply (j : Fin 128) : b278 b (ix2 r j) = (chunk b).df r (col 4 j) := by
  unfold b278; pointwise [k0_pay110]; exact b271_apply b r (col 4 j)

theorem b279_apply (j : Fin 128) : b279 b (ix2 r j) = (chunk b).df r (col 5 j) := by
  unfold b279; pointwise [k0_pay111]; exact b271_apply b r (col 5 j)

theorem b280_apply (j : Fin 128) : b280 b (ix2 r j) = (chunk b).df r (col 6 j) := by
  unfold b280; pointwise [k0_pay112]; exact b271_apply b r (col 6 j)

theorem b281_apply (j : Fin 128) : b281 b (ix2 r j) = (chunk b).df r (col 7 j) := by
  unfold b281; pointwise [k0_pay113]; exact b271_apply b r (col 7 j)

theorem b282_apply (j : Fin 128) : b282 b (ix2 r j) = (chunk b).df r (col 8 j) := by
  unfold b282; pointwise [k0_pay114]; exact b271_apply b r (col 8 j)

theorem b283_apply (j : Fin 128) : b283 b (ix2 r j) = (chunk b).df r (col 9 j) := by
  unfold b283; pointwise [k0_pay115]; exact b271_apply b r (col 9 j)

theorem b284_apply (j : Fin 128) : b284 b (ix2 r j) = (chunk b).df r (col 10 j) := by
  unfold b284; pointwise [k0_pay116]; exact b271_apply b r (col 10 j)

theorem b285_apply (j : Fin 128) : b285 b (ix2 r j) = (chunk b).df r (col 11 j) := by
  unfold b285; pointwise [k0_pay117]; exact b271_apply b r (col 11 j)

theorem b286_apply (j : Fin 128) : b286 b (ix2 r j) = (chunk b).df r (col 12 j) := by
  unfold b286; pointwise [k0_pay118]; exact b271_apply b r (col 12 j)

theorem s13_apply (j : Fin 128) : k0_pay119 (b271 b) (ix2 r j) = (chunk b).df r (col 13 j) := by
  pointwise [k0_pay119]; exact b271_apply b r (col 13 j)

theorem s14_apply (j : Fin 128) : k0_pay120 (b271 b) (ix2 r j) = (chunk b).df r (col 14 j) := by
  pointwise [k0_pay120]; exact b271_apply b r (col 14 j)

theorem s15_apply (j : Fin 128) : k0_pay121 (b271 b) (ix2 r j) = (chunk b).df r (col 15 j) := by
  pointwise [k0_pay121]; exact b271_apply b r (col 15 j)

/-! ## The gradient of the normalised rows -/

/-- One group's product, at a column of the group. -/
theorem dvn_at (k : Chunk) (g : Fin 16) (l : Fin 128) (h : 128 * g.val ≤ c.val) (h' : l.val = c.val - 128 * g.val) :
    (∑ x, k.df x (col g l) * k.wm g x r) = k.dvn r c := by
  have e : c = col g l := Fin.ext (by simp only [col]; omega)
  subst e
  simp only [Chunk.dvn, grp_col]

theorem b315_apply : b315 b (ix2 r c) = if 1792 ≤ c.val then (chunk b).dvn r c else 0 := by
  unfold b315; pointwise [k0_pay122]
  simp only [s15_apply, s14_apply, b224_apply, b215_apply]
  by_cases h : c.val < 1792
  · simp (disch := omega) only [dif_pos, dif_neg, if_pos, if_neg, zero_add, add_zero]
  by_cases h14 : c.val < 1920
  · simp (disch := omega) only [dif_pos, dif_neg, if_pos, if_neg, zero_add, add_zero]
    exact dvn_at r c (chunk b) 14 _ (by show 128 * 14 ≤ c.val; omega) rfl
  · simp (disch := omega) only [dif_pos, dif_neg, if_pos, if_neg, zero_add, add_zero]
    exact dvn_at r c (chunk b) 15 _ (by show 128 * 15 ≤ c.val; omega) rfl

theorem b329_apply (j : Fin 128) : b329 b (ix2 r j) = ∑ x, (chunk b).df x (col 13 j) * (chunk b).wm 13 x r := by
  unfold b329; pointwise [k0_pay124]; simp only [s13_apply, s13_apply, b206_apply]

theorem b375_apply : b375 b (ix2 r c) = if 1408 ≤ c.val then (chunk b).dvn r c else 0 := by
  unfold b375; pointwise [k0_pay127]
  simp only [b315_apply, b329_apply, b286_apply, b285_apply, b197_apply, b188_apply]
  by_cases h : c.val < 1408
  · simp (disch := omega) only [dif_pos, dif_neg, if_pos, if_neg, zero_add, add_zero]
  by_cases h11 : c.val < 1536
  · simp (disch := omega) only [dif_pos, dif_neg, if_pos, if_neg, zero_add, add_zero]
    exact dvn_at r c (chunk b) 11 _ (by show 128 * 11 ≤ c.val; omega) rfl
  by_cases h12 : c.val < 1664
  · simp (disch := omega) only [dif_pos, dif_neg, if_pos, if_neg, zero_add, add_zero]
    exact dvn_at r c (chunk b) 12 _ (by show 128 * 12 ≤ c.val; omega) rfl
  by_cases h13 : c.val < 1792
  · simp (disch := omega) only [dif_pos, dif_neg, if_pos, if_neg, zero_add, add_zero]
    exact dvn_at r c (chunk b) 13 _ (by show 128 * 13 ≤ c.val; omega) rfl
  · simp (disch := omega) only [dif_pos, dif_neg, if_pos, if_neg, zero_add, add_zero]

theorem b415_apply : b415 b (ix2 r c) = if 1152 ≤ c.val then (chunk b).dvn r c else 0 := by
  unfold b415; pointwise [k0_pay129]
  simp only [b375_apply, b284_apply, b283_apply, b179_apply, b170_apply]
  by_cases h : c.val < 1152
  · simp (disch := omega) only [dif_pos, dif_neg, if_pos, if_neg, zero_add, add_zero]
  by_cases h9 : c.val < 1280
  · simp (disch := omega) only [dif_pos, dif_neg, if_pos, if_neg, zero_add, add_zero]
    exact dvn_at r c (chunk b) 9 _ (by show 128 * 9 ≤ c.val; omega) rfl
  by_cases h10 : c.val < 1408
  · simp (disch := omega) only [dif_pos, dif_neg, if_pos, if_neg, zero_add, add_zero]
    exact dvn_at r c (chunk b) 10 _ (by show 128 * 10 ≤ c.val; omega) rfl
  · simp (disch := omega) only [dif_pos, dif_neg, if_pos, if_neg, zero_add, add_zero]

theorem b426_apply (j : Fin 128) : b426 b (ix2 r j) = ∑ x, (chunk b).df x (col 8 j) * (chunk b).wm 8 x r := by
  unfold b426; pointwise [k0_pay131]; simp only [s13_apply, b282_apply, b161_apply]

theorem b455_apply : b455 b (ix2 r c) = if 896 ≤ c.val then (chunk b).dvn r c else 0 := by
  unfold b455; pointwise [k0_pay132]
  simp only [b415_apply, b426_apply, b281_apply, b152_apply]
  by_cases h : c.val < 896
  · simp (disch := omega) only [dif_pos, dif_neg, if_pos, if_neg, zero_add, add_zero]
  by_cases h7 : c.val < 1024
  · simp (disch := omega) only [dif_pos, dif_neg, if_pos, if_neg, zero_add, add_zero]
    exact dvn_at r c (chunk b) 7 _ (by show 128 * 7 ≤ c.val; omega) rfl
  by_cases h8 : c.val < 1152
  · simp (disch := omega) only [dif_pos, dif_neg, if_pos, if_neg, zero_add, add_zero]
    exact dvn_at r c (chunk b) 8 _ (by show 128 * 8 ≤ c.val; omega) rfl
  · simp (disch := omega) only [dif_pos, dif_neg, if_pos, if_neg, zero_add, add_zero]

theorem b474_apply : b474 b (ix2 r c) = if c.val < 896 then if c.val < 768 then 0 else (chunk b).dvn r c else 0 := by
  unfold b474; pointwise [k0_pay135]
  simp only [b280_apply, b143_apply]
  by_cases h : c.val < 768
  · simp (disch := omega) only [dif_pos, dif_neg, if_pos, if_neg, zero_add, add_zero]
  by_cases h6 : c.val < 896
  · simp (disch := omega) only [dif_pos, dif_neg, if_pos, if_neg, zero_add, add_zero]
    exact dvn_at r c (chunk b) 6 _ (by show 128 * 6 ≤ c.val; omega) rfl
  · simp (disch := omega) only [dif_pos, dif_neg, if_pos, if_neg, zero_add, add_zero]

theorem b515_apply : b515 b (ix2 r c) = if 512 ≤ c.val then (chunk b).dvn r c else 0 := by
  unfold b515; pointwise [k0_pay137]
  simp only [b455_apply, b474_apply, b279_apply, b134_apply, b278_apply, b125_apply]
  by_cases h : c.val < 512
  · simp (disch := omega) only [dif_pos, dif_neg, if_pos, if_neg, zero_add, add_zero]
  by_cases h4 : c.val < 640
  · simp (disch := omega) only [dif_pos, dif_neg, if_pos, if_neg, zero_add, add_zero]
    exact dvn_at r c (chunk b) 4 _ (by show 128 * 4 ≤ c.val; omega) rfl
  by_cases h5 : c.val < 768
  · simp (disch := omega) only [dif_pos, dif_neg, if_pos, if_neg, zero_add, add_zero]
    exact dvn_at r c (chunk b) 5 _ (by show 128 * 5 ≤ c.val; omega) rfl
  by_cases h6 : c.val < 896
  · simp (disch := omega) only [dif_pos, dif_neg, if_pos, if_neg, zero_add, add_zero]
  · simp (disch := omega) only [dif_pos, dif_neg, if_pos, if_neg, zero_add, add_zero]

theorem b555_apply : b555 b (ix2 r c) = if 256 ≤ c.val then (chunk b).dvn r c else 0 := by
  unfold b555; pointwise [k0_pay139]
  simp only [b515_apply, b277_apply, b116_apply, b276_apply, b107_apply]
  by_cases h : c.val < 256
  · simp (disch := omega) only [dif_pos, dif_neg, if_pos, if_neg, zero_add, add_zero]
  by_cases h2 : c.val < 384
  · simp (disch := omega) only [dif_pos, dif_neg, if_pos, if_neg, zero_add, add_zero]
    exact dvn_at r c (chunk b) 2 _ (by show 128 * 2 ≤ c.val; omega) rfl
  by_cases h3 : c.val < 512
  · simp (disch := omega) only [dif_pos, dif_neg, if_pos, if_neg, zero_add, add_zero]
    exact dvn_at r c (chunk b) 3 _ (by show 128 * 3 ≤ c.val; omega) rfl
  · simp (disch := omega) only [dif_pos, dif_neg, if_pos, if_neg, zero_add, add_zero]

theorem b569_apply (j : Fin 128) : b569 b (ix2 r j) = ∑ x, (chunk b).df x (col 1 j) * (chunk b).wm 1 x r := by
  unfold b569; pointwise [k0_pay141]; simp only [s13_apply, b275_apply, b98_apply]

/-- The gradient of the normalised rows. -/
theorem v593_apply : k0_pay143 (b89 b) (b274 b) (b555 b) (b569 b) (ix2 r c) = (chunk b).dvn r c := by
  pointwise [k0_pay143]
  simp only [b555_apply, b569_apply, b274_apply, b89_apply]
  by_cases h0 : c.val < 128
  · simp (disch := omega) only [dif_pos, dif_neg, if_pos, if_neg, zero_add, add_zero]
    exact dvn_at r c (chunk b) 0 _ (by show 128 * 0 ≤ c.val; omega) rfl
  by_cases h1 : c.val < 256
  · simp (disch := omega) only [dif_pos, dif_neg, if_pos, if_neg, zero_add, add_zero]
    exact dvn_at r c (chunk b) 1 _ (by show 128 * 1 ≤ c.val; omega) rfl
  · simp (disch := omega) only [dif_pos, dif_neg, if_pos, if_neg, zero_add, add_zero]

/-! ## The gradient of the mixing's weights -/

/-- One group's product, masked. -/
theorem dws_at (k : Chunk) (g g' : Fin 16) (s : Fin 128) (h : g.val = g'.val) :
    (if s.val ≤ r.val then ∑ x, k.df r (col g' x) * k.vn s (col g' x) else 0) = k.dws g r s := by
  obtain rfl := Fin.ext h
  rfl

variable (g : Fin 16) (s : Fin 128)

theorem b83_apply (x y : EReal) : Scalar.select (b83 b (ix2 r s)) x y = if s.val ≤ r.val then x else y := by
  unfold b83; pointwise [k0_pay29]; exact mask_select r s x y

theorem b92_apply (x y : EReal) : Scalar.select (b92 b (ix2 r s)) x y = if s.val ≤ r.val then x else y := by
  unfold b92; pointwise [k0_pay34]; exact mask_select r s x y

theorem b101_apply (x y : EReal) : Scalar.select (b101 b (ix2 r s)) x y = if s.val ≤ r.val then x else y := by
  unfold b101; pointwise [k0_pay38]; exact mask_select r s x y

theorem b110_apply (x y : EReal) : Scalar.select (b110 b (ix2 r s)) x y = if s.val ≤ r.val then x else y := by
  unfold b110; pointwise [k0_pay42]; exact mask_select r s x y

theorem b119_apply (x y : EReal) : Scalar.select (b119 b (ix2 r s)) x y = if s.val ≤ r.val then x else y := by
  unfold b119; pointwise [k0_pay46]; exact mask_select r s x y

theorem b128_apply (x y : EReal) : Scalar.select (b128 b (ix2 r s)) x y = if s.val ≤ r.val then x else y := by
  unfold b128; pointwise [k0_pay50]; exact mask_select r s x y

theorem b137_apply (x y : EReal) : Scalar.select (b137 b (ix2 r s)) x y = if s.val ≤ r.val then x else y := by
  unfold b137; pointwise [k0_pay56]; exact mask_select r s x y

theorem b146_apply (x y : EReal) : Scalar.select (b146 b (ix2 r s)) x y = if s.val ≤ r.val then x else y := by
  unfold b146; pointwise [k0_pay60]; exact mask_select r s x y

theorem b155_apply (x y : EReal) : Scalar.select (b155 b (ix2 r s)) x y = if s.val ≤ r.val then x else y := by
  unfold b155; pointwise [k0_pay64]; exact mask_select r s x y

theorem b164_apply (x y : EReal) : Scalar.select (b164 b (ix2 r s)) x y = if s.val ≤ r.val then x else y := by
  unfold b164; pointwise [k0_pay68]; exact mask_select r s x y

theorem b173_apply (x y : EReal) : Scalar.select (b173 b (ix2 r s)) x y = if s.val ≤ r.val then x else y := by
  unfold b173; pointwise [k0_pay72]; exact mask_select r s x y

theorem b182_apply (x y : EReal) : Scalar.select (b182 b (ix2 r s)) x y = if s.val ≤ r.val then x else y := by
  unfold b182; pointwise [k0_pay76]; exact mask_select r s x y

theorem b191_apply (x y : EReal) : Scalar.select (b191 b (ix2 r s)) x y = if s.val ≤ r.val then x else y := by
  unfold b191; pointwise [k0_pay80]; exact mask_select r s x y

theorem b200_apply (x y : EReal) : Scalar.select (b200 b (ix2 r s)) x y = if s.val ≤ r.val then x else y := by
  unfold b200; pointwise [k0_pay84]; exact mask_select r s x y

theorem b209_apply (x y : EReal) : Scalar.select (b209 b (ix2 r s)) x y = if s.val ≤ r.val then x else y := by
  unfold b209; pointwise [k0_pay88]; exact mask_select r s x y

theorem b218_apply (x y : EReal) : Scalar.select (b218 b (ix2 r s)) x y = if s.val ≤ r.val then x else y := by
  unfold b218; pointwise [k0_pay92]; exact mask_select r s x y

theorem b323_apply : b323 b (ix3 g r s) = if 14 ≤ g.val then (chunk b).dws g r s else 0 := by
  unfold b323; pointwise [k0_pay123]
  simp only [s15_apply, b225_apply, b218_apply, s14_apply, b216_apply, b209_apply]
  by_cases h : g.val < 14
  · simp (disch := omega) only [dif_pos, dif_neg, if_pos, if_neg, zero_add, add_zero]
  by_cases h14 : g.val < 15
  · simp (disch := omega) only [dif_pos, dif_neg, if_pos, if_neg, zero_add, add_zero]
    exact dws_at r (chunk b) g 14 s (by show g.val = 14; omega)
  · simp (disch := omega) only [dif_pos, dif_neg, if_pos, if_neg, zero_add, add_zero]
    exact dws_at r (chunk b) g 15 s (by show g.val = 15; omega)

theorem b330_apply : b330 b (ix2 r s) = ∑ x, (chunk b).df r (col 13 x) * (chunk b).vn s (col 13 x) := by
  unfold b330; pointwise [k0_pay125]; simp only [s13_apply, b207_apply]

theorem b363_apply : b363 b (ix3 g r s) = if 12 ≤ g.val then (chunk b).dws g r s else 0 := by
  unfold b363; pointwise [k0_pay126]
  simp only [b323_apply, b330_apply, b200_apply, b286_apply, b198_apply, b191_apply]
  by_cases h : g.val < 12
  · simp (disch := omega) only [dif_pos, dif_neg, if_pos, if_neg, zero_add, add_zero]
  by_cases h12 : g.val < 13
  · simp (disch := omega) only [dif_pos, dif_neg, if_pos, if_neg, zero_add, add_zero]
    exact dws_at r (chunk b) g 12 s (by show g.val = 12; omega)
  by_cases h13 : g.val < 14
  · simp (disch := omega) only [dif_pos, dif_neg, if_pos, if_neg, zero_add, add_zero]
    exact dws_at r (chunk b) g 13 s (by show g.val = 13; omega)
  · simp (disch := omega) only [dif_pos, dif_neg, if_pos, if_neg, zero_add, add_zero]

theorem b378_apply (i : Fin 1) : b378 b (ix3 i r s) = if s.val ≤ r.val then ∑ x, (chunk b).df r (col 11 x) * (chunk b).vn s (col 11 x) else 0 := by
  unfold b378; pointwise [k0_pay128]; simp only [b285_apply, b189_apply, b182_apply]

theorem b423_apply : b423 b (ix3 g r s) = if 9 ≤ g.val then (chunk b).dws g r s else 0 := by
  unfold b423; pointwise [k0_pay130]
  simp only [b363_apply, b378_apply, b284_apply, b180_apply, b173_apply, b283_apply, b171_apply, b164_apply]
  by_cases h : g.val < 9
  · simp (disch := omega) only [dif_pos, dif_neg, if_pos, if_neg, zero_add, add_zero]
  by_cases h9 : g.val < 10
  · simp (disch := omega) only [dif_pos, dif_neg, if_pos, if_neg, zero_add, add_zero]
    exact dws_at r (chunk b) g 9 s (by show g.val = 9; omega)
  by_cases h10 : g.val < 11
  · simp (disch := omega) only [dif_pos, dif_neg, if_pos, if_neg, zero_add, add_zero]
    exact dws_at r (chunk b) g 10 s (by show g.val = 10; omega)
  by_cases h11 : g.val < 12
  · simp (disch := omega) only [dif_pos, dif_neg, if_pos, if_neg, zero_add, add_zero]
    exact dws_at r (chunk b) g 11 s (by show g.val = 11; omega)
  · simp (disch := omega) only [dif_pos, dif_neg, if_pos, if_neg, zero_add, add_zero]

theorem b463_apply : b463 b (ix3 g r s) = if 7 ≤ g.val then (chunk b).dws g r s else 0 := by
  unfold b463; pointwise [k0_pay133]
  simp only [b423_apply, b282_apply, b162_apply, b155_apply, b281_apply, b153_apply, b146_apply]
  by_cases h : g.val < 7
  · simp (disch := omega) only [dif_pos, dif_neg, if_pos, if_neg, zero_add, add_zero]
  by_cases h7 : g.val < 8
  · simp (disch := omega) only [dif_pos, dif_neg, if_pos, if_neg, zero_add, add_zero]
    exact dws_at r (chunk b) g 7 s (by show g.val = 7; omega)
  by_cases h8 : g.val < 9
  · simp (disch := omega) only [dif_pos, dif_neg, if_pos, if_neg, zero_add, add_zero]
    exact dws_at r (chunk b) g 8 s (by show g.val = 8; omega)
  · simp (disch := omega) only [dif_pos, dif_neg, if_pos, if_neg, zero_add, add_zero]

theorem b470_apply : b470 b (ix2 r s) = ∑ x, (chunk b).df r (col 6 x) * (chunk b).vn s (col 6 x) := by
  unfold b470; pointwise [k0_pay134]; simp only [b280_apply, b144_apply]

theorem b503_apply : b503 b (ix3 g r s) = if 5 ≤ g.val then (chunk b).dws g r s else 0 := by
  unfold b503; pointwise [k0_pay136]
  simp only [b463_apply, b470_apply, b137_apply, b279_apply, b135_apply, b128_apply]
  by_cases h : g.val < 5
  · simp (disch := omega) only [dif_pos, dif_neg, if_pos, if_neg, zero_add, add_zero]
  by_cases h5 : g.val < 6
  · simp (disch := omega) only [dif_pos, dif_neg, if_pos, if_neg, zero_add, add_zero]
    exact dws_at r (chunk b) g 5 s (by show g.val = 5; omega)
  by_cases h6 : g.val < 7
  · simp (disch := omega) only [dif_pos, dif_neg, if_pos, if_neg, zero_add, add_zero]
    exact dws_at r (chunk b) g 6 s (by show g.val = 6; omega)
  · simp (disch := omega) only [dif_pos, dif_neg, if_pos, if_neg, zero_add, add_zero]

theorem b522_apply : b522 b (ix3 g r s) = if g.val < 5 then if g.val < 4 then 0 else (chunk b).dws g r s else 0 := by
  unfold b522; pointwise [k0_pay138]
  simp only [b278_apply, b126_apply, b119_apply]
  by_cases h : g.val < 4
  · simp (disch := omega) only [dif_pos, dif_neg, if_pos, if_neg, zero_add, add_zero]
  by_cases h4 : g.val < 5
  · simp (disch := omega) only [dif_pos, dif_neg, if_pos, if_neg, zero_add, add_zero]
    exact dws_at r (chunk b) g 4 s (by show g.val = 4; omega)
  · simp (disch := omega) only [dif_pos, dif_neg, if_pos, if_neg, zero_add, add_zero]

theorem b563_apply : b563 b (ix3 g r s) = if 2 ≤ g.val then (chunk b).dws g r s else 0 := by
  unfold b563; pointwise [k0_pay140]
  simp only [b503_apply, b522_apply, b277_apply, b117_apply, b110_apply, b276_apply, b108_apply, b101_apply]
  by_cases h : g.val < 2
  · simp (disch := omega) only [dif_pos, dif_neg, if_pos, if_neg, zero_add, add_zero]
  by_cases h2 : g.val < 3
  · simp (disch := omega) only [dif_pos, dif_neg, if_pos, if_neg, zero_add, add_zero]
    exact dws_at r (chunk b) g 2 s (by show g.val = 2; omega)
  by_cases h3 : g.val < 4
  · simp (disch := omega) only [dif_pos, dif_neg, if_pos, if_neg, zero_add, add_zero]
    exact dws_at r (chunk b) g 3 s (by show g.val = 3; omega)
  by_cases h4 : g.val < 5
  · simp (disch := omega) only [dif_pos, dif_neg, if_pos, if_neg, zero_add, add_zero]
  · simp (disch := omega) only [dif_pos, dif_neg, if_pos, if_neg, zero_add, add_zero]

theorem b570_apply : b570 b (ix2 r s) = ∑ x, (chunk b).df r (col 1 x) * (chunk b).vn s (col 1 x) := by
  unfold b570; pointwise [k0_pay142]; simp only [b275_apply, b99_apply]

theorem b599_apply : b599 b (ix3 g r s) = (chunk b).dws g r s := by
  unfold b599; pointwise [k0_pay144]
  simp only [b563_apply, b570_apply, b92_apply, b274_apply, b90_apply, b83_apply]
  by_cases h0 : g.val < 1
  · simp (disch := omega) only [dif_pos, dif_neg, if_pos, if_neg, zero_add, add_zero]
    exact dws_at r (chunk b) g 0 s (by show g.val = 0; omega)
  by_cases h1 : g.val < 2
  · simp (disch := omega) only [dif_pos, dif_neg, if_pos, if_neg, zero_add, add_zero]
    exact dws_at r (chunk b) g 1 s (by show g.val = 1; omega)
  · simp (disch := omega) only [dif_pos, dif_neg, if_pos, if_neg, zero_add, add_zero]

end Cert.KernelIdeal.Block
-- ==== Proof.BlockOut.lean ====
module

public import proofs.«01_k».proof.Proof.BlockGrad

/-!
  One grid point's results, read at an index: the gradient of the rows, and the point's shares of the gradients of
  the layer norm's scale and shift, of the mixing's weights and of its shifts.
-/

@[expose] public section

set_option maxRecDepth 16384

noncomputable section

namespace Gating.Chunk

open Idealize.ShloMosaic

/-- The gradient of a row: its three thirds. -/
def dp (k : Chunk) (r : Fin 128) (e : Fin 6144) : EReal :=
  if h : e.val < 2048 then k.du r ⟨e.val, h⟩
  else if h' : e.val < 4096 then k.dv r ⟨e.val - 2048, by omega⟩
  else k.dz r ⟨e.val - 4096, by omega⟩

end Gating.Chunk

namespace Cert.KernelIdeal.Block

open Cert.KernelIdeal Cert.KernelIdeal.Gen Idealize.ShloMosaic Idealize.ShloMosaic.TcCoe Gating

variable (b : Blk) (r : Fin 128) (c : Fin 2048)

theorem b601_apply : b601 b (ix2 0 c) = (chunk b).dlb c := by
  have h := fun r => v593_apply b r c
  pointwise at h
  unfold b601; pointwise [k0_pay145]; simp only [h]; rfl

theorem b604_apply : b604 b (ix2 0 c) = (chunk b).dlg c := by
  have h := fun r => v593_apply b r c
  pointwise at h
  unfold b604; pointwise [k0_pay146]; simp only [h, b76_apply]; rfl

/-- The gradient of the normalised row before the scale. -/
theorem gl_apply : k0_pay147 (b3 b) (b89 b) (b274 b) (b555 b) (b569 b) (ix2 r c) = (chunk b).gl r c := by
  have h := v593_apply b r c
  pointwise at h
  pointwise [k0_pay147]; simp only [h, b3_apply]; rfl

theorem b611_apply : b611 b (ix2 r c) = (chunk b).ga r c := by
  have h := gl_apply b r c
  pointwise at h
  unfold b611; pointwise [k0_pay148]; simp only [h, b71_apply]; rfl

theorem b612_apply (x : Fin 1) : b612 b (ix2 r x) = (∑ c, cen ((chunk b).v r) c * (chunk b).gl r c) * (mhalf * Ideal.div (rs ((chunk b).v r)) (ve ((chunk b).v r))) := by
  obtain rfl : x = 0 := Subsingleton.elim _ _
  have h := fun c => gl_apply b r c
  pointwise at h
  unfold b612; pointwise [k0_pay149]; simp only [h, b68_apply, b74_apply]

theorem b616_apply (x : Fin 1) : b616 b (ix2 r x) = ∑ c, -(chunk b).ga r c := by
  have h := fun c => b611_apply b r c
  unfold b611 at h
  pointwise at h
  unfold b616; pointwise [k0_pay150]; simp only [h, zero_sub]

theorem b661_apply : b661 b (ix2 r c) = (chunk b).duf r c * cdf ((chunk b).u r c) + dth ((chunk b).u r c) ((chunk b).duf r c) := by
  unfold b661; pointwise [k0_pay153, k0_pay152]; simp only [b9_apply, b25_apply, b29_apply, b272_apply]; rfl

theorem b663_apply : b663 b (ix2 r c) = cubeCoef * dth ((chunk b).u r c) ((chunk b).duf r c) := by
  unfold b663; pointwise [k0_pay154, k0_pay152]; simp only [b9_apply, b25_apply, b272_apply]; rfl

theorem b653_apply (e : Fin 6144) : b653 b (ix2 r e) = if h : e.val < 2048 then 0
    else if h' : e.val < 4096 then (chunk b).dv r ⟨e.val - 2048, by omega⟩ else (chunk b).dz r ⟨e.val - 4096, by omega⟩ := by
  unfold b653; pointwise [k0_pay151]
  simp only [b611_apply, b612_apply, b616_apply, b62_apply, b31_apply, b36_apply, b47_apply, b51_apply, b270_apply]
  by_cases h : e.val < 2048
  · simp (disch := omega) only [dif_pos, dif_neg, if_pos, if_neg, zero_add, add_zero]
  by_cases h' : e.val < 4096
  · simp (disch := omega) only [dif_pos, dif_neg, if_pos, if_neg, zero_add, add_zero]
    simp only [zero_sub, b612_apply, b616_apply, Fin.sum_univ_one]
    rfl
  · simp (disch := omega) only [dif_pos, dif_neg, if_pos, if_neg, zero_add, add_zero]

/-- The block of the rows' gradient. -/
theorem out_apply (e : Fin 6144) : k0_pay155 (b14 b) (b653 b) (b661 b) (b663 b) (ix2 r e) = (chunk b).dp r e := by
  pointwise [k0_pay155]
  simp only [b653_apply, b14_apply, b661_apply, b663_apply]
  unfold Chunk.dp
  by_cases h : e.val < 2048
  · simp (disch := omega) only [dif_pos, dif_neg, if_pos, if_neg, zero_add, add_zero]
    rfl
  by_cases h' : e.val < 4096
  · simp (disch := omega) only [dif_pos, dif_neg, if_pos, if_neg, zero_add, add_zero]
  · simp (disch := omega) only [dif_pos, dif_neg, if_pos, if_neg, zero_add, add_zero]

end Cert.KernelIdeal.Block
-- ==== Proof.Chunks.lean ====
module

public import proofs.«01_k».proof.Proof.BlockOut
public import proofs.«01_k».proof.Proof.Gen.KernelIdeal.Frame.Runs

/-!
  The six input blocks of a grid point are one chunk of 128 rows of the launch arrays.
-/

@[expose] public section

set_option maxRecDepth 16384

noncomputable section

namespace Gating

open Idealize.ShloMosaic

/-- Row `r` of chunk `n`. -/
def rowOf (n : Fin 32) (r : Fin 128) : Fin 4096 := ⟨128 * n.val + r.val, by omega⟩

/-- Chunk `n` of whole arrays: rows `128 n … 128 n + 127`, and the parameters. -/
def chunkOf (p : Fin 4096 → Fin 6144 → EReal) (dm : Fin 4096 → Fin 2048 → EReal) (lg lb : Fin 2048 → EReal)
    (w : Fin 16 → Fin 128 → Fin 128 → EReal) (bs : Fin 16 → Fin 128 → EReal) (n : Fin 32) : Chunk where
  u r c := p (rowOf n r) ⟨c.val, by omega⟩
  v r c := p (rowOf n r) ⟨2048 + c.val, by omega⟩
  z r c := p (rowOf n r) ⟨4096 + c.val, by omega⟩
  dm r c := dm (rowOf n r) c
  lg := lg
  lb := lb
  w := w
  bs t g := bs g t

end Gating

namespace Cert.KernelIdeal.Value

open Cert.KernelIdeal Cert.KernelIdeal.Gen Cert.KernelIdeal.Block Idealize.ShloMosaic Idealize.ShloMosaic.TcCoe Idealize.SL.Sem
open Gating StableHlo

variable (m : (ℓ : Loc nD τ sig) → Buf (Elt Ideal) ℓ) (c : Dev nD)

/-- The chunk of the launch arrays that grid point `n` works on. -/
def chunkAt (n : Fin 32) : Chunk :=
  chunkOf (fun i e => m (c.tc.loc main_arg0) (ix2 i e)) (fun i e => m (c.tc.loc main_arg1) (ix2 i e))
    (fun e => m (c.tc.loc main_arg2) (ix1 e)) (fun e => m (c.tc.loc main_arg3) (ix1 e))
    (fun g t s => m (c.tc.loc main_arg4) (ix3 g t s)) (fun g t => m (c.tc.loc main_arg5) (ix2 g t)) n

/-- A grid point's six input blocks. -/
def blkAt (t : Fin cfg0.N) : Blk where
  x0 := iblk m c 0 t
  x1 := iblk m c 1 t
  x2 := iblk m c 2 t
  x3 := iblk m c 3 t
  x4 := iblk m c 4 t
  x5 := iblk m c 5 t

theorem V_v0 : V m c main_v0 = shapeCast _ (m (c.tc.loc main_arg2)) shapeCasts_S2048_S1x2048 := by
  show StableHlo.after hostOps0 _ _ = _
  simp only [hostOps0]
  after_results_simp
  rfl

theorem V_v1 : V m c main_v1 = shapeCast _ (m (c.tc.loc main_arg3)) shapeCasts_S2048_S1x2048 := by
  show StableHlo.after hostOps0 _ _ = _
  simp only [hostOps0]
  after_results_simp
  rfl

theorem V_v2 : V m c main_v2 = transpose S128x16 [1, 0] (m (c.tc.loc main_arg5)) transposes_S16x128_S128x16_1_0 := by
  show StableHlo.after hostOps0 _ _ = _
  simp only [hostOps0]
  after_results_simp

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel

theorem iblk0_apply (t : Fin cfg0.N) (r : Fin 128) (e : Fin 6144) :
    iblk m c 0 t (ix2 r e) = m (c.tc.loc main_arg0) (ix2 (rowOf (t.cast N_0) r) e) := by
  unfold iblk
  rw [View.read_apply]
  show V m c main_arg0 _ = m (c.tc.loc main_arg0) _
  rw [V_main_arg0]
  congr 1
  funext a
  apply Fin.ext
  match a with
  | ⟨0, _⟩ =>
    show win0_0.index t 0 * 128 + 1 * r.val = 128 * t.val + r.val
    rw [(index0 t).1]; omega
  | ⟨1, _⟩ =>
    show win0_0.index t 1 * 6144 + 1 * e.val = e.val
    rw [(index0 t).2]; omega

theorem iblk1_apply (t : Fin cfg0.N) (r : Fin 128) (e : Fin 2048) :
    iblk m c 1 t (ix2 r e) = m (c.tc.loc main_arg1) (ix2 (rowOf (t.cast N_0) r) e) := by
  unfold iblk
  rw [View.read_apply]
  show V m c main_arg1 _ = m (c.tc.loc main_arg1) _
  rw [V_main_arg1]
  congr 1
  funext a
  apply Fin.ext
  match a with
  | ⟨0, _⟩ =>
    show win0_1.index t 0 * 128 + 1 * r.val = 128 * t.val + r.val
    rw [(index1 t).1]; omega
  | ⟨1, _⟩ =>
    show win0_1.index t 1 * 2048 + 1 * e.val = e.val
    rw [(index1 t).2]; omega

theorem iblk2_apply (t : Fin cfg0.N) (e : Fin 2048) : iblk m c 2 t (ix2 0 e) = m (c.tc.loc main_arg2) (ix1 e) := by
  have h : iblk m c 2 t (ix2 0 e) = shapeCast S1x2048 (m (c.tc.loc main_arg2)) shapeCasts_S2048_S1x2048 (ix2 0 e) := by
    unfold iblk
    rw [View.read_apply]
    show V m c main_v0 _ = _
    rw [V_v0]
    congr 1
    funext a
    apply Fin.ext
    match a with
    | ⟨0, _⟩ => show 0 * 1 + 1 * 0 = 0; omega
    | ⟨1, _⟩ => show 0 * 2048 + 1 * e.val = e.val; omega
  rw [h]
  pointwise

theorem iblk3_apply (t : Fin cfg0.N) (e : Fin 2048) : iblk m c 3 t (ix2 0 e) = m (c.tc.loc main_arg3) (ix1 e) := by
  have h : iblk m c 3 t (ix2 0 e) = shapeCast S1x2048 (m (c.tc.loc main_arg3)) shapeCasts_S2048_S1x2048 (ix2 0 e) := by
    unfold iblk
    rw [View.read_apply]
    show V m c main_v1 _ = _
    rw [V_v1]
    congr 1
    funext a
    apply Fin.ext
    match a with
    | ⟨0, _⟩ => show 0 * 1 + 1 * 0 = 0; omega
    | ⟨1, _⟩ => show 0 * 2048 + 1 * e.val = e.val; omega
  rw [h]
  pointwise

theorem iblk5_apply (t : Fin cfg0.N) (s : Fin 128) (g : Fin 16) : iblk m c 5 t (ix2 s g) = m (c.tc.loc main_arg5) (ix2 g s) := by
  have h : iblk m c 5 t (ix2 s g) = transpose S128x16 [1, 0] (m (c.tc.loc main_arg5)) transposes_S16x128_S128x16_1_0 (ix2 s g) := by
    unfold iblk
    rw [View.read_apply]
    show V m c main_v2 _ = _
    rw [V_v2]
    congr 1
    funext a
    apply Fin.ext
    match a with
    | ⟨0, _⟩ => show 0 * 128 + 1 * s.val = s.val; omega
    | ⟨1, _⟩ => show 0 * 16 + 1 * g.val = g.val; omega
  rw [h]
  pointwise

theorem iblk4_apply (t : Fin cfg0.N) (g : Fin 16) (s q : Fin 128) :
    iblk m c 4 t (ix3 g s q) = m (c.tc.loc main_arg4) (ix3 g s q) := by
  unfold iblk
  rw [View.read_apply]
  show V m c main_arg4 _ = m (c.tc.loc main_arg4) _
  rw [V_main_arg4]
  congr 1
  funext a
  apply Fin.ext
  match a with
  | ⟨0, _⟩ => show 0 * 16 + 1 * g.val = g.val; omega
  | ⟨1, _⟩ => show 0 * 128 + 1 * s.val = s.val; omega
  | ⟨2, _⟩ => show 0 * 128 + 1 * q.val = q.val; omega

/-- The blocks of grid point `t` are chunk `t`. -/
theorem chunk_blkAt (t : Fin cfg0.N) : chunk (blkAt m c t) = chunkAt m c (t.cast N_0) := by
  have h0 := iblk0_apply m c t
  have h1 := iblk1_apply m c t
  have h2 := iblk2_apply m c t
  have h3 := iblk3_apply m c t
  have h4 := iblk4_apply m c t
  have h5 := iblk5_apply m c t
  unfold chunk blkAt chunkAt chunkOf
  congr 1
  · funext r e; exact h0 r _
  · funext r e; exact h0 r _
  · funext r e; exact h0 r _
  · funext r e; exact h1 r _
  · funext e; exact h2 e
  · funext e; exact h3 e
  · funext g s q; exact h4 g s q
  · funext s g; exact h5 s g

end Cert.KernelIdeal.Value

end
-- ==== Proof.PointValue.lean ====
module

public import proofs.«01_k».proof.Proof.BlockOut
public import proofs.«01_k».proof.Proof.Gen.KernelIdeal.Value
public import Idealize.ShloMosaic.Lib.Pipeline.Value
public import Idealize.ShloMosaic.Lib.Tactic

/-!
  What a grid point leaves in each output's staging buffer, as the block's named values: the first point stores its
  shares of the parameters' gradients, every later point adds its own to what the point before left.
-/

@[expose] public section

set_option maxRecDepth 16384

noncomputable section

namespace Cert.KernelIdeal.Value

open Cert.KernelIdeal Cert.KernelIdeal.Gen Cert.KernelIdeal.Block Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

theorem out_A_6 (c : Dev nD) (i : grid0.Coords) (arg1 : Memref sig .tc .vmem S128x6144 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x6144 .bf16) (harg7 : arg7.IsWhole) (arg8 : Memref sig .tc .vmem S1x2048 .f32) (harg8 : arg8.IsWhole) (arg9 : Memref sig .tc .vmem S1x2048 .f32) (harg9 : arg9.IsWhole) (arg10 : Memref sig .tc .vmem S16x128x128 .f32) (harg10 : arg10.IsWhole) (arg11 : Memref sig .tc .vmem S128x16 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (x0 : Vec Ideal S128x6144 .f32) (x1 : Vec Ideal S128x2048 .f32) (x2 : Vec Ideal S1x2048 .f32) (x3 : Vec Ideal S1x2048 .f32) (x4 : Vec Ideal S16x128x128 .f32) (x5 : Vec Ideal S128x16 .f32) :
    out0_A_6 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 x0 x1 x2 x3 x4 x5 = k0_pay155 (b14 ⟨x0, x1, x2, x3, x4, x5⟩) (b653 ⟨x0, x1, x2, x3, x4, x5⟩) (b661 ⟨x0, x1, x2, x3, x4, x5⟩) (b663 ⟨x0, x1, x2, x3, x4, x5⟩) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 hc1 hc2 hc3 hc4 hc5 hc6 hc7 x0 x1 x2 x3 x4 x5)]
  unfold kernelRun0_A
  dsimp only
  rw [View.canon_unit_zero hz2]
  sl_unfold_words
  simp only [View.readAt_eq_ld, harg1.read_unread, harg2.read_unread, harg3.read_unread, harg4.read_unread, harg5.read_unread, harg6.read_unread, View.ld_unit_zero (S := S128x6144) hz2, View.ld_unit_zero (S := S1x2048) hz2, View.ld_unit_zero (S := S128x2048) hz2, View.ld_unit_zero (S := S128x16) hz2, View.ld_unit_zero (S := S16x128x128) hz3]
  rfl

theorem out_A_7 (c : Dev nD) (i : grid0.Coords) (arg1 : Memref sig .tc .vmem S128x6144 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x6144 .bf16) (harg7 : arg7.IsWhole) (arg8 : Memref sig .tc .vmem S1x2048 .f32) (harg8 : arg8.IsWhole) (arg9 : Memref sig .tc .vmem S1x2048 .f32) (harg9 : arg9.IsWhole) (arg10 : Memref sig .tc .vmem S16x128x128 .f32) (harg10 : arg10.IsWhole) (arg11 : Memref sig .tc .vmem S128x16 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (x0 : Vec Ideal S128x6144 .f32) (x1 : Vec Ideal S128x2048 .f32) (x2 : Vec Ideal S1x2048 .f32) (x3 : Vec Ideal S1x2048 .f32) (x4 : Vec Ideal S16x128x128 .f32) (x5 : Vec Ideal S128x16 .f32) :
    out0_A_7 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 x0 x1 x2 x3 x4 x5 = b604 ⟨x0, x1, x2, x3, x4, x5⟩ := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 hc1 hc2 hc3 hc4 hc5 hc6 hc7 x0 x1 x2 x3 x4 x5)]
  unfold kernelRun0_A
  dsimp only
  rw [View.canon_unit_zero hz2]
  sl_unfold_words
  simp only [View.readAt_eq_ld, harg1.read_unread, harg2.read_unread, harg3.read_unread, harg4.read_unread, harg5.read_unread, harg6.read_unread, View.ld_unit_zero (S := S128x6144) hz2, View.ld_unit_zero (S := S1x2048) hz2, View.ld_unit_zero (S := S128x2048) hz2, View.ld_unit_zero (S := S128x16) hz2, View.ld_unit_zero (S := S16x128x128) hz3]
  rfl

theorem out_A_8 (c : Dev nD) (i : grid0.Coords) (arg1 : Memref sig .tc .vmem S128x6144 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x6144 .bf16) (harg7 : arg7.IsWhole) (arg8 : Memref sig .tc .vmem S1x2048 .f32) (harg8 : arg8.IsWhole) (arg9 : Memref sig .tc .vmem S1x2048 .f32) (harg9 : arg9.IsWhole) (arg10 : Memref sig .tc .vmem S16x128x128 .f32) (harg10 : arg10.IsWhole) (arg11 : Memref sig .tc .vmem S128x16 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (x0 : Vec Ideal S128x6144 .f32) (x1 : Vec Ideal S128x2048 .f32) (x2 : Vec Ideal S1x2048 .f32) (x3 : Vec Ideal S1x2048 .f32) (x4 : Vec Ideal S16x128x128 .f32) (x5 : Vec Ideal S128x16 .f32) :
    out0_A_8 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 x0 x1 x2 x3 x4 x5 = b601 ⟨x0, x1, x2, x3, x4, x5⟩ := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 hc1 hc2 hc3 hc4 hc5 hc6 hc7 x0 x1 x2 x3 x4 x5)]
  unfold kernelRun0_A
  dsimp only
  rw [View.canon_unit_zero hz2]
  sl_unfold_words
  simp only [View.readAt_eq_ld, harg1.read_unread, harg2.read_unread, harg3.read_unread, harg4.read_unread, harg5.read_unread, harg6.read_unread, View.ld_unit_zero (S := S128x6144) hz2, View.ld_unit_zero (S := S1x2048) hz2, View.ld_unit_zero (S := S128x2048) hz2, View.ld_unit_zero (S := S128x16) hz2, View.ld_unit_zero (S := S16x128x128) hz3]
  rfl

theorem out_A_9 (c : Dev nD) (i : grid0.Coords) (arg1 : Memref sig .tc .vmem S128x6144 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x6144 .bf16) (harg7 : arg7.IsWhole) (arg8 : Memref sig .tc .vmem S1x2048 .f32) (harg8 : arg8.IsWhole) (arg9 : Memref sig .tc .vmem S1x2048 .f32) (harg9 : arg9.IsWhole) (arg10 : Memref sig .tc .vmem S16x128x128 .f32) (harg10 : arg10.IsWhole) (arg11 : Memref sig .tc .vmem S128x16 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (x0 : Vec Ideal S128x6144 .f32) (x1 : Vec Ideal S128x2048 .f32) (x2 : Vec Ideal S1x2048 .f32) (x3 : Vec Ideal S1x2048 .f32) (x4 : Vec Ideal S16x128x128 .f32) (x5 : Vec Ideal S128x16 .f32) :
    out0_A_9 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 x0 x1 x2 x3 x4 x5 = b599 ⟨x0, x1, x2, x3, x4, x5⟩ := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 hc1 hc2 hc3 hc4 hc5 hc6 hc7 x0 x1 x2 x3 x4 x5)]
  unfold kernelRun0_A
  dsimp only
  rw [View.canon_unit_zero hz3]
  sl_unfold_words
  simp only [View.readAt_eq_ld, harg1.read_unread, harg2.read_unread, harg3.read_unread, harg4.read_unread, harg5.read_unread, harg6.read_unread, View.ld_unit_zero (S := S128x6144) hz2, View.ld_unit_zero (S := S1x2048) hz2, View.ld_unit_zero (S := S128x2048) hz2, View.ld_unit_zero (S := S128x16) hz2, View.ld_unit_zero (S := S16x128x128) hz3]
  rfl

theorem out_A_10 (c : Dev nD) (i : grid0.Coords) (arg1 : Memref sig .tc .vmem S128x6144 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x6144 .bf16) (harg7 : arg7.IsWhole) (arg8 : Memref sig .tc .vmem S1x2048 .f32) (harg8 : arg8.IsWhole) (arg9 : Memref sig .tc .vmem S1x2048 .f32) (harg9 : arg9.IsWhole) (arg10 : Memref sig .tc .vmem S16x128x128 .f32) (harg10 : arg10.IsWhole) (arg11 : Memref sig .tc .vmem S128x16 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (x0 : Vec Ideal S128x6144 .f32) (x1 : Vec Ideal S128x2048 .f32) (x2 : Vec Ideal S1x2048 .f32) (x3 : Vec Ideal S1x2048 .f32) (x4 : Vec Ideal S16x128x128 .f32) (x5 : Vec Ideal S128x16 .f32) :
    out0_A_10 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 x0 x1 x2 x3 x4 x5 = b273 ⟨x0, x1, x2, x3, x4, x5⟩ := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 hc1 hc2 hc3 hc4 hc5 hc6 hc7 x0 x1 x2 x3 x4 x5)]
  unfold kernelRun0_A
  dsimp only
  rw [View.canon_unit_zero hz2]
  sl_unfold_words
  simp only [View.readAt_eq_ld, harg1.read_unread, harg2.read_unread, harg3.read_unread, harg4.read_unread, harg5.read_unread, harg6.read_unread, View.ld_unit_zero (S := S128x6144) hz2, View.ld_unit_zero (S := S1x2048) hz2, View.ld_unit_zero (S := S128x2048) hz2, View.ld_unit_zero (S := S128x16) hz2, View.ld_unit_zero (S := S16x128x128) hz3]
  rfl

theorem out_B_6 (c : Dev nD) (i : grid0.Coords) (arg1 : Memref sig .tc .vmem S128x6144 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x6144 .bf16) (harg7 : arg7.IsWhole) (arg8 : Memref sig .tc .vmem S1x2048 .f32) (harg8 : arg8.IsWhole) (arg9 : Memref sig .tc .vmem S1x2048 .f32) (harg9 : arg9.IsWhole) (arg10 : Memref sig .tc .vmem S16x128x128 .f32) (harg10 : arg10.IsWhole) (arg11 : Memref sig .tc .vmem S128x16 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (x0 : Vec Ideal S128x6144 .f32) (x1 : Vec Ideal S128x2048 .f32) (x2 : Vec Ideal S1x2048 .f32) (x3 : Vec Ideal S1x2048 .f32) (x4 : Vec Ideal S16x128x128 .f32) (x5 : Vec Ideal S128x16 .f32) (xo7 : Vec Ideal S1x2048 .f32) (xo8 : Vec Ideal S1x2048 .f32) (xo9 : Vec Ideal S16x128x128 .f32) (xo10 : Vec Ideal S128x16 .f32) :
    out0_B_6 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 x0 x1 x2 x3 x4 x5 xo7 xo8 xo9 xo10 = k0_pay155 (b14 ⟨x0, x1, x2, x3, x4, x5⟩) (b653 ⟨x0, x1, x2, x3, x4, x5⟩) (b661 ⟨x0, x1, x2, x3, x4, x5⟩) (b663 ⟨x0, x1, x2, x3, x4, x5⟩) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 hc1 hc2 hc3 hc4 hc5 hc6 hc7 x0 x1 x2 x3 x4 x5 xo7 xo8 xo9 xo10)]
  unfold kernelRun0_B
  dsimp only
  rw [View.canon_unit_zero hz2]
  sl_unfold_words
  simp only [View.readAt_eq_ld, harg1.read_unread, harg2.read_unread, harg3.read_unread, harg4.read_unread, harg5.read_unread, harg6.read_unread, View.ld_unit_zero (S := S128x6144) hz2, View.ld_unit_zero (S := S1x2048) hz2, View.ld_unit_zero (S := S128x2048) hz2, View.ld_unit_zero (S := S128x16) hz2, View.ld_unit_zero (S := S16x128x128) hz3]
  rfl

theorem out_B_7 (c : Dev nD) (i : grid0.Coords) (arg1 : Memref sig .tc .vmem S128x6144 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x6144 .bf16) (harg7 : arg7.IsWhole) (arg8 : Memref sig .tc .vmem S1x2048 .f32) (harg8 : arg8.IsWhole) (arg9 : Memref sig .tc .vmem S1x2048 .f32) (harg9 : arg9.IsWhole) (arg10 : Memref sig .tc .vmem S16x128x128 .f32) (harg10 : arg10.IsWhole) (arg11 : Memref sig .tc .vmem S128x16 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (x0 : Vec Ideal S128x6144 .f32) (x1 : Vec Ideal S128x2048 .f32) (x2 : Vec Ideal S1x2048 .f32) (x3 : Vec Ideal S1x2048 .f32) (x4 : Vec Ideal S16x128x128 .f32) (x5 : Vec Ideal S128x16 .f32) (xo7 : Vec Ideal S1x2048 .f32) (xo8 : Vec Ideal S1x2048 .f32) (xo9 : Vec Ideal S16x128x128 .f32) (xo10 : Vec Ideal S128x16 .f32) :
    out0_B_7 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 x0 x1 x2 x3 x4 x5 xo7 xo8 xo9 xo10 = k0_pay156 (b604 ⟨x0, x1, x2, x3, x4, x5⟩) xo7 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 hc1 hc2 hc3 hc4 hc5 hc6 hc7 x0 x1 x2 x3 x4 x5 xo7 xo8 xo9 xo10)]
  unfold kernelRun0_B
  dsimp only
  rw [View.canon_unit_zero hz2]
  sl_unfold_words
  simp only [View.readAt_eq_ld, harg1.read_unread, harg2.read_unread, harg3.read_unread, harg4.read_unread, harg5.read_unread, harg6.read_unread, harg8.read_unread, View.ld_unit_zero (S := S128x6144) hz2, View.ld_unit_zero (S := S1x2048) hz2, View.ld_unit_zero (S := S128x2048) hz2, View.ld_unit_zero (S := S128x16) hz2, View.ld_unit_zero (S := S16x128x128) hz3]
  rfl

theorem out_B_8 (c : Dev nD) (i : grid0.Coords) (arg1 : Memref sig .tc .vmem S128x6144 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x6144 .bf16) (harg7 : arg7.IsWhole) (arg8 : Memref sig .tc .vmem S1x2048 .f32) (harg8 : arg8.IsWhole) (arg9 : Memref sig .tc .vmem S1x2048 .f32) (harg9 : arg9.IsWhole) (arg10 : Memref sig .tc .vmem S16x128x128 .f32) (harg10 : arg10.IsWhole) (arg11 : Memref sig .tc .vmem S128x16 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (x0 : Vec Ideal S128x6144 .f32) (x1 : Vec Ideal S128x2048 .f32) (x2 : Vec Ideal S1x2048 .f32) (x3 : Vec Ideal S1x2048 .f32) (x4 : Vec Ideal S16x128x128 .f32) (x5 : Vec Ideal S128x16 .f32) (xo7 : Vec Ideal S1x2048 .f32) (xo8 : Vec Ideal S1x2048 .f32) (xo9 : Vec Ideal S16x128x128 .f32) (xo10 : Vec Ideal S128x16 .f32) :
    out0_B_8 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 x0 x1 x2 x3 x4 x5 xo7 xo8 xo9 xo10 = k0_pay157 (b601 ⟨x0, x1, x2, x3, x4, x5⟩) xo8 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 hc1 hc2 hc3 hc4 hc5 hc6 hc7 x0 x1 x2 x3 x4 x5 xo7 xo8 xo9 xo10)]
  unfold kernelRun0_B
  dsimp only
  rw [View.canon_unit_zero hz2]
  sl_unfold_words
  simp only [View.readAt_eq_ld, harg1.read_unread, harg2.read_unread, harg3.read_unread, harg4.read_unread, harg5.read_unread, harg6.read_unread, harg9.read_unread, View.ld_unit_zero (S := S128x6144) hz2, View.ld_unit_zero (S := S1x2048) hz2, View.ld_unit_zero (S := S128x2048) hz2, View.ld_unit_zero (S := S128x16) hz2, View.ld_unit_zero (S := S16x128x128) hz3]
  rfl

theorem out_B_9 (c : Dev nD) (i : grid0.Coords) (arg1 : Memref sig .tc .vmem S128x6144 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x6144 .bf16) (harg7 : arg7.IsWhole) (arg8 : Memref sig .tc .vmem S1x2048 .f32) (harg8 : arg8.IsWhole) (arg9 : Memref sig .tc .vmem S1x2048 .f32) (harg9 : arg9.IsWhole) (arg10 : Memref sig .tc .vmem S16x128x128 .f32) (harg10 : arg10.IsWhole) (arg11 : Memref sig .tc .vmem S128x16 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (x0 : Vec Ideal S128x6144 .f32) (x1 : Vec Ideal S128x2048 .f32) (x2 : Vec Ideal S1x2048 .f32) (x3 : Vec Ideal S1x2048 .f32) (x4 : Vec Ideal S16x128x128 .f32) (x5 : Vec Ideal S128x16 .f32) (xo7 : Vec Ideal S1x2048 .f32) (xo8 : Vec Ideal S1x2048 .f32) (xo9 : Vec Ideal S16x128x128 .f32) (xo10 : Vec Ideal S128x16 .f32) :
    out0_B_9 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 x0 x1 x2 x3 x4 x5 xo7 xo8 xo9 xo10 = k0_pay1 (b599 ⟨x0, x1, x2, x3, x4, x5⟩) xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 hc1 hc2 hc3 hc4 hc5 hc6 hc7 x0 x1 x2 x3 x4 x5 xo7 xo8 xo9 xo10)]
  unfold kernelRun0_B
  dsimp only
  rw [View.canon_unit_zero hz3]
  sl_unfold_words
  simp only [View.readAt_eq_ld, harg1.read_unread, harg2.read_unread, harg3.read_unread, harg4.read_unread, harg5.read_unread, harg6.read_unread, harg10.read_unread, View.ld_unit_zero (S := S128x6144) hz2, View.ld_unit_zero (S := S1x2048) hz2, View.ld_unit_zero (S := S128x2048) hz2, View.ld_unit_zero (S := S128x16) hz2, View.ld_unit_zero (S := S16x128x128) hz3]
  rfl

theorem out_B_10 (c : Dev nD) (i : grid0.Coords) (arg1 : Memref sig .tc .vmem S128x6144 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x6144 .bf16) (harg7 : arg7.IsWhole) (arg8 : Memref sig .tc .vmem S1x2048 .f32) (harg8 : arg8.IsWhole) (arg9 : Memref sig .tc .vmem S1x2048 .f32) (harg9 : arg9.IsWhole) (arg10 : Memref sig .tc .vmem S16x128x128 .f32) (harg10 : arg10.IsWhole) (arg11 : Memref sig .tc .vmem S128x16 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (x0 : Vec Ideal S128x6144 .f32) (x1 : Vec Ideal S128x2048 .f32) (x2 : Vec Ideal S1x2048 .f32) (x3 : Vec Ideal S1x2048 .f32) (x4 : Vec Ideal S16x128x128 .f32) (x5 : Vec Ideal S128x16 .f32) (xo7 : Vec Ideal S1x2048 .f32) (xo8 : Vec Ideal S1x2048 .f32) (xo9 : Vec Ideal S16x128x128 .f32) (xo10 : Vec Ideal S128x16 .f32) :
    out0_B_10 (F := Ideal) c i arg1 harg1 arg2 harg2 arg3 harg3 arg4 harg4 arg5 harg5 arg6 harg6 arg7 harg7 arg8 harg8 arg9 harg9 arg10 harg10 arg11 harg11 hc0 hc1 hc2 hc3 hc4 hc5 hc6 hc7 x0 x1 x2 x3 x4 x5 xo7 xo8 xo9 xo10 = k0_pay2 (b273 ⟨x0, x1, x2, x3, x4, x5⟩) xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 hc1 hc2 hc3 hc4 hc5 hc6 hc7 x0 x1 x2 x3 x4 x5 xo7 xo8 xo9 xo10)]
  unfold kernelRun0_B
  dsimp only
  rw [View.canon_unit_zero hz2]
  sl_unfold_words
  simp only [View.readAt_eq_ld, harg1.read_unread, harg2.read_unread, harg3.read_unread, harg4.read_unread, harg5.read_unread, harg6.read_unread, harg11.read_unread, View.ld_unit_zero (S := S128x6144) hz2, View.ld_unit_zero (S := S1x2048) hz2, View.ld_unit_zero (S := S128x2048) hz2, View.ld_unit_zero (S := S128x16) hz2, View.ld_unit_zero (S := S16x128x128) hz3]
  rfl

end Cert.KernelIdeal.Value
-- ==== Proof.PointOuts.lean ====
module

public import proofs.«01_k».proof.Proof.Chunks
public import proofs.«01_k».proof.Proof.PointValue
public import proofs.«01_k».proof.Proof.Gen.KernelIdeal.Value

/-!
  What each grid point leaves in the five result windows, as a function of its input blocks and of what the point
  before it left.
-/

@[expose] public section

set_option maxRecDepth 16384

noncomputable section

namespace Cert.KernelIdeal.Value

open Cert.KernelIdeal Cert.KernelIdeal.Gen Cert.KernelIdeal.Block Idealize.ShloMosaic Idealize.ShloMosaic.TcCoe Idealize.SL.Sem
open Gating

variable (m : (ℓ : Loc nD τ sig) → Buf (Elt Ideal) ℓ) (c : Dev nD)

/-- Every point after the first is a later one. -/
theorem later (n : Nat) (h : n + 1 < cfg0.N) : ¬(n + 1) % 32 = 0 ∧ 1 ≤ n + 1 := by
  have h' : n + 1 < 32 := lt_of_lt_of_eq h N_0
  omega

/-! ## What each point leaves, in terms of its blocks -/

theorem first_6 (t : Fin cfg0.N) (h0 : t.val % 32 = 0) (h1 : ¬1 ≤ t.val) :
    (outsAt0 m c t.val t.isLt).1 = k0_pay155 (b14 (blkAt m c t)) (b653 (blkAt m c t)) (b661 (blkAt m c t)) (b663 (blkAt m c t)) := by
  rw [outsAt0_A m c t h0 h1 h0 h1 h0 h1 h0 h1]
  dsimp only
  rw [out_A_6]
  rfl

theorem later_6 (t : Fin cfg0.N) (h0 : ¬t.val % 32 = 0) (h1 : 1 ≤ t.val) :
    (outsAt0 m c t.val t.isLt).1 = k0_pay155 (b14 (blkAt m c t)) (b653 (blkAt m c t)) (b661 (blkAt m c t)) (b663 (blkAt m c t)) := by
  rw [outsAt0_B m c t h0 h1 h0 h1 h0 h1 h0 h1]
  dsimp only
  rw [out_B_6]
  rfl

theorem first_7 (t : Fin cfg0.N) (h0 : t.val % 32 = 0) (h1 : ¬1 ≤ t.val) :
    (outsAt0 m c t.val t.isLt).2.1 = b604 (blkAt m c t) := by
  rw [outsAt0_A m c t h0 h1 h0 h1 h0 h1 h0 h1]
  dsimp only
  rw [out_A_7]
  rfl

theorem later_7 (t : Fin cfg0.N) (h0 : ¬t.val % 32 = 0) (h1 : 1 ≤ t.val) :
    (outsAt0 m c t.val t.isLt).2.1 = k0_pay156 (b604 (blkAt m c t)) (outsAt0 m c (t.val - 1) (by omega)).2.1 := by
  rw [outsAt0_B m c t h0 h1 h0 h1 h0 h1 h0 h1]
  dsimp only
  rw [out_B_7]
  rfl

theorem first_8 (t : Fin cfg0.N) (h0 : t.val % 32 = 0) (h1 : ¬1 ≤ t.val) :
    (outsAt0 m c t.val t.isLt).2.2.1 = b601 (blkAt m c t) := by
  rw [outsAt0_A m c t h0 h1 h0 h1 h0 h1 h0 h1]
  dsimp only
  rw [out_A_8]
  rfl

theorem later_8 (t : Fin cfg0.N) (h0 : ¬t.val % 32 = 0) (h1 : 1 ≤ t.val) :
    (outsAt0 m c t.val t.isLt).2.2.1 = k0_pay157 (b601 (blkAt m c t)) (outsAt0 m c (t.val - 1) (by omega)).2.2.1 := by
  rw [outsAt0_B m c t h0 h1 h0 h1 h0 h1 h0 h1]
  dsimp only
  rw [out_B_8]
  rfl

theorem first_9 (t : Fin cfg0.N) (h0 : t.val % 32 = 0) (h1 : ¬1 ≤ t.val) :
    (outsAt0 m c t.val t.isLt).2.2.2.1 = b599 (blkAt m c t) := by
  rw [outsAt0_A m c t h0 h1 h0 h1 h0 h1 h0 h1]
  dsimp only
  rw [out_A_9]
  rfl

theorem later_9 (t : Fin cfg0.N) (h0 : ¬t.val % 32 = 0) (h1 : 1 ≤ t.val) :
    (outsAt0 m c t.val t.isLt).2.2.2.1 = k0_pay1 (b599 (blkAt m c t)) (outsAt0 m c (t.val - 1) (by omega)).2.2.2.1 := by
  rw [outsAt0_B m c t h0 h1 h0 h1 h0 h1 h0 h1]
  dsimp only
  rw [out_B_9]
  rfl

theorem first_10 (t : Fin cfg0.N) (h0 : t.val % 32 = 0) (h1 : ¬1 ≤ t.val) :
    (outsAt0 m c t.val t.isLt).2.2.2.2 = b273 (blkAt m c t) := by
  rw [outsAt0_A m c t h0 h1 h0 h1 h0 h1 h0 h1]
  dsimp only
  rw [out_A_10]
  rfl

theorem later_10 (t : Fin cfg0.N) (h0 : ¬t.val % 32 = 0) (h1 : 1 ≤ t.val) :
    (outsAt0 m c t.val t.isLt).2.2.2.2 = k0_pay2 (b273 (blkAt m c t)) (outsAt0 m c (t.val - 1) (by omega)).2.2.2.2 := by
  rw [outsAt0_B m c t h0 h1 h0 h1 h0 h1 h0 h1]
  dsimp only
  rw [out_B_10]
  rfl

end Cert.KernelIdeal.Value

end
-- ==== Proof.KernelValue.lean ====
module

public import proofs.«01_k».proof.Proof.PointOuts

/-!
  What the kernel's five result arrays hold when it ends: each row's gradient, and the four parameters' gradients as
  sums over the 32 chunks.
-/

@[expose] public section

set_option maxRecDepth 16384

noncomputable section

namespace Cert.KernelIdeal.Value

open Cert.KernelIdeal Cert.KernelIdeal.Gen Cert.KernelIdeal.Block Idealize.ShloMosaic Idealize.ShloMosaic.TcCoe Idealize.SL.Sem
open Gating

variable (m : (ℓ : Loc nD τ sig) → Buf (Elt Ideal) ℓ) (c : Dev nD)

/-! ## The windows after each point -/

/-- What a point leaves in the rows' gradient window. -/
theorem outs_dp (t : Fin cfg0.N) (r : Fin 128) (e : Fin 6144) :
    (outsAt0 m c t.val t.isLt).1 (ix2 r e) = (chunkAt m c (t.cast N_0)).dp r e := by
  have ht : t.val < 32 := lt_of_lt_of_eq t.isLt N_0
  rw [← chunk_blkAt]
  by_cases h : t.val = 0
  · rw [first_6 m c t (by omega) (by omega), out_apply]
  · rw [later_6 m c t (by omega) (by omega), out_apply]

/-- The window of `dlg` after point `n`: the sum over the chunks so far. -/
theorem outs_dlg (e : Fin 2048) : ∀ (n : Nat) (h : n < cfg0.N) (h' : n < 32),
    (outsAt0 m c n h).2.1 (ix2 0 e) = ∑ k : Fin (n + 1), (chunkAt m c ⟨k.val, by omega⟩).dlg e
  | 0, h, _ => by
    rw [first_7 m c ⟨0, h⟩ rfl (by simp), b604_apply, chunk_blkAt, Fin.sum_univ_one]
    rfl
  | n + 1, h, h' => by
    have hb : b604 (blkAt m c ⟨n + 1, h⟩) (ix2 0 e) = (chunkAt m c ⟨n + 1, h'⟩).dlg e := by
      rw [b604_apply, chunk_blkAt]; rfl
    have ih := outs_dlg e n (by omega) (by omega)
    rw [later_7 m c ⟨n + 1, h⟩ (show ¬(n + 1) % 32 = 0 by omega) (show 1 ≤ n + 1 by omega), Fin.sum_univ_castSucc]
    refine Eq.trans ?_ (congrArg₂ (· + ·) ih hb)
    pointwise [k0_pay156]
    rfl

/-- The window of `dlb` after point `n`: the sum over the chunks so far. -/
theorem outs_dlb (e : Fin 2048) : ∀ (n : Nat) (h : n < cfg0.N) (h' : n < 32),
    (outsAt0 m c n h).2.2.1 (ix2 0 e) = ∑ k : Fin (n + 1), (chunkAt m c ⟨k.val, by omega⟩).dlb e
  | 0, h, _ => by
    rw [first_8 m c ⟨0, h⟩ rfl (by simp), b601_apply, chunk_blkAt, Fin.sum_univ_one]
    rfl
  | n + 1, h, h' => by
    have hb : b601 (blkAt m c ⟨n + 1, h⟩) (ix2 0 e) = (chunkAt m c ⟨n + 1, h'⟩).dlb e := by
      rw [b601_apply, chunk_blkAt]; rfl
    have ih := outs_dlb e n (by omega) (by omega)
    rw [later_8 m c ⟨n + 1, h⟩ (show ¬(n + 1) % 32 = 0 by omega) (show 1 ≤ n + 1 by omega), Fin.sum_univ_castSucc]
    refine Eq.trans ?_ (congrArg₂ (· + ·) ih hb)
    pointwise [k0_pay157]
    rfl

/-- The window of `dws` after point `n`: the sum over the chunks so far. -/
theorem outs_dws (g : Fin 16) (r s : Fin 128) : ∀ (n : Nat) (h : n < cfg0.N) (h' : n < 32),
    (outsAt0 m c n h).2.2.2.1 (ix3 g r s) = ∑ k : Fin (n + 1), (chunkAt m c ⟨k.val, by omega⟩).dws g r s
  | 0, h, _ => by
    rw [first_9 m c ⟨0, h⟩ rfl (by simp), b599_apply, chunk_blkAt, Fin.sum_univ_one]
    rfl
  | n + 1, h, h' => by
    have hb : b599 (blkAt m c ⟨n + 1, h⟩) (ix3 g r s) = (chunkAt m c ⟨n + 1, h'⟩).dws g r s := by
      rw [b599_apply, chunk_blkAt]; rfl
    have ih := outs_dws g r s n (by omega) (by omega)
    rw [later_9 m c ⟨n + 1, h⟩ (show ¬(n + 1) % 32 = 0 by omega) (show 1 ≤ n + 1 by omega), Fin.sum_univ_castSucc]
    refine Eq.trans ?_ (congrArg₂ (· + ·) ih hb)
    pointwise [k0_pay1]
    rfl

/-- The window of `dbs` after point `n`: the sum over the chunks so far. -/
theorem outs_dbs (r : Fin 128) (g : Fin 16) : ∀ (n : Nat) (h : n < cfg0.N) (h' : n < 32),
    (outsAt0 m c n h).2.2.2.2 (ix2 r g) = ∑ k : Fin (n + 1), (chunkAt m c ⟨k.val, by omega⟩).dbs r g
  | 0, h, _ => by
    rw [first_10 m c ⟨0, h⟩ rfl (by simp), b273_apply, chunk_blkAt, Fin.sum_univ_one]
    rfl
  | n + 1, h, h' => by
    have hb : b273 (blkAt m c ⟨n + 1, h⟩) (ix2 r g) = (chunkAt m c ⟨n + 1, h'⟩).dbs r g := by
      rw [b273_apply, chunk_blkAt]; rfl
    have ih := outs_dbs r g n (by omega) (by omega)
    rw [later_10 m c ⟨n + 1, h⟩ (show ¬(n + 1) % 32 = 0 by omega) (show 1 ≤ n + 1 by omega), Fin.sum_univ_castSucc]
    refine Eq.trans ?_ (congrArg₂ (· + ·) ih hb)
    pointwise [k0_pay2]
    rfl

/-! ## The result arrays -/

/-- Two one-row arrays that agree at every column are equal. -/
theorem row_ext {f g : FVec Ideal S1x2048 .f32} (h : ∀ e : Fin 2048, f (ix2 0 e) = g (ix2 0 e)) : f = g :=
  funext fun i => by
    obtain ⟨a, e, rfl⟩ : ∃ (a : Fin 1) (e : Fin 2048), i = ix2 a e := ⟨i 0, i 1, eq_ix2 i⟩
    obtain rfl : a = 0 := Subsingleton.elim _ _
    exact h e

/-- Two stacks of square arrays that agree at every index are equal. -/
theorem cube_ext {f g : FVec Ideal S16x128x128 .f32} (h : ∀ (a : Fin 16) (r s : Fin 128), f (ix3 a r s) = g (ix3 a r s)) :
    f = g :=
  funext fun i => by
    obtain ⟨a, r, s, rfl⟩ : ∃ (a : Fin 16) (r s : Fin 128), i = ix3 a r s := ⟨i 0, i 1, i 2, eq_ix3 i⟩
    exact h a r s

/-- Two arrays of sixteen columns that agree at every index are equal. -/
theorem col_ext {f g : FVec Ideal S128x16 .f32} (h : ∀ (r : Fin 128) (a : Fin 16), f (ix2 r a) = g (ix2 r a)) : f = g :=
  funext fun i => by
    obtain ⟨r, a, rfl⟩ : ∃ (r : Fin 128) (a : Fin 16), i = ix2 r a := ⟨i 0, i 1, eq_ix2 i⟩
    exact h r a

/-- The rows' gradient. -/
def dpArr : FVec Ideal S4096x6144 .bf16 :=
  fun i => (chunkAt m c ⟨(i 0).val / 128, by have h : (i 0).val < 4096 := (i 0).isLt; omega⟩).dp
    ⟨(i 0).val % 128, by omega⟩ (i 1)
/-- The scale's gradient. -/
def dlgArr : FVec Ideal S1x2048 .f32 := fun i => (∑ n : Fin 32, (chunkAt m c n).dlg (i 1) : EReal)
/-- The shift's gradient. -/
def dlbArr : FVec Ideal S1x2048 .f32 := fun i => (∑ n : Fin 32, (chunkAt m c n).dlb (i 1) : EReal)
/-- The mixing weights' gradient. -/
def dwsArr : FVec Ideal S16x128x128 .f32 := fun i => (∑ n : Fin 32, (chunkAt m c n).dws (i 0) (i 1) (i 2) : EReal)
/-- The mixing shift's gradient. -/
def dbsArr : FVec Ideal S128x16 .f32 := fun i => (∑ n : Fin 32, (chunkAt m c n).dbs (i 0) (i 1) : EReal)

theorem index6 : ∀ t : Fin cfg0.N, win0_6.index t 0 = t.val ∧ win0_6.index t 1 = 0 := by decide +kernel

theorem final_dp : (dats m 0 c).arrAt 6 cfg0.N = dpArr m c := by
  refine (dats m 0 c).arrAt_eq_of_cover 6 (dpArr m c) (fun t _ => ?_) fun i => ?_
  · show (cfg0.win 6).cut (grid0.coords t) ((dats m 0 c).after 6 t) = _
    rw [after0_6]
    funext j
    rw [View.read_apply]
    have hj : (cfg0.win 6).cut (grid0.coords t) (outsAt0 m c t.val t.isLt).1 j
        = (outsAt0 m c t.val t.isLt).1 (ix2 (j 0) (j 1)) := by
      have hx : (cfg0.win 6).xinj (grid0.coords t) j = ix2 (j 0) (j 1) := funext fun a =>
        match a with
        | ⟨0, _⟩ => rfl
        | ⟨1, _⟩ => rfl
      exact congrArg (outsAt0 m c t.val t.isLt).1 hx
    refine hj.trans ((outs_dp m c t (j 0) (j 1)).trans ?_)
    show _ = dpArr m c (((cfg0.win 6).blk t).view.emb j)
    have hr : (j 0).val < 128 := (j 0).isLt
    have e0 : ((((cfg0.win 6).blk t).view.emb j) 0).val = 128 * t.val + (j 0).val := by
      show win0_6.index t 0 * 128 + 1 * (j 0).val = _
      rw [(index6 t).1]; omega
    have e1 : ((((cfg0.win 6).blk t).view.emb j) 1).val = (j 1).val := by
      show win0_6.index t 1 * 6144 + 1 * (j 1).val = _
      rw [(index6 t).2]; omega
    unfold dpArr
    congr 1
    · congr 1
      apply Fin.ext
      show t.val = _ / 128
      rw [e0]; omega
    · apply Fin.ext
      show (j 0).val = _ % 128
      rw [e0]; omega
    · exact Fin.ext e1.symm
  · have h0 : (i 0).val < 4096 := (i 0).isLt
    have h1 : (i 1).val < 6144 := (i 1).isLt
    obtain ⟨t, ht⟩ : ∃ t : Fin cfg0.N, t.val = (i 0).val / 128 :=
      ⟨⟨(i 0).val / 128, lt_of_lt_of_eq (by omega) N_0.symm⟩, rfl⟩
    refine ⟨t, flush0_6 t, ?_⟩
    show i ∈ ((View.whole main_v3_0).slice (win0_6.rect t)).set
    rw [View.set_slice_whole, Rect.mem_set_unit]
    intro a
    match a with
    | ⟨0, _⟩ =>
      show win0_6.index t 0 * 128 ≤ (i 0 : Nat) ∧ (i 0 : Nat) < win0_6.index t 0 * 128 + 128
      rw [(index6 t).1, ht]
      omega
    | ⟨1, _⟩ =>
      show win0_6.index t 1 * 6144 ≤ (i 1 : Nat) ∧ (i 1 : Nat) < win0_6.index t 1 * 6144 + 6144
      rw [(index6 t).2]
      omega

/-- The last grid point. -/
abbrev tlast : Fin cfg0.N := ⟨31, lt_of_lt_of_eq (by omega) N_0.symm⟩

theorem final_dlg : (dats m 0 c).arrAt 7 cfg0.N = dlgArr m c := by
  refine (dats m 0 c).arrAt_eq_of_cover 7 (dlgArr m c) (fun t hf => ?_) fun i => ⟨tlast, (flush0_7 _).mpr rfl, ?_⟩
  · have ht : t = tlast := Fin.ext (by
      have h1 := (flush0_7 t).mp hf
      have h2 : t.val < 32 := lt_of_lt_of_eq t.isLt N_0
      show t.val = 31
      omega)
    subst ht
    have hv : (outsAt0 m c 31 tlast.isLt).2.1 = dlgArr m c := by
      refine row_ext fun e => ?_
      rw [outs_dlg m c e 31 tlast.isLt (by omega)]
      rfl
    show (cfg0.win 7).cut (grid0.coords tlast) ((dats m 0 c).after 7 tlast) = _
    rw [after0_7]
    show (cfg0.win 7).cut (grid0.coords tlast) (outsAt0 m c 31 tlast.isLt).2.1 = _
    rw [hv]
    have hz' : (fun a => win0_7.index tlast a * main_v3_1.ty.shape.size a) = fun _ => 0 :=
      funext fun a => by fin_cases a <;> decide
    exact (Memref.read_access_unit_zero (Elt Ideal) main_v3_1 hz' (fun a => by rw [congrFun hz' a]; simp) (dlgArr m c)).symm
  · show i ∈ ((View.whole main_v3_1).slice (win0_7.rect tlast)).set
    rw [View.set_slice_whole, Rect.mem_set_unit]
    intro a
    match a with
    | ⟨0, _⟩ =>
      have h : (i 0).val < 1 := (i 0).isLt
      show 0 * 1 ≤ (i 0 : Nat) ∧ (i 0 : Nat) < 0 * 1 + 1
      omega
    | ⟨1, _⟩ =>
      have h : (i 1).val < 2048 := (i 1).isLt
      show 0 * 2048 ≤ (i 1 : Nat) ∧ (i 1 : Nat) < 0 * 2048 + 2048
      omega

theorem final_dlb : (dats m 0 c).arrAt 8 cfg0.N = dlbArr m c := by
  refine (dats m 0 c).arrAt_eq_of_cover 8 (dlbArr m c) (fun t hf => ?_) fun i => ⟨tlast, (flush0_8 _).mpr rfl, ?_⟩
  · have ht : t = tlast := Fin.ext (by
      have h1 := (flush0_8 t).mp hf
      have h2 : t.val < 32 := lt_of_lt_of_eq t.isLt N_0
      show t.val = 31
      omega)
    subst ht
    have hv : (outsAt0 m c 31 tlast.isLt).2.2.1 = dlbArr m c := by
      refine row_ext fun e => ?_
      rw [outs_dlb m c e 31 tlast.isLt (by omega)]
      rfl
    show (cfg0.win 8).cut (grid0.coords tlast) ((dats m 0 c).after 8 tlast) = _
    rw [after0_8]
    show (cfg0.win 8).cut (grid0.coords tlast) (outsAt0 m c 31 tlast.isLt).2.2.1 = _
    rw [hv]
    have hz' : (fun a => win0_8.index tlast a * main_v3_2.ty.shape.size a) = fun _ => 0 :=
      funext fun a => by fin_cases a <;> decide
    exact (Memref.read_access_unit_zero (Elt Ideal) main_v3_2 hz' (fun a => by rw [congrFun hz' a]; simp) (dlbArr m c)).symm
  · show i ∈ ((View.whole main_v3_2).slice (win0_8.rect tlast)).set
    rw [View.set_slice_whole, Rect.mem_set_unit]
    intro a
    match a with
    | ⟨0, _⟩ =>
      have h : (i 0).val < 1 := (i 0).isLt
      show 0 * 1 ≤ (i 0 : Nat) ∧ (i 0 : Nat) < 0 * 1 + 1
      omega
    | ⟨1, _⟩ =>
      have h : (i 1).val < 2048 := (i 1).isLt
      show 0 * 2048 ≤ (i 1 : Nat) ∧ (i 1 : Nat) < 0 * 2048 + 2048
      omega

theorem final_dws : (dats m 0 c).arrAt 9 cfg0.N = dwsArr m c := by
  refine (dats m 0 c).arrAt_eq_of_cover 9 (dwsArr m c) (fun t hf => ?_) fun i => ⟨tlast, (flush0_9 _).mpr rfl, ?_⟩
  · have ht : t = tlast := Fin.ext (by
      have h1 := (flush0_9 t).mp hf
      have h2 : t.val < 32 := lt_of_lt_of_eq t.isLt N_0
      show t.val = 31
      omega)
    subst ht
    have hv : (outsAt0 m c 31 tlast.isLt).2.2.2.1 = dwsArr m c := by
      refine cube_ext fun g r s => ?_
      rw [outs_dws m c g r s 31 tlast.isLt (by omega)]
      rfl
    show (cfg0.win 9).cut (grid0.coords tlast) ((dats m 0 c).after 9 tlast) = _
    rw [after0_9]
    show (cfg0.win 9).cut (grid0.coords tlast) (outsAt0 m c 31 tlast.isLt).2.2.2.1 = _
    rw [hv]
    have hz' : (fun a => win0_9.index tlast a * main_v3_3.ty.shape.size a) = fun _ => 0 :=
      funext fun a => by fin_cases a <;> decide
    exact (Memref.read_access_unit_zero (Elt Ideal) main_v3_3 hz' (fun a => by rw [congrFun hz' a]; simp) (dwsArr m c)).symm
  · show i ∈ ((View.whole main_v3_3).slice (win0_9.rect tlast)).set
    rw [View.set_slice_whole, Rect.mem_set_unit]
    intro a
    match a with
    | ⟨0, _⟩ =>
      have h : (i 0).val < 16 := (i 0).isLt
      show 0 * 16 ≤ (i 0 : Nat) ∧ (i 0 : Nat) < 0 * 16 + 16
      omega
    | ⟨1, _⟩ =>
      have h : (i 1).val < 128 := (i 1).isLt
      show 0 * 128 ≤ (i 1 : Nat) ∧ (i 1 : Nat) < 0 * 128 + 128
      omega
    | ⟨2, _⟩ =>
      have h : (i 2).val < 128 := (i 2).isLt
      show 0 * 128 ≤ (i 2 : Nat) ∧ (i 2 : Nat) < 0 * 128 + 128
      omega

theorem final_dbs : (dats m 0 c).arrAt 10 cfg0.N = dbsArr m c := by
  refine (dats m 0 c).arrAt_eq_of_cover 10 (dbsArr m c) (fun t hf => ?_) fun i => ⟨tlast, (flush0_10 _).mpr rfl, ?_⟩
  · have ht : t = tlast := Fin.ext (by
      have h1 := (flush0_10 t).mp hf
      have h2 : t.val < 32 := lt_of_lt_of_eq t.isLt N_0
      show t.val = 31
      omega)
    subst ht
    have hv : (outsAt0 m c 31 tlast.isLt).2.2.2.2 = dbsArr m c := by
      refine col_ext fun r g => ?_
      rw [outs_dbs m c r g 31 tlast.isLt (by omega)]
      rfl
    show (cfg0.win 10).cut (grid0.coords tlast) ((dats m 0 c).after 10 tlast) = _
    rw [after0_10]
    show (cfg0.win 10).cut (grid0.coords tlast) (outsAt0 m c 31 tlast.isLt).2.2.2.2 = _
    rw [hv]
    have hz' : (fun a => win0_10.index tlast a * main_v3_4.ty.shape.size a) = fun _ => 0 :=
      funext fun a => by fin_cases a <;> decide
    exact (Memref.read_access_unit_zero (Elt Ideal) main_v3_4 hz' (fun a => by rw [congrFun hz' a]; simp) (dbsArr m c)).symm
  · show i ∈ ((View.whole main_v3_4).slice (win0_10.rect tlast)).set
    rw [View.set_slice_whole, Rect.mem_set_unit]
    intro a
    match a with
    | ⟨0, _⟩ =>
      have h : (i 0).val < 128 := (i 0).isLt
      show 0 * 128 ≤ (i 0 : Nat) ∧ (i 0 : Nat) < 0 * 128 + 128
      omega
    | ⟨1, _⟩ =>
      have h : (i 1).val < 16 := (i 1).isLt
      show 0 * 16 ≤ (i 1 : Nat) ∧ (i 1 : Nat) < 0 * 16 + 16
      omega

/-- The kernel's run: its five result arrays, and the arguments unchanged. -/
theorem kernel_run (ρ : Dev nD → PrngReg) :
    θ_run defs (onTc (τ := τ) (main (F := Ideal))) ⟨m, fun _ => 0, ρ⟩ fun r => ∀ c : Dev nD,
      r.2.mem (c.tc.loc main_v3_0) = dpArr m c ∧ r.2.mem (c.tc.loc main_v3_1) = dlgArr m c
      ∧ r.2.mem (c.tc.loc main_v3_2) = dlbArr m c ∧ r.2.mem (c.tc.loc main_v3_3) = dwsArr m c
      ∧ r.2.mem (c.tc.loc main_v3_4) = dbsArr m c
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5) :=
  (θ_run defs _ _).mono (fun r h c => by
    have h' := h c
    rw [final_dp, final_dlg, final_dlb, final_dws, final_dbs] at h'
    exact h') (run_blocks m ρ)

end Cert.KernelIdeal.Value

end
-- ==== Proof.RefGate.lean ====
module

public import proofs.«01_k».proof.Proof.Chunks
public import proofs.«01_k».proof.Proof.Gen.ReferenceIdeal.Run
public import Idealize.ShloMosaic.Lib.Tactic.CleanTypes

/-!
  The reference's values read at an index: the gelus, the layer norm and the gate.
-/

@[expose] public section

set_option maxRecDepth 16384

noncomputable section

namespace Cert.ReferenceIdeal.Value

open Cert.ReferenceIdeal Cert.ReferenceIdeal.Gen Idealize.ShloMosaic Idealize.ShloMosaic.TcCoe Gating

variable (V : Valuation τ sig (Elt Ideal)) (n : Fin 32) (r : Fin 128) (c : Fin 2048)

/-- Chunk `n` of the reference's arguments. -/
def chk : Chunk :=
  chunkOf (fun i e => V (Proc.devRef .tc main_arg0) (ix2 i e)) (fun i e => V (Proc.devRef .tc main_arg1) (ix2 i e))
    (fun e => V (Proc.devRef .tc main_arg2) (ix1 e)) (fun e => V (Proc.devRef .tc main_arg3) (ix1 e))
    (fun g t s => V (Proc.devRef .tc main_arg4) (ix3 g t s)) (fun g t => V (Proc.devRef .tc main_arg5) (ix2 g t)) n

theorem v1_apply (x : Fin 1) : res_main_v1 V (ix3 x (rowOf n r) c) = (chk V n).u r c := by
  obtain rfl : x = 0 := Subsingleton.elim _ _
  unfold res_main_v1 res_main_v0
  clean_types
  pointwise
  rfl

theorem v2_apply (x : Fin 1) : res_main_v2 V (ix3 x (rowOf n r) c) = (chk V n).v r c := by
  obtain rfl : x = 0 := Subsingleton.elim _ _
  unfold res_main_v2 res_main_v0
  clean_types
  pointwise
  rfl

theorem v3_apply (x : Fin 1) : res_main_v3 V (ix3 x (rowOf n r) c) = (chk V n).z r c := by
  obtain rfl : x = 0 := Subsingleton.elim _ _
  unfold res_main_v3 res_main_v0
  clean_types
  pointwise
  rfl

theorem v92_apply (x : Fin 1) : res_main_v92 V (ix3 x (rowOf n r) c) = (chk V n).dm r c := by
  obtain rfl : x = 0 := Subsingleton.elim _ _
  unfold res_main_v92
  clean_types
  pointwise
  rfl

/-- The cube, however it is bracketed. -/
theorem cube (x : EReal) : x * x * x = x * (x * x) := mul_assoc x x x

/-- The zero of the program. -/
theorem zero_word : Ideal.ofBits .f32 0x00000000#32 = 0 := by simp [Ideal.ofBits, Ideal.ieee]

/-- The one of the program. -/
theorem one_word : Ideal.ofBits .f32 0x3F800000#32 = 1 := by simp [Ideal.ofBits, Ideal.ieee, -EReal.coe_mul]; norm_num

theorem v14_apply (x : Fin 1) : res_main_v14 V (ix3 x (rowOf n r) c) = th ((chk V n).u r c) := by
  obtain rfl : x = 0 := Subsingleton.elim _ _
  unfold res_main_v14
  clean_types
  pointwise
  simp only [v1_apply, cube]; rfl

theorem v35_apply (x : Fin 1) : res_main_v35 V (ix3 x (rowOf n r) c) = th ((chk V n).v r c) := by
  obtain rfl : x = 0 := Subsingleton.elim _ _
  unfold res_main_v35
  clean_types
  pointwise
  simp only [v2_apply, cube]; rfl

theorem v23_apply (x : Fin 1) : res_main_v23 V (ix3 x (rowOf n r) c) = cdf ((chk V n).u r c) := by
  obtain rfl : x = 0 := Subsingleton.elim _ _
  unfold res_main_v23
  clean_types
  pointwise
  simp only [v14_apply, one_word]; rfl

theorem v44_apply (x : Fin 1) : res_main_v44 V (ix3 x (rowOf n r) c) = cdf ((chk V n).v r c) := by
  obtain rfl : x = 0 := Subsingleton.elim _ _
  unfold res_main_v44
  clean_types
  pointwise
  simp only [v35_apply, one_word]; rfl

theorem v24_apply (x : Fin 1) : res_main_v24 V (ix3 x (rowOf n r) c) = gelu ((chk V n).u r c) := by
  obtain rfl : x = 0 := Subsingleton.elim _ _
  unfold res_main_v24
  clean_types
  pointwise
  simp only [v1_apply, v23_apply]; rfl

theorem v45_apply (x : Fin 1) : res_main_v45 V (ix3 x (rowOf n r) c) = gelu ((chk V n).v r c) := by
  obtain rfl : x = 0 := Subsingleton.elim _ _
  unfold res_main_v45
  clean_types
  pointwise
  simp only [v2_apply, v44_apply]; rfl

theorem v49_apply (x y : Fin 1) : res_main_v49 V (ix3 x (rowOf n r) y) = mean ((chk V n).v r) := by
  obtain rfl : x = 0 := Subsingleton.elim _ _
  unfold res_main_v49
  clean_types
  pointwise
  simp only [v45_apply, zero_add, zero_word]; rfl

theorem v51_apply (x : Fin 1) : res_main_v51 V (ix3 x (rowOf n r) c) = cen ((chk V n).v r) c := by
  obtain rfl : x = 0 := Subsingleton.elim _ _
  unfold res_main_v51
  clean_types
  pointwise
  simp only [v45_apply, v49_apply]; rfl

theorem v60_apply (x : Fin 1) : res_main_v60 V (ix3 x (rowOf n r) c) = cen ((chk V n).v r) c := by
  obtain rfl : x = 0 := Subsingleton.elim _ _
  unfold res_main_v60
  clean_types
  pointwise
  simp only [v45_apply, v49_apply]; rfl

theorem v62_apply (x y : Fin 1) : res_main_v62 V (ix3 x (rowOf n r) y) = ve ((chk V n).v r) := by
  obtain rfl : x = 0 := Subsingleton.elim _ _
  unfold res_main_v62
  clean_types
  pointwise
  simp only [v51_apply, zero_add, zero_word]; rfl

theorem v63_apply (x y : Fin 1) : res_main_v63 V (ix3 x (rowOf n r) y) = rs ((chk V n).v r) := by
  obtain rfl : x = 0 := Subsingleton.elim _ _
  unfold res_main_v63
  clean_types
  pointwise
  simp only [v62_apply]; rfl

theorem v68_apply (x : Fin 1) : res_main_v68 V (ix3 x (rowOf n r) c) = nrm ((chk V n).v r) c := by
  obtain rfl : x = 0 := Subsingleton.elim _ _
  unfold res_main_v68
  clean_types
  pointwise
  simp only [v60_apply, v63_apply]; rfl

theorem v90_2_apply (x : Fin 1) : res_main_v90_2 V (ix3 x (rowOf n r) c) = Ideal.logistic ((chk V n).z r c) := by
  obtain rfl : x = 0 := Subsingleton.elim _ _
  unfold res_main_v90_2
  clean_types
  pointwise
  simp only [v3_apply, one_word]; rfl

theorem v90_0_apply (x : Fin 1) : res_main_v90_0 V (ix3 x (rowOf n r) c) = (chk V n).z r c * Ideal.logistic ((chk V n).z r c) := by
  obtain rfl : x = 0 := Subsingleton.elim _ _
  unfold res_main_v90_0
  clean_types
  pointwise
  simp only [v3_apply, v90_2_apply]

theorem v94_apply (x : Fin 1) : res_main_v94 V (ix3 x (rowOf n r) c) = (chk V n).act r c := by
  obtain rfl : x = 0 := Subsingleton.elim _ _
  unfold res_main_v94
  clean_types
  pointwise
  simp only [v92_apply, v90_0_apply]; rfl

end Cert.ReferenceIdeal.Value

end
-- ==== Proof.RefMix.lean ====
module

public import proofs.«01_k».proof.Proof.RefGate

/-!
  The reference's values read at an index: the mixing, its gradients, and the sums over the chunks.
-/

@[expose] public section

set_option maxRecDepth 16384

noncomputable section

namespace Cert.ReferenceIdeal.Value

open Cert.ReferenceIdeal Cert.ReferenceIdeal.Gen Idealize.ShloMosaic Idealize.ShloMosaic.TcCoe Gating

variable (V : Valuation τ sig (Elt Ideal)) (n : Fin 32) (r : Fin 128) (c : Fin 2048)

/-- Rows and columns split into chunks, rows of a chunk, groups and lanes. -/
theorem split_apply (A : FVec Ideal S1x4096x2048 .f32) (x : Fin 1) (g : Fin 16) (j : Fin 128) :
    shapeCast S1x32x128x16x128 A shapeCasts_S1x4096x2048_S1x32x128x16x128 (ix5 x n r g j) = A (ix3 x (rowOf n r) (col g j)) := by
  obtain rfl : x = 0 := Subsingleton.elim _ _
  pointwise
  exact congrArg₂ (fun a b => A (ix3 0 a b)) (Fin.ext (by simp only [rowOf]; omega)) (Fin.ext (by simp only [col]; omega))

/-- And joined again. -/
theorem join_apply (A : FVec Ideal S1x32x128x16x128 .f32) (x : Fin 1) :
    shapeCast S1x4096x2048 A shapeCasts_S1x32x128x16x128_S1x4096x2048 (ix3 x (rowOf n r) c) = A (ix5 x n r (grp c) (lane c)) := by
  obtain rfl : x = 0 := Subsingleton.elim _ _
  pointwise
  exact congrArg₂ (fun a b => A (ix5 0 a b (grp c) (lane c))) (Fin.ext (by simp only [rowOf]; omega))
    (Fin.ext (by simp only [rowOf]; omega))

/-- The mixing along a chunk's rows. -/
theorem mix_apply (A : FVec Ideal S1x32x128x16x128 .f32) (B : FVec Ideal S16x128x128 .f32) (x : Fin 1) (g : Fin 16) (j t : Fin 128) :
    Host.dotGeneral dot_S1x32x128x16x128_S16x128x128_S16x1x32x128x128_2_2_014_1_3_0 none A B (ix5 g x n j t)
      = ∑ s, A (ix5 x n s g j) * B (ix3 g t s) := by
  pointwise

/-- Its transpose. -/
theorem unmix_apply (A : FVec Ideal S16x1x32x128x128 .f32) (B : FVec Ideal S16x128x128 .f32) (x : Fin 1) (g : Fin 16) (j s : Fin 128) :
    Host.dotGeneral dot_S16x1x32x128x128_S16x128x128_S16x1x32x128x128_4_1_123_2_0_0 none A B (ix5 g x n j s)
      = ∑ t, A (ix5 g x n j t) * B (ix3 g t s) := by
  pointwise

/-- The three contracted coordinates, one of them of extent one. -/
def contrIdx : Fin 32 × Fin 128 ≃ dot_S16x1x32x128x128_S1x32x128x16x128_S16x128x128_123_014_4_2_0_3.contr.Idx where
  toFun p a := match a with
    | ⟨0, _⟩ => (0 : Fin 1)
    | ⟨1, _⟩ => p.1
    | ⟨2, _⟩ => p.2
  invFun i := (i ⟨1, by decide⟩, i ⟨2, by decide⟩)
  left_inv _ := rfl
  right_inv i := funext fun a => match a with
    | ⟨0, _⟩ => Subsingleton.elim (α := Fin 1) _ _
    | ⟨1, _⟩ => rfl
    | ⟨2, _⟩ => rfl

/-- The product contracted over the chunks and the lanes. -/
theorem outer_apply (A : FVec Ideal S16x1x32x128x128 .f32) (B : FVec Ideal S1x32x128x16x128 .f32) (g : Fin 16) (t s : Fin 128) :
    Host.dotGeneral dot_S16x1x32x128x128_S1x32x128x16x128_S16x128x128_123_014_4_2_0_3 none A B (ix3 g t s)
      = ∑ n : Fin 32, ∑ j : Fin 128, A (ix5 g 0 n j t) * B (ix5 0 n s g j) := by
  pointwise
  unfold Ideal.matmul
  rw [zero_add]
  have hp := Fintype.sum_prod_type (γ := EReal) (fun p : Fin 32 × Fin 128 => A (ix5 g 0 p.1 p.2 t) * B (ix5 0 p.1 s g p.2))
  refine Eq.trans ?_ hp
  refine Eq.symm ?_
  apply Fintype.sum_equiv contrIdx
  intro p
  refine congrArg₂ (fun a b : EReal => a * b) (congrArg A ?_) (congrArg B ?_)
  · funext a; apply Fin.ext
    match a with
    | ⟨0, _⟩ => rfl
    | ⟨1, _⟩ => rfl
    | ⟨2, _⟩ => rfl
    | ⟨3, _⟩ => rfl
    | ⟨4, _⟩ => rfl
  · funext a; apply Fin.ext
    match a with
    | ⟨0, _⟩ => rfl
    | ⟨1, _⟩ => rfl
    | ⟨2, _⟩ => rfl
    | ⟨3, _⟩ => rfl
    | ⟨4, _⟩ => rfl

/-- A sum over the chunks and the lanes. -/
theorem shiftSum_apply (A : FVec Ideal S1x32x128x16x128 .f32) (x : Fin 1) (g : Fin 16) (t : Fin 128) :
    Host.reduceAdd A (constant S_ .f32 0x00000000#32) reducesTo_S1x32x128x16x128_S1x128x16_d1_4 h_S_ (ix3 x t g)
      = ∑ n : Fin 32, ∑ j : Fin 128, A (ix5 x n t g j) := by
  pointwise
  unfold Ideal.hostReduceAdd
  rw [zero_add]
  refine (Finset.sum_filter_eq_sum_of_fiber _ (fun k : Fin 32 × Fin 128 => ix5 x k.1 t g k.2)
    (fun _ _ e => Prod.ext (congrFun e 1) (congrFun e 4)) (fun i => ?_) A).trans (Fintype.sum_prod_type _)
  constructor
  · intro e
    refine ⟨(i 1, i 4), ?_⟩
    funext a; apply Fin.ext
    match a with
    | ⟨0, _⟩ => exact (congrArg Fin.val (congrFun e ⟨0, by decide⟩)).symm
    | ⟨1, _⟩ => rfl
    | ⟨2, _⟩ => exact (congrArg Fin.val (congrFun e ⟨1, by decide⟩)).symm
    | ⟨3, _⟩ => exact (congrArg Fin.val (congrFun e ⟨2, by decide⟩)).symm
    | ⟨4, _⟩ => rfl
  · rintro ⟨k, rfl⟩
    funext b; apply Fin.ext
    match b with
    | ⟨0, _⟩ => rfl
    | ⟨1, _⟩ => rfl
    | ⟨2, _⟩ => rfl

/-- A sum over two axes of extent one. -/
theorem lead_apply (A : FVec Ideal S1x1x2048 .f32) :
    Host.reduceAdd A (constant S_ .f32 0x00000000#32) reducesTo_S1x1x2048_S2048_d0_1 h_S_ (ix1 c) = A (ix3 0 0 c) := by
  pointwise
  unfold Ideal.hostReduceAdd
  rw [zero_add]
  refine (Finset.sum_filter_eq_sum_of_fiber _ (fun _ : Fin 1 => ix3 (0 : Fin 1) (0 : Fin 1) c)
    (fun _ _ _ => Subsingleton.elim _ _) (fun i => ?_) A).trans (Fin.sum_univ_one _)
  constructor
  · intro e
    refine ⟨0, ?_⟩
    funext a
    match a with
    | ⟨0, _⟩ => exact Subsingleton.elim (α := Fin 1) _ _
    | ⟨1, _⟩ => exact Subsingleton.elim (α := Fin 1) _ _
    | ⟨2, _⟩ => exact Fin.ext (congrArg Fin.val (congrFun e ⟨0, by decide⟩)).symm
  · rintro ⟨k, rfl⟩
    funext b; apply Fin.ext
    match b with
    | ⟨0, _⟩ => rfl

/-- A sum over three axes of extent one. -/
theorem lead5_apply (A : FVec Ideal S1x1x128x16x1 .f32) (t : Fin 128) (g : Fin 16) :
    Host.reduceAdd A (constant S_ .f32 0x00000000#32) reducesTo_S1x1x128x16x1_S128x16_d0_1_4 h_S_ (ix2 t g) = A (ix5 0 0 t g 0) := by
  pointwise
  unfold Ideal.hostReduceAdd
  rw [zero_add]
  refine (Finset.sum_filter_eq_sum_of_fiber _ (fun _ : Fin 1 => ix5 (0 : Fin 1) (0 : Fin 1) t g (0 : Fin 1))
    (fun _ _ _ => Subsingleton.elim _ _) (fun i => ?_) A).trans (Fin.sum_univ_one _)
  constructor
  · intro e
    refine ⟨0, ?_⟩
    funext a
    match a with
    | ⟨0, _⟩ => exact Subsingleton.elim (α := Fin 1) _ _
    | ⟨1, _⟩ => exact Subsingleton.elim (α := Fin 1) _ _
    | ⟨2, _⟩ => exact Fin.ext (congrArg Fin.val (congrFun e ⟨0, by decide⟩)).symm
    | ⟨3, _⟩ => exact Fin.ext (congrArg Fin.val (congrFun e ⟨1, by decide⟩)).symm
    | ⟨4, _⟩ => exact Subsingleton.elim (α := Fin 1) _ _
  · rintro ⟨k, rfl⟩
    funext b; apply Fin.ext
    match b with
    | ⟨0, _⟩ => rfl
    | ⟨1, _⟩ => rfl

/-- A sum over the outer two axes, of extent one. -/
theorem ends_apply (A : FVec Ideal S1x4096x1 .f32) (i : Fin 4096) :
    Host.reduceAdd A (constant S_ .f32 0x00000000#32) reducesTo_S1x4096x1_S4096_d0_2 h_S_ (ix1 i) = A (ix3 0 i 0) := by
  pointwise
  unfold Ideal.hostReduceAdd
  rw [zero_add]
  refine (Finset.sum_filter_eq_sum_of_fiber _ (fun _ : Fin 1 => ix3 (0 : Fin 1) i (0 : Fin 1))
    (fun _ _ _ => Subsingleton.elim _ _) (fun k => ?_) A).trans (Fin.sum_univ_one _)
  constructor
  · intro e
    refine ⟨0, ?_⟩
    funext a
    match a with
    | ⟨0, _⟩ => exact Subsingleton.elim (α := Fin 1) _ _
    | ⟨1, _⟩ => exact Fin.ext (congrArg Fin.val (congrFun e ⟨0, by decide⟩)).symm
    | ⟨2, _⟩ => exact Subsingleton.elim (α := Fin 1) _ _
  · rintro ⟨k, rfl⟩
    funext b; apply Fin.ext
    match b with
    | ⟨0, _⟩ => rfl

end Cert.ReferenceIdeal.Value

end
-- ==== Proof.RefGrad.lean ====
module

public import proofs.«01_k».proof.Proof.RefMix

/-!
  The reference's gradients read at an index, in terms of the chunks.
-/

@[expose] public section

set_option maxRecDepth 16384

noncomputable section

namespace Cert.ReferenceIdeal.Value

open Cert.ReferenceIdeal Cert.ReferenceIdeal.Gen Idealize.ShloMosaic Idealize.ShloMosaic.TcCoe Gating

variable (V : Valuation τ sig (Elt Ideal)) (n : Fin 32) (r : Fin 128) (c : Fin 2048)

/-- The normalised rows with scale and shift, split. -/
theorem v75_apply (x : Fin 1) (g : Fin 16) (j : Fin 128) : res_main_v75 V (ix5 x n r g j) = (chk V n).vn r (col g j) := by
  unfold res_main_v75
  clean_types
  rw [split_apply]
  obtain rfl : x = 0 := Subsingleton.elim _ _
  unfold res_main_v69
  clean_types
  pointwise
  simp only [v68_apply]; rfl

/-- The causal mask. -/
theorem mask_apply (g : Fin 16) (t s : Fin 128) : res_main_v80_1 V (ix3 g t s) = if s.val ≤ t.val then 1#1 else 0#1 := by
  unfold res_main_v80_1
  clean_types
  pointwise
  rw [show IntOp.addi (BitVec.ofNat 32 t.val) 0#32 = BitVec.ofNat 32 t.val from BitVec.add_zero _,
    WordCmp.cmpi_sge_ofNat (by omega) (by omega)]
  by_cases h : s.val ≤ t.val <;> simp [h, Scalar.select]

/-- A select on a decided bit. -/
theorem select_if (p : Prop) [Decidable p] (x y : EReal) :
    Scalar.select (if p then 1#1 else 0#1) x y = if p then x else y := by
  by_cases h : p <;> simp [h, Scalar.select]

/-- The causal weights. -/
theorem v80_0_apply (g : Fin 16) (t s : Fin 128) : res_main_v80_0 V (ix3 g t s) = (chk V n).wm g t s := by
  have h := mask_apply V g t s
  unfold res_main_v80_0
  clean_types
  pointwise
  rw [h]
  exact select_if _ _ _

/-- The mixing's result. -/
theorem v88_apply (x : Fin 1) : res_main_v88 V (ix3 x (rowOf n r) c) = (chk V n).f r c := by
  unfold res_main_v88
  clean_types
  rw [join_apply]
  obtain rfl : x = 0 := Subsingleton.elim _ _
  pointwise
  simp only [v75_apply, v80_0_apply V n, col_grp_lane]
  unfold Chunk.f
  refine congrArg (fun a : EReal => a + (chk V n).bs r (grp c)) (Finset.sum_congr rfl fun s _ => mul_comm _ _)

theorem v89_apply (x : Fin 1) : res_main_v89 V (ix3 x (rowOf n r) c) = gelu ((chk V n).u r c) * (chk V n).f r c := by
  obtain rfl : x = 0 := Subsingleton.elim _ _
  unfold res_main_v89
  clean_types
  pointwise
  simp only [v24_apply, v88_apply]

theorem v93_apply (x : Fin 1) : res_main_v93 V (ix3 x (rowOf n r) c) = (chk V n).dsil r c := by
  obtain rfl : x = 0 := Subsingleton.elim _ _
  unfold res_main_v93
  clean_types
  pointwise
  simp only [v89_apply, v92_apply]; rfl

theorem v97_apply (x : Fin 1) : res_main_v97 V (ix3 x (rowOf n r) c) = (chk V n).duf r c := by
  obtain rfl : x = 0 := Subsingleton.elim _ _
  unfold res_main_v97
  clean_types
  pointwise
  simp only [v94_apply, v88_apply]; rfl

/-- The gradient of the mixing's result, split. -/
theorem v98_apply (x : Fin 1) (g : Fin 16) (j : Fin 128) : res_main_v98 V (ix5 x n r g j) = (chk V n).df r (col g j) := by
  unfold res_main_v98
  clean_types
  rw [split_apply]
  pointwise
  simp only [v24_apply, v94_apply]; rfl

theorem v105_apply (x : Fin 1) (g : Fin 16) (j : Fin 128) : res_main_v105 V (ix5 g x n j r) = (chk V n).df r (col g j) := by
  obtain rfl : x = 0 := Subsingleton.elim _ _
  unfold res_main_v105
  clean_types
  pointwise
  simp only [v98_apply]

/-- The gradient of the layer norm's result. -/
theorem v110_apply (x : Fin 1) : res_main_v110 V (ix3 x (rowOf n r) c) = (chk V n).dvn r c := by
  unfold res_main_v110
  clean_types
  rw [join_apply]
  obtain rfl : x = 0 := Subsingleton.elim _ _
  pointwise
  simp only [v105_apply, v80_0_apply V n, col_grp_lane]
  rfl

theorem v118_apply (x : Fin 1) : res_main_v118 V (ix3 x (rowOf n r) c) = (chk V n).gl r c := by
  obtain rfl : x = 0 := Subsingleton.elim _ _
  unfold res_main_v118 res_main_v69
  clean_types
  pointwise
  simp only [v110_apply]; rfl

theorem v124_apply (x : Fin 1) : res_main_v124 V (ix3 x (rowOf n r) c) = (chk V n).ga r c := by
  obtain rfl : x = 0 := Subsingleton.elim _ _
  unfold res_main_v124
  clean_types
  pointwise
  simp only [v118_apply, v63_apply]; rfl

theorem v134_apply (x : Fin 1) : res_main_v134 V (ix3 x (rowOf n r) c) = (chk V n).gq r c := by
  obtain rfl : x = 0 := Subsingleton.elim _ _
  have he := ends_apply
  pointwise at he
  unfold res_main_v134
  clean_types
  pointwise
  simp only [he]
  pointwise
  simp only [v60_apply, v118_apply, v63_apply, v62_apply, v51_apply, zero_add]; rfl

theorem v145_apply (x : Fin 1) : res_main_v145 V (ix3 x (rowOf n r) c) = (chk V n).dvf r c := by
  obtain rfl : x = 0 := Subsingleton.elim _ _
  have he := ends_apply
  pointwise at he
  unfold res_main_v145
  clean_types
  pointwise
  simp only [he]
  pointwise
  simp only [v124_apply, v134_apply, zero_add]; rfl

theorem v152_apply (x : Fin 1) : res_main_v152 V (ix3 x (rowOf n r) c) = dth ((chk V n).v r c) ((chk V n).dvf r c) := by
  obtain rfl : x = 0 := Subsingleton.elim _ _
  unfold res_main_v152
  clean_types
  pointwise
  simp only [v2_apply, v145_apply, v35_apply, one_word]; rfl

theorem v164_apply (x : Fin 1) : res_main_v164 V (ix3 x (rowOf n r) c) = dth ((chk V n).u r c) ((chk V n).duf r c) := by
  obtain rfl : x = 0 := Subsingleton.elim _ _
  unfold res_main_v164
  clean_types
  pointwise
  simp only [v1_apply, v97_apply, v14_apply, one_word]; rfl

end Cert.ReferenceIdeal.Value

end
-- ==== Proof.RefValue.lean ====
module

public import proofs.«01_k».proof.Proof.RefGrad

/-!
  The reference's five results, read at an index: each row's gradient, and the parameters' gradients as sums over the
  chunks; and its run.
-/

@[expose] public section

set_option maxRecDepth 16384

noncomputable section

namespace Cert.ReferenceIdeal.Value

open Cert.ReferenceIdeal Cert.ReferenceIdeal.Gen Idealize.ShloMosaic Idealize.ShloMosaic.TcCoe Gating

/-- A sum over the rows, chunk by chunk. -/
theorem sum_rows (f : Fin 4096 → EReal) : ∑ i, f i = ∑ n : Fin 32, ∑ r : Fin 128, f (rowOf n r) := by
  rw [← Fintype.sum_prod_type' (f := fun n r => f (rowOf n r))]
  refine (Fintype.sum_equiv (finProdFinEquiv (m := 32) (n := 128)) _ _ fun p => congrArg f (Fin.ext ?_)).symm
  show 128 * p.1.val + p.2.val = p.2.val + 128 * p.1.val
  exact Nat.add_comm _ _

variable (V : Valuation τ sig (Elt Ideal))

/-- The reference's `dp`. -/
def dpRef : FVec Ideal S4096x6144 .bf16 :=
  truncf .bf16 (shapeCast _ ((concatenate S1x4096x6144 2 [⟨S1x4096x2048, ((addf (addf (mulf (res_main_v97 V) (res_main_v23 V)) (res_main_v164 V)) (mulf (mulf (broadcastInDim S1x4096x2048 ![] bcast_S_S1x4096x2048 (constant S_ .f32 0x3D372713#32)) (res_main_v164 V)) (mulf (broadcastInDim S1x4096x2048 ![] bcast_S_S1x4096x2048 (constant S_ .f32 0x40400000#32)) (mulf (res_main_v1 V) (res_main_v1 V))))) : (⟨S1x4096x2048, .f32⟩ : BufTy).Contents (Elt Ideal))⟩, ⟨S1x4096x2048, ((addf (addf (mulf (res_main_v145 V) (res_main_v44 V)) (res_main_v152 V)) (mulf (mulf (broadcastInDim S1x4096x2048 ![] bcast_S_S1x4096x2048 (constant S_ .f32 0x3D372713#32)) (res_main_v152 V)) (mulf (broadcastInDim S1x4096x2048 ![] bcast_S_S1x4096x2048 (constant S_ .f32 0x40400000#32)) (mulf (res_main_v2 V) (res_main_v2 V))))) : (⟨S1x4096x2048, .f32⟩ : BufTy).Contents (Elt Ideal))⟩, ⟨S1x4096x2048, ((addf (mulf (res_main_v93 V) (res_main_v90_2 V)) (mulf (mulf (res_main_v3 V) (res_main_v93 V)) (mulf (res_main_v90_2 V) (subf (broadcastInDim S1x4096x2048 ![] bcast_S_S1x4096x2048 (constant S_ .f32 0x3F800000#32)) (res_main_v90_2 V))))) : (⟨S1x4096x2048, .f32⟩ : BufTy).Contents (Elt Ideal))⟩] concatenates_S1x4096x2048_S1x4096x2048_S1x4096x2048_S1x4096x6144_d2 : (⟨S1x4096x6144, .f32⟩ : BufTy).Contents (Elt Ideal))) shapeCasts_S1x4096x6144_S4096x6144) bitsLt_bf16_f32

/-- The reference's `dlg`. -/
def dlgRef : FVec Ideal S1x2048 .f32 :=
  shapeCast _ (Host.reduceAdd (shapeCast _ (Host.reduceAdd (mulf (res_main_v68 V) (res_main_v110 V)) (constant S_ .f32 0x00000000#32) reducesTo_S1x4096x2048_S1x2048_d1 h_S_) shapeCasts_S1x2048_S1x1x2048) (constant S_ .f32 0x00000000#32) reducesTo_S1x1x2048_S2048_d0_1 h_S_) shapeCasts_S2048_S1x2048

/-- The reference's `dlb`. -/
def dlbRef : FVec Ideal S1x2048 .f32 :=
  shapeCast _ (Host.reduceAdd (shapeCast _ (Host.reduceAdd (res_main_v110 V) (constant S_ .f32 0x00000000#32) reducesTo_S1x4096x2048_S1x2048_d1 h_S_) shapeCasts_S1x2048_S1x1x2048) (constant S_ .f32 0x00000000#32) reducesTo_S1x1x2048_S2048_d0_1 h_S_) shapeCasts_S2048_S1x2048

/-- The reference's `dws`. -/
def dwsRef : FVec Ideal S16x128x128 .f32 :=
  select (res_main_v80_1 V) (Host.dotGeneral (F := Ideal) (φ₁ := .f32) (φ₂ := .f32) dot_S16x1x32x128x128_S1x32x128x16x128_S16x128x128_123_014_4_2_0_3 none (res_main_v105 V) (res_main_v75 V)) (broadcastInDim S16x128x128 ![] bcast_S_S16x128x128 (constant S_ .f32 0x00000000#32))

/-- The reference's `dbs`. -/
def dbsRef : FVec Ideal S128x16 .f32 :=
  transpose S128x16 [1, 0] (transpose S16x128 [1, 0] (Host.reduceAdd (broadcastInDim S128x16x1 ![0, 1] bcast_S128x16_S128x16x1_0_1 (Host.reduceAdd (shapeCast _ (Host.reduceAdd (res_main_v98 V) (constant S_ .f32 0x00000000#32) reducesTo_S1x32x128x16x128_S1x128x16_d1_4 h_S_) shapeCasts_S1x128x16_S1x1x128x16x1) (constant S_ .f32 0x00000000#32) reducesTo_S1x1x128x16x1_S128x16_d0_1_4 h_S_)) (constant S_ .f32 0x00000000#32) reducesTo_S128x16x1_S128x16_d2 h_S_) transposes_S128x16_S16x128_1_0) transposes_S16x128_S128x16_1_0

theorem dpRef_apply (n : Fin 32) (r : Fin 128) (e : Fin 6144) : dpRef V (ix2 (rowOf n r) e) = (chk V n).dp r e := by
  unfold dpRef
  clean_types
  pointwise
  simp only [v97_apply, v23_apply, v164_apply, v1_apply, v145_apply, v44_apply, v152_apply, v2_apply, v93_apply,
    v90_2_apply, v3_apply]
  unfold Chunk.dp
  by_cases h : e.val < 2048
  · simp only [dif_pos h]; rfl
  · by_cases h' : e.val - 2048 < 2048
    · have h'' : e.val < 4096 := by omega
      simp only [dif_neg h, dif_pos h', dif_pos h'']; rfl
    · have h'' : ¬e.val < 4096 := by omega
      simp only [dif_neg h, dif_neg h', dif_neg h'']; rfl

theorem dlgRef_apply (c : Fin 2048) : dlgRef V (ix2 0 c) = ∑ n, (chk V n).dlg c := by
  have h := lead_apply c
  pointwise at h
  unfold dlgRef
  clean_types
  pointwise
  simp only [h]
  pointwise
  rw [sum_rows]
  simp only [v68_apply, v110_apply, zero_add]
  rfl

theorem dlbRef_apply (c : Fin 2048) : dlbRef V (ix2 0 c) = ∑ n, (chk V n).dlb c := by
  have h := lead_apply c
  pointwise at h
  unfold dlbRef
  clean_types
  pointwise
  simp only [h]
  pointwise
  rw [sum_rows]
  simp only [v110_apply, zero_add]
  rfl

theorem dwsRef_apply (g : Fin 16) (t s : Fin 128) : dwsRef V (ix3 g t s) = ∑ n, (chk V n).dws g t s := by
  have h := outer_apply (res_main_v105 V) (res_main_v75 V) g t s
  have hm := mask_apply V g t s
  pointwise at h
  unfold dwsRef
  clean_types
  pointwise
  rw [hm, select_if, h]
  simp only [v105_apply, v75_apply]
  unfold Chunk.dws
  by_cases hc : s.val ≤ t.val
  · simp only [if_pos hc]
  · simp only [if_neg hc, Finset.sum_const_zero]

theorem dbsRef_apply (t : Fin 128) (g : Fin 16) : dbsRef V (ix2 t g) = ∑ n, (chk V n).dbs t g := by
  have h := fun A => lead5_apply A t g
  pointwise at h
  have h' := fun A x => shiftSum_apply A x g t
  pointwise at h'
  unfold dbsRef
  clean_types
  pointwise
  simp only [h]
  pointwise
  simp only [h', Fin.sum_univ_one, v98_apply]
  rfl

end Cert.ReferenceIdeal.Value

end
-- ==== Proof.Equation.lean ====
module

public import proofs.«01_k».proof.Proof.KernelValue
public import proofs.«01_k».proof.Proof.RefValue

/-!
  The kernel's arrays are the reference's, from memories that agree on the arguments.
-/

@[expose] public section

set_option maxRecDepth 16384

noncomputable section

namespace Cert.Equation

open Idealize.ShloMosaic Idealize.ShloMosaic.TcCoe Idealize.SL.Sem Gating StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories agree on the six arguments of device `c`. -/
def Agree (c : Dev Cert.KernelIdeal.nD) : Prop :=
  m' (c.tc.loc Cert.ReferenceIdeal.main_arg0) = m (c.tc.loc Cert.KernelIdeal.main_arg0)
  ∧ m' (c.tc.loc Cert.ReferenceIdeal.main_arg1) = m (c.tc.loc Cert.KernelIdeal.main_arg1)
  ∧ m' (c.tc.loc Cert.ReferenceIdeal.main_arg2) = m (c.tc.loc Cert.KernelIdeal.main_arg2)
  ∧ m' (c.tc.loc Cert.ReferenceIdeal.main_arg3) = m (c.tc.loc Cert.KernelIdeal.main_arg3)
  ∧ m' (c.tc.loc Cert.ReferenceIdeal.main_arg4) = m (c.tc.loc Cert.KernelIdeal.main_arg4)
  ∧ m' (c.tc.loc Cert.ReferenceIdeal.main_arg5) = m (c.tc.loc Cert.KernelIdeal.main_arg5)

/-- Then their chunks are the same. -/
theorem chk_eq (c : Dev Cert.KernelIdeal.nD) (h : Agree m m' c) (n : Fin 32) :
    Cert.ReferenceIdeal.Value.chk (launchContents m' c) n = Cert.KernelIdeal.Value.chunkAt m c n := by
  obtain ⟨h0, h1, h2, h3, h4, h5⟩ := h
  show chunkOf (fun i e => m' (c.tc.loc Cert.ReferenceIdeal.main_arg0) (ix2 i e))
    (fun i e => m' (c.tc.loc Cert.ReferenceIdeal.main_arg1) (ix2 i e))
    (fun e => m' (c.tc.loc Cert.ReferenceIdeal.main_arg2) (ix1 e))
    (fun e => m' (c.tc.loc Cert.ReferenceIdeal.main_arg3) (ix1 e))
    (fun g t s => m' (c.tc.loc Cert.ReferenceIdeal.main_arg4) (ix3 g t s))
    (fun g t => m' (c.tc.loc Cert.ReferenceIdeal.main_arg5) (ix2 g t)) n = _
  rw [h0, h1, h2, h3, h4, h5]
  rfl

variable (c : Dev Cert.KernelIdeal.nD) (h : Agree m m' c)
include h

theorem dp_eq : Cert.ReferenceIdeal.Value.dpRef (launchContents m' c) = Cert.KernelIdeal.Value.dpArr m c := by
  funext i
  obtain ⟨a, e, rfl⟩ : ∃ (a : Fin 4096) (e : Fin 6144), i = ix2 a e := ⟨i 0, i 1, eq_ix2 i⟩
  obtain ⟨n, r, rfl⟩ : ∃ (n : Fin 32) (r : Fin 128), a = rowOf n r :=
    ⟨⟨a.val / 128, by omega⟩, ⟨a.val % 128, by omega⟩, Fin.ext (by simp only [rowOf]; omega)⟩
  rw [Cert.ReferenceIdeal.Value.dpRef_apply, chk_eq m m' c h]
  have hn : (rowOf n r).val / 128 = n.val := by simp only [rowOf]; omega
  have hr : (rowOf n r).val % 128 = r.val := by simp only [rowOf]; omega
  exact congrArg₂ (fun (n : Fin 32) (r : Fin 128) => (Cert.KernelIdeal.Value.chunkAt m c n).dp r e)
    (Fin.ext hn.symm) (Fin.ext hr.symm)

theorem dlg_eq : Cert.ReferenceIdeal.Value.dlgRef (launchContents m' c) = Cert.KernelIdeal.Value.dlgArr m c :=
  Cert.KernelIdeal.Value.row_ext fun e => by
    rw [Cert.ReferenceIdeal.Value.dlgRef_apply]
    simp only [chk_eq m m' c h]
    rfl

theorem dlb_eq : Cert.ReferenceIdeal.Value.dlbRef (launchContents m' c) = Cert.KernelIdeal.Value.dlbArr m c :=
  Cert.KernelIdeal.Value.row_ext fun e => by
    rw [Cert.ReferenceIdeal.Value.dlbRef_apply]
    simp only [chk_eq m m' c h]
    rfl

theorem dws_eq : Cert.ReferenceIdeal.Value.dwsRef (launchContents m' c) = Cert.KernelIdeal.Value.dwsArr m c :=
  Cert.KernelIdeal.Value.cube_ext fun g t s => by
    rw [Cert.ReferenceIdeal.Value.dwsRef_apply]
    simp only [chk_eq m m' c h]
    rfl

theorem dbs_eq : Cert.ReferenceIdeal.Value.dbsRef (launchContents m' c) = Cert.KernelIdeal.Value.dbsArr m c :=
  Cert.KernelIdeal.Value.col_ext fun t g => by
    rw [Cert.ReferenceIdeal.Value.dbsRef_apply]
    simp only [chk_eq m m' c h]
    rfl

end Cert.Equation

end
-- ==== Proof.MixClaim.lean ====
module

public import proofs.«01_k».proof.Defs
public import proofs.«01_k».proof.Proof.Gen.Kernel.Frame
public import proofs.«01_k».proof.Proof.Equation
public import Idealize.ShloMosaic.Adequacy
public import Idealize.ShloMosaic.Init

/-!
  The claims about the gating's backward pass: the three frames and the algebraic claim.
-/

@[expose] public section

noncomputable section

namespace Cert.Proof

open Idealize.ShloMosaic Idealize.SL.Sem

theorem mix_frame : Cert.quiescent_Kernel (hKernel := Cert.Kernel.Gen.facts) := fun m ρ _ => Cert.Kernel.Gen.frame m ρ

theorem mix_frame_ideal : Cert.quiescent_KernelIdeal (hKernelIdeal := Cert.KernelIdeal.Gen.facts) :=
  fun m ρ _ => Cert.KernelIdeal.Gen.frame m ρ

theorem mix_frame_ref : Cert.quiescent_ReferenceIdeal (hReferenceIdeal := Cert.ReferenceIdeal.Gen.facts) := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

theorem mix_algebraic : Cert.algebraic_KernelIdeal_ReferenceIdeal (hKernelIdeal := Cert.KernelIdeal.Gen.facts)
    (hReferenceIdeal := Cert.ReferenceIdeal.Gen.facts) := fun m ρ m' ρ' _ hagree =>
  ⟨fun c => Cert.KernelIdeal.Value.dpArr m c, fun c => Cert.KernelIdeal.Value.dlgArr m c,
    fun c => Cert.KernelIdeal.Value.dlbArr m c, fun c => Cert.KernelIdeal.Value.dwsArr m c,
    fun c => Cert.KernelIdeal.Value.dbsArr m c, Cert.KernelIdeal.Value.kernel_run m ρ,
    (θ_run Cert.ReferenceIdeal.defs _ _).mono (fun r h c => by
      obtain ⟨h0, h1, h2, h3, h4, hargs⟩ := h c
      exact ⟨h0.trans (Cert.Equation.dp_eq m m' c (hagree c)), h1.trans (Cert.Equation.dlg_eq m m' c (hagree c)),
        h2.trans (Cert.Equation.dlb_eq m m' c (hagree c)), h3.trans (Cert.Equation.dws_eq m m' c (hagree c)),
        h4.trans (Cert.Equation.dbs_eq m m' c (hagree c)), hargs⟩)
      (Cert.ReferenceIdeal.Value.run (F := Ideal) m' ρ')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.OutDwClaim
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.OutDxClaim
public import proofs.«01_k».proof.Proof.Gen.SgInDw
public import proofs.«01_k».proof.Proof.Gen.SgInDw.Frame
public import proofs.«01_k».proof.Proof.Gen.SgInDwIdeal
public import proofs.«01_k».proof.Proof.Gen.SgInDwIdeal.Frame
public import proofs.«01_k».proof.Proof.Gen.SgInDwIdeal.Value
public import proofs.«01_k».proof.Proof.Gen.SgInDwRefIdeal
public import proofs.«01_k».proof.Proof.Gen.SgInDwRefIdeal.Run
public import proofs.«01_k».proof.Proof.SgInDwClaim
public import proofs.«01_k».proof.Proof.Gen.SgInDx
public import proofs.«01_k».proof.Proof.Gen.SgInDx.Frame
public import proofs.«01_k».proof.Proof.Gen.SgInDxIdeal
public import proofs.«01_k».proof.Proof.Gen.SgInDxIdeal.Frame
public import proofs.«01_k».proof.Proof.Gen.SgInDxIdeal.Value
public import proofs.«01_k».proof.Proof.Gen.SgInDxRefIdeal
public import proofs.«01_k».proof.Proof.Gen.SgInDxRefIdeal.Run
public import proofs.«01_k».proof.Proof.SgInDxClaim
public import proofs.«01_k».proof.Proof.Gen.RwInDw
public import proofs.«01_k».proof.Proof.Gen.RwInDw.Frame
public import proofs.«01_k».proof.Proof.Gen.RwInDwIdeal
public import proofs.«01_k».proof.Proof.Gen.RwInDwIdeal.Frame
public import proofs.«01_k».proof.Proof.Gen.RwInDwIdeal.Value
public import proofs.«01_k».proof.Proof.Gen.RwInDwRefIdeal
public import proofs.«01_k».proof.Proof.Gen.RwInDwRefIdeal.Run
public import proofs.«01_k».proof.Proof.RwInDwClaim
public import proofs.«01_k».proof.Proof.Gen.RwInDx
public import proofs.«01_k».proof.Proof.Gen.RwInDx.Frame
public import proofs.«01_k».proof.Proof.Gen.RwInDxIdeal
public import proofs.«01_k».proof.Proof.Gen.RwInDxIdeal.Frame
public import proofs.«01_k».proof.Proof.Gen.RwInDxIdeal.Value
public import proofs.«01_k».proof.Proof.Gen.RwInDxRefIdeal
public import proofs.«01_k».proof.Proof.Gen.RwInDxRefIdeal.Run
public import proofs.«01_k».proof.Proof.RwInDxClaim
public import proofs.«01_k».proof.Proof.Gen.SgIn
public import proofs.«01_k».proof.Proof.Gen.SgIn.Frame
public import proofs.«01_k».proof.Proof.Gen.SgInIdeal
public import proofs.«01_k».proof.Proof.Gen.SgInIdeal.Frame
public import proofs.«01_k».proof.Proof.Gen.SgInIdeal.Value
public import proofs.«01_k».proof.Proof.Gen.SgInRefIdeal
public import proofs.«01_k».proof.Proof.Gen.SgInRefIdeal.Run
public import proofs.«01_k».proof.Proof.SgInClaim
public import proofs.«01_k».proof.Proof.Gen.RwIn
public import proofs.«01_k».proof.Proof.Gen.RwIn.Frame
public import proofs.«01_k».proof.Proof.Gen.RwInIdeal
public import proofs.«01_k».proof.Proof.Gen.RwInIdeal.Frame
public import proofs.«01_k».proof.Proof.Gen.RwInIdeal.Value
public import proofs.«01_k».proof.Proof.Gen.RwInRefIdeal
public import proofs.«01_k».proof.Proof.Gen.RwInRefIdeal.Run
public import proofs.«01_k».proof.Proof.RwInClaim
public import proofs.«01_k».proof.Proof.Gen.OutFwd
public import proofs.«01_k».proof.Proof.Gen.OutFwd.Frame
public import proofs.«01_k».proof.Proof.Gen.OutFwdIdeal
public import proofs.«01_k».proof.Proof.Gen.OutFwdIdeal.Frame
public import proofs.«01_k».proof.Proof.Gen.OutFwdIdeal.Value
public import proofs.«01_k».proof.Proof.Gen.OutFwdRefIdeal
public import proofs.«01_k».proof.Proof.Gen.OutFwdRefIdeal.Run
public import proofs.«01_k».proof.Proof.OutFwdClaim
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.NormBwdClaim
public import proofs.«01_k».proof.Proof.Gen.NormBwdFirst
public import proofs.«01_k».proof.Proof.Gen.NormBwdFirst.Frame
public import proofs.«01_k».proof.Proof.Gen.NormBwdFirstIdeal
public import proofs.«01_k».proof.Proof.Gen.NormBwdFirstIdeal.Frame
public import proofs.«01_k».proof.Proof.Gen.NormBwdFirstIdeal.Value
public import proofs.«01_k».proof.Proof.Gen.NormBwdFirstRefIdeal
public import proofs.«01_k».proof.Proof.Gen.NormBwdFirstRefIdeal.Run
public import proofs.«01_k».proof.Proof.NormBwdFirstClaim
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.LossHeadClaim
public import proofs.«01_k».proof.Proof.Gen.RwGateBwd
public import proofs.«01_k».proof.Proof.Gen.RwGateBwd.Frame
public import proofs.«01_k».proof.Proof.Gen.RwGateBwdIdeal
public import proofs.«01_k».proof.Proof.Gen.RwGateBwdIdeal.Frame
public import proofs.«01_k».proof.Proof.Gen.RwGateBwdIdeal.Value
public import proofs.«01_k».proof.Proof.Gen.RwGateBwdRefIdeal
public import proofs.«01_k».proof.Proof.Gen.RwGateBwdRefIdeal.Run
public import proofs.«01_k».proof.Proof.RwGateBwdClaim
public import proofs.«01_k».proof.Proof.Gen.SwaGateBwd
public import proofs.«01_k».proof.Proof.Gen.SwaGateBwd.Frame
public import proofs.«01_k».proof.Proof.Gen.SwaGateBwdIdeal
public import proofs.«01_k».proof.Proof.Gen.SwaGateBwdIdeal.Frame
public import proofs.«01_k».proof.Proof.Gen.SwaGateBwdIdeal.Value
public import proofs.«01_k».proof.Proof.Gen.SwaGateBwdRefIdeal
public import proofs.«01_k».proof.Proof.Gen.SwaGateBwdRefIdeal.Run
public import proofs.«01_k».proof.Proof.SwaGateBwdClaim
public import proofs.«01_k».proof.Proof.Gen.LoraBwd
public import proofs.«01_k».proof.Proof.Gen.LoraBwd.Frame
public import proofs.«01_k».proof.Proof.Gen.LoraBwdIdeal
public import proofs.«01_k».proof.Proof.Gen.LoraBwdIdeal.Frame
public import proofs.«01_k».proof.Proof.Gen.LoraBwdIdeal.Value
public import proofs.«01_k».proof.Proof.Gen.LoraBwdRefIdeal
public import proofs.«01_k».proof.Proof.Gen.LoraBwdRefIdeal.Run
public import proofs.«01_k».proof.Proof.LoraBwdClaim
public import proofs.«01_k».proof.Proof.Gen.NormFwd
public import proofs.«01_k».proof.Proof.Gen.NormFwd.Frame
public import proofs.«01_k».proof.Proof.Gen.NormFwdIdeal
public import proofs.«01_k».proof.Proof.Gen.NormFwdIdeal.Frame
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.NormFwdClaim
public import proofs.«01_k».proof.Proof.Gen.RwGate
public import proofs.«01_k».proof.Proof.Gen.RwGate.Frame
public import proofs.«01_k».proof.Proof.Gen.RwGateIdeal
public import proofs.«01_k».proof.Proof.Gen.RwGateIdeal.Frame
public import proofs.«01_k».proof.Proof.Gen.RwGateIdeal.Value
public import proofs.«01_k».proof.Proof.Gen.RwGateRefIdeal
public import proofs.«01_k».proof.Proof.Gen.RwGateRefIdeal.Run
public import proofs.«01_k».proof.Proof.RwGateClaim
public import proofs.«01_k».proof.Proof.Gen.SwaGate
public import proofs.«01_k».proof.Proof.Gen.SwaGate.Frame
public import proofs.«01_k».proof.Proof.Gen.SwaGateIdeal
public import proofs.«01_k».proof.Proof.Gen.SwaGateIdeal.Frame
public import proofs.«01_k».proof.Proof.Gen.SwaGateIdeal.Value
public import proofs.«01_k».proof.Proof.Gen.SwaGateRefIdeal
public import proofs.«01_k».proof.Proof.Gen.SwaGateRefIdeal.Run
public import proofs.«01_k».proof.Proof.SwaGateClaim
public import proofs.«01_k».proof.Proof.Gen.Lora
public import proofs.«01_k».proof.Proof.Gen.Lora.Frame
public import proofs.«01_k».proof.Proof.Gen.LoraIdeal
public import proofs.«01_k».proof.Proof.Gen.LoraIdeal.Frame
public import proofs.«01_k».proof.Proof.Gen.LoraIdeal.Value
public import proofs.«01_k».proof.Proof.Gen.LoraRefIdeal
public import proofs.«01_k».proof.Proof.Gen.LoraRefIdeal.Run
public import proofs.«01_k».proof.Proof.LoraClaim
public import proofs.«01_k».proof.Proof.Gen.RwInlDw
public import proofs.«01_k».proof.Proof.Gen.RwInlDw.Frame
public import proofs.«01_k».proof.Proof.Gen.RwInlDwIdeal
public import proofs.«01_k».proof.Proof.Gen.RwInlDwIdeal.Frame
public import proofs.«01_k».proof.Proof.Gen.RwInlDwIdeal.Value
public import proofs.«01_k».proof.Proof.Gen.RwInlDwRefIdeal
public import proofs.«01_k».proof.Proof.Gen.RwInlDwRefIdeal.Run
public import proofs.«01_k».proof.Proof.RwInlDwClaim
public import proofs.«01_k».proof.Proof.Gen.RwInlDx
public import proofs.«01_k».proof.Proof.Gen.RwInlDx.Frame
public import proofs.«01_k».proof.Proof.Gen.RwInlDxIdeal
public import proofs.«01_k».proof.Proof.Gen.RwInlDxIdeal.Frame
public import proofs.«01_k».proof.Proof.Gen.RwInlDxIdeal.Value
public import proofs.«01_k».proof.Proof.Gen.RwInlDxRefIdeal
public import proofs.«01_k».proof.Proof.Gen.RwInlDxRefIdeal.Run
public import proofs.«01_k».proof.Proof.RwInlDxClaim
public import proofs.«01_k».proof.Proof.Gen.RwInl
public import proofs.«01_k».proof.Proof.Gen.RwInl.Frame
public import proofs.«01_k».proof.Proof.Gen.RwInlIdeal
public import proofs.«01_k».proof.Proof.Gen.RwInlIdeal.Frame
public import proofs.«01_k».proof.Proof.Gen.RwInlIdeal.Value
public import proofs.«01_k».proof.Proof.Gen.RwInlRefIdeal
public import proofs.«01_k».proof.Proof.Gen.RwInlRefIdeal.Run
public import proofs.«01_k».proof.Proof.RwInlClaim
public import proofs.«01_k».proof.Proof.MixClaim
public import Idealize.ShloMosaic.Adequacy
public import Idealize.ShloMosaic.Init

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts,
  Cert.OutDw.Gen.facts, Cert.OutDwIdeal.Gen.facts, Cert.OutDwRefIdeal.Gen.facts,
  Cert.OutDx.Gen.facts, Cert.OutDxIdeal.Gen.facts, Cert.OutDxRefIdeal.Gen.facts,
  Cert.SgInDw.Gen.facts, Cert.SgInDwIdeal.Gen.facts, Cert.SgInDwRefIdeal.Gen.facts,
  Cert.SgInDx.Gen.facts, Cert.SgInDxIdeal.Gen.facts, Cert.SgInDxRefIdeal.Gen.facts,
  Cert.RwInDw.Gen.facts, Cert.RwInDwIdeal.Gen.facts, Cert.RwInDwRefIdeal.Gen.facts,
  Cert.RwInDx.Gen.facts, Cert.RwInDxIdeal.Gen.facts, Cert.RwInDxRefIdeal.Gen.facts,
  Cert.SgIn.Gen.facts, Cert.SgInIdeal.Gen.facts, Cert.SgInRefIdeal.Gen.facts,
  Cert.RwIn.Gen.facts, Cert.RwInIdeal.Gen.facts, Cert.RwInRefIdeal.Gen.facts,
  Cert.OutFwd.Gen.facts, Cert.OutFwdIdeal.Gen.facts, Cert.OutFwdRefIdeal.Gen.facts,
  Cert.NormBwd.Gen.facts, Cert.NormBwdIdeal.Gen.facts, Cert.NormBwdRefIdeal.Gen.facts,
  Cert.NormBwdFirst.Gen.facts, Cert.NormBwdFirstIdeal.Gen.facts, Cert.NormBwdFirstRefIdeal.Gen.facts,
  Cert.LossHead.Gen.facts, Cert.LossHeadIdeal.Gen.facts, Cert.LossHeadRefIdeal.Gen.facts,
  Cert.RwGateBwd.Gen.facts, Cert.RwGateBwdIdeal.Gen.facts, Cert.RwGateBwdRefIdeal.Gen.facts,
  Cert.SwaGateBwd.Gen.facts, Cert.SwaGateBwdIdeal.Gen.facts, Cert.SwaGateBwdRefIdeal.Gen.facts,
  Cert.LoraBwd.Gen.facts, Cert.LoraBwdIdeal.Gen.facts, Cert.LoraBwdRefIdeal.Gen.facts,
  Cert.NormFwd.Gen.facts, Cert.NormFwdIdeal.Gen.facts, Cert.NormFwdRefIdeal.Gen.facts,
  Cert.RwGate.Gen.facts, Cert.RwGateIdeal.Gen.facts, Cert.RwGateRefIdeal.Gen.facts,
  Cert.SwaGate.Gen.facts, Cert.SwaGateIdeal.Gen.facts, Cert.SwaGateRefIdeal.Gen.facts,
  Cert.Lora.Gen.facts, Cert.LoraIdeal.Gen.facts, Cert.LoraRefIdeal.Gen.facts,
  Cert.RwInlDw.Gen.facts, Cert.RwInlDwIdeal.Gen.facts, Cert.RwInlDwRefIdeal.Gen.facts,
  Cert.RwInlDx.Gen.facts, Cert.RwInlDxIdeal.Gen.facts, Cert.RwInlDxRefIdeal.Gen.facts,
  Cert.RwInl.Gen.facts, Cert.RwInlIdeal.Gen.facts, Cert.RwInlRefIdeal.Gen.facts,
  mix_frame, mix_frame_ideal, mix_frame_ref,
  out_dw_frame, out_dw_frame_ideal, out_dw_frame_ref,
  out_dx_frame, out_dx_frame_ideal, out_dx_frame_ref,
  sg_in_dw_frame, sg_in_dw_frame_ideal, sg_in_dw_frame_ref,
  sg_in_dx_frame, sg_in_dx_frame_ideal, sg_in_dx_frame_ref,
  rw_in_dw_frame, rw_in_dw_frame_ideal, rw_in_dw_frame_ref,
  rw_in_dx_frame, rw_in_dx_frame_ideal, rw_in_dx_frame_ref,
  sg_in_frame, sg_in_frame_ideal, sg_in_frame_ref,
  rw_in_frame, rw_in_frame_ideal, rw_in_frame_ref,
  out_fwd_frame, out_fwd_frame_ideal, out_fwd_frame_ref,
  norm_bwd_frame, norm_bwd_frame_ideal, norm_bwd_frame_ref,
  norm_bwd_first_frame, norm_bwd_first_frame_ideal, norm_bwd_first_frame_ref,
  loss_head_frame, loss_head_frame_ideal, loss_head_frame_ref,
  rw_gate_bwd_frame, rw_gate_bwd_frame_ideal, rw_gate_bwd_frame_ref,
  swa_gate_bwd_frame, swa_gate_bwd_frame_ideal, swa_gate_bwd_frame_ref,
  lora_bwd_frame, lora_bwd_frame_ideal, lora_bwd_frame_ref,
  norm_fwd_frame, norm_fwd_frame_ideal, norm_fwd_frame_ref,
  rw_gate_frame, rw_gate_frame_ideal, rw_gate_frame_ref,
  swa_gate_frame, swa_gate_frame_ideal, swa_gate_frame_ref,
  lora_frame, lora_frame_ideal, lora_frame_ref,
  rw_inl_dw_frame, rw_inl_dw_frame_ideal, rw_inl_dw_frame_ref,
  rw_inl_dx_frame, rw_inl_dx_frame_ideal, rw_inl_dx_frame_ref,
  rw_inl_frame, rw_inl_frame_ideal, rw_inl_frame_ref,
  trivial, mix_algebraic,
  trivial, out_dw_algebraic,
  trivial, out_dx_algebraic,
  trivial, sg_in_dw_algebraic,
  trivial, sg_in_dx_algebraic,
  trivial, rw_in_dw_algebraic,
  trivial, rw_in_dx_algebraic,
  trivial, sg_in_algebraic,
  trivial, rw_in_algebraic,
  trivial, out_fwd_algebraic,
  trivial, norm_bwd_algebraic,
  trivial, norm_bwd_first_algebraic,
  trivial, loss_head_algebraic,
  trivial, rw_gate_bwd_algebraic,
  trivial, swa_gate_bwd_algebraic,
  trivial, lora_bwd_algebraic,
  trivial, norm_fwd_algebraic,
  trivial, rw_gate_algebraic,
  trivial, swa_gate_algebraic,
  trivial, lora_algebraic,
  trivial, rw_inl_dw_algebraic,
  trivial, rw_inl_dx_algebraic,
  trivial, rw_inl_algebraic⟩

end Cert.Proof

end
